-- ==== Defs.lean ====
def Pre_Forget (m : (ℓ : Loc Cert.Forget.nD Cert.Forget.τ Cert.Forget.sig) → Buf (Elt Bits) ℓ) : Prop :=
  True

def Pre_ForgetIdeal (m : (ℓ : Loc Cert.ForgetIdeal.nD Cert.ForgetIdeal.τ Cert.ForgetIdeal.sig) → Buf (Elt Ideal) ℓ) : Prop :=
  True

def Pre_ForgetRefIdeal (m : (ℓ : Loc Cert.ForgetRefIdeal.nD Cert.ForgetRefIdeal.τ Cert.ForgetRefIdeal.sig) → Buf (Elt Ideal) ℓ) : Prop :=
  True

def Pre_Fox (m : (ℓ : Loc Cert.Fox.nD Cert.Fox.τ Cert.Fox.sig) → Buf (Elt Bits) ℓ) : Prop :=
  True

def Pre_FoxIdeal (m : (ℓ : Loc Cert.FoxIdeal.nD Cert.FoxIdeal.τ Cert.FoxIdeal.sig) → Buf (Elt Ideal) ℓ) : Prop :=
  True

def Pre_FoxIdeal_fox_finite [hPre_fox_finite : Cert.Pre_fox_finite.Facts] (m : (ℓ : Loc Cert.FoxIdeal.nD Cert.FoxIdeal.τ Cert.FoxIdeal.sig) → Buf (Elt Ideal) ℓ) : Prop :=
  ∀ c : Dev Cert.FoxIdeal.nD,
    (Cert.Pre_fox_finite.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2)) (m ((c.tc : Thread Cert.FoxIdeal.nD Cert.FoxIdeal.τ).loc Cert.FoxIdeal.main_arg3)) (m ((c.tc : Thread Cert.FoxIdeal.nD Cert.FoxIdeal.τ).loc Cert.FoxIdeal.main_arg4))) = (fun _ => 1#1)

def Pre_FoxRefIdeal (m : (ℓ : Loc Cert.FoxRefIdeal.nD Cert.FoxRefIdeal.τ Cert.FoxRefIdeal.sig) → Buf (Elt Ideal) ℓ) : Prop :=
  True

def Pre_FoxRefIdeal_fox_finite [hPre_fox_finite : Cert.Pre_fox_finite.Facts] (m : (ℓ : Loc Cert.FoxRefIdeal.nD Cert.FoxRefIdeal.τ Cert.FoxRefIdeal.sig) → Buf (Elt Ideal) ℓ) : Prop :=
  ∀ c : Dev Cert.FoxRefIdeal.nD,
    (Cert.Pre_fox_finite.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2)) (m ((c.tc : Thread Cert.FoxRefIdeal.nD Cert.FoxRefIdeal.τ).loc Cert.FoxRefIdeal.main_arg3)) (m ((c.tc : Thread Cert.FoxRefIdeal.nD Cert.FoxRefIdeal.τ).loc Cert.FoxRefIdeal.main_arg4))) = (fun _ => 1#1)

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleIdeal_ple_finite [hPre_ple_finite : Cert.Pre_ple_finite.Facts] (m : (ℓ : Loc Cert.PleIdeal.nD Cert.PleIdeal.τ Cert.PleIdeal.sig) → Buf (Elt Ideal) ℓ) : Prop :=
  ∀ c : Dev Cert.PleIdeal.nD,
    (Cert.Pre_ple_finite.fn (F := Ideal) (m ((c.tc : Thread Cert.PleIdeal.nD Cert.PleIdeal.τ).loc Cert.PleIdeal.main_arg0)) (m ((c.tc : Thread Cert.PleIdeal.nD Cert.PleIdeal.τ).loc Cert.PleIdeal.main_arg1)) (m ((c.tc : Thread Cert.PleIdeal.nD Cert.PleIdeal.τ).loc Cert.PleIdeal.main_arg2)) (m ((c.tc : Thread Cert.PleIdeal.nD Cert.PleIdeal.τ).loc Cert.PleIdeal.main_arg3)) (m ((c.tc : Thread Cert.PleIdeal.nD Cert.PleIdeal.τ).loc Cert.PleIdeal.main_arg4)) (m ((c.tc : Thread Cert.PleIdeal.nD Cert.PleIdeal.τ).loc Cert.PleIdeal.main_arg5))) = (fun _ => 1#1)

def Pre_PleRefIdeal (m : (ℓ : Loc Cert.PleRefIdeal.nD Cert.PleRefIdeal.τ Cert.PleRefIdeal.sig) → Buf (Elt Ideal) ℓ) : Prop :=
  True

def Pre_PleRefIdeal_ple_finite [hPre_ple_finite : Cert.Pre_ple_finite.Facts] (m : (ℓ : Loc Cert.PleRefIdeal.nD Cert.PleRefIdeal.τ Cert.PleRefIdeal.sig) → Buf (Elt Ideal) ℓ) : Prop :=
  ∀ c : Dev Cert.PleRefIdeal.nD,
    (Cert.Pre_ple_finite.fn (F := Ideal) (m ((c.tc : Thread Cert.PleRefIdeal.nD Cert.PleRefIdeal.τ).loc Cert.PleRefIdeal.main_arg0)) (m ((c.tc : Thread Cert.PleRefIdeal.nD Cert.PleRefIdeal.τ).loc Cert.PleRefIdeal.main_arg1)) (m ((c.tc : Thread Cert.PleRefIdeal.nD Cert.PleRefIdeal.τ).loc Cert.PleRefIdeal.main_arg2)) (m ((c.tc : Thread Cert.PleRefIdeal.nD Cert.PleRefIdeal.τ).loc Cert.PleRefIdeal.main_arg3)) (m ((c.tc : Thread Cert.PleRefIdeal.nD Cert.PleRefIdeal.τ).loc Cert.PleRefIdeal.main_arg4)) (m ((c.tc : Thread Cert.PleRefIdeal.nD Cert.PleRefIdeal.τ).loc Cert.PleRefIdeal.main_arg5))) = (fun _ => 1#1)

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpIdeal_mlp_finite [hPre_mlp_finite : Cert.Pre_mlp_finite.Facts] (m : (ℓ : Loc Cert.MlpIdeal.nD Cert.MlpIdeal.τ Cert.MlpIdeal.sig) → Buf (Elt Ideal) ℓ) : Prop :=
  ∀ c : Dev Cert.MlpIdeal.nD,
    (Cert.Pre_mlp_finite.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5))) = (fun _ => 1#1)

def Pre_MlpRefIdeal (m : (ℓ : Loc Cert.MlpRefIdeal.nD Cert.MlpRefIdeal.τ Cert.MlpRefIdeal.sig) → Buf (Elt Ideal) ℓ) : Prop :=
  True

def Pre_MlpRefIdeal_mlp_finite [hPre_mlp_finite : Cert.Pre_mlp_finite.Facts] (m : (ℓ : Loc Cert.MlpRefIdeal.nD Cert.MlpRefIdeal.τ Cert.MlpRefIdeal.sig) → Buf (Elt Ideal) ℓ) : Prop :=
  ∀ c : Dev Cert.MlpRefIdeal.nD,
    (Cert.Pre_mlp_finite.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5))) = (fun _ => 1#1)

def Pre_Aob (m : (ℓ : Loc Cert.Aob.nD Cert.Aob.τ Cert.Aob.sig) → Buf (Elt Bits) ℓ) : Prop :=
  True

def Pre_AobIdeal (m : (ℓ : Loc Cert.AobIdeal.nD Cert.AobIdeal.τ Cert.AobIdeal.sig) → Buf (Elt Ideal) ℓ) : Prop :=
  True

def Pre_AobIdeal_aob_finite [hPre_aob_finite : Cert.Pre_aob_finite.Facts] (m : (ℓ : Loc Cert.AobIdeal.nD Cert.AobIdeal.τ Cert.AobIdeal.sig) → Buf (Elt Ideal) ℓ) : Prop :=
  ∀ c : Dev Cert.AobIdeal.nD,
    (Cert.Pre_aob_finite.fn (F := Ideal) (m ((c.tc : Thread Cert.AobIdeal.nD Cert.AobIdeal.τ).loc Cert.AobIdeal.main_arg0)) (m ((c.tc : Thread Cert.AobIdeal.nD Cert.AobIdeal.τ).loc Cert.AobIdeal.main_arg1)) (m ((c.tc : Thread Cert.AobIdeal.nD Cert.AobIdeal.τ).loc Cert.AobIdeal.main_arg2)) (m ((c.tc : Thread Cert.AobIdeal.nD Cert.AobIdeal.τ).loc Cert.AobIdeal.main_arg3)) (m ((c.tc : Thread Cert.AobIdeal.nD Cert.AobIdeal.τ).loc Cert.AobIdeal.main_arg4))) = (fun _ => 1#1)

def Pre_AobRefIdeal (m : (ℓ : Loc Cert.AobRefIdeal.nD Cert.AobRefIdeal.τ Cert.AobRefIdeal.sig) → Buf (Elt Ideal) ℓ) : Prop :=
  True

def Pre_AobRefIdeal_aob_finite [hPre_aob_finite : Cert.Pre_aob_finite.Facts] (m : (ℓ : Loc Cert.AobRefIdeal.nD Cert.AobRefIdeal.τ Cert.AobRefIdeal.sig) → Buf (Elt Ideal) ℓ) : Prop :=
  ∀ c : Dev Cert.AobRefIdeal.nD,
    (Cert.Pre_aob_finite.fn (F := Ideal) (m ((c.tc : Thread Cert.AobRefIdeal.nD Cert.AobRefIdeal.τ).loc Cert.AobRefIdeal.main_arg0)) (m ((c.tc : Thread Cert.AobRefIdeal.nD Cert.AobRefIdeal.τ).loc Cert.AobRefIdeal.main_arg1)) (m ((c.tc : Thread Cert.AobRefIdeal.nD Cert.AobRefIdeal.τ).loc Cert.AobRefIdeal.main_arg2)) (m ((c.tc : Thread Cert.AobRefIdeal.nD Cert.AobRefIdeal.τ).loc Cert.AobRefIdeal.main_arg3)) (m ((c.tc : Thread Cert.AobRefIdeal.nD Cert.AobRefIdeal.τ).loc Cert.AobRefIdeal.main_arg4))) = (fun _ => 1#1)

def Pre_Pab (m : (ℓ : Loc Cert.Pab.nD Cert.Pab.τ Cert.Pab.sig) → Buf (Elt Bits) ℓ) : Prop :=
  True

def Pre_PabIdeal (m : (ℓ : Loc Cert.PabIdeal.nD Cert.PabIdeal.τ Cert.PabIdeal.sig) → Buf (Elt Ideal) ℓ) : Prop :=
  True

def Pre_PabIdeal_pab_finite [hPre_pab_finite : Cert.Pre_pab_finite.Facts] (m : (ℓ : Loc Cert.PabIdeal.nD Cert.PabIdeal.τ Cert.PabIdeal.sig) → Buf (Elt Ideal) ℓ) : Prop :=
  ∀ c : Dev Cert.PabIdeal.nD,
    (Cert.Pre_pab_finite.fn (F := Ideal) (m ((c.tc : Thread Cert.PabIdeal.nD Cert.PabIdeal.τ).loc Cert.PabIdeal.main_arg0)) (m ((c.tc : Thread Cert.PabIdeal.nD Cert.PabIdeal.τ).loc Cert.PabIdeal.main_arg1)) (m ((c.tc : Thread Cert.PabIdeal.nD Cert.PabIdeal.τ).loc Cert.PabIdeal.main_arg2)) (m ((c.tc : Thread Cert.PabIdeal.nD Cert.PabIdeal.τ).loc Cert.PabIdeal.main_arg3)) (m ((c.tc : Thread Cert.PabIdeal.nD Cert.PabIdeal.τ).loc Cert.PabIdeal.main_arg4))) = (fun _ => 1#1)

def Pre_PabRefIdeal (m : (ℓ : Loc Cert.PabRefIdeal.nD Cert.PabRefIdeal.τ Cert.PabRefIdeal.sig) → Buf (Elt Ideal) ℓ) : Prop :=
  True

def Pre_PabRefIdeal_pab_finite [hPre_pab_finite : Cert.Pre_pab_finite.Facts] (m : (ℓ : Loc Cert.PabRefIdeal.nD Cert.PabRefIdeal.τ Cert.PabRefIdeal.sig) → Buf (Elt Ideal) ℓ) : Prop :=
  ∀ c : Dev Cert.PabRefIdeal.nD,
    (Cert.Pre_pab_finite.fn (F := Ideal) (m ((c.tc : Thread Cert.PabRefIdeal.nD Cert.PabRefIdeal.τ).loc Cert.PabRefIdeal.main_arg0)) (m ((c.tc : Thread Cert.PabRefIdeal.nD Cert.PabRefIdeal.τ).loc Cert.PabRefIdeal.main_arg1)) (m ((c.tc : Thread Cert.PabRefIdeal.nD Cert.PabRefIdeal.τ).loc Cert.PabRefIdeal.main_arg2)) (m ((c.tc : Thread Cert.PabRefIdeal.nD Cert.PabRefIdeal.τ).loc Cert.PabRefIdeal.main_arg3)) (m ((c.tc : Thread Cert.PabRefIdeal.nD Cert.PabRefIdeal.τ).loc Cert.PabRefIdeal.main_arg4))) = (fun _ => 1#1)

def Pre_Swa (m : (ℓ : Loc Cert.Swa.nD Cert.Swa.τ Cert.Swa.sig) → Buf (Elt Bits) ℓ) : Prop :=
  True

def Pre_SwaIdeal (m : (ℓ : Loc Cert.SwaIdeal.nD Cert.SwaIdeal.τ Cert.SwaIdeal.sig) → Buf (Elt Ideal) ℓ) : Prop :=
  True

def Pre_Fgc (m : (ℓ : Loc Cert.Fgc.nD Cert.Fgc.τ Cert.Fgc.sig) → Buf (Elt Bits) ℓ) : Prop :=
  True

def Pre_FgcIdeal (m : (ℓ : Loc Cert.FgcIdeal.nD Cert.FgcIdeal.τ Cert.FgcIdeal.sig) → Buf (Elt Ideal) ℓ) : Prop :=
  True

def Pre_FgcRefIdeal (m : (ℓ : Loc Cert.FgcRefIdeal.nD Cert.FgcRefIdeal.τ Cert.FgcRefIdeal.sig) → Buf (Elt Ideal) ℓ) : Prop :=
  True

def Pre_Pat (m : (ℓ : Loc Cert.Pat.nD Cert.Pat.τ Cert.Pat.sig) → Buf (Elt Bits) ℓ) : Prop :=
  True

def Pre_PatIdeal (m : (ℓ : Loc Cert.PatIdeal.nD Cert.PatIdeal.τ Cert.PatIdeal.sig) → Buf (Elt Ideal) ℓ) : Prop :=
  True

def Pre_PatRefIdeal (m : (ℓ : Loc Cert.PatRefIdeal.nD Cert.PatRefIdeal.τ Cert.PatRefIdeal.sig) → Buf (Elt Ideal) ℓ) : Prop :=
  True

def Pre_Mlf (m : (ℓ : Loc Cert.Mlf.nD Cert.Mlf.τ Cert.Mlf.sig) → Buf (Elt Bits) ℓ) : Prop :=
  True

def Pre_MlfIdeal (m : (ℓ : Loc Cert.MlfIdeal.nD Cert.MlfIdeal.τ Cert.MlfIdeal.sig) → Buf (Elt Ideal) ℓ) : Prop :=
  True

def Pre_MlfRefIdeal (m : (ℓ : Loc Cert.MlfRefIdeal.nD Cert.MlfRefIdeal.τ Cert.MlfRefIdeal.sig) → Buf (Elt Ideal) ℓ) : Prop :=
  True

def Pre_Pra (m : (ℓ : Loc Cert.Pra.nD Cert.Pra.τ Cert.Pra.sig) → Buf (Elt Bits) ℓ) : Prop :=
  True

def Pre_PraIdeal (m : (ℓ : Loc Cert.PraIdeal.nD Cert.PraIdeal.τ Cert.PraIdeal.sig) → Buf (Elt Ideal) ℓ) : Prop :=
  True

def Pre_PraRefIdeal (m : (ℓ : Loc Cert.PraRefIdeal.nD Cert.PraRefIdeal.τ Cert.PraRefIdeal.sig) → Buf (Elt Ideal) ℓ) : Prop :=
  True

def quiescent_Forget [hForget : Cert.Forget.Facts] : Prop :=
  ∀ (m : (ℓ : Loc Cert.Forget.nD Cert.Forget.τ Cert.Forget.sig) → Buf (Elt Bits) ℓ) (g : Dev Cert.Forget.nD → PrngReg), Pre_Forget m →
    θ_run (Cert.Forget.defs (F := Bits)) (onTc (τ := Cert.Forget.τ) (Cert.Forget.main (F := Bits))) ⟨m, fun _ => 0, g⟩ (fun r => (∀ c : Dev Cert.Forget.nD,
      r.2.mem ((c.tc : Thread Cert.Forget.nD Cert.Forget.τ).loc Cert.Forget.main_arg0) = m ((c.tc : Thread Cert.Forget.nD Cert.Forget.τ).loc Cert.Forget.main_arg0)
      ∧ r.2.mem ((c.tc : Thread Cert.Forget.nD Cert.Forget.τ).loc Cert.Forget.main_arg1) = m ((c.tc : Thread Cert.Forget.nD Cert.Forget.τ).loc Cert.Forget.main_arg1)
      ∧ r.2.mem ((c.tc : Thread Cert.Forget.nD Cert.Forget.τ).loc Cert.Forget.main_arg2) = m ((c.tc : Thread Cert.Forget.nD Cert.Forget.τ).loc Cert.Forget.main_arg2)
      ∧ r.2.mem ((c.tc : Thread Cert.Forget.nD Cert.Forget.τ).loc Cert.Forget.main_arg3) = m ((c.tc : Thread Cert.Forget.nD Cert.Forget.τ).loc Cert.Forget.main_arg3))
      ∧ r.2.sem = fun _ => 0)

def quiescent_ForgetIdeal [hForgetIdeal : Cert.ForgetIdeal.Facts] : Prop :=
  ∀ (m : (ℓ : Loc Cert.ForgetIdeal.nD Cert.ForgetIdeal.τ Cert.ForgetIdeal.sig) → Buf (Elt Ideal) ℓ) (g : Dev Cert.ForgetIdeal.nD → PrngReg), Pre_ForgetIdeal m →
    θ_run (Cert.ForgetIdeal.defs (F := Ideal)) (onTc (τ := Cert.ForgetIdeal.τ) (Cert.ForgetIdeal.main (F := Ideal))) ⟨m, fun _ => 0, g⟩ (fun r => (∀ c : Dev Cert.ForgetIdeal.nD,
      r.2.mem ((c.tc : Thread Cert.ForgetIdeal.nD Cert.ForgetIdeal.τ).loc Cert.ForgetIdeal.main_arg0) = m ((c.tc : Thread Cert.ForgetIdeal.nD Cert.ForgetIdeal.τ).loc Cert.ForgetIdeal.main_arg0)
      ∧ r.2.mem ((c.tc : Thread Cert.ForgetIdeal.nD Cert.ForgetIdeal.τ).loc Cert.ForgetIdeal.main_arg1) = m ((c.tc : Thread Cert.ForgetIdeal.nD Cert.ForgetIdeal.τ).loc Cert.ForgetIdeal.main_arg1)
      ∧ r.2.mem ((c.tc : Thread Cert.ForgetIdeal.nD Cert.ForgetIdeal.τ).loc Cert.ForgetIdeal.main_arg2) = m ((c.tc : Thread Cert.ForgetIdeal.nD Cert.ForgetIdeal.τ).loc Cert.ForgetIdeal.main_arg2)
      ∧ r.2.mem ((c.tc : Thread Cert.ForgetIdeal.nD Cert.ForgetIdeal.τ).loc Cert.ForgetIdeal.main_arg3) = m ((c.tc : Thread Cert.ForgetIdeal.nD Cert.ForgetIdeal.τ).loc Cert.ForgetIdeal.main_arg3))
      ∧ r.2.sem = fun _ => 0)

def quiescent_ForgetRefIdeal [hForgetRefIdeal : Cert.ForgetRefIdeal.Facts] : Prop :=
  ∀ (m : (ℓ : Loc Cert.ForgetRefIdeal.nD Cert.ForgetRefIdeal.τ Cert.ForgetRefIdeal.sig) → Buf (Elt Ideal) ℓ) (g : Dev Cert.ForgetRefIdeal.nD → PrngReg), Pre_ForgetRefIdeal m →
    θ_run (Cert.ForgetRefIdeal.defs (F := Ideal)) (onTc (τ := Cert.ForgetRefIdeal.τ) (Cert.ForgetRefIdeal.main (F := Ideal))) ⟨m, fun _ => 0, g⟩ (fun r => (∀ c : Dev Cert.ForgetRefIdeal.nD,
      r.2.mem ((c.tc : Thread Cert.ForgetRefIdeal.nD Cert.ForgetRefIdeal.τ).loc Cert.ForgetRefIdeal.main_arg0) = m ((c.tc : Thread Cert.ForgetRefIdeal.nD Cert.ForgetRefIdeal.τ).loc Cert.ForgetRefIdeal.main_arg0)
      ∧ r.2.mem ((c.tc : Thread Cert.ForgetRefIdeal.nD Cert.ForgetRefIdeal.τ).loc Cert.ForgetRefIdeal.main_arg1) = m ((c.tc : Thread Cert.ForgetRefIdeal.nD Cert.ForgetRefIdeal.τ).loc Cert.ForgetRefIdeal.main_arg1)
      ∧ r.2.mem ((c.tc : Thread Cert.ForgetRefIdeal.nD Cert.ForgetRefIdeal.τ).loc Cert.ForgetRefIdeal.main_arg2) = m ((c.tc : Thread Cert.ForgetRefIdeal.nD Cert.ForgetRefIdeal.τ).loc Cert.ForgetRefIdeal.main_arg2)
      ∧ r.2.mem ((c.tc : Thread Cert.ForgetRefIdeal.nD Cert.ForgetRefIdeal.τ).loc Cert.ForgetRefIdeal.main_arg3) = m ((c.tc : Thread Cert.ForgetRefIdeal.nD Cert.ForgetRefIdeal.τ).loc Cert.ForgetRefIdeal.main_arg3))
      ∧ r.2.sem = fun _ => 0)

def quiescent_Fox [hFox : Cert.Fox.Facts] : Prop :=
  ∀ (m : (ℓ : Loc Cert.Fox.nD Cert.Fox.τ Cert.Fox.sig) → Buf (Elt Bits) ℓ) (g : Dev Cert.Fox.nD → PrngReg), Pre_Fox m →
    θ_run (Cert.Fox.defs (F := Bits)) (onTc (τ := Cert.Fox.τ) (Cert.Fox.main (F := Bits))) ⟨m, fun _ => 0, g⟩ (fun r => (∀ c : Dev Cert.Fox.nD,
      r.2.mem ((c.tc : Thread Cert.Fox.nD Cert.Fox.τ).loc Cert.Fox.main_arg0) = m ((c.tc : Thread Cert.Fox.nD Cert.Fox.τ).loc Cert.Fox.main_arg0)
      ∧ r.2.mem ((c.tc : Thread Cert.Fox.nD Cert.Fox.τ).loc Cert.Fox.main_arg1) = m ((c.tc : Thread Cert.Fox.nD Cert.Fox.τ).loc Cert.Fox.main_arg1)
      ∧ r.2.mem ((c.tc : Thread Cert.Fox.nD Cert.Fox.τ).loc Cert.Fox.main_arg2) = m ((c.tc : Thread Cert.Fox.nD Cert.Fox.τ).loc Cert.Fox.main_arg2)
      ∧ r.2.mem ((c.tc : Thread Cert.Fox.nD Cert.Fox.τ).loc Cert.Fox.main_arg3) = m ((c.tc : Thread Cert.Fox.nD Cert.Fox.τ).loc Cert.Fox.main_arg3)
      ∧ r.2.mem ((c.tc : Thread Cert.Fox.nD Cert.Fox.τ).loc Cert.Fox.main_arg4) = m ((c.tc : Thread Cert.Fox.nD Cert.Fox.τ).loc Cert.Fox.main_arg4))
      ∧ r.2.sem = fun _ => 0)

def quiescent_FoxIdeal [hFoxIdeal : Cert.FoxIdeal.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
      ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3)
      ∧ r.2.mem ((c.tc : Thread Cert.FoxIdeal.nD Cert.FoxIdeal.τ).loc Cert.FoxIdeal.main_arg4) = m ((c.tc : Thread Cert.FoxIdeal.nD Cert.FoxIdeal.τ).loc Cert.FoxIdeal.main_arg4))
      ∧ r.2.sem = fun _ => 0)

def quiescent_FoxIdeal_pre_fox_finite [hFoxIdeal : Cert.FoxIdeal.Facts] [hPre_fox_finite : Cert.Pre_fox_finite.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal_fox_finite m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
      ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3)
      ∧ r.2.mem ((c.tc : Thread Cert.FoxIdeal.nD Cert.FoxIdeal.τ).loc Cert.FoxIdeal.main_arg4) = m ((c.tc : Thread Cert.FoxIdeal.nD Cert.FoxIdeal.τ).loc Cert.FoxIdeal.main_arg4))
      ∧ r.2.sem = fun _ => 0)

def quiescent_FoxRefIdeal [hFoxRefIdeal : Cert.FoxRefIdeal.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1)
      ∧ r.2.mem ((c.tc : Thread Cert.FoxRefIdeal.nD Cert.FoxRefIdeal.τ).loc Cert.FoxRefIdeal.main_arg2) = m ((c.tc : Thread Cert.FoxRefIdeal.nD Cert.FoxRefIdeal.τ).loc Cert.FoxRefIdeal.main_arg2)
      ∧ r.2.mem ((c.tc : Thread Cert.FoxRefIdeal.nD Cert.FoxRefIdeal.τ).loc Cert.FoxRefIdeal.main_arg3) = m ((c.tc : Thread Cert.FoxRefIdeal.nD Cert.FoxRefIdeal.τ).loc Cert.FoxRefIdeal.main_arg3)
      ∧ r.2.mem ((c.tc : Thread Cert.FoxRefIdeal.nD Cert.FoxRefIdeal.τ).loc Cert.FoxRefIdeal.main_arg4) = m ((c.tc : Thread Cert.FoxRefIdeal.nD Cert.FoxRefIdeal.τ).loc Cert.FoxRefIdeal.main_arg4))
      ∧ r.2.sem = fun _ => 0)

def quiescent_FoxRefIdeal_pre_fox_finite [hFoxRefIdeal : Cert.FoxRefIdeal.Facts] [hPre_fox_finite : Cert.Pre_fox_finite.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal_fox_finite m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1)
      ∧ r.2.mem ((c.tc : Thread Cert.FoxRefIdeal.nD Cert.FoxRefIdeal.τ).loc Cert.FoxRefIdeal.main_arg2) = m ((c.tc : Thread Cert.FoxRefIdeal.nD Cert.FoxRefIdeal.τ).loc Cert.FoxRefIdeal.main_arg2)
      ∧ r.2.mem ((c.tc : Thread Cert.FoxRefIdeal.nD Cert.FoxRefIdeal.τ).loc Cert.FoxRefIdeal.main_arg3) = m ((c.tc : Thread Cert.FoxRefIdeal.nD Cert.FoxRefIdeal.τ).loc Cert.FoxRefIdeal.main_arg3)
      ∧ r.2.mem ((c.tc : Thread Cert.FoxRefIdeal.nD Cert.FoxRefIdeal.τ).loc Cert.FoxRefIdeal.main_arg4) = m ((c.tc : Thread Cert.FoxRefIdeal.nD Cert.FoxRefIdeal.τ).loc Cert.FoxRefIdeal.main_arg4))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4)
      ∧ r.2.mem ((c.tc : Thread Cert.Ple.nD Cert.Ple.τ).loc Cert.Ple.main_arg5) = m ((c.tc : Thread Cert.Ple.nD Cert.Ple.τ).loc Cert.Ple.main_arg5))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
      ∧ r.2.mem ((c.tc : Thread Cert.PleIdeal.nD Cert.PleIdeal.τ).loc Cert.PleIdeal.main_arg5) = m ((c.tc : Thread Cert.PleIdeal.nD Cert.PleIdeal.τ).loc Cert.PleIdeal.main_arg5))
      ∧ r.2.sem = fun _ => 0)

def quiescent_PleIdeal_pre_ple_finite [hPleIdeal : Cert.PleIdeal.Facts] [hPre_ple_finite : Cert.Pre_ple_finite.Facts] : Prop :=
  ∀ (m : (ℓ : Loc Cert.PleIdeal.nD Cert.PleIdeal.τ Cert.PleIdeal.sig) → Buf (Elt Ideal) ℓ) (g : Dev Cert.PleIdeal.nD → PrngReg), Pre_PleIdeal_ple_finite m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
      ∧ r.2.mem ((c.tc : Thread Cert.PleIdeal.nD Cert.PleIdeal.τ).loc Cert.PleIdeal.main_arg5) = m ((c.tc : Thread Cert.PleIdeal.nD Cert.PleIdeal.τ).loc Cert.PleIdeal.main_arg5))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4)
      ∧ r.2.mem ((c.tc : Thread Cert.PleRefIdeal.nD Cert.PleRefIdeal.τ).loc Cert.PleRefIdeal.main_arg5) = m ((c.tc : Thread Cert.PleRefIdeal.nD Cert.PleRefIdeal.τ).loc Cert.PleRefIdeal.main_arg5))
      ∧ r.2.sem = fun _ => 0)

def quiescent_PleRefIdeal_pre_ple_finite [hPleRefIdeal : Cert.PleRefIdeal.Facts] [hPre_ple_finite : Cert.Pre_ple_finite.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal_ple_finite m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4)
      ∧ r.2.mem ((c.tc : Thread Cert.PleRefIdeal.nD Cert.PleRefIdeal.τ).loc Cert.PleRefIdeal.main_arg5) = m ((c.tc : Thread Cert.PleRefIdeal.nD Cert.PleRefIdeal.τ).loc Cert.PleRefIdeal.main_arg5))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5))
      ∧ r.2.sem = fun _ => 0)

def quiescent_MlpIdeal_pre_mlp_finite [hMlpIdeal : Cert.MlpIdeal.Facts] [hPre_mlp_finite : Cert.Pre_mlp_finite.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal_mlp_finite m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5))
      ∧ r.2.sem = fun _ => 0)

def quiescent_MlpRefIdeal_pre_mlp_finite [hMlpRefIdeal : Cert.MlpRefIdeal.Facts] [hPre_mlp_finite : Cert.Pre_mlp_finite.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal_mlp_finite m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5))
      ∧ r.2.sem = fun _ => 0)

def quiescent_Aob [hAob : Cert.Aob.Facts] : Prop :=
  ∀ (m : (ℓ : Loc Cert.Aob.nD Cert.Aob.τ Cert.Aob.sig) → Buf (Elt Bits) ℓ) (g : Dev Cert.Aob.nD → PrngReg), Pre_Aob m →
    θ_run (Cert.Aob.defs (F := Bits)) (onTc (τ := Cert.Aob.τ) (Cert.Aob.main (F := Bits))) ⟨m, fun _ => 0, g⟩ (fun r => (∀ c : Dev Cert.Aob.nD,
      r.2.mem ((c.tc : Thread Cert.Aob.nD Cert.Aob.τ).loc Cert.Aob.main_arg0) = m ((c.tc : Thread Cert.Aob.nD Cert.Aob.τ).loc Cert.Aob.main_arg0)
      ∧ r.2.mem ((c.tc : Thread Cert.Aob.nD Cert.Aob.τ).loc Cert.Aob.main_arg1) = m ((c.tc : Thread Cert.Aob.nD Cert.Aob.τ).loc Cert.Aob.main_arg1)
      ∧ r.2.mem ((c.tc : Thread Cert.Aob.nD Cert.Aob.τ).loc Cert.Aob.main_arg2) = m ((c.tc : Thread Cert.Aob.nD Cert.Aob.τ).loc Cert.Aob.main_arg2)
      ∧ r.2.mem ((c.tc : Thread Cert.Aob.nD Cert.Aob.τ).loc Cert.Aob.main_arg3) = m ((c.tc : Thread Cert.Aob.nD Cert.Aob.τ).loc Cert.Aob.main_arg3)
      ∧ r.2.mem ((c.tc : Thread Cert.Aob.nD Cert.Aob.τ).loc Cert.Aob.main_arg4) = m ((c.tc : Thread Cert.Aob.nD Cert.Aob.τ).loc Cert.Aob.main_arg4))
      ∧ r.2.sem = fun _ => 0)

def quiescent_AobIdeal [hAobIdeal : Cert.AobIdeal.Facts] : Prop :=
  ∀ (m : (ℓ : Loc Cert.AobIdeal.nD Cert.AobIdeal.τ Cert.AobIdeal.sig) → Buf (Elt Ideal) ℓ) (g : Dev Cert.AobIdeal.nD → PrngReg), Pre_AobIdeal m →
    θ_run (Cert.AobIdeal.defs (F := Ideal)) (onTc (τ := Cert.AobIdeal.τ) (Cert.AobIdeal.main (F := Ideal))) ⟨m, fun _ => 0, g⟩ (fun r => (∀ c : Dev Cert.AobIdeal.nD,
      r.2.mem ((c.tc : Thread Cert.AobIdeal.nD Cert.AobIdeal.τ).loc Cert.AobIdeal.main_arg0) = m ((c.tc : Thread Cert.AobIdeal.nD Cert.AobIdeal.τ).loc Cert.AobIdeal.main_arg0)
      ∧ r.2.mem ((c.tc : Thread Cert.AobIdeal.nD Cert.AobIdeal.τ).loc Cert.AobIdeal.main_arg1) = m ((c.tc : Thread Cert.AobIdeal.nD Cert.AobIdeal.τ).loc Cert.AobIdeal.main_arg1)
      ∧ r.2.mem ((c.tc : Thread Cert.AobIdeal.nD Cert.AobIdeal.τ).loc Cert.AobIdeal.main_arg2) = m ((c.tc : Thread Cert.AobIdeal.nD Cert.AobIdeal.τ).loc Cert.AobIdeal.main_arg2)
      ∧ r.2.mem ((c.tc : Thread Cert.AobIdeal.nD Cert.AobIdeal.τ).loc Cert.AobIdeal.main_arg3) = m ((c.tc : Thread Cert.AobIdeal.nD Cert.AobIdeal.τ).loc Cert.AobIdeal.main_arg3)
      ∧ r.2.mem ((c.tc : Thread Cert.AobIdeal.nD Cert.AobIdeal.τ).loc Cert.AobIdeal.main_arg4) = m ((c.tc : Thread Cert.AobIdeal.nD Cert.AobIdeal.τ).loc Cert.AobIdeal.main_arg4))
      ∧ r.2.sem = fun _ => 0)

def quiescent_AobIdeal_pre_aob_finite [hAobIdeal : Cert.AobIdeal.Facts] [hPre_aob_finite : Cert.Pre_aob_finite.Facts] : Prop :=
  ∀ (m : (ℓ : Loc Cert.AobIdeal.nD Cert.AobIdeal.τ Cert.AobIdeal.sig) → Buf (Elt Ideal) ℓ) (g : Dev Cert.AobIdeal.nD → PrngReg), Pre_AobIdeal_aob_finite m →
    θ_run (Cert.AobIdeal.defs (F := Ideal)) (onTc (τ := Cert.AobIdeal.τ) (Cert.AobIdeal.main (F := Ideal))) ⟨m, fun _ => 0, g⟩ (fun r => (∀ c : Dev Cert.AobIdeal.nD,
      r.2.mem ((c.tc : Thread Cert.AobIdeal.nD Cert.AobIdeal.τ).loc Cert.AobIdeal.main_arg0) = m ((c.tc : Thread Cert.AobIdeal.nD Cert.AobIdeal.τ).loc Cert.AobIdeal.main_arg0)
      ∧ r.2.mem ((c.tc : Thread Cert.AobIdeal.nD Cert.AobIdeal.τ).loc Cert.AobIdeal.main_arg1) = m ((c.tc : Thread Cert.AobIdeal.nD Cert.AobIdeal.τ).loc Cert.AobIdeal.main_arg1)
      ∧ r.2.mem ((c.tc : Thread Cert.AobIdeal.nD Cert.AobIdeal.τ).loc Cert.AobIdeal.main_arg2) = m ((c.tc : Thread Cert.AobIdeal.nD Cert.AobIdeal.τ).loc Cert.AobIdeal.main_arg2)
      ∧ r.2.mem ((c.tc : Thread Cert.AobIdeal.nD Cert.AobIdeal.τ).loc Cert.AobIdeal.main_arg3) = m ((c.tc : Thread Cert.AobIdeal.nD Cert.AobIdeal.τ).loc Cert.AobIdeal.main_arg3)
      ∧ r.2.mem ((c.tc : Thread Cert.AobIdeal.nD Cert.AobIdeal.τ).loc Cert.AobIdeal.main_arg4) = m ((c.tc : Thread Cert.AobIdeal.nD Cert.AobIdeal.τ).loc Cert.AobIdeal.main_arg4))
      ∧ r.2.sem = fun _ => 0)

def quiescent_AobRefIdeal [hAobRefIdeal : Cert.AobRefIdeal.Facts] : Prop :=
  ∀ (m : (ℓ : Loc Cert.AobRefIdeal.nD Cert.AobRefIdeal.τ Cert.AobRefIdeal.sig) → Buf (Elt Ideal) ℓ) (g : Dev Cert.AobRefIdeal.nD → PrngReg), Pre_AobRefIdeal m →
    θ_run (Cert.AobRefIdeal.defs (F := Ideal)) (onTc (τ := Cert.AobRefIdeal.τ) (Cert.AobRefIdeal.main (F := Ideal))) ⟨m, fun _ => 0, g⟩ (fun r => (∀ c : Dev Cert.AobRefIdeal.nD,
      r.2.mem ((c.tc : Thread Cert.AobRefIdeal.nD Cert.AobRefIdeal.τ).loc Cert.AobRefIdeal.main_arg0) = m ((c.tc : Thread Cert.AobRefIdeal.nD Cert.AobRefIdeal.τ).loc Cert.AobRefIdeal.main_arg0)
      ∧ r.2.mem ((c.tc : Thread Cert.AobRefIdeal.nD Cert.AobRefIdeal.τ).loc Cert.AobRefIdeal.main_arg1) = m ((c.tc : Thread Cert.AobRefIdeal.nD Cert.AobRefIdeal.τ).loc Cert.AobRefIdeal.main_arg1)
      ∧ r.2.mem ((c.tc : Thread Cert.AobRefIdeal.nD Cert.AobRefIdeal.τ).loc Cert.AobRefIdeal.main_arg2) = m ((c.tc : Thread Cert.AobRefIdeal.nD Cert.AobRefIdeal.τ).loc Cert.AobRefIdeal.main_arg2)
      ∧ r.2.mem ((c.tc : Thread Cert.AobRefIdeal.nD Cert.AobRefIdeal.τ).loc Cert.AobRefIdeal.main_arg3) = m ((c.tc : Thread Cert.AobRefIdeal.nD Cert.AobRefIdeal.τ).loc Cert.AobRefIdeal.main_arg3)
      ∧ r.2.mem ((c.tc : Thread Cert.AobRefIdeal.nD Cert.AobRefIdeal.τ).loc Cert.AobRefIdeal.main_arg4) = m ((c.tc : Thread Cert.AobRefIdeal.nD Cert.AobRefIdeal.τ).loc Cert.AobRefIdeal.main_arg4))
      ∧ r.2.sem = fun _ => 0)

def quiescent_AobRefIdeal_pre_aob_finite [hAobRefIdeal : Cert.AobRefIdeal.Facts] [hPre_aob_finite : Cert.Pre_aob_finite.Facts] : Prop :=
  ∀ (m : (ℓ : Loc Cert.AobRefIdeal.nD Cert.AobRefIdeal.τ Cert.AobRefIdeal.sig) → Buf (Elt Ideal) ℓ) (g : Dev Cert.AobRefIdeal.nD → PrngReg), Pre_AobRefIdeal_aob_finite m →
    θ_run (Cert.AobRefIdeal.defs (F := Ideal)) (onTc (τ := Cert.AobRefIdeal.τ) (Cert.AobRefIdeal.main (F := Ideal))) ⟨m, fun _ => 0, g⟩ (fun r => (∀ c : Dev Cert.AobRefIdeal.nD,
      r.2.mem ((c.tc : Thread Cert.AobRefIdeal.nD Cert.AobRefIdeal.τ).loc Cert.AobRefIdeal.main_arg0) = m ((c.tc : Thread Cert.AobRefIdeal.nD Cert.AobRefIdeal.τ).loc Cert.AobRefIdeal.main_arg0)
      ∧ r.2.mem ((c.tc : Thread Cert.AobRefIdeal.nD Cert.AobRefIdeal.τ).loc Cert.AobRefIdeal.main_arg1) = m ((c.tc : Thread Cert.AobRefIdeal.nD Cert.AobRefIdeal.τ).loc Cert.AobRefIdeal.main_arg1)
      ∧ r.2.mem ((c.tc : Thread Cert.AobRefIdeal.nD Cert.AobRefIdeal.τ).loc Cert.AobRefIdeal.main_arg2) = m ((c.tc : Thread Cert.AobRefIdeal.nD Cert.AobRefIdeal.τ).loc Cert.AobRefIdeal.main_arg2)
      ∧ r.2.mem ((c.tc : Thread Cert.AobRefIdeal.nD Cert.AobRefIdeal.τ).loc Cert.AobRefIdeal.main_arg3) = m ((c.tc : Thread Cert.AobRefIdeal.nD Cert.AobRefIdeal.τ).loc Cert.AobRefIdeal.main_arg3)
      ∧ r.2.mem ((c.tc : Thread Cert.AobRefIdeal.nD Cert.AobRefIdeal.τ).loc Cert.AobRefIdeal.main_arg4) = m ((c.tc : Thread Cert.AobRefIdeal.nD Cert.AobRefIdeal.τ).loc Cert.AobRefIdeal.main_arg4))
      ∧ r.2.sem = fun _ => 0)

def quiescent_Pab [hPab : Cert.Pab.Facts] : Prop :=
  ∀ (m : (ℓ : Loc Cert.Pab.nD Cert.Pab.τ Cert.Pab.sig) → Buf (Elt Bits) ℓ) (g : Dev Cert.Pab.nD → PrngReg), Pre_Pab m →
    θ_run (Cert.Pab.defs (F := Bits)) (onTc (τ := Cert.Pab.τ) (Cert.Pab.main (F := Bits))) ⟨m, fun _ => 0, g⟩ (fun r => (∀ c : Dev Cert.Pab.nD,
      r.2.mem ((c.tc : Thread Cert.Pab.nD Cert.Pab.τ).loc Cert.Pab.main_arg0) = m ((c.tc : Thread Cert.Pab.nD Cert.Pab.τ).loc Cert.Pab.main_arg0)
      ∧ r.2.mem ((c.tc : Thread Cert.Pab.nD Cert.Pab.τ).loc Cert.Pab.main_arg1) = m ((c.tc : Thread Cert.Pab.nD Cert.Pab.τ).loc Cert.Pab.main_arg1)
      ∧ r.2.mem ((c.tc : Thread Cert.Pab.nD Cert.Pab.τ).loc Cert.Pab.main_arg2) = m ((c.tc : Thread Cert.Pab.nD Cert.Pab.τ).loc Cert.Pab.main_arg2)
      ∧ r.2.mem ((c.tc : Thread Cert.Pab.nD Cert.Pab.τ).loc Cert.Pab.main_arg3) = m ((c.tc : Thread Cert.Pab.nD Cert.Pab.τ).loc Cert.Pab.main_arg3)
      ∧ r.2.mem ((c.tc : Thread Cert.Pab.nD Cert.Pab.τ).loc Cert.Pab.main_arg4) = m ((c.tc : Thread Cert.Pab.nD Cert.Pab.τ).loc Cert.Pab.main_arg4))
      ∧ r.2.sem = fun _ => 0)

def quiescent_PabIdeal [hPabIdeal : Cert.PabIdeal.Facts] : Prop :=
  ∀ (m : (ℓ : Loc Cert.PabIdeal.nD Cert.PabIdeal.τ Cert.PabIdeal.sig) → Buf (Elt Ideal) ℓ) (g : Dev Cert.PabIdeal.nD → PrngReg), Pre_PabIdeal m →
    θ_run (Cert.PabIdeal.defs (F := Ideal)) (onTc (τ := Cert.PabIdeal.τ) (Cert.PabIdeal.main (F := Ideal))) ⟨m, fun _ => 0, g⟩ (fun r => (∀ c : Dev Cert.PabIdeal.nD,
      r.2.mem ((c.tc : Thread Cert.PabIdeal.nD Cert.PabIdeal.τ).loc Cert.PabIdeal.main_arg0) = m ((c.tc : Thread Cert.PabIdeal.nD Cert.PabIdeal.τ).loc Cert.PabIdeal.main_arg0)
      ∧ r.2.mem ((c.tc : Thread Cert.PabIdeal.nD Cert.PabIdeal.τ).loc Cert.PabIdeal.main_arg1) = m ((c.tc : Thread Cert.PabIdeal.nD Cert.PabIdeal.τ).loc Cert.PabIdeal.main_arg1)
      ∧ r.2.mem ((c.tc : Thread Cert.PabIdeal.nD Cert.PabIdeal.τ).loc Cert.PabIdeal.main_arg2) = m ((c.tc : Thread Cert.PabIdeal.nD Cert.PabIdeal.τ).loc Cert.PabIdeal.main_arg2)
      ∧ r.2.mem ((c.tc : Thread Cert.PabIdeal.nD Cert.PabIdeal.τ).loc Cert.PabIdeal.main_arg3) = m ((c.tc : Thread Cert.PabIdeal.nD Cert.PabIdeal.τ).loc Cert.PabIdeal.main_arg3)
      ∧ r.2.mem ((c.tc : Thread Cert.PabIdeal.nD Cert.PabIdeal.τ).loc Cert.PabIdeal.main_arg4) = m ((c.tc : Thread Cert.PabIdeal.nD Cert.PabIdeal.τ).loc Cert.PabIdeal.main_arg4))
      ∧ r.2.sem = fun _ => 0)

def quiescent_PabIdeal_pre_pab_finite [hPabIdeal : Cert.PabIdeal.Facts] [hPre_pab_finite : Cert.Pre_pab_finite.Facts] : Prop :=
  ∀ (m : (ℓ : Loc Cert.PabIdeal.nD Cert.PabIdeal.τ Cert.PabIdeal.sig) → Buf (Elt Ideal) ℓ) (g : Dev Cert.PabIdeal.nD → PrngReg), Pre_PabIdeal_pab_finite m →
    θ_run (Cert.PabIdeal.defs (F := Ideal)) (onTc (τ := Cert.PabIdeal.τ) (Cert.PabIdeal.main (F := Ideal))) ⟨m, fun _ => 0, g⟩ (fun r => (∀ c : Dev Cert.PabIdeal.nD,
      r.2.mem ((c.tc : Thread Cert.PabIdeal.nD Cert.PabIdeal.τ).loc Cert.PabIdeal.main_arg0) = m ((c.tc : Thread Cert.PabIdeal.nD Cert.PabIdeal.τ).loc Cert.PabIdeal.main_arg0)
      ∧ r.2.mem ((c.tc : Thread Cert.PabIdeal.nD Cert.PabIdeal.τ).loc Cert.PabIdeal.main_arg1) = m ((c.tc : Thread Cert.PabIdeal.nD Cert.PabIdeal.τ).loc Cert.PabIdeal.main_arg1)
      ∧ r.2.mem ((c.tc : Thread Cert.PabIdeal.nD Cert.PabIdeal.τ).loc Cert.PabIdeal.main_arg2) = m ((c.tc : Thread Cert.PabIdeal.nD Cert.PabIdeal.τ).loc Cert.PabIdeal.main_arg2)
      ∧ r.2.mem ((c.tc : Thread Cert.PabIdeal.nD Cert.PabIdeal.τ).loc Cert.PabIdeal.main_arg3) = m ((c.tc : Thread Cert.PabIdeal.nD Cert.PabIdeal.τ).loc Cert.PabIdeal.main_arg3)
      ∧ r.2.mem ((c.tc : Thread Cert.PabIdeal.nD Cert.PabIdeal.τ).loc Cert.PabIdeal.main_arg4) = m ((c.tc : Thread Cert.PabIdeal.nD Cert.PabIdeal.τ).loc Cert.PabIdeal.main_arg4))
      ∧ r.2.sem = fun _ => 0)

def quiescent_PabRefIdeal [hPabRefIdeal : Cert.PabRefIdeal.Facts] : Prop :=
  ∀ (m : (ℓ : Loc Cert.PabRefIdeal.nD Cert.PabRefIdeal.τ Cert.PabRefIdeal.sig) → Buf (Elt Ideal) ℓ) (g : Dev Cert.PabRefIdeal.nD → PrngReg), Pre_PabRefIdeal m →
    θ_run (Cert.PabRefIdeal.defs (F := Ideal)) (onTc (τ := Cert.PabRefIdeal.τ) (Cert.PabRefIdeal.main (F := Ideal))) ⟨m, fun _ => 0, g⟩ (fun r => (∀ c : Dev Cert.PabRefIdeal.nD,
      r.2.mem ((c.tc : Thread Cert.PabRefIdeal.nD Cert.PabRefIdeal.τ).loc Cert.PabRefIdeal.main_arg0) = m ((c.tc : Thread Cert.PabRefIdeal.nD Cert.PabRefIdeal.τ).loc Cert.PabRefIdeal.main_arg0)
      ∧ r.2.mem ((c.tc : Thread Cert.PabRefIdeal.nD Cert.PabRefIdeal.τ).loc Cert.PabRefIdeal.main_arg1) = m ((c.tc : Thread Cert.PabRefIdeal.nD Cert.PabRefIdeal.τ).loc Cert.PabRefIdeal.main_arg1)
      ∧ r.2.mem ((c.tc : Thread Cert.PabRefIdeal.nD Cert.PabRefIdeal.τ).loc Cert.PabRefIdeal.main_arg2) = m ((c.tc : Thread Cert.PabRefIdeal.nD Cert.PabRefIdeal.τ).loc Cert.PabRefIdeal.main_arg2)
      ∧ r.2.mem ((c.tc : Thread Cert.PabRefIdeal.nD Cert.PabRefIdeal.τ).loc Cert.PabRefIdeal.main_arg3) = m ((c.tc : Thread Cert.PabRefIdeal.nD Cert.PabRefIdeal.τ).loc Cert.PabRefIdeal.main_arg3)
      ∧ r.2.mem ((c.tc : Thread Cert.PabRefIdeal.nD Cert.PabRefIdeal.τ).loc Cert.PabRefIdeal.main_arg4) = m ((c.tc : Thread Cert.PabRefIdeal.nD Cert.PabRefIdeal.τ).loc Cert.PabRefIdeal.main_arg4))
      ∧ r.2.sem = fun _ => 0)

def quiescent_PabRefIdeal_pre_pab_finite [hPabRefIdeal : Cert.PabRefIdeal.Facts] [hPre_pab_finite : Cert.Pre_pab_finite.Facts] : Prop :=
  ∀ (m : (ℓ : Loc Cert.PabRefIdeal.nD Cert.PabRefIdeal.τ Cert.PabRefIdeal.sig) → Buf (Elt Ideal) ℓ) (g : Dev Cert.PabRefIdeal.nD → PrngReg), Pre_PabRefIdeal_pab_finite m →
    θ_run (Cert.PabRefIdeal.defs (F := Ideal)) (onTc (τ := Cert.PabRefIdeal.τ) (Cert.PabRefIdeal.main (F := Ideal))) ⟨m, fun _ => 0, g⟩ (fun r => (∀ c : Dev Cert.PabRefIdeal.nD,
      r.2.mem ((c.tc : Thread Cert.PabRefIdeal.nD Cert.PabRefIdeal.τ).loc Cert.PabRefIdeal.main_arg0) = m ((c.tc : Thread Cert.PabRefIdeal.nD Cert.PabRefIdeal.τ).loc Cert.PabRefIdeal.main_arg0)
      ∧ r.2.mem ((c.tc : Thread Cert.PabRefIdeal.nD Cert.PabRefIdeal.τ).loc Cert.PabRefIdeal.main_arg1) = m ((c.tc : Thread Cert.PabRefIdeal.nD Cert.PabRefIdeal.τ).loc Cert.PabRefIdeal.main_arg1)
      ∧ r.2.mem ((c.tc : Thread Cert.PabRefIdeal.nD Cert.PabRefIdeal.τ).loc Cert.PabRefIdeal.main_arg2) = m ((c.tc : Thread Cert.PabRefIdeal.nD Cert.PabRefIdeal.τ).loc Cert.PabRefIdeal.main_arg2)
      ∧ r.2.mem ((c.tc : Thread Cert.PabRefIdeal.nD Cert.PabRefIdeal.τ).loc Cert.PabRefIdeal.main_arg3) = m ((c.tc : Thread Cert.PabRefIdeal.nD Cert.PabRefIdeal.τ).loc Cert.PabRefIdeal.main_arg3)
      ∧ r.2.mem ((c.tc : Thread Cert.PabRefIdeal.nD Cert.PabRefIdeal.τ).loc Cert.PabRefIdeal.main_arg4) = m ((c.tc : Thread Cert.PabRefIdeal.nD Cert.PabRefIdeal.τ).loc Cert.PabRefIdeal.main_arg4))
      ∧ r.2.sem = fun _ => 0)

def quiescent_Swa [hSwa : Cert.Swa.Facts] : Prop :=
  ∀ (m : (ℓ : Loc Cert.Swa.nD Cert.Swa.τ Cert.Swa.sig) → Buf (Elt Bits) ℓ) (g : Dev Cert.Swa.nD → PrngReg), Pre_Swa m →
    θ_run (Cert.Swa.defs (F := Bits)) (onTc (τ := Cert.Swa.τ) (Cert.Swa.main (F := Bits))) ⟨m, fun _ => 0, g⟩ (fun r => (∀ c : Dev Cert.Swa.nD,
      r.2.mem ((c.tc : Thread Cert.Swa.nD Cert.Swa.τ).loc Cert.Swa.main_arg0) = m ((c.tc : Thread Cert.Swa.nD Cert.Swa.τ).loc Cert.Swa.main_arg0)
      ∧ r.2.mem ((c.tc : Thread Cert.Swa.nD Cert.Swa.τ).loc Cert.Swa.main_arg1) = m ((c.tc : Thread Cert.Swa.nD Cert.Swa.τ).loc Cert.Swa.main_arg1)
      ∧ r.2.mem ((c.tc : Thread Cert.Swa.nD Cert.Swa.τ).loc Cert.Swa.main_arg2) = m ((c.tc : Thread Cert.Swa.nD Cert.Swa.τ).loc Cert.Swa.main_arg2)
      ∧ r.2.mem ((c.tc : Thread Cert.Swa.nD Cert.Swa.τ).loc Cert.Swa.main_arg3) = m ((c.tc : Thread Cert.Swa.nD Cert.Swa.τ).loc Cert.Swa.main_arg3)
      ∧ r.2.mem ((c.tc : Thread Cert.Swa.nD Cert.Swa.τ).loc Cert.Swa.main_arg4) = m ((c.tc : Thread Cert.Swa.nD Cert.Swa.τ).loc Cert.Swa.main_arg4)
      ∧ r.2.mem ((c.tc : Thread Cert.Swa.nD Cert.Swa.τ).loc Cert.Swa.main_arg5) = m ((c.tc : Thread Cert.Swa.nD Cert.Swa.τ).loc Cert.Swa.main_arg5))
      ∧ r.2.sem = fun _ => 0)

def quiescent_SwaIdeal [hSwaIdeal : Cert.SwaIdeal.Facts] : Prop :=
  ∀ (m : (ℓ : Loc Cert.SwaIdeal.nD Cert.SwaIdeal.τ Cert.SwaIdeal.sig) → Buf (Elt Ideal) ℓ) (g : Dev Cert.SwaIdeal.nD → PrngReg), Pre_SwaIdeal m →
    θ_run (Cert.SwaIdeal.defs (F := Ideal)) (onTc (τ := Cert.SwaIdeal.τ) (Cert.SwaIdeal.main (F := Ideal))) ⟨m, fun _ => 0, g⟩ (fun r => (∀ c : Dev Cert.SwaIdeal.nD,
      r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
      ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
      ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2)
      ∧ r.2.mem ((c.tc : Thread Cert.SwaIdeal.nD Cert.SwaIdeal.τ).loc Cert.SwaIdeal.main_arg3) = m ((c.tc : Thread Cert.SwaIdeal.nD Cert.SwaIdeal.τ).loc Cert.SwaIdeal.main_arg3)
      ∧ r.2.mem ((c.tc : Thread Cert.SwaIdeal.nD Cert.SwaIdeal.τ).loc Cert.SwaIdeal.main_arg4) = m ((c.tc : Thread Cert.SwaIdeal.nD Cert.SwaIdeal.τ).loc Cert.SwaIdeal.main_arg4)
      ∧ r.2.mem ((c.tc : Thread Cert.SwaIdeal.nD Cert.SwaIdeal.τ).loc Cert.SwaIdeal.main_arg5) = m ((c.tc : Thread Cert.SwaIdeal.nD Cert.SwaIdeal.τ).loc Cert.SwaIdeal.main_arg5))
      ∧ r.2.sem = fun _ => 0)

def quiescent_Fgc [hFgc : Cert.Fgc.Facts] : Prop :=
  ∀ (m : (ℓ : Loc Cert.Fgc.nD Cert.Fgc.τ Cert.Fgc.sig) → Buf (Elt Bits) ℓ) (g : Dev Cert.Fgc.nD → PrngReg), Pre_Fgc m →
    θ_run (Cert.Fgc.defs (F := Bits)) (onTc (τ := Cert.Fgc.τ) (Cert.Fgc.main (F := Bits))) ⟨m, fun _ => 0, g⟩ (fun r => (∀ c : Dev Cert.Fgc.nD,
      r.2.mem ((c.tc : Thread Cert.Fgc.nD Cert.Fgc.τ).loc Cert.Fgc.main_arg0) = m ((c.tc : Thread Cert.Fgc.nD Cert.Fgc.τ).loc Cert.Fgc.main_arg0)
      ∧ r.2.mem ((c.tc : Thread Cert.Fgc.nD Cert.Fgc.τ).loc Cert.Fgc.main_arg1) = m ((c.tc : Thread Cert.Fgc.nD Cert.Fgc.τ).loc Cert.Fgc.main_arg1)
      ∧ r.2.mem ((c.tc : Thread Cert.Fgc.nD Cert.Fgc.τ).loc Cert.Fgc.main_arg2) = m ((c.tc : Thread Cert.Fgc.nD Cert.Fgc.τ).loc Cert.Fgc.main_arg2))
      ∧ r.2.sem = fun _ => 0)

def quiescent_FgcIdeal [hFgcIdeal : Cert.FgcIdeal.Facts] : Prop :=
  ∀ (m : (ℓ : Loc Cert.FgcIdeal.nD Cert.FgcIdeal.τ Cert.FgcIdeal.sig) → Buf (Elt Ideal) ℓ) (g : Dev Cert.FgcIdeal.nD → PrngReg), Pre_FgcIdeal m →
    θ_run (Cert.FgcIdeal.defs (F := Ideal)) (onTc (τ := Cert.FgcIdeal.τ) (Cert.FgcIdeal.main (F := Ideal))) ⟨m, fun _ => 0, g⟩ (fun r => (∀ c : Dev Cert.FgcIdeal.nD,
      r.2.mem ((c.tc : Thread Cert.FgcIdeal.nD Cert.FgcIdeal.τ).loc Cert.FgcIdeal.main_arg0) = m ((c.tc : Thread Cert.FgcIdeal.nD Cert.FgcIdeal.τ).loc Cert.FgcIdeal.main_arg0)
      ∧ r.2.mem ((c.tc : Thread Cert.FgcIdeal.nD Cert.FgcIdeal.τ).loc Cert.FgcIdeal.main_arg1) = m ((c.tc : Thread Cert.FgcIdeal.nD Cert.FgcIdeal.τ).loc Cert.FgcIdeal.main_arg1)
      ∧ r.2.mem ((c.tc : Thread Cert.FgcIdeal.nD Cert.FgcIdeal.τ).loc Cert.FgcIdeal.main_arg2) = m ((c.tc : Thread Cert.FgcIdeal.nD Cert.FgcIdeal.τ).loc Cert.FgcIdeal.main_arg2))
      ∧ r.2.sem = fun _ => 0)

def quiescent_FgcRefIdeal [hFgcRefIdeal : Cert.FgcRefIdeal.Facts] : Prop :=
  ∀ (m : (ℓ : Loc Cert.FgcRefIdeal.nD Cert.FgcRefIdeal.τ Cert.FgcRefIdeal.sig) → Buf (Elt Ideal) ℓ) (g : Dev Cert.FgcRefIdeal.nD → PrngReg), Pre_FgcRefIdeal m →
    θ_run (Cert.FgcRefIdeal.defs (F := Ideal)) (onTc (τ := Cert.FgcRefIdeal.τ) (Cert.FgcRefIdeal.main (F := Ideal))) ⟨m, fun _ => 0, g⟩ (fun r => (∀ c : Dev Cert.FgcRefIdeal.nD,
      r.2.mem ((c.tc : Thread Cert.FgcRefIdeal.nD Cert.FgcRefIdeal.τ).loc Cert.FgcRefIdeal.main_arg0) = m ((c.tc : Thread Cert.FgcRefIdeal.nD Cert.FgcRefIdeal.τ).loc Cert.FgcRefIdeal.main_arg0)
      ∧ r.2.mem ((c.tc : Thread Cert.FgcRefIdeal.nD Cert.FgcRefIdeal.τ).loc Cert.FgcRefIdeal.main_arg1) = m ((c.tc : Thread Cert.FgcRefIdeal.nD Cert.FgcRefIdeal.τ).loc Cert.FgcRefIdeal.main_arg1)
      ∧ r.2.mem ((c.tc : Thread Cert.FgcRefIdeal.nD Cert.FgcRefIdeal.τ).loc Cert.FgcRefIdeal.main_arg2) = m ((c.tc : Thread Cert.FgcRefIdeal.nD Cert.FgcRefIdeal.τ).loc Cert.FgcRefIdeal.main_arg2))
      ∧ r.2.sem = fun _ => 0)

def quiescent_Pat [hPat : Cert.Pat.Facts] : Prop :=
  ∀ (m : (ℓ : Loc Cert.Pat.nD Cert.Pat.τ Cert.Pat.sig) → Buf (Elt Bits) ℓ) (g : Dev Cert.Pat.nD → PrngReg), Pre_Pat m →
    θ_run (Cert.Pat.defs (F := Bits)) (onTc (τ := Cert.Pat.τ) (Cert.Pat.main (F := Bits))) ⟨m, fun _ => 0, g⟩ (fun r => (∀ c : Dev Cert.Pat.nD,
      r.2.mem ((c.tc : Thread Cert.Pat.nD Cert.Pat.τ).loc Cert.Pat.main_arg0) = m ((c.tc : Thread Cert.Pat.nD Cert.Pat.τ).loc Cert.Pat.main_arg0)
      ∧ r.2.mem ((c.tc : Thread Cert.Pat.nD Cert.Pat.τ).loc Cert.Pat.main_arg1) = m ((c.tc : Thread Cert.Pat.nD Cert.Pat.τ).loc Cert.Pat.main_arg1)
      ∧ r.2.mem ((c.tc : Thread Cert.Pat.nD Cert.Pat.τ).loc Cert.Pat.main_arg2) = m ((c.tc : Thread Cert.Pat.nD Cert.Pat.τ).loc Cert.Pat.main_arg2)
      ∧ r.2.mem ((c.tc : Thread Cert.Pat.nD Cert.Pat.τ).loc Cert.Pat.main_arg3) = m ((c.tc : Thread Cert.Pat.nD Cert.Pat.τ).loc Cert.Pat.main_arg3)
      ∧ r.2.mem ((c.tc : Thread Cert.Pat.nD Cert.Pat.τ).loc Cert.Pat.main_arg4) = m ((c.tc : Thread Cert.Pat.nD Cert.Pat.τ).loc Cert.Pat.main_arg4)
      ∧ r.2.mem ((c.tc : Thread Cert.Pat.nD Cert.Pat.τ).loc Cert.Pat.main_arg5) = m ((c.tc : Thread Cert.Pat.nD Cert.Pat.τ).loc Cert.Pat.main_arg5))
      ∧ r.2.sem = fun _ => 0)

def quiescent_PatIdeal [hPatIdeal : Cert.PatIdeal.Facts] : Prop :=
  ∀ (m : (ℓ : Loc Cert.PatIdeal.nD Cert.PatIdeal.τ Cert.PatIdeal.sig) → Buf (Elt Ideal) ℓ) (g : Dev Cert.PatIdeal.nD → PrngReg), Pre_PatIdeal m →
    θ_run (Cert.PatIdeal.defs (F := Ideal)) (onTc (τ := Cert.PatIdeal.τ) (Cert.PatIdeal.main (F := Ideal))) ⟨m, fun _ => 0, g⟩ (fun r => (∀ c : Dev Cert.PatIdeal.nD,
      r.2.mem ((c.tc : Thread Cert.PatIdeal.nD Cert.PatIdeal.τ).loc Cert.PatIdeal.main_arg0) = m ((c.tc : Thread Cert.PatIdeal.nD Cert.PatIdeal.τ).loc Cert.PatIdeal.main_arg0)
      ∧ r.2.mem ((c.tc : Thread Cert.PatIdeal.nD Cert.PatIdeal.τ).loc Cert.PatIdeal.main_arg1) = m ((c.tc : Thread Cert.PatIdeal.nD Cert.PatIdeal.τ).loc Cert.PatIdeal.main_arg1)
      ∧ r.2.mem ((c.tc : Thread Cert.PatIdeal.nD Cert.PatIdeal.τ).loc Cert.PatIdeal.main_arg2) = m ((c.tc : Thread Cert.PatIdeal.nD Cert.PatIdeal.τ).loc Cert.PatIdeal.main_arg2)
      ∧ r.2.mem ((c.tc : Thread Cert.PatIdeal.nD Cert.PatIdeal.τ).loc Cert.PatIdeal.main_arg3) = m ((c.tc : Thread Cert.PatIdeal.nD Cert.PatIdeal.τ).loc Cert.PatIdeal.main_arg3)
      ∧ r.2.mem ((c.tc : Thread Cert.PatIdeal.nD Cert.PatIdeal.τ).loc Cert.PatIdeal.main_arg4) = m ((c.tc : Thread Cert.PatIdeal.nD Cert.PatIdeal.τ).loc Cert.PatIdeal.main_arg4)
      ∧ r.2.mem ((c.tc : Thread Cert.PatIdeal.nD Cert.PatIdeal.τ).loc Cert.PatIdeal.main_arg5) = m ((c.tc : Thread Cert.PatIdeal.nD Cert.PatIdeal.τ).loc Cert.PatIdeal.main_arg5))
      ∧ r.2.sem = fun _ => 0)

def quiescent_PatRefIdeal [hPatRefIdeal : Cert.PatRefIdeal.Facts] : Prop :=
  ∀ (m : (ℓ : Loc Cert.PatRefIdeal.nD Cert.PatRefIdeal.τ Cert.PatRefIdeal.sig) → Buf (Elt Ideal) ℓ) (g : Dev Cert.PatRefIdeal.nD → PrngReg), Pre_PatRefIdeal m →
    θ_run (Cert.PatRefIdeal.defs (F := Ideal)) (onTc (τ := Cert.PatRefIdeal.τ) (Cert.PatRefIdeal.main (F := Ideal))) ⟨m, fun _ => 0, g⟩ (fun r => (∀ c : Dev Cert.PatRefIdeal.nD,
      r.2.mem ((c.tc : Thread Cert.PatRefIdeal.nD Cert.PatRefIdeal.τ).loc Cert.PatRefIdeal.main_arg0) = m ((c.tc : Thread Cert.PatRefIdeal.nD Cert.PatRefIdeal.τ).loc Cert.PatRefIdeal.main_arg0)
      ∧ r.2.mem ((c.tc : Thread Cert.PatRefIdeal.nD Cert.PatRefIdeal.τ).loc Cert.PatRefIdeal.main_arg1) = m ((c.tc : Thread Cert.PatRefIdeal.nD Cert.PatRefIdeal.τ).loc Cert.PatRefIdeal.main_arg1)
      ∧ r.2.mem ((c.tc : Thread Cert.PatRefIdeal.nD Cert.PatRefIdeal.τ).loc Cert.PatRefIdeal.main_arg2) = m ((c.tc : Thread Cert.PatRefIdeal.nD Cert.PatRefIdeal.τ).loc Cert.PatRefIdeal.main_arg2)
      ∧ r.2.mem ((c.tc : Thread Cert.PatRefIdeal.nD Cert.PatRefIdeal.τ).loc Cert.PatRefIdeal.main_arg3) = m ((c.tc : Thread Cert.PatRefIdeal.nD Cert.PatRefIdeal.τ).loc Cert.PatRefIdeal.main_arg3)
      ∧ r.2.mem ((c.tc : Thread Cert.PatRefIdeal.nD Cert.PatRefIdeal.τ).loc Cert.PatRefIdeal.main_arg4) = m ((c.tc : Thread Cert.PatRefIdeal.nD Cert.PatRefIdeal.τ).loc Cert.PatRefIdeal.main_arg4)
      ∧ r.2.mem ((c.tc : Thread Cert.PatRefIdeal.nD Cert.PatRefIdeal.τ).loc Cert.PatRefIdeal.main_arg5) = m ((c.tc : Thread Cert.PatRefIdeal.nD Cert.PatRefIdeal.τ).loc Cert.PatRefIdeal.main_arg5))
      ∧ r.2.sem = fun _ => 0)

def quiescent_Mlf [hMlf : Cert.Mlf.Facts] : Prop :=
  ∀ (m : (ℓ : Loc Cert.Mlf.nD Cert.Mlf.τ Cert.Mlf.sig) → Buf (Elt Bits) ℓ) (g : Dev Cert.Mlf.nD → PrngReg), Pre_Mlf m →
    θ_run (Cert.Mlf.defs (F := Bits)) (onTc (τ := Cert.Mlf.τ) (Cert.Mlf.main (F := Bits))) ⟨m, fun _ => 0, g⟩ (fun r => (∀ c : Dev Cert.Mlf.nD,
      r.2.mem ((c.tc : Thread Cert.Mlf.nD Cert.Mlf.τ).loc Cert.Mlf.main_arg0) = m ((c.tc : Thread Cert.Mlf.nD Cert.Mlf.τ).loc Cert.Mlf.main_arg0)
      ∧ r.2.mem ((c.tc : Thread Cert.Mlf.nD Cert.Mlf.τ).loc Cert.Mlf.main_arg1) = m ((c.tc : Thread Cert.Mlf.nD Cert.Mlf.τ).loc Cert.Mlf.main_arg1)
      ∧ r.2.mem ((c.tc : Thread Cert.Mlf.nD Cert.Mlf.τ).loc Cert.Mlf.main_arg2) = m ((c.tc : Thread Cert.Mlf.nD Cert.Mlf.τ).loc Cert.Mlf.main_arg2)
      ∧ r.2.mem ((c.tc : Thread Cert.Mlf.nD Cert.Mlf.τ).loc Cert.Mlf.main_arg3) = m ((c.tc : Thread Cert.Mlf.nD Cert.Mlf.τ).loc Cert.Mlf.main_arg3)
      ∧ r.2.mem ((c.tc : Thread Cert.Mlf.nD Cert.Mlf.τ).loc Cert.Mlf.main_arg4) = m ((c.tc : Thread Cert.Mlf.nD Cert.Mlf.τ).loc Cert.Mlf.main_arg4))
      ∧ r.2.sem = fun _ => 0)

def quiescent_MlfIdeal [hMlfIdeal : Cert.MlfIdeal.Facts] : Prop :=
  ∀ (m : (ℓ : Loc Cert.MlfIdeal.nD Cert.MlfIdeal.τ Cert.MlfIdeal.sig) → Buf (Elt Ideal) ℓ) (g : Dev Cert.MlfIdeal.nD → PrngReg), Pre_MlfIdeal m →
    θ_run (Cert.MlfIdeal.defs (F := Ideal)) (onTc (τ := Cert.MlfIdeal.τ) (Cert.MlfIdeal.main (F := Ideal))) ⟨m, fun _ => 0, g⟩ (fun r => (∀ c : Dev Cert.MlfIdeal.nD,
      r.2.mem ((c.tc : Thread Cert.MlfIdeal.nD Cert.MlfIdeal.τ).loc Cert.MlfIdeal.main_arg0) = m ((c.tc : Thread Cert.MlfIdeal.nD Cert.MlfIdeal.τ).loc Cert.MlfIdeal.main_arg0)
      ∧ r.2.mem ((c.tc : Thread Cert.MlfIdeal.nD Cert.MlfIdeal.τ).loc Cert.MlfIdeal.main_arg1) = m ((c.tc : Thread Cert.MlfIdeal.nD Cert.MlfIdeal.τ).loc Cert.MlfIdeal.main_arg1)
      ∧ r.2.mem ((c.tc : Thread Cert.MlfIdeal.nD Cert.MlfIdeal.τ).loc Cert.MlfIdeal.main_arg2) = m ((c.tc : Thread Cert.MlfIdeal.nD Cert.MlfIdeal.τ).loc Cert.MlfIdeal.main_arg2)
      ∧ r.2.mem ((c.tc : Thread Cert.MlfIdeal.nD Cert.MlfIdeal.τ).loc Cert.MlfIdeal.main_arg3) = m ((c.tc : Thread Cert.MlfIdeal.nD Cert.MlfIdeal.τ).loc Cert.MlfIdeal.main_arg3)
      ∧ r.2.mem ((c.tc : Thread Cert.MlfIdeal.nD Cert.MlfIdeal.τ).loc Cert.MlfIdeal.main_arg4) = m ((c.tc : Thread Cert.MlfIdeal.nD Cert.MlfIdeal.τ).loc Cert.MlfIdeal.main_arg4))
      ∧ r.2.sem = fun _ => 0)

def quiescent_MlfRefIdeal [hMlfRefIdeal : Cert.MlfRefIdeal.Facts] : Prop :=
  ∀ (m : (ℓ : Loc Cert.MlfRefIdeal.nD Cert.MlfRefIdeal.τ Cert.MlfRefIdeal.sig) → Buf (Elt Ideal) ℓ) (g : Dev Cert.MlfRefIdeal.nD → PrngReg), Pre_MlfRefIdeal m →
    θ_run (Cert.MlfRefIdeal.defs (F := Ideal)) (onTc (τ := Cert.MlfRefIdeal.τ) (Cert.MlfRefIdeal.main (F := Ideal))) ⟨m, fun _ => 0, g⟩ (fun r => (∀ c : Dev Cert.MlfRefIdeal.nD,
      r.2.mem ((c.tc : Thread Cert.MlfRefIdeal.nD Cert.MlfRefIdeal.τ).loc Cert.MlfRefIdeal.main_arg0) = m ((c.tc : Thread Cert.MlfRefIdeal.nD Cert.MlfRefIdeal.τ).loc Cert.MlfRefIdeal.main_arg0)
      ∧ r.2.mem ((c.tc : Thread Cert.MlfRefIdeal.nD Cert.MlfRefIdeal.τ).loc Cert.MlfRefIdeal.main_arg1) = m ((c.tc : Thread Cert.MlfRefIdeal.nD Cert.MlfRefIdeal.τ).loc Cert.MlfRefIdeal.main_arg1)
      ∧ r.2.mem ((c.tc : Thread Cert.MlfRefIdeal.nD Cert.MlfRefIdeal.τ).loc Cert.MlfRefIdeal.main_arg2) = m ((c.tc : Thread Cert.MlfRefIdeal.nD Cert.MlfRefIdeal.τ).loc Cert.MlfRefIdeal.main_arg2)
      ∧ r.2.mem ((c.tc : Thread Cert.MlfRefIdeal.nD Cert.MlfRefIdeal.τ).loc Cert.MlfRefIdeal.main_arg3) = m ((c.tc : Thread Cert.MlfRefIdeal.nD Cert.MlfRefIdeal.τ).loc Cert.MlfRefIdeal.main_arg3)
      ∧ r.2.mem ((c.tc : Thread Cert.MlfRefIdeal.nD Cert.MlfRefIdeal.τ).loc Cert.MlfRefIdeal.main_arg4) = m ((c.tc : Thread Cert.MlfRefIdeal.nD Cert.MlfRefIdeal.τ).loc Cert.MlfRefIdeal.main_arg4))
      ∧ r.2.sem = fun _ => 0)

def quiescent_Pra [hPra : Cert.Pra.Facts] : Prop :=
  ∀ (m : (ℓ : Loc Cert.Pra.nD Cert.Pra.τ Cert.Pra.sig) → Buf (Elt Bits) ℓ) (g : Dev Cert.Pra.nD → PrngReg), Pre_Pra m →
    θ_run (Cert.Pra.defs (F := Bits)) (onTc (τ := Cert.Pra.τ) (Cert.Pra.main (F := Bits))) ⟨m, fun _ => 0, g⟩ (fun r => (∀ c : Dev Cert.Pra.nD,
      r.2.mem ((c.tc : Thread Cert.Pra.nD Cert.Pra.τ).loc Cert.Pra.main_arg0) = m ((c.tc : Thread Cert.Pra.nD Cert.Pra.τ).loc Cert.Pra.main_arg0)
      ∧ r.2.mem ((c.tc : Thread Cert.Pra.nD Cert.Pra.τ).loc Cert.Pra.main_arg1) = m ((c.tc : Thread Cert.Pra.nD Cert.Pra.τ).loc Cert.Pra.main_arg1)
      ∧ r.2.mem ((c.tc : Thread Cert.Pra.nD Cert.Pra.τ).loc Cert.Pra.main_arg2) = m ((c.tc : Thread Cert.Pra.nD Cert.Pra.τ).loc Cert.Pra.main_arg2))
      ∧ r.2.sem = fun _ => 0)

def quiescent_PraIdeal [hPraIdeal : Cert.PraIdeal.Facts] : Prop :=
  ∀ (m : (ℓ : Loc Cert.PraIdeal.nD Cert.PraIdeal.τ Cert.PraIdeal.sig) → Buf (Elt Ideal) ℓ) (g : Dev Cert.PraIdeal.nD → PrngReg), Pre_PraIdeal m →
    θ_run (Cert.PraIdeal.defs (F := Ideal)) (onTc (τ := Cert.PraIdeal.τ) (Cert.PraIdeal.main (F := Ideal))) ⟨m, fun _ => 0, g⟩ (fun r => (∀ c : Dev Cert.PraIdeal.nD,
      r.2.mem ((c.tc : Thread Cert.PraIdeal.nD Cert.PraIdeal.τ).loc Cert.PraIdeal.main_arg0) = m ((c.tc : Thread Cert.PraIdeal.nD Cert.PraIdeal.τ).loc Cert.PraIdeal.main_arg0)
      ∧ r.2.mem ((c.tc : Thread Cert.PraIdeal.nD Cert.PraIdeal.τ).loc Cert.PraIdeal.main_arg1) = m ((c.tc : Thread Cert.PraIdeal.nD Cert.PraIdeal.τ).loc Cert.PraIdeal.main_arg1)
      ∧ r.2.mem ((c.tc : Thread Cert.PraIdeal.nD Cert.PraIdeal.τ).loc Cert.PraIdeal.main_arg2) = m ((c.tc : Thread Cert.PraIdeal.nD Cert.PraIdeal.τ).loc Cert.PraIdeal.main_arg2))
      ∧ r.2.sem = fun _ => 0)

def quiescent_PraRefIdeal [hPraRefIdeal : Cert.PraRefIdeal.Facts] : Prop :=
  ∀ (m : (ℓ : Loc Cert.PraRefIdeal.nD Cert.PraRefIdeal.τ Cert.PraRefIdeal.sig) → Buf (Elt Ideal) ℓ) (g : Dev Cert.PraRefIdeal.nD → PrngReg), Pre_PraRefIdeal m →
    θ_run (Cert.PraRefIdeal.defs (F := Ideal)) (onTc (τ := Cert.PraRefIdeal.τ) (Cert.PraRefIdeal.main (F := Ideal))) ⟨m, fun _ => 0, g⟩ (fun r => (∀ c : Dev Cert.PraRefIdeal.nD,
      r.2.mem ((c.tc : Thread Cert.PraRefIdeal.nD Cert.PraRefIdeal.τ).loc Cert.PraRefIdeal.main_arg0) = m ((c.tc : Thread Cert.PraRefIdeal.nD Cert.PraRefIdeal.τ).loc Cert.PraRefIdeal.main_arg0)
      ∧ r.2.mem ((c.tc : Thread Cert.PraRefIdeal.nD Cert.PraRefIdeal.τ).loc Cert.PraRefIdeal.main_arg1) = m ((c.tc : Thread Cert.PraRefIdeal.nD Cert.PraRefIdeal.τ).loc Cert.PraRefIdeal.main_arg1)
      ∧ r.2.mem ((c.tc : Thread Cert.PraRefIdeal.nD Cert.PraRefIdeal.τ).loc Cert.PraRefIdeal.main_arg2) = m ((c.tc : Thread Cert.PraRefIdeal.nD Cert.PraRefIdeal.τ).loc Cert.PraRefIdeal.main_arg2))
      ∧ r.2.sem = fun _ => 0)

def preserves_Forget_ForgetIdeal : Prop :=
  True

def algebraic_ForgetIdeal_ForgetRefIdeal [hForgetIdeal : Cert.ForgetIdeal.Facts] [hForgetRefIdeal : Cert.ForgetRefIdeal.Facts] : Prop :=
  ∀ (m : (ℓ : Loc Cert.ForgetIdeal.nD Cert.ForgetIdeal.τ Cert.ForgetIdeal.sig) → Buf (Elt Ideal) ℓ) (g : Dev Cert.ForgetIdeal.nD → PrngReg)
    (m' : (ℓ : Loc Cert.ForgetRefIdeal.nD Cert.ForgetRefIdeal.τ Cert.ForgetRefIdeal.sig) → Buf (Elt Ideal) ℓ) (g' : Dev Cert.ForgetRefIdeal.nD → PrngReg), Pre_ForgetIdeal m →
    (∀ c : Dev Cert.ForgetIdeal.nD,
      m' ((c.tc : Thread Cert.ForgetRefIdeal.nD Cert.ForgetRefIdeal.τ).loc Cert.ForgetRefIdeal.main_arg0) = m ((c.tc : Thread Cert.ForgetIdeal.nD Cert.ForgetIdeal.τ).loc Cert.ForgetIdeal.main_arg0)
      ∧ m' ((c.tc : Thread Cert.ForgetRefIdeal.nD Cert.ForgetRefIdeal.τ).loc Cert.ForgetRefIdeal.main_arg1) = m ((c.tc : Thread Cert.ForgetIdeal.nD Cert.ForgetIdeal.τ).loc Cert.ForgetIdeal.main_arg1)
      ∧ m' ((c.tc : Thread Cert.ForgetRefIdeal.nD Cert.ForgetRefIdeal.τ).loc Cert.ForgetRefIdeal.main_arg2) = m ((c.tc : Thread Cert.ForgetIdeal.nD Cert.ForgetIdeal.τ).loc Cert.ForgetIdeal.main_arg2)
      ∧ m' ((c.tc : Thread Cert.ForgetRefIdeal.nD Cert.ForgetRefIdeal.τ).loc Cert.ForgetRefIdeal.main_arg3) = m ((c.tc : Thread Cert.ForgetIdeal.nD Cert.ForgetIdeal.τ).loc Cert.ForgetIdeal.main_arg3)) →
    ∃ (v0 : (c : Dev Cert.ForgetIdeal.nD) → Buf (Elt Ideal) ((c.tc : Thread Cert.ForgetIdeal.nD Cert.ForgetIdeal.τ).loc Cert.ForgetIdeal.main_v8_0)) (v1 : (c : Dev Cert.ForgetIdeal.nD) → Buf (Elt Ideal) ((c.tc : Thread Cert.ForgetIdeal.nD Cert.ForgetIdeal.τ).loc Cert.ForgetIdeal.main_v8_1)) (v2 : (c : Dev Cert.ForgetIdeal.nD) → Buf (Elt Ideal) ((c.tc : Thread Cert.ForgetIdeal.nD Cert.ForgetIdeal.τ).loc Cert.ForgetIdeal.main_v8_2)),
      θ_run (Cert.ForgetIdeal.defs (F := Ideal)) (onTc (τ := Cert.ForgetIdeal.τ) (Cert.ForgetIdeal.main (F := Ideal))) ⟨m, fun _ => 0, g⟩ (fun r => ∀ c : Dev Cert.ForgetIdeal.nD,
          r.2.mem ((c.tc : Thread Cert.ForgetIdeal.nD Cert.ForgetIdeal.τ).loc Cert.ForgetIdeal.main_v8_0) = v0 c
          ∧ r.2.mem ((c.tc : Thread Cert.ForgetIdeal.nD Cert.ForgetIdeal.τ).loc Cert.ForgetIdeal.main_v8_1) = v1 c
          ∧ r.2.mem ((c.tc : Thread Cert.ForgetIdeal.nD Cert.ForgetIdeal.τ).loc Cert.ForgetIdeal.main_v8_2) = v2 c
          ∧ r.2.mem ((c.tc : Thread Cert.ForgetIdeal.nD Cert.ForgetIdeal.τ).loc Cert.ForgetIdeal.main_arg0) = m ((c.tc : Thread Cert.ForgetIdeal.nD Cert.ForgetIdeal.τ).loc Cert.ForgetIdeal.main_arg0)
          ∧ r.2.mem ((c.tc : Thread Cert.ForgetIdeal.nD Cert.ForgetIdeal.τ).loc Cert.ForgetIdeal.main_arg1) = m ((c.tc : Thread Cert.ForgetIdeal.nD Cert.ForgetIdeal.τ).loc Cert.ForgetIdeal.main_arg1)
          ∧ r.2.mem ((c.tc : Thread Cert.ForgetIdeal.nD Cert.ForgetIdeal.τ).loc Cert.ForgetIdeal.main_arg2) = m ((c.tc : Thread Cert.ForgetIdeal.nD Cert.ForgetIdeal.τ).loc Cert.ForgetIdeal.main_arg2)
          ∧ r.2.mem ((c.tc : Thread Cert.ForgetIdeal.nD Cert.ForgetIdeal.τ).loc Cert.ForgetIdeal.main_arg3) = m ((c.tc : Thread Cert.ForgetIdeal.nD Cert.ForgetIdeal.τ).loc Cert.ForgetIdeal.main_arg3))
      ∧ θ_run (Cert.ForgetRefIdeal.defs (F := Ideal)) (onTc (τ := Cert.ForgetRefIdeal.τ) (Cert.ForgetRefIdeal.main (F := Ideal))) ⟨m', fun _ => 0, g'⟩ (fun r => ∀ c : Dev Cert.ForgetRefIdeal.nD,
          r.2.mem ((c.tc : Thread Cert.ForgetRefIdeal.nD Cert.ForgetRefIdeal.τ).loc Cert.ForgetRefIdeal.main_v15) = v0 c
          ∧ r.2.mem ((c.tc : Thread Cert.ForgetRefIdeal.nD Cert.ForgetRefIdeal.τ).loc Cert.ForgetRefIdeal.main_v17) = v1 c
          ∧ r.2.mem ((c.tc : Thread Cert.ForgetRefIdeal.nD Cert.ForgetRefIdeal.τ).loc Cert.ForgetRefIdeal.main_v19) = v2 c
          ∧ r.2.mem ((c.tc : Thread Cert.ForgetRefIdeal.nD Cert.ForgetRefIdeal.τ).loc Cert.ForgetRefIdeal.main_arg0) = m' ((c.tc : Thread Cert.ForgetRefIdeal.nD Cert.ForgetRefIdeal.τ).loc Cert.ForgetRefIdeal.main_arg0)
          ∧ r.2.mem ((c.tc : Thread Cert.ForgetRefIdeal.nD Cert.ForgetRefIdeal.τ).loc Cert.ForgetRefIdeal.main_arg1) = m' ((c.tc : Thread Cert.ForgetRefIdeal.nD Cert.ForgetRefIdeal.τ).loc Cert.ForgetRefIdeal.main_arg1)
          ∧ r.2.mem ((c.tc : Thread Cert.ForgetRefIdeal.nD Cert.ForgetRefIdeal.τ).loc Cert.ForgetRefIdeal.main_arg2) = m' ((c.tc : Thread Cert.ForgetRefIdeal.nD Cert.ForgetRefIdeal.τ).loc Cert.ForgetRefIdeal.main_arg2)
          ∧ r.2.mem ((c.tc : Thread Cert.ForgetRefIdeal.nD Cert.ForgetRefIdeal.τ).loc Cert.ForgetRefIdeal.main_arg3) = m' ((c.tc : Thread Cert.ForgetRefIdeal.nD Cert.ForgetRefIdeal.τ).loc Cert.ForgetRefIdeal.main_arg3))

def preserves_Fox_FoxIdeal : Prop :=
  True

def algebraic_FoxIdeal_FoxRefIdeal_pre_fox_finite [hFoxIdeal : Cert.FoxIdeal.Facts] [hFoxRefIdeal : Cert.FoxRefIdeal.Facts] [hPre_fox_finite : Cert.Pre_fox_finite.Facts] : Prop :=
  ∀ (m : (ℓ : Loc Cert.FoxIdeal.nD Cert.FoxIdeal.τ Cert.FoxIdeal.sig) → Buf (Elt Ideal) ℓ) (g : Dev Cert.FoxIdeal.nD → PrngReg)
    (m' : (ℓ : Loc Cert.FoxRefIdeal.nD Cert.FoxRefIdeal.τ Cert.FoxRefIdeal.sig) → Buf (Elt Ideal) ℓ) (g' : Dev Cert.FoxRefIdeal.nD → PrngReg), Pre_FoxIdeal_fox_finite m →
    (∀ c : Dev Cert.FoxIdeal.nD,
      m' ((c.tc : Thread Cert.FoxRefIdeal.nD Cert.FoxRefIdeal.τ).loc Cert.FoxRefIdeal.main_arg0) = m ((c.tc : Thread Cert.FoxIdeal.nD Cert.FoxIdeal.τ).loc Cert.FoxIdeal.main_arg0)
      ∧ m' ((c.tc : Thread Cert.FoxRefIdeal.nD Cert.FoxRefIdeal.τ).loc Cert.FoxRefIdeal.main_arg1) = m ((c.tc : Thread Cert.FoxIdeal.nD Cert.FoxIdeal.τ).loc Cert.FoxIdeal.main_arg1)
      ∧ m' ((c.tc : Thread Cert.FoxRefIdeal.nD Cert.FoxRefIdeal.τ).loc Cert.FoxRefIdeal.main_arg2) = m ((c.tc : Thread Cert.FoxIdeal.nD Cert.FoxIdeal.τ).loc Cert.FoxIdeal.main_arg2)
      ∧ m' ((c.tc : Thread Cert.FoxRefIdeal.nD Cert.FoxRefIdeal.τ).loc Cert.FoxRefIdeal.main_arg3) = m ((c.tc : Thread Cert.FoxIdeal.nD Cert.FoxIdeal.τ).loc Cert.FoxIdeal.main_arg3)
      ∧ m' ((c.tc : Thread Cert.FoxRefIdeal.nD Cert.FoxRefIdeal.τ).loc Cert.FoxRefIdeal.main_arg4) = m ((c.tc : Thread Cert.FoxIdeal.nD Cert.FoxIdeal.τ).loc Cert.FoxIdeal.main_arg4)) →
    ∃ (v0 : (c : Dev Cert.FoxIdeal.nD) → Buf (Elt Ideal) ((c.tc : Thread Cert.FoxIdeal.nD Cert.FoxIdeal.τ).loc Cert.FoxIdeal.main_v45_0)) (v1 : (c : Dev Cert.FoxIdeal.nD) → Buf (Elt Ideal) ((c.tc : Thread Cert.FoxIdeal.nD Cert.FoxIdeal.τ).loc Cert.FoxIdeal.main_v45_1)) (v2 : (c : Dev Cert.FoxIdeal.nD) → Buf (Elt Ideal) ((c.tc : Thread Cert.FoxIdeal.nD Cert.FoxIdeal.τ).loc Cert.FoxIdeal.main_v45_2)) (v3 : (c : Dev Cert.FoxIdeal.nD) → Buf (Elt Ideal) ((c.tc : Thread Cert.FoxIdeal.nD Cert.FoxIdeal.τ).loc Cert.FoxIdeal.main_v48)),
      θ_run (Cert.FoxIdeal.defs (F := Ideal)) (onTc (τ := Cert.FoxIdeal.τ) (Cert.FoxIdeal.main (F := Ideal))) ⟨m, fun _ => 0, g⟩ (fun r => ∀ c : Dev Cert.FoxIdeal.nD,
          r.2.mem ((c.tc : Thread Cert.FoxIdeal.nD Cert.FoxIdeal.τ).loc Cert.FoxIdeal.main_v45_0) = v0 c
          ∧ r.2.mem ((c.tc : Thread Cert.FoxIdeal.nD Cert.FoxIdeal.τ).loc Cert.FoxIdeal.main_v45_1) = v1 c
          ∧ r.2.mem ((c.tc : Thread Cert.FoxIdeal.nD Cert.FoxIdeal.τ).loc Cert.FoxIdeal.main_v45_2) = v2 c
          ∧ r.2.mem ((c.tc : Thread Cert.FoxIdeal.nD Cert.FoxIdeal.τ).loc Cert.FoxIdeal.main_v48) = v3 c
          ∧ r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
          ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
          ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
          ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3)
          ∧ r.2.mem ((c.tc : Thread Cert.FoxIdeal.nD Cert.FoxIdeal.τ).loc Cert.FoxIdeal.main_arg4) = m ((c.tc : Thread Cert.FoxIdeal.nD Cert.FoxIdeal.τ).loc Cert.FoxIdeal.main_arg4))
      ∧ θ_run (Cert.FoxRefIdeal.defs (F := Ideal)) (onTc (τ := Cert.FoxRefIdeal.τ) (Cert.FoxRefIdeal.main (F := Ideal))) ⟨m', fun _ => 0, g'⟩ (fun r => ∀ c : Dev Cert.FoxRefIdeal.nD,
          r.2.mem ((c.tc : Thread Cert.FoxRefIdeal.nD Cert.FoxRefIdeal.τ).loc Cert.FoxRefIdeal.main_v87) = v0 c
          ∧ r.2.mem ((c.tc : Thread Cert.FoxRefIdeal.nD Cert.FoxRefIdeal.τ).loc Cert.FoxRefIdeal.main_v88) = v1 c
          ∧ r.2.mem ((c.tc : Thread Cert.FoxRefIdeal.nD Cert.FoxRefIdeal.τ).loc Cert.FoxRefIdeal.main_v89) = v2 c
          ∧ r.2.mem ((c.tc : Thread Cert.FoxRefIdeal.nD Cert.FoxRefIdeal.τ).loc Cert.FoxRefIdeal.main_v90) = v3 c
          ∧ r.2.mem ((c.tc : Thread Cert.FoxRefIdeal.nD Cert.FoxRefIdeal.τ).loc Cert.FoxRefIdeal.main_arg0) = m' ((c.tc : Thread Cert.FoxRefIdeal.nD Cert.FoxRefIdeal.τ).loc Cert.FoxRefIdeal.main_arg0)
          ∧ r.2.mem ((c.tc : Thread Cert.FoxRefIdeal.nD Cert.FoxRefIdeal.τ).loc Cert.FoxRefIdeal.main_arg1) = m' ((c.tc : Thread Cert.FoxRefIdeal.nD Cert.FoxRefIdeal.τ).loc Cert.FoxRefIdeal.main_arg1)
          ∧ r.2.mem ((c.tc : Thread Cert.FoxRefIdeal.nD Cert.FoxRefIdeal.τ).loc Cert.FoxRefIdeal.main_arg2) = m' ((c.tc : Thread Cert.FoxRefIdeal.nD Cert.FoxRefIdeal.τ).loc Cert.FoxRefIdeal.main_arg2)
          ∧ r.2.mem ((c.tc : Thread Cert.FoxRefIdeal.nD Cert.FoxRefIdeal.τ).loc Cert.FoxRefIdeal.main_arg3) = m' ((c.tc : Thread Cert.FoxRefIdeal.nD Cert.FoxRefIdeal.τ).loc Cert.FoxRefIdeal.main_arg3)
          ∧ r.2.mem ((c.tc : Thread Cert.FoxRefIdeal.nD Cert.FoxRefIdeal.τ).loc Cert.FoxRefIdeal.main_arg4) = m' ((c.tc : Thread Cert.FoxRefIdeal.nD Cert.FoxRefIdeal.τ).loc Cert.FoxRefIdeal.main_arg4))

def preserves_Ple_PleIdeal : Prop :=
  True

def algebraic_PleIdeal_PleRefIdeal_pre_ple_finite [hPleIdeal : Cert.PleIdeal.Facts] [hPleRefIdeal : Cert.PleRefIdeal.Facts] [hPre_ple_finite : Cert.Pre_ple_finite.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal_ple_finite m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)
      ∧ m' ((c.tc : Thread Cert.PleRefIdeal.nD Cert.PleRefIdeal.τ).loc Cert.PleRefIdeal.main_arg2) = m ((c.tc : Thread Cert.PleIdeal.nD Cert.PleIdeal.τ).loc Cert.PleIdeal.main_arg2)
      ∧ m' ((c.tc : Thread Cert.PleRefIdeal.nD Cert.PleRefIdeal.τ).loc Cert.PleRefIdeal.main_arg3) = m ((c.tc : Thread Cert.PleIdeal.nD Cert.PleIdeal.τ).loc Cert.PleIdeal.main_arg3)
      ∧ m' ((c.tc : Thread Cert.PleRefIdeal.nD Cert.PleRefIdeal.τ).loc Cert.PleRefIdeal.main_arg4) = m ((c.tc : Thread Cert.PleIdeal.nD Cert.PleIdeal.τ).loc Cert.PleIdeal.main_arg4)
      ∧ m' ((c.tc : Thread Cert.PleRefIdeal.nD Cert.PleRefIdeal.τ).loc Cert.PleRefIdeal.main_arg5) = m ((c.tc : Thread Cert.PleIdeal.nD Cert.PleIdeal.τ).loc Cert.PleIdeal.main_arg5)) →
    ∃ (v0 : (c : Dev Cert.PleIdeal.nD) → Buf (Elt Ideal) ((c.tc : Thread Cert.PleIdeal.nD Cert.PleIdeal.τ).loc Cert.PleIdeal.main_v2_0)) (v1 : (c : Dev Cert.PleIdeal.nD) → Buf (Elt Ideal) ((c.tc : Thread Cert.PleIdeal.nD Cert.PleIdeal.τ).loc Cert.PleIdeal.main_v2_1)) (v2 : (c : Dev Cert.PleIdeal.nD) → Buf (Elt Ideal) ((c.tc : Thread Cert.PleIdeal.nD Cert.PleIdeal.τ).loc Cert.PleIdeal.main_v2_2)) (v3 : (c : Dev Cert.PleIdeal.nD) → Buf (Elt Ideal) ((c.tc : Thread Cert.PleIdeal.nD Cert.PleIdeal.τ).loc Cert.PleIdeal.main_v2_3)) (v4 : (c : Dev Cert.PleIdeal.nD) → Buf (Elt Ideal) ((c.tc : Thread Cert.PleIdeal.nD Cert.PleIdeal.τ).loc Cert.PleIdeal.main_v2_4)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v2_0) = v0 c
          ∧ r.2.mem ((c.tc : Thread Cert.PleIdeal.nD Cert.PleIdeal.τ).loc Cert.PleIdeal.main_v2_1) = v1 c
          ∧ r.2.mem ((c.tc : Thread Cert.PleIdeal.nD Cert.PleIdeal.τ).loc Cert.PleIdeal.main_v2_2) = v2 c
          ∧ r.2.mem ((c.tc : Thread Cert.PleIdeal.nD Cert.PleIdeal.τ).loc Cert.PleIdeal.main_v2_3) = v3 c
          ∧ r.2.mem ((c.tc : Thread Cert.PleIdeal.nD Cert.PleIdeal.τ).loc Cert.PleIdeal.main_v2_4) = v4 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
          ∧ r.2.mem ((c.tc : Thread Cert.PleIdeal.nD Cert.PleIdeal.τ).loc Cert.PleIdeal.main_arg5) = m ((c.tc : Thread Cert.PleIdeal.nD Cert.PleIdeal.τ).loc Cert.PleIdeal.main_arg5))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v66) = v0 c
          ∧ r.2.mem ((c.tc : Thread Cert.PleRefIdeal.nD Cert.PleRefIdeal.τ).loc Cert.PleRefIdeal.main_v67) = v1 c
          ∧ r.2.mem ((c.tc : Thread Cert.PleRefIdeal.nD Cert.PleRefIdeal.τ).loc Cert.PleRefIdeal.main_v68) = v2 c
          ∧ r.2.mem ((c.tc : Thread Cert.PleRefIdeal.nD Cert.PleRefIdeal.τ).loc Cert.PleRefIdeal.main_v45) = v3 c
          ∧ r.2.mem ((c.tc : Thread Cert.PleRefIdeal.nD Cert.PleRefIdeal.τ).loc Cert.PleRefIdeal.main_v69) = v4 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2)
          ∧ r.2.mem ((c.tc : Thread Cert.PleRefIdeal.nD Cert.PleRefIdeal.τ).loc Cert.PleRefIdeal.main_arg3) = m' ((c.tc : Thread Cert.PleRefIdeal.nD Cert.PleRefIdeal.τ).loc Cert.PleRefIdeal.main_arg3)
          ∧ r.2.mem ((c.tc : Thread Cert.PleRefIdeal.nD Cert.PleRefIdeal.τ).loc Cert.PleRefIdeal.main_arg4) = m' ((c.tc : Thread Cert.PleRefIdeal.nD Cert.PleRefIdeal.τ).loc Cert.PleRefIdeal.main_arg4)
          ∧ r.2.mem ((c.tc : Thread Cert.PleRefIdeal.nD Cert.PleRefIdeal.τ).loc Cert.PleRefIdeal.main_arg5) = m' ((c.tc : Thread Cert.PleRefIdeal.nD Cert.PleRefIdeal.τ).loc Cert.PleRefIdeal.main_arg5))

def preserves_Mlp_MlpIdeal : Prop :=
  True

def algebraic_MlpIdeal_MlpRefIdeal_pre_mlp_finite [hMlpIdeal : Cert.MlpIdeal.Facts] [hMlpRefIdeal : Cert.MlpRefIdeal.Facts] [hPre_mlp_finite : Cert.Pre_mlp_finite.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal_mlp_finite m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)
      ∧ m' ((c.tc : Thread Cert.MlpRefIdeal.nD Cert.MlpRefIdeal.τ).loc Cert.MlpRefIdeal.main_arg5) = m ((c.tc : Thread Cert.MlpIdeal.nD Cert.MlpIdeal.τ).loc Cert.MlpIdeal.main_arg5)) →
    ∃ (v0 : (c : Dev Cert.MlpIdeal.nD) → Buf (Elt Ideal) ((c.tc : Thread Cert.MlpIdeal.nD Cert.MlpIdeal.τ).loc Cert.MlpIdeal.main_v21_0)) (v1 : (c : Dev Cert.MlpIdeal.nD) → Buf (Elt Ideal) ((c.tc : Thread Cert.MlpIdeal.nD Cert.MlpIdeal.τ).loc Cert.MlpIdeal.main_v21_1)) (v2 : (c : Dev Cert.MlpIdeal.nD) → Buf (Elt Ideal) ((c.tc : Thread Cert.MlpIdeal.nD Cert.MlpIdeal.τ).loc Cert.MlpIdeal.main_v21_2)) (v3 : (c : Dev Cert.MlpIdeal.nD) → Buf (Elt Ideal) ((c.tc : Thread Cert.MlpIdeal.nD Cert.MlpIdeal.τ).loc Cert.MlpIdeal.main_v21_3)) (v4 : (c : Dev Cert.MlpIdeal.nD) → Buf (Elt Ideal) ((c.tc : Thread Cert.MlpIdeal.nD Cert.MlpIdeal.τ).loc Cert.MlpIdeal.main_v21_4)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v21_0) = v0 c
          ∧ r.2.mem ((c.tc : Thread Cert.MlpIdeal.nD Cert.MlpIdeal.τ).loc Cert.MlpIdeal.main_v21_1) = v1 c
          ∧ r.2.mem ((c.tc : Thread Cert.MlpIdeal.nD Cert.MlpIdeal.τ).loc Cert.MlpIdeal.main_v21_2) = v2 c
          ∧ r.2.mem ((c.tc : Thread Cert.MlpIdeal.nD Cert.MlpIdeal.τ).loc Cert.MlpIdeal.main_v21_3) = v3 c
          ∧ r.2.mem ((c.tc : Thread Cert.MlpIdeal.nD Cert.MlpIdeal.τ).loc Cert.MlpIdeal.main_v21_4) = v4 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v82) = v0 c
          ∧ r.2.mem ((c.tc : Thread Cert.MlpRefIdeal.nD Cert.MlpRefIdeal.τ).loc Cert.MlpRefIdeal.main_v83) = v1 c
          ∧ r.2.mem ((c.tc : Thread Cert.MlpRefIdeal.nD Cert.MlpRefIdeal.τ).loc Cert.MlpRefIdeal.main_v84) = v2 c
          ∧ r.2.mem ((c.tc : Thread Cert.MlpRefIdeal.nD Cert.MlpRefIdeal.τ).loc Cert.MlpRefIdeal.main_v41) = v3 c
          ∧ r.2.mem ((c.tc : Thread Cert.MlpRefIdeal.nD Cert.MlpRefIdeal.τ).loc Cert.MlpRefIdeal.main_v65) = v4 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4)
          ∧ r.2.mem ((c.tc : Thread Cert.MlpRefIdeal.nD Cert.MlpRefIdeal.τ).loc Cert.MlpRefIdeal.main_arg5) = m' ((c.tc : Thread Cert.MlpRefIdeal.nD Cert.MlpRefIdeal.τ).loc Cert.MlpRefIdeal.main_arg5))

def preserves_Aob_AobIdeal : Prop :=
  True

def algebraic_AobIdeal_AobRefIdeal_pre_aob_finite [hAobIdeal : Cert.AobIdeal.Facts] [hAobRefIdeal : Cert.AobRefIdeal.Facts] [hPre_aob_finite : Cert.Pre_aob_finite.Facts] : Prop :=
  ∀ (m : (ℓ : Loc Cert.AobIdeal.nD Cert.AobIdeal.τ Cert.AobIdeal.sig) → Buf (Elt Ideal) ℓ) (g : Dev Cert.AobIdeal.nD → PrngReg)
    (m' : (ℓ : Loc Cert.AobRefIdeal.nD Cert.AobRefIdeal.τ Cert.AobRefIdeal.sig) → Buf (Elt Ideal) ℓ) (g' : Dev Cert.AobRefIdeal.nD → PrngReg), Pre_AobIdeal_aob_finite m →
    (∀ c : Dev Cert.AobIdeal.nD,
      m' ((c.tc : Thread Cert.AobRefIdeal.nD Cert.AobRefIdeal.τ).loc Cert.AobRefIdeal.main_arg0) = m ((c.tc : Thread Cert.AobIdeal.nD Cert.AobIdeal.τ).loc Cert.AobIdeal.main_arg0)
      ∧ m' ((c.tc : Thread Cert.AobRefIdeal.nD Cert.AobRefIdeal.τ).loc Cert.AobRefIdeal.main_arg1) = m ((c.tc : Thread Cert.AobIdeal.nD Cert.AobIdeal.τ).loc Cert.AobIdeal.main_arg1)
      ∧ m' ((c.tc : Thread Cert.AobRefIdeal.nD Cert.AobRefIdeal.τ).loc Cert.AobRefIdeal.main_arg2) = m ((c.tc : Thread Cert.AobIdeal.nD Cert.AobIdeal.τ).loc Cert.AobIdeal.main_arg2)
      ∧ m' ((c.tc : Thread Cert.AobRefIdeal.nD Cert.AobRefIdeal.τ).loc Cert.AobRefIdeal.main_arg3) = m ((c.tc : Thread Cert.AobIdeal.nD Cert.AobIdeal.τ).loc Cert.AobIdeal.main_arg3)
      ∧ m' ((c.tc : Thread Cert.AobRefIdeal.nD Cert.AobRefIdeal.τ).loc Cert.AobRefIdeal.main_arg4) = m ((c.tc : Thread Cert.AobIdeal.nD Cert.AobIdeal.τ).loc Cert.AobIdeal.main_arg4)) →
    ∃ (v0 : (c : Dev Cert.AobIdeal.nD) → Buf (Elt Ideal) ((c.tc : Thread Cert.AobIdeal.nD Cert.AobIdeal.τ).loc Cert.AobIdeal.main_v13_0)) (v1 : (c : Dev Cert.AobIdeal.nD) → Buf (Elt Ideal) ((c.tc : Thread Cert.AobIdeal.nD Cert.AobIdeal.τ).loc Cert.AobIdeal.main_v13_1)) (v2 : (c : Dev Cert.AobIdeal.nD) → Buf (Elt Ideal) ((c.tc : Thread Cert.AobIdeal.nD Cert.AobIdeal.τ).loc Cert.AobIdeal.main_v13_2)) (v3 : (c : Dev Cert.AobIdeal.nD) → Buf (Elt Ideal) ((c.tc : Thread Cert.AobIdeal.nD Cert.AobIdeal.τ).loc Cert.AobIdeal.main_v13_3)) (v4 : (c : Dev Cert.AobIdeal.nD) → Buf (Elt Ideal) ((c.tc : Thread Cert.AobIdeal.nD Cert.AobIdeal.τ).loc Cert.AobIdeal.main_v13_4)),
      θ_run (Cert.AobIdeal.defs (F := Ideal)) (onTc (τ := Cert.AobIdeal.τ) (Cert.AobIdeal.main (F := Ideal))) ⟨m, fun _ => 0, g⟩ (fun r => ∀ c : Dev Cert.AobIdeal.nD,
          r.2.mem ((c.tc : Thread Cert.AobIdeal.nD Cert.AobIdeal.τ).loc Cert.AobIdeal.main_v13_0) = v0 c
          ∧ r.2.mem ((c.tc : Thread Cert.AobIdeal.nD Cert.AobIdeal.τ).loc Cert.AobIdeal.main_v13_1) = v1 c
          ∧ r.2.mem ((c.tc : Thread Cert.AobIdeal.nD Cert.AobIdeal.τ).loc Cert.AobIdeal.main_v13_2) = v2 c
          ∧ r.2.mem ((c.tc : Thread Cert.AobIdeal.nD Cert.AobIdeal.τ).loc Cert.AobIdeal.main_v13_3) = v3 c
          ∧ r.2.mem ((c.tc : Thread Cert.AobIdeal.nD Cert.AobIdeal.τ).loc Cert.AobIdeal.main_v13_4) = v4 c
          ∧ r.2.mem ((c.tc : Thread Cert.AobIdeal.nD Cert.AobIdeal.τ).loc Cert.AobIdeal.main_arg0) = m ((c.tc : Thread Cert.AobIdeal.nD Cert.AobIdeal.τ).loc Cert.AobIdeal.main_arg0)
          ∧ r.2.mem ((c.tc : Thread Cert.AobIdeal.nD Cert.AobIdeal.τ).loc Cert.AobIdeal.main_arg1) = m ((c.tc : Thread Cert.AobIdeal.nD Cert.AobIdeal.τ).loc Cert.AobIdeal.main_arg1)
          ∧ r.2.mem ((c.tc : Thread Cert.AobIdeal.nD Cert.AobIdeal.τ).loc Cert.AobIdeal.main_arg2) = m ((c.tc : Thread Cert.AobIdeal.nD Cert.AobIdeal.τ).loc Cert.AobIdeal.main_arg2)
          ∧ r.2.mem ((c.tc : Thread Cert.AobIdeal.nD Cert.AobIdeal.τ).loc Cert.AobIdeal.main_arg3) = m ((c.tc : Thread Cert.AobIdeal.nD Cert.AobIdeal.τ).loc Cert.AobIdeal.main_arg3)
          ∧ r.2.mem ((c.tc : Thread Cert.AobIdeal.nD Cert.AobIdeal.τ).loc Cert.AobIdeal.main_arg4) = m ((c.tc : Thread Cert.AobIdeal.nD Cert.AobIdeal.τ).loc Cert.AobIdeal.main_arg4))
      ∧ θ_run (Cert.AobRefIdeal.defs (F := Ideal)) (onTc (τ := Cert.AobRefIdeal.τ) (Cert.AobRefIdeal.main (F := Ideal))) ⟨m', fun _ => 0, g'⟩ (fun r => ∀ c : Dev Cert.AobRefIdeal.nD,
          r.2.mem ((c.tc : Thread Cert.AobRefIdeal.nD Cert.AobRefIdeal.τ).loc Cert.AobRefIdeal.main_v54) = v0 c
          ∧ r.2.mem ((c.tc : Thread Cert.AobRefIdeal.nD Cert.AobRefIdeal.τ).loc Cert.AobRefIdeal.main_v55) = v1 c
          ∧ r.2.mem ((c.tc : Thread Cert.AobRefIdeal.nD Cert.AobRefIdeal.τ).loc Cert.AobRefIdeal.main_v44) = v2 c
          ∧ r.2.mem ((c.tc : Thread Cert.AobRefIdeal.nD Cert.AobRefIdeal.τ).loc Cert.AobRefIdeal.main_v49) = v3 c
          ∧ r.2.mem ((c.tc : Thread Cert.AobRefIdeal.nD Cert.AobRefIdeal.τ).loc Cert.AobRefIdeal.main_v19) = v4 c
          ∧ r.2.mem ((c.tc : Thread Cert.AobRefIdeal.nD Cert.AobRefIdeal.τ).loc Cert.AobRefIdeal.main_arg0) = m' ((c.tc : Thread Cert.AobRefIdeal.nD Cert.AobRefIdeal.τ).loc Cert.AobRefIdeal.main_arg0)
          ∧ r.2.mem ((c.tc : Thread Cert.AobRefIdeal.nD Cert.AobRefIdeal.τ).loc Cert.AobRefIdeal.main_arg1) = m' ((c.tc : Thread Cert.AobRefIdeal.nD Cert.AobRefIdeal.τ).loc Cert.AobRefIdeal.main_arg1)
          ∧ r.2.mem ((c.tc : Thread Cert.AobRefIdeal.nD Cert.AobRefIdeal.τ).loc Cert.AobRefIdeal.main_arg2) = m' ((c.tc : Thread Cert.AobRefIdeal.nD Cert.AobRefIdeal.τ).loc Cert.AobRefIdeal.main_arg2)
          ∧ r.2.mem ((c.tc : Thread Cert.AobRefIdeal.nD Cert.AobRefIdeal.τ).loc Cert.AobRefIdeal.main_arg3) = m' ((c.tc : Thread Cert.AobRefIdeal.nD Cert.AobRefIdeal.τ).loc Cert.AobRefIdeal.main_arg3)
          ∧ r.2.mem ((c.tc : Thread Cert.AobRefIdeal.nD Cert.AobRefIdeal.τ).loc Cert.AobRefIdeal.main_arg4) = m' ((c.tc : Thread Cert.AobRefIdeal.nD Cert.AobRefIdeal.τ).loc Cert.AobRefIdeal.main_arg4))

def preserves_Pab_PabIdeal : Prop :=
  True

def algebraic_PabIdeal_PabRefIdeal_pre_pab_finite [hPabIdeal : Cert.PabIdeal.Facts] [hPabRefIdeal : Cert.PabRefIdeal.Facts] [hPre_pab_finite : Cert.Pre_pab_finite.Facts] : Prop :=
  ∀ (m : (ℓ : Loc Cert.PabIdeal.nD Cert.PabIdeal.τ Cert.PabIdeal.sig) → Buf (Elt Ideal) ℓ) (g : Dev Cert.PabIdeal.nD → PrngReg)
    (m' : (ℓ : Loc Cert.PabRefIdeal.nD Cert.PabRefIdeal.τ Cert.PabRefIdeal.sig) → Buf (Elt Ideal) ℓ) (g' : Dev Cert.PabRefIdeal.nD → PrngReg), Pre_PabIdeal_pab_finite m →
    (∀ c : Dev Cert.PabIdeal.nD,
      m' ((c.tc : Thread Cert.PabRefIdeal.nD Cert.PabRefIdeal.τ).loc Cert.PabRefIdeal.main_arg0) = m ((c.tc : Thread Cert.PabIdeal.nD Cert.PabIdeal.τ).loc Cert.PabIdeal.main_arg0)
      ∧ m' ((c.tc : Thread Cert.PabRefIdeal.nD Cert.PabRefIdeal.τ).loc Cert.PabRefIdeal.main_arg1) = m ((c.tc : Thread Cert.PabIdeal.nD Cert.PabIdeal.τ).loc Cert.PabIdeal.main_arg1)
      ∧ m' ((c.tc : Thread Cert.PabRefIdeal.nD Cert.PabRefIdeal.τ).loc Cert.PabRefIdeal.main_arg2) = m ((c.tc : Thread Cert.PabIdeal.nD Cert.PabIdeal.τ).loc Cert.PabIdeal.main_arg2)
      ∧ m' ((c.tc : Thread Cert.PabRefIdeal.nD Cert.PabRefIdeal.τ).loc Cert.PabRefIdeal.main_arg3) = m ((c.tc : Thread Cert.PabIdeal.nD Cert.PabIdeal.τ).loc Cert.PabIdeal.main_arg3)
      ∧ m' ((c.tc : Thread Cert.PabRefIdeal.nD Cert.PabRefIdeal.τ).loc Cert.PabRefIdeal.main_arg4) = m ((c.tc : Thread Cert.PabIdeal.nD Cert.PabIdeal.τ).loc Cert.PabIdeal.main_arg4)) →
    ∃ (v0 : (c : Dev Cert.PabIdeal.nD) → Buf (Elt Ideal) ((c.tc : Thread Cert.PabIdeal.nD Cert.PabIdeal.τ).loc Cert.PabIdeal.main_v25_0)) (v1 : (c : Dev Cert.PabIdeal.nD) → Buf (Elt Ideal) ((c.tc : Thread Cert.PabIdeal.nD Cert.PabIdeal.τ).loc Cert.PabIdeal.main_v25_1)),
      θ_run (Cert.PabIdeal.defs (F := Ideal)) (onTc (τ := Cert.PabIdeal.τ) (Cert.PabIdeal.main (F := Ideal))) ⟨m, fun _ => 0, g⟩ (fun r => ∀ c : Dev Cert.PabIdeal.nD,
          r.2.mem ((c.tc : Thread Cert.PabIdeal.nD Cert.PabIdeal.τ).loc Cert.PabIdeal.main_v25_0) = v0 c
          ∧ r.2.mem ((c.tc : Thread Cert.PabIdeal.nD Cert.PabIdeal.τ).loc Cert.PabIdeal.main_v25_1) = v1 c
          ∧ r.2.mem ((c.tc : Thread Cert.PabIdeal.nD Cert.PabIdeal.τ).loc Cert.PabIdeal.main_arg0) = m ((c.tc : Thread Cert.PabIdeal.nD Cert.PabIdeal.τ).loc Cert.PabIdeal.main_arg0)
          ∧ r.2.mem ((c.tc : Thread Cert.PabIdeal.nD Cert.PabIdeal.τ).loc Cert.PabIdeal.main_arg1) = m ((c.tc : Thread Cert.PabIdeal.nD Cert.PabIdeal.τ).loc Cert.PabIdeal.main_arg1)
          ∧ r.2.mem ((c.tc : Thread Cert.PabIdeal.nD Cert.PabIdeal.τ).loc Cert.PabIdeal.main_arg2) = m ((c.tc : Thread Cert.PabIdeal.nD Cert.PabIdeal.τ).loc Cert.PabIdeal.main_arg2)
          ∧ r.2.mem ((c.tc : Thread Cert.PabIdeal.nD Cert.PabIdeal.τ).loc Cert.PabIdeal.main_arg3) = m ((c.tc : Thread Cert.PabIdeal.nD Cert.PabIdeal.τ).loc Cert.PabIdeal.main_arg3)
          ∧ r.2.mem ((c.tc : Thread Cert.PabIdeal.nD Cert.PabIdeal.τ).loc Cert.PabIdeal.main_arg4) = m ((c.tc : Thread Cert.PabIdeal.nD Cert.PabIdeal.τ).loc Cert.PabIdeal.main_arg4))
      ∧ θ_run (Cert.PabRefIdeal.defs (F := Ideal)) (onTc (τ := Cert.PabRefIdeal.τ) (Cert.PabRefIdeal.main (F := Ideal))) ⟨m', fun _ => 0, g'⟩ (fun r => ∀ c : Dev Cert.PabRefIdeal.nD,
          r.2.mem ((c.tc : Thread Cert.PabRefIdeal.nD Cert.PabRefIdeal.τ).loc Cert.PabRefIdeal.main_v36) = v0 c
          ∧ r.2.mem ((c.tc : Thread Cert.PabRefIdeal.nD Cert.PabRefIdeal.τ).loc Cert.PabRefIdeal.main_v19) = v1 c
          ∧ r.2.mem ((c.tc : Thread Cert.PabRefIdeal.nD Cert.PabRefIdeal.τ).loc Cert.PabRefIdeal.main_arg0) = m' ((c.tc : Thread Cert.PabRefIdeal.nD Cert.PabRefIdeal.τ).loc Cert.PabRefIdeal.main_arg0)
          ∧ r.2.mem ((c.tc : Thread Cert.PabRefIdeal.nD Cert.PabRefIdeal.τ).loc Cert.PabRefIdeal.main_arg1) = m' ((c.tc : Thread Cert.PabRefIdeal.nD Cert.PabRefIdeal.τ).loc Cert.PabRefIdeal.main_arg1)
          ∧ r.2.mem ((c.tc : Thread Cert.PabRefIdeal.nD Cert.PabRefIdeal.τ).loc Cert.PabRefIdeal.main_arg2) = m' ((c.tc : Thread Cert.PabRefIdeal.nD Cert.PabRefIdeal.τ).loc Cert.PabRefIdeal.main_arg2)
          ∧ r.2.mem ((c.tc : Thread Cert.PabRefIdeal.nD Cert.PabRefIdeal.τ).loc Cert.PabRefIdeal.main_arg3) = m' ((c.tc : Thread Cert.PabRefIdeal.nD Cert.PabRefIdeal.τ).loc Cert.PabRefIdeal.main_arg3)
          ∧ r.2.mem ((c.tc : Thread Cert.PabRefIdeal.nD Cert.PabRefIdeal.τ).loc Cert.PabRefIdeal.main_arg4) = m' ((c.tc : Thread Cert.PabRefIdeal.nD Cert.PabRefIdeal.τ).loc Cert.PabRefIdeal.main_arg4))

def preserves_Swa_SwaIdeal : Prop :=
  True

def preserves_Fgc_FgcIdeal : Prop :=
  True

def algebraic_FgcIdeal_FgcRefIdeal [hFgcIdeal : Cert.FgcIdeal.Facts] [hFgcRefIdeal : Cert.FgcRefIdeal.Facts] : Prop :=
  ∀ (m : (ℓ : Loc Cert.FgcIdeal.nD Cert.FgcIdeal.τ Cert.FgcIdeal.sig) → Buf (Elt Ideal) ℓ) (g : Dev Cert.FgcIdeal.nD → PrngReg)
    (m' : (ℓ : Loc Cert.FgcRefIdeal.nD Cert.FgcRefIdeal.τ Cert.FgcRefIdeal.sig) → Buf (Elt Ideal) ℓ) (g' : Dev Cert.FgcRefIdeal.nD → PrngReg), Pre_FgcIdeal m →
    (∀ c : Dev Cert.FgcIdeal.nD,
      m' ((c.tc : Thread Cert.FgcRefIdeal.nD Cert.FgcRefIdeal.τ).loc Cert.FgcRefIdeal.main_arg0) = m ((c.tc : Thread Cert.FgcIdeal.nD Cert.FgcIdeal.τ).loc Cert.FgcIdeal.main_arg0)
      ∧ m' ((c.tc : Thread Cert.FgcRefIdeal.nD Cert.FgcRefIdeal.τ).loc Cert.FgcRefIdeal.main_arg1) = m ((c.tc : Thread Cert.FgcIdeal.nD Cert.FgcIdeal.τ).loc Cert.FgcIdeal.main_arg1)
      ∧ m' ((c.tc : Thread Cert.FgcRefIdeal.nD Cert.FgcRefIdeal.τ).loc Cert.FgcRefIdeal.main_arg2) = m ((c.tc : Thread Cert.FgcIdeal.nD Cert.FgcIdeal.τ).loc Cert.FgcIdeal.main_arg2)) →
    ∃ (v0 : (c : Dev Cert.FgcIdeal.nD) → Buf (Elt Ideal) ((c.tc : Thread Cert.FgcIdeal.nD Cert.FgcIdeal.τ).loc Cert.FgcIdeal.main_v5)),
      θ_run (Cert.FgcIdeal.defs (F := Ideal)) (onTc (τ := Cert.FgcIdeal.τ) (Cert.FgcIdeal.main (F := Ideal))) ⟨m, fun _ => 0, g⟩ (fun r => ∀ c : Dev Cert.FgcIdeal.nD,
          r.2.mem ((c.tc : Thread Cert.FgcIdeal.nD Cert.FgcIdeal.τ).loc Cert.FgcIdeal.main_v5) = v0 c
          ∧ r.2.mem ((c.tc : Thread Cert.FgcIdeal.nD Cert.FgcIdeal.τ).loc Cert.FgcIdeal.main_arg0) = m ((c.tc : Thread Cert.FgcIdeal.nD Cert.FgcIdeal.τ).loc Cert.FgcIdeal.main_arg0)
          ∧ r.2.mem ((c.tc : Thread Cert.FgcIdeal.nD Cert.FgcIdeal.τ).loc Cert.FgcIdeal.main_arg1) = m ((c.tc : Thread Cert.FgcIdeal.nD Cert.FgcIdeal.τ).loc Cert.FgcIdeal.main_arg1)
          ∧ r.2.mem ((c.tc : Thread Cert.FgcIdeal.nD Cert.FgcIdeal.τ).loc Cert.FgcIdeal.main_arg2) = m ((c.tc : Thread Cert.FgcIdeal.nD Cert.FgcIdeal.τ).loc Cert.FgcIdeal.main_arg2))
      ∧ θ_run (Cert.FgcRefIdeal.defs (F := Ideal)) (onTc (τ := Cert.FgcRefIdeal.τ) (Cert.FgcRefIdeal.main (F := Ideal))) ⟨m', fun _ => 0, g'⟩ (fun r => ∀ c : Dev Cert.FgcRefIdeal.nD,
          r.2.mem ((c.tc : Thread Cert.FgcRefIdeal.nD Cert.FgcRefIdeal.τ).loc Cert.FgcRefIdeal.main_v8) = v0 c
          ∧ r.2.mem ((c.tc : Thread Cert.FgcRefIdeal.nD Cert.FgcRefIdeal.τ).loc Cert.FgcRefIdeal.main_arg0) = m' ((c.tc : Thread Cert.FgcRefIdeal.nD Cert.FgcRefIdeal.τ).loc Cert.FgcRefIdeal.main_arg0)
          ∧ r.2.mem ((c.tc : Thread Cert.FgcRefIdeal.nD Cert.FgcRefIdeal.τ).loc Cert.FgcRefIdeal.main_arg1) = m' ((c.tc : Thread Cert.FgcRefIdeal.nD Cert.FgcRefIdeal.τ).loc Cert.FgcRefIdeal.main_arg1)
          ∧ r.2.mem ((c.tc : Thread Cert.FgcRefIdeal.nD Cert.FgcRefIdeal.τ).loc Cert.FgcRefIdeal.main_arg2) = m' ((c.tc : Thread Cert.FgcRefIdeal.nD Cert.FgcRefIdeal.τ).loc Cert.FgcRefIdeal.main_arg2))

def preserves_Pat_PatIdeal : Prop :=
  True

def algebraic_PatIdeal_PatRefIdeal [hPatIdeal : Cert.PatIdeal.Facts] [hPatRefIdeal : Cert.PatRefIdeal.Facts] : Prop :=
  ∀ (m : (ℓ : Loc Cert.PatIdeal.nD Cert.PatIdeal.τ Cert.PatIdeal.sig) → Buf (Elt Ideal) ℓ) (g : Dev Cert.PatIdeal.nD → PrngReg)
    (m' : (ℓ : Loc Cert.PatRefIdeal.nD Cert.PatRefIdeal.τ Cert.PatRefIdeal.sig) → Buf (Elt Ideal) ℓ) (g' : Dev Cert.PatRefIdeal.nD → PrngReg), Pre_PatIdeal m →
    (∀ c : Dev Cert.PatIdeal.nD,
      m' ((c.tc : Thread Cert.PatRefIdeal.nD Cert.PatRefIdeal.τ).loc Cert.PatRefIdeal.main_arg0) = m ((c.tc : Thread Cert.PatIdeal.nD Cert.PatIdeal.τ).loc Cert.PatIdeal.main_arg0)
      ∧ m' ((c.tc : Thread Cert.PatRefIdeal.nD Cert.PatRefIdeal.τ).loc Cert.PatRefIdeal.main_arg1) = m ((c.tc : Thread Cert.PatIdeal.nD Cert.PatIdeal.τ).loc Cert.PatIdeal.main_arg1)
      ∧ m' ((c.tc : Thread Cert.PatRefIdeal.nD Cert.PatRefIdeal.τ).loc Cert.PatRefIdeal.main_arg2) = m ((c.tc : Thread Cert.PatIdeal.nD Cert.PatIdeal.τ).loc Cert.PatIdeal.main_arg2)
      ∧ m' ((c.tc : Thread Cert.PatRefIdeal.nD Cert.PatRefIdeal.τ).loc Cert.PatRefIdeal.main_arg3) = m ((c.tc : Thread Cert.PatIdeal.nD Cert.PatIdeal.τ).loc Cert.PatIdeal.main_arg3)
      ∧ m' ((c.tc : Thread Cert.PatRefIdeal.nD Cert.PatRefIdeal.τ).loc Cert.PatRefIdeal.main_arg4) = m ((c.tc : Thread Cert.PatIdeal.nD Cert.PatIdeal.τ).loc Cert.PatIdeal.main_arg4)
      ∧ m' ((c.tc : Thread Cert.PatRefIdeal.nD Cert.PatRefIdeal.τ).loc Cert.PatRefIdeal.main_arg5) = m ((c.tc : Thread Cert.PatIdeal.nD Cert.PatIdeal.τ).loc Cert.PatIdeal.main_arg5)) →
    ∃ (v0 : (c : Dev Cert.PatIdeal.nD) → Buf (Elt Ideal) ((c.tc : Thread Cert.PatIdeal.nD Cert.PatIdeal.τ).loc Cert.PatIdeal.main_v11_0)) (v1 : (c : Dev Cert.PatIdeal.nD) → Buf (Elt Ideal) ((c.tc : Thread Cert.PatIdeal.nD Cert.PatIdeal.τ).loc Cert.PatIdeal.main_v11_1)) (v2 : (c : Dev Cert.PatIdeal.nD) → Buf (Elt Ideal) ((c.tc : Thread Cert.PatIdeal.nD Cert.PatIdeal.τ).loc Cert.PatIdeal.main_v11_2)),
      θ_run (Cert.PatIdeal.defs (F := Ideal)) (onTc (τ := Cert.PatIdeal.τ) (Cert.PatIdeal.main (F := Ideal))) ⟨m, fun _ => 0, g⟩ (fun r => ∀ c : Dev Cert.PatIdeal.nD,
          r.2.mem ((c.tc : Thread Cert.PatIdeal.nD Cert.PatIdeal.τ).loc Cert.PatIdeal.main_v11_0) = v0 c
          ∧ r.2.mem ((c.tc : Thread Cert.PatIdeal.nD Cert.PatIdeal.τ).loc Cert.PatIdeal.main_v11_1) = v1 c
          ∧ r.2.mem ((c.tc : Thread Cert.PatIdeal.nD Cert.PatIdeal.τ).loc Cert.PatIdeal.main_v11_2) = v2 c
          ∧ r.2.mem ((c.tc : Thread Cert.PatIdeal.nD Cert.PatIdeal.τ).loc Cert.PatIdeal.main_arg0) = m ((c.tc : Thread Cert.PatIdeal.nD Cert.PatIdeal.τ).loc Cert.PatIdeal.main_arg0)
          ∧ r.2.mem ((c.tc : Thread Cert.PatIdeal.nD Cert.PatIdeal.τ).loc Cert.PatIdeal.main_arg1) = m ((c.tc : Thread Cert.PatIdeal.nD Cert.PatIdeal.τ).loc Cert.PatIdeal.main_arg1)
          ∧ r.2.mem ((c.tc : Thread Cert.PatIdeal.nD Cert.PatIdeal.τ).loc Cert.PatIdeal.main_arg2) = m ((c.tc : Thread Cert.PatIdeal.nD Cert.PatIdeal.τ).loc Cert.PatIdeal.main_arg2)
          ∧ r.2.mem ((c.tc : Thread Cert.PatIdeal.nD Cert.PatIdeal.τ).loc Cert.PatIdeal.main_arg3) = m ((c.tc : Thread Cert.PatIdeal.nD Cert.PatIdeal.τ).loc Cert.PatIdeal.main_arg3)
          ∧ r.2.mem ((c.tc : Thread Cert.PatIdeal.nD Cert.PatIdeal.τ).loc Cert.PatIdeal.main_arg4) = m ((c.tc : Thread Cert.PatIdeal.nD Cert.PatIdeal.τ).loc Cert.PatIdeal.main_arg4)
          ∧ r.2.mem ((c.tc : Thread Cert.PatIdeal.nD Cert.PatIdeal.τ).loc Cert.PatIdeal.main_arg5) = m ((c.tc : Thread Cert.PatIdeal.nD Cert.PatIdeal.τ).loc Cert.PatIdeal.main_arg5))
      ∧ θ_run (Cert.PatRefIdeal.defs (F := Ideal)) (onTc (τ := Cert.PatRefIdeal.τ) (Cert.PatRefIdeal.main (F := Ideal))) ⟨m', fun _ => 0, g'⟩ (fun r => ∀ c : Dev Cert.PatRefIdeal.nD,
          r.2.mem ((c.tc : Thread Cert.PatRefIdeal.nD Cert.PatRefIdeal.τ).loc Cert.PatRefIdeal.main_v1) = v0 c
          ∧ r.2.mem ((c.tc : Thread Cert.PatRefIdeal.nD Cert.PatRefIdeal.τ).loc Cert.PatRefIdeal.main_v14) = v1 c
          ∧ r.2.mem ((c.tc : Thread Cert.PatRefIdeal.nD Cert.PatRefIdeal.τ).loc Cert.PatRefIdeal.main_v27) = v2 c
          ∧ r.2.mem ((c.tc : Thread Cert.PatRefIdeal.nD Cert.PatRefIdeal.τ).loc Cert.PatRefIdeal.main_arg0) = m' ((c.tc : Thread Cert.PatRefIdeal.nD Cert.PatRefIdeal.τ).loc Cert.PatRefIdeal.main_arg0)
          ∧ r.2.mem ((c.tc : Thread Cert.PatRefIdeal.nD Cert.PatRefIdeal.τ).loc Cert.PatRefIdeal.main_arg1) = m' ((c.tc : Thread Cert.PatRefIdeal.nD Cert.PatRefIdeal.τ).loc Cert.PatRefIdeal.main_arg1)
          ∧ r.2.mem ((c.tc : Thread Cert.PatRefIdeal.nD Cert.PatRefIdeal.τ).loc Cert.PatRefIdeal.main_arg2) = m' ((c.tc : Thread Cert.PatRefIdeal.nD Cert.PatRefIdeal.τ).loc Cert.PatRefIdeal.main_arg2)
          ∧ r.2.mem ((c.tc : Thread Cert.PatRefIdeal.nD Cert.PatRefIdeal.τ).loc Cert.PatRefIdeal.main_arg3) = m' ((c.tc : Thread Cert.PatRefIdeal.nD Cert.PatRefIdeal.τ).loc Cert.PatRefIdeal.main_arg3)
          ∧ r.2.mem ((c.tc : Thread Cert.PatRefIdeal.nD Cert.PatRefIdeal.τ).loc Cert.PatRefIdeal.main_arg4) = m' ((c.tc : Thread Cert.PatRefIdeal.nD Cert.PatRefIdeal.τ).loc Cert.PatRefIdeal.main_arg4)
          ∧ r.2.mem ((c.tc : Thread Cert.PatRefIdeal.nD Cert.PatRefIdeal.τ).loc Cert.PatRefIdeal.main_arg5) = m' ((c.tc : Thread Cert.PatRefIdeal.nD Cert.PatRefIdeal.τ).loc Cert.PatRefIdeal.main_arg5))

def preserves_Mlf_MlfIdeal : Prop :=
  True

def algebraic_MlfIdeal_MlfRefIdeal [hMlfIdeal : Cert.MlfIdeal.Facts] [hMlfRefIdeal : Cert.MlfRefIdeal.Facts] : Prop :=
  ∀ (m : (ℓ : Loc Cert.MlfIdeal.nD Cert.MlfIdeal.τ Cert.MlfIdeal.sig) → Buf (Elt Ideal) ℓ) (g : Dev Cert.MlfIdeal.nD → PrngReg)
    (m' : (ℓ : Loc Cert.MlfRefIdeal.nD Cert.MlfRefIdeal.τ Cert.MlfRefIdeal.sig) → Buf (Elt Ideal) ℓ) (g' : Dev Cert.MlfRefIdeal.nD → PrngReg), Pre_MlfIdeal m →
    (∀ c : Dev Cert.MlfIdeal.nD,
      m' ((c.tc : Thread Cert.MlfRefIdeal.nD Cert.MlfRefIdeal.τ).loc Cert.MlfRefIdeal.main_arg0) = m ((c.tc : Thread Cert.MlfIdeal.nD Cert.MlfIdeal.τ).loc Cert.MlfIdeal.main_arg0)
      ∧ m' ((c.tc : Thread Cert.MlfRefIdeal.nD Cert.MlfRefIdeal.τ).loc Cert.MlfRefIdeal.main_arg1) = m ((c.tc : Thread Cert.MlfIdeal.nD Cert.MlfIdeal.τ).loc Cert.MlfIdeal.main_arg1)
      ∧ m' ((c.tc : Thread Cert.MlfRefIdeal.nD Cert.MlfRefIdeal.τ).loc Cert.MlfRefIdeal.main_arg2) = m ((c.tc : Thread Cert.MlfIdeal.nD Cert.MlfIdeal.τ).loc Cert.MlfIdeal.main_arg2)
      ∧ m' ((c.tc : Thread Cert.MlfRefIdeal.nD Cert.MlfRefIdeal.τ).loc Cert.MlfRefIdeal.main_arg3) = m ((c.tc : Thread Cert.MlfIdeal.nD Cert.MlfIdeal.τ).loc Cert.MlfIdeal.main_arg3)
      ∧ m' ((c.tc : Thread Cert.MlfRefIdeal.nD Cert.MlfRefIdeal.τ).loc Cert.MlfRefIdeal.main_arg4) = m ((c.tc : Thread Cert.MlfIdeal.nD Cert.MlfIdeal.τ).loc Cert.MlfIdeal.main_arg4)) →
    ∃ (v0 : (c : Dev Cert.MlfIdeal.nD) → Buf (Elt Ideal) ((c.tc : Thread Cert.MlfIdeal.nD Cert.MlfIdeal.τ).loc Cert.MlfIdeal.main_v17_0)) (v1 : (c : Dev Cert.MlfIdeal.nD) → Buf (Elt Ideal) ((c.tc : Thread Cert.MlfIdeal.nD Cert.MlfIdeal.τ).loc Cert.MlfIdeal.main_v17_1)) (v2 : (c : Dev Cert.MlfIdeal.nD) → Buf (Elt Ideal) ((c.tc : Thread Cert.MlfIdeal.nD Cert.MlfIdeal.τ).loc Cert.MlfIdeal.main_v17_2)),
      θ_run (Cert.MlfIdeal.defs (F := Ideal)) (onTc (τ := Cert.MlfIdeal.τ) (Cert.MlfIdeal.main (F := Ideal))) ⟨m, fun _ => 0, g⟩ (fun r => ∀ c : Dev Cert.MlfIdeal.nD,
          r.2.mem ((c.tc : Thread Cert.MlfIdeal.nD Cert.MlfIdeal.τ).loc Cert.MlfIdeal.main_v17_0) = v0 c
          ∧ r.2.mem ((c.tc : Thread Cert.MlfIdeal.nD Cert.MlfIdeal.τ).loc Cert.MlfIdeal.main_v17_1) = v1 c
          ∧ r.2.mem ((c.tc : Thread Cert.MlfIdeal.nD Cert.MlfIdeal.τ).loc Cert.MlfIdeal.main_v17_2) = v2 c
          ∧ r.2.mem ((c.tc : Thread Cert.MlfIdeal.nD Cert.MlfIdeal.τ).loc Cert.MlfIdeal.main_arg0) = m ((c.tc : Thread Cert.MlfIdeal.nD Cert.MlfIdeal.τ).loc Cert.MlfIdeal.main_arg0)
          ∧ r.2.mem ((c.tc : Thread Cert.MlfIdeal.nD Cert.MlfIdeal.τ).loc Cert.MlfIdeal.main_arg1) = m ((c.tc : Thread Cert.MlfIdeal.nD Cert.MlfIdeal.τ).loc Cert.MlfIdeal.main_arg1)
          ∧ r.2.mem ((c.tc : Thread Cert.MlfIdeal.nD Cert.MlfIdeal.τ).loc Cert.MlfIdeal.main_arg2) = m ((c.tc : Thread Cert.MlfIdeal.nD Cert.MlfIdeal.τ).loc Cert.MlfIdeal.main_arg2)
          ∧ r.2.mem ((c.tc : Thread Cert.MlfIdeal.nD Cert.MlfIdeal.τ).loc Cert.MlfIdeal.main_arg3) = m ((c.tc : Thread Cert.MlfIdeal.nD Cert.MlfIdeal.τ).loc Cert.MlfIdeal.main_arg3)
          ∧ r.2.mem ((c.tc : Thread Cert.MlfIdeal.nD Cert.MlfIdeal.τ).loc Cert.MlfIdeal.main_arg4) = m ((c.tc : Thread Cert.MlfIdeal.nD Cert.MlfIdeal.τ).loc Cert.MlfIdeal.main_arg4))
      ∧ θ_run (Cert.MlfRefIdeal.defs (F := Ideal)) (onTc (τ := Cert.MlfRefIdeal.τ) (Cert.MlfRefIdeal.main (F := Ideal))) ⟨m', fun _ => 0, g'⟩ (fun r => ∀ c : Dev Cert.MlfRefIdeal.nD,
          r.2.mem ((c.tc : Thread Cert.MlfRefIdeal.nD Cert.MlfRefIdeal.τ).loc Cert.MlfRefIdeal.main_v16) = v0 c
          ∧ r.2.mem ((c.tc : Thread Cert.MlfRefIdeal.nD Cert.MlfRefIdeal.τ).loc Cert.MlfRefIdeal.main_v15) = v1 c
          ∧ r.2.mem ((c.tc : Thread Cert.MlfRefIdeal.nD Cert.MlfRefIdeal.τ).loc Cert.MlfRefIdeal.main_v29) = v2 c
          ∧ r.2.mem ((c.tc : Thread Cert.MlfRefIdeal.nD Cert.MlfRefIdeal.τ).loc Cert.MlfRefIdeal.main_arg0) = m' ((c.tc : Thread Cert.MlfRefIdeal.nD Cert.MlfRefIdeal.τ).loc Cert.MlfRefIdeal.main_arg0)
          ∧ r.2.mem ((c.tc : Thread Cert.MlfRefIdeal.nD Cert.MlfRefIdeal.τ).loc Cert.MlfRefIdeal.main_arg1) = m' ((c.tc : Thread Cert.MlfRefIdeal.nD Cert.MlfRefIdeal.τ).loc Cert.MlfRefIdeal.main_arg1)
          ∧ r.2.mem ((c.tc : Thread Cert.MlfRefIdeal.nD Cert.MlfRefIdeal.τ).loc Cert.MlfRefIdeal.main_arg2) = m' ((c.tc : Thread Cert.MlfRefIdeal.nD Cert.MlfRefIdeal.τ).loc Cert.MlfRefIdeal.main_arg2)
          ∧ r.2.mem ((c.tc : Thread Cert.MlfRefIdeal.nD Cert.MlfRefIdeal.τ).loc Cert.MlfRefIdeal.main_arg3) = m' ((c.tc : Thread Cert.MlfRefIdeal.nD Cert.MlfRefIdeal.τ).loc Cert.MlfRefIdeal.main_arg3)
          ∧ r.2.mem ((c.tc : Thread Cert.MlfRefIdeal.nD Cert.MlfRefIdeal.τ).loc Cert.MlfRefIdeal.main_arg4) = m' ((c.tc : Thread Cert.MlfRefIdeal.nD Cert.MlfRefIdeal.τ).loc Cert.MlfRefIdeal.main_arg4))

def preserves_Pra_PraIdeal : Prop :=
  True

def algebraic_PraIdeal_PraRefIdeal [hPraIdeal : Cert.PraIdeal.Facts] [hPraRefIdeal : Cert.PraRefIdeal.Facts] : Prop :=
  ∀ (m : (ℓ : Loc Cert.PraIdeal.nD Cert.PraIdeal.τ Cert.PraIdeal.sig) → Buf (Elt Ideal) ℓ) (g : Dev Cert.PraIdeal.nD → PrngReg)
    (m' : (ℓ : Loc Cert.PraRefIdeal.nD Cert.PraRefIdeal.τ Cert.PraRefIdeal.sig) → Buf (Elt Ideal) ℓ) (g' : Dev Cert.PraRefIdeal.nD → PrngReg), Pre_PraIdeal m →
    (∀ c : Dev Cert.PraIdeal.nD,
      m' ((c.tc : Thread Cert.PraRefIdeal.nD Cert.PraRefIdeal.τ).loc Cert.PraRefIdeal.main_arg0) = m ((c.tc : Thread Cert.PraIdeal.nD Cert.PraIdeal.τ).loc Cert.PraIdeal.main_arg0)
      ∧ m' ((c.tc : Thread Cert.PraRefIdeal.nD Cert.PraRefIdeal.τ).loc Cert.PraRefIdeal.main_arg1) = m ((c.tc : Thread Cert.PraIdeal.nD Cert.PraIdeal.τ).loc Cert.PraIdeal.main_arg1)
      ∧ m' ((c.tc : Thread Cert.PraRefIdeal.nD Cert.PraRefIdeal.τ).loc Cert.PraRefIdeal.main_arg2) = m ((c.tc : Thread Cert.PraIdeal.nD Cert.PraIdeal.τ).loc Cert.PraIdeal.main_arg2)) →
    ∃ (v0 : (c : Dev Cert.PraIdeal.nD) → Buf (Elt Ideal) ((c.tc : Thread Cert.PraIdeal.nD Cert.PraIdeal.τ).loc Cert.PraIdeal.main_v10_0)) (v1 : (c : Dev Cert.PraIdeal.nD) → Buf (Elt Ideal) ((c.tc : Thread Cert.PraIdeal.nD Cert.PraIdeal.τ).loc Cert.PraIdeal.main_v10_1)) (v2 : (c : Dev Cert.PraIdeal.nD) → Buf (Elt Ideal) ((c.tc : Thread Cert.PraIdeal.nD Cert.PraIdeal.τ).loc Cert.PraIdeal.main_v10_2)) (v3 : (c : Dev Cert.PraIdeal.nD) → Buf (Elt Ideal) ((c.tc : Thread Cert.PraIdeal.nD Cert.PraIdeal.τ).loc Cert.PraIdeal.main_v10_3)),
      θ_run (Cert.PraIdeal.defs (F := Ideal)) (onTc (τ := Cert.PraIdeal.τ) (Cert.PraIdeal.main (F := Ideal))) ⟨m, fun _ => 0, g⟩ (fun r => ∀ c : Dev Cert.PraIdeal.nD,
          r.2.mem ((c.tc : Thread Cert.PraIdeal.nD Cert.PraIdeal.τ).loc Cert.PraIdeal.main_v10_0) = v0 c
          ∧ r.2.mem ((c.tc : Thread Cert.PraIdeal.nD Cert.PraIdeal.τ).loc Cert.PraIdeal.main_v10_1) = v1 c
          ∧ r.2.mem ((c.tc : Thread Cert.PraIdeal.nD Cert.PraIdeal.τ).loc Cert.PraIdeal.main_v10_2) = v2 c
          ∧ r.2.mem ((c.tc : Thread Cert.PraIdeal.nD Cert.PraIdeal.τ).loc Cert.PraIdeal.main_v10_3) = v3 c
          ∧ r.2.mem ((c.tc : Thread Cert.PraIdeal.nD Cert.PraIdeal.τ).loc Cert.PraIdeal.main_arg0) = m ((c.tc : Thread Cert.PraIdeal.nD Cert.PraIdeal.τ).loc Cert.PraIdeal.main_arg0)
          ∧ r.2.mem ((c.tc : Thread Cert.PraIdeal.nD Cert.PraIdeal.τ).loc Cert.PraIdeal.main_arg1) = m ((c.tc : Thread Cert.PraIdeal.nD Cert.PraIdeal.τ).loc Cert.PraIdeal.main_arg1)
          ∧ r.2.mem ((c.tc : Thread Cert.PraIdeal.nD Cert.PraIdeal.τ).loc Cert.PraIdeal.main_arg2) = m ((c.tc : Thread Cert.PraIdeal.nD Cert.PraIdeal.τ).loc Cert.PraIdeal.main_arg2))
      ∧ θ_run (Cert.PraRefIdeal.defs (F := Ideal)) (onTc (τ := Cert.PraRefIdeal.τ) (Cert.PraRefIdeal.main (F := Ideal))) ⟨m', fun _ => 0, g'⟩ (fun r => ∀ c : Dev Cert.PraRefIdeal.nD,
          r.2.mem ((c.tc : Thread Cert.PraRefIdeal.nD Cert.PraRefIdeal.τ).loc Cert.PraRefIdeal.main_v29) = v0 c
          ∧ r.2.mem ((c.tc : Thread Cert.PraRefIdeal.nD Cert.PraRefIdeal.τ).loc Cert.PraRefIdeal.main_v30) = v1 c
          ∧ r.2.mem ((c.tc : Thread Cert.PraRefIdeal.nD Cert.PraRefIdeal.τ).loc Cert.PraRefIdeal.main_v31) = v2 c
          ∧ r.2.mem ((c.tc : Thread Cert.PraRefIdeal.nD Cert.PraRefIdeal.τ).loc Cert.PraRefIdeal.main_v28) = v3 c
          ∧ r.2.mem ((c.tc : Thread Cert.PraRefIdeal.nD Cert.PraRefIdeal.τ).loc Cert.PraRefIdeal.main_arg0) = m' ((c.tc : Thread Cert.PraRefIdeal.nD Cert.PraRefIdeal.τ).loc Cert.PraRefIdeal.main_arg0)
          ∧ r.2.mem ((c.tc : Thread Cert.PraRefIdeal.nD Cert.PraRefIdeal.τ).loc Cert.PraRefIdeal.main_arg1) = m' ((c.tc : Thread Cert.PraRefIdeal.nD Cert.PraRefIdeal.τ).loc Cert.PraRefIdeal.main_arg1)
          ∧ r.2.mem ((c.tc : Thread Cert.PraRefIdeal.nD Cert.PraRefIdeal.τ).loc Cert.PraRefIdeal.main_arg2) = m' ((c.tc : Thread Cert.PraRefIdeal.nD Cert.PraRefIdeal.τ).loc Cert.PraRefIdeal.main_arg2))

def Claim : Prop :=
  ∃ (hForget : Cert.Forget.Facts) (hForgetIdeal : Cert.ForgetIdeal.Facts) (hForgetRefIdeal : Cert.ForgetRefIdeal.Facts) (hFox : Cert.Fox.Facts) (hFoxIdeal : Cert.FoxIdeal.Facts) (hFoxRefIdeal : Cert.FoxRefIdeal.Facts) (hPle : Cert.Ple.Facts) (hPleIdeal : Cert.PleIdeal.Facts) (hPleRefIdeal : Cert.PleRefIdeal.Facts) (hMlp : Cert.Mlp.Facts) (hMlpIdeal : Cert.MlpIdeal.Facts) (hMlpRefIdeal : Cert.MlpRefIdeal.Facts) (hAob : Cert.Aob.Facts) (hAobIdeal : Cert.AobIdeal.Facts) (hAobRefIdeal : Cert.AobRefIdeal.Facts) (hPab : Cert.Pab.Facts) (hPabIdeal : Cert.PabIdeal.Facts) (hPabRefIdeal : Cert.PabRefIdeal.Facts) (hSwa : Cert.Swa.Facts) (hSwaIdeal : Cert.SwaIdeal.Facts) (hFgc : Cert.Fgc.Facts) (hFgcIdeal : Cert.FgcIdeal.Facts) (hFgcRefIdeal : Cert.FgcRefIdeal.Facts) (hPat : Cert.Pat.Facts) (hPatIdeal : Cert.PatIdeal.Facts) (hPatRefIdeal : Cert.PatRefIdeal.Facts) (hMlf : Cert.Mlf.Facts) (hMlfIdeal : Cert.MlfIdeal.Facts) (hMlfRefIdeal : Cert.MlfRefIdeal.Facts) (hPra : Cert.Pra.Facts) (hPraIdeal : Cert.PraIdeal.Facts) (hPraRefIdeal : Cert.PraRefIdeal.Facts) (hPre_fox_finite : Cert.Pre_fox_finite.Facts) (hPre_ple_finite : Cert.Pre_ple_finite.Facts) (hPre_mlp_finite : Cert.Pre_mlp_finite.Facts) (hPre_aob_finite : Cert.Pre_aob_finite.Facts) (hPre_pab_finite : Cert.Pre_pab_finite.Facts),
    quiescent_Forget (hForget := hForget)
    ∧ quiescent_ForgetIdeal (hForgetIdeal := hForgetIdeal)
    ∧ quiescent_ForgetRefIdeal (hForgetRefIdeal := hForgetRefIdeal)
    ∧ quiescent_Fox (hFox := hFox)
    ∧ quiescent_FoxIdeal (hFoxIdeal := hFoxIdeal)
    ∧ quiescent_FoxIdeal_pre_fox_finite (hFoxIdeal := hFoxIdeal) (hPre_fox_finite := hPre_fox_finite)
    ∧ quiescent_FoxRefIdeal (hFoxRefIdeal := hFoxRefIdeal)
    ∧ quiescent_FoxRefIdeal_pre_fox_finite (hFoxRefIdeal := hFoxRefIdeal) (hPre_fox_finite := hPre_fox_finite)
    ∧ quiescent_Ple (hPle := hPle)
    ∧ quiescent_PleIdeal (hPleIdeal := hPleIdeal)
    ∧ quiescent_PleIdeal_pre_ple_finite (hPleIdeal := hPleIdeal) (hPre_ple_finite := hPre_ple_finite)
    ∧ quiescent_PleRefIdeal (hPleRefIdeal := hPleRefIdeal)
    ∧ quiescent_PleRefIdeal_pre_ple_finite (hPleRefIdeal := hPleRefIdeal) (hPre_ple_finite := hPre_ple_finite)
    ∧ quiescent_Mlp (hMlp := hMlp)
    ∧ quiescent_MlpIdeal (hMlpIdeal := hMlpIdeal)
    ∧ quiescent_MlpIdeal_pre_mlp_finite (hMlpIdeal := hMlpIdeal) (hPre_mlp_finite := hPre_mlp_finite)
    ∧ quiescent_MlpRefIdeal (hMlpRefIdeal := hMlpRefIdeal)
    ∧ quiescent_MlpRefIdeal_pre_mlp_finite (hMlpRefIdeal := hMlpRefIdeal) (hPre_mlp_finite := hPre_mlp_finite)
    ∧ quiescent_Aob (hAob := hAob)
    ∧ quiescent_AobIdeal (hAobIdeal := hAobIdeal)
    ∧ quiescent_AobIdeal_pre_aob_finite (hAobIdeal := hAobIdeal) (hPre_aob_finite := hPre_aob_finite)
    ∧ quiescent_AobRefIdeal (hAobRefIdeal := hAobRefIdeal)
    ∧ quiescent_AobRefIdeal_pre_aob_finite (hAobRefIdeal := hAobRefIdeal) (hPre_aob_finite := hPre_aob_finite)
    ∧ quiescent_Pab (hPab := hPab)
    ∧ quiescent_PabIdeal (hPabIdeal := hPabIdeal)
    ∧ quiescent_PabIdeal_pre_pab_finite (hPabIdeal := hPabIdeal) (hPre_pab_finite := hPre_pab_finite)
    ∧ quiescent_PabRefIdeal (hPabRefIdeal := hPabRefIdeal)
    ∧ quiescent_PabRefIdeal_pre_pab_finite (hPabRefIdeal := hPabRefIdeal) (hPre_pab_finite := hPre_pab_finite)
    ∧ quiescent_Swa (hSwa := hSwa)
    ∧ quiescent_SwaIdeal (hSwaIdeal := hSwaIdeal)
    ∧ quiescent_Fgc (hFgc := hFgc)
    ∧ quiescent_FgcIdeal (hFgcIdeal := hFgcIdeal)
    ∧ quiescent_FgcRefIdeal (hFgcRefIdeal := hFgcRefIdeal)
    ∧ quiescent_Pat (hPat := hPat)
    ∧ quiescent_PatIdeal (hPatIdeal := hPatIdeal)
    ∧ quiescent_PatRefIdeal (hPatRefIdeal := hPatRefIdeal)
    ∧ quiescent_Mlf (hMlf := hMlf)
    ∧ quiescent_MlfIdeal (hMlfIdeal := hMlfIdeal)
    ∧ quiescent_MlfRefIdeal (hMlfRefIdeal := hMlfRefIdeal)
    ∧ quiescent_Pra (hPra := hPra)
    ∧ quiescent_PraIdeal (hPraIdeal := hPraIdeal)
    ∧ quiescent_PraRefIdeal (hPraRefIdeal := hPraRefIdeal)
    ∧ preserves_Forget_ForgetIdeal
    ∧ algebraic_ForgetIdeal_ForgetRefIdeal (hForgetIdeal := hForgetIdeal) (hForgetRefIdeal := hForgetRefIdeal)
    ∧ preserves_Fox_FoxIdeal
    ∧ algebraic_FoxIdeal_FoxRefIdeal_pre_fox_finite (hFoxIdeal := hFoxIdeal) (hFoxRefIdeal := hFoxRefIdeal) (hPre_fox_finite := hPre_fox_finite)
    ∧ preserves_Ple_PleIdeal
    ∧ algebraic_PleIdeal_PleRefIdeal_pre_ple_finite (hPleIdeal := hPleIdeal) (hPleRefIdeal := hPleRefIdeal) (hPre_ple_finite := hPre_ple_finite)
    ∧ preserves_Mlp_MlpIdeal
    ∧ algebraic_MlpIdeal_MlpRefIdeal_pre_mlp_finite (hMlpIdeal := hMlpIdeal) (hMlpRefIdeal := hMlpRefIdeal) (hPre_mlp_finite := hPre_mlp_finite)
    ∧ preserves_Aob_AobIdeal
    ∧ algebraic_AobIdeal_AobRefIdeal_pre_aob_finite (hAobIdeal := hAobIdeal) (hAobRefIdeal := hAobRefIdeal) (hPre_aob_finite := hPre_aob_finite)
    ∧ preserves_Pab_PabIdeal
    ∧ algebraic_PabIdeal_PabRefIdeal_pre_pab_finite (hPabIdeal := hPabIdeal) (hPabRefIdeal := hPabRefIdeal) (hPre_pab_finite := hPre_pab_finite)
    ∧ preserves_Swa_SwaIdeal
    ∧ preserves_Fgc_FgcIdeal
    ∧ algebraic_FgcIdeal_FgcRefIdeal (hFgcIdeal := hFgcIdeal) (hFgcRefIdeal := hFgcRefIdeal)
    ∧ preserves_Pat_PatIdeal
    ∧ algebraic_PatIdeal_PatRefIdeal (hPatIdeal := hPatIdeal) (hPatRefIdeal := hPatRefIdeal)
    ∧ preserves_Mlf_MlfIdeal
    ∧ algebraic_MlfIdeal_MlfRefIdeal (hMlfIdeal := hMlfIdeal) (hMlfRefIdeal := hMlfRefIdeal)
    ∧ preserves_Pra_PraIdeal
    ∧ algebraic_PraIdeal_PraRefIdeal (hPraIdeal := hPraIdeal) (hPraRefIdeal := hPraRefIdeal)
-- ==== Pre_aob_finite.lean ====
abbrev S2048x512 : Shape := ⟨2, ![2048, 512]⟩
abbrev S1024x1024 : Shape := ⟨2, ![1024, 1024]⟩
abbrev S1x1024 : Shape := ⟨2, ![1, 1024]⟩
abbrev S2048x1024 : Shape := ⟨2, ![2048, 1024]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S2048x1024 : S_.BroadcastsInDim S2048x1024 (![] : Fin 0 → Fin S2048x1024.rank)
  reducesTo_S2048x1024_S_d0_1 : S2048x1024.ReducesTo [0, 1] S_

variable [Facts]

def fn_part1 {F : FTy → Type} [FloatOps F] (main_arg4 : FVec F S2048x1024 .f32) (main_v14 : IVec S_ 1) (main_v15 : FVec F S1x1024 .f32) (main_cst_5 : FVec F S_ .f32) : IVec S_ 1 :=
  let main_v16 : FVec F S1x1024 .f32 := broadcastInDim S1x1024 ![] bcast_S_S1x1024 main_cst_5
  let main_v17 : IVec S1x1024 1 := cmpf .olt main_v15 main_v16
  let main_c_6 : IVec S_ 1 := constantI S_ 1 1#1
  let main_v18 : IVec S_ 1 := (fun x v => Host.reduce IntOp.andi x v reducesTo_S1x1024_S_d0_1 h_S_) main_v17 main_c_6
  let main_v19 : IVec S_ 1 := andi main_v14 main_v18
  let main_v20 : FVec F S2048x1024 .f32 := Host.absf main_arg4
  let main_cst_7 : FVec F S_ .f32 := constant S_ .f32 0x7F800000#32
  let main_v21 : FVec F S2048x1024 .f32 := broadcastInDim S2048x1024 ![] bcast_S_S2048x1024 main_cst_7
  let main_v22 : IVec S2048x1024 1 := cmpf .olt main_v20 main_v21
  let main_c_8 : IVec S_ 1 := constantI S_ 1 1#1
  let main_v23 : IVec S_ 1 := (fun x v => Host.reduce IntOp.andi x v reducesTo_S2048x1024_S_d0_1 h_S_) main_v22 main_c_8
  let main_v24 : IVec S_ 1 := andi main_v19 main_v23
  main_v24

def fn {F : FTy → Type} [FloatOps F] (main_arg0 : FVec F S2048x512 .f32) (main_arg1 : FVec F S2048x512 .f32) (main_arg2 : FVec F S1024x1024 .f32) (main_arg3 : FVec F S1x1024 .f32) (main_arg4 : FVec F S2048x1024 .f32) : IVec S_ 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  let main_c_0 : IVec S_ 1 := constantI S_ 1 1#1
  let main_v4 : IVec S_ 1 := andi main_c_0 main_v3
  let main_v5 : FVec F S2048x512 .f32 := Host.absf main_arg1
  let main_cst_1 : FVec F S_ .f32 := constant S_ .f32 0x7F800000#32
  let main_v6 : FVec F S2048x512 .f32 := broadcastInDim S2048x512 ![] bcast_S_S2048x512 main_cst_1
  let main_v7 : IVec S2048x512 1 := cmpf .olt main_v5 main_v6
  let main_c_2 : IVec S_ 1 := constantI S_ 1 1#1
  let main_v8 : IVec S_ 1 := (fun x v => Host.reduce IntOp.andi x v reducesTo_S2048x512_S_d0_1 h_S_) main_v7 main_c_2
  let main_v9 : IVec S_ 1 := andi main_v4 main_v8
  let main_v10 : FVec F S1024x1024 .f32 := Host.absf main_arg2
  let main_cst_3 : FVec F S_ .f32 := constant S_ .f32 0x7F800000#32
  let main_v11 : FVec F S1024x1024 .f32 := broadcastInDim S1024x1024 ![] bcast_S_S1024x1024 main_cst_3
  let main_v12 : IVec S1024x1024 1 := cmpf .olt main_v10 main_v11
  let main_c_4 : IVec S_ 1 := constantI S_ 1 1#1
  let main_v13 : IVec S_ 1 := (fun x v => Host.reduce IntOp.andi x v reducesTo_S1024x1024_S_d0_1 h_S_) main_v12 main_c_4
  let main_v14 : IVec S_ 1 := andi main_v9 main_v13
  let main_v15 : FVec F S1x1024 .f32 := Host.absf main_arg3
  let main_cst_5 : FVec F S_ .f32 := constant S_ .f32 0x7F800000#32
  fn_part1 (F := F) main_arg4 main_v14 main_v15 main_cst_5
-- ==== Pre_fox_finite.lean ====
abbrev S2048x512 : Shape := ⟨2, ![2048, 512]⟩
abbrev S2048x8 : Shape := ⟨2, ![2048, 8]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel
  bcast_S_S2048x8 : S_.BroadcastsInDim S2048x8 (![] : Fin 0 → Fin S2048x8.rank)
  reducesTo_S2048x8_S_d0_1 : S2048x8.ReducesTo [0, 1] S_

variable [Facts]

def fn_part1 {F : FTy → Type} [FloatOps F] (main_arg4 : FVec F S2048x512 .f32) (main_v14 : IVec S_ 1) (main_v15 : FVec F S2048x8 .f32) (main_cst_5 : FVec F S_ .f32) : IVec S_ 1 :=
  let main_v16 : FVec F S2048x8 .f32 := broadcastInDim S2048x8 ![] bcast_S_S2048x8 main_cst_5
  let main_v17 : IVec S2048x8 1 := cmpf .olt main_v15 main_v16
  let main_c_6 : IVec S_ 1 := constantI S_ 1 1#1
  let main_v18 : IVec S_ 1 := (fun x v => Host.reduce IntOp.andi x v reducesTo_S2048x8_S_d0_1 h_S_) main_v17 main_c_6
  let main_v19 : IVec S_ 1 := andi main_v14 main_v18
  let main_v20 : FVec F S2048x512 .f32 := Host.absf main_arg4
  let main_cst_7 : FVec F S_ .f32 := constant S_ .f32 0x7F800000#32
  let main_v21 : FVec F S2048x512 .f32 := broadcastInDim S2048x512 ![] bcast_S_S2048x512 main_cst_7
  let main_v22 : IVec S2048x512 1 := cmpf .olt main_v20 main_v21
  let main_c_8 : IVec S_ 1 := constantI S_ 1 1#1
  let main_v23 : IVec S_ 1 := (fun x v => Host.reduce IntOp.andi x v reducesTo_S2048x512_S_d0_1 h_S_) main_v22 main_c_8
  let main_v24 : IVec S_ 1 := andi main_v19 main_v23
  main_v24

def fn {F : FTy → Type} [FloatOps F] (main_arg0 : FVec F S2048x512 .f32) (main_arg1 : FVec F S2048x512 .f32) (main_arg2 : FVec F S2048x512 .f32) (main_arg3 : FVec F S2048x8 .f32) (main_arg4 : FVec F S2048x512 .f32) : IVec S_ 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  let main_c_0 : IVec S_ 1 := constantI S_ 1 1#1
  let main_v4 : IVec S_ 1 := andi main_c_0 main_v3
  let main_v5 : FVec F S2048x512 .f32 := Host.absf main_arg1
  let main_cst_1 : FVec F S_ .f32 := constant S_ .f32 0x7F800000#32
  let main_v6 : FVec F S2048x512 .f32 := broadcastInDim S2048x512 ![] bcast_S_S2048x512 main_cst_1
  let main_v7 : IVec S2048x512 1 := cmpf .olt main_v5 main_v6
  let main_c_2 : IVec S_ 1 := constantI S_ 1 1#1
  let main_v8 : IVec S_ 1 := (fun x v => Host.reduce IntOp.andi x v reducesTo_S2048x512_S_d0_1 h_S_) main_v7 main_c_2
  let main_v9 : IVec S_ 1 := andi main_v4 main_v8
  let main_v10 : FVec F S2048x512 .f32 := Host.absf main_arg2
  let main_cst_3 : FVec F S_ .f32 := constant S_ .f32 0x7F800000#32
  let main_v11 : FVec F S2048x512 .f32 := broadcastInDim S2048x512 ![] bcast_S_S2048x512 main_cst_3
  let main_v12 : IVec S2048x512 1 := cmpf .olt main_v10 main_v11
  let main_c_4 : IVec S_ 1 := constantI S_ 1 1#1
  let main_v13 : IVec S_ 1 := (fun x v => Host.reduce IntOp.andi x v reducesTo_S2048x512_S_d0_1 h_S_) main_v12 main_c_4
  let main_v14 : IVec S_ 1 := andi main_v9 main_v13
  let main_v15 : FVec F S2048x8 .f32 := Host.absf main_arg3
  let main_cst_5 : FVec F S_ .f32 := constant S_ .f32 0x7F800000#32
  fn_part1 (F := F) main_arg4 main_v14 main_v15 main_cst_5
-- ==== Pre_mlp_finite.lean ====
abbrev S2048x1024 : Shape := ⟨2, ![2048, 1024]⟩
abbrev S1024x4096 : Shape := ⟨2, ![1024, 4096]⟩
abbrev S4096x1024 : Shape := ⟨2, ![4096, 1024]⟩
abbrev S1x1024 : Shape := ⟨2, ![1, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S1x1024 .f32) (main_arg5 : FVec F S2048x1024 .f32) (main_v14 : IVec S_ 1) (main_v15 : FVec F S1x1024 .f32) (main_cst_5 : FVec F S_ .f32) : IVec S_ 1 :=
  let main_v16 : FVec F S1x1024 .f32 := broadcastInDim S1x1024 ![] bcast_S_S1x1024 main_cst_5
  let main_v17 : IVec S1x1024 1 := cmpf .olt main_v15 main_v16
  let main_c_6 : IVec S_ 1 := constantI S_ 1 1#1
  let main_v18 : IVec S_ 1 := (fun x v => Host.reduce IntOp.andi x v reducesTo_S1x1024_S_d0_1 h_S_) main_v17 main_c_6
  let main_v19 : IVec S_ 1 := andi main_v14 main_v18
  let main_v20 : FVec F S1x1024 .f32 := Host.absf main_arg4
  let main_cst_7 : FVec F S_ .f32 := constant S_ .f32 0x7F800000#32
  let main_v21 : FVec F S1x1024 .f32 := broadcastInDim S1x1024 ![] bcast_S_S1x1024 main_cst_7
  let main_v22 : IVec S1x1024 1 := cmpf .olt main_v20 main_v21
  let main_c_8 : IVec S_ 1 := constantI S_ 1 1#1
  let main_v23 : IVec S_ 1 := (fun x v => Host.reduce IntOp.andi x v reducesTo_S1x1024_S_d0_1 h_S_) main_v22 main_c_8
  let main_v24 : IVec S_ 1 := andi main_v19 main_v23
  let main_v25 : FVec F S2048x1024 .f32 := Host.absf main_arg5
  let main_cst_9 : FVec F S_ .f32 := constant S_ .f32 0x7F800000#32
  let main_v26 : FVec F S2048x1024 .f32 := broadcastInDim S2048x1024 ![] bcast_S_S2048x1024 main_cst_9
  let main_v27 : IVec S2048x1024 1 := cmpf .olt main_v25 main_v26
  let main_c_10 : IVec S_ 1 := constantI S_ 1 1#1
  let main_v28 : IVec S_ 1 := (fun x v => Host.reduce IntOp.andi x v reducesTo_S2048x1024_S_d0_1 h_S_) main_v27 main_c_10
  let main_v29 : IVec S_ 1 := andi main_v24 main_v28
  main_v29

def fn {F : FTy → Type} [FloatOps F] (main_arg0 : FVec F S2048x1024 .f32) (main_arg1 : FVec F S1024x4096 .f32) (main_arg2 : FVec F S4096x1024 .f32) (main_arg3 : FVec F S1x1024 .f32) (main_arg4 : FVec F S1x1024 .f32) (main_arg5 : FVec F S2048x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_c_0 : IVec S_ 1 := constantI S_ 1 1#1
  let main_v4 : IVec S_ 1 := andi main_c_0 main_v3
  let main_v5 : FVec F S1024x4096 .f32 := Host.absf main_arg1
  let main_cst_1 : FVec F S_ .f32 := constant S_ .f32 0x7F800000#32
  let main_v6 : FVec F S1024x4096 .f32 := broadcastInDim S1024x4096 ![] bcast_S_S1024x4096 main_cst_1
  let main_v7 : IVec S1024x4096 1 := cmpf .olt main_v5 main_v6
  let main_c_2 : IVec S_ 1 := constantI S_ 1 1#1
  let main_v8 : IVec S_ 1 := (fun x v => Host.reduce IntOp.andi x v reducesTo_S1024x4096_S_d0_1 h_S_) main_v7 main_c_2
  let main_v9 : IVec S_ 1 := andi main_v4 main_v8
  let main_v10 : FVec F S4096x1024 .f32 := Host.absf main_arg2
  let main_cst_3 : FVec F S_ .f32 := constant S_ .f32 0x7F800000#32
  let main_v11 : FVec F S4096x1024 .f32 := broadcastInDim S4096x1024 ![] bcast_S_S4096x1024 main_cst_3
  let main_v12 : IVec S4096x1024 1 := cmpf .olt main_v10 main_v11
  let main_c_4 : IVec S_ 1 := constantI S_ 1 1#1
  let main_v13 : IVec S_ 1 := (fun x v => Host.reduce IntOp.andi x v reducesTo_S4096x1024_S_d0_1 h_S_) main_v12 main_c_4
  let main_v14 : IVec S_ 1 := andi main_v9 main_v13
  let main_v15 : FVec F S1x1024 .f32 := Host.absf main_arg3
  let main_cst_5 : FVec F S_ .f32 := constant S_ .f32 0x7F800000#32
  fn_part1 (F := F) main_arg4 main_arg5 main_v14 main_v15 main_cst_5
-- ==== Pre_pab_finite.lean ====
abbrev S2048x1024 : Shape := ⟨2, ![2048, 1024]⟩
abbrev S2048x2312 : Shape := ⟨2, ![2048, 2312]⟩
abbrev S1024x2312 : Shape := ⟨2, ![1024, 2312]⟩
abbrev S1x1024 : Shape := ⟨2, ![1, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S2048x2312 : S_.BroadcastsInDim S2048x2312 (![] : Fin 0 → Fin S2048x2312.rank)
  reducesTo_S2048x2312_S_d0_1 : S2048x2312.ReducesTo [0, 1] S_
  bcast_S_S1024x2312 : S_.BroadcastsInDim S1024x2312 (![] : Fin 0 → Fin S1024x2312.rank)
  reducesTo_S1024x2312_S_d0_1 : S1024x2312.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S1x1024 .f32) (main_v14 : IVec S_ 1) (main_v15 : FVec F S1024x2312 .f32) (main_cst_5 : FVec F S_ .f32) : IVec S_ 1 :=
  let main_v16 : FVec F S1024x2312 .f32 := broadcastInDim S1024x2312 ![] bcast_S_S1024x2312 main_cst_5
  let main_v17 : IVec S1024x2312 1 := cmpf .olt main_v15 main_v16
  let main_c_6 : IVec S_ 1 := constantI S_ 1 1#1
  let main_v18 : IVec S_ 1 := (fun x v => Host.reduce IntOp.andi x v reducesTo_S1024x2312_S_d0_1 h_S_) main_v17 main_c_6
  let main_v19 : IVec S_ 1 := andi main_v14 main_v18
  let main_v20 : FVec F S1x1024 .f32 := Host.absf main_arg4
  let main_cst_7 : FVec F S_ .f32 := constant S_ .f32 0x7F800000#32
  let main_v21 : FVec F S1x1024 .f32 := broadcastInDim S1x1024 ![] bcast_S_S1x1024 main_cst_7
  let main_v22 : IVec S1x1024 1 := cmpf .olt main_v20 main_v21
  let main_c_8 : IVec S_ 1 := constantI S_ 1 1#1
  let main_v23 : IVec S_ 1 := (fun x v => Host.reduce IntOp.andi x v reducesTo_S1x1024_S_d0_1 h_S_) main_v22 main_c_8
  let main_v24 : IVec S_ 1 := andi main_v19 main_v23
  main_v24

def fn {F : FTy → Type} [FloatOps F] (main_arg0 : FVec F S2048x1024 .f32) (main_arg1 : FVec F S2048x1024 .f32) (main_arg2 : FVec F S2048x2312 .f32) (main_arg3 : FVec F S1024x2312 .f32) (main_arg4 : FVec F S1x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_c_0 : IVec S_ 1 := constantI S_ 1 1#1
  let main_v4 : IVec S_ 1 := andi main_c_0 main_v3
  let main_v5 : FVec F S2048x1024 .f32 := Host.absf main_arg1
  let main_cst_1 : FVec F S_ .f32 := constant S_ .f32 0x7F800000#32
  let main_v6 : FVec F S2048x1024 .f32 := broadcastInDim S2048x1024 ![] bcast_S_S2048x1024 main_cst_1
  let main_v7 : IVec S2048x1024 1 := cmpf .olt main_v5 main_v6
  let main_c_2 : IVec S_ 1 := constantI S_ 1 1#1
  let main_v8 : IVec S_ 1 := (fun x v => Host.reduce IntOp.andi x v reducesTo_S2048x1024_S_d0_1 h_S_) main_v7 main_c_2
  let main_v9 : IVec S_ 1 := andi main_v4 main_v8
  let main_v10 : FVec F S2048x2312 .f32 := Host.absf main_arg2
  let main_cst_3 : FVec F S_ .f32 := constant S_ .f32 0x7F800000#32
  let main_v11 : FVec F S2048x2312 .f32 := broadcastInDim S2048x2312 ![] bcast_S_S2048x2312 main_cst_3
  let main_v12 : IVec S2048x2312 1 := cmpf .olt main_v10 main_v11
  let main_c_4 : IVec S_ 1 := constantI S_ 1 1#1
  let main_v13 : IVec S_ 1 := (fun x v => Host.reduce IntOp.andi x v reducesTo_S2048x2312_S_d0_1 h_S_) main_v12 main_c_4
  let main_v14 : IVec S_ 1 := andi main_v9 main_v13
  let main_v15 : FVec F S1024x2312 .f32 := Host.absf main_arg3
  let main_cst_5 : FVec F S_ .f32 := constant S_ .f32 0x7F800000#32
  fn_part1 (F := F) main_arg4 main_v14 main_v15 main_cst_5
-- ==== Pre_ple_finite.lean ====
abbrev S2048x1024 : Shape := ⟨2, ![2048, 1024]⟩
abbrev S2048x256 : Shape := ⟨2, ![2048, 256]⟩
abbrev S1024x1024 : Shape := ⟨2, ![1024, 1024]⟩
abbrev S256x1024 : Shape := ⟨2, ![256, 1024]⟩
abbrev S1x1024 : Shape := ⟨2, ![1, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S2048x256 : S_.BroadcastsInDim S2048x256 (![] : Fin 0 → Fin S2048x256.rank)
  reducesTo_S2048x256_S_d0_1 : S2048x256.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S256x1024 : S_.BroadcastsInDim S256x1024 (![] : Fin 0 → Fin S256x1024.rank)
  reducesTo_S256x1024_S_d0_1 : S256x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S256x1024 .f32) (main_arg5 : FVec F S1x1024 .f32) (main_v14 : IVec S_ 1) (main_v15 : FVec F S1024x1024 .f32) (main_cst_5 : FVec F S_ .f32) : IVec S_ 1 :=
  let main_v16 : FVec F S1024x1024 .f32 := broadcastInDim S1024x1024 ![] bcast_S_S1024x1024 main_cst_5
  let main_v17 : IVec S1024x1024 1 := cmpf .olt main_v15 main_v16
  let main_c_6 : IVec S_ 1 := constantI S_ 1 1#1
  let main_v18 : IVec S_ 1 := (fun x v => Host.reduce IntOp.andi x v reducesTo_S1024x1024_S_d0_1 h_S_) main_v17 main_c_6
  let main_v19 : IVec S_ 1 := andi main_v14 main_v18
  let main_v20 : FVec F S256x1024 .f32 := Host.absf main_arg4
  let main_cst_7 : FVec F S_ .f32 := constant S_ .f32 0x7F800000#32
  let main_v21 : FVec F S256x1024 .f32 := broadcastInDim S256x1024 ![] bcast_S_S256x1024 main_cst_7
  let main_v22 : IVec S256x1024 1 := cmpf .olt main_v20 main_v21
  let main_c_8 : IVec S_ 1 := constantI S_ 1 1#1
  let main_v23 : IVec S_ 1 := (fun x v => Host.reduce IntOp.andi x v reducesTo_S256x1024_S_d0_1 h_S_) main_v22 main_c_8
  let main_v24 : IVec S_ 1 := andi main_v19 main_v23
  let main_v25 : FVec F S1x1024 .f32 := Host.absf main_arg5
  let main_cst_9 : FVec F S_ .f32 := constant S_ .f32 0x7F800000#32
  let main_v26 : FVec F S1x1024 .f32 := broadcastInDim S1x1024 ![] bcast_S_S1x1024 main_cst_9
  let main_v27 : IVec S1x1024 1 := cmpf .olt main_v25 main_v26
  let main_c_10 : IVec S_ 1 := constantI S_ 1 1#1
  let main_v28 : IVec S_ 1 := (fun x v => Host.reduce IntOp.andi x v reducesTo_S1x1024_S_d0_1 h_S_) main_v27 main_c_10
  let main_v29 : IVec S_ 1 := andi main_v24 main_v28
  main_v29

def fn {F : FTy → Type} [FloatOps F] (main_arg0 : FVec F S2048x1024 .f32) (main_arg1 : FVec F S2048x256 .f32) (main_arg2 : FVec F S2048x1024 .f32) (main_arg3 : FVec F S1024x1024 .f32) (main_arg4 : FVec F S256x1024 .f32) (main_arg5 : FVec F S1x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_c_0 : IVec S_ 1 := constantI S_ 1 1#1
  let main_v4 : IVec S_ 1 := andi main_c_0 main_v3
  let main_v5 : FVec F S2048x256 .f32 := Host.absf main_arg1
  let main_cst_1 : FVec F S_ .f32 := constant S_ .f32 0x7F800000#32
  let main_v6 : FVec F S2048x256 .f32 := broadcastInDim S2048x256 ![] bcast_S_S2048x256 main_cst_1
  let main_v7 : IVec S2048x256 1 := cmpf .olt main_v5 main_v6
  let main_c_2 : IVec S_ 1 := constantI S_ 1 1#1
  let main_v8 : IVec S_ 1 := (fun x v => Host.reduce IntOp.andi x v reducesTo_S2048x256_S_d0_1 h_S_) main_v7 main_c_2
  let main_v9 : IVec S_ 1 := andi main_v4 main_v8
  let main_v10 : FVec F S2048x1024 .f32 := Host.absf main_arg2
  let main_cst_3 : FVec F S_ .f32 := constant S_ .f32 0x7F800000#32
  let main_v11 : FVec F S2048x1024 .f32 := broadcastInDim S2048x1024 ![] bcast_S_S2048x1024 main_cst_3
  let main_v12 : IVec S2048x1024 1 := cmpf .olt main_v10 main_v11
  let main_c_4 : IVec S_ 1 := constantI S_ 1 1#1
  let main_v13 : IVec S_ 1 := (fun x v => Host.reduce IntOp.andi x v reducesTo_S2048x1024_S_d0_1 h_S_) main_v12 main_c_4
  let main_v14 : IVec S_ 1 := andi main_v9 main_v13
  let main_v15 : FVec F S1024x1024 .f32 := Host.absf main_arg3
  let main_cst_5 : FVec F S_ .f32 := constant S_ .f32 0x7F800000#32
  fn_part1 (F := F) main_arg4 main_arg5 main_v14 main_v15 main_cst_5
-- ==== Forget.lean ====
abbrev S2048x1024 : Shape := ⟨2, ![2048, 1024]⟩
abbrev S1024x8 : Shape := ⟨2, ![1024, 8]⟩
abbrev S8 : Shape := ⟨1, ![8]⟩
abbrev S2048x8 : Shape := ⟨2, ![2048, 8]⟩
abbrev S8x2048 : Shape := ⟨2, ![8, 2048]⟩
abbrev S_ : Shape := ⟨0, ![]⟩
abbrev S16x2048 : Shape := ⟨2, ![16, 2048]⟩
abbrev S8x1 : Shape := ⟨2, ![8, 1]⟩
abbrev S16x1 : Shape := ⟨2, ![16, 1]⟩
abbrev S16x1024 : Shape := ⟨2, ![16, 1024]⟩
abbrev S16 : Shape := ⟨1, ![16]⟩

abbrev nBuf : Space → Nat
  | .hbm => 21
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S1024x8, .f32⟩
  | .hbm, ⟨2, _⟩ => ⟨S8, .f32⟩
  | .hbm, ⟨3, _⟩ => ⟨S2048x8, .f32⟩
  | .hbm, ⟨4, _⟩ => ⟨S2048x8, .f32⟩
  | .hbm, ⟨5, _⟩ => ⟨S8x2048, .f32⟩
  | .hbm, ⟨6, _⟩ => ⟨S_, .i32⟩
  | .hbm, ⟨7, _⟩ => ⟨S_, .f32⟩
  | .hbm, ⟨8, _⟩ => ⟨S16x2048, .f32⟩
  | .hbm, ⟨9, _⟩ => ⟨S8x1, .f32⟩
  | .hbm, ⟨10, _⟩ => ⟨S_, .i32⟩
  | .hbm, ⟨11, _⟩ => ⟨S_, .f32⟩
  | .hbm, ⟨12, _⟩ => ⟨S16x1, .f32⟩
  | .hbm, ⟨13, _⟩ => ⟨S8x2048, .f32⟩
  | .hbm, ⟨14, _⟩ => ⟨S_, .i32⟩
  | .hbm, ⟨15, _⟩ => ⟨S_, .f32⟩
  | .hbm, ⟨16, _⟩ => ⟨S16x2048, .f32⟩
  | .hbm, ⟨17, _⟩ => ⟨S2048x1024, .bf16⟩
  | .hbm, ⟨18, _⟩ => ⟨S16x2048, .f32⟩
  | .hbm, ⟨19, _⟩ => ⟨S16x1, .f32⟩
  | .hbm, ⟨20, _⟩ => ⟨S16x1024, .f32⟩
  | .local _ .vmem, ⟨0, _⟩ => ⟨S16x2048, .f32⟩
  | .local _ .vmem, ⟨1, _⟩ => ⟨S16x2048, .f32⟩
  | .local _ .vmem, ⟨2, _⟩ => ⟨S16x1, .f32⟩
  | .local _ .vmem, ⟨3, _⟩ => ⟨S2048x1024, .bf16⟩
  | .local _ .vmem, ⟨4, _⟩ => ⟨S16x2048, .f32⟩
  | .local _ .vmem, ⟨5, _⟩ => ⟨S16x1, .f32⟩
  | .local _ .vmem, ⟨6, _⟩ => ⟨S16x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_call1_v0 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_call2_v0 : Ref sig .tc := ⟨.hbm, 15, rfl⟩
abbrev main_v6 : Ref sig .tc := ⟨.hbm, 16, rfl⟩
abbrev main_v7 : Ref sig .tc := ⟨.hbm, 17, rfl⟩
abbrev main_v8_0 : Ref sig .tc := ⟨.hbm, 18, rfl⟩
abbrev main_v8_1 : Ref sig .tc := ⟨.hbm, 19, rfl⟩
abbrev main_v8_2 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== ForgetRefIdeal.lean ====
abbrev S2048x1024 : Shape := ⟨2, ![2048, 1024]⟩
abbrev S1024x8 : Shape := ⟨2, ![1024, 8]⟩
abbrev S8 : Shape := ⟨1, ![8]⟩
abbrev S2048x8 : Shape := ⟨2, ![2048, 8]⟩
abbrev S1x8 : Shape := ⟨2, ![1, 8]⟩
abbrev S_ : Shape := ⟨0, ![]⟩
abbrev S8x1024 : Shape := ⟨2, ![8, 1024]⟩
abbrev S8x2048 : Shape := ⟨2, ![8, 2048]⟩
abbrev S16x2048 : Shape := ⟨2, ![16, 2048]⟩
abbrev S8x1 : Shape := ⟨2, ![8, 1]⟩
abbrev S16x1 : Shape := ⟨2, ![16, 1]⟩
abbrev S16x1024 : Shape := ⟨2, ![16, 1024]⟩

abbrev nBuf : Space → Nat
  | .hbm => 85
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x8, .f32⟩
  | .hbm, ⟨2, _⟩ => ⟨S8, .f32⟩
  | .hbm, ⟨3, _⟩ => ⟨S2048x8, .f32⟩
  | .hbm, ⟨4, _⟩ => ⟨S2048x8, .f32⟩
  | .hbm, ⟨5, _⟩ => ⟨S1x8, .f32⟩
  | .hbm, ⟨6, _⟩ => ⟨S2048x8, .f32⟩
  | .hbm, ⟨7, _⟩ => ⟨S2048x8, .f32⟩
  | .hbm, ⟨8, _⟩ => ⟨S2048x8, .f32⟩
  | .hbm, ⟨9, _⟩ => ⟨S_, .f32⟩
  | .hbm, ⟨10, _⟩ => ⟨S2048x8, .f32⟩
  | .hbm, ⟨11, _⟩ => ⟨S2048x8, .f32⟩
  | .hbm, ⟨12, _⟩ => ⟨S2048x8, .f32⟩
  | .hbm, ⟨13, _⟩ => ⟨S2048x8, .f32⟩
  | .hbm, ⟨14, _⟩ => ⟨S2048x8, .i1⟩
  | .hbm, ⟨15, _⟩ => ⟨S2048x8, .f32⟩
  | .hbm, ⟨16, _⟩ => ⟨S2048x8, .f32⟩
  | .hbm, ⟨17, _⟩ => ⟨S2048x8, .f32⟩
  | .hbm, ⟨18, _⟩ => ⟨S2048x8, .f32⟩
  | .hbm, ⟨19, _⟩ => ⟨S2048x8, .f32⟩
  | .hbm, ⟨20, _⟩ => ⟨S2048x8, .f32⟩
  | .hbm, ⟨21, _⟩ => ⟨S2048x8, .f32⟩
  | .hbm, ⟨22, _⟩ => ⟨S2048x8, .f32⟩
  | .hbm, ⟨23, _⟩ => ⟨S_, .f32⟩
  | .hbm, ⟨24, _⟩ => ⟨S2048x8, .f32⟩
  | .hbm, ⟨25, _⟩ => ⟨S2048x8, .i1⟩
  | .hbm, ⟨26, _⟩ => ⟨S_, .f32⟩
  | .hbm, ⟨27, _⟩ => ⟨S2048x8, .f32⟩
  | .hbm, ⟨28, _⟩ => ⟨S2048x8, .f32⟩
  | .hbm, ⟨29, _⟩ => ⟨S_, .f32⟩
  | .hbm, ⟨30, _⟩ => ⟨S2048x8, .f32⟩
  | .hbm, ⟨31, _⟩ => ⟨S2048x8, .i1⟩
  | .hbm, ⟨32, _⟩ => ⟨S_, .f32⟩
  | .hbm, ⟨33, _⟩ => ⟨S2048x8, .f32⟩
  | .hbm, ⟨34, _⟩ => ⟨S2048x8, .f32⟩
  | .hbm, ⟨35, _⟩ => ⟨S2048x8, .f32⟩
  | .hbm, ⟨36, _⟩ => ⟨S2048x8, .f32⟩
  | .hbm, ⟨37, _⟩ => ⟨S_, .f32⟩
  | .hbm, ⟨38, _⟩ => ⟨S_, .f32⟩
  | .hbm, ⟨39, _⟩ => ⟨S_, .i1⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S2048x8, .f32⟩
  | .hbm, ⟨45, _⟩ => ⟨S2048x8, .i1⟩
  | .hbm, ⟨46, _⟩ => ⟨S_, .f32⟩
  | .hbm, ⟨47, _⟩ => ⟨S2048x8, .f32⟩
  | .hbm, ⟨48, _⟩ => ⟨S2048x8, .f32⟩
  | .hbm, ⟨49, _⟩ => ⟨S2048x8, .f32⟩
  | .hbm, ⟨50, _⟩ => ⟨S2048x8, .f32⟩
  | .hbm, ⟨51, _⟩ => ⟨S2048x8, .f32⟩
  | .hbm, ⟨52, _⟩ => ⟨S_, .f32⟩
  | .hbm, ⟨53, _⟩ => ⟨S2048x8, .f32⟩
  | .hbm, ⟨54, _⟩ => ⟨S2048x8, .f32⟩
  | .hbm, ⟨55, _⟩ => ⟨S2048x8, .f32⟩
  | .hbm, ⟨56, _⟩ => ⟨S_, .f32⟩
  | .hbm, ⟨57, _⟩ => ⟨S_, .f32⟩
  | .hbm, ⟨58, _⟩ => ⟨S2048x8, .f32⟩
  | .hbm, ⟨59, _⟩ => ⟨S_, .f32⟩
  | .hbm, ⟨60, _⟩ => ⟨S_, .f32⟩
  | .hbm, ⟨61, _⟩ => ⟨S2048x8, .f32⟩
  | .hbm, ⟨62, _⟩ => ⟨S2048x8, .f32⟩
  | .hbm, ⟨63, _⟩ => ⟨S2048x8, .f32⟩
  | .hbm, ⟨64, _⟩ => ⟨S2048x8, .f32⟩
  | .hbm, ⟨65, _⟩ => ⟨S_, .f32⟩
  | .hbm, ⟨66, _⟩ => ⟨S8, .f32⟩
  | .hbm, ⟨67, _⟩ => ⟨S1x8, .f32⟩
  | .hbm, ⟨68, _⟩ => ⟨S_, .f32⟩
  | .hbm, ⟨69, _⟩ => ⟨S8, .f32⟩
  | .hbm, ⟨70, _⟩ => ⟨S2048x8, .f32⟩
  | .hbm, ⟨71, _⟩ => ⟨S8x1024, .f32⟩
  | .hbm, ⟨72, _⟩ => ⟨S1024x8, .f32⟩
  | .hbm, ⟨73, _⟩ => ⟨S8x2048, .f32⟩
  | .hbm, ⟨74, _⟩ => ⟨S_, .i32⟩
  | .hbm, ⟨75, _⟩ => ⟨S_, .f32⟩
  | .hbm, ⟨76, _⟩ => ⟨S16x2048, .f32⟩
  | .hbm, ⟨77, _⟩ => ⟨S8x1, .f32⟩
  | .hbm, ⟨78, _⟩ => ⟨S_, .i32⟩
  | .hbm, ⟨79, _⟩ => ⟨S_, .f32⟩
  | .hbm, ⟨80, _⟩ => ⟨S16x1, .f32⟩
  | .hbm, ⟨81, _⟩ => ⟨S8x1024, .f32⟩
  | .hbm, ⟨82, _⟩ => ⟨S_, .i32⟩
  | .hbm, ⟨83, _⟩ => ⟨S_, .f32⟩
  | .hbm, ⟨84, _⟩ => ⟨S16x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_call0_cst : Ref sig .tc := ⟨.hbm, 9, rfl⟩
abbrev main_call0_call0_v0 : Ref sig .tc := ⟨.hbm, 10, rfl⟩
abbrev main_call0_call0_v1 : Ref sig .tc := ⟨.hbm, 11, rfl⟩
abbrev main_call0_call0_v2 : Ref sig .tc := ⟨.hbm, 12, rfl⟩
abbrev main_call0_call0_v3 : Ref sig .tc := ⟨.hbm, 13, rfl⟩
abbrev main_call0_call0_v4 : Ref sig .tc := ⟨.hbm, 14, rfl⟩
abbrev main_call0_call0_v5 : Ref sig .tc := ⟨.hbm, 15, rfl⟩
abbrev main_call0_call0_v6 : Ref sig .tc := ⟨.hbm, 16, rfl⟩
abbrev main_call0_call0_v7 : Ref sig .tc := ⟨.hbm, 17, rfl⟩
abbrev main_call0_call0_v8 : Ref sig .tc := ⟨.hbm, 18, rfl⟩
abbrev main_call0_call0_v9 : Ref sig .tc := ⟨.hbm, 19, rfl⟩
abbrev main_call0_call0_v10 : Ref sig .tc := ⟨.hbm, 20, rfl⟩
abbrev main_call0_call0_v11 : Ref sig .tc := ⟨.hbm, 21, rfl⟩
abbrev main_call0_v1_0 : Ref sig .tc := ⟨.hbm, 22, rfl⟩
abbrev main_call0_call0_cst_0 : Ref sig .tc := ⟨.hbm, 23, rfl⟩
abbrev main_call0_call0_v13 : Ref sig .tc := ⟨.hbm, 24, rfl⟩
abbrev main_call0_call0_v14 : Ref sig .tc := ⟨.hbm, 25, rfl⟩
abbrev main_call0_call0_cst_1 : Ref sig .tc := ⟨.hbm, 26, rfl⟩
abbrev main_call0_call0_v15 : Ref sig .tc := ⟨.hbm, 27, rfl⟩
abbrev main_call0_call0_v16 : Ref sig .tc := ⟨.hbm, 28, rfl⟩
abbrev main_call0_call0_cst_2 : Ref sig .tc := ⟨.hbm, 29, rfl⟩
abbrev main_call0_call0_v17 : Ref sig .tc := ⟨.hbm, 30, rfl⟩
abbrev main_call0_call0_v18 : Ref sig .tc := ⟨.hbm, 31, rfl⟩
abbrev main_call0_call0_cst_3 : Ref sig .tc := ⟨.hbm, 32, rfl⟩
abbrev main_call0_call0_v19 : Ref sig .tc := ⟨.hbm, 33, rfl⟩
abbrev main_call0_call0_v20 : Ref sig .tc := ⟨.hbm, 34, rfl⟩
abbrev main_call0_call0_v21 : Ref sig .tc := ⟨.hbm, 35, rfl⟩
abbrev main_v4_1 : Ref sig .tc := ⟨.hbm, 36, rfl⟩
abbrev main_call0_call0_cst_4 : Ref sig .tc := ⟨.hbm, 37, rfl⟩
abbrev main_call0_call0_cst_5 : Ref sig .tc := ⟨.hbm, 38, rfl⟩
abbrev main_call0_call0_v23 : Ref sig .tc := ⟨.hbm, 39, rfl⟩
abbrev main_call0_call0_cst_6 : Ref sig .tc := ⟨.hbm, 40, rfl⟩
abbrev main_call0_call0_cst_7 : Ref sig .tc := ⟨.hbm, 41, rfl⟩
abbrev main_call0_call0_v24 : Ref sig .tc := ⟨.hbm, 42, rfl⟩
abbrev main_call0_call0_cst_8 : Ref sig .tc := ⟨.hbm, 43, rfl⟩
abbrev main_call0_call0_v25 : Ref sig .tc := ⟨.hbm, 44, rfl⟩
abbrev main_call0_call0_v26 : Ref sig .tc := ⟨.hbm, 45, rfl⟩
abbrev main_call0_call0_cst_9 : Ref sig .tc := ⟨.hbm, 46, rfl⟩
abbrev main_call0_call0_v27 : Ref sig .tc := ⟨.hbm, 47, rfl⟩
abbrev main_call0_call0_v28 : Ref sig .tc := ⟨.hbm, 48, rfl⟩
abbrev main_call0_call0_v29 : Ref sig .tc := ⟨.hbm, 49, rfl⟩
abbrev main_call0_call0_v30 : Ref sig .tc := ⟨.hbm, 50, rfl⟩
abbrev main_call0_call0_v31 : Ref sig .tc := ⟨.hbm, 51, rfl⟩
abbrev main_call0_call0_cst_10 : Ref sig .tc := ⟨.hbm, 52, rfl⟩
abbrev main_call0_call0_v32 : Ref sig .tc := ⟨.hbm, 53, rfl⟩
abbrev main_v4_2 : Ref sig .tc := ⟨.hbm, 54, rfl⟩
abbrev main_v4_0 : Ref sig .tc := ⟨.hbm, 55, rfl⟩
abbrev main_call1_call0_cst : Ref sig .tc := ⟨.hbm, 56, rfl⟩
abbrev main_call1_call0_v0 : Ref sig .tc := ⟨.hbm, 57, rfl⟩
abbrev main_v5 : Ref sig .tc := ⟨.hbm, 58, rfl⟩
abbrev main_call2_call0_cst : Ref sig .tc := ⟨.hbm, 59, rfl⟩
abbrev main_call2_call0_v0 : Ref sig .tc := ⟨.hbm, 60, rfl⟩
abbrev main_v6 : Ref sig .tc := ⟨.hbm, 61, rfl⟩
abbrev main_call3_v0 : Ref sig .tc := ⟨.hbm, 62, rfl⟩
abbrev main_call3_v1 : Ref sig .tc := ⟨.hbm, 63, rfl⟩
abbrev main_v7 : Ref sig .tc := ⟨.hbm, 64, rfl⟩
abbrev main_cst : Ref sig .tc := ⟨.hbm, 65, rfl⟩
abbrev main_v8 : Ref sig .tc := ⟨.hbm, 66, rfl⟩
abbrev main_v9 : Ref sig .tc := ⟨.hbm, 67, rfl⟩
abbrev main_cst_0 : Ref sig .tc := ⟨.hbm, 68, rfl⟩
abbrev main_v10 : Ref sig .tc := ⟨.hbm, 69, rfl⟩
abbrev main_v11 : Ref sig .tc := ⟨.hbm, 70, rfl⟩
abbrev main_v12 : Ref sig .tc := ⟨.hbm, 71, rfl⟩
abbrev main_v13 : Ref sig .tc := ⟨.hbm, 72, rfl⟩
abbrev main_v14 : Ref sig .tc := ⟨.hbm, 73, rfl⟩
abbrev main_c : Ref sig .tc := ⟨.hbm, 74, rfl⟩
abbrev main_call4_v0 : Ref sig .tc := ⟨.hbm, 75, rfl⟩
abbrev main_v15 : Ref sig .tc := ⟨.hbm, 76, rfl⟩
abbrev main_v16 : Ref sig .tc := ⟨.hbm, 77, rfl⟩
abbrev main_c_1 : Ref sig .tc := ⟨.hbm, 78, rfl⟩
abbrev main_call5_v0 : Ref sig .tc := ⟨.hbm, 79, rfl⟩
abbrev main_v17 : Ref sig .tc := ⟨.hbm, 80, rfl⟩
abbrev main_v18 : Ref sig .tc := ⟨.hbm, 81, rfl⟩
abbrev main_c_2 : Ref sig .tc := ⟨.hbm, 82, rfl⟩
abbrev main_call6_v0 : Ref sig .tc := ⟨.hbm, 83, rfl⟩
abbrev main_v19 : Ref sig .tc := ⟨.hbm, 84, rfl⟩

abbrev nD : Nat := 1
abbrev τ : Topo := Topo.v7x

variable {F : FTy → Type} [FloatOps F]
-- ==== Fox.lean ====
abbrev S2048x512 : Shape := ⟨2, ![2048, 512]⟩
abbrev S2048x8 : Shape := ⟨2, ![2048, 8]⟩
abbrev S_ : Shape := ⟨0, ![]⟩
abbrev S2048x1536 : Shape := ⟨2, ![2048, 1536]⟩
abbrev S2048x1024 : Shape := ⟨2, ![2048, 1024]⟩
abbrev S2048x8x64 : Shape := ⟨3, ![2048, 8, 64]⟩
abbrev S8x2048x2048 : Shape := ⟨3, ![8, 2048, 2048]⟩
abbrev S8x2048 : Shape := ⟨2, ![8, 2048]⟩
abbrev S8x1x2048 : Shape := ⟨3, ![8, 1, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S8x2048x1 : Shape := ⟨3, ![8, 2048, 1]⟩
abbrev S8x64x2048 : Shape := ⟨3, ![8, 64, 2048]⟩
abbrev S8x8x256 : Shape := ⟨3, ![8, 8, 256]⟩
abbrev S512x512 : Shape := ⟨2, ![512, 512]⟩
abbrev S512x8 : Shape := ⟨2, ![512, 8]⟩
abbrev S512x256 : Shape := ⟨2, ![512, 256]⟩
abbrev S512x128 : Shape := ⟨2, ![512, 128]⟩
abbrev S512x1 : Shape := ⟨2, ![512, 1]⟩
abbrev S256x128 : Shape := ⟨2, ![256, 128]⟩
abbrev S256x256 : Shape := ⟨2, ![256, 256]⟩
abbrev S256x1 : Shape := ⟨2, ![256, 1]⟩
abbrev S1x1x256 : Shape := ⟨3, ![1, 1, 256]⟩
abbrev S1x256 : Shape := ⟨2, ![1, 256]⟩
abbrev S256 : Shape := ⟨1, ![256]⟩
abbrev S512 : Shape := ⟨1, ![512]⟩

abbrev nBuf : Space → Nat
  | .hbm => 68
  | .vmem => 18
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S2048x8, .f32⟩
  | .hbm, ⟨4, _⟩ => ⟨S2048x512, .f32⟩
  | .hbm, ⟨5, _⟩ => ⟨S_, .f32⟩
  | .hbm, ⟨6, _⟩ => ⟨S2048x512, .f32⟩
  | .hbm, ⟨7, _⟩ => ⟨S2048x512, .f32⟩
  | .hbm, ⟨8, _⟩ => ⟨S2048x1536, .f32⟩
  | .hbm, ⟨9, _⟩ => ⟨S2048x1536, .bf16⟩
  | .hbm, ⟨10, _⟩ => ⟨S_, .f32⟩
  | .hbm, ⟨11, _⟩ => ⟨S2048x512, .f32⟩
  | .hbm, ⟨12, _⟩ => ⟨S2048x1024, .f32⟩
  | .hbm, ⟨13, _⟩ => ⟨S2048x1024, .bf16⟩
  | .hbm, ⟨14, _⟩ => ⟨S2048x8x64, .f32⟩
  | .hbm, ⟨15, _⟩ => ⟨S2048x8x64, .f32⟩
  | .hbm, ⟨16, _⟩ => ⟨S8x2048x2048, .f32⟩
  | .hbm, ⟨17, _⟩ => ⟨S_, .f32⟩
  | .hbm, ⟨18, _⟩ => ⟨S8x2048x2048, .f32⟩
  | .hbm, ⟨19, _⟩ => ⟨S8x2048x2048, .f32⟩
  | .hbm, ⟨20, _⟩ => ⟨S8x2048, .f32⟩
  | .hbm, ⟨21, _⟩ => ⟨S8x1x2048, .f32⟩
  | .hbm, ⟨22, _⟩ => ⟨S8x2048x2048, .f32⟩
  | .hbm, ⟨23, _⟩ => ⟨S8x2048x2048, .f32⟩
  | .hbm, ⟨24, _⟩ => ⟨S2048, .i32⟩
  | .hbm, ⟨25, _⟩ => ⟨S2048x1, .i32⟩
  | .hbm, ⟨26, _⟩ => ⟨S2048, .i32⟩
  | .hbm, ⟨27, _⟩ => ⟨S1x2048, .i32⟩
  | .hbm, ⟨28, _⟩ => ⟨S2048x2048, .i32⟩
  | .hbm, ⟨29, _⟩ => ⟨S2048x2048, .i32⟩
  | .hbm, ⟨30, _⟩ => ⟨S2048x2048, .i1⟩
  | .hbm, ⟨31, _⟩ => ⟨S_, .f32⟩
  | .hbm, ⟨32, _⟩ => ⟨S_, .f32⟩
  | .hbm, ⟨33, _⟩ => ⟨S8x2048x2048, .i1⟩
  | .hbm, ⟨34, _⟩ => ⟨S8x2048x2048, .f32⟩
  | .hbm, ⟨35, _⟩ => ⟨S8x2048x2048, .f32⟩
  | .hbm, ⟨36, _⟩ => ⟨S_, .f32⟩
  | .hbm, ⟨37, _⟩ => ⟨S8x2048, .f32⟩
  | .hbm, ⟨38, _⟩ => ⟨S8x2048x1, .f32⟩
  | .hbm, ⟨39, _⟩ => ⟨S8x2048x2048, .f32⟩
  | .hbm, ⟨40, _⟩ => ⟨S8x2048x2048, .f32⟩
  | .hbm, ⟨41, _⟩ => ⟨S8x2048x2048, .f32⟩
  | .hbm, ⟨42, _⟩ => ⟨S_, .f32⟩
  | .hbm, ⟨43, _⟩ => ⟨S8x2048, .f32⟩
  | .hbm, ⟨44, _⟩ => ⟨S8x2048x1, .f32⟩
  | .hbm, ⟨45, _⟩ => ⟨S8x2048x1, .f32⟩
  | .hbm, ⟨46, _⟩ => ⟨S8x2048x1, .f32⟩
  | .hbm, ⟨47, _⟩ => ⟨S8x2048, .f32⟩
  | .hbm, ⟨48, _⟩ => ⟨S8x2048x2048, .f32⟩
  | .hbm, ⟨49, _⟩ => ⟨S8x2048x2048, .f32⟩
  | .hbm, ⟨50, _⟩ => ⟨S2048x8x64, .f32⟩
  | .hbm, ⟨51, _⟩ => ⟨S8x64x2048, .f32⟩
  | .hbm, ⟨52, _⟩ => ⟨S2048x8x64, .f32⟩
  | .hbm, ⟨53, _⟩ => ⟨S2048x8x64, .f32⟩
  | .hbm, ⟨54, _⟩ => ⟨S2048x8x64, .f32⟩
  | .hbm, ⟨55, _⟩ => ⟨S_, .f32⟩
  | .hbm, ⟨56, _⟩ => ⟨S2048x8, .f32⟩
  | .hbm, ⟨57, _⟩ => ⟨S8x2048, .f32⟩
  | .hbm, ⟨58, _⟩ => ⟨S8x8x256, .f32⟩
  | .hbm, ⟨59, _⟩ => ⟨S8x8x256, .f32⟩
  | .hbm, ⟨60, _⟩ => ⟨S2048x512, .f32⟩
  | .hbm, ⟨61, _⟩ => ⟨S2048x512, .bf16⟩
  | .hbm, ⟨62, _⟩ => ⟨S2048x512, .bf16⟩
  | .hbm, ⟨63, _⟩ => ⟨S2048x8, .f32⟩
  | .hbm, ⟨64, _⟩ => ⟨S8x8x256, .f32⟩
  | .hbm, ⟨65, _⟩ => ⟨S8x2048, .f32⟩
  | .hbm, ⟨66, _⟩ => ⟨S8x2048, .f32⟩
  | .hbm, ⟨67, _⟩ => ⟨S8x2048, .f32⟩
  | .local _ .vmem, ⟨0, _⟩ => ⟨S2048x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S2048x512, .bf16⟩
  | .local _ .vmem, ⟨6, _⟩ => ⟨S8x8x256, .f32⟩
  | .local _ .vmem, ⟨7, _⟩ => ⟨S8x8x256, .f32⟩
  | .local _ .vmem, ⟨8, _⟩ => ⟨S512x8, .f32⟩
  | .local _ .vmem, ⟨9, _⟩ => ⟨S512x8, .f32⟩
  | .local _ .vmem, ⟨10, _⟩ => ⟨S2048x512, .f32⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x8, .f32⟩
  | .local _ .vmem, ⟨16, _⟩ => ⟨S512x8, .f32⟩
  | .local _ .vmem, ⟨17, _⟩ => ⟨S8x8x256, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_4 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_5 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45_0 : Ref sig .tc := ⟨.hbm, 60, rfl⟩
abbrev main_v45_1 : Ref sig .tc := ⟨.hbm, 61, rfl⟩
abbrev main_v45_2 : Ref sig .tc := ⟨.hbm, 62, rfl⟩
abbrev main_v45_3 : Ref sig .tc := ⟨.hbm, 63, rfl⟩
abbrev main_v45_4 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17

abbrev nD : Nat := 1
abbrev τ : Topo := Topo.v7x

variable {F : FTy → Type} [FloatOps F]

abbrev grid0 : Pipeline.Grid := ⟨1, ![4], ![false]⟩

def k0_mult1 (i : grid0.Coords) : BitVec 32 :=
  let arg0 : BitVec 32 := BitVec.ofNat 32 (i 0).val
  let c2_i32 : BitVec 32 := 2#32
  let v42 : BitVec 32 := Scalar.muli arg0 c2_i32
  let c0_i32_25 : BitVec 32 := 0#32
  let v43 : BitVec 32 := Scalar.addi v42 c0_i32_25
  let c256_i32 : BitVec 32 := 256#32
  let v44 : BitVec 32 := Scalar.muli v43 c256_i32
  v44
def k0_off1 (i : grid0.Coords) (c0_i32_25 : BitVec 32) : Fin 2 → Nat :=
  let arg0 : BitVec 32 := BitVec.ofNat 32 (i 0).val
  let c2_i32 : BitVec 32 := 2#32
  let v42 : BitVec 32 := Scalar.muli arg0 c2_i32
  let v43 : BitVec 32 := Scalar.addi v42 c0_i32_25
  let c256_i32 : BitVec 32 := 256#32
  let v44 : BitVec 32 := Scalar.muli v43 c256_i32
  let v45 : BitVec 32 := v44
  let v46 : Index := Scalar.indexCast v45
  let c0_26 : Index := 0#32
  ![v46.toNat, 0]
def k0_off2 (i : grid0.Coords) (c0_i32_25 : BitVec 32) : Fin 3 → Nat :=
  let c0_29 : Index := 0#32
  let arg0 : BitVec 32 := BitVec.ofNat 32 (i 0).val
  let c2_i32 : BitVec 32 := 2#32
  let v42 : BitVec 32 := Scalar.muli arg0 c2_i32
  let v43 : BitVec 32 := Scalar.addi v42 c0_i32_25
  let v57 : Index := Scalar.indexCast v43
  let c0_30 : Index := 0#32
  ![0, v57.toNat, 0]
def k0_off3 (i : grid0.Coords) (c0_i32_25 : BitVec 32) : Fin 3 → Nat :=
  let c1_46 : Index := 1#32
  let arg0 : BitVec 32 := BitVec.ofNat 32 (i 0).val
  let c2_i32 : BitVec 32 := 2#32
  let v42 : BitVec 32 := Scalar.muli arg0 c2_i32
  let v43 : BitVec 32 := Scalar.addi v42 c0_i32_25
  let v113 : Index := Scalar.indexCast v43
  let c0_47 : Index := 0#32
  ![1, v113.toNat, 0]
def k0_off4 (i : grid0.Coords) (c0_i32_25 : BitVec 32) : Fin 2 → Nat :=
  let arg0 : BitVec 32 := BitVec.ofNat 32 (i 0).val
  let c2_i32 : BitVec 32 := 2#32
  let v42 : BitVec 32 := Scalar.muli arg0 c2_i32
  let v43 : BitVec 32 := Scalar.addi v42 c0_i32_25
  let c256_i32 : BitVec 32 := 256#32
  let v44 : BitVec 32 := Scalar.muli v43 c256_i32
  let v45 : BitVec 32 := v44
  let v171 : Index := Scalar.indexCast v45
  let c128_64 : Index := 128#32
  ![v171.toNat, 128]
def k0_off5 (i : grid0.Coords) (c0_i32_25 : BitVec 32) : Fin 3 → Nat :=
  let c2_67 : Index := 2#32
  let arg0 : BitVec 32 := BitVec.ofNat 32 (i 0).val
  let c2_i32 : BitVec 32 := 2#32
  let v42 : BitVec 32 := Scalar.muli arg0 c2_i32
  let v43 : BitVec 32 := Scalar.addi v42 c0_i32_25
  let v182 : Index := Scalar.indexCast v43
  let c0_68 : Index := 0#32
  ![2, v182.toNat, 0]
def k0_off6 (i : grid0.Coords) (c0_i32_25 : BitVec 32) : Fin 3 → Nat :=
  let c3_84 : Index := 3#32
  let arg0 : BitVec 32 := BitVec.ofNat 32 (i 0).val
  let c2_i32 : BitVec 32 := 2#32
  let v42 : BitVec 32 := Scalar.muli arg0 c2_i32
  let v43 : BitVec 32 := Scalar.addi v42 c0_i32_25
  let v238 : Index := Scalar.indexCast v43
  let c0_85 : Index := 0#32
  ![3, v238.toNat, 0]
def k0_mult2 (i : grid0.Coords) : BitVec 32 :=
  let arg0 : BitVec 32 := BitVec.ofNat 32 (i 0).val
  let c2_i32_102 : BitVec 32 := 2#32
  let v296 : BitVec 32 := Scalar.muli arg0 c2_i32_102
  let c1_i32 : BitVec 32 := 1#32
  let v297 : BitVec 32 := Scalar.addi v296 c1_i32
  let c256_i32_103 : BitVec 32 := 256#32
  let v298 : BitVec 32 := Scalar.muli v297 c256_i32_103
  v298
@[reducible] def k0_t1_loop (i : grid0.Coords) : Scf.Loop 32 :=
  let arg0 : BitVec 32 := BitVec.ofNat 32 (i 0).val
  let c1_i32_180 : BitVec 32 := 1#32
  let v490 : BitVec 32 := Scalar.addi arg0 c1_i32_180
  let c2_i32_181 : BitVec 32 := 2#32
  let v491 : BitVec 32 := Scalar.muli v490 c2_i32_181
  let c8_i32 : BitVec 32 := 8#32
  let v492 : BitVec 32 := Scalar.subi c8_i32 v491
  let c1_i32_182 : BitVec 32 := 1#32
  let v494 : BitVec 32 := Scalar.divsi v492 c1_i32_182
  let v495 : BitVec 32 := Scalar.muli v494 c1_i32_182
  let v496 : BitVec 32 := Scalar.addi v491 v495
  let c1_i32_183 : BitVec 32 := 1#32
  ⟨v491, v496, c1_i32_183⟩
def k0_mult3 (i : grid0.Coords) (k0_t1 : Fin (k0_t1_loop i).trips) : BitVec 32 :=
  let arg0 : BitVec 32 := BitVec.ofNat 32 (i 0).val
  let c1_i32_180 : BitVec 32 := 1#32
  let v490 : BitVec 32 := Scalar.addi arg0 c1_i32_180
  let c2_i32_181 : BitVec 32 := 2#32
  let v491 : BitVec 32 := Scalar.muli v490 c2_i32_181
  let c1_i32_183 : BitVec 32 := 1#32
  let arg13 : BitVec 32 := Scf.iv v491 c1_i32_183 k0_t1
  let c256_i32_406 : BitVec 32 := 256#32
  let v1025 : BitVec 32 := Scalar.muli arg13 c256_i32_406
  v1025
def k0_off7 (i : grid0.Coords) (k0_t1 : Fin (k0_t1_loop i).trips) : Fin 2 → Nat :=
  let arg0 : BitVec 32 := BitVec.ofNat 32 (i 0).val
  let c1_i32_180 : BitVec 32 := 1#32
  let v490 : BitVec 32 := Scalar.addi arg0 c1_i32_180
  let c2_i32_181 : BitVec 32 := 2#32
  let v491 : BitVec 32 := Scalar.muli v490 c2_i32_181
  let c1_i32_183 : BitVec 32 := 1#32
  let arg13 : BitVec 32 := Scf.iv v491 c1_i32_183 k0_t1
  let c256_i32_406 : BitVec 32 := 256#32
  let v1025 : BitVec 32 := Scalar.muli arg13 c256_i32_406
  let v1026 : BitVec 32 := v1025
  let v1027 : Index := Scalar.indexCast v1026
  let c0_407 : Index := 0#32
  ![v1027.toNat, 0]
def k0_off8 (i : grid0.Coords) (k0_t1 : Fin (k0_t1_loop i).trips) : Fin 3 → Nat :=
  let c0_410 : Index := 0#32
  let arg0 : BitVec 32 := BitVec.ofNat 32 (i 0).val
  let c1_i32_180 : BitVec 32 := 1#32
  let v490 : BitVec 32 := Scalar.addi arg0 c1_i32_180
  let c2_i32_181 : BitVec 32 := 2#32
  let v491 : BitVec 32 := Scalar.muli v490 c2_i32_181
  let c1_i32_183 : BitVec 32 := 1#32
  let arg13 : BitVec 32 := Scf.iv v491 c1_i32_183 k0_t1
  let v1036 : Index := Scalar.indexCast arg13
  let c0_411 : Index := 0#32
  ![0, v1036.toNat, 0]
def k0_off9 (i : grid0.Coords) (k0_t1 : Fin (k0_t1_loop i).trips) : Fin 3 → Nat :=
  let c1_425 : Index := 1#32
  let arg0 : BitVec 32 := BitVec.ofNat 32 (i 0).val
  let c1_i32_180 : BitVec 32 := 1#32
  let v490 : BitVec 32 := Scalar.addi arg0 c1_i32_180
  let c2_i32_181 : BitVec 32 := 2#32
  let v491 : BitVec 32 := Scalar.muli v490 c2_i32_181
  let c1_i32_183 : BitVec 32 := 1#32
  let arg13 : BitVec 32 := Scf.iv v491 c1_i32_183 k0_t1
  let v1072 : Index := Scalar.indexCast arg13
  let c0_426 : Index := 0#32
  ![1, v1072.toNat, 0]
def k0_off10 (i : grid0.Coords) (k0_t1 : Fin (k0_t1_loop i).trips) : Fin 2 → Nat :=
  let arg0 : BitVec 32 := BitVec.ofNat 32 (i 0).val
  let c1_i32_180 : BitVec 32 := 1#32
  let v490 : BitVec 32 := Scalar.addi arg0 c1_i32_180
  let c2_i32_181 : BitVec 32 := 2#32
  let v491 : BitVec 32 := Scalar.muli v490 c2_i32_181
  let c1_i32_183 : BitVec 32 := 1#32
  let arg13 : BitVec 32 := Scf.iv v491 c1_i32_183 k0_t1
  let c256_i32_406 : BitVec 32 := 256#32
  let v1025 : BitVec 32 := Scalar.muli arg13 c256_i32_406
  let v1026 : BitVec 32 := v1025
  let v1112 : Index := Scalar.indexCast v1026
  let c128_441 : Index := 128#32
  ![v1112.toNat, 128]
def k0_off11 (i : grid0.Coords) (k0_t1 : Fin (k0_t1_loop i).trips) : Fin 3 → Nat :=
  let c2_444 : Index := 2#32
  let arg0 : BitVec 32 := BitVec.ofNat 32 (i 0).val
  let c1_i32_180 : BitVec 32 := 1#32
  let v490 : BitVec 32 := Scalar.addi arg0 c1_i32_180
  let c2_i32_181 : BitVec 32 := 2#32
  let v491 : BitVec 32 := Scalar.muli v490 c2_i32_181
  let c1_i32_183 : BitVec 32 := 1#32
  let arg13 : BitVec 32 := Scf.iv v491 c1_i32_183 k0_t1
  let v1121 : Index := Scalar.indexCast arg13
  let c0_445 : Index := 0#32
  ![2, v1121.toNat, 0]
def k0_off12 (i : grid0.Coords) (k0_t1 : Fin (k0_t1_loop i).trips) : Fin 3 → Nat :=
  let c3_459 : Index := 3#32
  let arg0 : BitVec 32 := BitVec.ofNat 32 (i 0).val
  let c1_i32_180 : BitVec 32 := 1#32
  let v490 : BitVec 32 := Scalar.addi arg0 c1_i32_180
  let c2_i32_181 : BitVec 32 := 2#32
  let v491 : BitVec 32 := Scalar.muli v490 c2_i32_181
  let c1_i32_183 : BitVec 32 := 1#32
  let arg13 : BitVec 32 := Scf.iv v491 c1_i32_183 k0_t1
  let v1157 : Index := Scalar.indexCast arg13
  let c0_460 : Index := 0#32
  ![3, v1157.toNat, 0]
@[reducible] def k0_t2_loop (i : grid0.Coords) : Scf.Loop 32 :=
  let arg0 : BitVec 32 := BitVec.ofNat 32 (i 0).val
  let c1_i32_180 : BitVec 32 := 1#32
  let v490 : BitVec 32 := Scalar.addi arg0 c1_i32_180
  let c2_i32_181 : BitVec 32 := 2#32
  let v491 : BitVec 32 := Scalar.muli v490 c2_i32_181
  let c8_i32 : BitVec 32 := 8#32
  let v492 : BitVec 32 := Scalar.subi c8_i32 v491
  let c1_i32_182 : BitVec 32 := 1#32
  let v494 : BitVec 32 := Scalar.divsi v492 c1_i32_182
  let v495 : BitVec 32 := Scalar.muli v494 c1_i32_182
  let v496 : BitVec 32 := Scalar.addi v491 v495
  let v493 : BitVec 32 := Scalar.addi v491 v492
  let c1_i32_184 : BitVec 32 := 1#32
  ⟨v496, v493, c1_i32_184⟩
def k0_mult4 (i : grid0.Coords) (k0_t2 : Fin (k0_t2_loop i).trips) : BitVec 32 :=
  let arg0 : BitVec 32 := BitVec.ofNat 32 (i 0).val
  let c1_i32_180 : BitVec 32 := 1#32
  let v490 : BitVec 32 := Scalar.addi arg0 c1_i32_180
  let c2_i32_181 : BitVec 32 := 2#32
  let v491 : BitVec 32 := Scalar.muli v490 c2_i32_181
  let c8_i32 : BitVec 32 := 8#32
  let v492 : BitVec 32 := Scalar.subi c8_i32 v491
  let c1_i32_182 : BitVec 32 := 1#32
  let v494 : BitVec 32 := Scalar.divsi v492 c1_i32_182
  let v495 : BitVec 32 := Scalar.muli v494 c1_i32_182
  let v496 : BitVec 32 := Scalar.addi v491 v495
  let c1_i32_184 : BitVec 32 := 1#32
  let arg13 : BitVec 32 := Scf.iv v496 c1_i32_184 k0_t2
  let c256_i32_406 : BitVec 32 := 256#32
  let v1025 : BitVec 32 := Scalar.muli arg13 c256_i32_406
  v1025
def k0_off13 (i : grid0.Coords) (k0_t2 : Fin (k0_t2_loop i).trips) : Fin 2 → Nat :=
  let arg0 : BitVec 32 := BitVec.ofNat 32 (i 0).val
  let c1_i32_180 : BitVec 32 := 1#32
  let v490 : BitVec 32 := Scalar.addi arg0 c1_i32_180
  let c2_i32_181 : BitVec 32 := 2#32
  let v491 : BitVec 32 := Scalar.muli v490 c2_i32_181
  let c8_i32 : BitVec 32 := 8#32
  let v492 : BitVec 32 := Scalar.subi c8_i32 v491
  let c1_i32_182 : BitVec 32 := 1#32
  let v494 : BitVec 32 := Scalar.divsi v492 c1_i32_182
  let v495 : BitVec 32 := Scalar.muli v494 c1_i32_182
  let v496 : BitVec 32 := Scalar.addi v491 v495
  let c1_i32_184 : BitVec 32 := 1#32
  let arg13 : BitVec 32 := Scf.iv v496 c1_i32_184 k0_t2
  let c256_i32_406 : BitVec 32 := 256#32
  let v1025 : BitVec 32 := Scalar.muli arg13 c256_i32_406
  let v1026 : BitVec 32 := v1025
  let v1027 : Index := Scalar.indexCast v1026
  let c0_407 : Index := 0#32
  ![v1027.toNat, 0]
def k0_off14 (i : grid0.Coords) (k0_t2 : Fin (k0_t2_loop i).trips) : Fin 3 → Nat :=
  let c0_410 : Index := 0#32
  let arg0 : BitVec 32 := BitVec.ofNat 32 (i 0).val
  let c1_i32_180 : BitVec 32 := 1#32
  let v490 : BitVec 32 := Scalar.addi arg0 c1_i32_180
  let c2_i32_181 : BitVec 32 := 2#32
  let v491 : BitVec 32 := Scalar.muli v490 c2_i32_181
  let c8_i32 : BitVec 32 := 8#32
  let v492 : BitVec 32 := Scalar.subi c8_i32 v491
  let c1_i32_182 : BitVec 32 := 1#32
  let v494 : BitVec 32 := Scalar.divsi v492 c1_i32_182
  let v495 : BitVec 32 := Scalar.muli v494 c1_i32_182
  let v496 : BitVec 32 := Scalar.addi v491 v495
  let c1_i32_184 : BitVec 32 := 1#32
  let arg13 : BitVec 32 := Scf.iv v496 c1_i32_184 k0_t2
  let v1036 : Index := Scalar.indexCast arg13
  let c0_411 : Index := 0#32
  ![0, v1036.toNat, 0]
def k0_off15 (i : grid0.Coords) (k0_t2 : Fin (k0_t2_loop i).trips) : Fin 3 → Nat :=
  let c1_425 : Index := 1#32
  let arg0 : BitVec 32 := BitVec.ofNat 32 (i 0).val
  let c1_i32_180 : BitVec 32 := 1#32
  let v490 : BitVec 32 := Scalar.addi arg0 c1_i32_180
  let c2_i32_181 : BitVec 32 := 2#32
  let v491 : BitVec 32 := Scalar.muli v490 c2_i32_181
  let c8_i32 : BitVec 32 := 8#32
  let v492 : BitVec 32 := Scalar.subi c8_i32 v491
  let c1_i32_182 : BitVec 32 := 1#32
  let v494 : BitVec 32 := Scalar.divsi v492 c1_i32_182
  let v495 : BitVec 32 := Scalar.muli v494 c1_i32_182
  let v496 : BitVec 32 := Scalar.addi v491 v495
  let c1_i32_184 : BitVec 32 := 1#32
  let arg13 : BitVec 32 := Scf.iv v496 c1_i32_184 k0_t2
  let v1072 : Index := Scalar.indexCast arg13
  let c0_426 : Index := 0#32
  ![1, v1072.toNat, 0]
def k0_off16 (i : grid0.Coords) (k0_t2 : Fin (k0_t2_loop i).trips) : Fin 2 → Nat :=
  let arg0 : BitVec 32 := BitVec.ofNat 32 (i 0).val
  let c1_i32_180 : BitVec 32 := 1#32
  let v490 : BitVec 32 := Scalar.addi arg0 c1_i32_180
  let c2_i32_181 : BitVec 32 := 2#32
  let v491 : BitVec 32 := Scalar.muli v490 c2_i32_181
  let c8_i32 : BitVec 32 := 8#32
  let v492 : BitVec 32 := Scalar.subi c8_i32 v491
  let c1_i32_182 : BitVec 32 := 1#32
  let v494 : BitVec 32 := Scalar.divsi v492 c1_i32_182
  let v495 : BitVec 32 := Scalar.muli v494 c1_i32_182
  let v496 : BitVec 32 := Scalar.addi v491 v495
  let c1_i32_184 : BitVec 32 := 1#32
  let arg13 : BitVec 32 := Scf.iv v496 c1_i32_184 k0_t2
  let c256_i32_406 : BitVec 32 := 256#32
  let v1025 : BitVec 32 := Scalar.muli arg13 c256_i32_406
  let v1026 : BitVec 32 := v1025
  let v1112 : Index := Scalar.indexCast v1026
  let c128_441 : Index := 128#32
  ![v1112.toNat, 128]
def k0_off17 (i : grid0.Coords) (k0_t2 : Fin (k0_t2_loop i).trips) : Fin 3 → Nat :=
  let c2_444 : Index := 2#32
  let arg0 : BitVec 32 := BitVec.ofNat 32 (i 0).val
  let c1_i32_180 : BitVec 32 := 1#32
  let v490 : BitVec 32 := Scalar.addi arg0 c1_i32_180
  let c2_i32_181 : BitVec 32 := 2#32
  let v491 : BitVec 32 := Scalar.muli v490 c2_i32_181
  let c8_i32 : BitVec 32 := 8#32
  let v492 : BitVec 32 := Scalar.subi c8_i32 v491
  let c1_i32_182 : BitVec 32 := 1#32
  let v494 : BitVec 32 := Scalar.divsi v492 c1_i32_182
  let v495 : BitVec 32 := Scalar.muli v494 c1_i32_182
  let v496 : BitVec 32 := Scalar.addi v491 v495
  let c1_i32_184 : BitVec 32 := 1#32
  let arg13 : BitVec 32 := Scf.iv v496 c1_i32_184 k0_t2
  let v1121 : Index := Scalar.indexCast arg13
  let c0_445 : Index := 0#32
  ![2, v1121.toNat, 0]
def k0_off18 (i : grid0.Coords) (k0_t2 : Fin (k0_t2_loop i).trips) : Fin 3 → Nat :=
  let c3_459 : Index := 3#32
  let arg0 : BitVec 32 := BitVec.ofNat 32 (i 0).val
  let c1_i32_180 : BitVec 32 := 1#32
  let v490 : BitVec 32 := Scalar.addi arg0 c1_i32_180
  let c2_i32_181 : BitVec 32 := 2#32
  let v491 : BitVec 32 := Scalar.muli v490 c2_i32_181
  let c8_i32 : BitVec 32 := 8#32
  let v492 : BitVec 32 := Scalar.subi c8_i32 v491
  let c1_i32_182 : BitVec 32 := 1#32
  let v494 : BitVec 32 := Scalar.divsi v492 c1_i32_182
  let v495 : BitVec 32 := Scalar.muli v494 c1_i32_182
  let v496 : BitVec 32 := Scalar.addi v491 v495
  let c1_i32_184 : BitVec 32 := 1#32
  let arg13 : BitVec 32 := Scf.iv v496 c1_i32_184 k0_t2
  let v1157 : Index := Scalar.indexCast arg13
  let c0_460 : Index := 0#32
  ![3, v1157.toNat, 0]
def k0_mult5 (i : grid0.Coords) : BitVec 32 :=
  let arg0 : BitVec 32 := BitVec.ofNat 32 (i 0).val
  let c2_i32_225 : BitVec 32 := 2#32
  let v549 : BitVec 32 := Scalar.muli arg0 c2_i32_225
  let c0_i32_226 : BitVec 32 := 0#32
  let v550 : BitVec 32 := Scalar.addi v549 c0_i32_226
  let c256_i32_227 : BitVec 32 := 256#32
  let v551 : BitVec 32 := Scalar.muli v550 c256_i32_227
  v551
def k0_off19 (i : grid0.Coords) (c0_i32_226 : BitVec 32) : Fin 2 → Nat :=
  let arg0 : BitVec 32 := BitVec.ofNat 32 (i 0).val
  let c2_i32_225 : BitVec 32 := 2#32
  let v549 : BitVec 32 := Scalar.muli arg0 c2_i32_225
  let v550 : BitVec 32 := Scalar.addi v549 c0_i32_226
  let c256_i32_227 : BitVec 32 := 256#32
  let v551 : BitVec 32 := Scalar.muli v550 c256_i32_227
  let v552 : BitVec 32 := v551
  let v553 : Index := Scalar.indexCast v552
  let c256_228 : Index := 256#32
  ![v553.toNat, 256]
def k0_off20 (i : grid0.Coords) (c0_i32_226 : BitVec 32) : Fin 3 → Nat :=
  let c4_231 : Index := 4#32
  let arg0 : BitVec 32 := BitVec.ofNat 32 (i 0).val
  let c2_i32_225 : BitVec 32 := 2#32
  let v549 : BitVec 32 := Scalar.muli arg0 c2_i32_225
  let v550 : BitVec 32 := Scalar.addi v549 c0_i32_226
  let v564 : Index := Scalar.indexCast v550
  let c0_232 : Index := 0#32
  ![4, v564.toNat, 0]
def k0_off21 (i : grid0.Coords) (c0_i32_226 : BitVec 32) : Fin 3 → Nat :=
  let c5_248 : Index := 5#32
  let arg0 : BitVec 32 := BitVec.ofNat 32 (i 0).val
  let c2_i32_225 : BitVec 32 := 2#32
  let v549 : BitVec 32 := Scalar.muli arg0 c2_i32_225
  let v550 : BitVec 32 := Scalar.addi v549 c0_i32_226
  let v620 : Index := Scalar.indexCast v550
  let c0_249 : Index := 0#32
  ![5, v620.toNat, 0]
def k0_off22 (i : grid0.Coords) (c0_i32_226 : BitVec 32) : Fin 2 → Nat :=
  let arg0 : BitVec 32 := BitVec.ofNat 32 (i 0).val
  let c2_i32_225 : BitVec 32 := 2#32
  let v549 : BitVec 32 := Scalar.muli arg0 c2_i32_225
  let v550 : BitVec 32 := Scalar.addi v549 c0_i32_226
  let c256_i32_227 : BitVec 32 := 256#32
  let v551 : BitVec 32 := Scalar.muli v550 c256_i32_227
  let v552 : BitVec 32 := v551
  let v678 : Index := Scalar.indexCast v552
  let c384_266 : Index := 384#32
  ![v678.toNat, 384]
def k0_off23 (i : grid0.Coords) (c0_i32_226 : BitVec 32) : Fin 3 → Nat :=
  let c6_269 : Index := 6#32
  let arg0 : BitVec 32 := BitVec.ofNat 32 (i 0).val
  let c2_i32_225 : BitVec 32 := 2#32
  let v549 : BitVec 32 := Scalar.muli arg0 c2_i32_225
  let v550 : BitVec 32 := Scalar.addi v549 c0_i32_226
  let v689 : Index := Scalar.indexCast v550
  let c0_270 : Index := 0#32
  ![6, v689.toNat, 0]
def k0_off24 (i : grid0.Coords) (c0_i32_226 : BitVec 32) : Fin 3 → Nat :=
  let c7_286 : Index := 7#32
  let arg0 : BitVec 32 := BitVec.ofNat 32 (i 0).val
  let c2_i32_225 : BitVec 32 := 2#32
  let v549 : BitVec 32 := Scalar.muli arg0 c2_i32_225
  let v550 : BitVec 32 := Scalar.addi v549 c0_i32_226
  let v745 : Index := Scalar.indexCast v550
  let c0_287 : Index := 0#32
  ![7, v745.toNat, 0]
def k0_mult6 (i : grid0.Coords) : BitVec 32 :=
  let arg0 : BitVec 32 := BitVec.ofNat 32 (i 0).val
  let c2_i32_304 : BitVec 32 := 2#32
  let v803 : BitVec 32 := Scalar.muli arg0 c2_i32_304
  let c1_i32_305 : BitVec 32 := 1#32
  let v804 : BitVec 32 := Scalar.addi v803 c1_i32_305
  let c256_i32_306 : BitVec 32 := 256#32
  let v805 : BitVec 32 := Scalar.muli v804 c256_i32_306
  v805
@[reducible] def k0_t3_loop (i : grid0.Coords) : Scf.Loop 32 :=
  let arg0 : BitVec 32 := BitVec.ofNat 32 (i 0).val
  let c1_i32_383 : BitVec 32 := 1#32
  let v997 : BitVec 32 := Scalar.addi arg0 c1_i32_383
  let c2_i32_384 : BitVec 32 := 2#32
  let v998 : BitVec 32 := Scalar.muli v997 c2_i32_384
  let c8_i32_385 : BitVec 32 := 8#32
  let v999 : BitVec 32 := Scalar.subi c8_i32_385 v998
  let c1_i32_386 : BitVec 32 := 1#32
  let v1001 : BitVec 32 := Scalar.divsi v999 c1_i32_386
  let v1002 : BitVec 32 := Scalar.muli v1001 c1_i32_386
  let v1003 : BitVec 32 := Scalar.addi v998 v1002
  let c1_i32_387 : BitVec 32 := 1#32
  ⟨v998, v1003, c1_i32_387⟩
def k0_mult7 (i : grid0.Coords) (k0_t3 : Fin (k0_t3_loop i).trips) : BitVec 32 :=
  let arg0 : BitVec 32 := BitVec.ofNat 32 (i 0).val
  let c1_i32_383 : BitVec 32 := 1#32
  let v997 : BitVec 32 := Scalar.addi arg0 c1_i32_383
  let c2_i32_384 : BitVec 32 := 2#32
  let v998 : BitVec 32 := Scalar.muli v997 c2_i32_384
  let c1_i32_387 : BitVec 32 := 1#32
  let arg13 : BitVec 32 := Scf.iv v998 c1_i32_387 k0_t3
  let c256_i32_406 : BitVec 32 := 256#32
  let v1025 : BitVec 32 := Scalar.muli arg13 c256_i32_406
  v1025
def k0_off25 (i : grid0.Coords) (k0_t3 : Fin (k0_t3_loop i).trips) : Fin 2 → Nat :=
  let arg0 : BitVec 32 := BitVec.ofNat 32 (i 0).val
  let c1_i32_383 : BitVec 32 := 1#32
  let v997 : BitVec 32 := Scalar.addi arg0 c1_i32_383
  let c2_i32_384 : BitVec 32 := 2#32
  let v998 : BitVec 32 := Scalar.muli v997 c2_i32_384
  let c1_i32_387 : BitVec 32 := 1#32
  let arg13 : BitVec 32 := Scf.iv v998 c1_i32_387 k0_t3
  let c256_i32_406 : BitVec 32 := 256#32
  let v1025 : BitVec 32 := Scalar.muli arg13 c256_i32_406
  let v1026 : BitVec 32 := v1025
  let v1027 : Index := Scalar.indexCast v1026
  let c256_407 : Index := 256#32
  ![v1027.toNat, 256]
def k0_off26 (i : grid0.Coords) (k0_t3 : Fin (k0_t3_loop i).trips) : Fin 3 → Nat :=
  let c4_410 : Index := 4#32
  let arg0 : BitVec 32 := BitVec.ofNat 32 (i 0).val
  let c1_i32_383 : BitVec 32 := 1#32
  let v997 : BitVec 32 := Scalar.addi arg0 c1_i32_383
  let c2_i32_384 : BitVec 32 := 2#32
  let v998 : BitVec 32 := Scalar.muli v997 c2_i32_384
  let c1_i32_387 : BitVec 32 := 1#32
  let arg13 : BitVec 32 := Scf.iv v998 c1_i32_387 k0_t3
  let v1036 : Index := Scalar.indexCast arg13
  let c0_411 : Index := 0#32
  ![4, v1036.toNat, 0]
def k0_off27 (i : grid0.Coords) (k0_t3 : Fin (k0_t3_loop i).trips) : Fin 3 → Nat :=
  let c5_425 : Index := 5#32
  let arg0 : BitVec 32 := BitVec.ofNat 32 (i 0).val
  let c1_i32_383 : BitVec 32 := 1#32
  let v997 : BitVec 32 := Scalar.addi arg0 c1_i32_383
  let c2_i32_384 : BitVec 32 := 2#32
  let v998 : BitVec 32 := Scalar.muli v997 c2_i32_384
  let c1_i32_387 : BitVec 32 := 1#32
  let arg13 : BitVec 32 := Scf.iv v998 c1_i32_387 k0_t3
  let v1072 : Index := Scalar.indexCast arg13
  let c0_426 : Index := 0#32
  ![5, v1072.toNat, 0]
def k0_off28 (i : grid0.Coords) (k0_t3 : Fin (k0_t3_loop i).trips) : Fin 2 → Nat :=
  let arg0 : BitVec 32 := BitVec.ofNat 32 (i 0).val
  let c1_i32_383 : BitVec 32 := 1#32
  let v997 : BitVec 32 := Scalar.addi arg0 c1_i32_383
  let c2_i32_384 : BitVec 32 := 2#32
  let v998 : BitVec 32 := Scalar.muli v997 c2_i32_384
  let c1_i32_387 : BitVec 32 := 1#32
  let arg13 : BitVec 32 := Scf.iv v998 c1_i32_387 k0_t3
  let c256_i32_406 : BitVec 32 := 256#32
  let v1025 : BitVec 32 := Scalar.muli arg13 c256_i32_406
  let v1026 : BitVec 32 := v1025
  let v1112 : Index := Scalar.indexCast v1026
  let c384_441 : Index := 384#32
  ![v1112.toNat, 384]
def k0_off29 (i : grid0.Coords) (k0_t3 : Fin (k0_t3_loop i).trips) : Fin 3 → Nat :=
  let c6_444 : Index := 6#32
  let arg0 : BitVec 32 := BitVec.ofNat 32 (i 0).val
  let c1_i32_383 : BitVec 32 := 1#32
  let v997 : BitVec 32 := Scalar.addi arg0 c1_i32_383
  let c2_i32_384 : BitVec 32 := 2#32
  let v998 : BitVec 32 := Scalar.muli v997 c2_i32_384
  let c1_i32_387 : BitVec 32 := 1#32
  let arg13 : BitVec 32 := Scf.iv v998 c1_i32_387 k0_t3
  let v1121 : Index := Scalar.indexCast arg13
  let c0_445 : Index := 0#32
  ![6, v1121.toNat, 0]
def k0_off30 (i : grid0.Coords) (k0_t3 : Fin (k0_t3_loop i).trips) : Fin 3 → Nat :=
  let c7_459 : Index := 7#32
  let arg0 : BitVec 32 := BitVec.ofNat 32 (i 0).val
  let c1_i32_383 : BitVec 32 := 1#32
  let v997 : BitVec 32 := Scalar.addi arg0 c1_i32_383
  let c2_i32_384 : BitVec 32 := 2#32
  let v998 : BitVec 32 := Scalar.muli v997 c2_i32_384
  let c1_i32_387 : BitVec 32 := 1#32
  let arg13 : BitVec 32 := Scf.iv v998 c1_i32_387 k0_t3
  let v1157 : Index := Scalar.indexCast arg13
  let c0_460 : Index := 0#32
  ![7, v1157.toNat, 0]
@[reducible] def k0_t4_loop (i : grid0.Coords) : Scf.Loop 32 :=
  let arg0 : BitVec 32 := BitVec.ofNat 32 (i 0).val
  let c1_i32_383 : BitVec 32 := 1#32
  let v997 : BitVec 32 := Scalar.addi arg0 c1_i32_383
  let c2_i32_384 : BitVec 32 := 2#32
  let v998 : BitVec 32 := Scalar.muli v997 c2_i32_384
  let c8_i32_385 : BitVec 32 := 8#32
  let v999 : BitVec 32 := Scalar.subi c8_i32_385 v998
  let c1_i32_386 : BitVec 32 := 1#32
  let v1001 : BitVec 32 := Scalar.divsi v999 c1_i32_386
  let v1002 : BitVec 32 := Scalar.muli v1001 c1_i32_386
  let v1003 : BitVec 32 := Scalar.addi v998 v1002
  let v1000 : BitVec 32 := Scalar.addi v998 v999
  let c1_i32_388 : BitVec 32 := 1#32
  ⟨v1003, v1000, c1_i32_388⟩
def k0_mult8 (i : grid0.Coords) (k0_t4 : Fin (k0_t4_loop i).trips) : BitVec 32 :=
  let arg0 : BitVec 32 := BitVec.ofNat 32 (i 0).val
  let c1_i32_383 : BitVec 32 := 1#32
  let v997 : BitVec 32 := Scalar.addi arg0 c1_i32_383
  let c2_i32_384 : BitVec 32 := 2#32
  let v998 : BitVec 32 := Scalar.muli v997 c2_i32_384
  let c8_i32_385 : BitVec 32 := 8#32
  let v999 : BitVec 32 := Scalar.subi c8_i32_385 v998
  let c1_i32_386 : BitVec 32 := 1#32
  let v1001 : BitVec 32 := Scalar.divsi v999 c1_i32_386
  let v1002 : BitVec 32 := Scalar.muli v1001 c1_i32_386
  let v1003 : BitVec 32 := Scalar.addi v998 v1002
  let c1_i32_388 : BitVec 32 := 1#32
  let arg13 : BitVec 32 := Scf.iv v1003 c1_i32_388 k0_t4
  let c256_i32_406 : BitVec 32 := 256#32
  let v1025 : BitVec 32 := Scalar.muli arg13 c256_i32_406
  v1025
def k0_off31 (i : grid0.Coords) (k0_t4 : Fin (k0_t4_loop i).trips) : Fin 2 → Nat :=
  let arg0 : BitVec 32 := BitVec.ofNat 32 (i 0).val
  let c1_i32_383 : BitVec 32 := 1#32
  let v997 : BitVec 32 := Scalar.addi arg0 c1_i32_383
  let c2_i32_384 : BitVec 32 := 2#32
  let v998 : BitVec 32 := Scalar.muli v997 c2_i32_384
  let c8_i32_385 : BitVec 32 := 8#32
  let v999 : BitVec 32 := Scalar.subi c8_i32_385 v998
  let c1_i32_386 : BitVec 32 := 1#32
  let v1001 : BitVec 32 := Scalar.divsi v999 c1_i32_386
  let v1002 : BitVec 32 := Scalar.muli v1001 c1_i32_386
  let v1003 : BitVec 32 := Scalar.addi v998 v1002
  let c1_i32_388 : BitVec 32 := 1#32
  let arg13 : BitVec 32 := Scf.iv v1003 c1_i32_388 k0_t4
  let c256_i32_406 : BitVec 32 := 256#32
  let v1025 : BitVec 32 := Scalar.muli arg13 c256_i32_406
  let v1026 : BitVec 32 := v1025
  let v1027 : Index := Scalar.indexCast v1026
  let c256_407 : Index := 256#32
  ![v1027.toNat, 256]
def k0_off32 (i : grid0.Coords) (k0_t4 : Fin (k0_t4_loop i).trips) : Fin 3 → Nat :=
  let c4_410 : Index := 4#32
  let arg0 : BitVec 32 := BitVec.ofNat 32 (i 0).val
  let c1_i32_383 : BitVec 32 := 1#32
  let v997 : BitVec 32 := Scalar.addi arg0 c1_i32_383
  let c2_i32_384 : BitVec 32 := 2#32
  let v998 : BitVec 32 := Scalar.muli v997 c2_i32_384
  let c8_i32_385 : BitVec 32 := 8#32
  let v999 : BitVec 32 := Scalar.subi c8_i32_385 v998
  let c1_i32_386 : BitVec 32 := 1#32
  let v1001 : BitVec 32 := Scalar.divsi v999 c1_i32_386
  let v1002 : BitVec 32 := Scalar.muli v1001 c1_i32_386
  let v1003 : BitVec 32 := Scalar.addi v998 v1002
  let c1_i32_388 : BitVec 32 := 1#32
  let arg13 : BitVec 32 := Scf.iv v1003 c1_i32_388 k0_t4
  let v1036 : Index := Scalar.indexCast arg13
  let c0_411 : Index := 0#32
  ![4, v1036.toNat, 0]
def k0_off33 (i : grid0.Coords) (k0_t4 : Fin (k0_t4_loop i).trips) : Fin 3 → Nat :=
  let c5_425 : Index := 5#32
  let arg0 : BitVec 32 := BitVec.ofNat 32 (i 0).val
  let c1_i32_383 : BitVec 32 := 1#32
  let v997 : BitVec 32 := Scalar.addi arg0 c1_i32_383
  let c2_i32_384 : BitVec 32 := 2#32
  let v998 : BitVec 32 := Scalar.muli v997 c2_i32_384
  let c8_i32_385 : BitVec 32 := 8#32
  let v999 : BitVec 32 := Scalar.subi c8_i32_385 v998
  let c1_i32_386 : BitVec 32 := 1#32
  let v1001 : BitVec 32 := Scalar.divsi v999 c1_i32_386
  let v1002 : BitVec 32 := Scalar.muli v1001 c1_i32_386
  let v1003 : BitVec 32 := Scalar.addi v998 v1002
  let c1_i32_388 : BitVec 32 := 1#32
  let arg13 : BitVec 32 := Scf.iv v1003 c1_i32_388 k0_t4
  let v1072 : Index := Scalar.indexCast arg13
  let c0_426 : Index := 0#32
  ![5, v1072.toNat, 0]
def k0_off34 (i : grid0.Coords) (k0_t4 : Fin (k0_t4_loop i).trips) : Fin 2 → Nat :=
  let arg0 : BitVec 32 := BitVec.ofNat 32 (i 0).val
  let c1_i32_383 : BitVec 32 := 1#32
  let v997 : BitVec 32 := Scalar.addi arg0 c1_i32_383
  let c2_i32_384 : BitVec 32 := 2#32
  let v998 : BitVec 32 := Scalar.muli v997 c2_i32_384
  let c8_i32_385 : BitVec 32 := 8#32
  let v999 : BitVec 32 := Scalar.subi c8_i32_385 v998
  let c1_i32_386 : BitVec 32 := 1#32
  let v1001 : BitVec 32 := Scalar.divsi v999 c1_i32_386
  let v1002 : BitVec 32 := Scalar.muli v1001 c1_i32_386
  let v1003 : BitVec 32 := Scalar.addi v998 v1002
  let c1_i32_388 : BitVec 32 := 1#32
  let arg13 : BitVec 32 := Scf.iv v1003 c1_i32_388 k0_t4
  let c256_i32_406 : BitVec 32 := 256#32
  let v1025 : BitVec 32 := Scalar.muli arg13 c256_i32_406
  let v1026 : BitVec 32 := v1025
  let v1112 : Index := Scalar.indexCast v1026
  let c384_441 : Index := 384#32
  ![v1112.toNat, 384]
def k0_off35 (i : grid0.Coords) (k0_t4 : Fin (k0_t4_loop i).trips) : Fin 3 → Nat :=
  let c6_444 : Index := 6#32
  let arg0 : BitVec 32 := BitVec.ofNat 32 (i 0).val
  let c1_i32_383 : BitVec 32 := 1#32
  let v997 : BitVec 32 := Scalar.addi arg0 c1_i32_383
  let c2_i32_384 : BitVec 32 := 2#32
  let v998 : BitVec 32 := Scalar.muli v997 c2_i32_384
  let c8_i32_385 : BitVec 32 := 8#32
  let v999 : BitVec 32 := Scalar.subi c8_i32_385 v998
  let c1_i32_386 : BitVec 32 := 1#32
  let v1001 : BitVec 32 := Scalar.divsi v999 c1_i32_386
  let v1002 : BitVec 32 := Scalar.muli v1001 c1_i32_386
  let v1003 : BitVec 32 := Scalar.addi v998 v1002
  let c1_i32_388 : BitVec 32 := 1#32
  let arg13 : BitVec 32 := Scf.iv v1003 c1_i32_388 k0_t4
  let v1121 : Index := Scalar.indexCast arg13
  let c0_445 : Index := 0#32
  ![6, v1121.toNat, 0]
def k0_off36 (i : grid0.Coords) (k0_t4 : Fin (k0_t4_loop i).trips) : Fin 3 → Nat :=
  let c7_459 : Index := 7#32
  let arg0 : BitVec 32 := BitVec.ofNat 32 (i 0).val
  let c1_i32_383 : BitVec 32 := 1#32
  let v997 : BitVec 32 := Scalar.addi arg0 c1_i32_383
  let c2_i32_384 : BitVec 32 := 2#32
  let v998 : BitVec 32 := Scalar.muli v997 c2_i32_384
  let c8_i32_385 : BitVec 32 := 8#32
  let v999 : BitVec 32 := Scalar.subi c8_i32_385 v998
  let c1_i32_386 : BitVec 32 := 1#32
  let v1001 : BitVec 32 := Scalar.divsi v999 c1_i32_386
  let v1002 : BitVec 32 := Scalar.muli v1001 c1_i32_386
  let v1003 : BitVec 32 := Scalar.addi v998 v1002
  let c1_i32_388 : BitVec 32 := 1#32
  let arg13 : BitVec 32 := Scf.iv v1003 c1_i32_388 k0_t4
  let v1157 : Index := Scalar.indexCast arg13
  let c0_460 : Index := 0#32
  ![7, v1157.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x8x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x8x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x8 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S2048x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x8 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x8x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== FoxRefIdeal.lean ====
abbrev S2048x512 : Shape := ⟨2, ![2048, 512]⟩
abbrev S2048x8 : Shape := ⟨2, ![2048, 8]⟩
abbrev S2048x8x64 : Shape := ⟨3, ![2048, 8, 64]⟩
abbrev S8x2048 : Shape := ⟨2, ![8, 2048]⟩
abbrev S8x2048x2048 : Shape := ⟨3, ![8, 2048, 2048]⟩
abbrev S_ : Shape := ⟨0, ![]⟩
abbrev S8x2048x1 : Shape := ⟨3, ![8, 2048, 1]⟩
abbrev S8x1x2048 : Shape := ⟨3, ![8, 1, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S8x64x2048 : Shape := ⟨3, ![8, 64, 2048]⟩
abbrev S8x2048x64 : Shape := ⟨3, ![8, 2048, 64]⟩

abbrev nBuf : Space → Nat
  | .hbm => 122
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S2048x8, .f32⟩
  | .hbm, ⟨4, _⟩ => ⟨S2048x512, .f32⟩
  | .hbm, ⟨5, _⟩ => ⟨S2048x8x64, .f32⟩
  | .hbm, ⟨6, _⟩ => ⟨S2048x8x64, .f32⟩
  | .hbm, ⟨7, _⟩ => ⟨S2048x8x64, .f32⟩
  | .hbm, ⟨8, _⟩ => ⟨S8x2048, .f32⟩
  | .hbm, ⟨9, _⟩ => ⟨S8x2048x2048, .f32⟩
  | .hbm, ⟨10, _⟩ => ⟨S_, .f32⟩
  | .hbm, ⟨11, _⟩ => ⟨S8x2048x2048, .f32⟩
  | .hbm, ⟨12, _⟩ => ⟨S8x2048x2048, .f32⟩
  | .hbm, ⟨13, _⟩ => ⟨S8x2048x1, .f32⟩
  | .hbm, ⟨14, _⟩ => ⟨S8x2048x2048, .f32⟩
  | .hbm, ⟨15, _⟩ => ⟨S8x2048x2048, .f32⟩
  | .hbm, ⟨16, _⟩ => ⟨S8x1x2048, .f32⟩
  | .hbm, ⟨17, _⟩ => ⟨S8x2048x2048, .f32⟩
  | .hbm, ⟨18, _⟩ => ⟨S8x2048x2048, .f32⟩
  | .hbm, ⟨19, _⟩ => ⟨S2048, .i32⟩
  | .hbm, ⟨20, _⟩ => ⟨S2048x1, .i32⟩
  | .hbm, ⟨21, _⟩ => ⟨S2048, .i32⟩
  | .hbm, ⟨22, _⟩ => ⟨S1x2048, .i32⟩
  | .hbm, ⟨23, _⟩ => ⟨S2048x2048, .i32⟩
  | .hbm, ⟨24, _⟩ => ⟨S2048x2048, .i32⟩
  | .hbm, ⟨25, _⟩ => ⟨S2048x2048, .i1⟩
  | .hbm, ⟨26, _⟩ => ⟨S_, .f32⟩
  | .hbm, ⟨27, _⟩ => ⟨S_, .f32⟩
  | .hbm, ⟨28, _⟩ => ⟨S8x2048x2048, .i1⟩
  | .hbm, ⟨29, _⟩ => ⟨S8x2048x2048, .f32⟩
  | .hbm, ⟨30, _⟩ => ⟨S8x2048x2048, .f32⟩
  | .hbm, ⟨31, _⟩ => ⟨S_, .f32⟩
  | .hbm, ⟨32, _⟩ => ⟨S8x2048x2048, .f32⟩
  | .hbm, ⟨33, _⟩ => ⟨S_, .f32⟩
  | .hbm, ⟨34, _⟩ => ⟨S8x2048, .f32⟩
  | .hbm, ⟨35, _⟩ => ⟨S8x2048x1, .f32⟩
  | .hbm, ⟨36, _⟩ => ⟨S8x2048x2048, .f32⟩
  | .hbm, ⟨37, _⟩ => ⟨S8x2048x2048, .i1⟩
  | .hbm, ⟨38, _⟩ => ⟨S8x2048x2048, .f32⟩
  | .hbm, ⟨39, _⟩ => ⟨S_, .f32⟩
  | .hbm, ⟨40, _⟩ => ⟨S8x2048, .f32⟩
  | .hbm, ⟨41, _⟩ => ⟨S_, .f32⟩
  | .hbm, ⟨42, _⟩ => ⟨S8x2048, .f32⟩
  | .hbm, ⟨43, _⟩ => ⟨S8x2048, .f32⟩
  | .hbm, ⟨44, _⟩ => ⟨S_, .f32⟩
  | .hbm, ⟨45, _⟩ => ⟨S8x2048, .f32⟩
  | .hbm, ⟨46, _⟩ => ⟨S8x2048, .i1⟩
  | .hbm, ⟨47, _⟩ => ⟨S_, .f32⟩
  | .hbm, ⟨48, _⟩ => ⟨S8x2048, .f32⟩
  | .hbm, ⟨49, _⟩ => ⟨S8x2048, .i1⟩
  | .hbm, ⟨50, _⟩ => ⟨S_, .f32⟩
  | .hbm, ⟨51, _⟩ => ⟨S8x2048, .f32⟩
  | .hbm, ⟨52, _⟩ => ⟨S_, .f32⟩
  | .hbm, ⟨53, _⟩ => ⟨S8x2048, .f32⟩
  | .hbm, ⟨54, _⟩ => ⟨S_, .f32⟩
  | .hbm, ⟨55, _⟩ => ⟨S8x2048, .f32⟩
  | .hbm, ⟨56, _⟩ => ⟨S8x2048, .f32⟩
  | .hbm, ⟨57, _⟩ => ⟨S8x2048, .f32⟩
  | .hbm, ⟨58, _⟩ => ⟨S8x2048x1, .f32⟩
  | .hbm, ⟨59, _⟩ => ⟨S8x2048x2048, .f32⟩
  | .hbm, ⟨60, _⟩ => ⟨S8x2048x2048, .f32⟩
  | .hbm, ⟨61, _⟩ => ⟨S8x2048x2048, .f32⟩
  | .hbm, ⟨62, _⟩ => ⟨S_, .f32⟩
  | .hbm, ⟨63, _⟩ => ⟨S8x2048, .f32⟩
  | .hbm, ⟨64, _⟩ => ⟨S8x2048x1, .f32⟩
  | .hbm, ⟨65, _⟩ => ⟨S8x2048x2048, .f32⟩
  | .hbm, ⟨66, _⟩ => ⟨S8x2048x2048, .f32⟩
  | .hbm, ⟨67, _⟩ => ⟨S8x2048x1, .f32⟩
  | .hbm, ⟨68, _⟩ => ⟨S_, .f32⟩
  | .hbm, ⟨69, _⟩ => ⟨S8x2048x1, .f32⟩
  | .hbm, ⟨70, _⟩ => ⟨S8x2048x1, .f32⟩
  | .hbm, ⟨71, _⟩ => ⟨S8x64x2048, .f32⟩
  | .hbm, ⟨72, _⟩ => ⟨S2048x8x64, .f32⟩
  | .hbm, ⟨73, _⟩ => ⟨S2048x512, .f32⟩
  | .hbm, ⟨74, _⟩ => ⟨S2048x8x64, .f32⟩
  | .hbm, ⟨75, _⟩ => ⟨S8x64x2048, .f32⟩
  | .hbm, ⟨76, _⟩ => ⟨S8x2048x2048, .f32⟩
  | .hbm, ⟨77, _⟩ => ⟨S8x64x2048, .f32⟩
  | .hbm, ⟨78, _⟩ => ⟨S2048x8x64, .f32⟩
  | .hbm, ⟨79, _⟩ => ⟨S8x2048x2048, .f32⟩
  | .hbm, ⟨80, _⟩ => ⟨S8x2048x2048, .f32⟩
  | .hbm, ⟨81, _⟩ => ⟨S8x2048x2048, .f32⟩
  | .hbm, ⟨82, _⟩ => ⟨S_, .f32⟩
  | .hbm, ⟨83, _⟩ => ⟨S8x2048, .f32⟩
  | .hbm, ⟨84, _⟩ => ⟨S8x2048x1, .f32⟩
  | .hbm, ⟨85, _⟩ => ⟨S8x2048x1, .f32⟩
  | .hbm, ⟨86, _⟩ => ⟨S8x2048x2048, .f32⟩
  | .hbm, ⟨87, _⟩ => ⟨S8x2048x2048, .f32⟩
  | .hbm, ⟨88, _⟩ => ⟨S_, .f32⟩
  | .hbm, ⟨89, _⟩ => ⟨S8x2048, .f32⟩
  | .hbm, ⟨90, _⟩ => ⟨S8x2048x2048, .f32⟩
  | .hbm, ⟨91, _⟩ => ⟨S8x2048x2048, .f32⟩
  | .hbm, ⟨92, _⟩ => ⟨S8x2048x2048, .f32⟩
  | .hbm, ⟨93, _⟩ => ⟨S_, .f32⟩
  | .hbm, ⟨94, _⟩ => ⟨S8x2048x2048, .f32⟩
  | .hbm, ⟨95, _⟩ => ⟨S8x2048x2048, .f32⟩
  | .hbm, ⟨96, _⟩ => ⟨S8x2048x2048, .f32⟩
  | .hbm, ⟨97, _⟩ => ⟨S_, .f32⟩
  | .hbm, ⟨98, _⟩ => ⟨S8x2048, .f32⟩
  | .hbm, ⟨99, _⟩ => ⟨S8x1x2048, .f32⟩
  | .hbm, ⟨100, _⟩ => ⟨S_, .f32⟩
  | .hbm, ⟨101, _⟩ => ⟨S8x2048, .f32⟩
  | .hbm, ⟨102, _⟩ => ⟨S_, .f32⟩
  | .hbm, ⟨103, _⟩ => ⟨S8x2048, .f32⟩
  | .hbm, ⟨104, _⟩ => ⟨S8x2048x1, .f32⟩
  | .hbm, ⟨105, _⟩ => ⟨S_, .f32⟩
  | .hbm, ⟨106, _⟩ => ⟨S8x2048, .f32⟩
  | .hbm, ⟨107, _⟩ => ⟨S8x2048, .f32⟩
  | .hbm, ⟨108, _⟩ => ⟨S_, .f32⟩
  | .hbm, ⟨109, _⟩ => ⟨S8x2048x2048, .f32⟩
  | .hbm, ⟨110, _⟩ => ⟨S8x2048x2048, .f32⟩
  | .hbm, ⟨111, _⟩ => ⟨S8x2048x64, .f32⟩
  | .hbm, ⟨112, _⟩ => ⟨S2048x8x64, .f32⟩
  | .hbm, ⟨113, _⟩ => ⟨S8x2048x64, .f32⟩
  | .hbm, ⟨114, _⟩ => ⟨S2048x8x64, .f32⟩
  | .hbm, ⟨115, _⟩ => ⟨S2048x8, .f32⟩
  | .hbm, ⟨116, _⟩ => ⟨S2048x512, .f32⟩
  | .hbm, ⟨117, _⟩ => ⟨S2048x512, .f32⟩
  | .hbm, ⟨118, _⟩ => ⟨S2048x512, .f32⟩
  | .hbm, ⟨119, _⟩ => ⟨S2048x512, .bf16⟩
  | .hbm, ⟨120, _⟩ => ⟨S2048x512, .bf16⟩
  | .hbm, ⟨121, _⟩ => ⟨S8x2048, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_0 : Ref sig .tc := ⟨.hbm, 26, rfl⟩
abbrev main_call0_v0 : Ref sig .tc := ⟨.hbm, 27, rfl⟩
abbrev main_v20_1 : Ref sig .tc := ⟨.hbm, 28, rfl⟩
abbrev main_call0_v2 : Ref sig .tc := ⟨.hbm, 29, rfl⟩
abbrev main_v20_0 : Ref sig .tc := ⟨.hbm, 30, rfl⟩
abbrev main_call0_cst : Ref sig .tc := ⟨.hbm, 31, rfl⟩
abbrev main_v20_2 : Ref sig .tc := ⟨.hbm, 32, rfl⟩
abbrev main_cst_1 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_2 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩
abbrev main_cst_4 : Ref sig .tc := ⟨.hbm, 44, rfl⟩
abbrev main_v29 : Ref sig .tc := ⟨.hbm, 45, rfl⟩
abbrev main_v30 : Ref sig .tc := ⟨.hbm, 46, rfl⟩
abbrev main_cst_5 : Ref sig .tc := ⟨.hbm, 47, rfl⟩
abbrev main_v31 : Ref sig .tc := ⟨.hbm, 48, rfl⟩
abbrev main_v32 : Ref sig .tc := ⟨.hbm, 49, rfl⟩
abbrev main_cst_6 : Ref sig .tc := ⟨.hbm, 50, rfl⟩
abbrev main_v33 : Ref sig .tc := ⟨.hbm, 51, rfl⟩
abbrev main_cst_7 : Ref sig .tc := ⟨.hbm, 52, rfl⟩
abbrev main_v34 : Ref sig .tc := ⟨.hbm, 53, rfl⟩
abbrev main_cst_8 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_9 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_10 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_11 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_12 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_call1_cst : Ref sig .tc := ⟨.hbm, 93, rfl⟩
abbrev main_call1_v0 : Ref sig .tc := ⟨.hbm, 94, rfl⟩
abbrev main_v69 : Ref sig .tc := ⟨.hbm, 95, rfl⟩
abbrev main_v70 : Ref sig .tc := ⟨.hbm, 96, rfl⟩
abbrev main_cst_13 : Ref sig .tc := ⟨.hbm, 97, rfl⟩
abbrev main_v71 : Ref sig .tc := ⟨.hbm, 98, rfl⟩
abbrev main_v72 : Ref sig .tc := ⟨.hbm, 99, rfl⟩
abbrev main_cst_14 : Ref sig .tc := ⟨.hbm, 100, rfl⟩
abbrev main_v73 : Ref sig .tc := ⟨.hbm, 101, rfl⟩
abbrev main_cst_15 : Ref sig .tc := ⟨.hbm, 102, rfl⟩
abbrev main_v74 : Ref sig .tc := ⟨.hbm, 103, rfl⟩
abbrev main_v75 : Ref sig .tc := ⟨.hbm, 104, rfl⟩
abbrev main_cst_16 : Ref sig .tc := ⟨.hbm, 105, rfl⟩
abbrev main_v76 : Ref sig .tc := ⟨.hbm, 106, rfl⟩
abbrev main_v77 : Ref sig .tc := ⟨.hbm, 107, rfl⟩
abbrev main_cst_17 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩

abbrev nD : Nat := 1
abbrev τ : Topo := Topo.v7x

variable {F : FTy → Type} [FloatOps F]
-- ==== Ple.lean ====
abbrev S2048x1024 : Shape := ⟨2, ![2048, 1024]⟩
abbrev S2048x256 : Shape := ⟨2, ![2048, 256]⟩
abbrev S1024x1024 : Shape := ⟨2, ![1024, 1024]⟩
abbrev S256x1024 : Shape := ⟨2, ![256, 1024]⟩
abbrev S1x1024 : Shape := ⟨2, ![1, 1024]⟩
abbrev S1x1 : Shape := ⟨2, ![1, 1]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩
abbrev S1 : Shape := ⟨1, ![1]⟩
abbrev S1024 : Shape := ⟨1, ![1024]⟩

abbrev nBuf : Space → Nat
  | .hbm => 13
  | .vmem => 17
  | .smem => 0
  | _ => 0

abbrev bufTy : (tb : Table) → Fin (tcTables nBuf tb) → BufTy
  | .hbm, ⟨0, _⟩ => ⟨S2048x1024, .f32⟩
  | .hbm, ⟨1, _⟩ => ⟨S2048x256, .f32⟩
  | .hbm, ⟨2, _⟩ => ⟨S2048x1024, .f32⟩
  | .hbm, ⟨3, _⟩ => ⟨S1024x1024, .f32⟩
  | .hbm, ⟨4, _⟩ => ⟨S256x1024, .f32⟩
  | .hbm, ⟨5, _⟩ => ⟨S1x1024, .f32⟩
  | .hbm, ⟨6, _⟩ => ⟨S1024x1024, .bf16⟩
  | .hbm, ⟨7, _⟩ => ⟨S256x1024, .bf16⟩
  | .hbm, ⟨8, _⟩ => ⟨S2048x1024, .f32⟩
  | .hbm, ⟨9, _⟩ => ⟨S2048x1024, .bf16⟩
  | .hbm, ⟨10, _⟩ => ⟨S2048x1024, .bf16⟩
  | .hbm, ⟨11, _⟩ => ⟨S1x1024, .f32⟩
  | .hbm, ⟨12, _⟩ => ⟨S1x1, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S256x1024, .bf16⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S1x1024, .f32⟩
  | .local _ .vmem, ⟨16, _⟩ => ⟨S1x1, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev main_v2_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨1, ![4], ![false]⟩

def k0_cond3 (i : grid0.Coords) : BitVec 1 :=
  let arg0 : BitVec 32 := BitVec.ofNat 32 (i 0).val
  let c0_i32_26 : BitVec 32 := 0#32
  let v60 : BitVec 1 := Scalar.cmpi .eq arg0 c0_i32_26
  let v61 : BitVec 32 := Scalar.extui v60
  let c0_i32_27 : BitVec 32 := 0#32
  let v62 : BitVec 1 := Scalar.cmpi .ne v61 c0_i32_27
  v62

def k0_cond4 (i : grid0.Coords) : BitVec 1 :=
  let arg0 : BitVec 32 := BitVec.ofNat 32 (i 0).val
  let c0_i32_28 : BitVec 32 := 0#32
  let v63 : BitVec 1 := Scalar.cmpi .ne arg0 c0_i32_28
  let v64 : BitVec 32 := Scalar.extui v63
  let c0_i32_29 : BitVec 32 := 0#32
  let v65 : BitVec 1 := Scalar.cmpi .ne v64 c0_i32_29
  v65

def k0_cond1 (i : grid0.Coords) : BitVec 1 :=
  let arg0 : BitVec 32 := BitVec.ofNat 32 (i 0).val
  let c0_i32 : BitVec 32 := 0#32
  let v37 : BitVec 1 := Scalar.cmpi .eq arg0 c0_i32
  let v38 : BitVec 32 := Scalar.extui v37
  let c0_i32_19 : BitVec 32 := 0#32
  let v39 : BitVec 1 := Scalar.cmpi .ne v38 c0_i32_19
  v39

def k0_cond2 (i : grid0.Coords) : BitVec 1 :=
  let arg0 : BitVec 32 := BitVec.ofNat 32 (i 0).val
  let c0_i32_20 : BitVec 32 := 0#32
  let v40 : BitVec 1 := Scalar.cmpi .ne arg0 c0_i32_20
  let v41 : BitVec 32 := Scalar.extui v40
  let c0_i32_21 : BitVec 32 := 0#32
  let v42 : BitVec 1 := Scalar.cmpi .ne v41 c0_i32_21
  v42

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== PleRefIdeal.lean ====
abbrev S2048x1024 : Shape := ⟨2, ![2048, 1024]⟩
abbrev S2048x256 : Shape := ⟨2, ![2048, 256]⟩
abbrev S1024x1024 : Shape := ⟨2, ![1024, 1024]⟩
abbrev S256x1024 : Shape := ⟨2, ![256, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩
abbrev S1x1 : Shape := ⟨2, ![1, 1]⟩

abbrev nBuf : Space → Nat
  | .hbm => 95
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x256, .f32⟩
  | .hbm, ⟨2, _⟩ => ⟨S2048x1024, .f32⟩
  | .hbm, ⟨3, _⟩ => ⟨S1024x1024, .f32⟩
  | .hbm, ⟨4, _⟩ => ⟨S256x1024, .f32⟩
  | .hbm, ⟨5, _⟩ => ⟨S1x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S_, .f32⟩
  | .hbm, ⟨11, _⟩ => ⟨S2048x1024, .f32⟩
  | .hbm, ⟨12, _⟩ => ⟨S2048x1024, .f32⟩
  | .hbm, ⟨13, _⟩ => ⟨S_, .f32⟩
  | .hbm, ⟨14, _⟩ => ⟨S2048x1024, .f32⟩
  | .hbm, ⟨15, _⟩ => ⟨S2048x1024, .f32⟩
  | .hbm, ⟨16, _⟩ => ⟨S_, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S_, .f32⟩
  | .hbm, ⟨23, _⟩ => ⟨S2048, .f32⟩
  | .hbm, ⟨24, _⟩ => ⟨S2048x1, .f32⟩
  | .hbm, ⟨25, _⟩ => ⟨S_, .f32⟩
  | .hbm, ⟨26, _⟩ => ⟨S2048x1, .f32⟩
  | .hbm, ⟨27, _⟩ => ⟨S2048x1, .f32⟩
  | .hbm, ⟨28, _⟩ => ⟨S_, .f32⟩
  | .hbm, ⟨29, _⟩ => ⟨S2048x1, .f32⟩
  | .hbm, ⟨30, _⟩ => ⟨S2048x1, .f32⟩
  | .hbm, ⟨31, _⟩ => ⟨S2048x1, .f32⟩
  | .hbm, ⟨32, _⟩ => ⟨S2048x1, .f32⟩
  | .hbm, ⟨33, _⟩ => ⟨S_, .f32⟩
  | .hbm, ⟨34, _⟩ => ⟨S2048x1, .f32⟩
  | .hbm, ⟨35, _⟩ => ⟨S2048x1, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S_, .f32⟩
  | .hbm, ⟨44, _⟩ => ⟨S2048x1024, .f32⟩
  | .hbm, ⟨45, _⟩ => ⟨S2048x1024, .f32⟩
  | .hbm, ⟨46, _⟩ => ⟨S_, .f32⟩
  | .hbm, ⟨47, _⟩ => ⟨S2048, .f32⟩
  | .hbm, ⟨48, _⟩ => ⟨S_, .f32⟩
  | .hbm, ⟨49, _⟩ => ⟨S2048, .f32⟩
  | .hbm, ⟨50, _⟩ => ⟨S2048, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S2048, .f32⟩
  | .hbm, ⟨59, _⟩ => ⟨S_, .f32⟩
  | .hbm, ⟨60, _⟩ => ⟨S2048, .f32⟩
  | .hbm, ⟨61, _⟩ => ⟨S2048, .f32⟩
  | .hbm, ⟨62, _⟩ => ⟨S2048x1024, .f32⟩
  | .hbm, ⟨63, _⟩ => ⟨S2048x1024, .f32⟩
  | .hbm, ⟨64, _⟩ => ⟨S2048x1024, .f32⟩
  | .hbm, ⟨65, _⟩ => ⟨S_, .f32⟩
  | .hbm, ⟨66, _⟩ => ⟨S1024, .f32⟩
  | .hbm, ⟨67, _⟩ => ⟨S1x1024, .f32⟩
  | .hbm, ⟨68, _⟩ => ⟨S2048x1024, .f32⟩
  | .hbm, ⟨69, _⟩ => ⟨S2048x1024, .f32⟩
  | .hbm, ⟨70, _⟩ => ⟨S2048x1024, .f32⟩
  | .hbm, ⟨71, _⟩ => ⟨S_, .f32⟩
  | .hbm, ⟨72, _⟩ => ⟨S2048, .f32⟩
  | .hbm, ⟨73, _⟩ => ⟨S2048x1, .f32⟩
  | .hbm, ⟨74, _⟩ => ⟨S2048x1024, .f32⟩
  | .hbm, ⟨75, _⟩ => ⟨S2048x1024, .f32⟩
  | .hbm, ⟨76, _⟩ => ⟨S2048x1, .f32⟩
  | .hbm, ⟨77, _⟩ => ⟨S_, .f32⟩
  | .hbm, ⟨78, _⟩ => ⟨S2048x1, .f32⟩
  | .hbm, ⟨79, _⟩ => ⟨S2048x1, .f32⟩
  | .hbm, ⟨80, _⟩ => ⟨S_, .f32⟩
  | .hbm, ⟨81, _⟩ => ⟨S2048, .f32⟩
  | .hbm, ⟨82, _⟩ => ⟨S2048x1024, .f32⟩
  | .hbm, ⟨83, _⟩ => ⟨S2048x1024, .f32⟩
  | .hbm, ⟨84, _⟩ => ⟨S2048x1024, .f32⟩
  | .hbm, ⟨85, _⟩ => ⟨S2048x1024, .f32⟩
  | .hbm, ⟨86, _⟩ => ⟨S2048x1024, .f32⟩
  | .hbm, ⟨87, _⟩ => ⟨S2048x1024, .f32⟩
  | .hbm, ⟨88, _⟩ => ⟨S2048x1024, .f32⟩
  | .hbm, ⟨89, _⟩ => ⟨S2048x1024, .f32⟩
  | .hbm, ⟨90, _⟩ => ⟨S2048x1024, .f32⟩
  | .hbm, ⟨91, _⟩ => ⟨S2048x1024, .f32⟩
  | .hbm, ⟨92, _⟩ => ⟨S2048x1024, .bf16⟩
  | .hbm, ⟨93, _⟩ => ⟨S2048x1024, .bf16⟩
  | .hbm, ⟨94, _⟩ => ⟨S1x1, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_cst_8 : Ref sig .tc := ⟨.hbm, 48, rfl⟩
abbrev main_v33 : Ref sig .tc := ⟨.hbm, 49, rfl⟩
abbrev main_v34 : Ref sig .tc := ⟨.hbm, 50, rfl⟩
abbrev main_cst_9 : Ref sig .tc := ⟨.hbm, 51, rfl⟩
abbrev main_v35 : Ref sig .tc := ⟨.hbm, 52, rfl⟩
abbrev main_cst_10 : Ref sig .tc := ⟨.hbm, 53, rfl⟩
abbrev main_v36 : Ref sig .tc := ⟨.hbm, 54, rfl⟩
abbrev main_cst_11 : Ref sig .tc := ⟨.hbm, 55, rfl⟩
abbrev main_cst_12 : Ref sig .tc := ⟨.hbm, 56, rfl⟩
abbrev main_v37 : Ref sig .tc := ⟨.hbm, 57, rfl⟩
abbrev main_v38 : Ref sig .tc := ⟨.hbm, 58, rfl⟩
abbrev main_cst_13 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_14 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_15 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_16 : Ref sig .tc := ⟨.hbm, 77, rfl⟩
abbrev main_v54 : Ref sig .tc := ⟨.hbm, 78, rfl⟩
abbrev main_v55 : Ref sig .tc := ⟨.hbm, 79, rfl⟩
abbrev main_cst_17 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩

abbrev nD : Nat := 1
abbrev τ : Topo := Topo.v7x

variable {F : FTy → Type} [FloatOps F]
-- ==== Mlp.lean ====
abbrev S2048x1024 : Shape := ⟨2, ![2048, 1024]⟩
abbrev S1024x4096 : Shape := ⟨2, ![1024, 4096]⟩
abbrev S4096x1024 : Shape := ⟨2, ![4096, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S2048x4096 : Shape := ⟨2, ![2048, 4096]⟩
abbrev S1024x8x512 : Shape := ⟨3, ![1024, 8, 512]⟩
abbrev S8x1024x512 : Shape := ⟨3, ![8, 1024, 512]⟩
abbrev S512x1024 : Shape := ⟨2, ![512, 1024]⟩
abbrev S512x4096 : Shape := ⟨2, ![512, 4096]⟩
abbrev S512 : Shape := ⟨1, ![512]⟩
abbrev S512x1 : Shape := ⟨2, ![512, 1]⟩
abbrev S1024 : Shape := ⟨1, ![1024]⟩
abbrev S512x512 : Shape := ⟨2, ![512, 512]⟩
abbrev S1x1024x512 : Shape := ⟨3, ![1, 1024, 512]⟩
abbrev S1024x512 : Shape := ⟨2, ![1024, 512]⟩

abbrev nBuf : Space → Nat
  | .hbm => 37
  | .vmem => 20
  | .smem => 0
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S2048x4096, .f32⟩
  | .hbm, ⟨22, _⟩ => ⟨S_, .f32⟩
  | .hbm, ⟨23, _⟩ => ⟨S2048x4096, .f32⟩
  | .hbm, ⟨24, _⟩ => ⟨S2048x4096, .f32⟩
  | .hbm, ⟨25, _⟩ => ⟨S2048x4096, .f32⟩
  | .hbm, ⟨26, _⟩ => ⟨S2048x1024, .f32⟩
  | .hbm, ⟨27, _⟩ => ⟨S1024x8x512, .f32⟩
  | .hbm, ⟨28, _⟩ => ⟨S8x1024x512, .f32⟩
  | .hbm, ⟨29, _⟩ => ⟨S8x1024x512, .bf16⟩
  | .hbm, ⟨30, _⟩ => ⟨S2048x4096, .bf16⟩
  | .hbm, ⟨31, _⟩ => ⟨S4096x1024, .bf16⟩
  | .hbm, ⟨32, _⟩ => ⟨S2048x1024, .f32⟩
  | .hbm, ⟨33, _⟩ => ⟨S2048x1024, .bf16⟩
  | .hbm, ⟨34, _⟩ => ⟨S2048x4096, .bf16⟩
  | .hbm, ⟨35, _⟩ => ⟨S1x1024, .f32⟩
  | .hbm, ⟨36, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x4096, .bf16⟩
  | .local _ .vmem, ⟨7, _⟩ => ⟨S512x4096, .bf16⟩
  | .local _ .vmem, ⟨8, _⟩ => ⟨S8x1024x512, .bf16⟩
  | .local _ .vmem, ⟨9, _⟩ => ⟨S4096x1024, .bf16⟩
  | .local _ .vmem, ⟨10, _⟩ => ⟨S1x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S512x4096, .bf16⟩
  | .local _ .vmem, ⟨17, _⟩ => ⟨S512x4096, .bf16⟩
  | .local _ .vmem, ⟨18, _⟩ => ⟨S1x1024, .f32⟩
  | .local _ .vmem, ⟨19, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_call0_cst : Ref sig .tc := ⟨.hbm, 22, rfl⟩
abbrev main_call0_v0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21_0 : Ref sig .tc := ⟨.hbm, 32, rfl⟩
abbrev main_v21_1 : Ref sig .tc := ⟨.hbm, 33, rfl⟩
abbrev main_v21_2 : Ref sig .tc := ⟨.hbm, 34, rfl⟩
abbrev main_v21_3 : Ref sig .tc := ⟨.hbm, 35, rfl⟩
abbrev main_v21_4 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v29 : BitVec 1 := Scalar.cmpi .eq arg0 c0_i32
  let v30 : BitVec 32 := Scalar.extui v29
  let c0_i32_10 : BitVec 32 := 0#32
  let v31 : BitVec 1 := Scalar.cmpi .ne v30 c0_i32_10
  v31

def k0_cond2 (i : grid0.Coords) : BitVec 1 :=
  let arg0 : BitVec 32 := BitVec.ofNat 32 (i 0).val
  let c0_i32_11 : BitVec 32 := 0#32
  let v32 : BitVec 1 := Scalar.cmpi .ne arg0 c0_i32_11
  let v33 : BitVec 32 := Scalar.extui v32
  let c0_i32_12 : BitVec 32 := 0#32
  let v34 : BitVec 1 := Scalar.cmpi .ne v33 c0_i32_12
  v34

def k0_cond3 (i : grid0.Coords) : BitVec 1 :=
  let arg0 : BitVec 32 := BitVec.ofNat 32 (i 0).val
  let c0_i32_116 : BitVec 32 := 0#32
  let v201 : BitVec 1 := Scalar.cmpi .eq arg0 c0_i32_116
  let v202 : BitVec 32 := Scalar.extui v201
  let c0_i32_117 : BitVec 32 := 0#32
  let v203 : BitVec 1 := Scalar.cmpi .ne v202 c0_i32_117
  v203

def k0_cond4 (i : grid0.Coords) : BitVec 1 :=
  let arg0 : BitVec 32 := BitVec.ofNat 32 (i 0).val
  let c0_i32_118 : BitVec 32 := 0#32
  let v204 : BitVec 1 := Scalar.cmpi .ne arg0 c0_i32_118
  let v205 : BitVec 32 := Scalar.extui v204
  let c0_i32_119 : BitVec 32 := 0#32
  let v206 : BitVec 1 := Scalar.cmpi .ne v205 c0_i32_119
  v206

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x4096 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== MlpRefIdeal.lean ====
abbrev S2048x1024 : Shape := ⟨2, ![2048, 1024]⟩
abbrev S1024x4096 : Shape := ⟨2, ![1024, 4096]⟩
abbrev S4096x1024 : Shape := ⟨2, ![4096, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S2048x4096 : Shape := ⟨2, ![2048, 4096]⟩
abbrev S1024 : Shape := ⟨1, ![1024]⟩

abbrev nBuf : Space → Nat
  | .hbm => 113
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x4096, .f32⟩
  | .hbm, ⟨26, _⟩ => ⟨S_, .f32⟩
  | .hbm, ⟨27, _⟩ => ⟨S2048x4096, .f32⟩
  | .hbm, ⟨28, _⟩ => ⟨S2048x4096, .f32⟩
  | .hbm, ⟨29, _⟩ => ⟨S_, .f32⟩
  | .hbm, ⟨30, _⟩ => ⟨S2048x4096, .f32⟩
  | .hbm, ⟨31, _⟩ => ⟨S2048x4096, .i1⟩
  | .hbm, ⟨32, _⟩ => ⟨S_, .f32⟩
  | .hbm, ⟨33, _⟩ => ⟨S2048x4096, .f32⟩
  | .hbm, ⟨34, _⟩ => ⟨S2048x4096, .f32⟩
  | .hbm, ⟨35, _⟩ => ⟨S_, .f32⟩
  | .hbm, ⟨36, _⟩ => ⟨S2048x4096, .f32⟩
  | .hbm, ⟨37, _⟩ => ⟨S2048x4096, .f32⟩
  | .hbm, ⟨38, _⟩ => ⟨S2048x1024, .f32⟩
  | .hbm, ⟨39, _⟩ => ⟨S2048x1024, .f32⟩
  | .hbm, ⟨40, _⟩ => ⟨S_, .f32⟩
  | .hbm, ⟨41, _⟩ => ⟨S2048, .f32⟩
  | .hbm, ⟨42, _⟩ => ⟨S2048x1, .f32⟩
  | .hbm, ⟨43, _⟩ => ⟨S_, .f32⟩
  | .hbm, ⟨44, _⟩ => ⟨S2048x1, .f32⟩
  | .hbm, ⟨45, _⟩ => ⟨S2048x1, .f32⟩
  | .hbm, ⟨46, _⟩ => ⟨S_, .f32⟩
  | .hbm, ⟨47, _⟩ => ⟨S2048x1, .f32⟩
  | .hbm, ⟨48, _⟩ => ⟨S2048x1, .f32⟩
  | .hbm, ⟨49, _⟩ => ⟨S2048x1, .f32⟩
  | .hbm, ⟨50, _⟩ => ⟨S2048x1, .f32⟩
  | .hbm, ⟨51, _⟩ => ⟨S_, .f32⟩
  | .hbm, ⟨52, _⟩ => ⟨S2048x1, .f32⟩
  | .hbm, ⟨53, _⟩ => ⟨S2048x1, .f32⟩
  | .hbm, ⟨54, _⟩ => ⟨S2048x1024, .f32⟩
  | .hbm, ⟨55, _⟩ => ⟨S2048x1024, .f32⟩
  | .hbm, ⟨56, _⟩ => ⟨S2048x1024, .f32⟩
  | .hbm, ⟨57, _⟩ => ⟨S2048x1024, .f32⟩
  | .hbm, ⟨58, _⟩ => ⟨S2048x1024, .f32⟩
  | .hbm, ⟨59, _⟩ => ⟨S_, .f32⟩
  | .hbm, ⟨60, _⟩ => ⟨S1024, .f32⟩
  | .hbm, ⟨61, _⟩ => ⟨S1x1024, .f32⟩
  | .hbm, ⟨62, _⟩ => ⟨S2048x1024, .f32⟩
  | .hbm, ⟨63, _⟩ => ⟨S2048x1024, .f32⟩
  | .hbm, ⟨64, _⟩ => ⟨S2048x1024, .f32⟩
  | .hbm, ⟨65, _⟩ => ⟨S_, .f32⟩
  | .hbm, ⟨66, _⟩ => ⟨S2048, .f32⟩
  | .hbm, ⟨67, _⟩ => ⟨S2048x1, .f32⟩
  | .hbm, ⟨68, _⟩ => ⟨S2048x1024, .f32⟩
  | .hbm, ⟨69, _⟩ => ⟨S2048x1024, .f32⟩
  | .hbm, ⟨70, _⟩ => ⟨S2048x1, .f32⟩
  | .hbm, ⟨71, _⟩ => ⟨S_, .f32⟩
  | .hbm, ⟨72, _⟩ => ⟨S2048x1, .f32⟩
  | .hbm, ⟨73, _⟩ => ⟨S2048x1, .f32⟩
  | .hbm, ⟨74, _⟩ => ⟨S_, .f32⟩
  | .hbm, ⟨75, _⟩ => ⟨S2048, .f32⟩
  | .hbm, ⟨76, _⟩ => ⟨S2048x1024, .f32⟩
  | .hbm, ⟨77, _⟩ => ⟨S2048x1024, .f32⟩
  | .hbm, ⟨78, _⟩ => ⟨S2048x1024, .f32⟩
  | .hbm, ⟨79, _⟩ => ⟨S2048x1024, .f32⟩
  | .hbm, ⟨80, _⟩ => ⟨S2048x1024, .f32⟩
  | .hbm, ⟨81, _⟩ => ⟨S2048x4096, .f32⟩
  | .hbm, ⟨82, _⟩ => ⟨S2048x4096, .f32⟩
  | .hbm, ⟨83, _⟩ => ⟨S_, .f32⟩
  | .hbm, ⟨84, _⟩ => ⟨S2048x4096, .f32⟩
  | .hbm, ⟨85, _⟩ => ⟨S2048x4096, .f32⟩
  | .hbm, ⟨86, _⟩ => ⟨S2048x1024, .f32⟩
  | .hbm, ⟨87, _⟩ => ⟨S2048x1024, .f32⟩
  | .hbm, ⟨88, _⟩ => ⟨S_, .f32⟩
  | .hbm, ⟨89, _⟩ => ⟨S1024, .f32⟩
  | .hbm, ⟨90, _⟩ => ⟨S1x1024, .f32⟩
  | .hbm, ⟨91, _⟩ => ⟨S2048x1024, .f32⟩
  | .hbm, ⟨92, _⟩ => ⟨S2048x1024, .f32⟩
  | .hbm, ⟨93, _⟩ => ⟨S2048x1024, .f32⟩
  | .hbm, ⟨94, _⟩ => ⟨S_, .f32⟩
  | .hbm, ⟨95, _⟩ => ⟨S2048, .f32⟩
  | .hbm, ⟨96, _⟩ => ⟨S2048x1, .f32⟩
  | .hbm, ⟨97, _⟩ => ⟨S2048x1024, .f32⟩
  | .hbm, ⟨98, _⟩ => ⟨S2048x1024, .f32⟩
  | .hbm, ⟨99, _⟩ => ⟨S2048x1, .f32⟩
  | .hbm, ⟨100, _⟩ => ⟨S_, .f32⟩
  | .hbm, ⟨101, _⟩ => ⟨S2048x1, .f32⟩
  | .hbm, ⟨102, _⟩ => ⟨S2048x1, .f32⟩
  | .hbm, ⟨103, _⟩ => ⟨S_, .f32⟩
  | .hbm, ⟨104, _⟩ => ⟨S2048, .f32⟩
  | .hbm, ⟨105, _⟩ => ⟨S2048x1024, .f32⟩
  | .hbm, ⟨106, _⟩ => ⟨S2048x1024, .f32⟩
  | .hbm, ⟨107, _⟩ => ⟨S2048x1024, .f32⟩
  | .hbm, ⟨108, _⟩ => ⟨S2048x1024, .f32⟩
  | .hbm, ⟨109, _⟩ => ⟨S2048x1024, .f32⟩
  | .hbm, ⟨110, _⟩ => ⟨S2048x1024, .f32⟩
  | .hbm, ⟨111, _⟩ => ⟨S2048x1024, .bf16⟩
  | .hbm, ⟨112, _⟩ => ⟨S2048x4096, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_call0_cst : Ref sig .tc := ⟨.hbm, 26, rfl⟩
abbrev main_call0_v0 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_cst_8 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_9 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_10 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_11 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_12 : Ref sig .tc := ⟨.hbm, 71, rfl⟩
abbrev main_v50 : Ref sig .tc := ⟨.hbm, 72, rfl⟩
abbrev main_v51 : Ref sig .tc := ⟨.hbm, 73, rfl⟩
abbrev main_cst_13 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_14 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_15 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_16 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_cst_17 : Ref sig .tc := ⟨.hbm, 100, rfl⟩
abbrev main_v74 : Ref sig .tc := ⟨.hbm, 101, rfl⟩
abbrev main_v75 : Ref sig .tc := ⟨.hbm, 102, rfl⟩
abbrev main_cst_18 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩

abbrev nD : Nat := 1
abbrev τ : Topo := Topo.v7x

variable {F : FTy → Type} [FloatOps F]
-- ==== Aob.lean ====
abbrev S2048x512 : Shape := ⟨2, ![2048, 512]⟩
abbrev S1024x1024 : Shape := ⟨2, ![1024, 1024]⟩
abbrev S1x1024 : Shape := ⟨2, ![1, 1024]⟩
abbrev S2048x1024 : Shape := ⟨2, ![2048, 1024]⟩
abbrev S8x512 : Shape := ⟨2, ![8, 512]⟩
abbrev S512x1024 : Shape := ⟨2, ![512, 1024]⟩
abbrev S2x4x64x1024 : Shape := ⟨4, ![2, 4, 64, 1024]⟩
abbrev S4x2x64x1024 : Shape := ⟨4, ![4, 2, 64, 1024]⟩
abbrev S2048x2x4x64 : Shape := ⟨4, ![2048, 2, 4, 64]⟩
abbrev S2048x4x2x64 : Shape := ⟨4, ![2048, 4, 2, 64]⟩
abbrev S8x2048 : Shape := ⟨2, ![8, 2048]⟩
abbrev S512x512 : Shape := ⟨2, ![512, 512]⟩
abbrev S512 : Shape := ⟨1, ![512]⟩
abbrev S512x1 : Shape := ⟨2, ![512, 1]⟩
abbrev S1024 : Shape := ⟨1, ![1024]⟩

abbrev nBuf : Space → Nat
  | .hbm => 24
  | .vmem => 21
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S1024x1024, .f32⟩
  | .hbm, ⟨3, _⟩ => ⟨S1x1024, .f32⟩
  | .hbm, ⟨4, _⟩ => ⟨S2048x1024, .f32⟩
  | .hbm, ⟨5, _⟩ => ⟨S8x512, .f32⟩
  | .hbm, ⟨6, _⟩ => ⟨S2048x1024, .f32⟩
  | .hbm, ⟨7, _⟩ => ⟨S2048x1024, .f32⟩
  | .hbm, ⟨8, _⟩ => ⟨S1024x1024, .bf16⟩
  | .hbm, ⟨9, _⟩ => ⟨S512x1024, .bf16⟩
  | .hbm, ⟨10, _⟩ => ⟨S512x1024, .bf16⟩
  | .hbm, ⟨11, _⟩ => ⟨S2x4x64x1024, .bf16⟩
  | .hbm, ⟨12, _⟩ => ⟨S4x2x64x1024, .bf16⟩
  | .hbm, ⟨13, _⟩ => ⟨S512x1024, .bf16⟩
  | .hbm, ⟨14, _⟩ => ⟨S2048x512, .bf16⟩
  | .hbm, ⟨15, _⟩ => ⟨S2048x512, .bf16⟩
  | .hbm, ⟨16, _⟩ => ⟨S2048x2x4x64, .bf16⟩
  | .hbm, ⟨17, _⟩ => ⟨S2048x4x2x64, .bf16⟩
  | .hbm, ⟨18, _⟩ => ⟨S2048x512, .bf16⟩
  | .hbm, ⟨19, _⟩ => ⟨S2048x1024, .bf16⟩
  | .hbm, ⟨20, _⟩ => ⟨S2048x1024, .bf16⟩
  | .hbm, ⟨21, _⟩ => ⟨S8x2048, .f32⟩
  | .hbm, ⟨22, _⟩ => ⟨S8x2048, .f32⟩
  | .hbm, ⟨23, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x1024, .bf16⟩
  | .local _ .vmem, ⟨9, _⟩ => ⟨S512x1024, .bf16⟩
  | .local _ .vmem, ⟨10, _⟩ => ⟨S1x1024, .f32⟩
  | .local _ .vmem, ⟨11, _⟩ => ⟨S8x512, .f32⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S8x512, .f32⟩
  | .local _ .vmem, ⟨17, _⟩ => ⟨S8x512, .f32⟩
  | .local _ .vmem, ⟨18, _⟩ => ⟨S8x512, .f32⟩
  | .local _ .vmem, ⟨19, _⟩ => ⟨S8x512, .f32⟩
  | .local _ .vmem, ⟨20, _⟩ => ⟨S1x1024, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13_0 : Ref sig .tc := ⟨.hbm, 19, rfl⟩
abbrev main_v13_1 : Ref sig .tc := ⟨.hbm, 20, rfl⟩
abbrev main_v13_2 : Ref sig .tc := ⟨.hbm, 21, rfl⟩
abbrev main_v13_3 : Ref sig .tc := ⟨.hbm, 22, rfl⟩
abbrev main_v13_4 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v29 : BitVec 1 := Scalar.cmpi .eq arg0 c0_i32
  let v30 : BitVec 32 := Scalar.extui v29
  let c0_i32_10 : BitVec 32 := 0#32
  let v31 : BitVec 1 := Scalar.cmpi .ne v30 c0_i32_10
  v31

def k0_cond2 (i : grid0.Coords) : BitVec 1 :=
  let arg0 : BitVec 32 := BitVec.ofNat 32 (i 0).val
  let c0_i32_11 : BitVec 32 := 0#32
  let v32 : BitVec 1 := Scalar.cmpi .ne arg0 c0_i32_11
  let v33 : BitVec 32 := Scalar.extui v32
  let c0_i32_12 : BitVec 32 := 0#32
  let v34 : BitVec 1 := Scalar.cmpi .ne v33 c0_i32_12
  v34

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== AobRefIdeal.lean ====
abbrev S2048x512 : Shape := ⟨2, ![2048, 512]⟩
abbrev S1024x1024 : Shape := ⟨2, ![1024, 1024]⟩
abbrev S1x1024 : Shape := ⟨2, ![1, 1024]⟩
abbrev S2048x1024 : Shape := ⟨2, ![2048, 1024]⟩
abbrev S_ : Shape := ⟨0, ![]⟩
abbrev S2048 : Shape := ⟨1, ![2048]⟩
abbrev S2048x1 : Shape := ⟨2, ![2048, 1]⟩
abbrev S1024 : Shape := ⟨1, ![1024]⟩
abbrev S2048x8x64 : Shape := ⟨3, ![2048, 8, 64]⟩
abbrev S2048x2x4x64 : Shape := ⟨4, ![2048, 2, 4, 64]⟩
abbrev S2048x8 : Shape := ⟨2, ![2048, 8]⟩
abbrev S8x2048 : Shape := ⟨2, ![8, 2048]⟩
abbrev S2048x2x4 : Shape := ⟨3, ![2048, 2, 4]⟩
abbrev S4x2x2048 : Shape := ⟨3, ![4, 2, 2048]⟩
abbrev S2048x4x2x64 : Shape := ⟨4, ![2048, 4, 2, 64]⟩

abbrev nBuf : Space → Nat
  | .hbm => 71
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S1024x1024, .f32⟩
  | .hbm, ⟨3, _⟩ => ⟨S1x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S2048, .f32⟩
  | .hbm, ⟨35, _⟩ => ⟨S2048x1, .f32⟩
  | .hbm, ⟨36, _⟩ => ⟨S2048x1024, .f32⟩
  | .hbm, ⟨37, _⟩ => ⟨S2048x1024, .f32⟩
  | .hbm, ⟨38, _⟩ => ⟨S2048x1, .f32⟩
  | .hbm, ⟨39, _⟩ => ⟨S_, .f32⟩
  | .hbm, ⟨40, _⟩ => ⟨S2048x1, .f32⟩
  | .hbm, ⟨41, _⟩ => ⟨S2048x1, .f32⟩
  | .hbm, ⟨42, _⟩ => ⟨S_, .f32⟩
  | .hbm, ⟨43, _⟩ => ⟨S2048, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S2048x512, .f32⟩
  | .hbm, ⟨51, _⟩ => ⟨S2048x8x64, .f32⟩
  | .hbm, ⟨52, _⟩ => ⟨S2048x512, .f32⟩
  | .hbm, ⟨53, _⟩ => ⟨S2048x2x4x64, .f32⟩
  | .hbm, ⟨54, _⟩ => ⟨S2048x8x64, .f32⟩
  | .hbm, ⟨55, _⟩ => ⟨S2048x8x64, .f32⟩
  | .hbm, ⟨56, _⟩ => ⟨S_, .f32⟩
  | .hbm, ⟨57, _⟩ => ⟨S2048x8, .f32⟩
  | .hbm, ⟨58, _⟩ => ⟨S8x2048, .f32⟩
  | .hbm, ⟨59, _⟩ => ⟨S2048x2x4x64, .f32⟩
  | .hbm, ⟨60, _⟩ => ⟨S2048x2x4x64, .f32⟩
  | .hbm, ⟨61, _⟩ => ⟨S_, .f32⟩
  | .hbm, ⟨62, _⟩ => ⟨S2048x2x4, .f32⟩
  | .hbm, ⟨63, _⟩ => ⟨S4x2x2048, .f32⟩
  | .hbm, ⟨64, _⟩ => ⟨S8x2048, .f32⟩
  | .hbm, ⟨65, _⟩ => ⟨S2048x512, .f32⟩
  | .hbm, ⟨66, _⟩ => ⟨S2048x4x2x64, .f32⟩
  | .hbm, ⟨67, _⟩ => ⟨S2048x512, .f32⟩
  | .hbm, ⟨68, _⟩ => ⟨S2048x1024, .f32⟩
  | .hbm, ⟨69, _⟩ => ⟨S2048x1024, .bf16⟩
  | .hbm, ⟨70, _⟩ => ⟨S2048x1024, .bf16⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_7 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_8 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩

abbrev nD : Nat := 1
abbrev τ : Topo := Topo.v7x

variable {F : FTy → Type} [FloatOps F]
-- ==== Pab.lean ====
abbrev S2048x1024 : Shape := ⟨2, ![2048, 1024]⟩
abbrev S2048x2312 : Shape := ⟨2, ![2048, 2312]⟩
abbrev S1024x2312 : Shape := ⟨2, ![1024, 2312]⟩
abbrev S1x1024 : Shape := ⟨2, ![1, 1024]⟩
abbrev S2312x1024 : Shape := ⟨2, ![2312, 1024]⟩
abbrev S8x1024 : Shape := ⟨2, ![8, 1024]⟩
abbrev S_ : Shape := ⟨0, ![]⟩
abbrev S512x1024 : Shape := ⟨2, ![512, 1024]⟩
abbrev S2x4x64x1024 : Shape := ⟨4, ![2, 4, 64, 1024]⟩
abbrev S4x2x64x1024 : Shape := ⟨4, ![4, 2, 64, 1024]⟩
abbrev S256x1024 : Shape := ⟨2, ![256, 1024]⟩
abbrev S784x1024 : Shape := ⟨2, ![784, 1024]⟩
abbrev S2048x512 : Shape := ⟨2, ![2048, 512]⟩
abbrev S2048x2x4x64 : Shape := ⟨4, ![2048, 2, 4, 64]⟩
abbrev S2048x4x2x64 : Shape := ⟨4, ![2048, 4, 2, 64]⟩
abbrev S2048x128 : Shape := ⟨2, ![2048, 128]⟩
abbrev S2048x8 : Shape := ⟨2, ![2048, 8]⟩
abbrev S8x2048 : Shape := ⟨2, ![8, 2048]⟩
abbrev S16x2048 : Shape := ⟨2, ![16, 2048]⟩
abbrev S512x512 : Shape := ⟨2, ![512, 512]⟩
abbrev S512x128 : Shape := ⟨2, ![512, 128]⟩
abbrev S16x512 : Shape := ⟨2, ![16, 512]⟩
abbrev S1536x1024 : Shape := ⟨2, ![1536, 1024]⟩
abbrev S512x1536 : Shape := ⟨2, ![512, 1536]⟩
abbrev S512x768 : Shape := ⟨2, ![512, 768]⟩
abbrev S768x1024 : Shape := ⟨2, ![768, 1024]⟩
abbrev S16x1024 : Shape := ⟨2, ![16, 1024]⟩
abbrev S512 : Shape := ⟨1, ![512]⟩
abbrev S512x1 : Shape := ⟨2, ![512, 1]⟩
abbrev S1024 : Shape := ⟨1, ![1024]⟩

abbrev nBuf : Space → Nat
  | .hbm => 35
  | .vmem => 24
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x2312, .f32⟩
  | .hbm, ⟨3, _⟩ => ⟨S1024x2312, .f32⟩
  | .hbm, ⟨4, _⟩ => ⟨S1x1024, .f32⟩
  | .hbm, ⟨5, _⟩ => ⟨S2312x1024, .f32⟩
  | .hbm, ⟨6, _⟩ => ⟨S2312x1024, .bf16⟩
  | .hbm, ⟨7, _⟩ => ⟨S8x1024, .bf16⟩
  | .hbm, ⟨8, _⟩ => ⟨S_, .bf16⟩
  | .hbm, ⟨9, _⟩ => ⟨S8x1024, .bf16⟩
  | .hbm, ⟨10, _⟩ => ⟨S512x1024, .bf16⟩
  | .hbm, ⟨11, _⟩ => ⟨S2x4x64x1024, .bf16⟩
  | .hbm, ⟨12, _⟩ => ⟨S4x2x64x1024, .bf16⟩
  | .hbm, ⟨13, _⟩ => ⟨S512x1024, .bf16⟩
  | .hbm, ⟨14, _⟩ => ⟨S256x1024, .bf16⟩
  | .hbm, ⟨15, _⟩ => ⟨S784x1024, .bf16⟩
  | .hbm, ⟨16, _⟩ => ⟨S2048x512, .f32⟩
  | .hbm, ⟨17, _⟩ => ⟨S2048x512, .f32⟩
  | .hbm, ⟨18, _⟩ => ⟨S2048x512, .bf16⟩
  | .hbm, ⟨19, _⟩ => ⟨S2048x512, .f32⟩
  | .hbm, ⟨20, _⟩ => ⟨S2048x512, .bf16⟩
  | .hbm, ⟨21, _⟩ => ⟨S2048x512, .f32⟩
  | .hbm, ⟨22, _⟩ => ⟨S2048x512, .bf16⟩
  | .hbm, ⟨23, _⟩ => ⟨S2048x2x4x64, .bf16⟩
  | .hbm, ⟨24, _⟩ => ⟨S2048x4x2x64, .bf16⟩
  | .hbm, ⟨25, _⟩ => ⟨S2048x512, .bf16⟩
  | .hbm, ⟨26, _⟩ => ⟨S2048x128, .f32⟩
  | .hbm, ⟨27, _⟩ => ⟨S2048x128, .f32⟩
  | .hbm, ⟨28, _⟩ => ⟨S2048x8, .f32⟩
  | .hbm, ⟨29, _⟩ => ⟨S8x2048, .f32⟩
  | .hbm, ⟨30, _⟩ => ⟨S_, .i32⟩
  | .hbm, ⟨31, _⟩ => ⟨S_, .f32⟩
  | .hbm, ⟨32, _⟩ => ⟨S16x2048, .f32⟩
  | .hbm, ⟨33, _⟩ => ⟨S2048x1024, .f32⟩
  | .hbm, ⟨34, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x512, .f32⟩
  | .local _ .vmem, ⟨5, _⟩ => ⟨S512x512, .f32⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S16x512, .f32⟩
  | .local _ .vmem, ⟨17, _⟩ => ⟨S16x512, .f32⟩
  | .local _ .vmem, ⟨18, _⟩ => ⟨S1536x1024, .bf16⟩
  | .local _ .vmem, ⟨19, _⟩ => ⟨S784x1024, .bf16⟩
  | .local _ .vmem, ⟨20, _⟩ => ⟨S1x1024, .f32⟩
  | .local _ .vmem, ⟨21, _⟩ => ⟨S512x1024, .f32⟩
  | .local _ .vmem, ⟨22, _⟩ => ⟨S512x1024, .f32⟩
  | .local _ .vmem, ⟨23, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_c : Ref sig .tc := ⟨.hbm, 30, rfl⟩
abbrev main_call0_v0 : Ref sig .tc := ⟨.hbm, 31, rfl⟩
abbrev main_v24 : Ref sig .tc := ⟨.hbm, 32, rfl⟩
abbrev main_v25_0 : Ref sig .tc := ⟨.hbm, 33, rfl⟩
abbrev main_v25_1 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem12_1 : DmaSem sig := 22
abbrev cc0_sem13_0 : DmaSem sig := 23

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v58 : BitVec 1 := Scalar.cmpi .eq arg0 c0_i32
  let v59 : BitVec 32 := Scalar.extui v58
  let c0_i32_30 : BitVec 32 := 0#32
  let v60 : BitVec 1 := Scalar.cmpi .ne v59 c0_i32_30
  v60

def k0_cond2 (i : grid0.Coords) : BitVec 1 :=
  let arg0 : BitVec 32 := BitVec.ofNat 32 (i 0).val
  let c0_i32_31 : BitVec 32 := 0#32
  let v61 : BitVec 1 := Scalar.cmpi .ne arg0 c0_i32_31
  let v62 : BitVec 32 := Scalar.extui v61
  let c0_i32_32 : BitVec 32 := 0#32
  let v63 : BitVec 1 := Scalar.cmpi .ne v62 c0_i32_32
  v63

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1536x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S784x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== PabRefIdeal.lean ====
abbrev S2048x1024 : Shape := ⟨2, ![2048, 1024]⟩
abbrev S2048x2312 : Shape := ⟨2, ![2048, 2312]⟩
abbrev S1024x2312 : Shape := ⟨2, ![1024, 2312]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 50
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x2312, .f32⟩
  | .hbm, ⟨3, _⟩ => ⟨S1024x2312, .f32⟩
  | .hbm, ⟨4, _⟩ => ⟨S1x1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x2312, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S2048, .f32⟩
  | .hbm, ⟨35, _⟩ => ⟨S2048x1, .f32⟩
  | .hbm, ⟨36, _⟩ => ⟨S2048x1024, .f32⟩
  | .hbm, ⟨37, _⟩ => ⟨S2048x1024, .f32⟩
  | .hbm, ⟨38, _⟩ => ⟨S2048x1, .f32⟩
  | .hbm, ⟨39, _⟩ => ⟨S_, .f32⟩
  | .hbm, ⟨40, _⟩ => ⟨S2048x1, .f32⟩
  | .hbm, ⟨41, _⟩ => ⟨S2048x1, .f32⟩
  | .hbm, ⟨42, _⟩ => ⟨S_, .f32⟩
  | .hbm, ⟨43, _⟩ => ⟨S2048, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== Swa.lean ====
abbrev S2048x512 : Shape := ⟨2, ![2048, 512]⟩
abbrev S2048x128 : Shape := ⟨2, ![2048, 128]⟩
abbrev S8 : Shape := ⟨1, ![8]⟩
abbrev S32x8 : Shape := ⟨2, ![32, 8]⟩
abbrev S128 : Shape := ⟨1, ![128]⟩
abbrev S2048x2x4x64 : Shape := ⟨4, ![2048, 2, 4, 64]⟩
abbrev S2048x4x2x64 : Shape := ⟨4, ![2048, 4, 2, 64]⟩
abbrev S_ : Shape := ⟨0, ![]⟩
abbrev S2048x768 : Shape := ⟨2, ![2048, 768]⟩
abbrev S8x1 : Shape := ⟨2, ![8, 1]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S128x256x1 : Shape := ⟨3, ![128, 256, 1]⟩
abbrev S128x256x8 : Shape := ⟨3, ![128, 256, 8]⟩
abbrev S8x128x256 : Shape := ⟨3, ![8, 128, 256]⟩
abbrev S1x128x256 : Shape := ⟨3, ![1, 128, 256]⟩
abbrev S16x128x2x4x64 : Shape := ⟨5, ![16, 128, 2, 4, 64]⟩
abbrev S2176x128 : Shape := ⟨2, ![2176, 128]⟩
abbrev S16x128x2x64 : Shape := ⟨4, ![16, 128, 2, 64]⟩
abbrev S16x256x2x64 : Shape := ⟨4, ![16, 256, 2, 64]⟩
abbrev S16x2x256x128x4 : Shape := ⟨5, ![16, 2, 256, 128, 4]⟩
abbrev S16x2x4x128x256 : Shape := ⟨5, ![16, 2, 4, 128, 256]⟩
abbrev S2x4x128x256 : Shape := ⟨4, ![2, 4, 128, 256]⟩
abbrev S1x2x4x128x256 : Shape := ⟨5, ![1, 2, 4, 128, 256]⟩
abbrev S16 : Shape := ⟨1, ![16]⟩
abbrev S16x1 : Shape := ⟨2, ![16, 1]⟩
abbrev S16x256 : Shape := ⟨2, ![16, 256]⟩
abbrev S16x1x256 : Shape := ⟨3, ![16, 1, 256]⟩
abbrev S16x128x256 : Shape := ⟨3, ![16, 128, 256]⟩
abbrev S16x1x1x128x256 : Shape := ⟨5, ![16, 1, 1, 128, 256]⟩
abbrev S2x4 : Shape := ⟨2, ![2, 4]⟩
abbrev S1x2x4x1x1 : Shape := ⟨5, ![1, 2, 4, 1, 1]⟩
abbrev S16x2x4x128 : Shape := ⟨4, ![16, 2, 4, 128]⟩
abbrev S16x2x4x128x1 : Shape := ⟨5, ![16, 2, 4, 128, 1]⟩
abbrev S16x2x64x4x128 : Shape := ⟨5, ![16, 2, 64, 4, 128]⟩
abbrev S16x128x4x2 : Shape := ⟨4, ![16, 128, 4, 2]⟩
abbrev S2048x8 : Shape := ⟨2, ![2048, 8]⟩
abbrev S2048x2x4 : Shape := ⟨3, ![2048, 2, 4]⟩
abbrev S2048x4x2 : Shape := ⟨3, ![2048, 4, 2]⟩
abbrev S2048x1024 : Shape := ⟨2, ![2048, 1024]⟩
abbrev S1x8 : Shape := ⟨2, ![1, 8]⟩
abbrev S128x512 : Shape := ⟨2, ![128, 512]⟩
abbrev S128x128 : Shape := ⟨2, ![128, 128]⟩
abbrev S128x8 : Shape := ⟨2, ![128, 8]⟩
abbrev S512x128 : Shape := ⟨2, ![512, 128]⟩
abbrev S512x1 : Shape := ⟨2, ![512, 1]⟩
abbrev S1 : Shape := ⟨1, ![1]⟩
abbrev S1x128x128 : Shape := ⟨3, ![1, 128, 128]⟩
abbrev S1x128x1 : Shape := ⟨3, ![1, 128, 1]⟩
abbrev S1x1x1 : Shape := ⟨3, ![1, 1, 1]⟩

abbrev nBuf : Space → Nat
  | .hbm => 187
  | .vmem => 25
  | .smem => 1
  | _ => 0

abbrev hbmTy0_0 (i : Nat) : BufTy := match i % 128 with
  | 0 => ⟨S2048x512, .f32⟩
  | 1 => ⟨S2048x128, .f32⟩
  | 2 => ⟨S2048x128, .f32⟩
  | 3 => ⟨S8, .f32⟩
  | 4 => ⟨S32x8, .f32⟩
  | 5 => ⟨S2048x512, .f32⟩
  | 6 => ⟨S8, .i32⟩
  | 7 => ⟨S8, .i1⟩
  | 8 => ⟨S128, .i32⟩
  | 9 => ⟨S8, .i32⟩
  | 10 => ⟨S8, .i1⟩
  | 11 => ⟨S2048x2x4x64, .f32⟩
  | 12 => ⟨S2048x4x2x64, .f32⟩
  | 13 => ⟨S2048x512, .f32⟩
  | 14 => ⟨S_, .f32⟩
  | 15 => ⟨S2048x512, .f32⟩
  | 16 => ⟨S2048x512, .f32⟩
  | 17 => ⟨S2048x768, .f32⟩
  | 18 => ⟨S2048x768, .bf16⟩
  | 19 => ⟨S_, .i32⟩
  | 20 => ⟨S8, .i32⟩
  | 21 => ⟨S8, .i32⟩
  | 22 => ⟨S8, .i32⟩
  | 23 => ⟨S8x1, .i32⟩
  | 24 => ⟨S8, .f32⟩
  | 25 => ⟨S128, .i32⟩
  | 26 => ⟨S128x1, .i32⟩
  | 27 => ⟨S_, .i32⟩
  | 28 => ⟨S128x1, .i32⟩
  | 29 => ⟨S128x1, .i32⟩
  | 30 => ⟨S256, .i32⟩
  | 31 => ⟨S1x256, .i32⟩
  | 32 => ⟨S128x256, .i32⟩
  | 33 => ⟨S128x256, .i32⟩
  | 34 => ⟨S128x256, .i32⟩
  | 35 => ⟨S_, .i32⟩
  | 36 => ⟨S128x256, .i32⟩
  | 37 => ⟨S128x256, .i1⟩
  | 38 => ⟨S_, .i32⟩
  | 39 => ⟨S128x256, .i32⟩
  | 40 => ⟨S128x256, .i1⟩
  | 41 => ⟨S128x256, .i1⟩
  | 42 => ⟨S_, .i32⟩
  | 43 => ⟨S_, .i32⟩
  | 44 => ⟨S_, .i32⟩
  | 45 => ⟨S128x256, .i32⟩
  | 46 => ⟨S128x256, .i32⟩
  | 47 => ⟨S_, .i32⟩
  | 48 => ⟨S128x256, .i32⟩
  | 49 => ⟨S128x256, .i32⟩
  | 50 => ⟨S_, .i32⟩
  | 51 => ⟨S128x256, .i32⟩
  | 52 => ⟨S128x256, .i1⟩
  | 53 => ⟨S_, .i32⟩
  | 54 => ⟨S128x256, .i32⟩
  | 55 => ⟨S128x256, .i32⟩
  | 56 => ⟨S128x256, .i32⟩
  | 57 => ⟨S128x256x1, .i32⟩
  | 58 => ⟨S128x256, .i32⟩
  | 59 => ⟨S_, .i32⟩
  | 60 => ⟨S_, .i32⟩
  | 61 => ⟨S128x256, .i32⟩
  | 62 => ⟨S128x256, .i32⟩
  | 63 => ⟨S_, .i32⟩
  | 64 => ⟨S128x256, .i32⟩
  | 65 => ⟨S128x256, .i32⟩
  | 66 => ⟨S_, .i32⟩
  | 67 => ⟨S128x256, .i32⟩
  | 68 => ⟨S128x256, .i1⟩
  | 69 => ⟨S_, .i32⟩
  | 70 => ⟨S128x256, .i32⟩
  | 71 => ⟨S128x256, .i32⟩
  | 72 => ⟨S128x256, .i32⟩
  | 73 => ⟨S128x256x1, .i32⟩
  | 74 => ⟨S128x256x8, .f32⟩
  | 75 => ⟨S8x128x256, .f32⟩
  | 76 => ⟨S1x128x256, .i32⟩
  | 77 => ⟨S_, .i32⟩
  | 78 => ⟨S1x128x256, .i32⟩
  | 79 => ⟨S1x128x256, .i1⟩
  | 80 => ⟨S_, .i32⟩
  | 81 => ⟨S8, .i32⟩
  | 82 => ⟨S8, .i32⟩
  | 83 => ⟨S8, .i32⟩
  | 84 => ⟨S8x1, .i32⟩
  | 85 => ⟨S8x128x256, .f32⟩
  | 86 => ⟨S_, .f32⟩
  | 87 => ⟨S_, .f32⟩
  | 88 => ⟨S8x128x256, .i1⟩
  | 89 => ⟨S8x128x256, .f32⟩
  | 90 => ⟨S8x128x256, .f32⟩
  | 91 => ⟨S16x128x2x4x64, .f32⟩
  | 92 => ⟨S_, .i32⟩
  | 93 => ⟨S_, .f32⟩
  | 94 => ⟨S2176x128, .f32⟩
  | 95 => ⟨S2048x128, .f32⟩
  | 96 => ⟨S16x128x2x64, .f32⟩
  | 97 => ⟨S16x128x2x64, .f32⟩
  | 98 => ⟨S16x256x2x64, .f32⟩
  | 99 => ⟨S16x2x256x128x4, .f32⟩
  | 100 => ⟨S16x2x4x128x256, .f32⟩
  | 101 => ⟨S_, .f32⟩
  | 102 => ⟨S16x2x4x128x256, .f32⟩
  | 103 => ⟨S16x2x4x128x256, .f32⟩
  | 104 => ⟨S2x4x128x256, .f32⟩
  | 105 => ⟨S1x2x4x128x256, .f32⟩
  | 106 => ⟨S16x2x4x128x256, .f32⟩
  | 107 => ⟨S16x2x4x128x256, .f32⟩
  | 108 => ⟨S1x128x256, .i32⟩
  | 109 => ⟨S_, .i32⟩
  | 110 => ⟨S1x128x256, .i32⟩
  | 111 => ⟨S1x128x256, .i1⟩
  | 112 => ⟨S16, .i32⟩
  | 113 => ⟨S16x1, .i32⟩
  | 114 => ⟨S_, .i32⟩
  | 115 => ⟨S16x1, .i32⟩
  | 116 => ⟨S16x1, .i1⟩
  | 117 => ⟨S256, .i32⟩
  | 118 => ⟨S1x256, .i32⟩
  | 119 => ⟨S_, .i32⟩
  | 120 => ⟨S1x256, .i32⟩
  | 121 => ⟨S1x256, .i1⟩
  | 122 => ⟨S16x256, .i1⟩
  | 123 => ⟨S16x256, .i1⟩
  | 124 => ⟨S16x256, .i1⟩
  | 125 => ⟨S16x1x256, .i1⟩
  | 126 => ⟨S16x128x256, .i1⟩
  | 127 => ⟨S16x128x256, .i1⟩
  | _ => ⟨S2048x512, .f32⟩

abbrev hbmTy0_1 (i : Nat) : BufTy := match i % 128 with
  | 0 => ⟨S16x128x256, .i1⟩
  | 1 => ⟨S16x1x1x128x256, .i1⟩
  | 2 => ⟨S_, .f32⟩
  | 3 => ⟨S_, .f32⟩
  | 4 => ⟨S16x2x4x128x256, .i1⟩
  | 5 => ⟨S16x2x4x128x256, .f32⟩
  | 6 => ⟨S16x2x4x128x256, .f32⟩
  | 7 => ⟨S2x4, .f32⟩
  | 8 => ⟨S1x2x4x1x1, .f32⟩
  | 9 => ⟨S_, .f32⟩
  | 10 => ⟨S16x2x4x128, .f32⟩
  | 11 => ⟨S16x2x4x128x1, .f32⟩
  | 12 => ⟨S16x2x4x128x1, .f32⟩
  | 13 => ⟨S16x2x4x128x1, .f32⟩
  | 14 => ⟨S16x2x4x128x256, .f32⟩
  | 15 => ⟨S16x2x4x128x256, .f32⟩
  | 16 => ⟨S16x2x4x128x256, .f32⟩
  | 17 => ⟨S_, .f32⟩
  | 18 => ⟨S16x2x4x128, .f32⟩
  | 19 => ⟨S16x2x4x128x1, .f32⟩
  | 20 => ⟨S16x2x4x128x1, .f32⟩
  | 21 => ⟨S16x2x4x128x1, .f32⟩
  | 22 => ⟨S16x2x4x128x1, .f32⟩
  | 23 => ⟨S16x2x4x128x1, .f32⟩
  | 24 => ⟨S16x2x4x128x256, .f32⟩
  | 25 => ⟨S16x2x4x128x256, .f32⟩
  | 26 => ⟨S_, .i32⟩
  | 27 => ⟨S_, .f32⟩
  | 28 => ⟨S2176x128, .f32⟩
  | 29 => ⟨S2048x128, .f32⟩
  | 30 => ⟨S16x128x2x64, .f32⟩
  | 31 => ⟨S16x128x2x64, .f32⟩
  | 32 => ⟨S16x256x2x64, .f32⟩
  | 33 => ⟨S16x2x64x4x128, .f32⟩
  | 34 => ⟨S16x128x2x4x64, .f32⟩
  | 35 => ⟨S2048x512, .f32⟩
  | 36 => ⟨S16x2x4x128x1, .f32⟩
  | 37 => ⟨S16x2x4x128x1, .f32⟩
  | 38 => ⟨S16x2x4x128, .f32⟩
  | 39 => ⟨S16x128x4x2, .f32⟩
  | 40 => ⟨S2048x8, .f32⟩
  | 41 => ⟨S2048x512, .f32⟩
  | 42 => ⟨S2048x2x4x64, .f32⟩
  | 43 => ⟨S_, .f32⟩
  | 44 => ⟨S2048x2x4, .f32⟩
  | 45 => ⟨S2048x4x2, .f32⟩
  | 46 => ⟨S2048x8, .f32⟩
  | 47 => ⟨S2048x2x4x64, .f32⟩
  | 48 => ⟨S2048x4x2x64, .f32⟩
  | 49 => ⟨S2048x512, .f32⟩
  | 50 => ⟨S_, .f32⟩
  | 51 => ⟨S2048x512, .f32⟩
  | 52 => ⟨S2048x1024, .f32⟩
  | 53 => ⟨S2048x1024, .bf16⟩
  | 54 => ⟨S2048x512, .bf16⟩
  | 55 => ⟨S2048x128, .f32⟩
  | 56 => ⟨S2048x128, .f32⟩
  | 57 => ⟨S32x8, .f32⟩
  | 58 => ⟨S1x8, .f32⟩
  | _ => ⟨S2048x512, .f32⟩

abbrev hbmTy (i : Nat) : BufTy := match i / 128 with
  | 0 => hbmTy0_0 i
  | 1 => hbmTy0_1 i
  | _ => ⟨S2048x512, .f32⟩

abbrev bufTy : (tb : Table) → Fin (tcTables nBuf tb) → BufTy
  | .hbm, ⟨i, _⟩ => hbmTy i
  | .local _ .vmem, ⟨0, _⟩ => ⟨S128x512, .bf16⟩
  | .local _ .vmem, ⟨1, _⟩ => ⟨S128x512, .bf16⟩
  | .local _ .vmem, ⟨2, _⟩ => ⟨S128x128, .bf16⟩
  | .local _ .vmem, ⟨3, _⟩ => ⟨S128x128, .bf16⟩
  | .local _ .vmem, ⟨4, _⟩ => ⟨S128x128, .bf16⟩
  | .local _ .vmem, ⟨5, _⟩ => ⟨S128x128, .bf16⟩
  | .local _ .vmem, ⟨6, _⟩ => ⟨S128x128, .bf16⟩
  | .local _ .vmem, ⟨7, _⟩ => ⟨S128x128, .bf16⟩
  | .local _ .vmem, ⟨8, _⟩ => ⟨S128x128, .bf16⟩
  | .local _ .vmem, ⟨9, _⟩ => ⟨S128x128, .bf16⟩
  | .local _ .vmem, ⟨10, _⟩ => ⟨S128x512, .bf16⟩
  | .local _ .vmem, ⟨11, _⟩ => ⟨S128x512, .bf16⟩
  | .local _ .vmem, ⟨12, _⟩ => ⟨S8x128x256, .f32⟩
  | .local _ .vmem, ⟨13, _⟩ => ⟨S128x256, .i32⟩
  | .local _ .vmem, ⟨14, _⟩ => ⟨S128x8, .f32⟩
  | .local _ .vmem, ⟨15, _⟩ => ⟨S128x8, .f32⟩
  | .local _ .vmem, ⟨16, _⟩ => ⟨S128x8, .f32⟩
  | .local _ .vmem, ⟨17, _⟩ => ⟨S128x8, .f32⟩
  | .local _ .vmem, ⟨18, _⟩ => ⟨S128x512, .bf16⟩
  | .local _ .vmem, ⟨19, _⟩ => ⟨S128x512, .bf16⟩
  | .local _ .vmem, ⟨20, _⟩ => ⟨S2048x128, .f32⟩
  | .local _ .vmem, ⟨21, _⟩ => ⟨S2048x128, .f32⟩
  | .local _ .vmem, ⟨22, _⟩ => ⟨S32x8, .f32⟩
  | .local _ .vmem, ⟨23, _⟩ => ⟨S1x8, .f32⟩
  | .local _ .vmem, ⟨24, _⟩ => ⟨S8x128x256, .f32⟩
  | .local _ .smem, ⟨0, _⟩ => ⟨S8, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .smem, ⟨0, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_c_1 : Ref sig .tc := ⟨.hbm, 8, rfl⟩
abbrev main_c_2 : Ref sig .tc := ⟨.hbm, 9, rfl⟩
abbrev main_c_3 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_4 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c_5 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_6 : Ref sig .tc := ⟨.hbm, 35, rfl⟩
abbrev main_v21 : Ref sig .tc := ⟨.hbm, 36, rfl⟩
abbrev main_v22 : Ref sig .tc := ⟨.hbm, 37, rfl⟩
abbrev main_c_7 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_8 : Ref sig .tc := ⟨.hbm, 42, rfl⟩
abbrev main_c_9 : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_v26 : Ref sig .tc := ⟨.hbm, 49, rfl⟩
abbrev main_c_10 : Ref sig .tc := ⟨.hbm, 50, rfl⟩
abbrev main_v27 : Ref sig .tc := ⟨.hbm, 51, rfl⟩
abbrev main_v28 : Ref sig .tc := ⟨.hbm, 52, rfl⟩
abbrev main_c_11 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_c_12 : Ref sig .tc := ⟨.hbm, 59, rfl⟩
abbrev main_call1_v0 : Ref sig .tc := ⟨.hbm, 60, rfl⟩
abbrev main_call1_v1 : Ref sig .tc := ⟨.hbm, 61, rfl⟩
abbrev main_v34 : Ref sig .tc := ⟨.hbm, 62, rfl⟩
abbrev main_c_13 : Ref sig .tc := ⟨.hbm, 63, rfl⟩
abbrev main_v35 : Ref sig .tc := ⟨.hbm, 64, rfl⟩
abbrev main_v36 : Ref sig .tc := ⟨.hbm, 65, rfl⟩
abbrev main_c_14 : Ref sig .tc := ⟨.hbm, 66, rfl⟩
abbrev main_v37 : Ref sig .tc := ⟨.hbm, 67, rfl⟩
abbrev main_v38 : Ref sig .tc := ⟨.hbm, 68, rfl⟩
abbrev main_c_15 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_c_16 : Ref sig .tc := ⟨.hbm, 77, rfl⟩
abbrev main_v46 : Ref sig .tc := ⟨.hbm, 78, rfl⟩
abbrev main_v47 : Ref sig .tc := ⟨.hbm, 79, rfl⟩
abbrev main_c_17 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_cst_18 : Ref sig .tc := ⟨.hbm, 86, rfl⟩
abbrev main_call2_v0 : Ref sig .tc := ⟨.hbm, 87, rfl⟩
abbrev main_call2_v1 : Ref sig .tc := ⟨.hbm, 88, rfl⟩
abbrev main_call2_v2 : Ref sig .tc := ⟨.hbm, 89, rfl⟩
abbrev main_v53 : Ref sig .tc := ⟨.hbm, 90, rfl⟩
abbrev main_v54 : Ref sig .tc := ⟨.hbm, 91, rfl⟩
abbrev main_c_19 : Ref sig .tc := ⟨.hbm, 92, rfl⟩
abbrev main_call3_v0 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_cst_20 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_c_21 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_c_22 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_c_23 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_cst_24 : Ref sig .tc := ⟨.hbm, 130, rfl⟩
abbrev main_call4_v0 : Ref sig .tc := ⟨.hbm, 131, rfl⟩
abbrev main_call4_v1 : Ref sig .tc := ⟨.hbm, 132, rfl⟩
abbrev main_call4_v2 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_cst_25 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_cst_26 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_c_27 : Ref sig .tc := ⟨.hbm, 154, rfl⟩
abbrev main_call5_v0 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_cst_28 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_cst_29 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_v129_0 : Ref sig .tc := ⟨.hbm, 182, rfl⟩
abbrev main_v129_1 : Ref sig .tc := ⟨.hbm, 183, rfl⟩
abbrev main_v129_2 : Ref sig .tc := ⟨.hbm, 184, rfl⟩
abbrev main_v129_3 : Ref sig .tc := ⟨.hbm, 185, rfl⟩
abbrev main_v129_4 : Ref sig .tc := ⟨.hbm, 186, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_scratch0 : Ref sig .tc := ⟨.vmem, 24, rfl⟩
abbrev cc0_stg7_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem13_0 : DmaSem sig := 22
abbrev cc0_sem14_0 : DmaSem sig := 23
abbrev cc0_sem15_0 : DmaSem sig := 24

abbrev nD : Nat := 1
abbrev τ : Topo := Topo.v7x

variable {F : FTy → Type} [FloatOps F]

abbrev grid0 : Pipeline.Grid := ⟨1, ![16], ![false]⟩

def k0_mult1 (i : grid0.Coords) : BitVec 32 :=
  let arg0 : BitVec 32 := BitVec.ofNat 32 (i 0).val
  let c1_i32 : BitVec 32 := 1#32
  let v5 : BitVec 32 := Scalar.subi arg0 c1_i32
  let c0_i32_3 : BitVec 32 := 0#32
  let v6 : BitVec 32 := Scalar.maxsi v5 c0_i32_3
  let c128_i32 : BitVec 32 := 128#32
  let v7 : BitVec 32 := Scalar.muli v6 c128_i32
  v7
def k0_mult2 (i : grid0.Coords) : BitVec 32 :=
  let arg0 : BitVec 32 := BitVec.ofNat 32 (i 0).val
  let c128_i32_4 : BitVec 32 := 128#32
  let v9 : BitVec 32 := Scalar.muli arg0 c128_i32_4
  v9
def k0_off1 (i : grid0.Coords) : Fin 2 → Nat :=
  let arg0 : BitVec 32 := BitVec.ofNat 32 (i 0).val
  let c1_i32 : BitVec 32 := 1#32
  let v5 : BitVec 32 := Scalar.subi arg0 c1_i32
  let c0_i32_3 : BitVec 32 := 0#32
  let v6 : BitVec 32 := Scalar.maxsi v5 c0_i32_3
  let c128_i32 : BitVec 32 := 128#32
  let v7 : BitVec 32 := Scalar.muli v6 c128_i32
  let v8 : BitVec 32 := v7
  let v500 : Index := Scalar.indexCast v8
  let c0_299 : Index := 0#32
  ![v500.toNat, 0]
def k0_off2 (i : grid0.Coords) : Fin 2 → Nat :=
  let arg0 : BitVec 32 := BitVec.ofNat 32 (i 0).val
  let c128_i32_4 : BitVec 32 := 128#32
  let v9 : BitVec 32 := Scalar.muli arg0 c128_i32_4
  let v10 : BitVec 32 := v9
  let v506 : Index := Scalar.indexCast v10
  let c0_301 : Index := 0#32
  ![v506.toNat, 0]
def k0_cond2 (i : grid0.Coords) : BitVec 1 :=
  let arg0 : BitVec 32 := BitVec.ofNat 32 (i 0).val
  let c15_i32 : BitVec 32 := 15#32
  let v528 : BitVec 1 := Scalar.cmpi .eq arg0 c15_i32
  let v529 : BitVec 32 := Scalar.extui v528
  let c0_i32_311 : BitVec 32 := 0#32
  let v530 : BitVec 1 := Scalar.cmpi .ne v529 c0_i32_311
  v530

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let c0_i32_0 : BitVec 32 := 0#32
  ![v1.toNat, c4_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c5_i32 : BitVec 32 := 5#32
  let c0_i32_0 : BitVec 32 := 0#32
  ![v1.toNat, c5_i32.toNat]

def cc0_transform_4 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_5 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .smem S8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x256 .i32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S128x8 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x8 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S2048x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2048x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S32x8 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x8 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== Fgc.lean ====
abbrev S2048x1024 : Shape := ⟨2, ![2048, 1024]⟩
abbrev S1024x8 : Shape := ⟨2, ![1024, 8]⟩
abbrev S8 : Shape := ⟨1, ![8]⟩
abbrev S2048x8 : Shape := ⟨2, ![2048, 8]⟩
abbrev S8x2048 : Shape := ⟨2, ![8, 2048]⟩
abbrev S_ : Shape := ⟨0, ![]⟩
abbrev S16x2048 : Shape := ⟨2, ![16, 2048]⟩
abbrev S8x1 : Shape := ⟨2, ![8, 1]⟩
abbrev S16x1 : Shape := ⟨2, ![16, 1]⟩

abbrev nBuf : Space → Nat
  | .hbm => 13
  | .vmem => 3
  | .smem => 0
  | _ => 0

abbrev bufTy : (tb : Table) → Fin (tcTables nBuf tb) → BufTy
  | .hbm, ⟨0, _⟩ => ⟨S2048x1024, .f32⟩
  | .hbm, ⟨1, _⟩ => ⟨S1024x8, .f32⟩
  | .hbm, ⟨2, _⟩ => ⟨S8, .f32⟩
  | .hbm, ⟨3, _⟩ => ⟨S2048x8, .f32⟩
  | .hbm, ⟨4, _⟩ => ⟨S8x2048, .f32⟩
  | .hbm, ⟨5, _⟩ => ⟨S_, .i32⟩
  | .hbm, ⟨6, _⟩ => ⟨S_, .f32⟩
  | .hbm, ⟨7, _⟩ => ⟨S16x2048, .f32⟩
  | .hbm, ⟨8, _⟩ => ⟨S8x1, .f32⟩
  | .hbm, ⟨9, _⟩ => ⟨S_, .i32⟩
  | .hbm, ⟨10, _⟩ => ⟨S_, .f32⟩
  | .hbm, ⟨11, _⟩ => ⟨S16x1, .f32⟩
  | .hbm, ⟨12, _⟩ => ⟨S16x2048, .f32⟩
  | .local _ .vmem, ⟨0, _⟩ => ⟨S16x2048, .f32⟩
  | .local _ .vmem, ⟨1, _⟩ => ⟨S16x1, .f32⟩
  | .local _ .vmem, ⟨2, _⟩ => ⟨S16x2048, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_call1_v0 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== FgcRefIdeal.lean ====
abbrev S2048x1024 : Shape := ⟨2, ![2048, 1024]⟩
abbrev S1024x8 : Shape := ⟨2, ![1024, 8]⟩
abbrev S8 : Shape := ⟨1, ![8]⟩
abbrev S2048x8 : Shape := ⟨2, ![2048, 8]⟩
abbrev S_ : Shape := ⟨0, ![]⟩
abbrev S2048x16 : Shape := ⟨2, ![2048, 16]⟩
abbrev S16 : Shape := ⟨1, ![16]⟩
abbrev S1x16 : Shape := ⟨2, ![1, 16]⟩
abbrev S16x2048 : Shape := ⟨2, ![16, 2048]⟩

abbrev nBuf : Space → Nat
  | .hbm => 33
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x8, .f32⟩
  | .hbm, ⟨2, _⟩ => ⟨S8, .f32⟩
  | .hbm, ⟨3, _⟩ => ⟨S2048x8, .f32⟩
  | .hbm, ⟨4, _⟩ => ⟨S_, .i32⟩
  | .hbm, ⟨5, _⟩ => ⟨S_, .f32⟩
  | .hbm, ⟨6, _⟩ => ⟨S2048x16, .f32⟩
  | .hbm, ⟨7, _⟩ => ⟨S_, .i32⟩
  | .hbm, ⟨8, _⟩ => ⟨S_, .f32⟩
  | .hbm, ⟨9, _⟩ => ⟨S16, .f32⟩
  | .hbm, ⟨10, _⟩ => ⟨S1x16, .f32⟩
  | .hbm, ⟨11, _⟩ => ⟨S2048x16, .f32⟩
  | .hbm, ⟨12, _⟩ => ⟨S2048x16, .f32⟩
  | .hbm, ⟨13, _⟩ => ⟨S2048x16, .f32⟩
  | .hbm, ⟨14, _⟩ => ⟨S_, .f32⟩
  | .hbm, ⟨15, _⟩ => ⟨S2048x16, .f32⟩
  | .hbm, ⟨16, _⟩ => ⟨S2048x16, .f32⟩
  | .hbm, ⟨17, _⟩ => ⟨S2048x16, .f32⟩
  | .hbm, ⟨18, _⟩ => ⟨S2048x16, .f32⟩
  | .hbm, ⟨19, _⟩ => ⟨S2048x16, .i1⟩
  | .hbm, ⟨20, _⟩ => ⟨S2048x16, .f32⟩
  | .hbm, ⟨21, _⟩ => ⟨S2048x16, .f32⟩
  | .hbm, ⟨22, _⟩ => ⟨S2048x16, .f32⟩
  | .hbm, ⟨23, _⟩ => ⟨S2048x16, .f32⟩
  | .hbm, ⟨24, _⟩ => ⟨S2048x16, .f32⟩
  | .hbm, ⟨25, _⟩ => ⟨S2048x16, .f32⟩
  | .hbm, ⟨26, _⟩ => ⟨S2048x16, .f32⟩
  | .hbm, ⟨27, _⟩ => ⟨S2048x16, .f32⟩
  | .hbm, ⟨28, _⟩ => ⟨S2048x16, .f32⟩
  | .hbm, ⟨29, _⟩ => ⟨S_, .f32⟩
  | .hbm, ⟨30, _⟩ => ⟨S_, .f32⟩
  | .hbm, ⟨31, _⟩ => ⟨S2048x16, .f32⟩
  | .hbm, ⟨32, _⟩ => ⟨S16x2048, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_c_0 : Ref sig .tc := ⟨.hbm, 7, rfl⟩
abbrev main_call1_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_call2_v0 : Ref sig .tc := ⟨.hbm, 13, rfl⟩
abbrev main_call2_call0_cst : Ref sig .tc := ⟨.hbm, 14, rfl⟩
abbrev main_call2_call0_v0 : Ref sig .tc := ⟨.hbm, 15, rfl⟩
abbrev main_call2_call0_v1 : Ref sig .tc := ⟨.hbm, 16, rfl⟩
abbrev main_call2_call0_v2 : Ref sig .tc := ⟨.hbm, 17, rfl⟩
abbrev main_call2_call0_v3 : Ref sig .tc := ⟨.hbm, 18, rfl⟩
abbrev main_call2_call0_v4 : Ref sig .tc := ⟨.hbm, 19, rfl⟩
abbrev main_call2_call0_v5 : Ref sig .tc := ⟨.hbm, 20, rfl⟩
abbrev main_call2_call0_v6 : Ref sig .tc := ⟨.hbm, 21, rfl⟩
abbrev main_call2_call0_v7 : Ref sig .tc := ⟨.hbm, 22, rfl⟩
abbrev main_call2_call0_v8 : Ref sig .tc := ⟨.hbm, 23, rfl⟩
abbrev main_call2_call0_v9 : Ref sig .tc := ⟨.hbm, 24, rfl⟩
abbrev main_call2_call0_v10 : Ref sig .tc := ⟨.hbm, 25, rfl⟩
abbrev main_call2_call0_v11 : Ref sig .tc := ⟨.hbm, 26, rfl⟩
abbrev main_call2_v1 : Ref sig .tc := ⟨.hbm, 27, rfl⟩
abbrev main_v6 : Ref sig .tc := ⟨.hbm, 28, rfl⟩
abbrev main_call3_call0_cst : Ref sig .tc := ⟨.hbm, 29, rfl⟩
abbrev main_call3_call0_v0 : Ref sig .tc := ⟨.hbm, 30, rfl⟩
abbrev main_v7 : Ref sig .tc := ⟨.hbm, 31, rfl⟩
abbrev main_v8 : Ref sig .tc := ⟨.hbm, 32, rfl⟩

abbrev nD : Nat := 1
abbrev τ : Topo := Topo.v7x

variable {F : FTy → Type} [FloatOps F]
-- ==== Pat.lean ====
abbrev S2048x1024 : Shape := ⟨2, ![2048, 1024]⟩
abbrev S2048x512 : Shape := ⟨2, ![2048, 512]⟩
abbrev S1024x1024 : Shape := ⟨2, ![1024, 1024]⟩
abbrev S1x1024 : Shape := ⟨2, ![1, 1024]⟩
abbrev S512x1024 : Shape := ⟨2, ![512, 1024]⟩
abbrev S2x4x64x1024 : Shape := ⟨4, ![2, 4, 64, 1024]⟩
abbrev S4x2x64x1024 : Shape := ⟨4, ![4, 2, 64, 1024]⟩
abbrev S2048x2x4x64 : Shape := ⟨4, ![2048, 2, 4, 64]⟩
abbrev S2048x4x2x64 : Shape := ⟨4, ![2048, 4, 2, 64]⟩
abbrev S512x512 : Shape := ⟨2, ![512, 512]⟩
abbrev S512 : Shape := ⟨1, ![512]⟩
abbrev S512x1 : Shape := ⟨2, ![512, 1]⟩

abbrev nBuf : Space → Nat
  | .hbm => 20
  | .vmem => 16
  | .smem => 0
  | _ => 0

abbrev bufTy : (tb : Table) → Fin (tcTables nBuf tb) → BufTy
  | .hbm, ⟨0, _⟩ => ⟨S2048x1024, .f32⟩
  | .hbm, ⟨1, _⟩ => ⟨S2048x512, .f32⟩
  | .hbm, ⟨2, _⟩ => ⟨S2048x512, .f32⟩
  | .hbm, ⟨3, _⟩ => ⟨S1024x1024, .f32⟩
  | .hbm, ⟨4, _⟩ => ⟨S1x1024, .f32⟩
  | .hbm, ⟨5, _⟩ => ⟨S1x1024, .f32⟩
  | .hbm, ⟨6, _⟩ => ⟨S1024x1024, .bf16⟩
  | .hbm, ⟨7, _⟩ => ⟨S512x1024, .bf16⟩
  | .hbm, ⟨8, _⟩ => ⟨S512x1024, .bf16⟩
  | .hbm, ⟨9, _⟩ => ⟨S2x4x64x1024, .bf16⟩
  | .hbm, ⟨10, _⟩ => ⟨S4x2x64x1024, .bf16⟩
  | .hbm, ⟨11, _⟩ => ⟨S512x1024, .bf16⟩
  | .hbm, ⟨12, _⟩ => ⟨S2048x512, .bf16⟩
  | .hbm, ⟨13, _⟩ => ⟨S2048x512, .bf16⟩
  | .hbm, ⟨14, _⟩ => ⟨S2048x2x4x64, .bf16⟩
  | .hbm, ⟨15, _⟩ => ⟨S2048x4x2x64, .bf16⟩
  | .hbm, ⟨16, _⟩ => ⟨S2048x512, .bf16⟩
  | .hbm, ⟨17, _⟩ => ⟨S2048x1024, .f32⟩
  | .hbm, ⟨18, _⟩ => ⟨S2048x1024, .f32⟩
  | .hbm, ⟨19, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11_0 : Ref sig .tc := ⟨.hbm, 17, rfl⟩
abbrev main_v11_1 : Ref sig .tc := ⟨.hbm, 18, rfl⟩
abbrev main_v11_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== PatRefIdeal.lean ====
abbrev S2048x1024 : Shape := ⟨2, ![2048, 1024]⟩
abbrev S2048x512 : Shape := ⟨2, ![2048, 512]⟩
abbrev S1024x1024 : Shape := ⟨2, ![1024, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩

abbrev nBuf : Space → Nat
  | .hbm => 40
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x512, .f32⟩
  | .hbm, ⟨2, _⟩ => ⟨S2048x512, .f32⟩
  | .hbm, ⟨3, _⟩ => ⟨S1024x1024, .f32⟩
  | .hbm, ⟨4, _⟩ => ⟨S1x1024, .f32⟩
  | .hbm, ⟨5, _⟩ => ⟨S1x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S2048, .f32⟩
  | .hbm, ⟨27, _⟩ => ⟨S2048x1, .f32⟩
  | .hbm, ⟨28, _⟩ => ⟨S_, .f32⟩
  | .hbm, ⟨29, _⟩ => ⟨S2048x1, .f32⟩
  | .hbm, ⟨30, _⟩ => ⟨S2048x1, .f32⟩
  | .hbm, ⟨31, _⟩ => ⟨S_, .f32⟩
  | .hbm, ⟨32, _⟩ => ⟨S2048x1, .f32⟩
  | .hbm, ⟨33, _⟩ => ⟨S2048x1, .f32⟩
  | .hbm, ⟨34, _⟩ => ⟨S2048x1, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩

abbrev nD : Nat := 1
abbrev τ : Topo := Topo.v7x

variable {F : FTy → Type} [FloatOps F]
-- ==== Mlf.lean ====
abbrev S2048x1024 : Shape := ⟨2, ![2048, 1024]⟩
abbrev S1024x4096 : Shape := ⟨2, ![1024, 4096]⟩
abbrev S4096x1024 : Shape := ⟨2, ![4096, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024x8x512 : Shape := ⟨3, ![1024, 8, 512]⟩
abbrev S8x1024x512 : Shape := ⟨3, ![8, 1024, 512]⟩
abbrev S2048x4096 : Shape := ⟨2, ![2048, 4096]⟩
abbrev S512x1024 : Shape := ⟨2, ![512, 1024]⟩
abbrev S512x4096 : Shape := ⟨2, ![512, 4096]⟩
abbrev S1x1024x512 : Shape := ⟨3, ![1, 1024, 512]⟩
abbrev S1024x512 : Shape := ⟨2, ![1024, 512]⟩
abbrev S512x512 : Shape := ⟨2, ![512, 512]⟩
abbrev S512 : Shape := ⟨1, ![512]⟩
abbrev S512x1 : Shape := ⟨2, ![512, 1]⟩

abbrev nBuf : Space → Nat
  | .hbm => 28
  | .vmem => 13
  | .smem => 0
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1024, .f32⟩
  | .hbm, ⟨17, _⟩ => ⟨S2048x1024, .f32⟩
  | .hbm, ⟨18, _⟩ => ⟨S1024x8x512, .f32⟩
  | .hbm, ⟨19, _⟩ => ⟨S8x1024x512, .f32⟩
  | .hbm, ⟨20, _⟩ => ⟨S8x1024x512, .bf16⟩
  | .hbm, ⟨21, _⟩ => ⟨S2048x1024, .f32⟩
  | .hbm, ⟨22, _⟩ => ⟨S2048x1024, .f32⟩
  | .hbm, ⟨23, _⟩ => ⟨S2048x1024, .bf16⟩
  | .hbm, ⟨24, _⟩ => ⟨S4096x1024, .bf16⟩
  | .hbm, ⟨25, _⟩ => ⟨S2048x4096, .bf16⟩
  | .hbm, ⟨26, _⟩ => ⟨S2048x1024, .f32⟩
  | .hbm, ⟨27, _⟩ => ⟨S2048x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S8x1024x512, .bf16⟩
  | .local _ .vmem, ⟨5, _⟩ => ⟨S4096x1024, .bf16⟩
  | .local _ .vmem, ⟨6, _⟩ => ⟨S1x1024, .f32⟩
  | .local _ .vmem, ⟨7, _⟩ => ⟨S512x4096, .bf16⟩
  | .local _ .vmem, ⟨8, _⟩ => ⟨S512x4096, .bf16⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17_0 : Ref sig .tc := ⟨.hbm, 25, rfl⟩
abbrev main_v17_1 : Ref sig .tc := ⟨.hbm, 26, rfl⟩
abbrev main_v17_2 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MlfRefIdeal.lean ====
abbrev S2048x1024 : Shape := ⟨2, ![2048, 1024]⟩
abbrev S1024x4096 : Shape := ⟨2, ![1024, 4096]⟩
abbrev S4096x1024 : Shape := ⟨2, ![4096, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S2048x4096 : Shape := ⟨2, ![2048, 4096]⟩

abbrev nBuf : Space → Nat
  | .hbm => 43
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x4096, .f32⟩
  | .hbm, ⟨21, _⟩ => ⟨S_, .f32⟩
  | .hbm, ⟨22, _⟩ => ⟨S2048x4096, .f32⟩
  | .hbm, ⟨23, _⟩ => ⟨S2048x4096, .f32⟩
  | .hbm, ⟨24, _⟩ => ⟨S2048x4096, .f32⟩
  | .hbm, ⟨25, _⟩ => ⟨S2048x1024, .f32⟩
  | .hbm, ⟨26, _⟩ => ⟨S2048x4096, .bf16⟩
  | .hbm, ⟨27, _⟩ => ⟨S2048x1024, .f32⟩
  | .hbm, ⟨28, _⟩ => ⟨S_, .f32⟩
  | .hbm, ⟨29, _⟩ => ⟨S2048, .f32⟩
  | .hbm, ⟨30, _⟩ => ⟨S2048x1, .f32⟩
  | .hbm, ⟨31, _⟩ => ⟨S_, .f32⟩
  | .hbm, ⟨32, _⟩ => ⟨S2048x1, .f32⟩
  | .hbm, ⟨33, _⟩ => ⟨S2048x1, .f32⟩
  | .hbm, ⟨34, _⟩ => ⟨S_, .f32⟩
  | .hbm, ⟨35, _⟩ => ⟨S2048x1, .f32⟩
  | .hbm, ⟨36, _⟩ => ⟨S2048x1, .f32⟩
  | .hbm, ⟨37, _⟩ => ⟨S2048x1, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_call0_cst : Ref sig .tc := ⟨.hbm, 21, rfl⟩
abbrev main_call0_v0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]
-- ==== Pra.lean ====
abbrev S2048x1024 : Shape := ⟨2, ![2048, 1024]⟩
abbrev S1024x2312 : Shape := ⟨2, ![1024, 2312]⟩
abbrev S1x1024 : Shape := ⟨2, ![1, 1024]⟩
abbrev S2312x1024 : Shape := ⟨2, ![2312, 1024]⟩
abbrev S8x1024 : Shape := ⟨2, ![8, 1024]⟩
abbrev S_ : Shape := ⟨0, ![]⟩
abbrev S512x1024 : Shape := ⟨2, ![512, 1024]⟩
abbrev S2x4x64x1024 : Shape := ⟨4, ![2, 4, 64, 1024]⟩
abbrev S4x2x64x1024 : Shape := ⟨4, ![4, 2, 64, 1024]⟩
abbrev S256x1024 : Shape := ⟨2, ![256, 1024]⟩
abbrev S784x1024 : Shape := ⟨2, ![784, 1024]⟩
abbrev S2048x1536 : Shape := ⟨2, ![2048, 1536]⟩
abbrev S2048x768 : Shape := ⟨2, ![2048, 768]⟩
abbrev S16x2048 : Shape := ⟨2, ![16, 2048]⟩
abbrev S1536x1024 : Shape := ⟨2, ![1536, 1024]⟩
abbrev S512x1536 : Shape := ⟨2, ![512, 1536]⟩
abbrev S512x768 : Shape := ⟨2, ![512, 768]⟩
abbrev S16x512 : Shape := ⟨2, ![16, 512]⟩
abbrev S512 : Shape := ⟨1, ![512]⟩
abbrev S512x1 : Shape := ⟨2, ![512, 1]⟩
abbrev S512x512 : Shape := ⟨2, ![512, 512]⟩
abbrev S1024x1024 : Shape := ⟨2, ![1024, 1024]⟩
abbrev S512x256 : Shape := ⟨2, ![512, 256]⟩
abbrev S16x1024 : Shape := ⟨2, ![16, 1024]⟩

abbrev nBuf : Space → Nat
  | .hbm => 18
  | .vmem => 13
  | .smem => 0
  | _ => 0

abbrev bufTy : (tb : Table) → Fin (tcTables nBuf tb) → BufTy
  | .hbm, ⟨0, _⟩ => ⟨S2048x1024, .f32⟩
  | .hbm, ⟨1, _⟩ => ⟨S1024x2312, .f32⟩
  | .hbm, ⟨2, _⟩ => ⟨S1x1024, .f32⟩
  | .hbm, ⟨3, _⟩ => ⟨S2312x1024, .f32⟩
  | .hbm, ⟨4, _⟩ => ⟨S2312x1024, .bf16⟩
  | .hbm, ⟨5, _⟩ => ⟨S8x1024, .bf16⟩
  | .hbm, ⟨6, _⟩ => ⟨S_, .bf16⟩
  | .hbm, ⟨7, _⟩ => ⟨S8x1024, .bf16⟩
  | .hbm, ⟨8, _⟩ => ⟨S512x1024, .bf16⟩
  | .hbm, ⟨9, _⟩ => ⟨S2x4x64x1024, .bf16⟩
  | .hbm, ⟨10, _⟩ => ⟨S4x2x64x1024, .bf16⟩
  | .hbm, ⟨11, _⟩ => ⟨S512x1024, .bf16⟩
  | .hbm, ⟨12, _⟩ => ⟨S256x1024, .bf16⟩
  | .hbm, ⟨13, _⟩ => ⟨S784x1024, .bf16⟩
  | .hbm, ⟨14, _⟩ => ⟨S2048x1024, .bf16⟩
  | .hbm, ⟨15, _⟩ => ⟨S2048x1536, .bf16⟩
  | .hbm, ⟨16, _⟩ => ⟨S2048x768, .bf16⟩
  | .hbm, ⟨17, _⟩ => ⟨S16x2048, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1536x1024, .bf16⟩
  | .local _ .vmem, ⟨4, _⟩ => ⟨S784x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1536, .bf16⟩
  | .local _ .vmem, ⟨8, _⟩ => ⟨S512x1536, .bf16⟩
  | .local _ .vmem, ⟨9, _⟩ => ⟨S512x768, .bf16⟩
  | .local _ .vmem, ⟨10, _⟩ => ⟨S512x768, .bf16⟩
  | .local _ .vmem, ⟨11, _⟩ => ⟨S16x512, .f32⟩
  | .local _ .vmem, ⟨12, _⟩ => ⟨S16x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10_0 : Ref sig .tc := ⟨.hbm, 14, rfl⟩
abbrev main_v10_1 : Ref sig .tc := ⟨.hbm, 15, rfl⟩
abbrev main_v10_2 : Ref sig .tc := ⟨.hbm, 16, rfl⟩
abbrev main_v10_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1536x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S784x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== PraRefIdeal.lean ====
abbrev S2048x1024 : Shape := ⟨2, ![2048, 1024]⟩
abbrev S1024x2312 : Shape := ⟨2, ![1024, 2312]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S2048x2312 : Shape := ⟨2, ![2048, 2312]⟩
abbrev S2048x512 : Shape := ⟨2, ![2048, 512]⟩
abbrev S2048x1536 : Shape := ⟨2, ![2048, 1536]⟩
abbrev S2048x2x4x64 : Shape := ⟨4, ![2048, 2, 4, 64]⟩
abbrev S2048x4x2x64 : Shape := ⟨4, ![2048, 4, 2, 64]⟩
abbrev S2048x256 : Shape := ⟨2, ![2048, 256]⟩
abbrev S2048x768 : Shape := ⟨2, ![2048, 768]⟩
abbrev S2048x8 : Shape := ⟨2, ![2048, 8]⟩
abbrev S8x2048 : Shape := ⟨2, ![8, 2048]⟩
abbrev S16x2048 : Shape := ⟨2, ![16, 2048]⟩

abbrev nBuf : Space → Nat
  | .hbm => 42
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x2312, .f32⟩
  | .hbm, ⟨2, _⟩ => ⟨S1x1024, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x2312, .f32⟩
  | .hbm, ⟨19, _⟩ => ⟨S2048x512, .f32⟩
  | .hbm, ⟨20, _⟩ => ⟨S_, .f32⟩
  | .hbm, ⟨21, _⟩ => ⟨S2048x512, .f32⟩
  | .hbm, ⟨22, _⟩ => ⟨S2048x512, .f32⟩
  | .hbm, ⟨23, _⟩ => ⟨S2048x1024, .f32⟩
  | .hbm, ⟨24, _⟩ => ⟨S2048x1536, .f32⟩
  | .hbm, ⟨25, _⟩ => ⟨S2048x512, .f32⟩
  | .hbm, ⟨26, _⟩ => ⟨S_, .f32⟩
  | .hbm, ⟨27, _⟩ => ⟨S2048x512, .f32⟩
  | .hbm, ⟨28, _⟩ => ⟨S2048x512, .f32⟩
  | .hbm, ⟨29, _⟩ => ⟨S2048x2x4x64, .f32⟩
  | .hbm, ⟨30, _⟩ => ⟨S2048x4x2x64, .f32⟩
  | .hbm, ⟨31, _⟩ => ⟨S2048x512, .f32⟩
  | .hbm, ⟨32, _⟩ => ⟨S2048x256, .f32⟩
  | .hbm, ⟨33, _⟩ => ⟨S2048x768, .f32⟩
  | .hbm, ⟨34, _⟩ => ⟨S2048x8, .f32⟩
  | .hbm, ⟨35, _⟩ => ⟨S8x2048, .f32⟩
  | .hbm, ⟨36, _⟩ => ⟨S_, .i32⟩
  | .hbm, ⟨37, _⟩ => ⟨S_, .f32⟩
  | .hbm, ⟨38, _⟩ => ⟨S16x2048, .f32⟩
  | .hbm, ⟨39, _⟩ => ⟨S2048x1024, .bf16⟩
  | .hbm, ⟨40, _⟩ => ⟨S2048x1536, .bf16⟩
  | .hbm, ⟨41, _⟩ => ⟨S2048x768, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_c : Ref sig .tc := ⟨.hbm, 36, rfl⟩
abbrev main_call0_v0 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩

abbrev nD : Nat := 1
abbrev τ : Topo := Topo.v7x

variable {F : FTy → Type} [FloatOps F]
-- ==== Proof.Scan.lean ====
/- Running sums along the lanes, over the extended reals: the doubling scan that rotates and adds, and the host's
   `reduce_window` of a whole column, are both the sum of the entries from a position to the end. -/
module

public import Idealize.ShloMosaic.Lib.Pipeline.Value
public import Idealize.ShloMosaic.Lib.Pointwise
public import Idealize.ShloMosaic.Lib.ValueIdx
public import Idealize.ShloMosaic.Lib.Routing.OpsOne
public import Idealize.ShloMosaic.PureOps.Ideal.Laws

@[expose] public section

set_option maxRecDepth 16384

noncomputable section

namespace Cert.Scan

open Idealize.ShloMosaic

/-- A row of 2048 numbers, continued by zero. -/
def ext (f : Fin 2048 → EReal) (n : ℕ) : EReal := if h : n < 2048 then f ⟨n, h⟩ else 0

theorem ext_of_lt (f : Fin 2048 → EReal) (t : Fin 2048) : ext f t.val = f t := dif_pos t.isLt

theorem ext_of_ge (f : Fin 2048 → EReal) {n : ℕ} (h : 2048 ≤ n) : ext f n = 0 := dif_neg (by omega)

/-- The sum of the `s` entries from position `n` on. -/
def win (f : Fin 2048 → EReal) (s n : ℕ) : EReal := ∑ j ∈ Finset.range s, ext f (n + j)

theorem win_one (f : Fin 2048 → EReal) (n : ℕ) : win f 1 n = ext f n := by
  simp only [win, Finset.sum_range_one, add_zero]

theorem win_add (f : Fin 2048 → EReal) (s r n : ℕ) : win f (s + r) n = win f s n + win f r (n + s) := by
  simp only [win, Finset.sum_range_add, add_assoc]

theorem win_of_ge (f : Fin 2048 → EReal) (s : ℕ) {n : ℕ} (h : 2048 ≤ n) : win f s n = 0 :=
  Finset.sum_eq_zero fun j _ => ext_of_ge f (by omega)

/-- The sum of the entries from position `t` to the end. -/
def tail (f : Fin 2048 → EReal) (t : Fin 2048) : EReal := win f 2048 t.val

abbrev S : Shape := ⟨2, ![16, 2048]⟩

/-- One step of the scan from the right: add the entry `2048 - k` places further on, where there is one. -/
abbrev step (k : BitVec 32) (h : S.Rotates 1 none) (hi : S.Iotas .tc 32 [1]) (v : FVec Ideal S .f32) : FVec Ideal S .f32 :=
  addf v (select (cmpi .slt (iota .tc S 32 [1] hi) (broadcast S k)) (dynamicRotate 1 k none v h)
    (broadcast S (Scalar.ofBits (F := Ideal) .f32 0x00000000#32)))

/-- A lane's number is below a constant of the same range as words exactly when it is as naturals. -/
theorem slt_lane (t k : ℕ) (ht : t < 2048) (hk : k < 2048) :
    (BitVec.ofNat 32 t).slt (BitVec.ofNat 32 k) = decide (t < k) := by
  rw [BitVec.slt_eq_decide]
  congr 1
  rw [BitVec.toInt_eq_toNat_of_lt (by simp only [BitVec.toNat_ofNat]; omega), BitVec.toInt_eq_toNat_of_lt (by simp only [BitVec.toNat_ofNat]; omega)]
  simp only [BitVec.toNat_ofNat, eq_iff_iff]
  omega

/-- The rotated row at a lane. -/
theorem rotate_apply (k : ℕ) (hk : 0 < k) (hk' : k < 2048) (h : S.Rotates 1 none) (v : FVec Ideal S .f32) (a : Fin 16) (t : Fin 2048) :
    dynamicRotate 1 (BitVec.ofNat 32 k) none v h (ix2 a t)
      = v (ix2 a ⟨(t.val + (2048 - k)) % 2048, Nat.mod_lt _ (by decide)⟩) := by
  pointwise
  refine congrArg v (congrArg (ix2 a) (Fin.ext ?_))
  have hk2 : k % 2 ^ 32 = k := Nat.mod_eq_of_lt (by omega)
  simp [hk2]
  omega

/-- A scan whose entries are sums of `s` consecutive entries, after one more step: sums of twice as many. -/
theorem step_apply (s : ℕ) (hs : 0 < s) (hs' : s < 2048) (h : S.Rotates 1 none) (hi : S.Iotas .tc 32 [1])
    (v : FVec Ideal S .f32) (f : Fin 16 → Fin 2048 → EReal) (hv : ∀ a t, v (ix2 a t) = win (f a) s t.val) (a : Fin 16) (t : Fin 2048) :
    step (BitVec.ofNat 32 (2048 - s)) h hi v (ix2 a t) = win (f a) (s + s) t.val := by
  have e : step (BitVec.ofNat 32 (2048 - s)) h hi v (ix2 a t)
      = v (ix2 a t) + if t.val < 2048 - s then dynamicRotate 1 (BitVec.ofNat 32 (2048 - s)) none v h (ix2 a t) else 0 := by
    have h0 : Scalar.ofBits (F := Ideal) .f32 0x00000000#32 = (0 : EReal) := by
      simp [Scalar.ofBits, Ideal.ofBits, Ideal.ieee]
    have hc : cmpi .slt (iota .tc S 32 [1] hi) (broadcast S (BitVec.ofNat 32 (2048 - s))) (ix2 a t)
        = if t.val < 2048 - s then 1#1 else 0#1 := by
      show BitVec.ofBool ((BitVec.ofNat 32 (0 * 2048 + t.val)).slt (BitVec.ofNat 32 (2048 - s))) = _
      rw [Nat.zero_mul, Nat.zero_add, slt_lane _ _ t.isLt (by omega)]
      by_cases hlt : t.val < 2048 - s
      · rw [decide_eq_true hlt, if_pos hlt]; rfl
      · rw [decide_eq_false hlt, if_neg hlt]; rfl
    show v (ix2 a t) + Scalar.select (cmpi .slt (iota .tc S 32 [1] hi) (broadcast S (BitVec.ofNat 32 (2048 - s))) (ix2 a t))
      (dynamicRotate 1 (BitVec.ofNat 32 (2048 - s)) none v h (ix2 a t)) (Scalar.ofBits (F := Ideal) .f32 0x00000000#32) = _
    rw [hc, h0]
    by_cases hlt : t.val < 2048 - s
    · rw [if_pos hlt, if_pos hlt]; rfl
    · rw [if_neg hlt, if_neg hlt]; rfl
  rw [e, hv, win_add]
  congr 1
  by_cases hlt : t.val < 2048 - s
  · rw [if_pos hlt, rotate_apply _ (by omega) (by omega), hv]
    congr 1
    show (t.val + (2048 - (2048 - s))) % 2048 = _
    omega
  · rw [if_neg hlt, win_of_ge _ _ (by omega)]

/-- A left fold that adds is the starting value plus the sum. -/
theorem foldl_add {N : ℕ} (g : Fin N → EReal) (v : EReal) :
    (List.finRange N).foldl (fun r n => r + g n) v = v + ∑ n, g n := by
  rw [← List.sum_ofFn, List.ofFn_eq_map]
  generalize List.finRange N = l
  induction l generalizing v with
  | nil => simp
  | cons n l ih => simp only [List.foldl_cons, ih, List.map_cons, List.sum_cons, add_assoc]

/-- jnp's sum of a column from each position to its end (a `reduce_window` of the whole height, padded at the end by
    one less), read at an entry. -/
theorem reduceWindow_apply {n : ℕ} (x : (⟨2, ![2048, n]⟩ : Shape).Idx → EReal)
    (h : (⟨2, ![2048, n]⟩ : Shape).ReduceWindows ![2048, 1] ![1, 1] ![0, 0] ![2047, 0] ⟨2, ![2048, n]⟩) (t : Fin 2048) (a : Fin n) :
    Ideal.hostReduceWindowAdd ![2048, 1] ![1, 1] ![0, 0] ![2047, 0] h x 0 (ix2 t a) = Scan.tail (fun t => x (ix2 t a)) t := by
  unfold Ideal.hostReduceWindowAdd Host.reduceWindow
  dsimp only
  rw [foldl_add, zero_add]
  unfold Scan.tail win
  rw [Finset.sum_range]
  have hnum : (⟨2, ![2048, 1]⟩ : Shape).numel = 2048 := Routing.numel_col 2048
  refine Fintype.sum_equiv (finCongr hnum) _ _ fun j => ?_
  have hw0 : ((⟨2, ![2048, 1]⟩ : Shape).rowMajor.symm j 0).val = j.val := by
    have := Routing.symm_col (R := 2048) j
    exact congrArg Fin.val (congrFun this 0)
  have hw1 : ((⟨2, ![2048, 1]⟩ : Shape).rowMajor.symm j 1).val = 0 := by
    have := Routing.symm_col (R := 2048) j
    exact congrArg Fin.val (congrFun this 1)
  have p0 : (ix2 t a (0 : Fin 2)).val * 1 + ((⟨2, ![2048, 1]⟩ : Shape).rowMajor.symm j 0).val = t.val + j.val := by
    rw [hw0, Nat.mul_one]; rfl
  have p1 : (ix2 t a (1 : Fin 2)).val * 1 + ((⟨2, ![2048, 1]⟩ : Shape).rowMajor.symm j 1).val = a.val := by
    rw [hw1, Nat.mul_one]; rfl
  show _ = ext (fun t => x (ix2 t a)) (t.val + j.val)
  unfold ext
  by_cases hlt : t.val + j.val < 2048
  · rw [dif_pos hlt, dif_pos]
    swap
    · intro b
      match b with
      | ⟨0, _⟩ => exact ⟨Nat.zero_le _, by show _ - 0 < 2048; erw [p0]; omega⟩
      | ⟨1, _⟩ => exact ⟨Nat.zero_le _, by show _ - 0 < n; erw [p1]; exact a.isLt⟩
    refine congrArg x (funext fun b => Fin.ext ?_)
    match b with
    | ⟨0, _⟩ => exact p0
    | ⟨1, _⟩ => exact p1
  · rw [dif_neg hlt, dif_neg]
    intro hin
    have h0 := (hin 0).2
    have : t.val + j.val - 0 < 2048 := by erw [p0] at h0; exact h0
    omega

end Cert.Scan

end
-- ==== Proof.Gate.lean ====
/- The forget gate's derivative over the extended reals: what jax's `log_sigmoid` saves for its backward pass is the
   quotient `1 / (1 + exp z)`, at the infinities too; and the gate itself, in the forward kernel's form. -/
module

public import Idealize.ShloMosaic.PureOps.Ideal
public import Idealize.ShloMosaic.PureOps.Ideal.Laws

@[expose] public section

noncomputable section

namespace Cert.Gate

open Idealize.ShloMosaic

/-- The derivative of `log_sigmoid` at `z`. -/
def slope (z : EReal) : EReal := Ideal.div 1 (1 + Ideal.exp z)

/-- jax's `softplus` without its branch on NaN. -/
def softplus (x : EReal) : EReal := max x 0 + Ideal.log1p (Ideal.exp (-(max (x - 0) (-(x - 0)))))

theorem slope_coe (r : ℝ) : slope r = ((1 / (1 + Real.exp r) : ℝ) : EReal) := by
  have h : (1 + Real.exp r : ℝ) ≠ 0 := by positivity
  unfold slope
  rw [Ideal.exp_coe, ← EReal.coe_one, ← EReal.coe_add, Ideal.div_coe h, ← EReal.coe_mul, one_mul]

theorem slope_zero : slope 0 = ((1 / 2 : ℝ) : EReal) := by
  rw [← EReal.coe_zero, slope_coe, Real.exp_zero]; norm_num

theorem softplus_coe (r : ℝ) : softplus r = ((Real.log (1 + Real.exp r) : ℝ) : EReal) := by
  unfold softplus
  have hm : max (r : EReal) 0 = ((max r 0 : ℝ) : EReal) := by rw [← EReal.coe_zero]; exact (EReal.coe_strictMono.monotone.map_max).symm
  have ha : max ((r : EReal) - 0) (-((r : EReal) - 0)) = ((|r| : ℝ) : EReal) := by
    rw [sub_zero, ← EReal.coe_neg, abs_eq_max_neg]; exact (EReal.coe_strictMono.monotone.map_max).symm
  rw [hm, ha, ← EReal.coe_neg, Ideal.exp_coe, Ideal.log1p, ← EReal.coe_one, ← EReal.coe_add, Ideal.log_coe,
    if_neg (not_le.mpr (by positivity)), ← EReal.coe_add]
  congr 1
  rcases le_total r 0 with h | h
  · rw [max_eq_right h, abs_of_nonpos h, neg_neg, zero_add]
  · rw [max_eq_left h, abs_of_nonneg h]
    have e : (1 + Real.exp r) = Real.exp r * (1 + Real.exp (-r)) := by
      rw [mul_add, mul_one, ← Real.exp_add, add_neg_cancel, Real.exp_zero, add_comm]
    rw [e, Real.log_mul (Real.exp_ne_zero r) (by positivity), Real.log_exp]

/-- What `log_sigmoid`'s forward pass saves, from `x = -z`: the exponential of `x - softplus x`, both with +∞ replaced by 0. -/
theorem saved_eq (z : EReal) :
    Ideal.exp ((if -z = ⊤ then 0 else -z) - (if softplus (-z) = ⊤ then 0 else softplus (-z))) = slope z := by
  induction z using EReal.rec with
  | bot =>
    have h : softplus ⊤ = ⊤ := by
      unfold softplus
      have e : max (⊤ : EReal) (-⊤) = ⊤ := by simp
      rw [sub_zero, e, EReal.neg_top, Ideal.exp_bot, Ideal.log1p, add_zero, ← EReal.coe_one, Ideal.log_coe, if_neg (by norm_num), Real.log_one]
      simp
    rw [EReal.neg_bot, if_pos rfl, h, if_pos rfl, sub_zero, ← EReal.coe_zero, Ideal.exp_coe, Real.exp_zero]
    unfold slope
    rw [Ideal.exp_bot, add_zero, ← EReal.coe_one, Ideal.div_coe one_ne_zero, ← EReal.coe_mul]; norm_num
  | top =>
    have h : softplus ⊥ = 0 := by
      unfold softplus
      have e : max (⊥ : EReal) (-⊥) = ⊤ := by simp
      rw [sub_zero, e, EReal.neg_top, Ideal.exp_bot, Ideal.log1p, add_zero, ← EReal.coe_one, Ideal.log_coe, if_neg (by norm_num), Real.log_one]
      simp
    rw [EReal.neg_top, if_neg bot_ne_top, h, if_neg (by simp), sub_zero, Ideal.exp_bot]
    unfold slope
    rw [Ideal.exp_top, EReal.add_top_of_ne_bot (show (1 : EReal) ≠ ⊥ from EReal.coe_ne_bot 1), Ideal.div, if_neg (by simp), EReal.inv_top, mul_zero]
  | coe r =>
    rw [← EReal.coe_neg, if_neg (EReal.coe_ne_top _), softplus_coe, if_neg (EReal.coe_ne_top _), ← EReal.coe_sub, Ideal.exp_coe, slope_coe]
    congr 1
    rw [Real.exp_sub, Real.exp_log (by positivity), Real.exp_neg]
    have := Real.exp_pos r
    field_simp
    ring

/-- `log_sigmoid` as the forward kernel writes it, with the absolute value under the exponential. -/
def logSig (z : EReal) : EReal := min z 0 - Ideal.log1p (Ideal.exp (0 - max z (-z)))

/-- It is what jax's `log_sigmoid` computes, at the infinities too. -/
theorem neg_softplus (z : EReal) : -(softplus (-z)) = logSig z := by
  have hl : Ideal.log1p (Ideal.exp (0 - max z (-z))) ≠ ⊥ := by
    have e0 : Ideal.log1p 0 ≠ ⊥ := by
      rw [Ideal.log1p, add_zero, ← EReal.coe_one, Ideal.log_coe, if_neg (by norm_num), Real.log_one]
      simp
    induction z using EReal.rec with
    | bot => simpa using e0
    | top => simpa using e0
    | coe r =>
      rw [← EReal.coe_neg, ← EReal.coe_strictMono.monotone.map_max, zero_sub, ← EReal.coe_neg, Ideal.exp_coe, Ideal.log1p, ← EReal.coe_one,
        ← EReal.coe_add, Ideal.log_coe, if_neg (not_le.mpr (by positivity))]
      exact EReal.coe_ne_bot _
  have hm : max (-z) 0 ≠ ⊥ := ne_of_gt (lt_of_lt_of_le EReal.bot_lt_zero (le_max_right _ _))
  unfold softplus logSig
  rw [sub_zero, neg_neg, max_comm (-z) z, zero_sub, EReal.neg_add (.inl hm) (.inr (by rwa [zero_sub] at hl))]
  congr 1
  rcases le_total z 0 with h | h
  · rw [min_eq_left h, max_eq_left (by simpa using EReal.neg_le_neg_iff.mpr h), neg_neg]
  · rw [min_eq_right h, max_eq_right (by simpa using EReal.neg_le_neg_iff.mpr h), neg_zero]

end Cert.Gate

end
-- ==== Proof.ForgetKernel.lean ====
/- What `forget_bwd` computes, as a function of its four input blocks: each row's cotangent summed from each position to
   the end, times the gate's slope; its row sums; and its product with the activations. -/
module

public import proofs.«01_k».proof.Proof.Gen.ForgetIdeal.Value
public import proofs.«01_k».proof.Proof.Scan
public import proofs.«01_k».proof.Proof.Gate

@[expose] public section

set_option maxRecDepth 16384

noncomputable section

namespace Cert.ForgetKernel

open Cert.ForgetIdeal Cert.ForgetIdeal.Gen Idealize.ShloMosaic Idealize.ShloMosaic.TcCoe Idealize.SL.Sem
open Idealize.ShloMosaic.Pipeline (Dat)

theorem zero_bits : Scalar.ofBits (F := Ideal) .f32 0x00000000#32 = (0 : EReal) := by
  simp [Scalar.ofBits, Ideal.ofBits, Ideal.ieee]
theorem one_bits : Scalar.ofBits (F := Ideal) .f32 0x3F800000#32 = (1 : EReal) := by
  simp [Scalar.ofBits, Ideal.ofBits, Ideal.ieee]
  rw [← EReal.coe_mul]; norm_num

/-- The scan of the body: eleven steps, from distance 1 to distance 1024. -/
theorem scan_eq (v : Vec Ideal S16x2048 .f32) (a : Fin 16) (t : Fin 2048) :
    k0_pay6 (F := Ideal) (iota .tc S16x2048 32 [1] iota_S16x2048_d1_w32) (k0_pay5 v) (ix2 a t) = Scan.tail (fun t => v (ix2 a t)) t := by
  have st (s : ℕ) (hs : 0 < s) (hs' : s < 2048) (v' : FVec Ideal S16x2048 .f32)
      (hv : ∀ a t, v' (ix2 a t) = Scan.win (fun t => v (ix2 a t)) s t.val) (a : Fin 16) (t : Fin 2048) :=
    Scan.step_apply s hs hs' rotates_S16x2048_d1 iota_S16x2048_d1_w32 v' (fun a t => v (ix2 a t)) hv a t
  have h0 : ∀ (a : Fin 16) (t : Fin 2048), shapeCast S16x2048 v shapeCasts_S16x2048_S16x2048 (ix2 a t) = Scan.win (fun t => v (ix2 a t)) 1 t.val :=
    fun a t => by rw [shapeCast_self, Scan.win_one, Scan.ext_of_lt]
  exact st 1024 (by omega) (by omega) _ (st 512 (by omega) (by omega) _ (st 256 (by omega) (by omega) _ (st 128 (by omega) (by omega) _
    (st 64 (by omega) (by omega) _ (st 32 (by omega) (by omega) _ (st 16 (by omega) (by omega) _ (st 8 (by omega) (by omega) _
    (st 4 (by omega) (by omega) _ (st 2 (by omega) (by omega) _ (st 1 (by omega) (by omega) _ h0)))))))))) a t

/-- The gradient at the gate's input, from the blocks of the cotangent, of the gate's product and of its bias. -/
def dff (x0 x1 : Vec Ideal S16x2048 .f32) (x2 : Vec Ideal S16x1 .f32) (a : Fin 16) (t : Fin 2048) : EReal :=
  Scan.tail (fun t => x0 (ix2 a t)) t * Gate.slope (x1 (ix2 a t) + x2 (ix2 a 0))

theorem hz : (![0, 0] : Fin 2 → Nat) = fun _ => 0 := funext fun a => by match a with | ⟨0, _⟩ => rfl | ⟨1, _⟩ => rfl

theorem pay1_apply (x0 x1 : Vec Ideal S16x2048 .f32) (x2 : Vec Ideal S16x1 .f32) (x3 : Vec Ideal S2048x1024 .bf16) (a : Fin 16) (t : Fin 2048) :
    k0_pay1 (k0_pay9 x0 x1 x2 x3) (k0_pay10 x0 x1 x2 x3) (k0_pay11 x0 x1 x2 x3) (ix2 a t) = dff x0 x1 x2 a t := by
  unfold dff Gate.slope
  rw [← scan_eq x0 a t]
  have e0 : View.ld x0 r0_0 = x0 := View.ld_unit_zero hz _ _
  have e1 : View.ld x1 r0_0 = x1 := View.ld_unit_zero hz _ _
  have e2 : View.ld x2 r0_1 = x2 := View.ld_unit_zero hz _ _
  have hg : (k0_pay10 x0 x1 x2 x3) (ix2 a t) = 1 + Ideal.exp (x1 (ix2 a t) + x2 (ix2 a 0)) := by
    unfold k0_pay10 k0_pay7 k0_pay4
    rw [e1, e2]
    pointwise! [Ideal.exp_def, Ideal.addf_def, one_bits]
  have h1 : (k0_pay11 x0 x1 x2 x3) (ix2 a t) = 1 := one_bits
  unfold k0_pay1
  show (k0_pay9 x0 x1 x2 x3) (ix2 a t) * Ideal.div ((k0_pay11 x0 x1 x2 x3) (ix2 a t)) ((k0_pay10 x0 x1 x2 x3) (ix2 a t)) = _
  rw [hg, h1]
  unfold k0_pay9
  rw [e0]

theorem out4_apply (x0 x1 : Vec Ideal S16x2048 .f32) (x2 : Vec Ideal S16x1 .f32) (x3 : Vec Ideal S2048x1024 .bf16) (a : Fin 16) (t : Fin 2048) :
    out0_4 x0 x1 x2 x3 (ix2 a t) = dff x0 x1 x2 a t := by
  unfold out0_4
  rw [View.canon_unit_zero hz]
  exact pay1_apply x0 x1 x2 x3 a t

theorem out5_apply (x0 x1 : Vec Ideal S16x2048 .f32) (x2 : Vec Ideal S16x1 .f32) (x3 : Vec Ideal S2048x1024 .bf16) (a : Fin 16) (b : Fin 1) :
    out0_5 x0 x1 x2 x3 (ix2 a b) = ∑ t : Fin 2048, dff x0 x1 x2 a t := by
  unfold out0_5
  rw [View.canon_unit_zero hz]
  unfold k0_pay2
  have h := fun t => pay1_apply x0 x1 x2 x3 a t
  generalize k0_pay1 (k0_pay9 x0 x1 x2 x3) (k0_pay10 x0 x1 x2 x3) (k0_pay11 x0 x1 x2 x3) = y at h
  simp only [← h]
  pointwise

theorem out6_apply (x0 x1 : Vec Ideal S16x2048 .f32) (x2 : Vec Ideal S16x1 .f32) (x3 : Vec Ideal S2048x1024 .bf16) (a : Fin 16) (b : Fin 1024) :
    out0_6 x0 x1 x2 x3 (ix2 a b) = ∑ t : Fin 2048, dff x0 x1 x2 a t * x3 (ix2 t b) := by
  unfold out0_6
  rw [View.canon_unit_zero hz]
  unfold k0_pay3
  have h := fun t => pay1_apply x0 x1 x2 x3 a t
  generalize k0_pay1 (k0_pay9 x0 x1 x2 x3) (k0_pay10 x0 x1 x2 x3) (k0_pay11 x0 x1 x2 x3) = y at h
  simp only [← h]
  rw [show View.ld x3 r0_2 = x3 from View.ld_unit_zero hz _ _]
  pointwise

end Cert.ForgetKernel

end
-- ==== Proof.ForgetRun.lean ====
/- The forget gate's backward kernel against the derivative of the gate: both are, entry by entry, the same function of
   the activations, the gate's weight and bias, and the cotangent. -/
module

public import proofs.«01_k».proof.Defs
public import proofs.«01_k».proof.Proof.ForgetKernel
public import proofs.«01_k».proof.Proof.Gen.ForgetRefIdeal.Read
public import Idealize.ShloMosaic.Lib.Pipeline.ValueKit

@[expose] public section

set_option maxRecDepth 16384

noncomputable section

namespace Cert.ForgetRun

open Idealize.ShloMosaic Idealize.ShloMosaic.TcCoe Idealize.SL.Sem
open Idealize.ShloMosaic.Pipeline (Dat)

abbrev A0 : Type := Vec Ideal ⟨2, ![2048, 1024]⟩ .f32
abbrev A1 : Type := Vec Ideal ⟨2, ![1024, 8]⟩ .f32
abbrev A2 : Type := Vec Ideal ⟨1, ![8]⟩ .f32
abbrev A3 : Type := Vec Ideal ⟨2, ![2048, 8]⟩ .f32

/-- The gradient at the gate's input, of head `a` at position `t`. -/
def grad (x0 : A0) (x1 : A1) (x2 : A2) (x3 : A3) (a : Fin 8) (t : Fin 2048) : EReal :=
  Scan.tail (fun t => x3 (ix2 t a)) t * Gate.slope ((∑ k : Fin 1024, x0 (ix2 t k) * x1 (ix2 k a)) + x2 (ix1 a))

/-- … with eight rows of zeros below. -/
def padded (f : Fin 8 → EReal) (a : Fin 16) : EReal := if h : a.val < 8 then f ⟨a.val, h⟩ else 0

section Reference
open Cert.ForgetRefIdeal Cert.ForgetRefIdeal.Gen Cert.ForgetRefIdeal.Read

theorem zero_bits : FloatOps.ofBits (F := Ideal) .f32 0x00000000#32 = (0 : EReal) := Cert.ForgetKernel.zero_bits
theorem zero_int : FloatOps.sitofp (F := Ideal) .f32 (0#32 : BitVec 32) = (0 : EReal) := (Ideal.scalar_sitofp_def (φ := .f32) (0#32 : BitVec 32)).trans (by simp)
theorem inf_bits : FloatOps.ofBits (F := Ideal) .f32 0x7F800000#32 = (⊤ : EReal) := by
  simp [FloatOps.ofBits, Ideal.ofBits, Ideal.ieee]

theorem slope_ref (x0 : A0) (x1 : A1) (x2 : A2) (t : Fin 2048) (a : Fin 8) :
    val_main_v4_1 (F := Ideal) x0 x1 x2 (ix2 t a) = Gate.slope ((∑ k : Fin 1024, x0 (ix2 t k) * x1 (ix2 k a)) + x2 (ix1 a)) := by
  have hz : val_main_v3 (F := Ideal) x0 x1 x2 (ix2 t a) = (∑ k : Fin 1024, x0 (ix2 t k) * x1 (ix2 k a)) + x2 (ix1 a) := by
    rw [val_main_v3_apply, val_main_v0_apply, val_main_v2_apply, val_main_v1_apply]
    refine congrArg₂ (· + ·) (Finset.sum_congr rfl fun k _ => congrArg₂ (· * ·) (congrArg x0 ?_) (congrArg x1 ?_)) (congrArg x2 ?_)
    all_goals exact funext fun b => by fin_cases b <;> rfl
  generalize (∑ k : Fin 1024, x0 (ix2 t k) * x1 (ix2 k a)) + x2 (ix1 a) = z at hz
  have hs : val_main_call0_v1_0 (F := Ideal) x0 x1 x2 (ix2 t a) = Gate.softplus (-z) := by
    simp only [val_main_call0_v1_0_apply, val_main_call0_call0_v4_apply, val_main_call0_call0_v11_apply, val_main_call0_call0_v10_apply,
      val_main_call0_call0_v9_apply, val_main_call0_call0_v8_apply, val_main_call0_call0_v7_apply, val_main_call0_call0_v6_apply,
      val_main_call0_call0_v5_apply, val_main_call0_call0_v3_apply, val_main_call0_call0_v2_apply, val_main_call0_call0_v1_apply,
      val_main_call0_call0_v0_apply, val_main_call0_call0_cst_apply, val_main_call0_v0_apply, hz, zero_bits]
    simp [Gate.softplus, Scalar.select, Ideal.cmpf_def, Ideal.cmp, Ideal.absf_def]
  rw [← Gate.saved_eq]
  simp only [val_main_v4_1_apply, val_main_call0_call0_v21_apply, val_main_call0_call0_v20_apply, val_main_call0_call0_v19_apply,
    val_main_call0_call0_v18_apply, val_main_call0_call0_v17_apply, val_main_call0_call0_v16_apply, val_main_call0_call0_v15_apply,
    val_main_call0_call0_v14_apply, val_main_call0_call0_v13_apply, val_main_call0_call0_cst_0_apply, val_main_call0_call0_cst_1_apply,
    val_main_call0_call0_cst_2_apply, val_main_call0_call0_cst_3_apply, hs, val_main_call0_v0_apply, hz, zero_bits, inf_bits]
  by_cases h1 : z = ⊥
  · by_cases h2 : Gate.softplus ⊤ = ⊤ <;> simp [Scalar.select, Ideal.cmpf_def, Ideal.cmp, h1, h2]
  · by_cases h2 : Gate.softplus (-z) = ⊤ <;> simp [Scalar.select, Ideal.cmpf_def, Ideal.cmp, h1, h2]

theorem grad_ref (x0 : A0) (x1 : A1) (x2 : A2) (x3 : A3) (t : Fin 2048) (a : Fin 8) :
    val_main_v7 (F := Ideal) x0 x1 x2 x3 (ix2 t a) = grad x0 x1 x2 x3 a t := by
  have h6 : val_main_v6 (F := Ideal) x3 (ix2 t a) = Scan.tail (fun t => x3 (ix2 t a)) t := by
    unfold val_main_v6
    have h0 : val_main_call2_call0_v0 (F := Ideal) (Shape.Idx.first h_S_) = (0 : EReal) := by
      rw [val_main_call2_call0_v0_apply, val_main_call2_call0_cst_apply, zero_bits]
    simp only [Host.reduceWindowAdd, h0, Ideal.hostReduceWindowAdd_def]
    exact Scan.reduceWindow_apply x3 reduceWindows_S2048x8_S2048x8_w2048s1p0_2047_w1s1p0_0 t a
  simp only [val_main_v7_apply, val_main_call3_v1_apply, val_main_call3_v0_apply, h6, slope_ref]
  simp [grad]

theorem pad_apply' (n : ℕ) (x : Vec Ideal ⟨2, ![8, n]⟩ .f32) (v : Vec Ideal ⟨0, ![]⟩ .f32) (hv : ∀ i, v i = (0 : EReal))
    (h : (⟨2, ![8, n]⟩ : Shape).Pads ![0, 0] ![8, 0] ![0, 0] ⟨2, ![16, n]⟩) (h0 : 0 < (⟨0, ![]⟩ : Shape).numel) (a : Fin 16) (b : Fin n) :
    pad ⟨2, ![16, n]⟩ ![0, 0] ![8, 0] ![0, 0] x v h h0 (ix2 a b) = padded (fun a => x (ix2 a b)) a := by
  rw [pad_apply, hv]
  unfold padded
  by_cases ha : a.val < 8
  · rw [dif_pos ha, dif_pos]
    · refine congrArg x (funext fun c => Fin.ext ?_)
      match c with
      | ⟨0, _⟩ => show (a.val - 0) / (0 + 1) = a.val; omega
      | ⟨1, _⟩ => show (b.val - 0) / (0 + 1) = b.val; omega
    · intro c
      match c with
      | ⟨0, _⟩ => exact ⟨Nat.zero_le _, Nat.mod_one _, by show (a.val - 0) / (0 + 1) < 8; omega⟩
      | ⟨1, _⟩ => exact ⟨Nat.zero_le _, Nat.mod_one _, by have := b.isLt; show (b.val - 0) / (0 + 1) < n; simpa using this⟩
  · rw [dif_neg ha, dif_neg]
    intro hin
    have h := (hin 0).2.2
    have : (a.val - 0) / (0 + 1) < 8 := h
    omega

theorem out0_ref (x0 : A0) (x1 : A1) (x2 : A2) (x3 : A3) (a : Fin 16) (t : Fin 2048) :
    val_main_v15 (F := Ideal) x0 x1 x2 x3 (ix2 a t) = padded (fun a => grad x0 x1 x2 x3 a t) a := by
  unfold val_main_v15
  refine (pad_apply' 2048 _ _ (fun i => ?_) _ _ a t).trans (congrArg (padded · a) (funext fun b => ?_))
  · rw [val_main_call4_v0_apply, val_main_c_apply]; exact zero_int
  · rw [val_main_v14_apply, ← grad_ref]
    exact congrArg _ (funext fun c => by fin_cases c <;> rfl)

theorem out1_ref (x0 : A0) (x1 : A1) (x2 : A2) (x3 : A3) (a : Fin 16) (b : Fin 1) :
    val_main_v17 (F := Ideal) x0 x1 x2 x3 (ix2 a b) = padded (fun a => ∑ t : Fin 2048, grad x0 x1 x2 x3 a t) a := by
  unfold val_main_v17
  refine (pad_apply' 1 _ _ (fun i => ?_) _ _ a b).trans (congrArg (padded · a) (funext fun h => ?_))
  · rw [val_main_call5_v0_apply, val_main_c_1_apply]; exact zero_int
  · rw [val_main_v16_apply, val_main_v10_apply, val_main_cst_0_apply, zero_bits, zero_add, Fin.sum_univ_one, val_main_v9_apply,
      val_main_v8_apply, val_main_cst_apply, zero_bits, zero_add]
    refine Finset.sum_congr rfl fun t _ => ?_
    rw [← grad_ref]
    refine congrArg _ (funext fun c => Fin.ext ?_)
    have hb : b.val = 0 := by omega
    fin_cases c
    · rfl
    · show 0 * 8 + (h.val * 1 + b.val) = h.val
      omega

theorem out2_ref (x0 : A0) (x1 : A1) (x2 : A2) (x3 : A3) (a : Fin 16) (b : Fin 1024) :
    val_main_v19 (F := Ideal) x0 x1 x2 x3 (ix2 a b) = padded (fun a => ∑ t : Fin 2048, grad x0 x1 x2 x3 a t * x0 (ix2 t b)) a := by
  unfold val_main_v19
  refine (pad_apply' 1024 _ _ (fun i => ?_) _ _ a b).trans (congrArg (padded · a) (funext fun h => ?_))
  · rw [val_main_call6_v0_apply, val_main_c_2_apply]; exact zero_int
  · rw [val_main_v18_apply, val_main_v13_apply, val_main_v12_apply]
    refine Finset.sum_congr rfl fun t _ => ?_
    rw [← grad_ref]
    refine congrArg₂ (· * ·) (congrArg _ (funext fun c => ?_)) (congrArg x0 (funext fun c => ?_)) <;> fin_cases c <;> rfl

end Reference

section Kernel
open Cert.ForgetIdeal Cert.ForgetIdeal.Gen

variable (m : (ℓ : Loc nD τ sig) → Buf (Elt Ideal) ℓ) (c : Dev nD)

/-- The activations, the gate's weight and bias, and the cotangent of the running sums. -/
abbrev arg0 : A0 := m ((c : Thread nD τ).loc main_arg0)
abbrev arg1 : A1 := m ((c : Thread nD τ).loc main_arg1)
abbrev arg2 : A2 := m ((c : Thread nD τ).loc main_arg2)
abbrev arg3 : A3 := m ((c : Thread nD τ).loc main_arg3)

theorem V_dc (a : Fin 16) (t : Fin 2048) : (V m c main_v6 : Vec Ideal S16x2048 .f32) (ix2 a t) = padded (fun a => arg3 m c (ix2 t a)) a := by
  have e : (V m c main_v6 : Vec Ideal S16x2048 .f32) = pad S16x2048 ![0, 0] ![8, 0] ![0, 0]
      (transpose S8x2048 [1, 0] (arg3 m c) transposes_S2048x8_S8x2048_1_0) (sitofp (F := Ideal) .f32 (constantI S_ 32 0#32))
      pads_S8x2048_S16x2048_080_000 h_S_ := by
    simp only [V, hostOps0, hostOps0_1, hostOps0_2, hostOps0_3, hostOps0_4, hostOps0_5, hostOps0_6, List.flatten_cons, List.flatten_nil, List.append_nil,
      List.cons_append, List.nil_append, StableHlo.TRef.unary, StableHlo.TRef.binary, StableHlo.TRef.toBuf, StableHlo.TRef.ofBuf, cast_eq]
    after_results_simp <;> rfl
  rw [e]
  exact (pad_apply' 2048 _ _ (fun i => zero_int) _ _ a t).trans (congrArg (padded · a) (funext fun b => by pointwise))

theorem V_ff (a : Fin 16) (t : Fin 2048) : (V m c main_v2 : Vec Ideal S16x2048 .f32) (ix2 a t)
    = padded (fun a => ∑ k : Fin 1024, arg0 m c (ix2 t k) * arg1 m c (ix2 k a)) a := by
  have e : (V m c main_v2 : Vec Ideal S16x2048 .f32) = pad S16x2048 ![0, 0] ![8, 0] ![0, 0]
      (transpose S8x2048 [1, 0] (Host.dotGeneral (F := Ideal) (φ₁ := .f32) (φ₂ := .f32) dot_S2048x1024_S1024x8_S2048x8_1_0_0_1_n_n none (arg0 m c) (arg1 m c)) transposes_S2048x8_S8x2048_1_0)
      (sitofp (F := Ideal) .f32 (constantI S_ 32 0#32)) pads_S8x2048_S16x2048_080_000 h_S_ := by
    simp only [V, hostOps0, hostOps0_1, hostOps0_2, hostOps0_3, hostOps0_4, hostOps0_5, hostOps0_6, List.flatten_cons, List.flatten_nil, List.append_nil,
      List.cons_append, List.nil_append, StableHlo.TRef.unary, StableHlo.TRef.binary, StableHlo.TRef.toBuf, StableHlo.TRef.ofBuf, cast_eq]
    after_results_simp <;> rfl
  rw [e]
  exact (pad_apply' 2048 _ _ (fun i => zero_int) _ _ a t).trans (congrArg (padded · a) (funext fun b => by pointwise))

theorem V_b (a : Fin 16) (b : Fin 1) : (V m c main_v4 : Vec Ideal S16x1 .f32) (ix2 a b) = padded (fun a => arg2 m c (ix1 a)) a := by
  have e : (V m c main_v4 : Vec Ideal S16x1 .f32) = pad S16x1 ![0, 0] ![8, 0] ![0, 0]
      (shapeCast S8x1 (arg2 m c) shapeCasts_S8_S8x1) (sitofp (F := Ideal) .f32 (constantI S_ 32 0#32)) pads_S8x1_S16x1_080_000 h_S_ := by
    simp only [V, hostOps0, hostOps0_1, hostOps0_2, hostOps0_3, hostOps0_4, hostOps0_5, hostOps0_6, List.flatten_cons, List.flatten_nil, List.append_nil,
      List.cons_append, List.nil_append, StableHlo.TRef.unary, StableHlo.TRef.binary, StableHlo.TRef.toBuf, StableHlo.TRef.ofBuf, cast_eq]
    after_results_simp <;> rfl
  rw [e]
  exact (pad_apply' 1 _ _ (fun i => zero_int) _ _ a b).trans (congrArg (padded · a) (funext fun b => by pointwise))

theorem V_a : (V m c main_v7 : Vec Ideal S2048x1024 .bf16) = arg0 m c := by
    simp only [V, hostOps0, hostOps0_1, hostOps0_2, hostOps0_3, hostOps0_4, hostOps0_5, hostOps0_6, List.flatten_cons, List.flatten_nil, List.append_nil,
      List.cons_append, List.nil_append, StableHlo.TRef.unary, StableHlo.TRef.binary, StableHlo.TRef.toBuf, StableHlo.TRef.ofBuf, cast_eq]
    after_results_simp <;> rfl

/-- Each input block is its whole array. -/
theorem iblk_dc (t : Fin cfg0.N) : (iblk m c 0 t : Vec Ideal S16x2048 .f32) = V m c main_v6 := by
  have e : ∀ t : Fin cfg0.N, win0_0.index t = ![0, 0] := (by decide +kernel : ∀ t : Fin grid0.N, _)
  funext y; blk_simp [iblk]; refine congrArg _ ?_; blk_ext [e]

theorem iblk_ff (t : Fin cfg0.N) : (iblk m c 1 t : Vec Ideal S16x2048 .f32) = V m c main_v2 := by
  have e : ∀ t : Fin cfg0.N, win0_1.index t = ![0, 0] := (by decide +kernel : ∀ t : Fin grid0.N, _)
  funext y; blk_simp [iblk]; refine congrArg _ ?_; blk_ext [e]

theorem iblk_b (t : Fin cfg0.N) : (iblk m c 2 t : Vec Ideal S16x1 .f32) = V m c main_v4 := by
  have e : ∀ t : Fin cfg0.N, win0_2.index t = ![0, 0] := (by decide +kernel : ∀ t : Fin grid0.N, _)
  funext y; blk_simp [iblk]; refine congrArg _ ?_; blk_ext [e]

theorem iblk_a (t : Fin cfg0.N) : (iblk m c 3 t : Vec Ideal S2048x1024 .bf16) = V m c main_v7 := by
  have e : ∀ t : Fin cfg0.N, win0_3.index t = ![0, 0] := (by decide +kernel : ∀ t : Fin grid0.N, _)
  funext y; blk_simp [iblk]; refine congrArg _ ?_; blk_ext [e]

theorem tail_zero (t : Fin 2048) : Scan.tail (fun _ => 0) t = 0 := by
  unfold Scan.tail Scan.win
  exact Finset.sum_eq_zero fun j _ => by unfold Scan.ext; split_ifs <;> rfl

theorem dff_eq (t : Fin cfg0.N) (a : Fin 16) (s : Fin 2048) :
    ForgetKernel.dff (iblk m c 0 t) (iblk m c 1 t) (iblk m c 2 t) a s
      = padded (fun a => grad (arg0 m c) (arg1 m c) (arg2 m c) (arg3 m c) a s) a := by
  unfold ForgetKernel.dff
  rw [iblk_dc, iblk_ff, iblk_b, V_ff, V_b]
  have e : (fun s => (V m c main_v6 : Vec Ideal S16x2048 .f32) (ix2 a s)) = fun s => _ := funext fun s => V_dc m c a s
  rw [e]
  unfold padded grad
  by_cases h : a.val < 8
  · simp only [dif_pos h]
  · simp only [dif_neg h, tail_zero, zero_mul]

theorem sum_padded (f : Fin 8 → Fin 2048 → EReal) (g : Fin 2048 → EReal) (a : Fin 16) :
    ∑ t : Fin 2048, padded (fun a => f a t) a * g t = padded (fun a => ∑ t : Fin 2048, f a t * g t) a := by
  unfold padded
  by_cases h : a.val < 8
  · simp only [dif_pos h]
  · simp only [dif_neg h, zero_mul, Finset.sum_const_zero]

/-- The three result arrays. -/
def res0 (x0 : A0) (x1 : A1) (x2 : A2) (x3 : A3) : Vec Ideal ⟨2, ![16, 2048]⟩ .f32 := fun i => padded (fun a => grad x0 x1 x2 x3 a (i 1)) (i 0)
def res1 (x0 : A0) (x1 : A1) (x2 : A2) (x3 : A3) : Vec Ideal ⟨2, ![16, 1]⟩ .f32 := fun i => padded (fun a => ∑ t : Fin 2048, grad x0 x1 x2 x3 a t) (i 0)
def res2 (x0 : A0) (x1 : A1) (x2 : A2) (x3 : A3) : Vec Ideal ⟨2, ![16, 1024]⟩ .f32 :=
  fun i => padded (fun a => ∑ t : Fin 2048, grad x0 x1 x2 x3 a t * x0 (ix2 t (i 1))) (i 0)

theorem final0 (t₀ : Fin cfg0.N) (hw : (cfg0.win 4).WholeAt t₀) : (dats m 0 c).arrAt 4 cfg0.N = res0 (arg0 m c) (arg1 m c) (arg2 m c) (arg3 m c) := by
  refine (dats m 0 c).arrAt_eq_of_after_last 4 t₀ hw _ fun j => ?_
  blk_simp
  rw [after0_4]
  obtain ⟨a, b, rfl⟩ : ∃ a b, j = ix2 a b := ⟨j 0, j 1, eq_ix2 j⟩
  refine (ForgetKernel.out4_apply _ _ _ _ a b).trans ?_
  rw [dff_eq]
  rfl

theorem final1 (t₀ : Fin cfg0.N) (hw : (cfg0.win 5).WholeAt t₀) : (dats m 0 c).arrAt 5 cfg0.N = res1 (arg0 m c) (arg1 m c) (arg2 m c) (arg3 m c) := by
  refine (dats m 0 c).arrAt_eq_of_after_last 5 t₀ hw _ fun j => ?_
  blk_simp
  rw [after0_5]
  obtain ⟨a, b, rfl⟩ : ∃ a b, j = ix2 a b := ⟨j 0, j 1, eq_ix2 j⟩
  refine (ForgetKernel.out5_apply _ _ _ _ a b).trans ?_
  simp only [dff_eq]
  have h := sum_padded (fun a t => grad (arg0 m c) (arg1 m c) (arg2 m c) (arg3 m c) a t) (fun _ => 1) a
  simp only [mul_one] at h
  exact h

theorem final2 (t₀ : Fin cfg0.N) (hw : (cfg0.win 6).WholeAt t₀) : (dats m 0 c).arrAt 6 cfg0.N = res2 (arg0 m c) (arg1 m c) (arg2 m c) (arg3 m c) := by
  refine (dats m 0 c).arrAt_eq_of_after_last 6 t₀ hw _ fun j => ?_
  blk_simp
  rw [after0_6]
  obtain ⟨a, b, rfl⟩ : ∃ a b, j = ix2 a b := ⟨j 0, j 1, eq_ix2 j⟩
  refine (ForgetKernel.out6_apply _ _ _ _ a b).trans ?_
  simp only [dff_eq]
  rw [iblk_a, V_a]
  exact sum_padded (fun a t => grad (arg0 m c) (arg1 m c) (arg2 m c) (arg3 m c) a t) (fun t => arg0 m c (ix2 t b)) a

end Kernel

open Cert in
/-- Kernel and reference compute the same three arrays. -/
theorem algebraic : Cert.algebraic_ForgetIdeal_ForgetRefIdeal := by
  intro m g m' g' _ hargs
  refine ⟨fun c => res0 (arg0 m c) (arg1 m c) (arg2 m c) (arg3 m c), fun c => res1 (arg0 m c) (arg1 m c) (arg2 m c) (arg3 m c),
    fun c => res2 (arg0 m c) (arg1 m c) (arg2 m c) (arg3 m c), ?_, ?_⟩
  · refine (θ_run _ _ _).mono (fun r h c => ?_) (Cert.ForgetIdeal.Value.run_blocks m g)
    obtain ⟨h0, h1, h2, hr⟩ := h c
    exact ⟨h0.trans (final0 m c ⟨0, by decide +kernel⟩ (by decide +kernel)), h1.trans (final1 m c ⟨0, by decide +kernel⟩ (by decide +kernel)), h2.trans (final2 m c ⟨0, by decide +kernel⟩ (by decide +kernel)), hr⟩
  · refine (θ_run _ _ _).mono (fun r h c => ?_) (Cert.ForgetRefIdeal.Value.run m' g')
    obtain ⟨h0, h1, h2, hr⟩ := h c
    obtain ⟨e0, e1, e2, e3⟩ := hargs c
    refine ⟨h0.trans ?_, h1.trans ?_, h2.trans ?_, hr⟩
    · rw [Cert.ForgetRefIdeal.Read.val_main_v15_eq, e0, e1, e2, e3]
      funext j
      rw [eq_ix2 j]
      exact out0_ref _ _ _ _ _ _
    · rw [Cert.ForgetRefIdeal.Read.val_main_v17_eq, e0, e1, e2, e3]
      funext j
      rw [eq_ix2 j]
      exact out1_ref _ _ _ _ _ _
    · rw [Cert.ForgetRefIdeal.Read.val_main_v19_eq, e0, e1, e2, e3]
      funext j
      rw [eq_ix2 j]
      exact out2_ref _ _ _ _ _ _

end Cert.ForgetRun

end
-- ==== Proof.FoxProg.lean ====
module

public import proofs.«01_k».proof.Proof.Gen.FoxIdeal.Frame
public import proofs.«01_k».proof.Proof.Gen.FoxIdeal.Loops
public import Idealize.ShloMosaic.Lib.VecWindow

/-! # The attention's backward body, written by its structure

The printed body is one long list of operations. It is the same few lines over and over: a *pair* of heads reads
a band of 256 query rows, and adds what these rows give to the carried gradients of the block's keys. Here the
body is written as such pairs, and `body_eq` says that it is the printed one. -/

@[expose] public section

set_option maxRecDepth 16384

noncomputable section

namespace Cert.FoxIdeal.Hand

open Cert.FoxIdeal.Gen
open Idealize.ShloMosaic Idealize.ShloMosaic.TcCoe Idealize.ShloMosaic.Tactic
open Idealize.SL Idealize.SL.Sem

variable {F : FTy → Type} [FloatOps F]

/-- Programs of the body. -/
abbrev FP (F : FTy → Type) (α : Type) := Prog (TpuEff nD τ sig (Elt F) Λ₀ .tc) α

/-- The body's staging buffers, each a whole one. -/
structure Refs where
  a1 : Memref sig .tc .vmem S2048x512 .bf16
  h1 : a1.IsWhole
  a2 : Memref sig .tc .vmem S512x512 .bf16
  h2 : a2.IsWhole
  a3 : Memref sig .tc .vmem S512x512 .bf16
  h3 : a3.IsWhole
  a4 : Memref sig .tc .vmem S2048x512 .bf16
  h4 : a4.IsWhole
  a5 : Memref sig .tc .vmem S8x8x256 .f32
  h5 : a5.IsWhole
  a6 : Memref sig .tc .vmem S8x8x256 .f32
  h6 : a6.IsWhole
  a7 : Memref sig .tc .vmem S512x8 .f32
  h7 : a7.IsWhole
  a8 : Memref sig .tc .vmem S2048x512 .f32
  h8 : a8.IsWhole
  a9 : Memref sig .tc .vmem S512x512 .bf16
  h9 : a9.IsWhole
  a10 : Memref sig .tc .vmem S512x512 .bf16
  h10 : a10.IsWhole
  a11 : Memref sig .tc .vmem S512x8 .f32
  h11 : a11.IsWhole
  a12 : Memref sig .tc .vmem S8x8x256 .f32
  h12 : a12.IsWhole

/-! ## What a band of query rows gives -/

/-- The key side of one head: its keys and values (the other head's lanes are zero) and the keys' cumulative
    gate. -/
structure Head (F : FTy → Type) where
  k : FVec F S512x128 .bf16
  v : FVec F S512x128 .bf16
  c : Vec F S512x1 .f32

/-- The carried gradients of one head: of the keys, of the values, of the keys' cumulative gate. -/
abbrev Carry (F : FTy → Type) := FVec F S512x128 .f32 × FVec F S512x128 .f32 × FVec F S512x1 .f32

/-- What one band gives for one head: the new carry, the sums of `ds` over the keys, and the part of `dq`. -/
structure Out (F : FTy → Type) where
  carry : Carry F
  rs : FVec F S256 .f32
  part : FVec F S256x128 .f32

/-- What a head does with a band's rows: `q`, `do`, the saved row logarithms and the rows' sums of `do · o`. -/
abbrev HeadFn (F : FTy → Type) :=
  FVec F S256x128 .bf16 → FVec F S256x128 .bf16 → Vec F S1x1x256 .f32 → Vec F S1x1x256 .f32 → Out F

/-- A head's step over all 512 keys of the block; `mask` is applied to the probabilities. -/
def full (mask : FVec F S512x256 .f32 → FVec F S512x256 .f32) (H : Head F) (C : Carry F) : HeadFn F :=
  fun q d l r =>
    let p : FVec F S512x256 .f32 := mask (exp (subf (subf
      (matmul dot_S512x128_S256x128_S512x256_1_1_0_0_n_n none H.k q (constant S512x256 .f32 0x00000000#32))
      (broadcastTo S512x256 H.c broadcasts_S512x1_S512x256))
      (broadcastTo S512x256 (shapeCast S1x256 l shapeCasts_S1x1x256_S1x256) broadcasts_S1x256_S512x256)))
    let ds : FVec F S512x256 .f32 := mulf p (subf
      (matmul dot_S512x128_S256x128_S512x256_1_1_0_0_n_n none H.v d (constant S512x256 .f32 0x00000000#32))
      (broadcastTo S512x256 (shapeCast S1x256 r shapeCasts_S1x1x256_S1x256) broadcasts_S1x256_S512x256))
    let dsb : FVec F S512x256 .bf16 := truncf .bf16 ds bitsLt_bf16_f32
    { carry :=
        (addf C.1 (matmul dot_S512x256_S256x128_S512x128_1_0_0_1_n_n none dsb q (constant S512x128 .f32 0x00000000#32)),
         addf C.2.1 (matmul dot_S512x256_S256x128_S512x128_1_0_0_1_n_n none (truncf .bf16 p bitsLt_bf16_f32) d
           (constant S512x128 .f32 0x00000000#32)),
         subf C.2.2 (shapeCast S512x1
           (multiReduction .add [1] S512 ds 0x00000000#32 reduces_S512x256_S512 (.inl rfl) rfl) shapeCasts_S512_S512x1))
      rs := multiReduction .add [0] S256 ds 0x00000000#32 reduces_S512x256_S256 (.inl rfl) rfl
      part := matmul dot_S512x256_S512x128_S256x128_0_0_1_1_n_n none dsb H.k (constant S256x128 .f32 0x00000000#32) }

/-- A head's step over the first 256 keys of the block alone: the other 256 come after every row of the band. -/
def half (mask : FVec F S256x256 .f32 → FVec F S256x256 .f32) (H : Head F) (C : Carry F) : HeadFn F :=
  fun q d l r =>
    let k : FVec F S256x128 .bf16 := extractStridedSlice S256x128 ![0, 0] H.k slices_S512x128_o0_0_S256x128
    let p : FVec F S256x256 .f32 := mask (exp (subf (subf
      (matmul dot_S256x128_S256x128_S256x256_1_1_0_0_n_n none k q (constant S256x256 .f32 0x00000000#32))
      (broadcastTo S256x256 (extractStridedSlice S256x1 ![0, 0] H.c slices_S512x1_o0_0_S256x1) broadcasts_S256x1_S256x256))
      (broadcastTo S256x256 (shapeCast S1x256 l shapeCasts_S1x1x256_S1x256) broadcasts_S1x256_S256x256)))
    let ds : FVec F S256x256 .f32 := mulf p (subf
      (matmul dot_S256x128_S256x128_S256x256_1_1_0_0_n_n none
        (extractStridedSlice S256x128 ![0, 0] H.v slices_S512x128_o0_0_S256x128) d (constant S256x256 .f32 0x00000000#32))
      (broadcastTo S256x256 (shapeCast S1x256 r shapeCasts_S1x1x256_S1x256) broadcasts_S1x256_S256x256))
    let dsb : FVec F S256x256 .bf16 := truncf .bf16 ds bitsLt_bf16_f32
    { carry :=
        (concatenate S512x128 0
          [⟨S256x128, addf (extractStridedSlice S256x128 ![0, 0] C.1 slices_S512x128_o0_0_S256x128)
              (matmul dot_S256x256_S256x128_S256x128_1_0_0_1_n_n none dsb q (constant S256x128 .f32 0x00000000#32))⟩,
           ⟨S256x128, extractStridedSlice S256x128 ![256, 0] C.1 slices_S512x128_o256_0_S256x128⟩]
          concatenates_S256x128_S256x128_S512x128_d0,
         concatenate S512x128 0
          [⟨S256x128, addf (extractStridedSlice S256x128 ![0, 0] C.2.1 slices_S512x128_o0_0_S256x128)
              (matmul dot_S256x256_S256x128_S256x128_1_0_0_1_n_n none (truncf .bf16 p bitsLt_bf16_f32) d
                (constant S256x128 .f32 0x00000000#32))⟩,
           ⟨S256x128, extractStridedSlice S256x128 ![256, 0] C.2.1 slices_S512x128_o256_0_S256x128⟩]
          concatenates_S256x128_S256x128_S512x128_d0,
         concatenate S512x1 0
          [⟨S256x1, subf (extractStridedSlice S256x1 ![0, 0] C.2.2 slices_S512x1_o0_0_S256x1)
              (shapeCast S256x1 (multiReduction .add [1] S256 ds 0x00000000#32 reduces_S256x256_S256 (.inl rfl) rfl)
                shapeCasts_S256_S256x1)⟩,
           ⟨S256x1, extractStridedSlice S256x1 ![256, 0] C.2.2 slices_S512x1_o256_0_S256x1⟩]
          concatenates_S256x1_S256x1_S512x1_d0)
      rs := multiReduction .add [0] S256 ds 0x00000000#32 reduces_S256x256_S256_2 (.inl rfl) rfl
      part := matmul dot_S256x256_S256x128_S256x128_0_0_1_1_n_n none dsb k (constant S256x128 .f32 0x00000000#32) }

/-- The mask of the block's second band: row `256 + b` of the block sees the keys up to it. -/
def mask1 (row col : IVec S512x256 32) (p : FVec F S512x256 .f32) : FVec F S512x256 .f32 :=
  select (cmpi .sge (addi col (broadcast S512x256 256#32)) row) p (broadcast S512x256 (Scalar.ofBits .f32 0x00000000#32))

/-- The mask of the block's first band, over its first 256 keys. -/
def mask0 (row col : IVec S512x256 32) (p : FVec F S256x256 .f32) : FVec F S256x256 .f32 :=
  select (cmpi .sge
    (addi (extractStridedSlice S256x256 ![0, 0] col
      slices_S512x256_o0_0_S256x256) (broadcast S256x256 0#32))
    (extractStridedSlice S256x256 ![0, 0] row slices_S512x256_o0_0_S256x256))
    p (broadcast S256x256 (Scalar.ofBits .f32 0x00000000#32))

/-! ## The program of a pair of heads -/

/-- The lane of a row's 256 sums, with what one more head's band adds. -/
def rowUpd (o : Out F) (a : Vec F S1x1x256 .f32) : FVec F S1x1x256 .f32 :=
  shapeCast S1x1x256 (addf (shapeCast S1x256 a shapeCasts_S1x1x256_S1x256) (shapeCast S1x256 o.rs shapeCasts_S256_S1x256))
    shapeCasts_S1x256_S1x1x256

/-- The rows of `dq` with what a pair of heads adds. -/
def dqUpd (o o' : Out F) (g : Vec F S256x128 .f32) : FVec F S256x128 .f32 :=
  addf (shapeCast S256x128 g shapeCasts_S256x128_S256x128) (addf o.part o'.part)

/-- One pair of heads over one band of query rows. -/
def pairProg (R : Refs) (oq : Fin 2 → Nat) (hq : ∀ a, oq a + S256x128.size a ≤ S2048x512.size a)
    (o0 : Fin 3 → Nat) (h0 : ∀ a, o0 a + S1x1x256.size a ≤ S8x8x256.size a)
    (o1 : Fin 3 → Nat) (h1 : ∀ a, o1 a + S1x1x256.size a ≤ S8x8x256.size a)
    (f0 f1 : HeadFn F) : FP F (Carry F × Carry F) := do
  let q : Vec F S256x128 .bf16 ← Prog.lift (.load R.a1 (Rect.unit (s := S2048x512) oq S256x128.size hq).toLoadRect (View.loadsAt_vmem h_S256x128))
  let d : Vec F S256x128 .bf16 ← Prog.lift (.load R.a4 (Rect.unit (s := S2048x512) oq S256x128.size hq).toLoadRect (View.loadsAt_vmem h_S256x128))
  let q' := shapeCast S256x128 q shapeCasts_S256x128_S256x128
  let d' := shapeCast S256x128 d shapeCasts_S256x128_S256x128
  let l0 : Vec F S1x1x256 .f32 ← Prog.lift (.load R.a5 (Rect.unit (s := S8x8x256) o0 S1x1x256.size h0).toLoadRect (View.loadsAt_vmem h_S1x1x256))
  let r0 : Vec F S1x1x256 .f32 ← Prog.lift (.load R.a6 (Rect.unit (s := S8x8x256) o0 S1x1x256.size h0).toLoadRect (View.loadsAt_vmem h_S1x1x256))
  let x0 : Vec F S1x1x256 .f32 ← Prog.lift (.load R.a12 (Rect.unit (s := S8x8x256) o0 S1x1x256.size h0).toLoadRect (View.loadsAt_vmem h_S1x1x256))
  let _x : Vec F S1x1x256 .f32 ← Prog.lift (.load R.a12 (Rect.unit (s := S8x8x256) o0 S1x1x256.size h0).toLoadRect (View.loadsAt_vmem h_S1x1x256))
  Prog.lift (.store R.a12 (Rect.unit (s := S8x8x256) o0 S1x1x256.size h0) (rowUpd (f0 q' d' l0 r0) x0) Finset.univ (View.stores_vmem_bits_univ h_S1x1x256 rfl) (.inl rfl))
  let l1 : Vec F S1x1x256 .f32 ← Prog.lift (.load R.a5 (Rect.unit (s := S8x8x256) o1 S1x1x256.size h1).toLoadRect (View.loadsAt_vmem h_S1x1x256))
  let r1 : Vec F S1x1x256 .f32 ← Prog.lift (.load R.a6 (Rect.unit (s := S8x8x256) o1 S1x1x256.size h1).toLoadRect (View.loadsAt_vmem h_S1x1x256))
  let x1 : Vec F S1x1x256 .f32 ← Prog.lift (.load R.a12 (Rect.unit (s := S8x8x256) o1 S1x1x256.size h1).toLoadRect (View.loadsAt_vmem h_S1x1x256))
  let _x : Vec F S1x1x256 .f32 ← Prog.lift (.load R.a12 (Rect.unit (s := S8x8x256) o1 S1x1x256.size h1).toLoadRect (View.loadsAt_vmem h_S1x1x256))
  Prog.lift (.store R.a12 (Rect.unit (s := S8x8x256) o1 S1x1x256.size h1) (rowUpd (f1 q' d' l1 r1) x1) Finset.univ (View.stores_vmem_bits_univ h_S1x1x256 rfl) (.inl rfl))
  let g : Vec F S256x128 .f32 ← Prog.lift (.load R.a8 (Rect.unit (s := S2048x512) oq S256x128.size hq).toLoadRect (View.loadsAt_vmem h_S256x128))
  let _g : Vec F S256x128 .f32 ← Prog.lift (.load R.a8 (Rect.unit (s := S2048x512) oq S256x128.size hq).toLoadRect (View.loadsAt_vmem h_S256x128))
  Prog.lift (.store R.a8 (Rect.unit (s := S2048x512) oq S256x128.size hq) (dqUpd (f0 q' d' l0 r0) (f1 q' d' l1 r1) g) Finset.univ (View.stores_vmem_bits_univ h_S256x128 rfl) (.inl rfl))
  pure ((f0 q' d' l0 r0).carry, (f1 q' d' l1 r1).carry)

/-- The carried gradients of four heads, as the loops carry them. -/
abbrev T12 (F : FTy → Type) :=
  FVec F S512x128 .f32 × FVec F S512x128 .f32 × FVec F S512x1 .f32 × FVec F S512x128 .f32 × FVec F S512x128 .f32 × FVec F S512x1 .f32
  × FVec F S512x128 .f32 × FVec F S512x128 .f32 × FVec F S512x1 .f32 × FVec F S512x128 .f32 × FVec F S512x128 .f32 × FVec F S512x1 .f32

/-- The four heads' carries in a row. -/
def flat (c0 c1 c2 c3 : Carry F) : T12 F :=
  (c0.1, c0.2.1, c0.2.2, c1.1, c1.2.1, c1.2.2, c2.1, c2.2.1, c2.2.2, c3.1, c3.2.1, c3.2.2)

/-- The carry of each of the four heads. -/
def crry0 (t : T12 F) : Carry F := (t.1, t.2.1, t.2.2.1)
@[inherit_doc crry0] def crry1 (t : T12 F) : Carry F := (t.2.2.2.1, t.2.2.2.2.1, t.2.2.2.2.2.1)
@[inherit_doc crry0] def crry2 (t : T12 F) : Carry F := (t.2.2.2.2.2.2.1, t.2.2.2.2.2.2.2.1, t.2.2.2.2.2.2.2.2.1)
@[inherit_doc crry0] def crry3 (t : T12 F) : Carry F :=
  (t.2.2.2.2.2.2.2.2.2.1, t.2.2.2.2.2.2.2.2.2.2.1, t.2.2.2.2.2.2.2.2.2.2.2)

/-- The offsets of four heads' reads at one band: two pairs of lanes, four rows. -/
structure Offs where
  q0 : Fin 2 → Nat
  hq0 : ∀ a, q0 a + S256x128.size a ≤ S2048x512.size a
  r0 : Fin 3 → Nat
  hr0 : ∀ a, r0 a + S1x1x256.size a ≤ S8x8x256.size a
  r1 : Fin 3 → Nat
  hr1 : ∀ a, r1 a + S1x1x256.size a ≤ S8x8x256.size a
  q1 : Fin 2 → Nat
  hq1 : ∀ a, q1 a + S256x128.size a ≤ S2048x512.size a
  r2 : Fin 3 → Nat
  hr2 : ∀ a, r2 a + S1x1x256.size a ≤ S8x8x256.size a
  r3 : Fin 3 → Nat
  hr3 : ∀ a, r3 a + S1x1x256.size a ≤ S8x8x256.size a

/-- The key sides of four heads. -/
structure Heads (F : FTy → Type) where
  H0 : Head F
  H1 : Head F
  H2 : Head F
  H3 : Head F

/-- Four heads over one band; `st` is a head's step. -/
def groupProg (R : Refs) (o : Offs) (H : Heads F) (st : Head F → Carry F → HeadFn F) (t : T12 F) : FP F (T12 F) := do
  let a ← pairProg R o.q0 o.hq0 o.r0 o.hr0 o.r1 o.hr1 (st H.H0 (crry0 t)) (st H.H1 (crry1 t))
  let b ← pairProg R o.q1 o.hq1 o.r2 o.hr2 o.r3 o.hr3 (st H.H2 (crry2 t)) (st H.H3 (crry3 t))
  pure (flat a.1 a.2 b.1 b.2)

/-- The offsets of a trip of the first loop over later rows, heads 0 to 3. -/
def offs1 (i : grid0.Coords) (t : Fin (k0_t1_loop i).trips) : Offs :=
  ⟨k0_off7 i t, k0_off7_inb i t, k0_off8 i t, k0_off8_inb i t, k0_off9 i t, k0_off9_inb i t,
   k0_off10 i t, k0_off10_inb i t, k0_off11 i t, k0_off11_inb i t, k0_off12 i t, k0_off12_inb i t⟩

@[inherit_doc offs1] def offs2 (i : grid0.Coords) (t : Fin (k0_t2_loop i).trips) : Offs :=
  ⟨k0_off13 i t, k0_off13_inb i t, k0_off14 i t, k0_off14_inb i t, k0_off15 i t, k0_off15_inb i t,
   k0_off16 i t, k0_off16_inb i t, k0_off17 i t, k0_off17_inb i t, k0_off18 i t, k0_off18_inb i t⟩
/-- The offsets of a trip of the first loop over later rows, heads 4 to 7. -/
def offs3 (i : grid0.Coords) (t : Fin (k0_t3_loop i).trips) : Offs :=
  ⟨k0_off25 i t, k0_off25_inb i t, k0_off26 i t, k0_off26_inb i t, k0_off27 i t, k0_off27_inb i t,
   k0_off28 i t, k0_off28_inb i t, k0_off29 i t, k0_off29_inb i t, k0_off30 i t, k0_off30_inb i t⟩
@[inherit_doc offs3] def offs4 (i : grid0.Coords) (t : Fin (k0_t4_loop i).trips) : Offs :=
  ⟨k0_off31 i t, k0_off31_inb i t, k0_off32 i t, k0_off32_inb i t, k0_off33 i t, k0_off33_inb i t,
   k0_off34 i t, k0_off34_inb i t, k0_off35 i t, k0_off35_inb i t, k0_off36 i t, k0_off36_inb i t⟩
/-- The offsets of the block's own bands, heads 0 to 3. -/
def offsA (i : grid0.Coords) (b : Fin 2) : Offs :=
  ⟨k0_off1 i (BitVec.ofNat 32 b.val), k0_off1_inb i b, k0_off2 i (BitVec.ofNat 32 b.val), k0_off2_inb i b,
   k0_off3 i (BitVec.ofNat 32 b.val), k0_off3_inb i b, k0_off4 i (BitVec.ofNat 32 b.val), k0_off4_inb i b,
   k0_off5 i (BitVec.ofNat 32 b.val), k0_off5_inb i b, k0_off6 i (BitVec.ofNat 32 b.val), k0_off6_inb i b⟩
/-- The offsets of the block's own bands, heads 4 to 7. -/
def offsB (i : grid0.Coords) (b : Fin 2) : Offs :=
  ⟨k0_off19 i (BitVec.ofNat 32 b.val), k0_off19_inb i b, k0_off20 i (BitVec.ofNat 32 b.val), k0_off20_inb i b,
   k0_off21 i (BitVec.ofNat 32 b.val), k0_off21_inb i b, k0_off22 i (BitVec.ofNat 32 b.val), k0_off22_inb i b,
   k0_off23 i (BitVec.ofNat 32 b.val), k0_off23_inb i b, k0_off24 i (BitVec.ofNat 32 b.val), k0_off24_inb i b⟩

/-! ## The whole body -/

/-- A read that is dropped, and the store of `dk`'s lanes. -/
def st9 (R : Refs) (off : Fin 2 → Nat) (hin : ∀ a, off a + S512x128.size a ≤ S512x512.size a)
    (hp : (Rect.unit (s := S512x512) off S512x128.size hin).PackedRows (EltTy.packing .bf16))
    (w : FVec F S512x128 .bf16) : FP F PUnit := do
  let _v : Vec F S512x128 .bf16 ← Prog.lift (.load R.a9 (Rect.unit (s := S512x512) off S512x128.size hin).toLoadRect (View.loadsAt_vmem h_S512x128))
  Prog.lift (.store R.a9 (Rect.unit (s := S512x512) off S512x128.size hin) w Finset.univ (View.stores_vmem h_S512x128 (R.h9.storeExact_slice rfl _ hp) (fun _ => rfl)) (.inl rfl))

/-- The same of `dv`'s lanes. -/
def st10 (R : Refs) (off : Fin 2 → Nat) (hin : ∀ a, off a + S512x128.size a ≤ S512x512.size a)
    (hp : (Rect.unit (s := S512x512) off S512x128.size hin).PackedRows (EltTy.packing .bf16))
    (w : FVec F S512x128 .bf16) : FP F PUnit := do
  let _v : Vec F S512x128 .bf16 ← Prog.lift (.load R.a10 (Rect.unit (s := S512x512) off S512x128.size hin).toLoadRect (View.loadsAt_vmem h_S512x128))
  Prog.lift (.store R.a10 (Rect.unit (s := S512x512) off S512x128.size hin) w Finset.univ (View.stores_vmem h_S512x128 (R.h10.storeExact_slice rfl _ hp) (fun _ => rfl)) (.inl rfl))

/-- The same of one column of the gates' gradient. -/
def st11 (R : Refs) (off : Fin 2 → Nat) (hin : ∀ a, off a + S512x1.size a ≤ S512x8.size a)
    (w : FVec F S512x1 .f32) : FP F PUnit := do
  let _v : Vec F S512x1 .f32 ← Prog.lift (.load R.a11 (Rect.unit (s := S512x8) off S512x1.size hin).toLoadRect (View.loadsAt_vmem h_S512x1))
  Prog.lift (.store R.a11 (Rect.unit (s := S512x8) off S512x1.size hin) w Finset.univ (View.stores_vmem_bits_univ h_S512x1 rfl) (.inl rfl))

/-- The lanes of a pair's first head, the rest zero. -/
def lo (low : IVec S512x128 1) (v : Vec F S512x128 .bf16) : FVec F S512x128 .bf16 :=
  select low (shapeCast S512x128 v shapeCasts_S512x128_S512x128) (broadcast S512x128 (Scalar.ofBits .bf16 0x0000#16))

/-- The lanes of a pair's second head, the rest zero. -/
def hi (low : IVec S512x128 1) (v : Vec F S512x128 .bf16) : FVec F S512x128 .bf16 :=
  select low (broadcast S512x128 (Scalar.ofBits .bf16 0x0000#16)) (shapeCast S512x128 v shapeCasts_S512x128_S512x128)

/-- The lanes of the first head from one array, those of the second from the other. -/
def join (low : IVec S512x128 1) (a b : FVec F S512x128 .f32) : FVec F S512x128 .bf16 :=
  truncf .bf16 (select low a b) bitsLt_bf16_f32

/-- A carry of nothing. -/
def carry0 : Carry F :=
  (broadcast S512x128 (Scalar.ofBits .f32 0x00000000#32), broadcast S512x128 (Scalar.ofBits .f32 0x00000000#32),
   broadcast S512x1 (Scalar.ofBits .f32 0x00000000#32))

/-- The block's own two bands, four heads. -/
def bands (R : Refs) (row col : IVec S512x256 32) (oA oB : Offs) (H : Heads F) (t₀ : T12 F) : FP F (T12 F) := do
  let t ← groupProg R oA H (half (mask0 row col)) t₀
  groupProg R oB H (full (mask1 row col)) t

/-- The key sides of heads 4 to 7, from the staged arrays. -/
def loadHeads (R : Refs) (low : IVec S512x128 1) : FP F (Heads F) := do
  let k : Vec F S512x128 .bf16 ← Prog.lift (.load R.a2 (Rect.unit (s := S512x512) ![0, 256] S512x128.size inb_S512x512_S512x128_0_256).toLoadRect (View.loadsAt_vmem h_S512x128))
  let v : Vec F S512x128 .bf16 ← Prog.lift (.load R.a3 (Rect.unit (s := S512x512) ![0, 256] S512x128.size inb_S512x512_S512x128_0_256).toLoadRect (View.loadsAt_vmem h_S512x128))
  let c4 : Vec F S512x1 .f32 ← Prog.lift (.load R.a7 (Rect.unit (s := S512x8) ![0, 4] S512x1.size inb_S512x8_S512x1_0_4).toLoadRect (View.loadsAt_vmem h_S512x1))
  let c5 : Vec F S512x1 .f32 ← Prog.lift (.load R.a7 (Rect.unit (s := S512x8) ![0, 5] S512x1.size inb_S512x8_S512x1_0_5).toLoadRect (View.loadsAt_vmem h_S512x1))
  let k' : Vec F S512x128 .bf16 ← Prog.lift (.load R.a2 (Rect.unit (s := S512x512) ![0, 384] S512x128.size inb_S512x512_S512x128_0_384).toLoadRect (View.loadsAt_vmem h_S512x128))
  let v' : Vec F S512x128 .bf16 ← Prog.lift (.load R.a3 (Rect.unit (s := S512x512) ![0, 384] S512x128.size inb_S512x512_S512x128_0_384).toLoadRect (View.loadsAt_vmem h_S512x128))
  let c6 : Vec F S512x1 .f32 ← Prog.lift (.load R.a7 (Rect.unit (s := S512x8) ![0, 6] S512x1.size inb_S512x8_S512x1_0_6).toLoadRect (View.loadsAt_vmem h_S512x1))
  let c7 : Vec F S512x1 .f32 ← Prog.lift (.load R.a7 (Rect.unit (s := S512x8) ![0, 7] S512x1.size inb_S512x8_S512x1_0_7).toLoadRect (View.loadsAt_vmem h_S512x1))
  pure ⟨⟨lo low k, lo low v, c4⟩, ⟨hi low k, hi low v, c5⟩, ⟨lo low k', lo low v', c6⟩, ⟨hi low k', hi low v', c7⟩⟩

/-- Heads 0 to 3 up to the first store of their gradients. -/
def loopsA (R : Refs) (i : grid0.Coords) (low : IVec S512x128 1) (H : Heads F) (t : T12 F) :
    FP F (Σ' (_ : FVec F S512x1 .f32) (_ : FVec F S512x1 .f32) (_ : FVec F S512x128 .f32) (_ : FVec F S512x128 .f32)
      (_ : FVec F S512x1 .f32) (_ : FVec F S512x128 .f32) (_ : FVec F S512x128 .f32) (_ : FVec F S512x1 .f32),
      FVec F S512x128 .bf16) := do
  let u ← Scf.Loop.for (k0_t1_loop i) (k0_t1_ok i) t (fun n acc => groupProg R (offs1 i n) H (full id) acc)
  let w ← Scf.Loop.for (k0_t2_loop i) (k0_t2_ok i) u (fun n acc => groupProg R (offs2 i n) H (full id) acc)
  st9 R ![0, 0] inb_S512x512_S512x128_0_0 packedbf16_S512x512_S512x128_0_0 (join low (crry0 w).1 (crry1 w).1)
  pure ⟨(crry0 w).2.2, (crry1 w).2.2, (crry2 w).1, (crry2 w).2.1, (crry2 w).2.2, (crry3 w).1, (crry3 w).2.1, (crry3 w).2.2,
    join low (crry0 w).2.1 (crry1 w).2.1⟩

/-- What the body does once heads 0 to 3 are read, up to its last three stores. -/
def mid (R : Refs) (i : grid0.Coords) (arg0 : BitVec 32) (row col : IVec S512x256 32) (low : IVec S512x128 1)
    (H : Heads F) (t₀ : T12 F) :
    FP F (Σ' (_ : BitVec 32) (_ : FVec F S512x1 .f32) (_ : FVec F S512x1 .f32), FVec F S512x128 .bf16) := do
  let t ← bands R row col (offsA i 0) (offsA i 1) H t₀
  let r ← loopsA R i low H t
  st10 R ![0, 0] inb_S512x512_S512x128_0_0 packedbf16_S512x512_S512x128_0_0 r.2.2.2.2.2.2.2.2
  st11 R ![0, 0] inb_S512x8_S512x1_0_0 r.1
  st11 R ![0, 1] inb_S512x8_S512x1_0_1 r.2.1
  st9 R ![0, 128] inb_S512x512_S512x128_0_128 packedbf16_S512x512_S512x128_0_128 (join low r.2.2.1 r.2.2.2.2.2.1)
  st10 R ![0, 128] inb_S512x512_S512x128_0_128 packedbf16_S512x512_S512x128_0_128 (join low r.2.2.2.1 r.2.2.2.2.2.2.1)
  st11 R ![0, 2] inb_S512x8_S512x1_0_2 r.2.2.2.2.1
  st11 R ![0, 3] inb_S512x8_S512x1_0_3 r.2.2.2.2.2.2.2.1
  let H' ← loadHeads R low
  let t' ← bands R row col (offsB i 0) (offsB i 1) H' (flat carry0 carry0 carry0 carry0)
  let u ← Scf.Loop.for (k0_t3_loop i) (k0_t3_ok i) t' (fun n acc => groupProg R (offs3 i n) H' (full id) acc)
  let w ← Scf.Loop.for (k0_t4_loop i) (k0_t4_ok i) u (fun n acc => groupProg R (offs4 i n) H' (full id) acc)
  st9 R ![0, 256] inb_S512x512_S512x128_0_256 packedbf16_S512x512_S512x128_0_256 (join low (crry0 w).1 (crry1 w).1)
  st10 R ![0, 256] inb_S512x512_S512x128_0_256 packedbf16_S512x512_S512x128_0_256 (join low (crry0 w).2.1 (crry1 w).2.1)
  st11 R ![0, 4] inb_S512x8_S512x1_0_4 (crry0 w).2.2
  st11 R ![0, 5] inb_S512x8_S512x1_0_5 (crry1 w).2.2
  st9 R ![0, 384] inb_S512x512_S512x128_0_384 packedbf16_S512x512_S512x128_0_384 (join low (crry2 w).1 (crry3 w).1)
  pure ⟨arg0, (crry2 w).2.2, (crry3 w).2.2, join low (crry2 w).2.1 (crry3 w).2.1⟩

/-- The grid point is the last. -/
abbrev condLast (arg0 : BitVec 32) : Prop :=
  Scalar.cmpi .ne (Scalar.extui (Scalar.cmpi .eq arg0 3#32) : BitVec 32) 0#32 = 1#1

/-- The body's last three stores, and at the last point the factor of `dq`. -/
def fin (R : Refs) (r : Σ' (_ : BitVec 32) (_ : FVec F S512x1 .f32) (_ : FVec F S512x1 .f32), FVec F S512x128 .bf16) :
    FP F PUnit := do
  st10 R ![0, 384] inb_S512x512_S512x128_0_384 packedbf16_S512x512_S512x128_0_384 r.2.2.2
  st11 R ![0, 6] inb_S512x8_S512x1_0_6 r.2.1
  st11 R ![0, 7] inb_S512x8_S512x1_0_7 r.2.2.1
  if _h : condLast r.1 then do
    let g : Vec F S2048x512 .f32 ← Prog.lift (.load R.a8 (Rect.unit (s := S2048x512) ![0, 0] S2048x512.size inb_S2048x512_S2048x512_0_0).toLoadRect (View.loadsAt_vmem h_S2048x512))
    let _g : Vec F S2048x512 .f32 ← Prog.lift (.load R.a8 (Rect.unit (s := S2048x512) ![0, 0] S2048x512.size inb_S2048x512_S2048x512_0_0).toLoadRect (View.loadsAt_vmem h_S2048x512))
    Prog.lift (.store R.a8 (Rect.unit (s := S2048x512) ![0, 0] S2048x512.size inb_S2048x512_S2048x512_0_0) (k0_pay1 g) Finset.univ (View.stores_vmem_bits_univ h_S2048x512 rfl) (.inl rfl))
    pure ⟨⟩
  else do
    pure ⟨⟩
  pure ⟨⟩

/-- The first part of the body as printed: the zero fill at the first point, and the reads of heads 0 to 3. -/
abbrev part17 (R : Refs) (i : grid0.Coords) := k0_part17 (F := F) i R.a1 R.h1 R.a2 R.h2 R.a3 R.h3 R.a4 R.h4 R.a5 R.h5 R.a6 R.h6 R.a7 R.h7 R.a8 R.h8 R.a9 R.h9 R.a10 R.h10 R.a11 R.h11 R.a12 R.h12

/-- What the first part hands on. -/
abbrev First (F : FTy → Type) := Σ' (arg0 : BitVec 32) (v3 : IVec S512x256 32) (v4 : IVec S512x256 32) (v7 : IVec S512x128 1) (v13 : FVec F S512x128 .bf16) (v14 : FVec F S512x128 .bf16) (v15 : FVec F S512x128 .bf16) (v16 : FVec F S512x128 .bf16) (v17 : Vec F S512x1 .f32) (v18 : Vec F S512x1 .f32) (v24 : FVec F S512x128 .bf16) (v25 : FVec F S512x128 .bf16) (v26 : FVec F S512x128 .bf16) (v27 : FVec F S512x128 .bf16) (v28 : Vec F S512x1 .f32) (v29 : Vec F S512x1 .f32) (v30 : FVec F S512x128 .f32) (v31 : FVec F S512x128 .f32) (v32 : FVec F S512x1 .f32), F .f32

/-- The middle of the body, from the first part's values. -/
def rest (R : Refs) (i : grid0.Coords) : First F →
    FP F (Σ' (_ : BitVec 32) (_ : FVec F S512x1 .f32) (_ : FVec F S512x1 .f32), FVec F S512x128 .bf16)
  | ⟨arg0, v3, v4, v7, v13, v14, v15, v16, v17, v18, v24, v25, v26, v27, v28, v29, v30, v31, v32, z⟩ =>
    mid R i arg0 v3 v4 v7 ⟨⟨v13, v15, v17⟩, ⟨v14, v16, v18⟩, ⟨v24, v26, v28⟩, ⟨v25, v27, v29⟩⟩
      (flat (v30, v31, v32) (broadcast S512x128 z, carry0.2) carry0 carry0)

/-- The printed body is the structured one. -/
theorem body_eq (i : grid0.Coords) (R : Refs) :
    cc0_fox_bwd (F := F) i R.a1 R.h1 R.a2 R.h2 R.a3 R.h3 R.a4 R.h4 R.a5 R.h5 R.a6 R.h6 R.a7 R.h7 R.a8 R.h8 R.a9 R.h9 R.a10 R.h10 R.a11 R.h11 R.a12 R.h12
      = ((part17 R i >>= rest R i) >>= fin R) := by
  sl_kernel_rfl

end Cert.FoxIdeal.Hand
-- ==== Proof.FoxRuns.lean ====
module

public import proofs.«01_k».proof.Proof.FoxProg

/-! # Runs of the attention's backward body

A program that is free of choice takes the contents of the five written buffers to new contents and returns one
value. `Runs` says so of a piece of the body; pieces put together run one after the other. -/

@[expose] public section

noncomputable section

namespace Cert.FoxIdeal.Hand

open Cert.FoxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A load from a whole buffer returns the window of its contents. -/
theorem wp_ld (c : Dev nD) {s : Shape} {e : EltTy} (a : Memref sig .tc .vmem s e) (ha : a.IsWhole) (x : Vec F s e)
    (off size : Fin s.rank → Nat) (inb : ∀ d, off d + size d ≤ s.size d) (hl) (E : Set ℕ)
    (K : ((Rect.unit off size inb).shape.Idx → Elt F e) → sProp 𝕄) :
    iprop(owns (c : Thread nD τ) a fullShare x ∗ (owns (c : Thread nD τ) a fullShare x -∗ K (VecWindow.window x off size inb)))
      ⊢ wp frame (wpE (defs₀ (F := F)) Variants.none c none) E
          (Prog.lift (.load a (Rect.unit off size inb).toLoadRect hl)) K := by
  unfold owns
  iintro ⟨⟨%f, %hf, H⟩, Hk⟩
  obtain rfl := ha.eq_unread hf
  sl_exec
  sl_step
  rw [View.readAt_unit a.view _ inb rfl inb, hf]
  iapply Hk
  iexists _
  isplitr
  · ipureintro; exact hf
  iexact H

/-- An unmasked store into a whole buffer puts the payload there. -/
theorem wp_st (c : Dev nD) {s : Shape} {e : EltTy} (a : Memref sig .tc .vmem s e) (ha : a.IsWhole) (x : Vec F s e)
    (off size : Fin s.rank → Nat) (inb : ∀ d, off d + size d ≤ s.size d)
    (w : (Rect.unit off size inb).shape.Idx → Elt F e) (hs) (hm) (E : Set ℕ)
    (K : PUnit → sProp 𝕄) :
    iprop(owns (c : Thread nD τ) a fullShare x ∗ (owns (c : Thread nD τ) a fullShare (VecWindow.put x off size w) -∗ K ⟨⟩))
      ⊢ wp frame (wpE (defs₀ (F := F)) Variants.none c none) E
          (Prog.lift (.store a (Rect.unit off size inb) w Finset.univ hs hm)) K := by
  unfold owns
  iintro ⟨⟨%f, %hf, H⟩, Hk⟩
  obtain rfl := ha.eq_unread hf
  sl_exec
  sl_step
  iapply Hk
  iexists (a.view.writes (Elt F) (ha.unread x) [⟨Rect.unit off size inb, w⟩])
  isplitr
  · ipureintro
    refine (View.read_writes_cons_put a.view _ inb w [] rfl).trans ?_
    rw [View.writes_nil, hf]
  iexact H

/-- The contents of the seven buffers that are only read. -/
structure Ins (F : FTy → Type) where
  x1 : Vec F S2048x512 .bf16
  x2 : Vec F S512x512 .bf16
  x3 : Vec F S512x512 .bf16
  x4 : Vec F S2048x512 .bf16
  x5 : Vec F S8x8x256 .f32
  x6 : Vec F S8x8x256 .f32
  x7 : Vec F S512x8 .f32

/-- The contents of the five buffers that are written. -/
@[ext] structure St (F : FTy → Type) where
  y8 : Vec F S2048x512 .f32
  y9 : Vec F S512x512 .bf16
  y10 : Vec F S512x512 .bf16
  y11 : Vec F S512x8 .f32
  y12 : Vec F S8x8x256 .f32

/-- All twelve buffers, with their contents. -/
def own (c : Dev nD) (R : Refs) (I : Ins F) (s : St F) : sProp 𝕄 :=
  iprop(owns (c : Thread nD τ) R.a1 fullShare I.x1 ∗ owns (c : Thread nD τ) R.a2 fullShare I.x2
    ∗ owns (c : Thread nD τ) R.a3 fullShare I.x3 ∗ owns (c : Thread nD τ) R.a4 fullShare I.x4
    ∗ owns (c : Thread nD τ) R.a5 fullShare I.x5 ∗ owns (c : Thread nD τ) R.a6 fullShare I.x6
    ∗ owns (c : Thread nD τ) R.a7 fullShare I.x7 ∗ owns (c : Thread nD τ) R.a8 fullShare s.y8
    ∗ owns (c : Thread nD τ) R.a9 fullShare s.y9 ∗ owns (c : Thread nD τ) R.a10 fullShare s.y10
    ∗ owns (c : Thread nD τ) R.a11 fullShare s.y11 ∗ owns (c : Thread nD τ) R.a12 fullShare s.y12)

/-- The piece `p`, run at contents `s`, returns `r` and leaves `s'`. -/
def Runs (R : Refs) (I : Ins F) {α : Type} (p : FP F α) (s : St F) (r : α) (s' : St F) : Prop :=
  ∀ (c : Dev nD) (E : Set ℕ) (K : α → sProp 𝕄),
    iprop(own c R I s ∗ (own c R I s' -∗ K r)) ⊢ wp frame (wpE (defs₀ (F := F)) Variants.none c none) E p K

variable {R : Refs} {I : Ins F}

/-- A piece that does nothing. -/
theorem Runs.pure {α : Type} (r : α) (s : St F) : Runs R I (Pure.pure r : FP F α) s r s := by
  intro c E K
  show _ ⊢ wp _ _ _ (Prog.ret r) K
  rw [wp_ret]
  iintro ⟨H, Hk⟩
  imodintro
  iapply Hk; iexact H

/-- Two pieces, one after the other. -/
theorem Runs.bind {α β : Type} {p : FP F α} {k : α → FP F β} {s s' s'' : St F} {r : α} {r' : β}
    (h : Runs R I p s r s') (h' : Runs R I (k r) s' r' s'') : Runs R I (p >>= k) s r' s'' := by
  intro c E K
  rw [wp_bind]
  iintro ⟨H, Hk⟩
  iapply (h c E _)
  isplitl [H]
  · iexact H
  iintro H
  iapply (h' c E _)
  isplitl [H]
  · iexact H
  iexact Hk

/-- A counted loop: the states and the carried values before each trip. -/
theorem Runs.loop {w : Nat} {σ : Type} (l : Scf.Loop w) (hok : l.OK) (body : Fin l.trips → σ → FP F σ)
    (S : Nat → St F) (A : Nat → σ)
    (h : ∀ k : Fin l.trips, Runs R I (body k (A k.val)) (S k.val) (A (k.val + 1)) (S (k.val + 1))) :
    Runs R I (Scf.Loop.for l hok (A 0) body) (S 0) (A l.trips) (S l.trips) := by
  intro c E K
  refine BIBase.Entails.trans ?_ (Scf.wp_for frame (wpE (defs₀ (F := F)) Variants.none c none) E l.lb l.ub l.st hok (A 0) body
    (fun k acc => iprop(⌜acc = A k⌝ ∗ own c R I (S k))) ?_)
  · iintro ⟨H, Hk⟩
    isplitl [H]
    · isplitr
      · ipureintro; rfl
      iexact H
    iintro %acc ⟨%ha, H⟩
    subst ha
    iapply Hk; iexact H
  · intro k acc
    iintro ⟨%ha, H⟩
    subst ha
    iapply (h k c E _)
    isplitl [H]
    · iexact H
    iintro H
    isplitr
    · ipureintro; rfl
    iexact H

/-! ### A load or a store of one of the buffers -/

theorem Runs.ld1 (s : St F) (off size : Fin S2048x512.rank → Nat) (inb) (hl) :
    Runs R I (Prog.lift (.load R.a1 (Rect.unit (s := S2048x512) off size inb).toLoadRect hl)) s
      (VecWindow.window I.x1 off size inb) s := by
  intro c E K
  unfold own
  iintro ⟨⟨H1, H2, H3, H4, H5, H6, H7, H8, H9, H10, H11, H12⟩, Hk⟩
  iapply (wp_ld c R.a1 R.h1 I.x1 off size inb hl E _)
  isplitl [H1]
  · iexact H1
  iintro H1
  iapply Hk
  iframe

theorem Runs.ld2 (s : St F) (off size : Fin S512x512.rank → Nat) (inb) (hl) :
    Runs R I (Prog.lift (.load R.a2 (Rect.unit (s := S512x512) off size inb).toLoadRect hl)) s
      (VecWindow.window I.x2 off size inb) s := by
  intro c E K
  unfold own
  iintro ⟨⟨H1, H2, H3, H4, H5, H6, H7, H8, H9, H10, H11, H12⟩, Hk⟩
  iapply (wp_ld c R.a2 R.h2 I.x2 off size inb hl E _)
  isplitl [H2]
  · iexact H2
  iintro H2
  iapply Hk
  iframe

theorem Runs.ld3 (s : St F) (off size : Fin S512x512.rank → Nat) (inb) (hl) :
    Runs R I (Prog.lift (.load R.a3 (Rect.unit (s := S512x512) off size inb).toLoadRect hl)) s
      (VecWindow.window I.x3 off size inb) s := by
  intro c E K
  unfold own
  iintro ⟨⟨H1, H2, H3, H4, H5, H6, H7, H8, H9, H10, H11, H12⟩, Hk⟩
  iapply (wp_ld c R.a3 R.h3 I.x3 off size inb hl E _)
  isplitl [H3]
  · iexact H3
  iintro H3
  iapply Hk
  iframe

theorem Runs.ld4 (s : St F) (off size : Fin S2048x512.rank → Nat) (inb) (hl) :
    Runs R I (Prog.lift (.load R.a4 (Rect.unit (s := S2048x512) off size inb).toLoadRect hl)) s
      (VecWindow.window I.x4 off size inb) s := by
  intro c E K
  unfold own
  iintro ⟨⟨H1, H2, H3, H4, H5, H6, H7, H8, H9, H10, H11, H12⟩, Hk⟩
  iapply (wp_ld c R.a4 R.h4 I.x4 off size inb hl E _)
  isplitl [H4]
  · iexact H4
  iintro H4
  iapply Hk
  iframe

theorem Runs.ld5 (s : St F) (off size : Fin S8x8x256.rank → Nat) (inb) (hl) :
    Runs R I (Prog.lift (.load R.a5 (Rect.unit (s := S8x8x256) off size inb).toLoadRect hl)) s
      (VecWindow.window I.x5 off size inb) s := by
  intro c E K
  unfold own
  iintro ⟨⟨H1, H2, H3, H4, H5, H6, H7, H8, H9, H10, H11, H12⟩, Hk⟩
  iapply (wp_ld c R.a5 R.h5 I.x5 off size inb hl E _)
  isplitl [H5]
  · iexact H5
  iintro H5
  iapply Hk
  iframe

theorem Runs.ld6 (s : St F) (off size : Fin S8x8x256.rank → Nat) (inb) (hl) :
    Runs R I (Prog.lift (.load R.a6 (Rect.unit (s := S8x8x256) off size inb).toLoadRect hl)) s
      (VecWindow.window I.x6 off size inb) s := by
  intro c E K
  unfold own
  iintro ⟨⟨H1, H2, H3, H4, H5, H6, H7, H8, H9, H10, H11, H12⟩, Hk⟩
  iapply (wp_ld c R.a6 R.h6 I.x6 off size inb hl E _)
  isplitl [H6]
  · iexact H6
  iintro H6
  iapply Hk
  iframe

theorem Runs.ld7 (s : St F) (off size : Fin S512x8.rank → Nat) (inb) (hl) :
    Runs R I (Prog.lift (.load R.a7 (Rect.unit (s := S512x8) off size inb).toLoadRect hl)) s
      (VecWindow.window I.x7 off size inb) s := by
  intro c E K
  unfold own
  iintro ⟨⟨H1, H2, H3, H4, H5, H6, H7, H8, H9, H10, H11, H12⟩, Hk⟩
  iapply (wp_ld c R.a7 R.h7 I.x7 off size inb hl E _)
  isplitl [H7]
  · iexact H7
  iintro H7
  iapply Hk
  iframe

theorem Runs.ld8 (s : St F) (off size : Fin S2048x512.rank → Nat) (inb) (hl) :
    Runs R I (Prog.lift (.load R.a8 (Rect.unit (s := S2048x512) off size inb).toLoadRect hl)) s
      (VecWindow.window s.y8 off size inb) s := by
  intro c E K
  unfold own
  iintro ⟨⟨H1, H2, H3, H4, H5, H6, H7, H8, H9, H10, H11, H12⟩, Hk⟩
  iapply (wp_ld c R.a8 R.h8 s.y8 off size inb hl E _)
  isplitl [H8]
  · iexact H8
  iintro H8
  iapply Hk
  iframe

theorem Runs.ld9 (s : St F) (off size : Fin S512x512.rank → Nat) (inb) (hl) :
    Runs R I (Prog.lift (.load R.a9 (Rect.unit (s := S512x512) off size inb).toLoadRect hl)) s
      (VecWindow.window s.y9 off size inb) s := by
  intro c E K
  unfold own
  iintro ⟨⟨H1, H2, H3, H4, H5, H6, H7, H8, H9, H10, H11, H12⟩, Hk⟩
  iapply (wp_ld c R.a9 R.h9 s.y9 off size inb hl E _)
  isplitl [H9]
  · iexact H9
  iintro H9
  iapply Hk
  iframe

theorem Runs.ld10 (s : St F) (off size : Fin S512x512.rank → Nat) (inb) (hl) :
    Runs R I (Prog.lift (.load R.a10 (Rect.unit (s := S512x512) off size inb).toLoadRect hl)) s
      (VecWindow.window s.y10 off size inb) s := by
  intro c E K
  unfold own
  iintro ⟨⟨H1, H2, H3, H4, H5, H6, H7, H8, H9, H10, H11, H12⟩, Hk⟩
  iapply (wp_ld c R.a10 R.h10 s.y10 off size inb hl E _)
  isplitl [H10]
  · iexact H10
  iintro H10
  iapply Hk
  iframe

theorem Runs.ld11 (s : St F) (off size : Fin S512x8.rank → Nat) (inb) (hl) :
    Runs R I (Prog.lift (.load R.a11 (Rect.unit (s := S512x8) off size inb).toLoadRect hl)) s
      (VecWindow.window s.y11 off size inb) s := by
  intro c E K
  unfold own
  iintro ⟨⟨H1, H2, H3, H4, H5, H6, H7, H8, H9, H10, H11, H12⟩, Hk⟩
  iapply (wp_ld c R.a11 R.h11 s.y11 off size inb hl E _)
  isplitl [H11]
  · iexact H11
  iintro H11
  iapply Hk
  iframe

theorem Runs.ld12 (s : St F) (off size : Fin S8x8x256.rank → Nat) (inb) (hl) :
    Runs R I (Prog.lift (.load R.a12 (Rect.unit (s := S8x8x256) off size inb).toLoadRect hl)) s
      (VecWindow.window s.y12 off size inb) s := by
  intro c E K
  unfold own
  iintro ⟨⟨H1, H2, H3, H4, H5, H6, H7, H8, H9, H10, H11, H12⟩, Hk⟩
  iapply (wp_ld c R.a12 R.h12 s.y12 off size inb hl E _)
  isplitl [H12]
  · iexact H12
  iintro H12
  iapply Hk
  iframe

theorem Runs.st8 (s : St F) (off size : Fin S2048x512.rank → Nat) (inb) (w) (hs) (hm) :
    Runs R I (Prog.lift (.store R.a8 (Rect.unit (s := S2048x512) off size inb) w Finset.univ hs hm)) s ⟨⟩
      { s with y8 := VecWindow.put s.y8 off size w } := by
  intro c E K
  unfold own
  iintro ⟨⟨H1, H2, H3, H4, H5, H6, H7, H8, H9, H10, H11, H12⟩, Hk⟩
  iapply (wp_st c R.a8 R.h8 s.y8 off size inb w hs hm E _)
  isplitl [H8]
  · iexact H8
  iintro H8
  iapply Hk
  iframe

theorem Runs.st9 (s : St F) (off size : Fin S512x512.rank → Nat) (inb) (w) (hs) (hm) :
    Runs R I (Prog.lift (.store R.a9 (Rect.unit (s := S512x512) off size inb) w Finset.univ hs hm)) s ⟨⟩
      { s with y9 := VecWindow.put s.y9 off size w } := by
  intro c E K
  unfold own
  iintro ⟨⟨H1, H2, H3, H4, H5, H6, H7, H8, H9, H10, H11, H12⟩, Hk⟩
  iapply (wp_st c R.a9 R.h9 s.y9 off size inb w hs hm E _)
  isplitl [H9]
  · iexact H9
  iintro H9
  iapply Hk
  iframe

theorem Runs.st10 (s : St F) (off size : Fin S512x512.rank → Nat) (inb) (w) (hs) (hm) :
    Runs R I (Prog.lift (.store R.a10 (Rect.unit (s := S512x512) off size inb) w Finset.univ hs hm)) s ⟨⟩
      { s with y10 := VecWindow.put s.y10 off size w } := by
  intro c E K
  unfold own
  iintro ⟨⟨H1, H2, H3, H4, H5, H6, H7, H8, H9, H10, H11, H12⟩, Hk⟩
  iapply (wp_st c R.a10 R.h10 s.y10 off size inb w hs hm E _)
  isplitl [H10]
  · iexact H10
  iintro H10
  iapply Hk
  iframe

theorem Runs.st11 (s : St F) (off size : Fin S512x8.rank → Nat) (inb) (w) (hs) (hm) :
    Runs R I (Prog.lift (.store R.a11 (Rect.unit (s := S512x8) off size inb) w Finset.univ hs hm)) s ⟨⟩
      { s with y11 := VecWindow.put s.y11 off size w } := by
  intro c E K
  unfold own
  iintro ⟨⟨H1, H2, H3, H4, H5, H6, H7, H8, H9, H10, H11, H12⟩, Hk⟩
  iapply (wp_st c R.a11 R.h11 s.y11 off size inb w hs hm E _)
  isplitl [H11]
  · iexact H11
  iintro H11
  iapply Hk
  iframe

theorem Runs.st12 (s : St F) (off size : Fin S8x8x256.rank → Nat) (inb) (w) (hs) (hm) :
    Runs R I (Prog.lift (.store R.a12 (Rect.unit (s := S8x8x256) off size inb) w Finset.univ hs hm)) s ⟨⟩
      { s with y12 := VecWindow.put s.y12 off size w } := by
  intro c E K
  unfold own
  iintro ⟨⟨H1, H2, H3, H4, H5, H6, H7, H8, H9, H10, H11, H12⟩, Hk⟩
  iapply (wp_st c R.a12 R.h12 s.y12 off size inb w hs hm E _)
  isplitl [H12]
  · iexact H12
  iintro H12
  iapply Hk
  iframe

/-! ### A pair of heads -/

section Pair

variable (I) (oq : Fin 2 → Nat) (hq : ∀ a, oq a + S256x128.size a ≤ S2048x512.size a)
    (o0 : Fin 3 → Nat) (h0 : ∀ a, o0 a + S1x1x256.size a ≤ S8x8x256.size a)

/-- What a head makes of the rows that it reads. -/
def outOf (f : HeadFn F) : Out F :=
  f (shapeCast S256x128 (VecWindow.window I.x1 oq S256x128.size hq : Vec F S256x128 .bf16) shapeCasts_S256x128_S256x128)
    (shapeCast S256x128 (VecWindow.window I.x4 oq S256x128.size hq : Vec F S256x128 .bf16) shapeCasts_S256x128_S256x128)
    (VecWindow.window I.x5 o0 S1x1x256.size h0) (VecWindow.window I.x6 o0 S1x1x256.size h0)

/-- The rows' sums with what a head adds. -/
def putRow (u : Out F) (y : Vec F S8x8x256 .f32) : Vec F S8x8x256 .f32 :=
  VecWindow.put y o0 S1x1x256.size (rowUpd u (VecWindow.window y o0 S1x1x256.size h0))

/-- `dq` with what a pair of heads adds. -/
def putDq (u u' : Out F) (y : Vec F S2048x512 .f32) : Vec F S2048x512 .f32 :=
  VecWindow.put y oq S256x128.size (dqUpd u u' (VecWindow.window y oq S256x128.size hq))

variable (o1 : Fin 3 → Nat) (h1 : ∀ a, o1 a + S1x1x256.size a ≤ S8x8x256.size a) (f0 f1 : HeadFn F)

/-- The contents that a pair of heads leaves. -/
def pairSt (s : St F) : St F :=
  { s with
    y8 := putDq oq hq (outOf I oq hq o0 h0 f0) (outOf I oq hq o1 h1 f1) s.y8
    y12 := putRow o1 h1 (outOf I oq hq o1 h1 f1) (putRow o0 h0 (outOf I oq hq o0 h0 f0) s.y12) }

theorem runs_pair (R : Refs) (s : St F) :
    Runs R I (pairProg R oq hq o0 h0 o1 h1 f0 f1) s ((outOf I oq hq o0 h0 f0).carry, (outOf I oq hq o1 h1 f1).carry)
      (pairSt I oq hq o0 h0 o1 h1 f0 f1 s) := by
  refine Runs.bind (Runs.ld1 _ _ _ _ _) (Runs.bind (Runs.ld4 _ _ _ _ _) ?_)
  refine Runs.bind (Runs.ld5 _ _ _ _ _) (Runs.bind (Runs.ld6 _ _ _ _ _) ?_)
  refine Runs.bind (Runs.ld12 _ _ _ _ _) (Runs.bind (Runs.ld12 _ _ _ _ _) (Runs.bind (Runs.st12 _ _ _ _ _ _ _) ?_))
  refine Runs.bind (Runs.ld5 _ _ _ _ _) (Runs.bind (Runs.ld6 _ _ _ _ _) ?_)
  refine Runs.bind (Runs.ld12 _ _ _ _ _) (Runs.bind (Runs.ld12 _ _ _ _ _) (Runs.bind (Runs.st12 _ _ _ _ _ _ _) ?_))
  refine Runs.bind (Runs.ld8 _ _ _ _ _) (Runs.bind (Runs.ld8 _ _ _ _ _) (Runs.bind (Runs.st8 _ _ _ _ _ _ _) ?_))
  exact Runs.pure _ _

end Pair

/-! ### Four heads, and the loops -/

/-- What the four heads of a group make of a band's rows. -/
def outs (I : Ins F) (o : Offs) (H : Heads F) (st : Head F → Carry F → HeadFn F) (t : T12 F) : Out F × Out F × Out F × Out F :=
  (outOf I o.q0 o.hq0 o.r0 o.hr0 (st H.H0 (crry0 t)), outOf I o.q0 o.hq0 o.r1 o.hr1 (st H.H1 (crry1 t)),
   outOf I o.q1 o.hq1 o.r2 o.hr2 (st H.H2 (crry2 t)), outOf I o.q1 o.hq1 o.r3 o.hr3 (st H.H3 (crry3 t)))

/-- The four carries after a band. -/
def groupT (I : Ins F) (o : Offs) (H : Heads F) (st : Head F → Carry F → HeadFn F) (t : T12 F) : T12 F :=
  flat (outs I o H st t).1.carry (outs I o H st t).2.1.carry (outs I o H st t).2.2.1.carry (outs I o H st t).2.2.2.carry

/-- The contents after a band. -/
def groupS (I : Ins F) (o : Offs) (H : Heads F) (st : Head F → Carry F → HeadFn F) (t : T12 F) (s : St F) : St F :=
  pairSt I o.q1 o.hq1 o.r2 o.hr2 o.r3 o.hr3 (st H.H2 (crry2 t)) (st H.H3 (crry3 t))
    (pairSt I o.q0 o.hq0 o.r0 o.hr0 o.r1 o.hr1 (st H.H0 (crry0 t)) (st H.H1 (crry1 t)) s)

theorem runs_group (R : Refs) (I : Ins F) (o : Offs) (H : Heads F) (st : Head F → Carry F → HeadFn F) (t : T12 F) (s : St F) :
    Runs R I (groupProg R o H st t) s (groupT I o H st t) (groupS I o H st t s) :=
  Runs.bind (runs_pair I _ _ _ _ _ _ _ _ R s) (Runs.bind (runs_pair I _ _ _ _ _ _ _ _ R _) (Runs.pure _ _))

/-- The carries and the contents after the first `k` trips of a loop over later bands. -/
def iter (I : Ins F) (H : Heads F) (o : Nat → Offs) (t : T12 F) (s : St F) : Nat → T12 F × St F
  | 0 => (t, s)
  | k + 1 => (groupT I (o k) H (full id) (iter I H o t s k).1, groupS I (o k) H (full id) (iter I H o t s k).1 (iter I H o t s k).2)

theorem runs_loop (R : Refs) (I : Ins F) {w : Nat} (l : Scf.Loop w) (hok : l.OK) (H : Heads F) (off : Fin l.trips → Offs)
    (o : Nat → Offs) (ho : ∀ k : Fin l.trips, off k = o k.val) (t : T12 F) (s : St F) :
    Runs R I (Scf.Loop.for l hok t (fun n acc => groupProg R (off n) H (full id) acc)) s (iter I H o t s l.trips).1
      (iter I H o t s l.trips).2 :=
  Runs.loop l hok _ (fun k => (iter I H o t s k).2) (fun k => (iter I H o t s k).1) fun k => by
    rw [ho]; exact runs_group R I _ H _ _ _

end Cert.FoxIdeal.Hand
-- ==== Proof.FoxBody.lean ====
module

public import proofs.«01_k».proof.Proof.FoxRuns

/-! # The attention's backward body as a function of contents

`run_body`: at grid point `i` the body takes the contents `s` of the five written buffers to `bodySt I i s`. -/

@[expose] public section

noncomputable section

namespace Cert.FoxIdeal.Hand

open Cert.FoxIdeal.Gen
open Idealize.ShloMosaic Idealize.ShloMosaic.TcCoe Idealize.ShloMosaic.Tactic
open Idealize.SL Idealize.SL.Sem

variable {F : FTy → Type} [FloatOps F]

/-! ## Offsets in closed form -/

/-- The offsets of heads `4g … 4g + 3` at the band of rows `256 n …`. -/
def offsOf (g : Fin 2) (n : Nat) : Offs where
  q0 := ![256 * min n 7, 256 * g.val]
  hq0 := by intro a; have := g.isLt; fin_cases a <;> simp [S2048x512, S256x128] <;> omega
  r0 := ![4 * g.val, min n 7, 0]
  hr0 := by intro a; have := g.isLt; fin_cases a <;> simp [S8x8x256, S1x1x256] <;> omega
  r1 := ![4 * g.val + 1, min n 7, 0]
  hr1 := by intro a; have := g.isLt; fin_cases a <;> simp [S8x8x256, S1x1x256] <;> omega
  q1 := ![256 * min n 7, 256 * g.val + 128]
  hq1 := by intro a; have := g.isLt; fin_cases a <;> simp [S2048x512, S256x128] <;> omega
  r2 := ![4 * g.val + 2, min n 7, 0]
  hr2 := by intro a; have := g.isLt; fin_cases a <;> simp [S8x8x256, S1x1x256] <;> omega
  r3 := ![4 * g.val + 3, min n 7, 0]
  hr3 := by intro a; have := g.isLt; fin_cases a <;> simp [S8x8x256, S1x1x256] <;> omega

theorem offs_eq {o o' : Offs} (a : o.q0 = o'.q0) (b : o.r0 = o'.r0) (c : o.r1 = o'.r1) (d : o.q1 = o'.q1)
    (e : o.r2 = o'.r2) (f : o.r3 = o'.r3) : o = o' := by
  cases o; cases o'; simp only at a b c d e f; subst a b c d e f; rfl

theorem trips1 : ∀ i : grid0.Coords, (k0_t1_loop i).trips = 6 - 2 * (i 0).val := by decide +kernel
theorem trips2 : ∀ i : grid0.Coords, (k0_t2_loop i).trips = 0 := by decide +kernel
theorem trips3 : ∀ i : grid0.Coords, (k0_t3_loop i).trips = 6 - 2 * (i 0).val := by decide +kernel
theorem trips4 : ∀ i : grid0.Coords, (k0_t4_loop i).trips = 0 := by decide +kernel

/-- An offset of a row band. -/
theorem vq {a a' : Nat} {g : Nat} (h : a = a') : (![a, g] : Fin 2 → Nat) = ![a', g] := by rw [h]
theorem vr {a a' : Nat} {g : Nat} (h : a = a') : (![g, a, 0] : Fin 3 → Nat) = ![g, a', 0] := by rw [h]

theorem offsA_eq (i : grid0.Coords) (b : Fin 2) : offsA i b = offsOf 0 (2 * (i 0).val + b.val) := by
  have hi : (i 0).val < 4 := (i 0).isLt
  have hb := b.isLt
  exact offs_eq ((k0_off1_eq i b).trans (vq (by omega))) ((k0_off2_eq i b).trans (vr (by omega)))
    ((k0_off3_eq i b).trans (vr (by omega))) ((k0_off4_eq i b).trans (vq (by omega)))
    ((k0_off5_eq i b).trans (vr (by omega))) ((k0_off6_eq i b).trans (vr (by omega)))

theorem offsB_eq (i : grid0.Coords) (b : Fin 2) : offsB i b = offsOf 1 (2 * (i 0).val + b.val) := by
  have hi : (i 0).val < 4 := (i 0).isLt
  have hb := b.isLt
  exact offs_eq ((k0_off19_eq i b).trans (vq (by omega))) ((k0_off20_eq i b).trans (vr (by omega)))
    ((k0_off21_eq i b).trans (vr (by omega))) ((k0_off22_eq i b).trans (vq (by omega)))
    ((k0_off23_eq i b).trans (vr (by omega))) ((k0_off24_eq i b).trans (vr (by omega)))

theorem offs1_eq (i : grid0.Coords) (t : Fin (k0_t1_loop i).trips) : offs1 i t = offsOf 0 (2 * (i 0).val + 2 + t.val) := by
  have hi : (i 0).val < 4 := (i 0).isLt
  have ht : t.val < 6 - 2 * (i 0).val := trips1 i ▸ t.isLt
  exact offs_eq ((k0_off7_eq i t).trans (vq (by omega))) ((k0_off8_eq i t).trans (vr (by omega)))
    ((k0_off9_eq i t).trans (vr (by omega))) ((k0_off10_eq i t).trans (vq (by omega)))
    ((k0_off11_eq i t).trans (vr (by omega))) ((k0_off12_eq i t).trans (vr (by omega)))

theorem offs3_eq (i : grid0.Coords) (t : Fin (k0_t3_loop i).trips) : offs3 i t = offsOf 1 (2 * (i 0).val + 2 + t.val) := by
  have hi : (i 0).val < 4 := (i 0).isLt
  have ht : t.val < 6 - 2 * (i 0).val := trips3 i ▸ t.isLt
  exact offs_eq ((k0_off25_eq i t).trans (vq (by omega))) ((k0_off26_eq i t).trans (vr (by omega)))
    ((k0_off27_eq i t).trans (vr (by omega))) ((k0_off28_eq i t).trans (vq (by omega)))
    ((k0_off29_eq i t).trans (vr (by omega))) ((k0_off30_eq i t).trans (vr (by omega)))

/-! ## The contents after the body -/

/-- The row numbers and the column numbers of a block's square. -/
def rowIx : IVec S512x256 32 := iota .tc S512x256 32 [0] iota_S512x256_d0_w32
@[inherit_doc rowIx] def colIx : IVec S512x256 32 := iota .tc S512x256 32 [1] iota_S512x256_d1_w32

/-- Lanes `128 p …` of an array of 512 lanes. -/
def lanes (x : Vec F S512x512 .bf16) (p : Fin 4) : Vec F S512x128 .bf16 :=
  VecWindow.window x ![0, 128 * p.val] S512x128.size
    (by intro a; have := p.isLt; fin_cases a <;> simp [S512x512, S512x128] <;> omega)

/-- Column `h` of the gates. -/
def gcol (x : Vec F S512x8 .f32) (h : Fin 8) : Vec F S512x1 .f32 :=
  VecWindow.window x ![0, h.val] S512x1.size
    (by intro a; have := h.isLt; fin_cases a <;> simp [S512x8, S512x1] <;> omega)

/-- The key sides of heads `4g … 4g + 3`. -/
def headsOf (I : Ins F) : Fin 2 → Heads F
  | 0 => ⟨⟨lo k0_pay160 (lanes I.x2 0), lo k0_pay160 (lanes I.x3 0), gcol I.x7 0⟩,
      ⟨hi k0_pay160 (lanes I.x2 0), hi k0_pay160 (lanes I.x3 0), gcol I.x7 1⟩,
      ⟨lo k0_pay160 (lanes I.x2 1), lo k0_pay160 (lanes I.x3 1), gcol I.x7 2⟩,
      ⟨hi k0_pay160 (lanes I.x2 1), hi k0_pay160 (lanes I.x3 1), gcol I.x7 3⟩⟩
  | 1 => ⟨⟨lo k0_pay160 (lanes I.x2 2), lo k0_pay160 (lanes I.x3 2), gcol I.x7 4⟩,
      ⟨hi k0_pay160 (lanes I.x2 2), hi k0_pay160 (lanes I.x3 2), gcol I.x7 5⟩,
      ⟨lo k0_pay160 (lanes I.x2 3), lo k0_pay160 (lanes I.x3 3), gcol I.x7 6⟩,
      ⟨hi k0_pay160 (lanes I.x2 3), hi k0_pay160 (lanes I.x3 3), gcol I.x7 7⟩⟩

/-- Nothing carried. -/
def t₀ : T12 F := flat carry0 carry0 carry0 carry0

/-- The carries and the contents after the block's first band. -/
def band0 (I : Ins F) (i : grid0.Coords) (g : Fin 2) (s : St F) : T12 F × St F :=
  (groupT I (offsOf g (2 * (i 0).val)) (headsOf I g) (half (mask0 rowIx colIx)) t₀,
   groupS I (offsOf g (2 * (i 0).val)) (headsOf I g) (half (mask0 rowIx colIx)) t₀ s)

/-- The same after both bands. -/
def band1 (I : Ins F) (i : grid0.Coords) (g : Fin 2) (s : St F) : T12 F × St F :=
  (groupT I (offsOf g (2 * (i 0).val + 1)) (headsOf I g) (full (mask1 rowIx colIx)) (band0 I i g s).1,
   groupS I (offsOf g (2 * (i 0).val + 1)) (headsOf I g) (full (mask1 rowIx colIx)) (band0 I i g s).1 (band0 I i g s).2)

/-- The same after all later bands too. -/
def later (I : Ins F) (i : grid0.Coords) (g : Fin 2) (s : St F) : T12 F × St F :=
  iter I (headsOf I g) (fun k => offsOf g (2 * (i 0).val + 2 + k)) (band1 I i g s).1 (band1 I i g s).2 (6 - 2 * (i 0).val)

/-- Four heads' gradients in their lanes and columns. -/
def store4 (g : Fin 2) (w : T12 F) (s : St F) : St F :=
  { s with
    y9 := VecWindow.put (VecWindow.put s.y9 ![0, 256 * g.val] S512x128.size (join k0_pay160 (crry0 w).1 (crry1 w).1))
      ![0, 256 * g.val + 128] S512x128.size (join k0_pay160 (crry2 w).1 (crry3 w).1)
    y10 := VecWindow.put (VecWindow.put s.y10 ![0, 256 * g.val] S512x128.size (join k0_pay160 (crry0 w).2.1 (crry1 w).2.1))
      ![0, 256 * g.val + 128] S512x128.size (join k0_pay160 (crry2 w).2.1 (crry3 w).2.1)
    y11 := VecWindow.put (VecWindow.put (VecWindow.put (VecWindow.put s.y11 ![0, 4 * g.val] S512x1.size (crry0 w).2.2)
      ![0, 4 * g.val + 1] S512x1.size (crry1 w).2.2) ![0, 4 * g.val + 2] S512x1.size (crry2 w).2.2)
      ![0, 4 * g.val + 3] S512x1.size (crry3 w).2.2 }

/-- Four heads whole. -/
def groupAll (I : Ins F) (i : grid0.Coords) (g : Fin 2) (s : St F) : St F :=
  store4 g (later I i g s).1 (later I i g s).2

/-- The grid point is the first. -/
abbrev condFirst (i : grid0.Coords) : Prop :=
  Scalar.cmpi .ne (Scalar.extui (Scalar.cmpi .eq (BitVec.ofNat 32 (i 0).val) 0#32) : BitVec 32) 0#32 = 1#1

/-- The accumulators zero at the first point. -/
def start (i : grid0.Coords) (s : St F) : St F :=
  if condFirst i then
    { s with
      y8 := VecWindow.put s.y8 ![0, 0] S2048x512.size (k0_pay158 (F := F))
      y12 := VecWindow.put s.y12 ![0, 0, 0] S8x8x256.size (k0_pay159 (F := F)) }
  else s

/-- `dq` scaled at the last point. -/
def finish (i : grid0.Coords) (s : St F) : St F :=
  if condLast (BitVec.ofNat 32 (i 0).val) then
    { s with
      y8 := VecWindow.put s.y8 ![0, 0] S2048x512.size
        (k0_pay1 (VecWindow.window s.y8 ![0, 0] S2048x512.size inb_S2048x512_S2048x512_0_0)) }
  else s

/-- The contents after the body. -/
def bodySt (I : Ins F) (i : grid0.Coords) (s : St F) : St F :=
  finish i (groupAll I i 1 (groupAll I i 0 (start i s)))

/-! ## The run -/

/-- What the body's first part hands on, as a function of the contents. -/
def first (I : Ins F) (i : grid0.Coords) : First F :=
  ⟨BitVec.ofNat 32 (i 0).val, rowIx, colIx, k0_pay160, lo k0_pay160 (lanes I.x2 0), hi k0_pay160 (lanes I.x2 0),
    lo k0_pay160 (lanes I.x3 0), hi k0_pay160 (lanes I.x3 0), gcol I.x7 0, gcol I.x7 1,
    lo k0_pay160 (lanes I.x2 1), hi k0_pay160 (lanes I.x2 1), lo k0_pay160 (lanes I.x3 1), hi k0_pay160 (lanes I.x3 1),
    gcol I.x7 2, gcol I.x7 3, carry0.1, carry0.2.1, carry0.2.2, Scalar.ofBits .f32 0x00000000#32⟩

theorem runs_part17 (R : Refs) (I : Ins F) (i : grid0.Coords) (s : St F) :
    Runs R I (part17 R i) s (first I i) (start i s) := by
  rw [part17, k0_part17_eq_skeleton]
  unfold k0_part17_skel start
  dsimp only
  split
  · refine Runs.bind (Runs.ld8 _ _ _ _ _) (Runs.bind (Runs.st8 _ _ _ _ _ _ _)
      (Runs.bind (Runs.ld12 _ _ _ _ _) (Runs.bind (Runs.st12 _ _ _ _ _ _ _) ?_)))
    refine Runs.bind (Runs.ld2 _ _ _ _ _) (Runs.bind (Runs.ld3 _ _ _ _ _) (Runs.bind (Runs.ld7 _ _ _ _ _)
      (Runs.bind (Runs.ld7 _ _ _ _ _) (Runs.bind (Runs.ld2 _ _ _ _ _) (Runs.bind (Runs.ld3 _ _ _ _ _)
      (Runs.bind (Runs.ld7 _ _ _ _ _) (Runs.bind (Runs.ld7 _ _ _ _ _) ?_)))))))
    exact Runs.pure _ _
  ·
    refine Runs.bind (Runs.ld2 _ _ _ _ _) (Runs.bind (Runs.ld3 _ _ _ _ _) (Runs.bind (Runs.ld7 _ _ _ _ _)
      (Runs.bind (Runs.ld7 _ _ _ _ _) (Runs.bind (Runs.ld2 _ _ _ _ _) (Runs.bind (Runs.ld3 _ _ _ _ _)
      (Runs.bind (Runs.ld7 _ _ _ _ _) (Runs.bind (Runs.ld7 _ _ _ _ _) ?_)))))))
    exact Runs.pure _ _

theorem runs_st9 (R : Refs) (I : Ins F) (off hin hp w) (s : St F) :
    Runs R I (st9 R off hin hp w) s ⟨⟩ { s with y9 := VecWindow.put s.y9 off S512x128.size w } :=
  Runs.bind (Runs.ld9 _ _ _ _ _) (Runs.st9 _ _ _ _ _ _ _)

theorem runs_st10 (R : Refs) (I : Ins F) (off hin hp w) (s : St F) :
    Runs R I (st10 R off hin hp w) s ⟨⟩ { s with y10 := VecWindow.put s.y10 off S512x128.size w } :=
  Runs.bind (Runs.ld10 _ _ _ _ _) (Runs.st10 _ _ _ _ _ _ _)

theorem runs_st11 (R : Refs) (I : Ins F) (off hin w) (s : St F) :
    Runs R I (st11 R off hin w) s ⟨⟩ { s with y11 := VecWindow.put s.y11 off S512x1.size w } :=
  Runs.bind (Runs.ld11 _ _ _ _ _) (Runs.st11 _ _ _ _ _ _ _)

theorem runs_loadHeads (R : Refs) (I : Ins F) (s : St F) :
    Runs R I (loadHeads R k0_pay160) s (headsOf I 1) s :=
  Runs.bind (Runs.ld2 _ _ _ _ _) (Runs.bind (Runs.ld3 _ _ _ _ _) (Runs.bind (Runs.ld7 _ _ _ _ _)
    (Runs.bind (Runs.ld7 _ _ _ _ _) (Runs.bind (Runs.ld2 _ _ _ _ _) (Runs.bind (Runs.ld3 _ _ _ _ _)
    (Runs.bind (Runs.ld7 _ _ _ _ _) (Runs.bind (Runs.ld7 _ _ _ _ _) (Runs.pure _ _))))))))

theorem runs_bands (R : Refs) (I : Ins F) (i : grid0.Coords) (g : Fin 2) (o : Fin 2 → Offs)
    (ho : ∀ b : Fin 2, o b = offsOf g (2 * (i 0).val + b.val)) (s : St F) :
    Runs R I (bands R rowIx colIx (o 0) (o 1) (headsOf I g) t₀) s (band1 I i g s).1 (band1 I i g s).2 := by
  rw [ho 0, ho 1]
  exact Runs.bind (runs_group R I _ _ _ _ _) (runs_group R I _ _ _ _ _)

/-- Both loops over the later bands: the second has no trips. -/
theorem runs_loop2 (R : Refs) (I : Ins F) {w : Nat} (l : Scf.Loop w) (hok : l.OK) (h0 : l.trips = 0) (H : Heads F)
    (off : Fin l.trips → Offs) (t : T12 F) (s : St F) :
    Runs R I (Scf.Loop.for l hok t (fun n acc => groupProg R (off n) H (full id) acc)) s t s := by
  have h := Runs.loop (R := R) (I := I) l hok (fun n acc => groupProg R (off n) H (full id) acc) (fun _ => s) (fun _ => t)
    (fun k => absurd k.isLt (by omega))
  exact h

theorem runs_later (R : Refs) (I : Ins F) (i : grid0.Coords) (g : Fin 2) {w : Nat} (l : Scf.Loop w) (hok : l.OK)
    (hl : l.trips = 6 - 2 * (i 0).val) (off : Fin l.trips → Offs)
    (ho : ∀ k : Fin l.trips, off k = offsOf g (2 * (i 0).val + 2 + k.val)) (s : St F) :
    Runs R I (Scf.Loop.for l hok (band1 I i g s).1 (fun n acc => groupProg R (off n) (headsOf I g) (full id) acc))
      (band1 I i g s).2 (later I i g s).1 (later I i g s).2 := by
  have h := runs_loop R I l hok (headsOf I g) off (fun k => offsOf g (2 * (i 0).val + 2 + k)) ho (band1 I i g s).1 (band1 I i g s).2
  unfold later
  rw [← hl]
  exact h

/-- What the middle of the body hands on: the last of the gradients. -/
def midRet (I : Ins F) (i : grid0.Coords) (s : St F) :
    Σ' (_ : BitVec 32) (_ : FVec F S512x1 .f32) (_ : FVec F S512x1 .f32), FVec F S512x128 .bf16 :=
  ⟨BitVec.ofNat 32 (i 0).val, (crry2 (later I i 1 s).1).2.2, (crry3 (later I i 1 s).1).2.2,
    join k0_pay160 (crry2 (later I i 1 s).1).2.1 (crry3 (later I i 1 s).1).2.1⟩

/-- The contents before the last three stores. -/
def midSt (I : Ins F) (i : grid0.Coords) (s : St F) : St F :=
  { (later I i 1 s).2 with
    y9 := VecWindow.put (VecWindow.put (later I i 1 s).2.y9 ![0, 256] S512x128.size
        (join k0_pay160 (crry0 (later I i 1 s).1).1 (crry1 (later I i 1 s).1).1))
      ![0, 384] S512x128.size (join k0_pay160 (crry2 (later I i 1 s).1).1 (crry3 (later I i 1 s).1).1)
    y10 := VecWindow.put (later I i 1 s).2.y10 ![0, 256] S512x128.size
      (join k0_pay160 (crry0 (later I i 1 s).1).2.1 (crry1 (later I i 1 s).1).2.1)
    y11 := VecWindow.put (VecWindow.put (later I i 1 s).2.y11 ![0, 4] S512x1.size (crry0 (later I i 1 s).1).2.2)
      ![0, 5] S512x1.size (crry1 (later I i 1 s).1).2.2 }

theorem runs_mid (R : Refs) (I : Ins F) (i : grid0.Coords) (s : St F) :
    Runs R I (rest R i (first I i)) s (midRet I i (groupAll I i 0 s)) (midSt I i (groupAll I i 0 s)) := by
  refine Runs.bind (runs_bands R I i 0 (offsA i) (offsA_eq i) s) ?_
  refine Runs.bind (Runs.bind (runs_later R I i 0 _ _ (trips1 i) _ (offs1_eq i) s)
    (Runs.bind (runs_loop2 R I _ _ (trips2 i) _ _ _ _) (Runs.bind (runs_st9 R I _ _ _ _ _) (Runs.pure _ _)))) ?_
  refine Runs.bind (runs_st10 R I _ _ _ _ _) (Runs.bind (runs_st11 R I _ _ _ _) (Runs.bind (runs_st11 R I _ _ _ _)
    (Runs.bind (runs_st9 R I _ _ _ _ _) (Runs.bind (runs_st10 R I _ _ _ _ _) (Runs.bind (runs_st11 R I _ _ _ _)
    (Runs.bind (runs_st11 R I _ _ _ _) ?_))))))
  refine Runs.bind (runs_loadHeads R I _) ?_
  refine Runs.bind (runs_bands R I i 1 (offsB i) (offsB_eq i) (groupAll I i 0 s)) ?_
  refine Runs.bind (runs_later R I i 1 _ _ (trips3 i) _ (offs3_eq i) (groupAll I i 0 s)) ?_
  refine Runs.bind (runs_loop2 R I _ _ (trips4 i) _ _ _ _) ?_
  refine Runs.bind (runs_st9 R I _ _ _ _ _) (Runs.bind (runs_st10 R I _ _ _ _ _) (Runs.bind (runs_st11 R I _ _ _ _)
    (Runs.bind (runs_st11 R I _ _ _ _) (Runs.bind (runs_st9 R I _ _ _ _ _) ?_))))
  exact Runs.pure _ _

theorem runs_fin (R : Refs) (I : Ins F) (i : grid0.Coords) (s : St F) :
    Runs R I (fin R (midRet I i s)) (midSt I i s) ⟨⟩ (finish i (groupAll I i 1 s)) := by
  unfold fin finish
  refine Runs.bind (runs_st10 R I _ _ _ _ _) (Runs.bind (runs_st11 R I _ _ _ _) (Runs.bind (runs_st11 R I _ _ _ _) ?_))
  dsimp only
  by_cases h : condLast (BitVec.ofNat 32 (i 0).val)
  · rw [if_pos h, dif_pos (show condLast (midRet I i s).1 from h)]
    refine Runs.bind (Runs.ld8 _ _ _ _ _) (Runs.bind (Runs.ld8 _ _ _ _ _) (Runs.bind (Runs.st8 _ _ _ _ _ _ _) ?_))
    exact Runs.pure _ _
  · rw [if_neg h, dif_neg (show ¬ condLast (midRet I i s).1 from h)]
    exact Runs.pure _ _

/-- The body's run. -/
theorem run_body (R : Refs) (I : Ins F) (i : grid0.Coords) (s : St F) :
  Runs R I (cc0_fox_bwd (F := F) i R.a1 R.h1 R.a2 R.h2 R.a3 R.h3 R.a4 R.h4 R.a5 R.h5 R.a6 R.h6 R.a7 R.h7 R.a8 R.h8 R.a9 R.h9 R.a10 R.h10 R.a11 R.h11 R.a12 R.h12)
    s ⟨⟩ (bodySt I i s) := by
  rw [body_eq]
  exact Runs.bind (Runs.bind (runs_part17 R I i s) (runs_mid R I i _)) (runs_fin R I i _)

end Cert.FoxIdeal.Hand
-- ==== Proof.FoxOut.lean ====
module

public import proofs.«01_k».proof.Proof.FoxBody
public import Idealize.ShloMosaic.Lib.Pointwise

/-! # What one grid point leaves, buffer by buffer

`bodySt_eq`: the gradients of the block's keys, values and gates are those of `dkOut`, `dvOut` and `dcOut`, whatever
the buffers held before; `dq` and the query side of the gates' gradient are the contents before with every band of
rows added. Everything is said head by head. -/

@[expose] public section

noncomputable section

namespace Cert.FoxIdeal.Hand

open Cert.FoxIdeal.Gen
open Idealize.ShloMosaic

variable {F : FTy → Type} [FloatOps F]

/-! ## Head by head -/

/-- The two heads of a pair of lanes. -/
def hd0 (p : Fin 4) : Fin 8 := ⟨2 * p.val, by have := p.isLt; omega⟩
@[inherit_doc hd0] def hd1 (p : Fin 4) : Fin 8 := ⟨2 * p.val + 1, by have := p.isLt; omega⟩
/-- The pair of a head. -/
def pairOf (h : Fin 8) : Fin 4 := ⟨h.val / 2, by have := h.isLt; omega⟩

/-- The key side of head `h`. -/
def headH (I : Ins F) (h : Fin 8) : Head F :=
  if h.val % 2 = 0 then
    ⟨lo k0_pay160 (lanes I.x2 (pairOf h)), lo k0_pay160 (lanes I.x3 (pairOf h)), gcol I.x7 h⟩
  else ⟨hi k0_pay160 (lanes I.x2 (pairOf h)), hi k0_pay160 (lanes I.x3 (pairOf h)), gcol I.x7 h⟩

/-- The step of the `b`-th band from the block's own rows on. -/
def stepFn (b : Nat) : Head F → Carry F → HeadFn F :=
  if b = 0 then half (mask0 rowIx colIx) else if b = 1 then full (mask1 rowIx colIx) else full id

/-- Where band `n` of a pair's lanes begins. -/
def qo (p : Fin 4) (n : Nat) : Fin 2 → Nat := ![256 * min n 7, 128 * p.val]
theorem qo_in (p : Fin 4) (n : Nat) : ∀ a, qo p n a + S256x128.size a ≤ S2048x512.size a := by
  intro a; have := p.isLt; fin_cases a <;> simp [qo, S2048x512, S256x128] <;> omega
/-- Where band `n` of a head's rows lies. -/
def ro (h : Fin 8) (n : Nat) : Fin 3 → Nat := ![h.val, min n 7, 0]
theorem ro_in (h : Fin 8) (n : Nat) : ∀ a, ro h n a + S1x1x256.size a ≤ S8x8x256.size a := by
  intro a; have := h.isLt; fin_cases a <;> simp [ro, S8x8x256, S1x1x256] <;> omega

/-- What head `h` makes of the `b`-th band, with the carry `C`. -/
def outC (I : Ins F) (i : grid0.Coords) (h : Fin 8) (b : Nat) (C : Carry F) : Out F :=
  outOf I (qo (pairOf h) (2 * (i 0).val + b)) (qo_in _ _) (ro h (2 * (i 0).val + b)) (ro_in _ _) (stepFn b (headH I h) C)

/-- Head `h`'s carry after the first `b` bands. -/
def carryH (I : Ins F) (i : grid0.Coords) (h : Fin 8) : Nat → Carry F
  | 0 => carry0
  | b + 1 => (outC I i h b (carryH I i h b)).carry

/-- What head `h` makes of the `b`-th band. -/
def outH (I : Ins F) (i : grid0.Coords) (h : Fin 8) (b : Nat) : Out F := outC I i h b (carryH I i h b)

/-- `dq` with the `b`-th band of a pair of heads added. -/
def dqP (I : Ins F) (i : grid0.Coords) (p : Fin 4) (b : Nat) (y : Vec F S2048x512 .f32) : Vec F S2048x512 .f32 :=
  putDq (qo p (2 * (i 0).val + b)) (qo_in _ _) (outH I i (hd0 p) b) (outH I i (hd1 p) b) y

/-- The rows' sums with the `b`-th band of a head added. -/
def rsH (I : Ins F) (i : grid0.Coords) (h : Fin 8) (b : Nat) (y : Vec F S8x8x256 .f32) : Vec F S8x8x256 .f32 :=
  putRow (ro h (2 * (i 0).val + b)) (ro_in _ _) (outH I i h b) y

/-- The first `b` bands of two pairs of heads. -/
def dqB (I : Ins F) (i : grid0.Coords) (p p' : Fin 4) (y : Vec F S2048x512 .f32) : Nat → Vec F S2048x512 .f32
  | 0 => y
  | b + 1 => dqP I i p' b (dqP I i p b (dqB I i p p' y b))

/-- The first `b` bands of four heads' rows. -/
def rsB (I : Ins F) (i : grid0.Coords) (h h' h'' h''' : Fin 8) (y : Vec F S8x8x256 .f32) : Nat → Vec F S8x8x256 .f32
  | 0 => y
  | b + 1 => rsH I i h''' b (rsH I i h'' b (rsH I i h' b (rsH I i h b (rsB I i h h' h'' h''' y b))))

/-- The first head and the first pair of a group. -/
def gh (g : Fin 2) (j : Fin 4) : Fin 8 := ⟨4 * g.val + j.val, by have := g.isLt; have := j.isLt; omega⟩
@[inherit_doc gh] def gp (g : Fin 2) (j : Fin 2) : Fin 4 := ⟨2 * g.val + j.val, by have := g.isLt; have := j.isLt; omega⟩

/-- The carries of a group. -/
def ghT (I : Ins F) (i : grid0.Coords) (g : Fin 2) (b : Nat) : T12 F :=
  flat (carryH I i (gh g 0) b) (carryH I i (gh g 1) b) (carryH I i (gh g 2) b) (carryH I i (gh g 3) b)

/-- The contents after a group's first `b` bands. -/
def ghS (I : Ins F) (i : grid0.Coords) (g : Fin 2) (s : St F) (b : Nat) : St F :=
  { s with y8 := dqB I i (gp g 0) (gp g 1) s.y8 b, y12 := rsB I i (gh g 0) (gh g 1) (gh g 2) (gh g 3) s.y12 b }

theorem outs_eq (I : Ins F) (i : grid0.Coords) (g : Fin 2) (b n : Nat) (hn : n = 2 * (i 0).val + b) :
    outs I (offsOf g n) (headsOf I g) (stepFn b) (ghT I i g b)
      = (outH I i (gh g 0) b, outH I i (gh g 1) b, outH I i (gh g 2) b, outH I i (gh g 3) b) := by
  subst hn
  fin_cases g <;> rfl

theorem groupT_eq (I : Ins F) (i : grid0.Coords) (g : Fin 2) (b n : Nat) (hn : n = 2 * (i 0).val + b) :
    groupT I (offsOf g n) (headsOf I g) (stepFn b) (ghT I i g b) = ghT I i g (b + 1) := by
  unfold groupT
  rw [outs_eq I i g b n hn]; rfl

theorem groupS_eq (I : Ins F) (i : grid0.Coords) (g : Fin 2) (b n : Nat) (hn : n = 2 * (i 0).val + b) (s : St F) :
    groupS I (offsOf g n) (headsOf I g) (stepFn b) (ghT I i g b) (ghS I i g s b) = ghS I i g s (b + 1) := by
  subst hn
  fin_cases g <;> rfl

theorem band1_eq (I : Ins F) (i : grid0.Coords) (g : Fin 2) (s : St F) :
    band1 I i g s = (ghT I i g 2, ghS I i g s 2) := by
  have t0 : (t₀ : T12 F) = ghT I i g 0 := rfl
  have s0 : s = ghS I i g s 0 := rfl
  have e0 : band0 I i g s = (ghT I i g 1, ghS I i g s 1) :=
    Prod.ext (groupT_eq I i g 0 _ rfl) (groupS_eq I i g 0 _ rfl s)
  unfold band1
  rw [e0]
  exact Prod.ext (groupT_eq I i g 1 _ rfl) (groupS_eq I i g 1 _ rfl s)

theorem later_eq (I : Ins F) (i : grid0.Coords) (g : Fin 2) (s : St F) :
    later I i g s = (ghT I i g (8 - 2 * (i 0).val), ghS I i g s (8 - 2 * (i 0).val)) := by
  have hi : (i 0).val < 4 := (i 0).isLt
  have key : ∀ k, iter I (headsOf I g) (fun k => offsOf g (2 * (i 0).val + 2 + k)) (ghT I i g 2) (ghS I i g s 2) k
      = (ghT I i g (2 + k), ghS I i g s (2 + k)) := by
    intro k
    induction k with
    | zero => rfl
    | succ k ih =>
      have es : (full id : Head F → Carry F → HeadFn F) = stepFn (2 + k) := by
        unfold stepFn; rw [if_neg (by omega), if_neg (by omega)]
      unfold iter
      rw [ih, es]
      exact Prod.ext (groupT_eq I i g (2 + k) _ (by omega)) (groupS_eq I i g (2 + k) _ (by omega) s)
  unfold later
  rw [band1_eq, key, show 2 + (6 - 2 * (i 0).val) = 8 - 2 * (i 0).val from by omega]

/-! ## Puts of lanes and of columns -/

theorem put_lanes {α : Type} (x : S512x512.Idx → α) (p : Nat) (w : S512x128.Idx → α) (y : S512x512.Idx) :
    VecWindow.put x ![0, 128 * p] S512x128.size w y
      = if (y 1).val / 128 = p then w (ix2 (y 0) (⟨(y 1).val % 128, Nat.mod_lt _ (by decide)⟩ : Fin 128)) else x y := by
  unfold VecWindow.put
  by_cases h : (y 1).val / 128 = p
  · rw [if_pos h, dif_pos (show ∀ a, (![0, 128 * p] : Fin 2 → Nat) a ≤ (y a).val ∧ (y a).val < (![0, 128 * p] : Fin 2 → Nat) a + S512x128.size a from by
      intro a; have := (y a).isLt
      fin_cases a
      · exact ⟨Nat.zero_le _, by simpa [S512x128] using this⟩
      · show 128 * p ≤ (y 1).val ∧ (y 1).val < 128 * p + 128; omega)]
    refine congrArg w (funext fun a => ?_)
    fin_cases a
    · exact Fin.ext (Nat.sub_zero _)
    · refine Fin.ext ?_
      show (y 1).val - 128 * p = (y 1).val % 128
      omega
  · rw [if_neg h, dif_neg]
    intro hall
    have := hall 1
    have h1 : 128 * p ≤ (y 1).val ∧ (y 1).val < 128 * p + 128 := this
    omega

theorem put_col {α : Type} (x : S512x8.Idx → α) (p : Nat) (w : S512x1.Idx → α) (y : S512x8.Idx) :
    VecWindow.put x ![0, p] S512x1.size w y = if (y 1).val = p then w (ix2 (y 0) (0 : Fin 1)) else x y := by
  unfold VecWindow.put
  by_cases h : (y 1).val = p
  · rw [if_pos h, dif_pos (show ∀ a, (![0, p] : Fin 2 → Nat) a ≤ (y a).val ∧ (y a).val < (![0, p] : Fin 2 → Nat) a + S512x1.size a from by
      intro a; have := (y a).isLt
      fin_cases a
      · exact ⟨Nat.zero_le _, by simpa [S512x1] using this⟩
      · show p ≤ (y 1).val ∧ (y 1).val < p + 1; omega)]
    refine congrArg w (funext fun a => ?_)
    fin_cases a
    · exact Fin.ext (Nat.sub_zero _)
    · refine Fin.ext ?_
      show (y 1).val - p = 0
      omega
  · rw [if_neg h, dif_neg]
    intro hall
    have := hall 1
    have h1 : p ≤ (y 1).val ∧ (y 1).val < p + 1 := this
    omega

/-- A put of a whole array. -/
theorem put_whole {s : Shape} {α : Type} (x : s.Idx → α) (off : Fin s.rank → Nat) (h0 : ∀ a, off a = 0) (w : s.Idx → α) :
    VecWindow.put x off s.size w = w := by
  funext y
  unfold VecWindow.put
  rw [dif_pos (fun a => by rw [h0]; have := (y a).isLt; omega)]
  refine congrArg w (funext fun a => Fin.ext ?_)
  show (y a).val - off a = (y a).val
  rw [h0]; rfl

/-- A window of a whole array. -/
theorem window_whole {s : Shape} {α : Type} (x : s.Idx → α) (off : Fin s.rank → Nat) (h0 : ∀ a, off a = 0) (inb) :
    VecWindow.window x off s.size inb = x := by
  funext y
  refine congrArg x (funext fun a => Fin.ext ?_)
  show off a + 1 * (y a).val = (y a).val
  rw [h0]; omega

/-! ## The outputs -/

/-- The pair of a lane. -/
def pairL (l : Fin 512) : Fin 4 := ⟨l.val / 128, by have := l.isLt; omega⟩
/-- The lane within its pair. -/
def laneL (l : Fin 512) : Fin 128 := ⟨l.val % 128, Nat.mod_lt _ (by decide)⟩

/-- The block's gradient of the keys. -/
def dkOut (I : Ins F) (i : grid0.Coords) : Vec F S512x512 .bf16 := fun y =>
  join k0_pay160 (carryH I i (hd0 (pairL (y 1))) (8 - 2 * (i 0).val)).1 (carryH I i (hd1 (pairL (y 1))) (8 - 2 * (i 0).val)).1
    (ix2 (y 0) (laneL (y 1)))

/-- The block's gradient of the values. -/
def dvOut (I : Ins F) (i : grid0.Coords) : Vec F S512x512 .bf16 := fun y =>
  join k0_pay160 (carryH I i (hd0 (pairL (y 1))) (8 - 2 * (i 0).val)).2.1 (carryH I i (hd1 (pairL (y 1))) (8 - 2 * (i 0).val)).2.1
    (ix2 (y 0) (laneL (y 1)))

/-- The key side of the block's gradient of the gates. -/
def dcOut (I : Ins F) (i : grid0.Coords) : Vec F S512x8 .f32 := fun y =>
  (carryH I i (y 1) (8 - 2 * (i 0).val)).2.2 (ix2 (y 0) (0 : Fin 1))

/-- `dq` after the point, from what it was before. -/
def dqOut (I : Ins F) (i : grid0.Coords) (y : Vec F S2048x512 .f32) : Vec F S2048x512 .f32 :=
  dqB I i 2 3 (dqB I i 0 1 y (8 - 2 * (i 0).val)) (8 - 2 * (i 0).val)

/-- The query side of the gates' gradient after the point, from what it was before. -/
def rsOut (I : Ins F) (i : grid0.Coords) (y : Vec F S8x8x256 .f32) : Vec F S8x8x256 .f32 :=
  rsB I i 4 5 6 7 (rsB I i 0 1 2 3 y (8 - 2 * (i 0).val)) (8 - 2 * (i 0).val)

/-- What an accumulator holds once the first point has filled it with zeros. -/
def zero8 (i : grid0.Coords) (y : Vec F S2048x512 .f32) : Vec F S2048x512 .f32 := if condFirst i then k0_pay158 (F := F) else y
@[inherit_doc zero8]
def zero12 (i : grid0.Coords) (y : Vec F S8x8x256 .f32) : Vec F S8x8x256 .f32 := if condFirst i then k0_pay159 (F := F) else y
/-- `dq` with its factor at the last point. -/
def scale8 (i : grid0.Coords) (y : Vec F S2048x512 .f32) : Vec F S2048x512 .f32 :=
  if condLast (BitVec.ofNat 32 (i 0).val) then k0_pay1 y else y

theorem start_eq (i : grid0.Coords) (s : St F) :
    start i s = { s with y8 := zero8 i s.y8, y12 := zero12 i s.y12 } := by
  unfold start zero8 zero12
  split
  · refine St.ext (put_whole (s := S2048x512) _ _ (by decide) _) rfl rfl rfl (put_whole (s := S8x8x256) _ _ (by decide) _)
  · rfl

theorem finish_eq (i : grid0.Coords) (s : St F) : finish i s = { s with y8 := scale8 i s.y8 } := by
  unfold finish scale8
  split
  · refine St.ext ((put_whole (s := S2048x512) _ _ (by decide) _).trans (congrArg k0_pay1 (window_whole (s := S2048x512) _ _ (by decide) _)))
      rfl rfl rfl rfl
  · rfl

theorem lanes4 {α : Type} (x : S512x512.Idx → α) (w : Fin 4 → S512x128.Idx → α) :
    VecWindow.put (VecWindow.put (VecWindow.put (VecWindow.put x ![0, 128 * 0] S512x128.size (w 0)) ![0, 128 * 1] S512x128.size (w 1))
      ![0, 128 * 2] S512x128.size (w 2)) ![0, 128 * 3] S512x128.size (w 3)
      = fun y => w (pairL (y 1)) (ix2 (y 0) (laneL (y 1))) := by
  funext y
  have hl : (y 1).val < 512 := (y 1).isLt
  rw [put_lanes, put_lanes, put_lanes, put_lanes]
  have hp : ∀ p : Fin 4, (y 1).val / 128 = p.val → pairL (y 1) = p := fun p e => Fin.ext e
  rcases (by omega : (y 1).val / 128 = 0 ∨ (y 1).val / 128 = 1 ∨ (y 1).val / 128 = 2 ∨ (y 1).val / 128 = 3) with h | h | h | h
  · rw [hp 0 h, h]; rfl
  · rw [hp 1 h, h]; rfl
  · rw [hp 2 h, h]; rfl
  · rw [hp 3 h, h]; rfl

theorem cols8 {α : Type} (x : S512x8.Idx → α) (w : Fin 8 → S512x1.Idx → α) :
    VecWindow.put (VecWindow.put (VecWindow.put (VecWindow.put (VecWindow.put (VecWindow.put (VecWindow.put (VecWindow.put x
      ![0, 0] S512x1.size (w 0)) ![0, 1] S512x1.size (w 1)) ![0, 2] S512x1.size (w 2)) ![0, 3] S512x1.size (w 3))
      ![0, 4] S512x1.size (w 4)) ![0, 5] S512x1.size (w 5)) ![0, 6] S512x1.size (w 6)) ![0, 7] S512x1.size (w 7)
      = fun y => w (y 1) (ix2 (y 0) (0 : Fin 1)) := by
  funext y
  rw [put_col, put_col, put_col, put_col, put_col, put_col, put_col, put_col]
  generalize y 1 = h
  revert h
  have key : ∀ h : Fin 8, (if h.val = 7 then w 7 (ix2 (y 0) (0 : Fin 1)) else if h.val = 6 then w 6 (ix2 (y 0) (0 : Fin 1))
      else if h.val = 5 then w 5 (ix2 (y 0) (0 : Fin 1)) else if h.val = 4 then w 4 (ix2 (y 0) (0 : Fin 1))
      else if h.val = 3 then w 3 (ix2 (y 0) (0 : Fin 1)) else if h.val = 2 then w 2 (ix2 (y 0) (0 : Fin 1))
      else if h.val = 1 then w 1 (ix2 (y 0) (0 : Fin 1)) else if h.val = 0 then w 0 (ix2 (y 0) (0 : Fin 1)) else x y)
      = w h (ix2 (y 0) (0 : Fin 1)) := by
    intro h; fin_cases h <;> rfl
  exact key

theorem bodySt_eq (I : Ins F) (i : grid0.Coords) (s : St F) :
    bodySt I i s = ⟨scale8 i (dqOut I i (zero8 i s.y8)), dkOut I i, dvOut I i, dcOut I i, rsOut I i (zero12 i s.y12)⟩ := by
  unfold bodySt
  rw [finish_eq, start_eq]
  unfold groupAll
  rw [later_eq, later_eq]
  refine St.ext rfl ?_ ?_ ?_ rfl
  · exact lanes4 _ fun p => join k0_pay160 (carryH I i (hd0 p) (8 - 2 * (i 0).val)).1 (carryH I i (hd1 p) (8 - 2 * (i 0).val)).1
  · exact lanes4 _ fun p => join k0_pay160 (carryH I i (hd0 p) (8 - 2 * (i 0).val)).2.1 (carryH I i (hd1 p) (8 - 2 * (i 0).val)).2.1
  · exact cols8 _ fun h => (carryH I i h (8 - 2 * (i 0).val)).2.2

end Cert.FoxIdeal.Hand
-- ==== Proof.FoxFrame.lean ====
module

public import proofs.«01_k».proof.Proof.FoxOut
public import Idealize.ShloMosaic.Lib.Claim

/-! # The run of the attention's backward call

`run_main`: the whole program runs to its end with every semaphore at zero, and each array of the call holds what the
points of the grid leave in it (`outsAt`). -/

@[expose] public section

noncomputable section

namespace Cert.FoxIdeal.Hand

open Cert.FoxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The blocks that the body reads at point `t`. -/
def insAt (c : Dev nD) (t : Fin cfg0.N) : Ins F :=
  ⟨iblk m c 0 t, iblk m c 1 t, iblk m c 2 t, iblk m c 3 t, iblk m c 4 t, iblk m c 5 t, iblk m c 6 t⟩

/-- The two accumulators after point `n`. -/
def accs (c : Dev nD) : (n : Nat) → n < cfg0.N → Vec F S2048x512 .f32 × Vec F S8x8x256 .f32
  | 0, h =>
    (scale8 (grid0.coords ⟨0, h⟩) (dqOut (insAt m c ⟨0, h⟩) (grid0.coords ⟨0, h⟩) (k0_pay158 (F := F))),
     rsOut (insAt m c ⟨0, h⟩) (grid0.coords ⟨0, h⟩) (k0_pay159 (F := F)))
  | n + 1, h =>
    (scale8 (grid0.coords ⟨n + 1, h⟩) (dqOut (insAt m c ⟨n + 1, h⟩) (grid0.coords ⟨n + 1, h⟩) (accs c n (Nat.lt_of_succ_lt h)).1),
     rsOut (insAt m c ⟨n + 1, h⟩) (grid0.coords ⟨n + 1, h⟩) (accs c n (Nat.lt_of_succ_lt h)).2)

/-- The contents after point `t`. -/
def outsAt (c : Dev nD) (t : Fin cfg0.N) : St F :=
  ⟨(accs m c t.val t.isLt).1, dkOut (insAt m c t) (grid0.coords t), dvOut (insAt m c t) (grid0.coords t),
   dcOut (insAt m c t) (grid0.coords t), (accs m c t.val t.isLt).2⟩

/-- The proof data: inputs stay at their blocks, outputs hold what `outsAt` says. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt m c t).y8
    | ⟨8, _⟩ => (outsAt m c t).y9
    | ⟨9, _⟩ => (outsAt m c t).y10
    | ⟨10, _⟩ => (outsAt m c t).y11
    | ⟨11, _⟩ => (outsAt m c t).y12
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

/-! ### What the body finds -/

/-- The grid's coordinate at a point is the point's number. -/
theorem coord0 : ∀ t : Fin grid0.N, (grid0.coords t 0).val = t.val := by decide +kernel

theorem first_iff : ∀ t : Fin grid0.N, condFirst (grid0.coords t) ↔ t.val = 0 := by decide +kernel

theorem before0 (c : Dev nD) (t : Fin cfg0.N) (d) : (dats m 0 c).before 0 t d = iblk m c 0 t :=
  before0_0_of m (dats m 0 c) (A_eq m c 0) (fun t => by dsimp only [dats]) t d
theorem before1 (c : Dev nD) (t : Fin cfg0.N) (d) : (dats m 0 c).before 1 t d = iblk m c 1 t :=
  before0_1_of m (dats m 0 c) (A_eq m c 1) (fun t => by dsimp only [dats]) t d
theorem before2 (c : Dev nD) (t : Fin cfg0.N) (d) : (dats m 0 c).before 2 t d = iblk m c 2 t :=
  before0_2_of m (dats m 0 c) (A_eq m c 2) (fun t => by dsimp only [dats]) t d
theorem before3 (c : Dev nD) (t : Fin cfg0.N) (d) : (dats m 0 c).before 3 t d = iblk m c 3 t :=
  before0_3_of m (dats m 0 c) (A_eq m c 3) (fun t => by dsimp only [dats]) t d
theorem before4 (c : Dev nD) (t : Fin cfg0.N) (d) : (dats m 0 c).before 4 t d = iblk m c 4 t :=
  before0_4_of m (dats m 0 c) (A_eq m c 4) (fun t => by dsimp only [dats]) t d
theorem before5 (c : Dev nD) (t : Fin cfg0.N) (d) : (dats m 0 c).before 5 t d = iblk m c 5 t :=
  before0_5_of m (dats m 0 c) (A_eq m c 5) (fun t => by dsimp only [dats]) t d
theorem before6 (c : Dev nD) (t : Fin cfg0.N) (d) : (dats m 0 c).before 6 t d = iblk m c 6 t :=
  before0_6_of m (dats m 0 c) (A_eq m c 6) (fun t => by dsimp only [dats]) t d

/-- The accumulators the body finds at point `t`, with anything in them at the first. -/
def accBefore (c : Dev nD) (t : Fin cfg0.N) (y : Vec F S2048x512 .f32) (z : Vec F S8x8x256 .f32) :
    Vec F S2048x512 .f32 × Vec F S8x8x256 .f32 :=
  if t.val = 0 then (y, z) else accs m c (t.val - 1) (Nat.lt_of_le_of_lt (Nat.sub_le _ _) t.isLt)

theorem before7 (c : Dev nD) (t : Fin cfg0.N) (d z) : (dats m 0 c).before 7 t d = (accBefore m c t d z).1 := by
  have hN : t.val < 4 := lt_of_lt_of_eq t.isLt (show cfg0.N = 4 from N_0)
  unfold accBefore
  by_cases h : t.val = 0
  · rw [if_pos h]; exact Dat.before_out_reset _ 7 rfl t (.inl h) d
  · rw [if_neg h, Dat.before_out_kept _ 7 rfl t h ?_ (fun _ => rfl) (fun _ _ => rfl)]
    · dsimp only [dats, outsAt]
    · refine Bool.eq_false_iff.mpr fun hf => ?_
      have := (flush0_7 _).mp hf
      dsimp only at this; omega

theorem before11 (c : Dev nD) (t : Fin cfg0.N) (d y) : (dats m 0 c).before 11 t d = (accBefore m c t y d).2 := by
  have hN : t.val < 4 := lt_of_lt_of_eq t.isLt (show cfg0.N = 4 from N_0)
  unfold accBefore
  by_cases h : t.val = 0
  · rw [if_pos h]; exact Dat.before_out_reset _ 11 rfl t (.inl h) d
  · rw [if_neg h, Dat.before_out_kept _ 11 rfl t h ?_ (fun _ => rfl) (fun _ _ => rfl)]
    · dsimp only [dats, outsAt]
    · refine Bool.eq_false_iff.mpr fun hf => ?_
      have := (flush0_11 _).mp hf
      dsimp only at this; omega

/-- The body leaves what the proof data says. -/
theorem bodySt_at (c : Dev nD) (t : Fin cfg0.N) (y : Vec F S2048x512 .f32) (a b : Vec F S512x512 .bf16) (d : Vec F S512x8 .f32)
    (z : Vec F S8x8x256 .f32) :
    bodySt (insAt m c t) (grid0.coords t) ⟨(accBefore m c t y z).1, a, b, d, (accBefore m c t y z).2⟩ = outsAt m c t := by
  rw [bodySt_eq]
  unfold outsAt accBefore zero8 zero12
  obtain ⟨n, hn⟩ := t
  cases n with
  | zero => rw [if_pos ((first_iff _).mpr rfl), if_pos ((first_iff _).mpr rfl)]; rfl
  | succ n =>
    rw [if_neg (fun h => absurd ((first_iff _).mp h) (Nat.succ_ne_zero n)), if_neg (fun h => absurd ((first_iff _).mp h) (Nat.succ_ne_zero n))]
    rfl

/-! ### The body's triple -/

/-- The staging buffers of point `t`. -/
def refsAt (t : Fin cfg0.N) : Refs where
  a1 := st0_0 t
  h1 := hstage0_0 ((cfg0.slots t 0).cast nbuf0_0)
  a2 := st0_1 t
  h2 := hstage0_1 ((cfg0.slots t 1).cast nbuf0_1)
  a3 := st0_2 t
  h3 := hstage0_2 ((cfg0.slots t 2).cast nbuf0_2)
  a4 := st0_3 t
  h4 := hstage0_3 ((cfg0.slots t 3).cast nbuf0_3)
  a5 := st0_4 t
  h5 := hstage0_4 ((cfg0.slots t 4).cast nbuf0_4)
  a6 := st0_5 t
  h6 := hstage0_5 ((cfg0.slots t 5).cast nbuf0_5)
  a7 := st0_6 t
  h7 := hstage0_6 ((cfg0.slots t 6).cast nbuf0_6)
  a8 := st0_7 t
  h8 := hstage0_7 ((cfg0.slots t 7).cast nbuf0_7)
  a9 := st0_8 t
  h9 := hstage0_8 ((cfg0.slots t 8).cast nbuf0_8)
  a10 := st0_9 t
  h10 := hstage0_9 ((cfg0.slots t 9).cast nbuf0_9)
  a11 := st0_10 t
  h11 := hstage0_10 ((cfg0.slots t 10).cast nbuf0_10)
  a12 := st0_11 t
  h12 := hstage0_11 ((cfg0.slots t 11).cast nbuf0_11)

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

theorem leaves0 (c : Dev nD) (t : Fin cfg0.N) : (dats m 0 c).leavesExact 0 t = owns (c : Thread nD τ) (st0_0 t) fullShare (iblk m c 0 t) := by
  unfold Dat.leavesExact; dsimp only [dats, cfg0]
theorem leaves1 (c : Dev nD) (t : Fin cfg0.N) : (dats m 0 c).leavesExact 1 t = owns (c : Thread nD τ) (st0_1 t) fullShare (iblk m c 1 t) := by
  unfold Dat.leavesExact; dsimp only [dats, cfg0]
theorem leaves2 (c : Dev nD) (t : Fin cfg0.N) : (dats m 0 c).leavesExact 2 t = owns (c : Thread nD τ) (st0_2 t) fullShare (iblk m c 2 t) := by
  unfold Dat.leavesExact; dsimp only [dats, cfg0]
theorem leaves3 (c : Dev nD) (t : Fin cfg0.N) : (dats m 0 c).leavesExact 3 t = owns (c : Thread nD τ) (st0_3 t) fullShare (iblk m c 3 t) := by
  unfold Dat.leavesExact; dsimp only [dats, cfg0]
theorem leaves4 (c : Dev nD) (t : Fin cfg0.N) : (dats m 0 c).leavesExact 4 t = owns (c : Thread nD τ) (st0_4 t) fullShare (iblk m c 4 t) := by
  unfold Dat.leavesExact; dsimp only [dats, cfg0]
theorem leaves5 (c : Dev nD) (t : Fin cfg0.N) : (dats m 0 c).leavesExact 5 t = owns (c : Thread nD τ) (st0_5 t) fullShare (iblk m c 5 t) := by
  unfold Dat.leavesExact; dsimp only [dats, cfg0]
theorem leaves6 (c : Dev nD) (t : Fin cfg0.N) : (dats m 0 c).leavesExact 6 t = owns (c : Thread nD τ) (st0_6 t) fullShare (iblk m c 6 t) := by
  unfold Dat.leavesExact; dsimp only [dats, cfg0]
theorem leaves7 (c : Dev nD) (t : Fin cfg0.N) : (dats m 0 c).leavesExact 7 t = owns (c : Thread nD τ) (st0_7 t) fullShare (outsAt m c t).y8 := by
  unfold Dat.leavesExact; dsimp only [dats, cfg0]
theorem leaves8 (c : Dev nD) (t : Fin cfg0.N) : (dats m 0 c).leavesExact 8 t = owns (c : Thread nD τ) (st0_8 t) fullShare (outsAt m c t).y9 := by
  unfold Dat.leavesExact; dsimp only [dats, cfg0]
theorem leaves9 (c : Dev nD) (t : Fin cfg0.N) : (dats m 0 c).leavesExact 9 t = owns (c : Thread nD τ) (st0_9 t) fullShare (outsAt m c t).y10 := by
  unfold Dat.leavesExact; dsimp only [dats, cfg0]
theorem leaves10 (c : Dev nD) (t : Fin cfg0.N) : (dats m 0 c).leavesExact 10 t = owns (c : Thread nD τ) (st0_10 t) fullShare (outsAt m c t).y11 := by
  unfold Dat.leavesExact; dsimp only [dats, cfg0]
theorem leaves11 (c : Dev nD) (t : Fin cfg0.N) : (dats m 0 c).leavesExact 11 t = owns (c : Thread nD τ) (st0_11 t) fullShare (outsAt m c t).y12 := by
  unfold Dat.leavesExact; dsimp only [dats, cfg0]

/-- The body at a point, from the buffers one by one to the buffers one by one, what else there is left alone. -/
theorem run_at (c : Dev nD) (i : grid0.Coords) (R : Refs) (I : Ins F) (s s' : St F) (h : bodySt I i s = s') (Φ O : sProp 𝕄) :
    iprop(Φ ∗ O ∗ own c R I s) ⊢ wp frame (wpE (defs₀ (F := F)) Variants.none c none) Set.univ
      (cc0_fox_bwd (F := F) i R.a1 R.h1 R.a2 R.h2 R.a3 R.h3 R.a4 R.h4 R.a5 R.h5 R.a6 R.h6 R.a7 R.h7 R.a8 R.h8 R.a9 R.h9 R.a10 R.h10 R.a11 R.h11 R.a12 R.h12)
      (fun _ => iprop(Φ ∗ O ∗ own c R I s')) := by
  subst h
  iintro ⟨HΦ, HO, H⟩
  iapply (run_body R I i s c Set.univ _)
  isplitl [H]; · iexact H
  iintro H
  isplitl [HΦ]; · iexact HΦ
  isplitl [HO]; · iexact HO
  iexact H

theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0, before1, before2, before3, before4, before5, before6]
  rw [show (dats m 0 c).Φ t.succ = (dats m 0 c).Φ t.castSucc from rfl,
    show (dats m 0 c).owesAt () t.succ = (dats m 0 c).owesAt () t.castSucc from rfl]
  rw [leaves0, leaves1, leaves2, leaves3, leaves4, leaves5, leaves6, leaves7, leaves8, leaves9, leaves10, leaves11]
  generalize (dats m 0 c).Φ t.castSucc = Φ
  generalize (dats m 0 c).owesAt () t.castSucc = O
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  rw [before7 m c t d7 d11, before11 m c t d11 d7]
  have key := run_at c (grid0.coords t) (refsAt t) (insAt m c t)
    ⟨(accBefore m c t d7 d11).1, (dats m 0 c).before 8 t d8, (dats m 0 c).before 9 t d9, (dats m 0 c).before 10 t d10,
      (accBefore m c t d7 d11).2⟩ _ (bodySt_at m c t d7 _ _ _ d11) Φ O
  unfold own at key
  dsimp only [insAt, refsAt] at key
  iapply key
  iframe

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ### The run -/

set_option backward.isDefEq.respectTransparency.types false in
/-- The program ends, each array at what the proof data says, every semaphore at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_shared (Q' := _) cfgs (dats m) (0 : Fin 1) launch₀0 defs₀ Variants.none m ρ main
    (hbody := fun c => (body_obligation m c).loose) (hq := fun _ _ _ => rfl) (howed := fun _ _ => rfl) (V₀ := V0 m)
    (opss := [hostOps1]) (hsub := sfx_sub) (hfresh := sfx_fresh) (hkeep := sfx_keeps) (hmain := hmain m Variants.none)
    (hA := A_eq m) (hΦ := fun _ _ => rfl)

/-- The frame: the arguments end as they were, every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.FoxIdeal.Hand
-- ==== Proof.FoxBits.lean ====
module

public import proofs.«01_k».proof.Defs
public import proofs.«01_k».proof.Proof.FoxFrame
public import proofs.«01_k».proof.Proof.Gen.Fox
public import Idealize.ShloMosaic.Lib.Claim

/-! # The frames of the attention's backward call

Both programs have the same text, so the run over any float values gives both frames. -/

@[expose] public section

noncomputable section

namespace Cert.FoxIdeal.Hand

open Idealize.ShloMosaic Idealize.ShloMosaic.TcCoe Idealize.SL.Sem Idealize.ShloMosaic.Tactic

set_option maxRecDepth 65536 in
/-- The program over words is the ideal program's text. -/
theorem main_bits : (Cert.Fox.main (F := Bits)) = (Cert.FoxIdeal.main (F := Bits)) := by sl_kernel_rfl
set_option maxRecDepth 65536 in
theorem defs_bits : (Cert.Fox.defs (F := Bits)) = (Cert.FoxIdeal.defs (F := Bits)) := by sl_kernel_rfl

/-- The frame of the program over words. -/
theorem frame_bits : Cert.quiescent_Fox := fun m g _ => by
  have h := frame (F := Bits) m g
  rw [← defs_bits, ← main_bits] at h
  exact h

end Cert.FoxIdeal.Hand
-- ==== Proof.FoxVal.lean ====
module

public import proofs.«01_k».proof.Proof.FoxOut
public import Idealize.ShloMosaic.Lib.WordCmp

/-! # A band's values over the extended reals

What one head makes of one band of query rows, element by element: `prob` is the probability of a key under a row,
`dscore` the gradient of their score, and the step adds to the carried gradients the sums over the band's rows. The
block's first band, which the kernel computes over half of the keys, is the same formula: the other keys come after
all of the band's rows, and their probability is zero. -/

@[expose] public section

noncomputable section

namespace Cert.FoxIdeal.Hand

open Cert.FoxIdeal.Gen
open Idealize.ShloMosaic
open Idealize.ShloMosaic.WordCmp

/-- The probability of the block's key `a` under row `r` of its `b`-th band. -/
def prob (b : Nat) (H : Head Ideal) (q : FVec Ideal S256x128 .bf16) (l : Vec Ideal S1x1x256 .f32)
    (a : Fin 512) (r : Fin 256) : EReal :=
  if a.val ≤ 256 * b + r.val then
    Ideal.exp ((∑ x : Fin 128, H.k (ix2 a x) * q (ix2 r x)) - H.c (ix2 a (0 : Fin 1)) - l (ix3 (0 : Fin 1) (0 : Fin 1) r))
  else 0

/-- The gradient of their score. -/
def dscore (b : Nat) (H : Head Ideal) (q d : FVec Ideal S256x128 .bf16) (l e : Vec Ideal S1x1x256 .f32)
    (a : Fin 512) (r : Fin 256) : EReal :=
  prob b H q l a r * ((∑ x : Fin 128, H.v (ix2 a x) * d (ix2 r x)) - e (ix3 (0 : Fin 1) (0 : Fin 1) r))

/-- What a step's outputs are, element by element. -/
structure StepIs (b : Nat) (H : Head Ideal) (C : Carry Ideal) (f : HeadFn Ideal) : Prop where
  dk : ∀ q d l e (a : Fin 512) (x : Fin 128), (f q d l e).carry.1 (ix2 a x)
    = C.1 (ix2 a x) + ∑ r : Fin 256, dscore b H q d l e a r * q (ix2 r x)
  dv : ∀ q d l e (a : Fin 512) (x : Fin 128), (f q d l e).carry.2.1 (ix2 a x)
    = C.2.1 (ix2 a x) + ∑ r : Fin 256, prob b H q l a r * d (ix2 r x)
  dc : ∀ q d l e (a : Fin 512), (f q d l e).carry.2.2 (ix2 a (0 : Fin 1))
    = C.2.2 (ix2 a (0 : Fin 1)) - ∑ r : Fin 256, dscore b H q d l e a r
  rs : ∀ q d l e (r : Fin 256), (f q d l e).rs (ix1 r) = ∑ a : Fin 512, dscore b H q d l e a r
  part : ∀ q d l e (r : Fin 256) (x : Fin 128), (f q d l e).part (ix2 r x)
    = ∑ a : Fin 512, dscore b H q d l e a r * H.k (ix2 a x)

theorem full_is (b : Nat) (mask : FVec Ideal S512x256 .f32 → FVec Ideal S512x256 .f32)
    (hm : ∀ p (a : Fin 512) (r : Fin 256), mask p (ix2 a r) = if a.val ≤ 256 * b + r.val then p (ix2 a r) else 0)
    (H : Head Ideal) (C : Carry Ideal) : StepIs b H C (full mask H C) where
  dk := by
    intro q d l e a x
    unfold full dscore prob
    pointwise [hm]
  dv := by
    intro q d l e a x
    unfold full prob
    pointwise [hm]
  dc := by
    intro q d l e a
    unfold full dscore prob
    pointwise [hm]
  rs := by
    intro q d l e r
    unfold full dscore prob
    pointwise [hm]
  part := by
    intro q d l e r x
    unfold full dscore prob
    pointwise [hm]

/-- A selection by the comparison of two small numbers. -/
theorem select_ge {α : Type} (x y : Nat) (hx : x < 2 ^ 31) (hy : y < 2 ^ 31) (u v : α) :
    Scalar.select (IntOp.cmpi .sge (BitVec.ofNat 32 x) (BitVec.ofNat 32 y)) u v = if y ≤ x then u else v := by
  rw [cmpi_sge_ofNat hx hy]
  unfold Scalar.select
  by_cases h : y ≤ x <;> simp [h]

theorem mask1_is (p : FVec Ideal S512x256 .f32) (a : Fin 512) (r : Fin 256) :
    mask1 rowIx colIx p (ix2 a r) = if a.val ≤ 256 * 1 + r.val then p (ix2 a r) else 0 := by
  unfold mask1 rowIx colIx
  pointwise
  have ha := a.isLt
  have hr := r.isLt
  rw [show IntOp.addi (BitVec.ofNat 32 r.val) 256#32 = BitVec.ofNat 32 (256 + r.val) from by
    show BitVec.ofNat 32 r.val + BitVec.ofNat 32 256 = _
    rw [← BitVec.ofNat_add, Nat.add_comm], select_ge _ _ (by omega) (by omega)]

theorem mask0_is (p : FVec Ideal S256x256 .f32) (a : Fin 256) (r : Fin 256) :
    mask0 rowIx colIx p (ix2 a r) = if a.val ≤ r.val then p (ix2 a r) else 0 := by
  unfold mask0 rowIx colIx
  pointwise
  have ha := a.isLt
  have hr := r.isLt
  rw [show IntOp.addi (BitVec.ofNat 32 r.val) 0#32 = BitVec.ofNat 32 r.val from BitVec.add_zero _,
    select_ge _ _ (by omega) (by omega)]

/-- A sum over the block's keys whose terms vanish from the 256th key on. -/
theorem sum_first (f : Fin 512 → EReal) (h : ∀ a : Fin 512, 256 ≤ a.val → f a = 0) :
    ∑ a : Fin 256, f ⟨a.val, by omega⟩ = ∑ a : Fin 512, f a := by
  have e : ∑ a : Fin 512, f a = ∑ a : Fin 256, f ⟨a.val, by omega⟩ + ∑ a : Fin 256, f ⟨256 + a.val, by omega⟩ :=
    Fin.sum_univ_add (a := 256) (b := 256) f
  rw [e, Finset.sum_eq_zero (s := (Finset.univ : Finset (Fin 256))) (f := fun a => f ⟨256 + a.val, by omega⟩)
    (fun a _ => h _ (Nat.le_add_right _ _)), add_zero]

theorem prob_zero {b : Nat} {H : Head Ideal} {q : FVec Ideal S256x128 .bf16} {l : Vec Ideal S1x1x256 .f32}
    {a : Fin 512} {r : Fin 256} (h : ¬ a.val ≤ 256 * b + r.val) : prob b H q l a r = 0 := if_neg h

theorem dscore_zero {b : Nat} {H : Head Ideal} {q d : FVec Ideal S256x128 .bf16} {l e : Vec Ideal S1x1x256 .f32}
    {a : Fin 512} {r : Fin 256} (h : ¬ a.val ≤ 256 * b + r.val) : dscore b H q d l e a r = 0 := by
  unfold dscore; rw [prob_zero h, zero_mul]

/-- The key `256 + (a - 256)` is `a`. -/
theorem back (a : Fin 512) (h : ¬ a.val < 256) (p) : (⟨256 + (a.val - 256), p⟩ : Fin 512) = a := Fin.ext (by simp only; omega)

theorem late {a : Fin 512} (h : 256 ≤ a.val) (r : Fin 256) : ¬ a.val ≤ 256 * 0 + r.val := by omega

theorem half_is (H : Head Ideal) (C : Carry Ideal) : StepIs 0 H C (half (mask0 rowIx colIx) H C) where
  dk := by
    intro q d l e a x
    by_cases h : a.val < 256
    · unfold half dscore prob
      pointwise [mask0_is]
      rw [dif_pos h]
    · rw [Finset.sum_eq_zero fun r _ => by rw [dscore_zero (late (by omega) r), zero_mul], add_zero]
      unfold half
      pointwise [mask0_is]
      rw [dif_neg h, back a h]
  dv := by
    intro q d l e a x
    by_cases h : a.val < 256
    · unfold half prob
      pointwise [mask0_is]
      rw [dif_pos h]
    · rw [Finset.sum_eq_zero fun r _ => by rw [prob_zero (late (by omega) r), zero_mul], add_zero]
      unfold half
      pointwise [mask0_is]
      rw [dif_neg h, back a h]
  dc := by
    intro q d l e a
    by_cases h : a.val < 256
    · unfold half dscore prob
      pointwise [mask0_is]
      rw [dif_pos h]
    · rw [Finset.sum_eq_zero fun r _ => dscore_zero (late (by omega) r), sub_zero]
      unfold half
      pointwise [mask0_is]
      rw [dif_neg h, back a h]
  rs := by
    intro q d l e r
    rw [← sum_first _ fun a ha => dscore_zero (late ha r)]
    unfold half dscore prob
    pointwise [mask0_is]
  part := by
    intro q d l e r x
    rw [← sum_first _ fun a ha => by rw [dscore_zero (late ha r), zero_mul]]
    unfold half dscore prob
    pointwise [mask0_is]

/-- The step of every band. -/
theorem step_is (b : Nat) (H : Head Ideal) (C : Carry Ideal) : StepIs b H C (stepFn b H C) := by
  unfold stepFn
  by_cases h0 : b = 0
  · subst h0; exact half_is H C
  · rw [if_neg h0]
    by_cases h1 : b = 1
    · subst h1; exact full_is 1 _ mask1_is H C
    · rw [if_neg h1]
      exact full_is b id (fun p a r => by rw [if_pos (by have := a.isLt; omega)]; rfl) H C

end Cert.FoxIdeal.Hand
-- ==== Proof.FoxHead.lean ====
module

public import proofs.«01_k».proof.Proof.FoxVal

/-! # A head over all of its bands

The probability `prb` of the block's key `a` under query row `t`, and the gradient `dsc` of their score, from the staged
arrays and no longer from the lanes of a pair; and the sums that a band's step leaves, said with them. -/

@[expose] public section

noncomputable section

namespace Cert.FoxIdeal.Hand

open Cert.FoxIdeal.Gen
open Idealize.ShloMosaic
open Idealize.ShloMosaic.WordCmp

/-- Lane `d` of head `h`. -/
def ln (h : Fin 8) (d : Fin 64) : Fin 512 := ⟨64 * h.val + d.val, by have := h.isLt; have := d.isLt; omega⟩
/-- A row by its number. -/
def tq (t : Nat) : Fin 2048 := ⟨t % 2048, Nat.mod_lt _ (by decide)⟩
/-- The band of a row, and its place there. -/
def bnd (t : Fin 2048) : Fin 8 := ⟨t.val / 256, by have := t.isLt; omega⟩
@[inherit_doc bnd] def plc (t : Fin 2048) : Fin 256 := ⟨t.val % 256, Nat.mod_lt _ (by decide)⟩

/-- The probability of key `512 i + a` under query row `t`. -/
def prb (I : Ins Ideal) (i : Nat) (h : Fin 8) (a : Fin 512) (t : Fin 2048) : EReal :=
  if 512 * i + a.val ≤ t.val then
    Ideal.exp ((∑ d : Fin 64, I.x2 (ix2 a (ln h d)) * I.x1 (ix2 t (ln h d))) - I.x7 (ix2 a h) - I.x5 (ix3 h (bnd t) (plc t)))
  else 0

/-- The gradient of their score. -/
def dsc (I : Ins Ideal) (i : Nat) (h : Fin 8) (a : Fin 512) (t : Fin 2048) : EReal :=
  prb I i h a t * ((∑ d : Fin 64, I.x3 (ix2 a (ln h d)) * I.x4 (ix2 t (ln h d))) - I.x6 (ix3 h (bnd t) (plc t)))

theorem low_is (a : Fin 512) (x : Fin 128) {α : Type} (u v : α) :
    Scalar.select (k0_pay160 (ix2 a x)) u v = if x.val < 64 then u else v := by
  unfold k0_pay160
  pointwise
  rw [cmpi_slt_ofNat (w := 32) (a := x.val) (b := 64) (by have := x.isLt; omega) (by decide)]
  unfold Scalar.select
  by_cases h : x.val < 64 <;> simp [h]

/-- Lane `x` of the pair of head `h`. -/
def pl (h : Fin 8) (x : Fin 128) : Fin 512 := ⟨128 * (h.val / 2) + x.val, by have := h.isLt; have := x.isLt; omega⟩

theorem lanes_at (x : Vec Ideal S512x512 .bf16) (h : Fin 8) (a : Fin 512) (l : Fin 128) :
    lanes x (pairOf h) (ix2 a l) = x (ix2 a (pl h l)) := by
  unfold lanes
  refine congrArg x (funext fun b => Fin.ext ?_)
  fin_cases b
  · show 0 + 1 * a.val = a.val; omega
  · show 128 * (h.val / 2) + 1 * l.val = 128 * (h.val / 2) + l.val; omega

theorem lane_head (v : Vec Ideal S512x512 .bf16) (h : Fin 8) (a : Fin 512) (x : Fin 128) :
    (if h.val % 2 = 0 then lo k0_pay160 (lanes v (pairOf h)) else hi k0_pay160 (lanes v (pairOf h))) (ix2 a x)
      = if x.val / 64 = h.val % 2 then v (ix2 a (pl h x)) else 0 := by
  have hx := x.isLt
  by_cases p : h.val % 2 = 0
  · rw [if_pos p]
    unfold lo
    rw [shapeCast_self]
    pointwise
    rw [low_is, lanes_at]
    by_cases q : x.val < 64
    · rw [if_pos q, if_pos (by omega)]
    · rw [if_neg q, if_neg (by omega)]
  · rw [if_neg p]
    unfold hi
    rw [shapeCast_self]
    pointwise
    rw [low_is, lanes_at]
    by_cases q : x.val < 64
    · rw [if_pos q, if_neg (by omega)]
    · rw [if_neg q, if_pos (by omega)]

theorem headH_k (I : Ins Ideal) (h : Fin 8) (a : Fin 512) (x : Fin 128) :
    (headH I h).k (ix2 a x) = if x.val / 64 = h.val % 2 then I.x2 (ix2 a (pl h x)) else 0 := by
  rw [← lane_head I.x2 h a x]
  unfold headH
  split <;> rfl

theorem headH_v (I : Ins Ideal) (h : Fin 8) (a : Fin 512) (x : Fin 128) :
    (headH I h).v (ix2 a x) = if x.val / 64 = h.val % 2 then I.x3 (ix2 a (pl h x)) else 0 := by
  rw [← lane_head I.x3 h a x]
  unfold headH
  split <;> rfl

theorem headH_c (I : Ins Ideal) (h : Fin 8) (a : Fin 512) : (headH I h).c (ix2 a (0 : Fin 1)) = I.x7 (ix2 a h) := by
  have e : gcol I.x7 h (ix2 a (0 : Fin 1)) = I.x7 (ix2 a h) := by
    unfold gcol
    refine congrArg I.x7 (funext fun b => Fin.ext ?_)
    fin_cases b
    · show 0 + 1 * a.val = a.val; omega
    · show h.val + 1 * 0 = h.val; omega
  unfold headH
  split <;> exact e

/-- A sum over a pair's lanes of what is zero off one head's. -/
theorem sum_lanes (s : Nat) (hs : s < 2) (f : Fin 128 → EReal) (h : ∀ x : Fin 128, ¬ x.val / 64 = s → f x = 0) :
    ∑ x : Fin 128, f x = ∑ d : Fin 64, f ⟨64 * s + d.val, by have := d.isLt; omega⟩ := by
  have e : ∑ x : Fin 128, f x = ∑ d : Fin 64, f ⟨d.val, by omega⟩ + ∑ d : Fin 64, f ⟨64 + d.val, by omega⟩ :=
    Fin.sum_univ_add (a := 64) (b := 64) f
  rw [e]
  rcases (by omega : s = 0 ∨ s = 1) with rfl | rfl
  · rw [Finset.sum_eq_zero (s := (Finset.univ : Finset (Fin 64))) (f := fun d => f ⟨64 + d.val, by omega⟩)
      (fun d _ => h _ (by simp only; omega)), add_zero]
    exact Finset.sum_congr rfl fun d _ => congrArg f (Fin.ext (by simp only; omega))
  · rw [Finset.sum_eq_zero (s := (Finset.univ : Finset (Fin 64))) (f := fun d => f ⟨d.val, by omega⟩)
      (fun d _ => h _ (by simp only; omega)), zero_add]

/-- A product with a head's key side, over the pair's lanes, is over the head's own. -/
theorem sum_head (h : Fin 8) (u v : Fin 512 → EReal) :
    ∑ x : Fin 128, (if x.val / 64 = h.val % 2 then u (pl h x) else 0) * v (pl h x) = ∑ d : Fin 64, u (ln h d) * v (ln h d) := by
  have hh := h.isLt
  rw [sum_lanes (h.val % 2) (Nat.mod_lt _ (by decide)) _ (fun x hx => by rw [if_neg hx, zero_mul])]
  refine Finset.sum_congr rfl fun d _ => ?_
  have hd := d.isLt
  rw [if_pos (by simp only; omega), show pl h ⟨64 * (h.val % 2) + d.val, by omega⟩ = ln h d from
    Fin.ext (by show 128 * (h.val / 2) + (64 * (h.val % 2) + d.val) = 64 * h.val + d.val; omega)]

/-- Row `r` of the `b`-th band from block `i` on. -/
def rowT (i b : Nat) (r : Fin 256) : Fin 2048 := tq (256 * (2 * i + b) + r.val)

theorem rowT_val {i b : Nat} (hb : 2 * i + b ≤ 7) (r : Fin 256) : (rowT i b r).val = 256 * (2 * i + b) + r.val := by
  have := r.isLt
  show (256 * (2 * i + b) + r.val) % 2048 = _
  omega

variable {i b : Nat} (hb : 2 * i + b ≤ 7) (h : Fin 8)

include hb in
theorem q_at (x : Vec Ideal S2048x512 .bf16) (r : Fin 256) (l : Fin 128) :
    (VecWindow.window x (qo (pairOf h) (2 * i + b)) S256x128.size (qo_in _ _) : Vec Ideal S256x128 .bf16) (ix2 r l)
      = x (ix2 (rowT i b r) (pl h l)) := by
  refine congrArg x (funext fun a => Fin.ext ?_)
  fin_cases a
  · show 256 * min (2 * i + b) 7 + 1 * r.val = (rowT i b r).val
    rw [rowT_val hb]; omega
  · show 128 * (h.val / 2) + 1 * l.val = 128 * (h.val / 2) + l.val; omega

include hb in
theorem r_at (x : Vec Ideal S8x8x256 .f32) (r : Fin 256) :
    (VecWindow.window x (ro h (2 * i + b)) S1x1x256.size (ro_in _ _) : Vec Ideal S1x1x256 .f32) (ix3 (0 : Fin 1) (0 : Fin 1) r)
      = x (ix3 h (bnd (rowT i b r)) (plc (rowT i b r))) := by
  have hr := r.isLt
  refine congrArg x (funext fun a => Fin.ext ?_)
  fin_cases a
  · show h.val + 1 * 0 = h.val; omega
  · show min (2 * i + b) 7 + 1 * 0 = (rowT i b r).val / 256
    rw [rowT_val hb]; omega
  · show 0 + 1 * r.val = (rowT i b r).val % 256
    rw [rowT_val hb]; omega

variable (I : Ins Ideal)

/-- The step of a band, at what it reads. -/
structure Reads (q d : FVec Ideal S256x128 .bf16) (l e : Vec Ideal S1x1x256 .f32) (i b : Nat) : Prop where
  q : ∀ (r : Fin 256) (x : Fin 128), q (ix2 r x) = I.x1 (ix2 (rowT i b r) (pl h x))
  d : ∀ (r : Fin 256) (x : Fin 128), d (ix2 r x) = I.x4 (ix2 (rowT i b r) (pl h x))
  l : ∀ (r : Fin 256), l (ix3 (0 : Fin 1) (0 : Fin 1) r) = I.x5 (ix3 h (bnd (rowT i b r)) (plc (rowT i b r)))
  e : ∀ (r : Fin 256), e (ix3 (0 : Fin 1) (0 : Fin 1) r) = I.x6 (ix3 h (bnd (rowT i b r)) (plc (rowT i b r)))

variable {h I} {q d : FVec Ideal S256x128 .bf16} {l e : Vec Ideal S1x1x256 .f32} (R : Reads h I q d l e i b)

include hb R in
theorem prob_eq (a : Fin 512) (r : Fin 256) : prob b (headH I h) q l a r = prb I i h a (rowT i b r) := by
  unfold prob prb
  rw [rowT_val hb, headH_c, R.l]
  simp only [R.q, headH_k]
  rw [sum_head h (fun l => I.x2 (ix2 a l)) (fun l => I.x1 (ix2 (rowT i b r) l))]
  by_cases hc : a.val ≤ 256 * b + r.val
  · rw [if_pos hc, if_pos (by omega)]
  · rw [if_neg hc, if_neg (by omega)]

include hb R in
theorem dscore_eq (a : Fin 512) (r : Fin 256) : dscore b (headH I h) q d l e a r = dsc I i h a (rowT i b r) := by
  unfold dscore dsc
  rw [prob_eq hb R, R.e]
  simp only [R.d, headH_v]
  rw [sum_head h (fun l => I.x3 (ix2 a l)) (fun l => I.x4 (ix2 (rowT i b r) l))]

/-- What a band makes of head `h`, whatever is carried. -/
structure BandIs (I : Ins Ideal) (h : Fin 8) (i b : Nat) (C : Carry Ideal) (o : Out Ideal) : Prop where
  dk : ∀ (a : Fin 512) (x : Fin 128), o.carry.1 (ix2 a x)
    = C.1 (ix2 a x) + ∑ r : Fin 256, dsc I i h a (rowT i b r) * I.x1 (ix2 (rowT i b r) (pl h x))
  dv : ∀ (a : Fin 512) (x : Fin 128), o.carry.2.1 (ix2 a x)
    = C.2.1 (ix2 a x) + ∑ r : Fin 256, prb I i h a (rowT i b r) * I.x4 (ix2 (rowT i b r) (pl h x))
  dc : ∀ (a : Fin 512), o.carry.2.2 (ix2 a (0 : Fin 1))
    = C.2.2 (ix2 a (0 : Fin 1)) - ∑ r : Fin 256, dsc I i h a (rowT i b r)
  rs : ∀ (r : Fin 256), o.rs (ix1 r) = ∑ a : Fin 512, dsc I i h a (rowT i b r)
  part : ∀ (r : Fin 256) (x : Fin 128), o.part (ix2 r x)
    = ∑ a : Fin 512, dsc I i h a (rowT i b r) * (if x.val / 64 = h.val % 2 then I.x2 (ix2 a (pl h x)) else 0)

include hb R in
theorem band_is {C : Carry Ideal} {f : HeadFn Ideal} (S : StepIs b (headH I h) C f) : BandIs I h i b C (f q d l e) where
  dk a x := by rw [S.dk]; simp only [dscore_eq hb R, R.q]
  dv a x := by rw [S.dv]; simp only [prob_eq hb R, R.d]
  dc a := by rw [S.dc]; simp only [dscore_eq hb R]
  rs r := by rw [S.rs]; simp only [dscore_eq hb R]
  part r x := by rw [S.part]; simp only [dscore_eq hb R, headH_k]

theorem cast_self (v : Vec Ideal S256x128 .bf16) (hc) (j) : shapeCast S256x128 v hc j = v j := congrFun (shapeCast_self _ _) j

include hb in
theorem outC_is (I : Ins Ideal) (h : Fin 8) (gi : grid0.Coords) (hi : (gi 0).val = i) (C : Carry Ideal) :
    BandIs I h i b C (outC I gi h b C) := by
  subst hi
  exact band_is hb ⟨fun r x => (cast_self _ _ _).trans (q_at hb h _ r x), fun r x => (cast_self _ _ _).trans (q_at hb h _ r x),
    r_at hb h _, r_at hb h _⟩ (step_is b (headH I h) C)

end Cert.FoxIdeal.Hand
-- ==== Proof.FoxSum.lean ====
module

public import proofs.«01_k».proof.Proof.FoxHead

/-! # What one grid point leaves, as sums

The block's gradients of keys, values and gates are sums over all 2048 query rows (those before the block add zero), and
`dq` and the query side of the gates' gradient grow by sums over the block's 512 keys. -/

@[expose] public section

noncomputable section

namespace Cert.FoxIdeal.Hand

open Cert.FoxIdeal.Gen
open Idealize.ShloMosaic

/-! ## Sums over bands -/

theorem coe_sum {ι : Type} (s : Finset ι) (f : ι → ℝ) : ((∑ x ∈ s, f x : ℝ) : EReal) = ∑ x ∈ s, ((f x : ℝ) : EReal) := by
  induction s using Finset.cons_induction with
  | empty => rfl
  | cons a s h ih => rw [Finset.sum_cons, Finset.sum_cons, EReal.coe_add, ih]

theorem sum_bands (g : Nat → EReal) (n : Nat) :
    ∑ b ∈ Finset.range n, ∑ r : Fin 256, g (256 * b + r.val) = ∑ t ∈ Finset.range (256 * n), g t := by
  induction n with
  | zero => rfl
  | succ n ih =>
    rw [Finset.sum_range_succ, ih, Nat.mul_succ, Finset.sum_range_add, Finset.sum_range (fun x => g (256 * n + x))]

/-- The bands from the block's own on make up all rows, where the rows before add nothing. -/
theorem sum_rows {i : Nat} (hi : i < 4) (f : Fin 2048 → EReal) (h0 : ∀ t : Fin 2048, t.val < 512 * i → f t = 0) :
    ∑ b ∈ Finset.range (8 - 2 * i), ∑ r : Fin 256, f (rowT i b r) = ∑ t : Fin 2048, f t := by
  have e : ∑ t : Fin 2048, f t = ∑ t ∈ Finset.range (256 * 8), f (tq t) := by
    rw [Finset.sum_range]
    exact Finset.sum_congr rfl fun t _ => congrArg f (Fin.ext (Nat.mod_eq_of_lt t.isLt).symm)
  rw [e, ← sum_bands (fun t => f (tq t)), show Finset.range 8 = Finset.range (2 * i + (8 - 2 * i)) from by
    rw [show 2 * i + (8 - 2 * i) = 8 from by omega], Finset.sum_range_add,
    Finset.sum_eq_zero (s := Finset.range (2 * i)) (fun b hb => Finset.sum_eq_zero fun r _ => h0 _ (by
      have := Finset.mem_range.mp hb
      have := r.isLt
      show (256 * b + r.val) % 2048 < 512 * i
      omega)), zero_add]
  rfl

theorem prb_zero {I : Ins Ideal} {i : Nat} {h : Fin 8} {a : Fin 512} {t : Fin 2048} (ht : t.val < 512 * i) : prb I i h a t = 0 :=
  if_neg (by omega)
theorem dsc_zero {I : Ins Ideal} {i : Nat} {h : Fin 8} {a : Fin 512} {t : Fin 2048} (ht : t.val < 512 * i) : dsc I i h a t = 0 := by
  unfold dsc; rw [prb_zero ht, zero_mul]

variable (I : Ins Ideal) (gi : grid0.Coords)

/-! ## The carried gradients -/

theorem carry_dk (h : Fin 8) (a : Fin 512) (x : Fin 128) (n : Nat) (hn : n ≤ 8 - 2 * (gi 0).val) :
    (carryH I gi h n).1 (ix2 a x)
      = ∑ b ∈ Finset.range n, ∑ r : Fin 256, dsc I (gi 0).val h a (rowT (gi 0).val b r) * I.x1 (ix2 (rowT (gi 0).val b r) (pl h x)) := by
  induction n with
  | zero => exact Ideal.ofBits_zero_f32
  | succ n ih =>
    rw [Finset.sum_range_succ, ← ih (by omega)]
    exact (outC_is (by omega) I h gi rfl _).dk a x

theorem carry_dv (h : Fin 8) (a : Fin 512) (x : Fin 128) (n : Nat) (hn : n ≤ 8 - 2 * (gi 0).val) :
    (carryH I gi h n).2.1 (ix2 a x)
      = ∑ b ∈ Finset.range n, ∑ r : Fin 256, prb I (gi 0).val h a (rowT (gi 0).val b r) * I.x4 (ix2 (rowT (gi 0).val b r) (pl h x)) := by
  induction n with
  | zero => exact Ideal.ofBits_zero_f32
  | succ n ih =>
    rw [Finset.sum_range_succ, ← ih (by omega)]
    exact (outC_is (by omega) I h gi rfl _).dv a x

theorem carry_dc (h : Fin 8) (a : Fin 512) (D : Fin 2048 → ℝ) (hD : ∀ t, dsc I (gi 0).val h a t = ((D t : ℝ) : EReal))
    (n : Nat) (hn : n ≤ 8 - 2 * (gi 0).val) :
    (carryH I gi h n).2.2 (ix2 a (0 : Fin 1))
      = ((-∑ b ∈ Finset.range n, ∑ r : Fin 256, D (rowT (gi 0).val b r) : ℝ) : EReal) := by
  induction n with
  | zero =>
    have e : (carryH I gi h 0).2.2 (ix2 a (0 : Fin 1)) = (0 : EReal) := Ideal.ofBits_zero_f32
    rw [e]; simp
  | succ n ih =>
    have e := (outC_is (by omega) I h gi rfl (carryH I gi h n)).dc (b := n) a
    refine Eq.trans e ?_
    rw [ih (by omega), Finset.sum_range_succ]
    simp only [hD]
    rw [← coe_sum, ← EReal.coe_sub]
    congr 1
    ring

/-! ## The block's gradients -/

/-- The head of a lane. -/
def hdL (l : Fin 512) : Fin 8 := ⟨l.val / 64, by have := l.isLt; omega⟩

theorem join_at (u v : FVec Ideal S512x128 .f32) (a : Fin 512) (x : Fin 128) :
    join k0_pay160 u v (ix2 a x) = if x.val < 64 then u (ix2 a x) else v (ix2 a x) := by
  unfold join
  pointwise
  exact low_is a x _ _

/-- A lane is lane `laneL` of its head's pair. -/
theorem head_cases (l : Fin 512) :
    ((laneL l).val < 64 ∧ hd0 (pairL l) = hdL l) ∨ (¬ (laneL l).val < 64 ∧ hd1 (pairL l) = hdL l) := by
  by_cases h : l.val % 128 < 64
  · exact .inl ⟨h, Fin.ext (by show 2 * (l.val / 128) = l.val / 64; omega)⟩
  · exact .inr ⟨h, Fin.ext (by show 2 * (l.val / 128) + 1 = l.val / 64; omega)⟩

theorem pl_hdL (l : Fin 512) : pl (hdL l) (laneL l) = l :=
  Fin.ext (by show 128 * (l.val / 64 / 2) + l.val % 128 = l.val; omega)

theorem dkOut_at (a : Fin 512) (l : Fin 512) :
    dkOut I gi (ix2 a l) = ∑ t : Fin 2048, dsc I (gi 0).val (hdL l) a t * I.x1 (ix2 t l) := by
  have hi : (gi 0).val < 4 := (gi 0).isLt
  have key : (carryH I gi (hdL l) (8 - 2 * (gi 0).val)).1 (ix2 a (laneL l)) = ∑ t : Fin 2048, dsc I (gi 0).val (hdL l) a t * I.x1 (ix2 t l) := by
    rw [carry_dk I gi _ _ _ _ le_rfl, pl_hdL]
    exact sum_rows hi (fun t => dsc I (gi 0).val (hdL l) a t * I.x1 (ix2 t l)) fun t ht => by rw [dsc_zero ht, zero_mul]
  rw [← key]
  refine (join_at _ _ a (laneL l)).trans ?_
  rcases head_cases l with ⟨h, e⟩ | ⟨h, e⟩
  · rw [if_pos h]; rw [← e]; rfl
  · rw [if_neg h]; rw [← e]; rfl

theorem dvOut_at (a : Fin 512) (l : Fin 512) :
    dvOut I gi (ix2 a l) = ∑ t : Fin 2048, prb I (gi 0).val (hdL l) a t * I.x4 (ix2 t l) := by
  have hi : (gi 0).val < 4 := (gi 0).isLt
  have key : (carryH I gi (hdL l) (8 - 2 * (gi 0).val)).2.1 (ix2 a (laneL l)) = ∑ t : Fin 2048, prb I (gi 0).val (hdL l) a t * I.x4 (ix2 t l) := by
    rw [carry_dv I gi _ _ _ _ le_rfl, pl_hdL]
    exact sum_rows hi (fun t => prb I (gi 0).val (hdL l) a t * I.x4 (ix2 t l)) fun t ht => by rw [prb_zero ht, zero_mul]
  rw [← key]
  refine (join_at _ _ a (laneL l)).trans ?_
  rcases head_cases l with ⟨h, e⟩ | ⟨h, e⟩
  · rw [if_pos h]; rw [← e]; rfl
  · rw [if_neg h]; rw [← e]; rfl

theorem dcOut_at (h : Fin 8) (a : Fin 512) (D : Fin 2048 → ℝ) (hD : ∀ t, dsc I (gi 0).val h a t = ((D t : ℝ) : EReal)) :
    dcOut I gi (ix2 a h) = ((-∑ t : Fin 2048, D t : ℝ) : EReal) := by
  have hi : (gi 0).val < 4 := (gi 0).isLt
  refine (carry_dc I gi h a D hD _ le_rfl).trans ?_
  have e := sum_rows hi (fun t => ((D t : ℝ) : EReal)) fun t ht => by rw [← hD, dsc_zero ht]
  simp only [← coe_sum] at e
  rw [EReal.coe_neg, EReal.coe_neg, e]

/-! ## The accumulators -/

theorem put_band {n : Nat} (hn : n ≤ 7) (p : Fin 4) (x : Vec Ideal S2048x512 .f32) (w : Vec Ideal S256x128 .f32) (t : Fin 2048) (l : Fin 512) :
    VecWindow.put x (qo p n) S256x128.size w (ix2 t l)
      = if t.val / 256 = n ∧ pairL l = p then w (ix2 (plc t) (laneL l)) else x (ix2 t l) := by
  have ht := t.isLt
  have hl := l.isLt
  unfold VecWindow.put
  by_cases h : t.val / 256 = n ∧ pairL l = p
  · obtain ⟨h0, h1⟩ := h
    have h1' : l.val / 128 = p.val := congrArg Fin.val h1
    rw [if_pos ⟨h0, h1⟩, dif_pos (show ∀ a, qo p n a ≤ ((ix2 t l : S2048x512.Idx) a).val ∧ ((ix2 t l : S2048x512.Idx) a).val < qo p n a + S256x128.size a from by
      intro a
      fin_cases a
      · show 256 * min n 7 ≤ t.val ∧ t.val < 256 * min n 7 + 256; omega
      · show 128 * p.val ≤ l.val ∧ l.val < 128 * p.val + 128; omega)]
    refine congrArg w (funext fun a => ?_)
    fin_cases a
    · refine Fin.ext ?_
      show t.val - 256 * min n 7 = t.val % 256
      omega
    · refine Fin.ext ?_
      show l.val - 128 * p.val = l.val % 128
      omega
  · rw [if_neg h, dif_neg]
    intro hall
    have h0 : 256 * min n 7 ≤ t.val ∧ t.val < 256 * min n 7 + 256 := hall 0
    have h1 : 128 * p.val ≤ l.val ∧ l.val < 128 * p.val + 128 := hall 1
    exact h ⟨by omega, Fin.ext (by show l.val / 128 = p.val; omega)⟩

theorem put_row {n : Nat} (hn : n ≤ 7) (h : Fin 8) (x : Vec Ideal S8x8x256 .f32) (w : Vec Ideal S1x1x256 .f32) (h' n' : Fin 8) (r : Fin 256) :
    VecWindow.put x (ro h n) S1x1x256.size w (ix3 h' n' r)
      = if n'.val = n ∧ h' = h then w (ix3 (0 : Fin 1) (0 : Fin 1) r) else x (ix3 h' n' r) := by
  have hr := r.isLt
  unfold VecWindow.put
  by_cases hc : n'.val = n ∧ h' = h
  · obtain ⟨h0, rfl⟩ := hc
    rw [if_pos ⟨h0, rfl⟩, dif_pos (show ∀ a, ro h' n a ≤ ((ix3 h' n' r : S8x8x256.Idx) a).val ∧ ((ix3 h' n' r : S8x8x256.Idx) a).val < ro h' n a + S1x1x256.size a from by
      intro a
      fin_cases a
      · show h'.val ≤ h'.val ∧ h'.val < h'.val + 1; omega
      · show min n 7 ≤ n'.val ∧ n'.val < min n 7 + 1; omega
      · show 0 ≤ r.val ∧ r.val < 0 + 256; omega)]
    refine congrArg w (funext fun a => ?_)
    fin_cases a
    · refine Fin.ext ?_
      show h'.val - h'.val = 0
      omega
    · refine Fin.ext ?_
      show n'.val - min n 7 = 0
      omega
    · refine Fin.ext ?_
      show r.val - 0 = r.val
      omega
  · rw [if_neg hc, dif_neg]
    intro hall
    have h0 : h.val ≤ h'.val ∧ h'.val < h.val + 1 := hall 0
    have h1 : min n 7 ≤ n'.val ∧ n'.val < min n 7 + 1 := hall 1
    exact hc ⟨by omega, Fin.ext (by omega)⟩

/-- What the block adds to `dq`. -/
def dqAdd (i : Nat) (t : Fin 2048) (l : Fin 512) : EReal := ∑ a : Fin 512, dsc I i (hdL l) a t * I.x2 (ix2 a l)

/-- What the block adds to the query side of the gates' gradient. -/
def rsAdd (i : Nat) (h n : Fin 8) (r : Fin 256) : EReal := ∑ a : Fin 512, dsc I i h a (tq (256 * n.val + r.val))

/-- The lane's own head alone adds to it. -/
theorem parts_at {b : Nat} (hb : 2 * (gi 0).val + b ≤ 7) (t : Fin 2048) (l : Fin 512) (ht : t.val / 256 = 2 * (gi 0).val + b) :
    ((outH I gi (hd0 (pairL l)) b).part (ix2 (plc t) (laneL l)) + (outH I gi (hd1 (pairL l)) b).part (ix2 (plc t) (laneL l)) : EReal)
      = dqAdd I (gi 0).val t l := by
  have hl := l.isLt
  have hT : rowT (gi 0).val b (plc t) = t := Fin.ext (by rw [rowT_val hb]; show 256 * (2 * (gi 0).val + b) + t.val % 256 = t.val; omega)
  have one : ∀ h : Fin 8, (outH I gi h b).part (ix2 (plc t) (laneL l)) = if h = hdL l then dqAdd I (gi 0).val t l else
      (outH I gi h b).part (ix2 (plc t) (laneL l)) := fun h => by
    split
    · rename_i e
      subst e
      refine ((outC_is hb I (hdL l) gi rfl _).part (plc t) (laneL l)).trans ?_
      unfold dqAdd
      refine Finset.sum_congr rfl fun a _ => ?_
      rw [hT, if_pos (show (laneL l).val / 64 = (hdL l).val % 2 from by show l.val % 128 / 64 = l.val / 64 % 2; omega), pl_hdL]
    · rfl
  have zero : ∀ h : Fin 8, (laneL l).val / 64 ≠ h.val % 2 → (outH I gi h b).part (ix2 (plc t) (laneL l)) = (0 : EReal) := fun h hne => by
    refine ((outC_is hb I h gi rfl _).part (plc t) (laneL l)).trans ?_
    exact Finset.sum_eq_zero fun a _ => by rw [if_neg hne, mul_zero]
  rcases head_cases l with ⟨h, e⟩ | ⟨h, e⟩
  · rw [one (hd0 (pairL l)), if_pos e, zero (hd1 (pairL l)) (by
      show (laneL l).val / 64 ≠ (2 * (l.val / 128) + 1) % 2; omega), add_zero]
  · rw [one (hd1 (pairL l)), if_pos e, zero (hd0 (pairL l)) (by
      have : (laneL l).val < 128 := (laneL l).isLt
      show (laneL l).val / 64 ≠ (2 * (l.val / 128)) % 2; omega), zero_add]

theorem dqP_at {b : Nat} (hb : 2 * (gi 0).val + b ≤ 7) (p : Fin 4) (y : FVec Ideal S2048x512 .f32) (t : Fin 2048) (l : Fin 512) :
    dqP I gi p b y (ix2 t l)
      = if t.val / 256 = 2 * (gi 0).val + b ∧ pairL l = p then (y (ix2 t l) + dqAdd I (gi 0).val t l : EReal) else y (ix2 t l) := by
  unfold dqP putDq
  rw [put_band hb]
  by_cases h : t.val / 256 = 2 * (gi 0).val + b ∧ pairL l = p
  · rw [if_pos h, if_pos h]
    obtain ⟨h, rfl⟩ := h
    rw [← parts_at I gi hb t l h]
    have e := cast_self (VecWindow.window y (qo (pairL l) (2 * (gi 0).val + b)) S256x128.size (qo_in _ _)) shapeCasts_S256x128_S256x128
    show ((shapeCast S256x128 (VecWindow.window y (qo (pairL l) (2 * (gi 0).val + b)) S256x128.size (qo_in _ _)) shapeCasts_S256x128_S256x128) (ix2 (plc t) (laneL l)) + _ : EReal) = _
    rw [e]
    refine congrArg (· + _) (congrArg y (funext fun a => Fin.ext ?_))
    fin_cases a
    · show 256 * min (2 * (gi 0).val + b) 7 + 1 * (t.val % 256) = t.val
      omega
    · show 128 * (l.val / 128) + 1 * (l.val % 128) = l.val
      omega
  · rw [if_neg h, if_neg h]

theorem dqB_at (p p' : Fin 4) (hp : p ≠ p') (y : FVec Ideal S2048x512 .f32) (t : Fin 2048) (l : Fin 512) (n : Nat) (hn : n ≤ 8 - 2 * (gi 0).val) :
    dqB I gi p p' y n (ix2 t l)
      = if (2 * (gi 0).val ≤ t.val / 256 ∧ t.val / 256 < 2 * (gi 0).val + n) ∧ (pairL l = p ∨ pairL l = p')
        then (y (ix2 t l) + dqAdd I (gi 0).val t l : EReal) else y (ix2 t l) := by
  have hi : (gi 0).val < 4 := (gi 0).isLt
  induction n with
  | zero => rw [if_neg (by omega)]; rfl
  | succ n ih =>
    have ih := ih (by omega)
    show dqP I gi p' n (dqP I gi p n (dqB I gi p p' y n)) (ix2 t l) = _
    rw [dqP_at I gi (by omega), dqP_at I gi (by omega), ih]
    by_cases h1 : pairL l = p
    · have h2 : pairL l ≠ p' := fun e => hp (h1.symm.trans e)
      simp only [h1, hp, true_or, and_true, and_false, if_false]
      split_ifs <;> first | rfl | (exfalso; omega)
    · simp only [h1, false_or, and_false, if_false]
      by_cases h2 : pairL l = p'
      · simp only [h2, and_true]
        split_ifs <;> first | rfl | (exfalso; omega)
      · simp only [h2, and_false, if_false]

theorem dqOut_at (y : FVec Ideal S2048x512 .f32) (t : Fin 2048) (l : Fin 512) :
    dqOut I gi y (ix2 t l) = (y (ix2 t l) + dqAdd I (gi 0).val t l : EReal) := by
  have hi : (gi 0).val < 4 := (gi 0).isLt
  have ht := t.isLt
  unfold dqOut
  rw [dqB_at I gi 2 3 (by decide) _ t l _ le_rfl, dqB_at I gi 0 1 (by decide) _ t l _ le_rfl]
  have hc : (pairL l = 0 ∨ pairL l = 1) ∨ (pairL l = 2 ∨ pairL l = 3) := by
    generalize pairL l = p; revert p; decide
  have hx : ¬((pairL l = 0 ∨ pairL l = 1) ∧ (pairL l = 2 ∨ pairL l = 3)) := by
    generalize pairL l = p; revert p; decide
  by_cases hlt : 2 * (gi 0).val ≤ t.val / 256
  · have h8 : 2 * (gi 0).val ≤ t.val / 256 ∧ t.val / 256 < 2 * (gi 0).val + (8 - 2 * (gi 0).val) := ⟨hlt, by omega⟩
    rcases hc with h | h
    · rw [if_neg (fun k => hx ⟨h, k.2⟩), if_pos ⟨h8, h⟩]
    · rw [if_pos ⟨h8, h⟩, if_neg (fun k => hx ⟨k.2, h⟩)]
  · have h0 : dqAdd I (gi 0).val t l = 0 := Finset.sum_eq_zero fun a _ => by rw [dsc_zero (by omega), zero_mul]
    rw [if_neg (fun k => hlt k.1.1), if_neg (fun k => hlt k.1.1), h0, add_zero]

theorem rowUpd_at (o : Out Ideal) (a : FVec Ideal S1x1x256 .f32) (r : Fin 256) :
    rowUpd o a (ix3 (0 : Fin 1) (0 : Fin 1) r) = (a (ix3 (0 : Fin 1) (0 : Fin 1) r) + o.rs (ix1 r) : EReal) := by
  unfold rowUpd
  pointwise

theorem rsH_at {b : Nat} (hb : 2 * (gi 0).val + b ≤ 7) (h : Fin 8) (y : FVec Ideal S8x8x256 .f32) (h' n' : Fin 8) (r : Fin 256) :
    rsH I gi h b y (ix3 h' n' r)
      = if n'.val = 2 * (gi 0).val + b ∧ h' = h then (y (ix3 h' n' r) + rsAdd I (gi 0).val h' n' r : EReal) else y (ix3 h' n' r) := by
  unfold rsH putRow
  rw [put_row hb]
  by_cases hc : n'.val = 2 * (gi 0).val + b ∧ h' = h
  · rw [if_pos hc, if_pos hc]
    obtain ⟨hn, rfl⟩ := hc
    have hr := r.isLt
    have hT : rowT (gi 0).val b r = tq (256 * n'.val + r.val) := by unfold rowT; rw [hn]
    rw [rowUpd_at]
    have e := (outC_is hb I h' gi rfl (carryH I gi h' b)).rs r
    rw [hT] at e
    have e' : (outH I gi h' b).rs (ix1 r) = rsAdd I (gi 0).val h' n' r := e
    rw [e']
    refine congrArg (· + _) ?_
    refine congrArg y (funext fun a => Fin.ext ?_)
    fin_cases a
    · show h'.val + 1 * 0 = h'.val; omega
    · show min (2 * (gi 0).val + b) 7 + 1 * 0 = n'.val; omega
    · show 0 + 1 * r.val = r.val; omega
  · rw [if_neg hc, if_neg hc]

theorem rsB_at (h0 h1 h2 h3 : Fin 8) (hp : [h0, h1, h2, h3].Nodup) (y : FVec Ideal S8x8x256 .f32) (h' n' : Fin 8) (r : Fin 256)
    (n : Nat) (hn : n ≤ 8 - 2 * (gi 0).val) :
    rsB I gi h0 h1 h2 h3 y n (ix3 h' n' r)
      = if (2 * (gi 0).val ≤ n'.val ∧ n'.val < 2 * (gi 0).val + n) ∧ h' ∈ [h0, h1, h2, h3]
        then (y (ix3 h' n' r) + rsAdd I (gi 0).val h' n' r : EReal) else y (ix3 h' n' r) := by
  have hi : (gi 0).val < 4 := (gi 0).isLt
  simp only [List.nodup_cons, List.mem_cons, List.not_mem_nil, or_false, not_or] at hp
  simp only [List.mem_cons, List.not_mem_nil, or_false]
  induction n with
  | zero => rw [if_neg (by omega)]; rfl
  | succ n ih =>
    have ih := ih (by omega)
    show rsH I gi h3 n (rsH I gi h2 n (rsH I gi h1 n (rsH I gi h0 n (rsB I gi h0 h1 h2 h3 y n)))) (ix3 h' n' r) = _
    rw [rsH_at I gi (by omega), rsH_at I gi (by omega), rsH_at I gi (by omega), rsH_at I gi (by omega), ih]
    clear ih hn
    generalize y (ix3 h' n' r) = v
    generalize rsAdd I (gi 0).val h' n' r = u
    generalize 2 * (gi 0).val = k
    generalize n'.val = j
    by_cases e0 : h' = h0 <;> by_cases e1 : h' = h1 <;> by_cases e2 : h' = h2 <;> by_cases e3 : h' = h3 <;>
      simp only [e0, e1, e2, e3, true_or, or_true, or_self, and_true, and_false, if_false, hp] <;>
      (try (split_ifs <;> first | rfl | (exfalso; omega)))

theorem rsOut_at (y : FVec Ideal S8x8x256 .f32) (h' n' : Fin 8) (r : Fin 256) :
    rsOut I gi y (ix3 h' n' r) = (y (ix3 h' n' r) + rsAdd I (gi 0).val h' n' r : EReal) := by
  have hi : (gi 0).val < 4 := (gi 0).isLt
  have hn := n'.isLt
  have hr := r.isLt
  unfold rsOut
  rw [rsB_at I gi 4 5 6 7 (by decide) _ _ _ _ _ le_rfl, rsB_at I gi 0 1 2 3 (by decide) _ _ _ _ _ le_rfl]
  have hc : h' ∈ ([0, 1, 2, 3] : List (Fin 8)) ∨ h' ∈ ([4, 5, 6, 7] : List (Fin 8)) := by revert h'; decide
  have hx : ¬(h' ∈ ([0, 1, 2, 3] : List (Fin 8)) ∧ h' ∈ ([4, 5, 6, 7] : List (Fin 8))) := by revert h'; decide
  by_cases hlt : 2 * (gi 0).val ≤ n'.val
  · have h8 : 2 * (gi 0).val ≤ n'.val ∧ n'.val < 2 * (gi 0).val + (8 - 2 * (gi 0).val) := ⟨hlt, by omega⟩
    rcases hc with h | h
    · rw [if_neg (fun k => hx ⟨h, k.2⟩), if_pos ⟨h8, h⟩]
    · rw [if_pos ⟨h8, h⟩, if_neg (fun k => hx ⟨k.2, h⟩)]
  · have h0 : rsAdd I (gi 0).val h' n' r = 0 := Finset.sum_eq_zero fun a _ => dsc_zero (by
      show (256 * n'.val + r.val) % 2048 < 512 * (gi 0).val; omega)
    rw [if_neg (fun k => hlt k.1.1), if_neg (fun k => hlt k.1.1), h0, add_zero]

end Cert.FoxIdeal.Hand
-- ==== Proof.FoxMath.lean ====
module

public import proofs.«01_k».proof.Proof.FoxSum
public import Mathlib.Analysis.SpecialFunctions.Log.Basic

/-! # The attention's gradients over the reals

The forgetting attention of real arrays, its probabilities, and the gradients of its arguments. -/

@[expose] public section

noncomputable section

namespace Cert.FoxIdeal.Hand

open Idealize.ShloMosaic

/-- Real arrays: queries, keys, values, the gates' running sums, and the cotangent. -/
structure Args where
  q : Fin 2048 → Fin 512 → ℝ
  k : Fin 2048 → Fin 512 → ℝ
  v : Fin 2048 → Fin 512 → ℝ
  c : Fin 2048 → Fin 8 → ℝ
  o : Fin 2048 → Fin 512 → ℝ

variable (A : Args)

/-- The product of a query and a key. -/
def qk (h : Fin 8) (t j : Fin 2048) : ℝ := ∑ d : Fin 64, A.q t (ln h d) * A.k j (ln h d)
/-- The score, up to a number of the row. -/
def sc (h : Fin 8) (t j : Fin 2048) : ℝ := qk A h t j * (1 / 8) - A.c j h
/-- The weight of a key, shifted by `κ`. -/
def wt (κ : ℝ) (h : Fin 8) (t j : Fin 2048) : ℝ := if j.val ≤ t.val then Real.exp (sc A h t j + κ) else 0
/-- A row's weights together. -/
def W (κ : ℝ) (h : Fin 8) (t : Fin 2048) : ℝ := ∑ j : Fin 2048, wt A κ h t j
/-- The probability. -/
def P (h : Fin 8) (t j : Fin 2048) : ℝ := wt A 0 h t j / W A 0 h t
/-- The cotangent of a probability. -/
def G (h : Fin 8) (t j : Fin 2048) : ℝ := ∑ d : Fin 64, A.o t (ln h d) * A.v j (ln h d)
/-- A row's sum of cotangents, weighed. -/
def D (h : Fin 8) (t : Fin 2048) : ℝ := ∑ j : Fin 2048, P A h t j * G A h t j
/-- The gradient of a score. -/
def ds (h : Fin 8) (t j : Fin 2048) : ℝ := P A h t j * (G A h t j - D A h t)

/-- The gradients. -/
def dqR (t : Fin 2048) (l : Fin 512) : ℝ := (∑ j : Fin 2048, ds A (hdL l) t j * A.k j l) * (1 / 8)
@[inherit_doc dqR] def dkR (j : Fin 2048) (l : Fin 512) : ℝ := (∑ t : Fin 2048, ds A (hdL l) t j * A.q t l) * (1 / 8)
@[inherit_doc dqR] def dvR (j : Fin 2048) (l : Fin 512) : ℝ := ∑ t : Fin 2048, P A (hdL l) t j * A.o t l
@[inherit_doc dqR] def dcR (h : Fin 8) (t : Fin 2048) : ℝ := -(∑ u : Fin 2048, ds A h u t) + ∑ j : Fin 2048, ds A h t j

theorem wt_nonneg (κ : ℝ) (h : Fin 8) (t j : Fin 2048) : 0 ≤ wt A κ h t j := by
  unfold wt; split
  · exact (Real.exp_pos _).le
  · exact le_rfl

theorem W_pos (κ : ℝ) (h : Fin 8) (t : Fin 2048) : 0 < W A κ h t := by
  refine Finset.sum_pos' (fun j _ => wt_nonneg A κ h t j) ⟨t, Finset.mem_univ _, ?_⟩
  unfold wt; rw [if_pos le_rfl]; exact Real.exp_pos _

theorem wt_shift (κ : ℝ) (h : Fin 8) (t j : Fin 2048) : wt A κ h t j = wt A 0 h t j * Real.exp κ := by
  unfold wt; split
  · rw [add_zero, Real.exp_add]
  · rw [zero_mul]

theorem W_shift (κ : ℝ) (h : Fin 8) (t : Fin 2048) : W A κ h t = W A 0 h t * Real.exp κ := by
  unfold W; rw [Finset.sum_mul]; exact Finset.sum_congr rfl fun j _ => wt_shift A κ h t j

/-- A shift of a row's scores leaves the probabilities. -/
theorem wt_div (κ : ℝ) (h : Fin 8) (t j : Fin 2048) : wt A κ h t j / W A κ h t = P A h t j := by
  rw [wt_shift, W_shift, mul_div_mul_right _ _ (Real.exp_pos κ).ne']; rfl

/-- The probability from the row's log-sum. -/
theorem exp_lse (κ : ℝ) (h : Fin 8) (t j : Fin 2048) (hj : j.val ≤ t.val) :
    Real.exp (sc A h t j - (-κ + Real.log (W A κ h t))) = P A h t j := by
  rw [← wt_div A κ, Real.exp_sub, Real.exp_add, Real.exp_log (W_pos A κ h t), Real.exp_neg]
  unfold wt
  rw [if_pos hj, Real.exp_add]
  have := (Real.exp_pos κ).ne'
  have := (W_pos A κ h t).ne'
  field_simp

theorem P_zero (h : Fin 8) (t j : Fin 2048) (hj : ¬ j.val ≤ t.val) : P A h t j = 0 := by
  unfold P wt; rw [if_neg hj, zero_div]

theorem ds_zero (h : Fin 8) (t j : Fin 2048) (hj : ¬ j.val ≤ t.val) : ds A h t j = 0 := by
  unfold ds; rw [P_zero A h t j hj, zero_mul]

/-- The maximum of a row, where not all is masked and nothing is infinite, is a real number. -/
theorem fold_max_real {n : Nat} (f : Fin n → EReal) (hb : ∀ j, f j ≠ ⊤) (j0 : Fin n) (h0 : f j0 ≠ ⊥) :
    ∃ M : ℝ, (Finset.univ : Finset (Fin n)).fold max ⊥ f = ((M : ℝ) : EReal) := by
  have e : (Finset.univ : Finset (Fin n)).fold max ⊥ f = Finset.univ.sup f := rfl
  rw [e]
  have ht : Finset.univ.sup f < ⊤ := (Finset.sup_lt_iff bot_lt_top).mpr fun j _ => lt_top_iff_ne_top.mpr (hb j)
  have hl : ⊥ < Finset.univ.sup f := lt_of_lt_of_le (bot_lt_iff_ne_bot.mpr h0) (Finset.le_sup (Finset.mem_univ j0))
  exact ⟨_, (EReal.coe_toReal ht.ne hl.ne').symm⟩

theorem div_real (x : ℝ) {y : ℝ} (hy : y ≠ 0) : Ideal.div (x : EReal) (y : EReal) = ((x / y : ℝ) : EReal) := by
  rw [Ideal.div_coe hy, ← EReal.coe_mul, mul_one_div]

theorem eighth : Ideal.ofBits .f32 0x3E000000#32 = ((1 / 8 : ℝ) : EReal) := by
  simp [Ideal.ofBits, Ideal.ieee]
  rw [← EReal.coe_mul]
  norm_num
theorem neg_inf : Ideal.ofBits .f32 0xFF800000#32 = ⊥ := by simp [Ideal.ofBits, Ideal.ieee]
theorem oneF : Ideal.ofBits .f32 0x3F800000#32 = ((1 : ℝ) : EReal) := by
  simp [Ideal.ofBits, Ideal.ieee]
  rw [← EReal.coe_mul]
  norm_num

theorem sub_real (x y : ℝ) : (x : EReal) - (y : EReal) = ((x - y : ℝ) : EReal) := (EReal.coe_sub x y).symm

end Cert.FoxIdeal.Hand
-- ==== Proof.FoxHost.lean ====
module

public import proofs.«01_k».proof.Proof.FoxMath
public import proofs.«01_k».proof.Proof.FoxFrame
public import Idealize.ShloMosaic.Lib.StableHlo.ReadAt
public import Idealize.ShloMosaic.Lib.Pointwise
public import Idealize.ShloMosaic.Lib.WordCmp
public import Idealize.ShloMosaic.Lib.Pipeline.ValueKit

/-! # What the host prepares for the kernel

The lines before the call, as functions of the arguments: the fused columns, the rows' log-sums and the rows' sums of
cotangents. At real arguments all of them are real. -/

@[expose] public section

noncomputable section

namespace Cert.FoxIdeal.Hand

open Idealize.ShloMosaic Cert.FoxIdeal Cert.FoxIdeal.Gen
open Idealize.ShloMosaic.WordCmp
open Idealize.ShloMosaic.TcCoe

/-- The arguments' types. -/
abbrev Mat : Type := FVec Ideal S2048x512 .f32
@[inherit_doc Mat] abbrev Col : Type := FVec Ideal S2048x8 .f32

/-! ### The lines -/

/-- The queries by an eighth, the keys and the values side by side. -/
def hFused (x0 x1 x2 : Mat) : FVec Ideal S2048x1536 .bf16 :=
  truncf .bf16 (concatenate S2048x1536 1 [⟨S2048x512, mulf x0 (broadcastInDim S2048x512 ![] bcast_S_S2048x512 (constant S_ .f32 0x3E000000#32))⟩,
    ⟨S2048x512, x1⟩, ⟨S2048x512, x2⟩] concatenates_S2048x512_S2048x512_S2048x512_S2048x1536_d1) bitsLt_bf16_f32

/-- The cotangent, beside zeros. -/
def hCot (x4 : Mat) : FVec Ideal S2048x1024 .bf16 :=
  truncf .bf16 (concatenate S2048x1024 1 [⟨S2048x512, x4⟩, ⟨S2048x512, broadcastInDim S2048x512 ![] bcast_S_S2048x512 (constant S_ .f32 0x00000000#32)⟩]
    concatenates_S2048x512_S2048x512_S2048x1024_d1) bitsLt_bf16_f32

/-- Rows of heads. -/
def hRows (x : Mat) : FVec Ideal S2048x8x64 .f32 := shapeCast S2048x8x64 x shapeCasts_S2048x512_S2048x8x64

/-- The scores. -/
def hScore (x0 x1 : Mat) (x3 : Col) : FVec Ideal S8x2048x2048 .f32 :=
  subf (mulf (Host.dotGeneral dot_S2048x8x64_S2048x8x64_S8x2048x2048_2_2_0_0_1_1 none (hRows x0) (hRows x1))
      (broadcastInDim S8x2048x2048 ![] bcast_S_S8x2048x2048 (constant S_ .f32 0x3E000000#32)))
    (broadcastInDim S8x2048x2048 ![0, 1, 2] bcast_S8x1x2048_S8x2048x2048_0_1_2
      (broadcastInDim S8x1x2048 ![0, 2] bcast_S8x2048_S8x1x2048_0_2 (transpose S8x2048 [1, 0] x3 transposes_S2048x8_S8x2048_1_0)))

/-- The mask: keys up to the query. -/
def hMask : Vec Ideal S2048x2048 .i1 :=
  cmpi .sge (broadcastInDim S2048x2048 ![0, 1] bcast_S2048x1_S2048x2048_0_1 (broadcastInDim S2048x1 ![0] bcast_S2048_S2048x1_0 (iotaInDim S2048 32 0)))
    (broadcastInDim S2048x2048 ![0, 1] bcast_S1x2048_S2048x2048_0_1 (broadcastInDim S1x2048 ![1] bcast_S2048_S1x2048_1 (iotaInDim S2048 32 0)))

/-- The scores, masked. -/
def hMasked (s : FVec Ideal S8x2048x2048 .f32) : FVec Ideal S8x2048x2048 .f32 :=
  select (broadcastInDim S8x2048x2048 ![1, 2] bcast_S2048x2048_S8x2048x2048_1_2 hMask) s
    (broadcastInDim S8x2048x2048 ![] bcast_S_S8x2048x2048 (constant S_ .f32 0xFF800000#32))

/-- The rows' maxima. -/
def hMax (s : FVec Ideal S8x2048x2048 .f32) : FVec Ideal S8x2048x1 .f32 :=
  broadcastInDim S8x2048x1 ![0, 1] bcast_S8x2048_S8x2048x1_0_1
    (Host.reduce FloatOps.maximumf s (constant S_ .f32 0xFF800000#32) reducesTo_S8x2048x2048_S8x2048_d2 h_S_)

/-- The weights. -/
def hWt (s : FVec Ideal S8x2048x2048 .f32) (x : FVec Ideal S8x2048x1 .f32) :
    FVec Ideal S8x2048x2048 .f32 :=
  Host.exp (subf s (broadcastInDim S8x2048x2048 ![0, 1, 2] bcast_S8x2048x1_S8x2048x2048_0_1_2 x))

/-- A row's weights together. -/
def hSum (w : FVec Ideal S8x2048x2048 .f32) : FVec Ideal S8x2048x1 .f32 :=
  broadcastInDim S8x2048x1 ![0, 1] bcast_S8x2048_S8x2048x1_0_1
    (Host.reduceAdd w (constant S_ .f32 0x00000000#32) reducesTo_S8x2048x2048_S8x2048_d2 h_S_)

/-- The rows' log-sums, in bands. -/
def hLse (x y : FVec Ideal S8x2048x1 .f32) : FVec Ideal S8x8x256 .f32 :=
  shapeCast S8x8x256 (shapeCast S8x2048 (addf x (Host.log y)) shapeCasts_S8x2048x1_S8x2048) shapeCasts_S8x2048_S8x8x256

/-- The output's rows, of the probabilities. -/
def hOut (x2 : Mat) (w : FVec Ideal S8x2048x2048 .f32) (y : FVec Ideal S8x2048x1 .f32) :
    FVec Ideal S8x64x2048 .f32 :=
  Host.dotGeneral dot_S2048x8x64_S8x2048x2048_S8x64x2048_0_2_2_1_1_0 none (hRows x2)
    (Host.divf w (broadcastInDim S8x2048x2048 ![0, 1, 2] bcast_S8x2048x1_S8x2048x2048_0_1_2 y))

/-- The rows' sums of the output by its cotangent, in bands. -/
def hDd (x4 : Mat) (u : FVec Ideal S8x64x2048 .f32) : FVec Ideal S8x8x256 .f32 :=
  shapeCast S8x8x256 (transpose S8x2048 [1, 0]
    (Host.reduceAdd (mulf (hRows x4) (transpose S2048x8x64 [2, 0, 1] u transposes_S8x64x2048_S2048x8x64_2_0_1)) (constant S_ .f32 0x00000000#32)
      reducesTo_S2048x8x64_S2048x8_d2 h_S_) transposes_S2048x8_S8x2048_1_0) shapeCasts_S8x2048_S8x8x256

/-! ### The memory that the call finds -/

section
variable (m : (ℓ : Loc nD τ sig) → Buf (Elt Ideal) ℓ) (c : Dev nD)

/-- The arguments. -/
abbrev a0 : Mat := m ((c.tc : Thread nD τ).loc main_arg0)
@[inherit_doc a0] abbrev a1 : Mat := m ((c.tc : Thread nD τ).loc main_arg1)
@[inherit_doc a0] abbrev a2 : Mat := m ((c.tc : Thread nD τ).loc main_arg2)
@[inherit_doc a0] abbrev a3 : Col := m ((c.tc : Thread nD τ).loc main_arg3)
@[inherit_doc a0] abbrev a4 : Mat := m ((c.tc : Thread nD τ).loc main_arg4)

theorem V_fused : (V m c main_v3 : FVec Ideal S2048x1536 .bf16) = hFused (a0 m c) (a1 m c) (a2 m c) := by
  unfold V V0 hFused
  after_reads_simp
  rfl

theorem V_cot : (V m c main_v6 : FVec Ideal S2048x1024 .bf16) = hCot (a4 m c) := by
  unfold V V0 hCot
  after_reads_simp
  rfl

theorem V_c : (V m c main_arg3 : Col) = a3 m c := by
  unfold V V0
  after_reads_simp

/-- The masked scores of the arguments. -/
def hS : FVec Ideal S8x2048x2048 .f32 := hMasked (hScore (a0 m c) (a1 m c) (a3 m c))
/-- Their weights. -/
def hW : FVec Ideal S8x2048x2048 .f32 := hWt (hS m c) (hMax (hS m c))

theorem V_lse : (V m c main_v43 : FVec Ideal S8x8x256 .f32) = hLse (hMax (hS m c)) (hSum (hW m c)) := by
  unfold V V0
  after_reads_simp
  simp -implicitDefEqProofs only [StableHlo.TRef.toBuf, StableHlo.TRef.ofBuf, cast_cast, cast_eq, id]
  unfold hLse hSum hW hWt hMax hS hMasked hMask hScore hRows
  rfl

theorem V_dd : (V m c main_v44 : FVec Ideal S8x8x256 .f32) = hDd (a4 m c) (hOut (a2 m c) (hW m c) (hSum (hW m c))) := by
  unfold V V0
  after_reads_simp
  simp -implicitDefEqProofs only [StableHlo.TRef.toBuf, StableHlo.TRef.ofBuf, cast_cast, cast_eq, id]
  unfold hDd hOut hSum hW hWt hMax hS hMasked hMask hScore hRows
  rfl
end

/-! ### Their values -/

theorem fused_q (x0 x1 x2 : Mat) (t : Fin 2048) (l : Fin 512) (l' : Fin 1536) (h : l'.val = l.val) :
    hFused x0 x1 x2 (ix2 t l') = x0 (ix2 t l) * ((1 / 8 : ℝ) : EReal) := by
  obtain ⟨l', hl⟩ := l'
  dsimp only at h; subst h
  unfold hFused
  pointwise
  rw [eighth]

theorem fused_k (x0 x1 x2 : Mat) (t : Fin 2048) (l : Fin 512) (l' : Fin 1536) (h : l'.val = 512 + l.val) :
    hFused x0 x1 x2 (ix2 t l') = x1 (ix2 t l) := by
  unfold hFused
  pointwise
  have := l.isLt
  rw [dif_neg (by omega), dif_pos (by omega)]
  exact congrArg (fun e => x1 (ix2 t e)) (Fin.ext (by dsimp only; omega))

theorem fused_v (x0 x1 x2 : Mat) (t : Fin 2048) (l : Fin 512) (l' : Fin 1536) (h : l'.val = 1024 + l.val) :
    hFused x0 x1 x2 (ix2 t l') = x2 (ix2 t l) := by
  unfold hFused
  pointwise
  have := l.isLt
  rw [dif_neg (by omega), dif_neg (by omega)]
  exact congrArg (fun e => x2 (ix2 t e)) (Fin.ext (by dsimp only; omega))

theorem cot_o (x4 : Mat) (t : Fin 2048) (l : Fin 512) (l' : Fin 1024) (h : l'.val = l.val) :
    hCot x4 (ix2 t l') = x4 (ix2 t l) := by
  unfold hCot
  pointwise
  have := l.isLt
  rw [dif_pos (by omega)]
  exact congrArg (fun e => x4 (ix2 t e)) (Fin.ext h)

theorem hRows_at (x : Mat) (t : Fin 2048) (h : Fin 8) (d : Fin 64) : hRows x (ix3 t h d) = x (ix2 t (ln h d)) := by
  unfold hRows
  pointwise
  exact congrArg (fun e => x (ix2 t e)) (Fin.ext (by unfold ln; dsimp only; omega))

theorem hScore_at (x0 x1 : Mat) (x3 : Col) (h : Fin 8) (t j : Fin 2048) :
    hScore x0 x1 x3 (ix3 h t j) = (∑ d : Fin 64, x0 (ix2 t (ln h d)) * x1 (ix2 j (ln h d))) * ((1 / 8 : ℝ) : EReal) - x3 (ix2 j h) := by
  unfold hScore
  simp only [← hRows_at]
  generalize hRows x0 = y0
  generalize hRows x1 = y1
  pointwise
  rw [eighth]

theorem hMask_at (t j : Fin 2048) : hMask (ix2 t j) = if j.val ≤ t.val then 1#1 else 0#1 := by
  have h1 := t.isLt
  have h2 := j.isLt
  unfold hMask
  pointwise
  rw [cmpi_sge_ofNat (by omega) (by omega)]
  by_cases h : j.val ≤ t.val <;> simp [h]

theorem hMasked_at (s : FVec Ideal S8x2048x2048 .f32) (h : Fin 8) (t j : Fin 2048) :
    hMasked s (ix3 h t j) = if j.val ≤ t.val then s (ix3 h t j) else ⊥ := by
  unfold hMasked
  have e := hMask_at t j
  generalize hMask = y at e
  pointwise
  rw [e, neg_inf]
  unfold Scalar.select
  by_cases h : j.val ≤ t.val <;> simp [h]

theorem hMax_at (s : FVec Ideal S8x2048x2048 .f32) (h : Fin 8) (t : Fin 2048) (z : Fin 1) :
    hMax s (ix3 h t z) = (Finset.univ : Finset (Fin 2048)).fold max (⊥ : EReal) (fun j => s (ix3 h t j)) := by
  unfold hMax
  pointwise
  rw [neg_inf]

theorem hWt_at (s : FVec Ideal S8x2048x2048 .f32) (x : FVec Ideal S8x2048x1 .f32) (h : Fin 8) (t j : Fin 2048) :
    hWt s x (ix3 h t j) = Ideal.exp ((s (ix3 h t j) : EReal) - x (ix3 h t (0 : Fin 1))) := by
  unfold hWt
  pointwise

theorem hSum_at (w : FVec Ideal S8x2048x2048 .f32) (h : Fin 8) (t : Fin 2048) (z : Fin 1) :
    hSum w (ix3 h t z) = ∑ j : Fin 2048, (w (ix3 h t j) : EReal) := by
  unfold hSum
  pointwise

/-- The row of a place in a band. -/
theorem band_row (n : Fin 8) (r : Fin 256) (h : n.val * 256 + r.val < 2048) : (⟨n.val * 256 + r.val, h⟩ : Fin 2048) = tq (256 * n.val + r.val) :=
  Fin.ext (by have := n.isLt; have := r.isLt; unfold tq; dsimp only; omega)

theorem hLse_at (x y : FVec Ideal S8x2048x1 .f32) (h : Fin 8) (n : Fin 8) (r : Fin 256) :
    hLse x y (ix3 h n r) = (x (ix3 h (tq (256 * n.val + r.val)) (0 : Fin 1)) : EReal) + Ideal.log (y (ix3 h (tq (256 * n.val + r.val)) (0 : Fin 1))) := by
  unfold hLse
  pointwise
  rw [band_row]

theorem hOut_at (x2 : Mat) (w : FVec Ideal S8x2048x2048 .f32) (y : FVec Ideal S8x2048x1 .f32) (h : Fin 8) (d : Fin 64) (t : Fin 2048) :
    hOut x2 w y (ix3 h d t) = ∑ j : Fin 2048, (x2 (ix2 j (ln h d)) : EReal) * Ideal.div (w (ix3 h t j)) (y (ix3 h t (0 : Fin 1))) := by
  unfold hOut
  simp only [← hRows_at]
  generalize hRows x2 = z
  pointwise

theorem hDd_at (x4 : Mat) (u : FVec Ideal S8x64x2048 .f32) (h n : Fin 8) (r : Fin 256) :
    hDd x4 u (ix3 h n r) = ∑ d : Fin 64, (x4 (ix2 (tq (256 * n.val + r.val)) (ln h d)) : EReal) * u (ix3 h d (tq (256 * n.val + r.val))) := by
  unfold hDd
  simp only [← hRows_at]
  generalize hRows x4 = z
  pointwise
  simp only [band_row]

/-! ### The blocks that the body reads -/

section
variable (m : (ℓ : Loc nD τ sig) → Buf (Elt Ideal) ℓ) (c : Dev nD)

theorem blk0_at (W : (b : Ref sig .tc) → b.ty.Contents (Elt Ideal)) (t : Fin cfg0.N) (r : Fin 2048) (l : Fin 512) :
    (((cfg0.win 0).blk t).view.read (Elt Ideal) (W (Pipeline.arrRef spec0 0)) : FVec Ideal S2048x512 .bf16) (ix2 r l) = (W main_v3 : FVec Ideal S2048x1536 .bf16) (ix2 r (⟨l.val, by have := l.isLt; omega⟩ : Fin 1536)) := by
  have e : ∀ t : Fin cfg0.N, win0_0.index t = ![0, 0] := (by decide +kernel : ∀ t : Fin grid0.N, _)
  have hN : t.val < 4 := lt_of_lt_of_eq t.isLt (show cfg0.N = 4 from N_0)
  blk_simp []
  refine congrArg (W main_v3) ?_
  blk_ext [e]
theorem x1_at (t : Fin cfg0.N) (r : Fin 2048) (l : Fin 512) : (insAt m c t).x1 (ix2 r l) = hFused (a0 m c) (a1 m c) (a2 m c) (ix2 r (⟨l.val, by have := l.isLt; omega⟩ : Fin 1536)) :=
  (blk0_at (V m c) t r l).trans (congrFun (V_fused m c) _)

theorem blk1_at (W : (b : Ref sig .tc) → b.ty.Contents (Elt Ideal)) (t : Fin cfg0.N) (a l : Fin 512) :
    (((cfg0.win 1).blk t).view.read (Elt Ideal) (W (Pipeline.arrRef spec0 1)) : FVec Ideal S512x512 .bf16) (ix2 a l) = (W main_v3 : FVec Ideal S2048x1536 .bf16) (ix2 (tq (512 * t.val + a.val)) (⟨512 + l.val, by have := l.isLt; omega⟩ : Fin 1536)) := by
  have e : ∀ t : Fin cfg0.N, win0_1.index t = ![t.val, 1] := (by decide +kernel : ∀ t : Fin grid0.N, _)
  have hN : t.val < 4 := lt_of_lt_of_eq t.isLt (show cfg0.N = 4 from N_0)
  blk_simp []
  refine congrArg (W main_v3) ?_
  blk_ext [e]
  unfold tq; dsimp only; omega
theorem x2_at (t : Fin cfg0.N) (a l : Fin 512) : (insAt m c t).x2 (ix2 a l) = hFused (a0 m c) (a1 m c) (a2 m c) (ix2 (tq (512 * t.val + a.val)) (⟨512 + l.val, by have := l.isLt; omega⟩ : Fin 1536)) :=
  (blk1_at (V m c) t a l).trans (congrFun (V_fused m c) _)

theorem blk2_at (W : (b : Ref sig .tc) → b.ty.Contents (Elt Ideal)) (t : Fin cfg0.N) (a l : Fin 512) :
    (((cfg0.win 2).blk t).view.read (Elt Ideal) (W (Pipeline.arrRef spec0 2)) : FVec Ideal S512x512 .bf16) (ix2 a l) = (W main_v3 : FVec Ideal S2048x1536 .bf16) (ix2 (tq (512 * t.val + a.val)) (⟨1024 + l.val, by have := l.isLt; omega⟩ : Fin 1536)) := by
  have e : ∀ t : Fin cfg0.N, win0_2.index t = ![t.val, 2] := (by decide +kernel : ∀ t : Fin grid0.N, _)
  have hN : t.val < 4 := lt_of_lt_of_eq t.isLt (show cfg0.N = 4 from N_0)
  blk_simp []
  refine congrArg (W main_v3) ?_
  blk_ext [e]
  unfold tq; dsimp only; omega
theorem x3_at (t : Fin cfg0.N) (a l : Fin 512) : (insAt m c t).x3 (ix2 a l) = hFused (a0 m c) (a1 m c) (a2 m c) (ix2 (tq (512 * t.val + a.val)) (⟨1024 + l.val, by have := l.isLt; omega⟩ : Fin 1536)) :=
  (blk2_at (V m c) t a l).trans (congrFun (V_fused m c) _)

theorem blk3_at (W : (b : Ref sig .tc) → b.ty.Contents (Elt Ideal)) (t : Fin cfg0.N) (r : Fin 2048) (l : Fin 512) :
    (((cfg0.win 3).blk t).view.read (Elt Ideal) (W (Pipeline.arrRef spec0 3)) : FVec Ideal S2048x512 .bf16) (ix2 r l) = (W main_v6 : FVec Ideal S2048x1024 .bf16) (ix2 r (⟨l.val, by have := l.isLt; omega⟩ : Fin 1024)) := by
  have e : ∀ t : Fin cfg0.N, win0_3.index t = ![0, 0] := (by decide +kernel : ∀ t : Fin grid0.N, _)
  have hN : t.val < 4 := lt_of_lt_of_eq t.isLt (show cfg0.N = 4 from N_0)
  blk_simp []
  refine congrArg (W main_v6) ?_
  blk_ext [e]
theorem x4_at (t : Fin cfg0.N) (r : Fin 2048) (l : Fin 512) : (insAt m c t).x4 (ix2 r l) = hCot (a4 m c) (ix2 r (⟨l.val, by have := l.isLt; omega⟩ : Fin 1024)) :=
  (blk3_at (V m c) t r l).trans (congrFun (V_cot m c) _)

theorem blk4_at (W : (b : Ref sig .tc) → b.ty.Contents (Elt Ideal)) (t : Fin cfg0.N) (y : S8x8x256.Idx) :
    (((cfg0.win 4).blk t).view.read (Elt Ideal) (W (Pipeline.arrRef spec0 4)) : FVec Ideal S8x8x256 .f32) y = (W main_v43 : FVec Ideal S8x8x256 .f32) y := by
  have e : ∀ t : Fin cfg0.N, win0_4.index t = ![0, 0, 0] := (by decide +kernel : ∀ t : Fin grid0.N, _)
  have hN : t.val < 4 := lt_of_lt_of_eq t.isLt (show cfg0.N = 4 from N_0)
  blk_simp []
  refine congrArg (W main_v43) ?_
  blk_ext [e]
theorem x5_at (t : Fin cfg0.N) (y : S8x8x256.Idx) : (insAt m c t).x5 y = hLse (hMax (hS m c)) (hSum (hW m c)) y :=
  (blk4_at (V m c) t y).trans (congrFun (V_lse m c) _)

theorem blk5_at (W : (b : Ref sig .tc) → b.ty.Contents (Elt Ideal)) (t : Fin cfg0.N) (y : S8x8x256.Idx) :
    (((cfg0.win 5).blk t).view.read (Elt Ideal) (W (Pipeline.arrRef spec0 5)) : FVec Ideal S8x8x256 .f32) y = (W main_v44 : FVec Ideal S8x8x256 .f32) y := by
  have e : ∀ t : Fin cfg0.N, win0_5.index t = ![0, 0, 0] := (by decide +kernel : ∀ t : Fin grid0.N, _)
  have hN : t.val < 4 := lt_of_lt_of_eq t.isLt (show cfg0.N = 4 from N_0)
  blk_simp []
  refine congrArg (W main_v44) ?_
  blk_ext [e]
theorem x6_at (t : Fin cfg0.N) (y : S8x8x256.Idx) : (insAt m c t).x6 y = hDd (a4 m c) (hOut (a2 m c) (hW m c) (hSum (hW m c))) y :=
  (blk5_at (V m c) t y).trans (congrFun (V_dd m c) _)

theorem blk6_at (W : (b : Ref sig .tc) → b.ty.Contents (Elt Ideal)) (t : Fin cfg0.N) (a : Fin 512) (h : Fin 8) :
    (((cfg0.win 6).blk t).view.read (Elt Ideal) (W (Pipeline.arrRef spec0 6)) : FVec Ideal S512x8 .f32) (ix2 a h) = (W main_arg3 : FVec Ideal S2048x8 .f32) (ix2 (tq (512 * t.val + a.val)) h) := by
  have e : ∀ t : Fin cfg0.N, win0_6.index t = ![t.val, 0] := (by decide +kernel : ∀ t : Fin grid0.N, _)
  have hN : t.val < 4 := lt_of_lt_of_eq t.isLt (show cfg0.N = 4 from N_0)
  blk_simp []
  refine congrArg (W main_arg3) ?_
  blk_ext [e]
  unfold tq; dsimp only; omega
theorem x7_at (t : Fin cfg0.N) (a : Fin 512) (h : Fin 8) : (insAt m c t).x7 (ix2 a h) = a3 m c (ix2 (tq (512 * t.val + a.val)) h) :=
  (blk6_at (V m c) t a h).trans (congrFun (V_c m c) _)
end

end Cert.FoxIdeal.Hand
-- ==== Proof.FoxEq.lean ====
module

public import proofs.«01_k».proof.Proof.FoxHost

/-! # The kernel's results at real arguments

The host's lines, the probabilities, the scores' gradients, and what the points of the grid leave: the gradients `dqR`,
`dkR`, `dvR` and the two halves of `dcR`. -/

@[expose] public section

noncomputable section

namespace Cert.FoxIdeal.Hand

open Idealize.ShloMosaic Cert.FoxIdeal Cert.FoxIdeal.Gen
open Idealize.ShloMosaic.TcCoe

/-- Arguments that hold real numbers. -/
structure Reals (A : Args) (x0 x1 x2 : Mat) (x3 : Col) (x4 : Mat) : Prop where
  q : ∀ t l, x0 (ix2 t l) = ((A.q t l : ℝ) : EReal)
  k : ∀ t l, x1 (ix2 t l) = ((A.k t l : ℝ) : EReal)
  v : ∀ t l, x2 (ix2 t l) = ((A.v t l : ℝ) : EReal)
  c : ∀ t h, x3 (ix2 t h) = ((A.c t h : ℝ) : EReal)
  o : ∀ t l, x4 (ix2 t l) = ((A.o t l : ℝ) : EReal)

variable {A : Args} (m : (ℓ : Loc nD τ sig) → Buf (Elt Ideal) ℓ) (c : Dev nD)
variable (H : Reals A (a0 m c) (a1 m c) (a2 m c) (a3 m c) (a4 m c))
include H

/-! ### The host's lines -/

theorem hS_is (h : Fin 8) (t j : Fin 2048) : hS m c (ix3 h t j) = if j.val ≤ t.val then ((sc A h t j : ℝ) : EReal) else ⊥ := by
  unfold hS
  rw [hMasked_at, hScore_at]
  simp only [H.q, H.k, H.c, ← EReal.coe_mul, ← coe_sum, sub_real]
  rfl

/-- The rows' maxima are real. -/
theorem hMax_real : ∃ M : Fin 8 → Fin 2048 → ℝ, ∀ h t z, hMax (hS m c) (ix3 h t z) = ((M h t : ℝ) : EReal) := by
  have e : ∀ h t, ∃ M : ℝ, (Finset.univ : Finset (Fin 2048)).fold max (⊥ : EReal) (fun j => hS m c (ix3 h t j)) = ((M : ℝ) : EReal) := fun h t =>
    fold_max_real _ (fun j => by
      show hS m c (ix3 h t j) ≠ ⊤
      rw [hS_is m c H]; split
      · exact EReal.coe_ne_top _
      · exact bot_ne_top) t (by
      show hS m c (ix3 h t t) ≠ ⊥
      rw [hS_is m c H, if_pos le_rfl]; exact EReal.coe_ne_bot _)
  choose M hM using e
  exact ⟨M, fun h t z => (hMax_at _ h t z).trans (hM h t)⟩

section
variable {M : Fin 8 → Fin 2048 → ℝ} (hM : ∀ h t z, hMax (hS m c) (ix3 h t z) = ((M h t : ℝ) : EReal))
include hM

theorem hW_is (h : Fin 8) (t j : Fin 2048) : hW m c (ix3 h t j) = ((wt A (-M h t) h t j : ℝ) : EReal) := by
  unfold hW
  rw [hWt_at, hM, hS_is m c H]
  unfold wt
  by_cases hj : j.val ≤ t.val
  · rw [if_pos hj, if_pos hj, sub_real, Ideal.exp_coe, sub_eq_add_neg]
  · rw [if_neg hj, if_neg hj, EReal.bot_sub, Ideal.exp_bot]; rfl

theorem hSum_is (h : Fin 8) (t : Fin 2048) (z : Fin 1) : hSum (hW m c) (ix3 h t z) = ((W A (-M h t) h t : ℝ) : EReal) := by
  rw [hSum_at]
  unfold W
  rw [coe_sum]
  exact Finset.sum_congr rfl fun j _ => hW_is m c H hM h t j

theorem hLse_is (h n : Fin 8) (r : Fin 256) (t : Fin 2048) (ht : tq (256 * n.val + r.val) = t) :
    hLse (hMax (hS m c)) (hSum (hW m c)) (ix3 h n r) = ((- -M h t + Real.log (W A (-M h t) h t) : ℝ) : EReal) := by
  rw [hLse_at, ht, hM, hSum_is m c H hM, Ideal.log_coe, if_neg (not_le.mpr (W_pos A _ h t)), neg_neg, EReal.coe_add]

theorem hOut_is (h : Fin 8) (d : Fin 64) (t : Fin 2048) :
    hOut (a2 m c) (hW m c) (hSum (hW m c)) (ix3 h d t) = ((∑ j : Fin 2048, A.v j (ln h d) * P A h t j : ℝ) : EReal) := by
  rw [hOut_at, coe_sum]
  refine Finset.sum_congr rfl fun j _ => ?_
  rw [H.v, hW_is m c H hM, hSum_is m c H hM, div_real _ (W_pos A _ h t).ne', wt_div, EReal.coe_mul]

theorem hDd_is (h n : Fin 8) (r : Fin 256) (t : Fin 2048) (ht : tq (256 * n.val + r.val) = t) :
    hDd (a4 m c) (hOut (a2 m c) (hW m c) (hSum (hW m c))) (ix3 h n r) = ((D A h t : ℝ) : EReal) := by
  rw [hDd_at, ht]
  simp only [H.o, hOut_is m c H hM, ← EReal.coe_mul, ← coe_sum]
  refine congrArg _ ?_
  unfold D G
  simp only [Finset.mul_sum]
  rw [Finset.sum_comm]
  exact Finset.sum_congr rfl fun j _ => Finset.sum_congr rfl fun d _ => by ring
end

/-! ### The probabilities and the scores' gradients -/

omit H in
theorem row_of (t : Fin 2048) : tq (256 * (bnd t).val + (plc t).val) = t :=
  Fin.ext (by have := t.isLt; unfold tq bnd plc; dsimp only; omega)

theorem prb_is (t : Fin cfg0.N) (h : Fin 8) (a : Fin 512) (u : Fin 2048) :
    prb (insAt m c t) t.val h a u = ((P A h u (tq (512 * t.val + a.val)) : ℝ) : EReal) := by
  have hN : t.val < 4 := lt_of_lt_of_eq t.isLt (show cfg0.N = 4 from N_0)
  have ha := a.isLt
  obtain ⟨M, hM⟩ := hMax_real m c H
  have hj : (tq (512 * t.val + a.val)).val = 512 * t.val + a.val := by unfold tq; dsimp only; omega
  unfold prb
  by_cases hle : 512 * t.val + a.val ≤ u.val
  · rw [if_pos hle, x7_at, H.c, x5_at, hLse_is m c H hM h _ _ u (row_of u)]
    simp only [x1_at, x2_at, fused_q _ _ _ _ _ (⟨(ln h _).val, _⟩ : Fin 1536) rfl, fused_k _ _ _ _ _ (⟨512 + (ln h _).val, _⟩ : Fin 1536) rfl, H.q, H.k,
      ← EReal.coe_mul, ← coe_sum, sub_real, Ideal.exp_coe]
    rw [← exp_lse A (-M h u) h u _ (by rw [hj]; exact hle)]
    refine congrArg _ (congrArg Real.exp ?_)
    unfold sc qk
    rw [Finset.sum_mul]
    refine congrArg₂ _ (congrArg₂ _ (Finset.sum_congr rfl fun d _ => by ring) rfl) rfl
  · rw [if_neg hle, P_zero A h u _ (by rw [hj]; exact hle)]; rfl

theorem dsc_is (t : Fin cfg0.N) (h : Fin 8) (a : Fin 512) (u : Fin 2048) :
    dsc (insAt m c t) t.val h a u = ((ds A h u (tq (512 * t.val + a.val)) : ℝ) : EReal) := by
  obtain ⟨M, hM⟩ := hMax_real m c H
  unfold dsc
  rw [prb_is m c H, x6_at, hDd_is m c H hM h _ _ u (row_of u)]
  simp only [x3_at, x4_at, fused_v _ _ _ _ _ (⟨1024 + (ln h _).val, _⟩ : Fin 1536) rfl, cot_o _ _ _ (⟨(ln h _).val, _⟩ : Fin 1024) rfl, H.v, H.o,
    ← EReal.coe_mul, ← coe_sum, sub_real]
  unfold ds G
  exact congrArg _ (congrArg₂ _ rfl (congrArg₂ _ (Finset.sum_congr rfl fun d _ => mul_comm _ _) rfl))

/-! ### What a point leaves -/

omit H in
theorem coord_cfg (t : Fin cfg0.N) : (grid0.coords t 0).val = t.val := coord0 t

theorem dk_at (t : Fin cfg0.N) (a l : Fin 512) :
    dkOut (insAt m c t) (grid0.coords t) (ix2 a l) = ((dkR A (tq (512 * t.val + a.val)) l : ℝ) : EReal) := by
  rw [dkOut_at, coord_cfg]
  simp only [dsc_is m c H, x1_at, fused_q _ _ _ _ l (⟨l.val, _⟩ : Fin 1536) rfl, H.q, ← EReal.coe_mul, ← coe_sum]
  unfold dkR
  rw [Finset.sum_mul]
  exact congrArg _ (Finset.sum_congr rfl fun u _ => by ring)

theorem dv_at (t : Fin cfg0.N) (a l : Fin 512) :
    dvOut (insAt m c t) (grid0.coords t) (ix2 a l) = ((dvR A (tq (512 * t.val + a.val)) l : ℝ) : EReal) := by
  rw [dvOut_at, coord_cfg]
  simp only [prb_is m c H, x4_at, cot_o _ _ l (⟨l.val, _⟩ : Fin 1024) rfl, H.o, ← EReal.coe_mul, ← coe_sum]
  rfl

theorem dc_at (t : Fin cfg0.N) (a : Fin 512) (h : Fin 8) :
    dcOut (insAt m c t) (grid0.coords t) (ix2 a h) = ((-∑ u : Fin 2048, ds A h u (tq (512 * t.val + a.val)) : ℝ) : EReal) :=
  dcOut_at _ _ h a _ fun u => by rw [coord_cfg]; exact dsc_is m c H t h a u

omit H in
/-- All keys, block by block. -/
theorem sum_keys (f : Fin 2048 → ℝ) : ∑ i ∈ Finset.range 4, ∑ a : Fin 512, f (tq (512 * i + a.val)) = ∑ j : Fin 2048, f j := by
  have e : ∀ n : Nat, ∑ i ∈ Finset.range n, ∑ a : Fin 512, f (tq (512 * i + a.val)) = ∑ t ∈ Finset.range (512 * n), f (tq t) := fun n => by
    induction n with
    | zero => rfl
    | succ n ih => rw [Finset.sum_range_succ, ih, Nat.mul_succ, Finset.sum_range_add, Finset.sum_range (fun x => f (tq (512 * n + x)))]
  rw [e 4, Finset.sum_range]
  exact Finset.sum_congr rfl fun t _ => congrArg f (Fin.ext (Nat.mod_eq_of_lt t.isLt))

omit H in
theorem last_iff : ∀ t : Fin grid0.N, condLast (BitVec.ofNat 32 (grid0.coords t 0).val) ↔ t.val = 3 := by decide +kernel

omit H in
theorem scaled (y : FVec Ideal S2048x512 .f32) (t : Fin 2048) (l : Fin 512) : k0_pay1 y (ix2 t l) = (y (ix2 t l) * ((1 / 8 : ℝ) : EReal) : EReal) := by
  unfold k0_pay1
  pointwise
  rw [eighth]

omit H in
theorem zero_q (t : Fin 2048) (l : Fin 512) : k0_pay158 (F := Ideal) (ix2 t l) = (0 : EReal) := by
  unfold k0_pay158
  pointwise
omit H in
theorem zero_c (h n : Fin 8) (r : Fin 256) : k0_pay159 (F := Ideal) (ix3 h n r) = (0 : EReal) := by
  unfold k0_pay159
  pointwise

/-- What block `i` adds to a query's gradient, and to the gates'. -/
def addQ (A : Args) (t : Fin 2048) (l : Fin 512) (i : Nat) : ℝ := ∑ a : Fin 512, ds A (hdL l) t (tq (512 * i + a.val)) * A.k (tq (512 * i + a.val)) l
@[inherit_doc addQ] def addC (A : Args) (h : Fin 8) (t : Fin 2048) (i : Nat) : ℝ := ∑ a : Fin 512, ds A h t (tq (512 * i + a.val))

theorem dqAdd_is (t : Fin cfg0.N) (u : Fin 2048) (l : Fin 512) : dqAdd (insAt m c t) t.val u l = ((addQ A u l t.val : ℝ) : EReal) := by
  unfold dqAdd addQ
  simp only [dsc_is m c H, x2_at, fused_k _ _ _ _ l (⟨512 + l.val, _⟩ : Fin 1536) rfl, H.k, ← EReal.coe_mul, ← coe_sum]

theorem rsAdd_is (t : Fin cfg0.N) (h n : Fin 8) (r : Fin 256) :
    rsAdd (insAt m c t) t.val h n r = ((addC A h (tq (256 * n.val + r.val)) t.val : ℝ) : EReal) := by
  unfold rsAdd addC
  simp only [dsc_is m c H, ← coe_sum]

omit H in
theorem scale_is (t : Fin cfg0.N) (y : FVec Ideal S2048x512 .f32) (u : Fin 2048) (l : Fin 512) (x : ℝ) (hx : y (ix2 u l) = ((x : ℝ) : EReal)) :
    scale8 (F := Ideal) (grid0.coords t) y (ix2 u l) = ((x * (if t.val = 3 then 1 / 8 else 1) : ℝ) : EReal) := by
  unfold scale8
  by_cases h : t.val = 3
  · rw [if_pos ((last_iff t).mpr h), scaled, hx, if_pos h, EReal.coe_mul]
  · rw [if_neg (fun h' => h ((last_iff t).mp h')), hx, if_neg h, mul_one]

/-- The accumulators after point `n`. -/
theorem accs_is : ∀ (n : Nat) (hn : n < cfg0.N),
    (∀ t l, (accs m c n hn).1 (ix2 t l) = (((∑ i ∈ Finset.range (n + 1), addQ A t l i) * (if n = 3 then 1 / 8 else 1) : ℝ) : EReal))
    ∧ ∀ h b r, (accs m c n hn).2 (ix3 h b r) = ((∑ i ∈ Finset.range (n + 1), addC A h (tq (256 * b.val + r.val)) i : ℝ) : EReal) := by
  intro n
  induction n with
  | zero =>
    intro hn
    refine ⟨fun t l => ?_, fun h b r => ?_⟩
    · refine scale_is ⟨0, hn⟩ _ t l _ ?_
      rw [dqOut_at, coord_cfg, dqAdd_is m c H, zero_q, zero_add, Finset.sum_range_one]
    · show rsOut _ _ _ _ = _
      rw [rsOut_at, coord_cfg, rsAdd_is m c H, zero_c, zero_add, Finset.sum_range_one]
  | succ n ih =>
    intro hn
    have hN : n + 1 < 4 := lt_of_lt_of_eq hn (show cfg0.N = 4 from N_0)
    obtain ⟨h1, h2⟩ := ih (Nat.lt_of_succ_lt hn)
    refine ⟨fun t l => ?_, fun h b r => ?_⟩
    · refine scale_is ⟨n + 1, hn⟩ _ t l _ ?_
      rw [dqOut_at, coord_cfg, dqAdd_is m c H, h1, if_neg (by omega), mul_one, ← EReal.coe_add, Finset.sum_range_succ _ (n + 1)]
    · show rsOut _ _ _ _ = _
      rw [rsOut_at, coord_cfg, rsAdd_is m c H, h2, ← EReal.coe_add, Finset.sum_range_succ _ (n + 1)]

theorem dq_at (hn : 3 < cfg0.N) (t : Fin 2048) (l : Fin 512) : (accs m c 3 hn).1 (ix2 t l) = ((dqR A t l : ℝ) : EReal) := by
  rw [(accs_is m c H 3 hn).1, if_pos rfl]
  unfold dqR addQ
  rw [sum_keys (fun j => ds A (hdL l) t j * A.k j l)]

theorem dcq_at (hn : 3 < cfg0.N) (h b : Fin 8) (r : Fin 256) :
    (accs m c 3 hn).2 (ix3 h b r) = ((∑ j : Fin 2048, ds A h (tq (256 * b.val + r.val)) j : ℝ) : EReal) := by
  rw [(accs_is m c H 3 hn).2]
  unfold addC
  rw [sum_keys (fun j => ds A h (tq (256 * b.val + r.val)) j)]

end Cert.FoxIdeal.Hand
-- ==== Proof.FoxPre.lean ====
module

public import proofs.«01_k».proof.Defs
public import proofs.«01_k».proof.Proof.FoxEq
public import Idealize.ShloMosaic.Lib.ReduceAll

/-! # The precondition: finite arguments are real numbers -/

@[expose] public section

noncomputable section

namespace Cert.FoxIdeal.Hand

open Idealize.ShloMosaic Idealize.ShloMosaic.TcCoe

/-- The shapes that the precondition's lines relate. -/
instance preFacts : Cert.Pre_fox_finite.Facts where
  bcast_S_S2048x512 := by decide
  reducesTo_S2048x512_S_d0_1 := by decide
  h_S_ := by decide
  bcast_S_S2048x8 := by decide
  reducesTo_S2048x8_S_d0_1 := by decide

theorem top_bits : Ideal.ofBits .f32 0x7F800000#32 = (⊤ : EReal) := by simp [Ideal.ofBits, Ideal.ieee]

/-- A number whose absolute value is less than `⊤` is real. -/
theorem real_of_lt (z : EReal) (h : FloatOps.cmpf (F := Ideal) (φ := .f32) .olt (FloatOps.absf (F := Ideal) (φ := .f32) z) (FloatOps.ofBits .f32 0x7F800000#32) = 1#1) :
    z = ((z.toReal : ℝ) : EReal) := by
  rw [show (FloatOps.ofBits .f32 0x7F800000#32 : Ideal .f32) = (⊤ : EReal) from top_bits, Ideal.cmpf_def, Ideal.absf_def] at h
  refine (EReal.coe_toReal ?_ ?_).symm <;> rintro rfl <;> simp [Ideal.cmp] at h

/-- Where the fold of an array's comparisons is one, the array's elements are real. -/
theorem all_real {s : Shape} {ax : List (Fin s.rank)} (x : FVec Ideal s .f32) (b : Cert.Pre_fox_finite.S_.BroadcastsInDim s ![]) (r : s.ReducesTo ax Cert.Pre_fox_finite.S_)
    (hu : 0 < Cert.Pre_fox_finite.S_.numel) (j : Cert.Pre_fox_finite.S_.Idx)
    (h : Host.reduce IntOp.andi (cmpf .olt (Host.absf x) (broadcastInDim s ![] b (constant Cert.Pre_fox_finite.S_ .f32 0x7F800000#32)))
      (constantI Cert.Pre_fox_finite.S_ 1 1#1) r hu j = 1#1) (i : s.Idx) : x i = (((x i : EReal).toReal : ℝ) : EReal) :=
  real_of_lt (x i) (Host.reduce_andi_all _ _ _ _ j h i)

/-- The real numbers that finite arguments hold. -/
def argsOf (x0 x1 x2 : Mat) (x3 : Col) (x4 : Mat) : Args where
  q t l := (x0 (ix2 t l) : EReal).toReal
  k t l := (x1 (ix2 t l) : EReal).toReal
  v t l := (x2 (ix2 t l) : EReal).toReal
  c t h := (x3 (ix2 t h) : EReal).toReal
  o t l := (x4 (ix2 t l) : EReal).toReal

theorem reals_of (x0 x1 x2 : Mat) (x3 : Col) (x4 : Mat) (h : Cert.Pre_fox_finite.fn (F := Ideal) x0 x1 x2 x3 x4 = fun _ => 1#1) :
    Reals (argsOf x0 x1 x2 x3 x4) x0 x1 x2 x3 x4 := by
  have e := congrFun h ix0
  simp only [Cert.Pre_fox_finite.fn, Cert.Pre_fox_finite.fn_part1, andi, IntOp.andi_eq_one] at e
  obtain ⟨⟨⟨⟨⟨-, e0⟩, e1⟩, e2⟩, e3⟩, e4⟩ := e
  have b0 := all_real x0 Cert.Pre_fox_finite.Facts.bcast_S_S2048x512 Cert.Pre_fox_finite.Facts.reducesTo_S2048x512_S_d0_1 Cert.Pre_fox_finite.Facts.h_S_ ix0 e0
  have b1 := all_real x1 Cert.Pre_fox_finite.Facts.bcast_S_S2048x512 Cert.Pre_fox_finite.Facts.reducesTo_S2048x512_S_d0_1 Cert.Pre_fox_finite.Facts.h_S_ ix0 e1
  have b2 := all_real x2 Cert.Pre_fox_finite.Facts.bcast_S_S2048x512 Cert.Pre_fox_finite.Facts.reducesTo_S2048x512_S_d0_1 Cert.Pre_fox_finite.Facts.h_S_ ix0 e2
  have b3 := all_real x3 Cert.Pre_fox_finite.Facts.bcast_S_S2048x8 Cert.Pre_fox_finite.Facts.reducesTo_S2048x8_S_d0_1 Cert.Pre_fox_finite.Facts.h_S_ ix0 e3
  have b4 := all_real x4 Cert.Pre_fox_finite.Facts.bcast_S_S2048x512 Cert.Pre_fox_finite.Facts.reducesTo_S2048x512_S_d0_1 Cert.Pre_fox_finite.Facts.h_S_ ix0 e4
  exact ⟨fun t l => b0 _, fun t l => b1 _, fun t l => b2 _, fun t l => b3 _, fun t l => b4 _⟩

end Cert.FoxIdeal.Hand
-- ==== Proof.FoxRef.lean ====
module

public import proofs.«01_k».proof.Proof.FoxMath
public import proofs.«01_k».proof.Proof.Gen.FoxRefIdeal.Read
public import Idealize.ShloMosaic.Lib.WordCmp

/-! # What the reference computes

At real arguments every array of the reference's derivative is real, and its results are the gradients `dqR`, `dkR`, `dvR`
and `dcR`. -/

@[expose] public section

noncomputable section

namespace Cert.FoxRefIdeal.Hand

open Idealize.ShloMosaic Cert.FoxRefIdeal Cert.FoxRefIdeal.Gen Cert.FoxRefIdeal.Read
open Idealize.ShloMosaic.WordCmp
open Cert.FoxIdeal.Hand (Args ln hdL qk sc wt W P G D ds dqR dkR dvR dcR W_pos wt_div P_zero ds_zero fold_max_real div_real eighth neg_inf oneF
  sub_real coe_sum)

/-- The places of an index. -/
def c0 {a b : Nat} (i : (⟨2, ![a, b]⟩ : Shape).Idx) : Fin a := i 0
@[inherit_doc c0] def c1 {a b : Nat} (i : (⟨2, ![a, b]⟩ : Shape).Idx) : Fin b := i 1
@[inherit_doc c0] def d0 {a b e : Nat} (i : (⟨3, ![a, b, e]⟩ : Shape).Idx) : Fin a := i 0
@[inherit_doc c0] def d1 {a b e : Nat} (i : (⟨3, ![a, b, e]⟩ : Shape).Idx) : Fin b := i 1
@[inherit_doc c0] def d2 {a b e : Nat} (i : (⟨3, ![a, b, e]⟩ : Shape).Idx) : Fin e := i 2

/-- The arguments' types. -/
abbrev Mat : Type := (⟨S2048x512, .f32⟩ : BufTy).Contents (Elt Ideal)
@[inherit_doc Mat] abbrev Col : Type := (⟨S2048x8, .f32⟩ : BufTy).Contents (Elt Ideal)

/-- Arrays that hold real numbers. -/
structure Are (A : Args) (x0 x1 x2 : Mat) (x3 : Col) (x4 : Mat) : Prop where
  q : ∀ i, x0 i = ((A.q (c0 i) (c1 i) : ℝ) : EReal)
  k : ∀ i, x1 i = ((A.k (c0 i) (c1 i) : ℝ) : EReal)
  v : ∀ i, x2 i = ((A.v (c0 i) (c1 i) : ℝ) : EReal)
  c : ∀ i, x3 i = ((A.c (c0 i) (c1 i) : ℝ) : EReal)
  o : ∀ i, x4 i = ((A.o (c0 i) (c1 i) : ℝ) : EReal)

variable {A : Args} {x0 x1 x2 : Mat} {x3 : Col} {x4 : Mat}

/-- Rows of heads: the entry at row `t`, head `h`, lane `d` lies at lane `64 h + d`. -/
theorem split_row (i : S2048x8x64.Idx) : c0 (idx_main_v0 i) = d0 i ∧ c1 (idx_main_v0 i) = ln (d1 i) (d2 i) := by
  have h1 : (i 1).val < 8 := (i 1).isLt
  have h2 : (i 2).val < 64 := (i 2).isLt
  refine ⟨Fin.ext ?_, Fin.ext ?_⟩
  · show (((i 0).val * 8 + (i 1).val) * 64 + (i 2).val) / 512 = (i 0).val; omega
  · show (((i 0).val * 8 + (i 1).val) * 64 + (i 2).val) % 512 = 64 * (i 1).val + (i 2).val; omega

theorem q_is (H : Are A x0 x1 x2 x3 x4) (i : S2048x8x64.Idx) : val_main_v0 (F := Ideal) x0 i = ((A.q (d0 i) (ln (d1 i) (d2 i)) : ℝ) : EReal) := by
  rw [val_main_v0_apply, H.q, (split_row i).1, (split_row i).2]
theorem k_is (H : Are A x0 x1 x2 x3 x4) (i : S2048x8x64.Idx) : val_main_v1 (F := Ideal) x1 i = ((A.k (d0 i) (ln (d1 i) (d2 i)) : ℝ) : EReal) := by
  rw [val_main_v1_apply, H.k, (split_row i).1, (split_row i).2]
theorem v_is (H : Are A x0 x1 x2 x3 x4) (i : S2048x8x64.Idx) : val_main_v2 (F := Ideal) x2 i = ((A.v (d0 i) (ln (d1 i) (d2 i)) : ℝ) : EReal) := by
  rw [val_main_v2_apply, H.v, (split_row i).1, (split_row i).2]
theorem o_is (H : Are A x0 x1 x2 x3 x4) (i : S8x64x2048.Idx) : val_main_v53 (F := Ideal) x4 i = ((A.o (d2 i) (ln (d0 i) (d1 i)) : ℝ) : EReal) := by
  rw [val_main_v53_apply, val_main_v52_apply, H.o]
  exact congrArg _ (congrArg₂ A.o (split_row _).1 (split_row _).2)

/-- The score. -/
theorem s_is (H : Are A x0 x1 x2 x3 x4) (i : S8x2048x2048.Idx) :
    val_main_v12 (F := Ideal) x0 x1 x3 i = ((sc A (d0 i) (d1 i) (d2 i) + A.c (d1 i) (d0 i) : ℝ) : EReal) := by
  have e : val_main_v4 (F := Ideal) x0 x1 i = ((qk A (d0 i) (d1 i) (d2 i) : ℝ) : EReal) := by
    rw [val_main_v4_apply]
    unfold qk
    rw [coe_sum]
    refine Finset.sum_congr rfl fun d _ => ?_
    rw [q_is H, k_is H, EReal.coe_mul]
    rfl
  rw [val_main_v12_apply, val_main_v9_apply, val_main_v6_apply, e, val_main_v5_apply, val_main_cst_apply, val_main_v8_apply, val_main_v7_apply,
    val_main_v3_apply, H.c, val_main_v11_apply, val_main_v10_apply, val_main_v3_apply, H.c]
  simp only [Ideal.subf_def, Ideal.addf_def, Ideal.mulf_def]
  rw [show (FloatOps.ofBits .f32 0x3E000000#32 : Ideal .f32) = ((1 / 8 : ℝ) : EReal) from eighth, ← EReal.coe_mul, ← EReal.coe_add, sub_real]
  unfold sc
  refine congrArg _ ?_
  show qk A (d0 i) (d1 i) (d2 i) * (1 / 8) + A.c (d1 i) (d0 i) - A.c (d2 i) (d0 i) = _
  ring

/-- The mask: keys up to the query. -/
theorem mask_is {α : Type} (i : S8x2048x2048.Idx) (u v : α) :
    Scalar.select (val_main_v20_1 (F := Ideal) i) u v = if (i 2).val ≤ (i 1).val then u else v := by
  have h1 : (i 1).val < 2048 := (i 1).isLt
  have h2 : (i 2).val < 2048 := (i 2).isLt
  have e : val_main_v20_1 (F := Ideal) i = IntOp.cmpi .sge (BitVec.ofNat 32 (i 1).val) (BitVec.ofNat 32 (i 2).val) := by
    rw [val_main_v20_1_apply, val_main_v19_apply, val_main_v17_apply, val_main_v14_apply, val_main_v13_apply, val_main_v18_apply, val_main_v16_apply,
      val_main_v15_apply]
  rw [e, cmpi_sge_ofNat (by omega) (by omega)]
  unfold Scalar.select
  by_cases h : (i 2).val ≤ (i 1).val <;> simp [h]

theorem masked_is (H : Are A x0 x1 x2 x3 x4) (i : S8x2048x2048.Idx) :
    val_main_v20_0 (F := Ideal) x0 x1 x3 i
      = if (i 2).val ≤ (i 1).val then ((sc A (d0 i) (d1 i) (d2 i) + A.c (d1 i) (d0 i) : ℝ) : EReal) else ⊥ := by
  rw [val_main_v20_0_apply, mask_is, s_is H, val_main_call0_v2_apply, val_main_call0_v0_apply, val_main_cst_0_apply]
  rw [show (FloatOps.ofBits .f32 0xFF800000#32 : Ideal .f32) = (⊥ : EReal) from neg_inf]

/-- The maximum of a row is a real number. -/
theorem max_is (H : Are A x0 x1 x2 x3 x4) (i : S8x2048.Idx) : ∃ M : ℝ, val_main_v28 (F := Ideal) x0 x1 x3 i = ((M : ℝ) : EReal) := by
  have e : val_main_v21 (F := Ideal) x0 x1 x3 i
      = (Finset.univ : Finset (Fin 2048)).fold max (⊥ : EReal) (fun j => val_main_v20_0 (F := Ideal) x0 x1 x3 (ix3 (c0 i) (c1 i) j)) := by
    unfold val_main_v21
    rw [eq_ix2 i]
    generalize val_main_v20_0 (F := Ideal) x0 x1 x3 = y
    pointwise
    rw [val_main_cst_1_apply, show (FloatOps.ofBits .f32 0xFF800000#32 : Ideal .f32) = (⊥ : EReal) from neg_inf]
    rfl
  obtain ⟨M, hM⟩ := fold_max_real (fun j => val_main_v20_0 (F := Ideal) x0 x1 x3 (ix3 (c0 i) (c1 i) j))
    (fun j => by
      show val_main_v20_0 (F := Ideal) x0 x1 x3 (ix3 (c0 i) (c1 i) j) ≠ ⊤
      rw [masked_is H]; split
      · exact EReal.coe_ne_top _
      · exact bot_ne_top) (c1 i) (by
      show val_main_v20_0 (F := Ideal) x0 x1 x3 (ix3 (c0 i) (c1 i) (c1 i)) ≠ ⊥
      rw [masked_is H, if_pos (show ((ix3 (c0 i) (c1 i) (c1 i) : S8x2048x2048.Idx) 2).val ≤ ((ix3 (c0 i) (c1 i) (c1 i) : S8x2048x2048.Idx) 1).val from le_refl (c1 i).val)]
      exact EReal.coe_ne_bot _)
  refine ⟨M, ?_⟩
  rw [val_main_v28_apply, e, hM, val_main_v27_apply, val_main_cst_3_apply]
  rw [show (FloatOps.ofBits .f32 0xFF800000#32 : Ideal .f32) = (⊥ : EReal) from neg_inf]
  exact max_eq_right bot_le

/-- The shift that the reference's weights have. -/
def shift (A : Args) (M : Fin 8 → Fin 2048 → ℝ) (h : Fin 8) (t : Fin 2048) : ℝ := A.c t h - M h t

section
variable (H : Are A x0 x1 x2 x3 x4) (M : Fin 8 → Fin 2048 → ℝ) (hM : ∀ i : S8x2048.Idx, val_main_v28 (F := Ideal) x0 x1 x3 i = ((M (c0 i) (c1 i) : ℝ) : EReal))
include H hM

theorem e_is (i : S8x2048x2048.Idx) :
    val_main_v41 (F := Ideal) x0 x1 x3 i = ((wt A (shift A M (d0 i) (d1 i)) (d0 i) (d1 i) (d2 i) : ℝ) : EReal) := by
  rw [val_main_v41_apply, val_main_v40_apply, masked_is H, val_main_v39_apply, val_main_v38_apply, hM]
  show Ideal.exp (_ - _ : EReal) = _
  unfold wt shift
  by_cases h : (i 2).val ≤ (i 1).val
  · rw [if_pos h, if_pos (show (d2 i).val ≤ (d1 i).val from h), sub_real, Ideal.exp_coe]
    refine congrArg _ (congrArg Real.exp ?_)
    show sc A (d0 i) (d1 i) (d2 i) + A.c (d1 i) (d0 i) - M (d0 i) (d1 i) = _
    ring
  · rw [if_neg h, if_neg (show ¬ (d2 i).val ≤ (d1 i).val from h)]
    exact Ideal.exp_bot

theorem z_is (i : S8x2048x1.Idx) : val_main_v43 (F := Ideal) x0 x1 x3 i = ((W A (shift A M (d0 i) (d1 i)) (d0 i) (d1 i) : ℝ) : EReal) := by
  rw [val_main_v43_apply, val_main_v42_apply, val_main_cst_9_apply]
  rw [show (FloatOps.ofBits .f32 0x00000000#32 : Ideal .f32) = (0 : EReal) from Ideal.ofBits_zero_f32, zero_add]
  unfold W
  rw [coe_sum]
  refine Finset.sum_congr rfl fun j _ => ?_
  rw [e_is H M hM]
  rfl

theorem p_is (i : S8x2048x2048.Idx) : val_main_v45 (F := Ideal) x0 x1 x3 i = ((P A (d0 i) (d1 i) (d2 i) : ℝ) : EReal) := by
  rw [val_main_v45_apply, e_is H M hM, val_main_v44_apply, z_is H M hM]
  show Ideal.div _ _ = _
  refine (div_real _ (W_pos A _ _ _).ne').trans (congrArg _ ?_)
  exact wt_div A (shift A M (d0 i) (d1 i)) (d0 i) (d1 i) (d2 i)

theorem g_is (i : S8x2048x2048.Idx) : val_main_v54 (F := Ideal) x2 x4 i = ((G A (d0 i) (d1 i) (d2 i) : ℝ) : EReal) := by
  rw [val_main_v54_apply]
  unfold G
  rw [coe_sum]
  refine Finset.sum_congr rfl fun d _ => ?_
  rw [o_is H, v_is H, EReal.coe_mul]
  rfl

/-- A row's sum of cotangents times the weights over the square of their sum. -/
theorem r_is (i : S8x2048x1.Idx) :
    val_main_v62 (F := Ideal) x0 x1 x2 x3 x4 i = ((-(D A (d0 i) (d1 i) / W A (shift A M (d0 i) (d1 i)) (d0 i) (d1 i)) : ℝ) : EReal) := by
  have h0 : (i 0).val < 8 := (i 0).isLt
  have h1 : (i 1).val < 2048 := (i 1).isLt
  have h2 : (i 2).val < 1 := (i 2).isLt
  rw [val_main_v62_apply, val_main_v61_apply, val_main_v60_apply, val_main_cst_11_apply]
  rw [show (FloatOps.ofBits .f32 0x00000000#32 : Ideal .f32) = (0 : EReal) from Ideal.ofBits_zero_f32, zero_add]
  have e : ∀ j : Fin 2048, val_main_v59 (F := Ideal) x0 x1 x2 x3 x4 (idx_main_v60 (idx_main_v61 i) j)
      = ((P A (d0 i) (d1 i) j * G A (d0 i) (d1 i) j / W A (shift A M (d0 i) (d1 i)) (d0 i) (d1 i) : ℝ) : EReal) := fun j => by
    have i0 : c0 (idx_main_v61 i) = d0 i := Fin.ext (by
      show (((i 0).val * 2048 + (i 1).val) * 1 + (i 2).val) / 2048 = (i 0).val; omega)
    have i1 : c1 (idx_main_v61 i) = d1 i := Fin.ext (by
      show (((i 0).val * 2048 + (i 1).val) * 1 + (i 2).val) % 2048 = (i 1).val; omega)
    rw [val_main_v59_apply, val_main_v58_apply, g_is H M hM, e_is H M hM, val_main_v57_apply, val_main_v48_apply, val_main_v46_apply, z_is H M hM,
      val_main_v47_apply, val_main_cst_10_apply]
    rw [show (FloatOps.ofBits .f32 0x3F800000#32 : Ideal .f32) = ((1 : ℝ) : EReal) from oneF]
    simp only [Ideal.mulf_def]
    show (_ * Ideal.div _ _ : EReal) * _ = _
    show (((G A (c0 (idx_main_v61 i)) (c1 (idx_main_v61 i)) j : ℝ) : EReal)
        * Ideal.div ((1 : ℝ) : EReal) (((W A (shift A M (c0 (idx_main_v61 i)) (c1 (idx_main_v61 i))) (c0 (idx_main_v61 i)) (c1 (idx_main_v61 i)) : ℝ) : EReal)
          * ((W A (shift A M (c0 (idx_main_v61 i)) (c1 (idx_main_v61 i))) (c0 (idx_main_v61 i)) (c1 (idx_main_v61 i)) : ℝ) : EReal)))
        * ((wt A (shift A M (c0 (idx_main_v61 i)) (c1 (idx_main_v61 i))) (c0 (idx_main_v61 i)) (c1 (idx_main_v61 i)) j : ℝ) : EReal) = _
    rw [i0, i1]
    have hz := (W_pos A (shift A M (d0 i) (d1 i)) (d0 i) (d1 i)).ne'
    rw [← EReal.coe_mul, div_real _ (mul_ne_zero hz hz), ← EReal.coe_mul, ← EReal.coe_mul, ← wt_div A (shift A M (d0 i) (d1 i)) (d0 i) (d1 i) j]
    refine congrArg _ ?_
    field_simp
  rw [Finset.sum_congr rfl fun j _ => e j, ← coe_sum]
  show -(_ : EReal) = _
  rw [← EReal.coe_neg]
  unfold D
  rw [Finset.sum_div]

/-- The gradient of a score. -/
theorem ds_is (i : S8x2048x2048.Idx) : val_main_v69 (F := Ideal) x0 x1 x2 x3 x4 i = ((ds A (d0 i) (d1 i) (d2 i) : ℝ) : EReal) := by
  rw [val_main_v69_apply, mask_is, val_main_v68_apply, val_main_v67_apply, val_main_v64_apply, val_main_v63_apply, g_is H M hM, e_is H M hM, z_is H M hM,
    val_main_v66_apply, val_main_v65_apply, Fin.sum_univ_one, r_is H M hM, val_main_cst_12_apply, val_main_call1_v0_apply, val_main_call1_cst_apply]
  rw [show (FloatOps.ofBits .f32 0x00000000#32 : Ideal .f32) = (0 : EReal) from Ideal.ofBits_zero_f32, zero_add]
  split
  · simp only [Ideal.mulf_def, Ideal.addf_def]
    show (Ideal.div ((G A (d0 i) (d1 i) (d2 i) : ℝ) : EReal) ((W A (shift A M (d0 i) (d1 i)) (d0 i) (d1 i) : ℝ) : EReal)
      + ((-(D A (d0 i) (d1 i) / W A (shift A M (d0 i) (d1 i)) (d0 i) (d1 i)) : ℝ) : EReal)) * ((wt A (shift A M (d0 i) (d1 i)) (d0 i) (d1 i) (d2 i) : ℝ) : EReal) = _
    have hz := (W_pos A (shift A M (d0 i) (d1 i)) (d0 i) (d1 i)).ne'
    rw [div_real _ hz, ← EReal.coe_add, ← EReal.coe_mul]
    unfold ds
    rw [← wt_div A (shift A M (d0 i) (d1 i)) (d0 i) (d1 i) (d2 i)]
    refine congrArg _ ?_
    field_simp
    ring
  · rename_i h
    rw [ds_zero A (d0 i) (d1 i) (d2 i) h]; rfl

/-- The gradient of the gates' running sums. -/
theorem dc_is (i : S8x2048.Idx) : val_main_v90 (F := Ideal) x0 x1 x2 x3 x4 i = ((dcR A (c0 i) (c1 i) : ℝ) : EReal) := by
  have a : val_main_v73 (F := Ideal) x0 x1 x2 x3 x4 i = ((-(∑ u : Fin 2048, ds A (c0 i) u (c1 i)) : ℝ) : EReal) := by
    rw [val_main_v73_apply, Fin.sum_univ_one, val_main_v72_apply, val_main_v71_apply, val_main_cst_13_apply, val_main_cst_14_apply]
    rw [show (FloatOps.ofBits .f32 0x00000000#32 : Ideal .f32) = (0 : EReal) from Ideal.ofBits_zero_f32, zero_add, zero_add, ← Finset.sum_neg_distrib, coe_sum]
    refine Finset.sum_congr rfl fun u _ => ?_
    rw [val_main_v70_apply, ds_is H M hM, EReal.coe_neg]
    show -((ds A _ u _ : ℝ) : EReal) = _
    have h0 : (i 0).val < 8 := (i 0).isLt
    have h1 : (i 1).val < 2048 := (i 1).isLt
    refine congrArg _ (congrArg _ (congrArg₂ (fun h t => ds A h u t) (Fin.ext ?_) (Fin.ext ?_)))
    · show (((i 0).val * 1 + 0) * 2048 + (i 1).val) / 2048 = (i 0).val; omega
    · show (((i 0).val * 1 + 0) * 2048 + (i 1).val) % 2048 = (i 1).val; omega
  have b : val_main_v76 (F := Ideal) x0 x1 x2 x3 x4 i = ((∑ j : Fin 2048, ds A (c0 i) (c1 i) j : ℝ) : EReal) := by
    rw [val_main_v76_apply, Fin.sum_univ_one, val_main_v75_apply, val_main_v74_apply, val_main_cst_15_apply, val_main_cst_16_apply]
    rw [show (FloatOps.ofBits .f32 0x00000000#32 : Ideal .f32) = (0 : EReal) from Ideal.ofBits_zero_f32, zero_add, zero_add, coe_sum]
    refine Finset.sum_congr rfl fun u _ => ?_
    rw [ds_is H M hM]
    have h0 : (i 0).val < 8 := (i 0).isLt
    have h1 : (i 1).val < 2048 := (i 1).isLt
    refine congrArg _ (congrArg₂ (fun h t => ds A h t u) (Fin.ext ?_) (Fin.ext ?_))
    · show (((i 0).val * 2048 + (i 1).val) * 1 + 0) / 2048 = (i 0).val; omega
    · show (((i 0).val * 2048 + (i 1).val) * 1 + 0) % 2048 = (i 1).val; omega
  rw [val_main_v90_apply, val_main_v84_apply]
  have ei : idx_main_v84 (idx_main_v90 i) = i := funext fun a => by fin_cases a <;> rfl
  rw [ei, val_main_v77_apply, a, b, Ideal.addf_def, ← EReal.coe_add]
  rfl

theorem dss_is (i : S8x2048x2048.Idx) : val_main_v79 (F := Ideal) x0 x1 x2 x3 x4 i = ((ds A (d0 i) (d1 i) (d2 i) * (1 / 8) : ℝ) : EReal) := by
  rw [val_main_v79_apply, ds_is H M hM, val_main_v78_apply, val_main_cst_17_apply, Ideal.mulf_def]
  rw [show (FloatOps.ofBits .f32 0x3E000000#32 : Ideal .f32) = ((1 / 8 : ℝ) : EReal) from eighth, ← EReal.coe_mul]

/-- Heads side by side: lane `l` is lane `l % 64` of its head. -/
theorem join_row (i : S2048x512.Idx) : d0 (idx_main_v87 i) = c0 i ∧ d1 (idx_main_v87 i) = hdL (c1 i) ∧ ln (d1 (idx_main_v87 i)) (d2 (idx_main_v87 i)) = c1 i := by
  have h1 : (i 1).val < 512 := (i 1).isLt
  refine ⟨Fin.ext ?_, Fin.ext ?_, Fin.ext ?_⟩
  · show ((i 0).val * 512 + (i 1).val) / 512 = (i 0).val; omega
  · show ((i 0).val * 512 + (i 1).val) / 64 % 8 = (i 1).val / 64; omega
  · show 64 * (((i 0).val * 512 + (i 1).val) / 64 % 8) + ((i 0).val * 512 + (i 1).val) % 64 = (i 1).val; omega

theorem dq_is (i : S2048x512.Idx) : val_main_v87 (F := Ideal) x0 x1 x2 x3 x4 i = ((dqR A (c0 i) (c1 i) : ℝ) : EReal) := by
  rw [val_main_v87_apply, val_main_v83_apply, val_main_v82_apply]
  unfold dqR
  rw [Finset.sum_mul, coe_sum]
  refine Finset.sum_congr rfl fun j _ => ?_
  rw [dss_is H M hM, k_is H, ← EReal.coe_mul]
  obtain ⟨e0, e1, e2⟩ := join_row H M hM i
  refine congrArg _ ?_
  show ds A (d1 (idx_main_v87 i)) (d0 (idx_main_v87 i)) j * (1 / 8) * A.k j (ln (d1 (idx_main_v87 i)) (d2 (idx_main_v87 i))) = _
  rw [e2, e0, e1]
  ring

theorem dk_is (i : S2048x512.Idx) : val_main_v88 (F := Ideal) x0 x1 x2 x3 x4 i = ((dkR A (c0 i) (c1 i) : ℝ) : EReal) := by
  rw [val_main_v88_apply]
  show val_main_v86 (F := Ideal) x0 x1 x2 x3 x4 i = _
  rw [val_main_v86_apply, val_main_v81_apply, val_main_v80_apply]
  unfold dkR
  rw [Finset.sum_mul, coe_sum]
  refine Finset.sum_congr rfl fun j _ => ?_
  rw [dss_is H M hM, q_is H, ← EReal.coe_mul]
  obtain ⟨e0, e1, e2⟩ := join_row H M hM i
  refine congrArg _ ?_
  show ds A (d1 (idx_main_v87 i)) j (d0 (idx_main_v87 i)) * (1 / 8) * A.q j (ln (d1 (idx_main_v87 i)) (d2 (idx_main_v87 i))) = _
  rw [e2, e0, e1]
  ring

theorem dv_is (i : S2048x512.Idx) : val_main_v89 (F := Ideal) x0 x1 x3 x4 i = ((dvR A (c0 i) (c1 i) : ℝ) : EReal) := by
  rw [val_main_v89_apply]
  show val_main_v85 (F := Ideal) x0 x1 x3 x4 i = _
  rw [val_main_v85_apply, val_main_v56_apply, val_main_v55_apply]
  unfold dvR
  rw [coe_sum]
  refine Finset.sum_congr rfl fun j _ => ?_
  rw [o_is H, p_is H M hM, ← EReal.coe_mul]
  obtain ⟨e0, e1, e2⟩ := join_row H M hM i
  refine congrArg _ ?_
  show A.o j (ln (d1 (idx_main_v87 i)) (d2 (idx_main_v87 i))) * P A (d1 (idx_main_v87 i)) j (d0 (idx_main_v87 i)) = _
  rw [e2, e0, e1, mul_comm]

end

/-- The maxima of the rows together. -/
theorem exists_max (H : Are A x0 x1 x2 x3 x4) :
    ∃ M : Fin 8 → Fin 2048 → ℝ, ∀ i : S8x2048.Idx, val_main_v28 (F := Ideal) x0 x1 x3 i = ((M (c0 i) (c1 i) : ℝ) : EReal) := by
  choose f hf using max_is H
  exact ⟨fun h t => f (ix2 h t), fun i => (hf i).trans (congrArg (fun j => ((f j : ℝ) : EReal)) (eq_ix2 i))⟩

end Cert.FoxRefIdeal.Hand
-- ==== Proof.FoxRun.lean ====
module

public import proofs.«01_k».proof.Proof.FoxPre
public import proofs.«01_k».proof.Proof.FoxRef
public import proofs.«01_k».proof.Proof.Gen.FoxRefIdeal.Run
public import Idealize.ShloMosaic.Lib.Claim

/-! # Kernel and reference compute the same gradients

What the arrays of the attention's backward call hold when the program ends, and the equation with the reference. -/

@[expose] public section

noncomputable section

namespace Cert.FoxIdeal.Hand

open Idealize.ShloMosaic Cert.FoxIdeal Cert.FoxIdeal.Gen
open Idealize.ShloMosaic.TcCoe

/-- The gradient of the queries. -/
def gq (A : Args) : FVec Ideal S2048x512 .f32 := fun i => ((dqR A (i 0) (i 1) : ℝ) : EReal)
/-- The gradient of the keys. -/
def gk (A : Args) : FVec Ideal S2048x512 .bf16 := fun i => ((dkR A (i 0) (i 1) : ℝ) : EReal)
/-- The gradient of the values. -/
def gv (A : Args) : FVec Ideal S2048x512 .bf16 := fun i => ((dvR A (i 0) (i 1) : ℝ) : EReal)
/-- The gradient of the gates' running sums. -/
def gc (A : Args) : FVec Ideal S8x2048 .f32 := fun i => ((dcR A (i 0) (i 1) : ℝ) : EReal)
/-- The part of it that the keys give. -/
def gcK (A : Args) : FVec Ideal S2048x8 .f32 := fun i => ((-∑ u, ds A (i 1) u (i 0) : ℝ) : EReal)
/-- The part of it that the queries give, the rows of a head cut into eight. -/
def gcQ (A : Args) : FVec Ideal S8x8x256 .f32 := fun i => ((∑ j, ds A (i 0) (tq (256 * (i 1).val + (i 2).val)) j : ℝ) : EReal)

section Arrays
variable {A : Args} (m : (ℓ : Loc nD τ sig) → Buf (Elt Ideal) ℓ) (c : Dev nD)
  (H : Reals A (a0 m c) (a1 m c) (a2 m c) (a3 m c) (a4 m c))
include H

omit H in
theorem after7 (t : Fin cfg0.N) (y) : (dats m 0 c).after 7 t y = (accs m c t.val t.isLt).1 y := rfl
omit H in
theorem after8 (t : Fin cfg0.N) (y) : (dats m 0 c).after 8 t y = dkOut (insAt m c t) (grid0.coords t) y := rfl
omit H in
theorem after9 (t : Fin cfg0.N) (y) : (dats m 0 c).after 9 t y = dvOut (insAt m c t) (grid0.coords t) y := rfl
omit H in
theorem after10 (t : Fin cfg0.N) (y) : (dats m 0 c).after 10 t y = dcOut (insAt m c t) (grid0.coords t) y := rfl
omit H in
theorem after11 (t : Fin cfg0.N) (y) : (dats m 0 c).after 11 t y = (accs m c t.val t.isLt).2 y := rfl

theorem arr7 (t₀ : Fin cfg0.N) (ht : t₀.val = 3) (hw : (cfg0.win 7).WholeAt t₀) : (dats m 0 c).arrAt 7 cfg0.N = gq A := by
  have key : ∀ n (hn : n < cfg0.N), n = 3 → ∀ t l, (accs m c n hn).1 (ix2 t l) = ((dqR A t l : ℝ) : EReal) := by
    rintro _ hn rfl t l
    exact dq_at m c H hn t l
  refine (dats m 0 c).arrAt_eq_of_after_last 7 t₀ hw _ fun j => ?_
  blk_simp
  rw [after7]
  obtain ⟨a, b, rfl⟩ : ∃ a b, j = ix2 a b := ⟨j 0, j 1, eq_ix2 j⟩
  exact key _ _ ht a b

theorem arr11 (t₀ : Fin cfg0.N) (ht : t₀.val = 3) (hw : (cfg0.win 11).WholeAt t₀) : (dats m 0 c).arrAt 11 cfg0.N = gcQ A := by
  have key : ∀ n (hn : n < cfg0.N), n = 3 → ∀ h b r, (accs m c n hn).2 (ix3 h b r)
      = ((∑ j : Fin 2048, ds A h (tq (256 * b.val + r.val)) j : ℝ) : EReal) := by
    rintro _ hn rfl h b r
    exact dcq_at m c H hn h b r
  refine (dats m 0 c).arrAt_eq_of_after_last 11 t₀ hw _ fun j => ?_
  blk_simp
  rw [after11]
  obtain ⟨a, b, d, rfl⟩ : ∃ a b d, j = ix3 a b d := ⟨j 0, j 1, j 2, eq_ix3 j⟩
  exact key _ _ ht a b d

theorem arr8 : (dats m 0 c).arrAt 8 cfg0.N = gk A := by
  have e : ∀ t : Fin cfg0.N, win0_8.index t = ![t.val, 0] := (by decide +kernel : ∀ t : Fin grid0.N, _)
  refine (dats m 0 c).arrAt_eq_of_covers 8 _ (by decide +kernel) fun t hf y => ?_
  have hN : t.val < 4 := lt_of_lt_of_eq t.isLt (show cfg0.N = 4 from N_0)
  blk_simp
  rw [after8]
  obtain ⟨a, b, rfl⟩ : ∃ a b, y = ix2 a b := ⟨y 0, y 1, eq_ix2 y⟩
  refine (dk_at m c H t a b).trans ?_
  refine (show gk A (ix2 (tq (512 * t.val + a.val)) b) = _ from congrArg (gk A) ?_)
  blk_ext [e]
  unfold tq; dsimp only; omega

theorem arr9 : (dats m 0 c).arrAt 9 cfg0.N = gv A := by
  have e : ∀ t : Fin cfg0.N, win0_9.index t = ![t.val, 0] := (by decide +kernel : ∀ t : Fin grid0.N, _)
  refine (dats m 0 c).arrAt_eq_of_covers 9 _ (by decide +kernel) fun t hf y => ?_
  have hN : t.val < 4 := lt_of_lt_of_eq t.isLt (show cfg0.N = 4 from N_0)
  blk_simp
  rw [after9]
  obtain ⟨a, b, rfl⟩ : ∃ a b, y = ix2 a b := ⟨y 0, y 1, eq_ix2 y⟩
  refine (dv_at m c H t a b).trans ?_
  refine (show gv A (ix2 (tq (512 * t.val + a.val)) b) = _ from congrArg (gv A) ?_)
  blk_ext [e]
  unfold tq; dsimp only; omega

theorem arr10 : (dats m 0 c).arrAt 10 cfg0.N = gcK A := by
  have e : ∀ t : Fin cfg0.N, win0_10.index t = ![t.val, 0] := (by decide +kernel : ∀ t : Fin grid0.N, _)
  refine (dats m 0 c).arrAt_eq_of_covers 10 _ (by decide +kernel) fun t hf y => ?_
  have hN : t.val < 4 := lt_of_lt_of_eq t.isLt (show cfg0.N = 4 from N_0)
  blk_simp
  rw [after10]
  obtain ⟨a, b, rfl⟩ : ∃ a b, y = ix2 a b := ⟨y 0, y 1, eq_ix2 y⟩
  refine (dc_at m c H t a b).trans ?_
  refine (show gcK A (ix2 (tq (512 * t.val + a.val)) b) = _ from congrArg (gcK A) ?_)
  blk_ext [e]
  unfold tq; dsimp only; omega

end Arrays

/-- The last host lines: the queries' part, its rows put together again, is added to the transposed keys' part. -/
theorem tail_at (W : Valuation τ sig (Elt Ideal)) (h : Fin 8) (t : Fin 2048) :
    (StableHlo.after [hostOps1].flatten W (Proc.devRef .tc main_v48) : FVec Ideal S8x2048 .f32) (ix2 h t)
      = HAdd.hAdd (α := EReal) (β := EReal) (γ := EReal) ((W (Proc.devRef .tc main_v45_3) : FVec Ideal S2048x8 .f32) (ix2 t h))
        ((W (Proc.devRef .tc main_v45_4) : FVec Ideal S8x8x256 .f32) (ix3 h (bnd t) (plc t))) := by
  unfold hostOps1
  after_reads_simp
  pointwise
  rfl

theorem tail_arr (m : (ℓ : Loc nD τ sig) → Buf (Elt Ideal) ℓ) (c : Dev nD) (w : Fin cfg0.W) :
    Pipeline.withArrays spec0 c (V0 m c) (fun w => (dats m 0 c).arrAt w cfg0.N) (Proc.devRef .tc (Pipeline.arrRef spec0 w))
      = (dats m 0 c).arrAt w cfg0.N :=
  Pipeline.withArrays_arr_shared spec0 c (V0 m c) _
    (Pipeline.Dat.arrAt_sharedIn (dats m 0 c) sharedIn0 (V0 m c) (A_eq m c) cfg0.N) w

theorem tail_is {A : Args} (m : (ℓ : Loc nD τ sig) → Buf (Elt Ideal) ℓ) (c : Dev nD) (H : Reals A (a0 m c) (a1 m c) (a2 m c) (a3 m c) (a4 m c)) :
    (Pipeline.afterTail₀ cfgs (dats m) 0 (V0 m) [hostOps1] c main_v48 : FVec Ideal S8x2048 .f32) = gc A := by
  funext i
  obtain ⟨h, t, rfl⟩ : ∃ h t, i = ix2 h t := ⟨i 0, i 1, eq_ix2 i⟩
  refine (tail_at _ h t).trans ?_
  have e3 := (tail_arr m c 10).trans (arr10 m c H)
  have e4 := (tail_arr m c 11).trans (arr11 m c H ⟨3, by decide +kernel⟩ rfl (by decide +kernel))
  refine (congrArg₂ (fun x y : EReal => x + y) (congrFun e3 (ix2 t h)) (congrFun e4 (ix3 h (bnd t) (plc t)))).trans ?_
  show ((-∑ u, ds A h u t : ℝ) : EReal) + ((∑ j, ds A h (tq (256 * (bnd t).val + (plc t).val)) j : ℝ) : EReal) = ((dcR A h t : ℝ) : EReal)
  rw [row_of, ← EReal.coe_add]
  rfl

/-- Kernel and reference compute the same gradients of finite arguments. -/
theorem algebraic : Cert.algebraic_FoxIdeal_FoxRefIdeal_pre_fox_finite := by
  intro m g m' g' hpre hargs
  let A : Dev nD → Args := fun c => argsOf (a0 m c) (a1 m c) (a2 m c) (a3 m c) (a4 m c)
  have H : ∀ c, Reals (A c) (a0 m c) (a1 m c) (a2 m c) (a3 m c) (a4 m c) := fun c => reals_of _ _ _ _ _ (hpre c)
  refine ⟨fun c => gq (A c), fun c => gk (A c), fun c => gv (A c), fun c => gc (A c), ?_, ?_⟩
  · refine (θ_run _ _ _).mono (fun r h c => ?_) (θ_run_and (run_main m g) (frame m g))
    obtain ⟨⟨h, -⟩, hf, -⟩ := h
    exact ⟨((h c).1 7).trans (arr7 m c (H c) ⟨3, by decide +kernel⟩ rfl (by decide +kernel)), ((h c).1 8).trans (arr8 m c (H c)),
      ((h c).1 9).trans (arr9 m c (H c)),
      ((h c).2 main_v48 (Pipeline.mem_restRefs_of main_v48 (by decide) (by decide))).trans (tail_is m c (H c)), hf c⟩
  · refine (θ_run _ _ _).mono (fun r h c => ?_) (Cert.FoxRefIdeal.Value.run m' g')
    obtain ⟨h0, h1, h2, h3, hr⟩ := h c
    obtain ⟨e0, e1, e2, e3, e4⟩ := hargs c
    have B : Cert.FoxRefIdeal.Hand.Are (A c) (a0 m c) (a1 m c) (a2 m c) (a3 m c) (a4 m c) :=
      ⟨fun i => (congrArg _ (eq_ix2 i)).trans ((H c).q _ _), fun i => (congrArg _ (eq_ix2 i)).trans ((H c).k _ _),
        fun i => (congrArg _ (eq_ix2 i)).trans ((H c).v _ _), fun i => (congrArg _ (eq_ix2 i)).trans ((H c).c _ _),
        fun i => (congrArg _ (eq_ix2 i)).trans ((H c).o _ _)⟩
    obtain ⟨M, hM⟩ := Cert.FoxRefIdeal.Hand.exists_max B
    refine ⟨h0.trans ?_, h1.trans ?_, h2.trans ?_, h3.trans ?_, hr⟩
    · rw [Cert.FoxRefIdeal.Read.val_main_v87_eq, e0, e1, e2, e3, e4]
      exact funext fun i => Cert.FoxRefIdeal.Hand.dq_is B M hM i
    · rw [Cert.FoxRefIdeal.Read.val_main_v88_eq, e0, e1, e2, e3, e4]
      exact funext fun i => Cert.FoxRefIdeal.Hand.dk_is B M hM i
    · rw [Cert.FoxRefIdeal.Read.val_main_v89_eq, e0, e1, e3, e4]
      exact funext fun i => Cert.FoxRefIdeal.Hand.dv_is B M hM i
    · rw [Cert.FoxRefIdeal.Read.val_main_v90_eq, e0, e1, e2, e3, e4]
      exact funext fun i => Cert.FoxRefIdeal.Hand.dc_is B M hM i

end Cert.FoxIdeal.Hand
-- ==== Proof.Rms.lean ====
module

public import Idealize.ShloMosaic.PureOps.Ideal
public import Idealize.ShloMosaic.Lib.Pointwise

/-! # The root-mean-square norm of a row of 1024 numbers, and its derivative -/

@[expose] public section

noncomputable section

namespace Cert.Rms

open Idealize.ShloMosaic

theorem coe_sum {ι : Type*} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

theorem div_real (x : ℝ) {y : ℝ} (hy : y ≠ 0) : Ideal.div (x : EReal) (y : EReal) = ((x / y : ℝ) : EReal) := by
  rw [Ideal.div_coe hy, ← EReal.coe_mul, mul_one_div]

/-- The number that the norm adds to the mean square. -/
def eps : ℝ := 8796093 / 2 ^ 43

theorem eps_pos : 0 < eps := by unfold eps; positivity

theorem eps_bits : Ideal.ofBits .f32 0x358637BD#32 = ((eps : ℝ) : EReal) := by
  simp [Ideal.ofBits, Ideal.ieee, eps]
  rw [← EReal.coe_mul]; norm_num
theorem n_bits : Ideal.ofBits .f32 0x44800000#32 = ((1024 : ℝ) : EReal) := by
  simp [Ideal.ofBits, Ideal.ieee]
  rw [← EReal.coe_mul]; norm_num
theorem ninv_bits : Ideal.ofBits .f32 0x3A800000#32 = ((1 / 1024 : ℝ) : EReal) := by
  simp [Ideal.ofBits, Ideal.ieee]
  rw [← EReal.coe_mul]; norm_num
theorem half_bits : Ideal.ofBits .f32 0x3F000000#32 = ((1 / 2 : ℝ) : EReal) := by
  simp [Ideal.ofBits, Ideal.ieee]
  rw [← EReal.coe_mul]; norm_num
theorem neg_half_bits : Ideal.ofBits .f32 0xBF000000#32 = ((-1 / 2 : ℝ) : EReal) := by
  simp [Ideal.ofBits, Ideal.ieee]
  rw [← EReal.coe_mul, ← EReal.coe_neg]; norm_num
theorem two_bits : Ideal.ofBits .f32 0x40000000#32 = ((2 : ℝ) : EReal) := by
  simp [Ideal.ofBits, Ideal.ieee]
  rw [← EReal.coe_mul]; norm_num
theorem one_bits : Ideal.ofBits .f32 0x3F800000#32 = ((1 : ℝ) : EReal) := by
  simp [Ideal.ofBits, Ideal.ieee]
  rw [← EReal.coe_mul]; norm_num

/-- A row's mean square and `eps`. -/
def ms (x : Fin 1024 → ℝ) : ℝ := (∑ j, x j * x j) / 1024 + eps
/-- The reciprocal of its root. -/
def inv (x : Fin 1024 → ℝ) : ℝ := (Real.sqrt (ms x))⁻¹
/-- The row divided by its root mean square. -/
def nrm (x : Fin 1024 → ℝ) (j : Fin 1024) : ℝ := x j * inv x
/-- The gradient at the row, from the gradient `dn` at the normalised row. -/
def bwd (x dn : Fin 1024 → ℝ) (j : Fin 1024) : ℝ := inv x * (dn j - nrm x j * ((∑ l, dn l * nrm x l) / 1024))

theorem ms_pos (x : Fin 1024 → ℝ) : 0 < ms x :=
  add_pos_of_nonneg_of_pos (div_nonneg (Finset.sum_nonneg fun j _ => mul_self_nonneg _) (by norm_num)) eps_pos

theorem rsqrt_ms (x : Fin 1024 → ℝ) : Ideal.rsqrt ((ms x : ℝ) : EReal) = ((inv x : ℝ) : EReal) := by
  have h := ms_pos x
  rw [Ideal.rsqrt_coe, if_neg (not_lt.mpr h.le), if_neg h.ne']; rfl

theorem inv_sq (x : Fin 1024 → ℝ) : inv x * inv x = 1 / ms x := by
  unfold inv
  rw [← mul_inv, Real.mul_self_sqrt (ms_pos x).le, one_div]

/-- The derivative by the chain rule, through the mean square and its root, is `bwd`. -/
theorem chain (x dn : Fin 1024 → ℝ) (j : Fin 1024) :
    dn j * inv x + x j * ((∑ l, x l * dn l) * (-1 / 2 * (inv x / ms x)) / 1024) + ((∑ l, x l * dn l) * (-1 / 2 * (inv x / ms x)) / 1024) * x j
      = bwd x dn j := by
  have e : ∑ l, dn l * nrm x l = (∑ l, x l * dn l) * inv x := by
    rw [Finset.sum_mul]; exact Finset.sum_congr rfl fun l _ => by unfold nrm; ring
  have e' : inv x / ms x = inv x * (inv x * inv x) := by rw [inv_sq, mul_one_div]
  unfold bwd
  rw [e, e']
  unfold nrm
  ring

end Cert.Rms

end
-- ==== Proof.Rows.lean ====
module

public import proofs.«01_k».proof.Proof.Rms
public import proofs.«01_k».proof.Proof.FoxPre

/-! # Blocks of 512 rows

The 2048 tokens lie in four blocks of 512 rows; a sum over the tokens is the sum of the blocks' sums. -/

@[expose] public section

noncomputable section

namespace Cert.Rows

open Idealize.ShloMosaic

/-- The token of row `r` in block `k`. -/
def row (k : ℕ) (r : Fin 512) : Fin 2048 := ⟨(512 * k + r.val) % 2048, Nat.mod_lt _ (by decide)⟩

theorem row_val {k : ℕ} (h : k < 4) (r : Fin 512) : (row k r).val = 512 * k + r.val := by
  have := r.isLt
  exact Nat.mod_eq_of_lt (by omega)

/-- What the blocks up to `n` add up to. -/
def upto (f : Fin 2048 → ℝ) : ℕ → ℝ
  | 0 => ∑ r, f (row 0 r)
  | n + 1 => upto f n + ∑ r, f (row (n + 1) r)

theorem upto_eq (f : Fin 2048 → ℝ) (n : ℕ) : upto f n = ∑ k ∈ Finset.range (n + 1), ∑ r, f (row k r) := by
  induction n with
  | zero => simp [upto]
  | succ n ih => rw [Finset.sum_range_succ, ← ih, upto]

/-- After the fourth block every token is in the sum. -/
theorem upto_three (f : Fin 2048 → ℝ) : upto f 3 = ∑ t, f t := by
  rw [upto_eq, Finset.sum_range, ← Fintype.sum_prod_type']
  refine Fintype.sum_equiv (finProdFinEquiv : Fin 4 × Fin 512 ≃ Fin 2048) _ _ fun x => congrArg f (Fin.ext ?_)
  rw [row_val x.1.isLt]
  show _ = x.2.val + 512 * x.1.val
  omega

end Cert.Rows
-- ==== Proof.PleOut.lean ====
module

public import proofs.«01_k».proof.Proof.Gen.PleIdeal.Frame
public import Idealize.ShloMosaic.Lib.Pointwise

/-! # What one grid point of `_ple_loss` leaves in its results' buffers

The first point stores its block's sums, each later point adds them to what the point before left. -/

@[expose] public section

set_option maxRecDepth 16384

noncomputable section

namespace Cert.PleIdeal.Hand

open Idealize.ShloMosaic Idealize.ShloMosaic.TcCoe Idealize.ShloMosaic.Tactic Cert.PleIdeal Cert.PleIdeal.Gen

variable {F : FTy → Type} [FloatOps F]

theorem hz : (![0, 0] : Fin 2 → Nat) = fun _ => 0 := funext fun a => by match a with | ⟨0, _⟩ => rfl | ⟨1, _⟩ => rfl

section
variable (x0 : Vec F S512x1024 .f32) (x1 : Vec F S512x256 .f32) (x2 : Vec F S512x1024 .f32) (x3 : Vec F S1024x1024 .bf16) (x4 : Vec F S256x1024 .bf16)
  (x5 : Vec F S1x1024 .f32)

/-- The gradient of the norm's input, times the gate: what the point stores of the embedding's gradient. -/
def dpeV : Vec F S512x1024 .bf16 := k0_pay14 (k0_pay2 x0 x3) (k0_pay5 x0 x3 x1 x4) (k0_pay6 x0 x3 x1 x4) x5 (k0_pay7 x0 x3 x1 x4 x5 x2)
/-- What it stores of the gate's gradient. -/
def dglV : Vec F S512x1024 .bf16 :=
  k0_pay15 (k0_pay2 x0 x3) (k0_pay3 x1 x4) (k0_pay5 x0 x3 x1 x4) (k0_pay6 x0 x3 x1 x4) x5 (k0_pay7 x0 x3 x1 x4 x5 x2)
/-- What it stores of the residual's gradient. -/
def dhV : Vec F S512x1024 .f32 := k0_pay1 (k0_pay10 (k0_pay7 x0 x3 x1 x4 x5 x2)) (dglV x0 x1 x2 x3 x4 x5) x3
/-- Its rows' part of the scale's gradient. -/
def dgV : Vec F S1x1024 .f32 := k0_pay11 (k0_pay6 x0 x3 x1 x4) (k0_pay7 x0 x3 x1 x4 x5 x2)
/-- Its rows' part of the loss. -/
def lossV : Vec F S1x1 .f32 := k0_pay8 x0 x3 x1 x4 x5 x2
end

variable (m : (ℓ : Loc nD τ sig) → Buf (Elt F) ℓ) (c : Dev nD)

/-- The five results' stored values of the point `t`, of its windows' blocks. -/
def stored (t : Fin cfg0.N) : Vec F S512x1024 .f32 × Vec F S512x1024 .bf16 × Vec F S512x1024 .bf16 × Vec F S1x1024 .f32 × Vec F S1x1 .f32 :=
  (dhV (iblk m c 0 t) (iblk m c 1 t) (iblk m c 2 t) (iblk m c 3 t) (iblk m c 4 t) (iblk m c 5 t),
   dpeV (iblk m c 0 t) (iblk m c 1 t) (iblk m c 2 t) (iblk m c 3 t) (iblk m c 4 t) (iblk m c 5 t),
   dglV (iblk m c 0 t) (iblk m c 1 t) (iblk m c 2 t) (iblk m c 3 t) (iblk m c 4 t) (iblk m c 5 t),
   dgV (iblk m c 0 t) (iblk m c 1 t) (iblk m c 2 t) (iblk m c 3 t) (iblk m c 4 t) (iblk m c 5 t),
   lossV (iblk m c 0 t) (iblk m c 1 t) (iblk m c 2 t) (iblk m c 3 t) (iblk m c 4 t) (iblk m c 5 t))

set_option maxHeartbeats 4000000 in
theorem outs_first (t : Fin cfg0.N) (h : t.val = 0) : outsAt0 m c t.val t.isLt = stored m c t := by
  rw [outsAt0_A m c t (by omega) (by omega) (by omega) (by omega)]
  unfold out0_A_6 out0_A_7 out0_A_8 out0_A_9 out0_A_10
  rw [View.read_writes_eq_canon _ _ _ fun y => cover0_A_6 .., View.read_writes_eq_canon _ _ _ fun y => cover0_A_7 ..,
    View.read_writes_eq_canon _ _ _ fun y => cover0_A_8 .., View.read_writes_eq_canon _ _ _ fun y => cover0_A_9 ..,
    View.read_writes_eq_canon _ _ _ fun y => cover0_A_10 ..]
  unfold kernelRun0_A
  dsimp only
  sl_unfold_words
  rw [View.canon_unit_zero hz, View.canon_unit_zero hz, View.canon_unit_zero hz, View.canon_unit_zero hz, View.canon_unit_zero hz]
  simp only [View.readAt_eq_ld, (hs0_0 t).read_unread, (hs0_1 t).read_unread, (hs0_2 t).read_unread, (hs0_3 t).read_unread, (hs0_4 t).read_unread,
    (hs0_5 t).read_unread, View.ld_unit_zero (S := S512x1024) hz, View.ld_unit_zero (S := S512x256) hz, View.ld_unit_zero (S := S1024x1024) hz,
    View.ld_unit_zero (S := S256x1024) hz, View.ld_unit_zero (S := S1x1024) hz]
  rfl

set_option maxHeartbeats 4000000 in
theorem outs_later (t : Fin cfg0.N) (h : 1 ≤ t.val) :
    outsAt0 m c t.val t.isLt = ((stored m c t).1, (stored m c t).2.1, (stored m c t).2.2.1,
      addf (outsAt0 m c (t.val - 1) (Nat.lt_of_le_of_lt (Nat.sub_le _ _) t.isLt)).2.2.2.1 (stored m c t).2.2.2.1,
      addf (outsAt0 m c (t.val - 1) (Nat.lt_of_le_of_lt (Nat.sub_le _ _) t.isLt)).2.2.2.2 (stored m c t).2.2.2.2) := by
  have hN : t.val < 4 := lt_of_lt_of_eq t.isLt (show cfg0.N = 4 from N_0)
  rw [outsAt0_B m c t (by omega) (by omega) (by omega) (by omega)]
  generalize outsAt0 m c (t.val - 1) _ = o
  unfold out0_B_6 out0_B_7 out0_B_8 out0_B_9 out0_B_10
  rw [View.read_writes_eq_canon _ _ _ fun y => cover0_B_6 .., View.read_writes_eq_canon _ _ _ fun y => cover0_B_7 ..,
    View.read_writes_eq_canon _ _ _ fun y => cover0_B_8 .., View.read_writes_eq_canon _ _ _ fun y => cover0_B_9 ..,
    View.read_writes_eq_canon _ _ _ fun y => cover0_B_10 ..]
  unfold kernelRun0_B
  dsimp only
  sl_unfold_words
  rw [View.canon_unit_zero hz, View.canon_unit_zero hz, View.canon_unit_zero hz, View.canon_unit_zero hz, View.canon_unit_zero hz]
  simp only [View.readAt_eq_ld, (hs0_0 t).read_unread, (hs0_1 t).read_unread, (hs0_2 t).read_unread, (hs0_3 t).read_unread, (hs0_4 t).read_unread,
    (hs0_5 t).read_unread, (hs0_9 t).read_unread, (hs0_10 t).read_unread, View.ld_unit_zero (S := S512x1024) hz, View.ld_unit_zero (S := S512x256) hz,
    View.ld_unit_zero (S := S1024x1024) hz, View.ld_unit_zero (S := S256x1024) hz, View.ld_unit_zero (S := S1x1024) hz, View.ld_unit_zero (S := S1x1) hz,
    k0_pay13, k0_pay9, shapeCast_self]
  rfl

end Cert.PleIdeal.Hand

end
-- ==== Proof.PleMath.lean ====
module

public import proofs.«01_k».proof.Proof.Rms

/-! # The gated embedding's loss and its gradients, over the reals

One token's row of the residual stream, of the embedding and of the target; the weights are the same for all tokens. -/

@[expose] public section

noncomputable section

namespace Cert.PleMath

open Cert.Rms

/-- The two weights and the norm's scale. -/
structure Wts where
  wg : Fin 1024 → Fin 1024 → ℝ
  wp : Fin 256 → Fin 1024 → ℝ
  g : Fin 1024 → ℝ

/-- One token's rows. -/
structure Row where
  h : Fin 1024 → ℝ
  p : Fin 256 → ℝ
  tg : Fin 1024 → ℝ

variable (W : Wts) (R : Row)

/-- The gate, the logistic function of the residual's product with its weight. -/
def gate (j : Fin 1024) : ℝ := (1 + Real.exp (-∑ k, R.h k * W.wg k j))⁻¹
/-- The projected embedding. -/
def pe (j : Fin 1024) : ℝ := ∑ k, R.p k * W.wp k j
/-- The gated embedding, which the norm takes. -/
def x (j : Fin 1024) : ℝ := pe W R j * gate W R j
/-- The distance from the target. -/
def diff (j : Fin 1024) : ℝ := R.h j + nrm (x W R) j * W.g j - R.tg j
/-- The gradient at the sum. -/
def dh3 (j : Fin 1024) : ℝ := diff W R j * (1 / 1024)
/-- The gradient at the gated embedding. -/
def de (j : Fin 1024) : ℝ := bwd (x W R) (fun l => dh3 W R l * W.g l) j
/-- The gradient at the projected embedding. -/
def dpe (j : Fin 1024) : ℝ := de W R j * gate W R j
/-- The gradient at the gate's logit. -/
def dgl (j : Fin 1024) : ℝ := de W R j * pe W R j * gate W R j * (1 - gate W R j)
/-- The gradient at the residual. -/
def dh (j : Fin 1024) : ℝ := dh3 W R j + ∑ l, dgl W R l * W.wg j l
/-- The token's part of the scale's gradient. -/
def dg (j : Fin 1024) : ℝ := dh3 W R j * nrm (x W R) j
/-- The token's mean squared distance. -/
def tok : ℝ := (∑ j, diff W R j * diff W R j) / 1024

end Cert.PleMath

end
-- ==== Proof.PleKernel.lean ====
module

public import proofs.«01_k».proof.Proof.PleOut
public import proofs.«01_k».proof.Proof.PleMath

/-! # What one block of `_ple_loss` computes of real numbers -/

@[expose] public section

set_option maxRecDepth 16384

noncomputable section

namespace Cert.PleIdeal.Hand

open Idealize.ShloMosaic Cert.PleIdeal Cert.PleIdeal.Gen
open Cert.Rms Cert.PleMath

/-- The blocks hold real numbers: row `a` of the three row blocks is `R a`, and the resident blocks are `W`. -/
structure Blocks (W : Wts) (R : Fin 512 → Row) (x0 : FVec Ideal S512x1024 .f32) (x1 : FVec Ideal S512x256 .f32) (x2 : FVec Ideal S512x1024 .f32)
    (x3 : FVec Ideal S1024x1024 .bf16) (x4 : FVec Ideal S256x1024 .bf16) (x5 : FVec Ideal S1x1024 .f32) : Prop where
  h : ∀ a b, x0 (ix2 a b) = (((R a).h b : ℝ) : EReal)
  p : ∀ a b, x1 (ix2 a b) = (((R a).p b : ℝ) : EReal)
  tg : ∀ a b, x2 (ix2 a b) = (((R a).tg b : ℝ) : EReal)
  wg : ∀ a b, x3 (ix2 a b) = ((W.wg a b : ℝ) : EReal)
  wp : ∀ a b, x4 (ix2 a b) = ((W.wp a b : ℝ) : EReal)
  g : ∀ b, x5 (ix2 0 b) = ((W.g b : ℝ) : EReal)

variable {W : Wts} {R : Fin 512 → Row} {x0 : FVec Ideal S512x1024 .f32} {x1 : FVec Ideal S512x256 .f32} {x2 : FVec Ideal S512x1024 .f32}
  {x3 : FVec Ideal S1024x1024 .bf16} {x4 : FVec Ideal S256x1024 .bf16} {x5 : FVec Ideal S1x1024 .f32}

theorem gate_is (H : Blocks W R x0 x1 x2 x3 x4 x5) (a : Fin 512) (b : Fin 1024) : k0_pay2 (F := Ideal) x0 x3 (ix2 a b) = ((gate W (R a) b : ℝ) : EReal) := by
  unfold k0_pay2 gate
  pointwise
  simp only [H.h, H.wg, ← EReal.coe_mul, ← coe_sum, Ideal.logistic_coe]

theorem pe_is (H : Blocks W R x0 x1 x2 x3 x4 x5) (a : Fin 512) (b : Fin 1024) : k0_pay3 (F := Ideal) x1 x4 (ix2 a b) = ((pe W (R a) b : ℝ) : EReal) := by
  unfold k0_pay3 pe
  pointwise
  simp only [H.p, H.wp, ← EReal.coe_mul, ← coe_sum]

theorem x_is (H : Blocks W R x0 x1 x2 x3 x4 x5) (a : Fin 512) (b : Fin 1024) : k0_pay4 (F := Ideal) x0 x3 x1 x4 (ix2 a b) = ((x W (R a) b : ℝ) : EReal) := by
  unfold k0_pay4 x
  have e := gate_is H a b
  have e' := pe_is H a b
  generalize k0_pay2 (F := Ideal) x0 x3 = y at e
  generalize k0_pay3 (F := Ideal) x1 x4 = y' at e'
  pointwise
  rw [e, e', EReal.coe_mul]

theorem inv_is (H : Blocks W R x0 x1 x2 x3 x4 x5) (a : Fin 512) (b : Fin 1) : k0_pay5 (F := Ideal) x0 x3 x1 x4 (ix2 a b) = ((inv (x W (R a)) : ℝ) : EReal) := by
  have e := x_is H a
  unfold k0_pay5
  generalize k0_pay4 (F := Ideal) x0 x3 x1 x4 = y at e
  pointwise
  rw [eps_bits, n_bits]
  simp only [e, ← EReal.coe_mul, ← coe_sum, div_real _ (show (1024 : ℝ) ≠ 0 by norm_num), ← EReal.coe_add]
  exact rsqrt_ms (x W (R a))

theorem nrm_is (H : Blocks W R x0 x1 x2 x3 x4 x5) (a : Fin 512) (b : Fin 1024) : k0_pay6 (F := Ideal) x0 x3 x1 x4 (ix2 a b) = ((nrm (x W (R a)) b : ℝ) : EReal) := by
  have e := x_is H a b
  have e' := inv_is H a
  unfold k0_pay6 nrm
  generalize k0_pay4 (F := Ideal) x0 x3 x1 x4 = y at e
  generalize k0_pay5 (F := Ideal) x0 x3 x1 x4 = y' at e'
  pointwise
  rw [e, e', EReal.coe_mul]

theorem diff_is (H : Blocks W R x0 x1 x2 x3 x4 x5) (a : Fin 512) (b : Fin 1024) :
    k0_pay7 (F := Ideal) x0 x3 x1 x4 x5 x2 (ix2 a b) = ((diff W (R a) b : ℝ) : EReal) := by
  have e := nrm_is H a b
  unfold k0_pay7 diff
  generalize k0_pay6 (F := Ideal) x0 x3 x1 x4 = y at e
  pointwise
  rw [e, H.h, H.tg, H.g, ← EReal.coe_mul, ← EReal.coe_add, ← EReal.coe_sub]

theorem loss_is (H : Blocks W R x0 x1 x2 x3 x4 x5) (a b : Fin 1) :
    lossV (F := Ideal) x0 x1 x2 x3 x4 x5 (ix2 a b) = ((1 / 2 * ∑ r, tok W (R r) : ℝ) : EReal) := by
  have e := diff_is H
  unfold lossV k0_pay8 tok
  generalize k0_pay7 (F := Ideal) x0 x3 x1 x4 x5 x2 = y at e
  pointwise
  rw [n_bits, half_bits]
  simp only [e, ← EReal.coe_mul, ← coe_sum, div_real _ (show (1024 : ℝ) ≠ 0 by norm_num)]

theorem dh3_is (H : Blocks W R x0 x1 x2 x3 x4 x5) (a : Fin 512) (b : Fin 1024) :
    k0_pay10 (F := Ideal) (k0_pay7 x0 x3 x1 x4 x5 x2) (ix2 a b) = ((dh3 W (R a) b : ℝ) : EReal) := by
  have e := diff_is H a b
  unfold k0_pay10 dh3
  generalize k0_pay7 (F := Ideal) x0 x3 x1 x4 x5 x2 = y at e
  pointwise
  rw [ninv_bits, e, EReal.coe_mul]

theorem dg_is (H : Blocks W R x0 x1 x2 x3 x4 x5) (a : Fin 1) (b : Fin 1024) :
    dgV (F := Ideal) x0 x1 x2 x3 x4 x5 (ix2 a b) = ((∑ r, dg W (R r) b : ℝ) : EReal) := by
  have e := fun a => dh3_is H a b
  have e' := fun a => nrm_is H a b
  unfold dgV k0_pay11 dg
  generalize k0_pay10 (F := Ideal) (k0_pay7 (F := Ideal) x0 x3 x1 x4 x5 x2) = y at e
  generalize k0_pay6 (F := Ideal) x0 x3 x1 x4 = y' at e'
  pointwise
  simp only [e, e', ← EReal.coe_mul, ← coe_sum]

theorem de_is (H : Blocks W R x0 x1 x2 x3 x4 x5) (a : Fin 512) (b : Fin 1024) :
    k0_pay12 (F := Ideal) (k0_pay5 x0 x3 x1 x4) (k0_pay6 x0 x3 x1 x4) x5 (k0_pay7 x0 x3 x1 x4 x5 x2) (ix2 a b) = ((de W (R a) b : ℝ) : EReal) := by
  have e := dh3_is H a
  have e' := nrm_is H a
  have e'' := inv_is H a
  unfold k0_pay12 de bwd
  generalize k0_pay10 (F := Ideal) (k0_pay7 (F := Ideal) x0 x3 x1 x4 x5 x2) = y at e
  generalize k0_pay6 (F := Ideal) x0 x3 x1 x4 = y' at e'
  generalize k0_pay5 (F := Ideal) x0 x3 x1 x4 = y'' at e''
  pointwise
  rw [n_bits]
  simp only [e, e', e'', H.g, ← EReal.coe_mul, ← coe_sum, div_real _ (show (1024 : ℝ) ≠ 0 by norm_num), ← EReal.coe_sub]

theorem dpe_is (H : Blocks W R x0 x1 x2 x3 x4 x5) (a : Fin 512) (b : Fin 1024) :
    dpeV (F := Ideal) x0 x1 x2 x3 x4 x5 (ix2 a b) = ((dpe W (R a) b : ℝ) : EReal) := by
  have e := de_is H a b
  have e' := gate_is H a b
  unfold dpeV k0_pay14 dpe
  generalize k0_pay12 (F := Ideal) (k0_pay5 (F := Ideal) x0 x3 x1 x4) (k0_pay6 (F := Ideal) x0 x3 x1 x4) x5 (k0_pay7 (F := Ideal) x0 x3 x1 x4 x5 x2) = y at e
  generalize k0_pay2 (F := Ideal) x0 x3 = y' at e'
  pointwise
  rw [e, e', EReal.coe_mul]

theorem dgl_is (H : Blocks W R x0 x1 x2 x3 x4 x5) (a : Fin 512) (b : Fin 1024) :
    dglV (F := Ideal) x0 x1 x2 x3 x4 x5 (ix2 a b) = ((dgl W (R a) b : ℝ) : EReal) := by
  have e := de_is H a b
  have e' := gate_is H a b
  have e'' := pe_is H a b
  unfold dglV k0_pay15 dgl
  generalize k0_pay12 (F := Ideal) (k0_pay5 (F := Ideal) x0 x3 x1 x4) (k0_pay6 (F := Ideal) x0 x3 x1 x4) x5 (k0_pay7 (F := Ideal) x0 x3 x1 x4 x5 x2) = y at e
  generalize k0_pay2 (F := Ideal) x0 x3 = y' at e'
  generalize k0_pay3 (F := Ideal) x1 x4 = y'' at e''
  pointwise
  rw [← EReal.coe_one, e, e', e'']
  simp only [← EReal.coe_mul, ← EReal.coe_sub]

theorem dh_is (H : Blocks W R x0 x1 x2 x3 x4 x5) (a : Fin 512) (b : Fin 1024) :
    dhV (F := Ideal) x0 x1 x2 x3 x4 x5 (ix2 a b) = ((dh W (R a) b : ℝ) : EReal) := by
  have e := dh3_is H a b
  have e' := dgl_is H a
  unfold dhV k0_pay1 dh
  generalize k0_pay10 (F := Ideal) (k0_pay7 (F := Ideal) x0 x3 x1 x4 x5 x2) = y at e
  generalize dglV (F := Ideal) x0 x1 x2 x3 x4 x5 = y' at e'
  pointwise
  simp only [e, e', H.wg, ← EReal.coe_mul, ← coe_sum, ← EReal.coe_add]

end Cert.PleIdeal.Hand

end
-- ==== Proof.PleRef.lean ====
module

public import proofs.«01_k».proof.Proof.PleMath
public import proofs.«01_k».proof.Proof.Gen.PleRefIdeal.Read

/-! # What the reference of the loss computes

At real arguments every array of the reference's derivative is real: row `t` of each is a function of the token's row. -/

@[expose] public section

noncomputable section

namespace Cert.PleRefIdeal.Hand

open Idealize.ShloMosaic Cert.PleRefIdeal Cert.PleRefIdeal.Gen Cert.PleRefIdeal.Read
open Cert.Rms Cert.PleMath

/-- The places of an index. -/
def c0 {a b : Nat} (i : (⟨2, ![a, b]⟩ : Shape).Idx) : Fin a := i 0
@[inherit_doc c0] def c1 {a b : Nat} (i : (⟨2, ![a, b]⟩ : Shape).Idx) : Fin b := i 1
/-- The place of a vector's index. -/
def b0 {a : Nat} (i : (⟨1, ![a]⟩ : Shape).Idx) : Fin a := i 0

/-- The arguments' types. -/
abbrev Mat : Type := (⟨S2048x1024, .f32⟩ : BufTy).Contents (Elt Ideal)
@[inherit_doc Mat] abbrev Emb : Type := (⟨S2048x256, .f32⟩ : BufTy).Contents (Elt Ideal)
@[inherit_doc Mat] abbrev Wg : Type := (⟨S1024x1024, .f32⟩ : BufTy).Contents (Elt Ideal)
@[inherit_doc Mat] abbrev Wp : Type := (⟨S256x1024, .f32⟩ : BufTy).Contents (Elt Ideal)
@[inherit_doc Mat] abbrev Sc : Type := (⟨S1x1024, .f32⟩ : BufTy).Contents (Elt Ideal)

/-- Arrays that hold real numbers: token `t`'s rows are `R t`. -/
structure Are (W : Wts) (R : Fin 2048 → Row) (x0 : Mat) (x1 : Emb) (x2 : Mat) (x3 : Wg) (x4 : Wp) (x5 : Sc) : Prop where
  h : ∀ i, x0 i = (((R (c0 i)).h (c1 i) : ℝ) : EReal)
  p : ∀ i, x1 i = (((R (c0 i)).p (c1 i) : ℝ) : EReal)
  tg : ∀ i, x2 i = (((R (c0 i)).tg (c1 i) : ℝ) : EReal)
  wg : ∀ i, x3 i = ((W.wg (c0 i) (c1 i) : ℝ) : EReal)
  wp : ∀ i, x4 i = ((W.wp (c0 i) (c1 i) : ℝ) : EReal)
  g : ∀ i, x5 i = ((W.g (c1 i) : ℝ) : EReal)

theorem zeroF : (FloatOps.ofBits .f32 0x00000000#32 : Ideal .f32) = (0 : EReal) := Ideal.ofBits_zero_f32
theorem oneF : (FloatOps.ofBits .f32 0x3F800000#32 : Ideal .f32) = ((1 : ℝ) : EReal) := one_bits
theorem halfF : (FloatOps.ofBits .f32 0x3F000000#32 : Ideal .f32) = ((1 / 2 : ℝ) : EReal) := half_bits
theorem negHalfF : (FloatOps.ofBits .f32 0xBF000000#32 : Ideal .f32) = ((-1 / 2 : ℝ) : EReal) := neg_half_bits
theorem twoF : (FloatOps.ofBits .f32 0x40000000#32 : Ideal .f32) = ((2 : ℝ) : EReal) := two_bits
theorem nF : (FloatOps.ofBits .f32 0x44800000#32 : Ideal .f32) = ((1024 : ℝ) : EReal) := n_bits
theorem epsF : (FloatOps.ofBits .f32 0x358637BD#32 : Ideal .f32) = ((eps : ℝ) : EReal) := eps_bits
theorem n_ne : (1024 : ℝ) ≠ 0 := by norm_num

variable {W : Wts} {R : Fin 2048 → Row} {x0 : Mat} {x1 : Emb} {x2 : Mat} {x3 : Wg} {x4 : Wp} {x5 : Sc}

theorem gate_is (H : Are W R x0 x1 x2 x3 x4 x5) (i : S2048x1024.Idx) : val_main_v7 (F := Ideal) x0 x3 i = ((gate W (R (c0 i)) (c1 i) : ℝ) : EReal) := by
  have e : val_main_v0 (F := Ideal) x0 x3 i = ((∑ k, (R (c0 i)).h k * W.wg k (c1 i) : ℝ) : EReal) := by
    rw [val_main_v0_apply, coe_sum]
    refine Finset.sum_congr rfl fun k _ => ?_
    rw [H.h, H.wg, EReal.coe_mul]; rfl
  rw [val_main_v7_apply, val_main_v6_apply, val_main_cst_0_apply, val_main_v5_apply, val_main_v4_apply, val_main_cst_apply, val_main_v3_apply,
    val_main_v2_apply, e, oneF]
  simp only [Ideal.hostDivf_def, Ideal.addf_def, Ideal.hostUnary_exp_def, Ideal.hostNegf_def, Ideal.negf_def]
  rw [← EReal.coe_neg, Ideal.exp_coe, ← EReal.coe_add, div_real _ (by positivity), one_div]
  rfl

theorem pe_is (H : Are W R x0 x1 x2 x3 x4 x5) (i : S2048x1024.Idx) : val_main_v1 (F := Ideal) x1 x4 i = ((pe W (R (c0 i)) (c1 i) : ℝ) : EReal) := by
  rw [val_main_v1_apply]
  unfold pe
  rw [coe_sum]
  refine Finset.sum_congr rfl fun k _ => ?_
  rw [H.p, H.wp, EReal.coe_mul]; rfl

theorem x_is (H : Are W R x0 x1 x2 x3 x4 x5) (i : S2048x1024.Idx) : val_main_v11 (F := Ideal) x0 x1 x3 x4 i = ((x W (R (c0 i)) (c1 i) : ℝ) : EReal) := by
  rw [val_main_v11_apply, pe_is H, gate_is H]
  exact (EReal.coe_mul _ _).symm

theorem ms_is (H : Are W R x0 x1 x2 x3 x4 x5) (i : S2048x1.Idx) : val_main_v18 (F := Ideal) x0 x1 x3 x4 i = ((ms (x W (R (c0 i))) : ℝ) : EReal) := by
  rw [val_main_v18_apply, val_main_v17_apply, val_main_cst_4_apply, epsF, val_main_v16_apply, val_main_v15_apply, val_main_cst_3_apply, nF,
    val_main_v14_apply, val_main_v13_apply, val_main_cst_2_apply, zeroF, zero_add]
  simp only [val_main_v12_apply, x_is H, Ideal.mulf_def, Ideal.addf_def, Ideal.hostDivf_def]
  simp only [← EReal.coe_mul, ← coe_sum]
  rw [div_real _ n_ne, ← EReal.coe_add]
  rfl

theorem inv_is (H : Are W R x0 x1 x2 x3 x4 x5) (i : S2048x1.Idx) : val_main_v19 (F := Ideal) x0 x1 x3 x4 i = ((inv (x W (R (c0 i))) : ℝ) : EReal) := by
  rw [val_main_v19_apply, ms_is H]
  exact rsqrt_ms _

theorem nrm_is (H : Are W R x0 x1 x2 x3 x4 x5) (i : S2048x1024.Idx) :
    val_main_v24 (F := Ideal) x0 x1 x3 x4 i = ((nrm (x W (R (c0 i))) (c1 i) : ℝ) : EReal) := by
  rw [val_main_v24_apply, x_is H, val_main_v23_apply, inv_is H]
  exact (EReal.coe_mul _ _).symm

theorem diff_is (H : Are W R x0 x1 x2 x3 x4 x5) (i : S2048x1024.Idx) :
    val_main_v28 (F := Ideal) x0 x1 x2 x3 x4 x5 i = ((diff W (R (c0 i)) (c1 i) : ℝ) : EReal) := by
  rw [val_main_v28_apply, val_main_v27_apply, val_main_v26_apply, nrm_is H, H.h, H.tg, val_main_v25_apply, H.g]
  simp only [Ideal.mulf_def, Ideal.addf_def, Ideal.subf_def]
  rw [← EReal.coe_mul, ← EReal.coe_add, ← EReal.coe_sub]
  rfl

/-- A sum over a vector's indices is the sum over its places. -/
theorem sum_vec (f : Fin 2048 → ℝ) : ∑ j : S2048.Idx, f (b0 j) = ∑ t, f t :=
  Fintype.sum_equiv ⟨fun j => b0 j, fun t => ix1 t, fun j => (eq_ix1 j).symm, fun t => rfl⟩ _ _ fun j => rfl

/-- The loss. -/
theorem loss_is (H : Are W R x0 x1 x2 x3 x4 x5) (i : S1x1.Idx) :
    val_main_v69 (F := Ideal) x0 x1 x2 x3 x4 x5 i = ((1 / 2 * ∑ t, tok W (R t) : ℝ) : EReal) := by
  have e : ∀ j : S2048.Idx, val_main_v34 (F := Ideal) x0 x1 x2 x3 x4 x5 j = ((tok W (R (b0 j)) : ℝ) : EReal) := fun j => by
    rw [val_main_v34_apply, val_main_v33_apply, val_main_cst_8_apply, nF, val_main_v32_apply, val_main_cst_7_apply, zeroF, zero_add]
    simp only [val_main_v29_apply, diff_is H, Ideal.mulf_def, Ideal.hostDivf_def]
    simp only [← EReal.coe_mul, ← coe_sum]
    rw [div_real _ n_ne]
    rfl
  have e1 : val_main_v69 (F := Ideal) x0 x1 x2 x3 x4 x5 i = val_main_v36 (F := Ideal) x0 x1 x2 x3 x4 x5 (ix0) := by
    rw [eq_ix2 i]
    unfold val_main_v69
    generalize val_main_v36 (F := Ideal) x0 x1 x2 x3 x4 x5 = y
    pointwise
  rw [e1, val_main_v36_apply, val_main_cst_10_apply, halfF, val_main_v35_apply, val_main_cst_9_apply, zeroF, zero_add]
  simp only [e, Ideal.mulf_def]
  rw [← coe_sum, ← EReal.coe_mul]
  refine congrArg (fun z : ℝ => ((1 / 2 * z : ℝ) : EReal)) ?_
  exact sum_vec fun t => tok W (R t)

theorem dh3_is (H : Are W R x0 x1 x2 x3 x4 x5) (i : S2048x1024.Idx) :
    val_main_v42 (F := Ideal) x0 x1 x2 x3 x4 x5 i = ((dh3 W (R (c0 i)) (c1 i) : ℝ) : EReal) := by
  rw [val_main_v42_apply, val_main_v41_apply, val_main_v40_apply, val_main_v39_apply, val_main_cst_13_apply, nF, val_main_v38_apply, val_main_v37_apply,
    val_main_cst_11_apply, halfF, val_main_cst_12_apply, oneF, val_main_v31_apply, val_main_v30_apply, val_main_cst_6_apply, twoF, diff_is H]
  simp only [Ideal.mulf_def, Ideal.hostDivf_def]
  rw [← EReal.coe_mul, ← EReal.coe_mul, div_real _ n_ne, ← EReal.coe_mul]
  refine congrArg _ ?_
  unfold dh3
  ring

/-- The gradient of the norm's scale. -/
theorem dg_is (H : Are W R x0 x1 x2 x3 x4 x5) (i : S1x1024.Idx) :
    val_main_v45 (F := Ideal) x0 x1 x2 x3 x4 x5 i = ((∑ t, dg W (R t) (c1 i) : ℝ) : EReal) := by
  have h0 : (i 0).val < 1 := (i 0).isLt
  rw [val_main_v45_apply, val_main_v44_apply, val_main_cst_14_apply, zeroF, zero_add, coe_sum]
  refine Finset.sum_congr rfl fun t _ => ?_
  rw [val_main_v43_apply, nrm_is H, dh3_is H]
  have e : c1 (idx_main_v44 (idx_main_v45 i) t) = c1 i := Fin.ext (by show (i 0).val * 1024 + (i 1).val = (i 1).val; omega)
  rw [e]
  exact (EReal.coe_mul _ _).symm.trans (congrArg _ (mul_comm _ _))

/-- The derivative through the mean square, one number for each row. -/
theorem y_is (H : Are W R x0 x1 x2 x3 x4 x5) (i : S2048x1024.Idx) :
    val_main_v57 (F := Ideal) x0 x1 x2 x3 x4 x5 i
      = (((∑ l, x W (R (c0 i)) l * (dh3 W (R (c0 i)) l * W.g l)) * (-1 / 2 * (inv (x W (R (c0 i))) / ms (x W (R (c0 i))))) / 1024 : ℝ) : EReal) := by
  have e : ∀ j : S2048x1.Idx, val_main_v50 (F := Ideal) x0 x1 x2 x3 x4 x5 j
      = ((∑ l, x W (R (c0 j)) l * (dh3 W (R (c0 j)) l * W.g l) : ℝ) : EReal) := fun j => by
    have h1 : (j 1).val < 1 := (j 1).isLt
    rw [val_main_v50_apply, val_main_v49_apply, val_main_cst_15_apply, zeroF, zero_add, coe_sum]
    refine Finset.sum_congr rfl fun l _ => ?_
    rw [val_main_v48_apply, x_is H, val_main_v47_apply, dh3_is H, val_main_v46_apply, H.g]
    simp only [Ideal.mulf_def]
    rw [← EReal.coe_mul, ← EReal.coe_mul]
    have e0 : c0 (idx_main_v49 (idx_main_v50 j) l) = c0 j := Fin.ext (by show (j 0).val * 1 + (j 1).val = (j 0).val; omega)
    rw [e0]
    rfl
  rw [val_main_v57_apply, val_main_v56_apply, val_main_cst_17_apply, zeroF, zero_add, Fin.sum_univ_one, val_main_v55_apply, val_main_v54_apply,
    val_main_cst_16_apply, nF, val_main_v53_apply, e, val_main_v22_apply, val_main_v21_apply, val_main_cst_5_apply, negHalfF, val_main_v20_apply,
    inv_is H, ms_is H]
  simp only [Ideal.mulf_def, Ideal.hostDivf_def]
  rw [div_real _ (ms_pos _).ne', ← EReal.coe_mul, ← EReal.coe_mul, div_real _ n_ne]
  rfl

theorem de_is (H : Are W R x0 x1 x2 x3 x4 x5) (i : S2048x1024.Idx) :
    val_main_v61 (F := Ideal) x0 x1 x2 x3 x4 x5 i = ((de W (R (c0 i)) (c1 i) : ℝ) : EReal) := by
  rw [val_main_v61_apply, val_main_v60_apply, val_main_v59_apply, val_main_v58_apply, val_main_v52_apply, val_main_v51_apply, inv_is H, y_is H, x_is H,
    val_main_v47_apply, dh3_is H, val_main_v46_apply, H.g]
  simp only [Ideal.mulf_def, Ideal.addf_def, ← EReal.coe_mul, ← EReal.coe_add]
  exact congrArg _ (chain (x W (R (c0 i))) (fun l => dh3 W (R (c0 i)) l * W.g l) (c1 i))

/-- The gradient of the projected embedding. -/
theorem dpe_is (H : Are W R x0 x1 x2 x3 x4 x5) (i : S2048x1024.Idx) :
    val_main_v67 (F := Ideal) x0 x1 x2 x3 x4 x5 i = ((dpe W (R (c0 i)) (c1 i) : ℝ) : EReal) := by
  rw [val_main_v67_apply, val_main_v63_apply, de_is H, gate_is H]
  exact (EReal.coe_mul _ _).symm

theorem dgl_mid (H : Are W R x0 x1 x2 x3 x4 x5) (i : S2048x1024.Idx) :
    val_main_v64 (F := Ideal) x0 x1 x2 x3 x4 x5 i = ((dgl W (R (c0 i)) (c1 i) : ℝ) : EReal) := by
  rw [val_main_v64_apply, val_main_v62_apply, pe_is H, de_is H, val_main_v10_apply, val_main_v9_apply, val_main_v8_apply, val_main_cst_1_apply, oneF,
    gate_is H]
  simp only [Ideal.mulf_def, Ideal.subf_def, ← EReal.coe_mul, ← EReal.coe_sub]
  refine congrArg _ ?_
  unfold dgl
  ring

/-- The gradient of the gate's logit. -/
theorem dgl_is (H : Are W R x0 x1 x2 x3 x4 x5) (i : S2048x1024.Idx) :
    val_main_v68 (F := Ideal) x0 x1 x2 x3 x4 x5 i = ((dgl W (R (c0 i)) (c1 i) : ℝ) : EReal) := by
  rw [val_main_v68_apply, dgl_mid H]; rfl

/-- The gradient of the residual. -/
theorem dh_is (H : Are W R x0 x1 x2 x3 x4 x5) (i : S2048x1024.Idx) :
    val_main_v66 (F := Ideal) x0 x1 x2 x3 x4 x5 i = ((dh W (R (c0 i)) (c1 i) : ℝ) : EReal) := by
  rw [val_main_v66_apply, dh3_is H, val_main_v65_apply]
  simp only [dgl_mid H, H.wg, Ideal.addf_def]
  simp only [← EReal.coe_mul, ← coe_sum, ← EReal.coe_add]
  rfl

end Cert.PleRefIdeal.Hand

end
-- ==== Proof.PlePre.lean ====
module

public import proofs.«01_k».proof.Proof.Rows
public import proofs.«01_k».proof.Proof.PleKernel
public import proofs.«01_k».proof.Proof.PleRef

/-! # The loss: finite arguments are real numbers -/

@[expose] public section

noncomputable section

namespace Cert.PleIdeal.Hand

open Idealize.ShloMosaic Cert.PleMath
open Idealize.ShloMosaic.TcCoe
open Cert.PleRefIdeal.Hand (Mat Emb Wg Wp Sc Are c0 c1)

/-- The shapes that the precondition's lines relate. -/
instance preFacts : Cert.Pre_ple_finite.Facts where
  bcast_S_S2048x1024 := by decide
  reducesTo_S2048x1024_S_d0_1 := by decide
  h_S_ := by decide
  bcast_S_S2048x256 := by decide
  reducesTo_S2048x256_S_d0_1 := by decide
  bcast_S_S1024x1024 := by decide
  reducesTo_S1024x1024_S_d0_1 := by decide
  bcast_S_S256x1024 := by decide
  reducesTo_S256x1024_S_d0_1 := by decide
  bcast_S_S1x1024 := by decide
  reducesTo_S1x1024_S_d0_1 := by decide

/-- The weights that finite arguments hold. -/
def wtsOf (x3 : Wg) (x4 : Wp) (x5 : Sc) : Wts where
  wg a b := (x3 (ix2 a b) : EReal).toReal
  wp a b := (x4 (ix2 a b) : EReal).toReal
  g b := (x5 (ix2 0 b) : EReal).toReal

/-- … and the tokens' rows. -/
def rowOf (x0 : Mat) (x1 : Emb) (x2 : Mat) (t : Fin 2048) : Row where
  h b := (x0 (ix2 t b) : EReal).toReal
  p b := (x1 (ix2 t b) : EReal).toReal
  tg b := (x2 (ix2 t b) : EReal).toReal

open Cert.Pre_ple_finite in
open Cert.FoxIdeal.Hand (all_real) in
theorem are_of (x0 : Mat) (x1 : Emb) (x2 : Mat) (x3 : Wg) (x4 : Wp) (x5 : Sc)
    (h : Cert.Pre_ple_finite.fn (F := Ideal) x0 x1 x2 x3 x4 x5 = fun _ => 1#1) :
    Are (wtsOf x3 x4 x5) (rowOf x0 x1 x2) x0 x1 x2 x3 x4 x5 := by
  have e := congrFun h ix0
  simp only [Cert.Pre_ple_finite.fn, Cert.Pre_ple_finite.fn_part1, andi, IntOp.andi_eq_one] at e
  obtain ⟨⟨⟨⟨⟨⟨-, e0⟩, e1⟩, e2⟩, e3⟩, e4⟩, e5⟩ := e
  have b0 := all_real x0 Facts.bcast_S_S2048x1024 Facts.reducesTo_S2048x1024_S_d0_1 Facts.h_S_ ix0 e0
  have b1 := all_real x1 Facts.bcast_S_S2048x256 Facts.reducesTo_S2048x256_S_d0_1 Facts.h_S_ ix0 e1
  have b2 := all_real x2 Facts.bcast_S_S2048x1024 Facts.reducesTo_S2048x1024_S_d0_1 Facts.h_S_ ix0 e2
  have b3 := all_real x3 Facts.bcast_S_S1024x1024 Facts.reducesTo_S1024x1024_S_d0_1 Facts.h_S_ ix0 e3
  have b4 := all_real x4 Facts.bcast_S_S256x1024 Facts.reducesTo_S256x1024_S_d0_1 Facts.h_S_ ix0 e4
  have b5 := all_real x5 Facts.bcast_S_S1x1024 Facts.reducesTo_S1x1024_S_d0_1 Facts.h_S_ ix0 e5
  refine ⟨fun i => ?_, fun i => ?_, fun i => ?_, fun i => ?_, fun i => ?_, fun i => ?_⟩
  · obtain ⟨a, b, rfl⟩ : ∃ a b, i = ix2 a b := ⟨i 0, i 1, eq_ix2 i⟩; exact b0 _
  · obtain ⟨a, b, rfl⟩ : ∃ a b, i = ix2 a b := ⟨i 0, i 1, eq_ix2 i⟩; exact b1 _
  · obtain ⟨a, b, rfl⟩ : ∃ a b, i = ix2 a b := ⟨i 0, i 1, eq_ix2 i⟩; exact b2 _
  · obtain ⟨a, b, rfl⟩ : ∃ a b, i = ix2 a b := ⟨i 0, i 1, eq_ix2 i⟩; exact b3 _
  · obtain ⟨a, b, rfl⟩ : ∃ a b, i = ix2 a b := ⟨i 0, i 1, eq_ix2 i⟩; exact b4 _
  · obtain ⟨a, b, rfl⟩ : ∃ a b, i = ix2 a b := ⟨i 0, i 1, eq_ix2 i⟩
    obtain rfl : a = 0 := Subsingleton.elim _ _
    exact b5 _

end Cert.PleIdeal.Hand
-- ==== Proof.PleRun.lean ====
module

public import proofs.«01_k».proof.Proof.PlePre
public import proofs.«01_k».proof.Proof.PleOut
public import proofs.«01_k».proof.Proof.Gen.PleIdeal.Value
public import proofs.«01_k».proof.Proof.Gen.PleRefIdeal.Run
public import Idealize.ShloMosaic.Lib.Claim
public import Idealize.ShloMosaic.Lib.Pipeline.ValueKit

/-! # The loss: kernel and reference compute the same gradients -/

@[expose] public section

noncomputable section

namespace Cert.PleIdeal.Hand

open Idealize.ShloMosaic Cert.PleIdeal Cert.PleIdeal.Gen Cert.PleIdeal.Value
open Idealize.ShloMosaic.TcCoe Cert.PleMath Cert.Rows
open Cert.PleRefIdeal.Hand (Mat Emb Wg Wp Sc Are c0 c1)

section Arrays
variable {W : Wts} {R : Fin 2048 → Row} (m : (ℓ : Loc nD τ sig) → Buf (Elt Ideal) ℓ) (c : Dev nD)

/-- The program's arguments. -/
abbrev a0 : Mat := m ((c : Thread nD τ).loc main_arg0)
@[inherit_doc a0] abbrev a1 : Emb := m ((c : Thread nD τ).loc main_arg1)
@[inherit_doc a0] abbrev a2 : Mat := m ((c : Thread nD τ).loc main_arg2)
@[inherit_doc a0] abbrev a3 : Wg := m ((c : Thread nD τ).loc main_arg3)
@[inherit_doc a0] abbrev a4 : Wp := m ((c : Thread nD τ).loc main_arg4)
@[inherit_doc a0] abbrev a5 : Sc := m ((c : Thread nD τ).loc main_arg5)

/-- The weights' casts, the identity over the reals. -/
theorem V_wg : (V m c main_v0 : Vec Ideal S1024x1024 .bf16) = a3 m c := by
  simp only [V, hostOps0, List.flatten_cons, List.flatten_nil, List.append_nil, StableHlo.unary, cast_eq]
  after_results_simp <;> rfl

theorem V_wp : (V m c main_v1 : Vec Ideal S256x1024 .bf16) = a4 m c := by
  simp only [V, hostOps0, List.flatten_cons, List.flatten_nil, List.append_nil, StableHlo.unary, cast_eq]
  after_results_simp <;> rfl

theorem iblk_h (t : Fin cfg0.N) (a : Fin 512) (b : Fin 1024) : (iblk m c 0 t : Vec Ideal S512x1024 .f32) (ix2 a b) = a0 m c (ix2 (row t.val a) b) := by
  have e : ∀ t : Fin cfg0.N, win0_0.index t = ![t.val, 0] := (by decide +kernel : ∀ t : Fin grid0.N, _)
  have hN : t.val < 4 := lt_of_lt_of_eq t.isLt (show cfg0.N = 4 from N_0)
  blk_simp [iblk]
  rw [V_main_arg0]
  refine congrArg _ ?_
  blk_ext [e]
  rw [row_val hN]; omega

theorem iblk_p (t : Fin cfg0.N) (a : Fin 512) (b : Fin 256) : (iblk m c 1 t : Vec Ideal S512x256 .f32) (ix2 a b) = a1 m c (ix2 (row t.val a) b) := by
  have e : ∀ t : Fin cfg0.N, win0_1.index t = ![t.val, 0] := (by decide +kernel : ∀ t : Fin grid0.N, _)
  have hN : t.val < 4 := lt_of_lt_of_eq t.isLt (show cfg0.N = 4 from N_0)
  blk_simp [iblk]
  rw [V_main_arg1]
  refine congrArg _ ?_
  blk_ext [e]
  rw [row_val hN]; omega

theorem iblk_tg (t : Fin cfg0.N) (a : Fin 512) (b : Fin 1024) : (iblk m c 2 t : Vec Ideal S512x1024 .f32) (ix2 a b) = a2 m c (ix2 (row t.val a) b) := by
  have e : ∀ t : Fin cfg0.N, win0_2.index t = ![t.val, 0] := (by decide +kernel : ∀ t : Fin grid0.N, _)
  have hN : t.val < 4 := lt_of_lt_of_eq t.isLt (show cfg0.N = 4 from N_0)
  blk_simp [iblk]
  rw [V_main_arg2]
  refine congrArg _ ?_
  blk_ext [e]
  rw [row_val hN]; omega

theorem iblk_wg (t : Fin cfg0.N) : (iblk m c 3 t : Vec Ideal S1024x1024 .bf16) = a3 m c := by
  have e : ∀ t : Fin cfg0.N, win0_3.index t = ![0, 0] := (by decide +kernel : ∀ t : Fin grid0.N, _)
  rw [← V_wg]
  funext y; blk_simp [iblk]; refine congrArg _ ?_; blk_ext [e]

theorem iblk_wp (t : Fin cfg0.N) : (iblk m c 4 t : Vec Ideal S256x1024 .bf16) = a4 m c := by
  have e : ∀ t : Fin cfg0.N, win0_4.index t = ![0, 0] := (by decide +kernel : ∀ t : Fin grid0.N, _)
  rw [← V_wp]
  funext y; blk_simp [iblk]; refine congrArg _ ?_; blk_ext [e]

theorem iblk_g (t : Fin cfg0.N) : (iblk m c 5 t : Vec Ideal S1x1024 .f32) = a5 m c := by
  have e : ∀ t : Fin cfg0.N, win0_5.index t = ![0, 0] := (by decide +kernel : ∀ t : Fin grid0.N, _)
  have ea : a5 m c = (V m c main_arg5 : Vec Ideal S1x1024 .f32) := (V_main_arg5 m c).symm
  rw [ea]
  funext y; blk_simp [iblk]; refine congrArg _ ?_; blk_ext [e]

variable (H : Are W R (a0 m c) (a1 m c) (a2 m c) (a3 m c) (a4 m c) (a5 m c))
include H

/-- The blocks of a grid point hold its tokens' rows and the weights. -/
theorem blocks (t : Fin cfg0.N) : Blocks W (fun a => R (row t.val a)) (iblk m c 0 t) (iblk m c 1 t) (iblk m c 2 t) (iblk m c 3 t) (iblk m c 4 t)
    (iblk m c 5 t) :=
  ⟨fun a b => (iblk_h m c t a b).trans (H.h _), fun a b => (iblk_p m c t a b).trans (H.p _), fun a b => (iblk_tg m c t a b).trans (H.tg _),
    fun a b => (congrFun (iblk_wg m c t) _).trans (H.wg _), fun a b => (congrFun (iblk_wp m c t) _).trans (H.wp _),
    fun b => (congrFun (iblk_g m c t) _).trans (H.g _)⟩

/-- The three results that the points write block by block. -/
theorem rows_at (t : Fin cfg0.N) : (outsAt0 m c t.val t.isLt).1 = (stored m c t).1 ∧ (outsAt0 m c t.val t.isLt).2.1 = (stored m c t).2.1
    ∧ (outsAt0 m c t.val t.isLt).2.2.1 = (stored m c t).2.2.1 := by
  rcases Nat.eq_zero_or_pos t.val with h | h
  · rw [outs_first m c t h]; exact ⟨rfl, rfl, rfl⟩
  · rw [outs_later m c t h]; exact ⟨rfl, rfl, rfl⟩

/-- The accumulated gradient of the norm's scale. -/
theorem dg_at : ∀ n (hn : n < cfg0.N) (a : Fin 1) (b : Fin 1024), (outsAt0 m c n hn).2.2.2.1 (ix2 a b) = ((upto (fun t => dg W (R t) b) n : ℝ) : EReal)
  | 0, hn, a, b => by
    rw [outs_first m c ⟨0, hn⟩ rfl]
    exact dg_is (blocks m c H ⟨0, hn⟩) a b
  | n + 1, hn, a, b => by
    have ih := dg_at n (Nat.lt_of_succ_lt hn) a b
    have e := dg_is (blocks m c H ⟨n + 1, hn⟩) a b
    rw [outs_later m c ⟨n + 1, hn⟩ (Nat.succ_pos n)]
    refine (congrArg₂ (fun x y : EReal => x + y) ih e).trans ?_
    exact (EReal.coe_add _ _).symm

/-- The accumulated loss. -/
theorem loss_at : ∀ n (hn : n < cfg0.N) (a b : Fin 1), (outsAt0 m c n hn).2.2.2.2 (ix2 a b) = ((1 / 2 * upto (fun t => tok W (R t)) n : ℝ) : EReal)
  | 0, hn, a, b => by
    rw [outs_first m c ⟨0, hn⟩ rfl]
    exact loss_is (blocks m c H ⟨0, hn⟩) a b
  | n + 1, hn, a, b => by
    have ih := loss_at n (Nat.lt_of_succ_lt hn) a b
    have e := loss_is (blocks m c H ⟨n + 1, hn⟩) a b
    rw [outs_later m c ⟨n + 1, hn⟩ (Nat.succ_pos n)]
    refine (congrArg₂ (fun x y : EReal => x + y) ih e).trans ?_
    rw [← EReal.coe_add, ← mul_add]
    rfl

end Arrays

/-- The gradient of the residual. -/
def gh (W : Wts) (R : Fin 2048 → Row) : FVec Ideal S2048x1024 .f32 := fun i => ((dh W (R (c0 i)) (c1 i) : ℝ) : EReal)
/-- The gradient of the projected embedding. -/
def gpe (W : Wts) (R : Fin 2048 → Row) : FVec Ideal S2048x1024 .bf16 := fun i => ((dpe W (R (c0 i)) (c1 i) : ℝ) : EReal)
/-- The gradient at the gate's input. -/
def ggl (W : Wts) (R : Fin 2048 → Row) : FVec Ideal S2048x1024 .bf16 := fun i => ((dgl W (R (c0 i)) (c1 i) : ℝ) : EReal)
/-- The gradient of the norm's scale. -/
def gg (W : Wts) (R : Fin 2048 → Row) : FVec Ideal S1x1024 .f32 := fun i => ((∑ t, dg W (R t) (c1 i) : ℝ) : EReal)
/-- The loss. -/
def gl (W : Wts) (R : Fin 2048 → Row) : FVec Ideal S1x1 .f32 := fun _ => ((1 / 2 * ∑ t, tok W (R t) : ℝ) : EReal)

section Final
variable {W : Wts} {R : Fin 2048 → Row} (m : (ℓ : Loc nD τ sig) → Buf (Elt Ideal) ℓ) (c : Dev nD)
  (H : Are W R (a0 m c) (a1 m c) (a2 m c) (a3 m c) (a4 m c) (a5 m c))
include H

theorem arr6 : (dats m 0 c).arrAt 6 cfg0.N = gh W R := by
  have e : ∀ t : Fin cfg0.N, win0_6.index t = ![t.val, 0] := (by decide +kernel : ∀ t : Fin grid0.N, _)
  refine (dats m 0 c).arrAt_eq_of_covers 6 _ (by decide +kernel) fun t hf y => ?_
  have hN : t.val < 4 := lt_of_lt_of_eq t.isLt (show cfg0.N = 4 from N_0)
  blk_simp
  rw [after0_6, (rows_at m c H t).1]
  obtain ⟨a, b, rfl⟩ : ∃ a b, y = ix2 a b := ⟨y 0, y 1, eq_ix2 y⟩
  refine (dh_is (blocks m c H t) a b).trans ?_
  refine (show gh W R (ix2 (row t.val a) b) = _ from congrArg (gh W R) ?_)
  blk_ext [e]
  rw [row_val hN]; omega

theorem arr7 : (dats m 0 c).arrAt 7 cfg0.N = gpe W R := by
  have e : ∀ t : Fin cfg0.N, win0_7.index t = ![t.val, 0] := (by decide +kernel : ∀ t : Fin grid0.N, _)
  refine (dats m 0 c).arrAt_eq_of_covers 7 _ (by decide +kernel) fun t hf y => ?_
  have hN : t.val < 4 := lt_of_lt_of_eq t.isLt (show cfg0.N = 4 from N_0)
  blk_simp
  rw [after0_7, (rows_at m c H t).2.1]
  obtain ⟨a, b, rfl⟩ : ∃ a b, y = ix2 a b := ⟨y 0, y 1, eq_ix2 y⟩
  refine (dpe_is (blocks m c H t) a b).trans ?_
  refine (show gpe W R (ix2 (row t.val a) b) = _ from congrArg (gpe W R) ?_)
  blk_ext [e]
  rw [row_val hN]; omega

theorem arr8 : (dats m 0 c).arrAt 8 cfg0.N = ggl W R := by
  have e : ∀ t : Fin cfg0.N, win0_8.index t = ![t.val, 0] := (by decide +kernel : ∀ t : Fin grid0.N, _)
  refine (dats m 0 c).arrAt_eq_of_covers 8 _ (by decide +kernel) fun t hf y => ?_
  have hN : t.val < 4 := lt_of_lt_of_eq t.isLt (show cfg0.N = 4 from N_0)
  blk_simp
  rw [after0_8, (rows_at m c H t).2.2]
  obtain ⟨a, b, rfl⟩ : ∃ a b, y = ix2 a b := ⟨y 0, y 1, eq_ix2 y⟩
  refine (dgl_is (blocks m c H t) a b).trans ?_
  refine (show ggl W R (ix2 (row t.val a) b) = _ from congrArg (ggl W R) ?_)
  blk_ext [e]
  rw [row_val hN]; omega

theorem arr9 (t₀ : Fin cfg0.N) (ht : t₀.val = 3) (hw : (cfg0.win 9).WholeAt t₀) : (dats m 0 c).arrAt 9 cfg0.N = gg W R := by
  have key : ∀ n (hn : n < cfg0.N), n = 3 → ∀ a b, (outsAt0 m c n hn).2.2.2.1 (ix2 a b) = ((∑ t, dg W (R t) b : ℝ) : EReal) := by
    rintro _ hn rfl a b
    rw [← upto_three]
    exact dg_at m c H 3 hn a b
  refine (dats m 0 c).arrAt_eq_of_after_last 9 t₀ hw _ fun j => ?_
  blk_simp
  rw [after0_9]
  obtain ⟨a, b, rfl⟩ : ∃ a b, j = ix2 a b := ⟨j 0, j 1, eq_ix2 j⟩
  exact key _ _ ht a b

theorem arr10 (t₀ : Fin cfg0.N) (ht : t₀.val = 3) (hw : (cfg0.win 10).WholeAt t₀) : (dats m 0 c).arrAt 10 cfg0.N = gl W R := by
  have key : ∀ n (hn : n < cfg0.N), n = 3 → ∀ a b, (outsAt0 m c n hn).2.2.2.2 (ix2 a b) = ((1 / 2 * ∑ t, tok W (R t) : ℝ) : EReal) := by
    rintro _ hn rfl a b
    rw [← upto_three]
    exact loss_at m c H 3 hn a b
  refine (dats m 0 c).arrAt_eq_of_after_last 10 t₀ hw _ fun j => ?_
  blk_simp
  rw [after0_10]
  obtain ⟨a, b, rfl⟩ : ∃ a b, j = ix2 a b := ⟨j 0, j 1, eq_ix2 j⟩
  exact key _ _ ht a b

end Final

/-- Kernel and reference compute the same loss and the same gradients of finite arguments. -/
theorem algebraic : Cert.algebraic_PleIdeal_PleRefIdeal_pre_ple_finite := by
  intro m g m' g' hpre hargs
  let W : Dev nD → Wts := fun c => wtsOf (a3 m c) (a4 m c) (a5 m c)
  let R : Dev nD → Fin 2048 → Row := fun c => rowOf (a0 m c) (a1 m c) (a2 m c)
  have H : ∀ c, Are (W c) (R c) (a0 m c) (a1 m c) (a2 m c) (a3 m c) (a4 m c) (a5 m c) := fun c => are_of _ _ _ _ _ _ (hpre c)
  refine ⟨fun c => gh (W c) (R c), fun c => gpe (W c) (R c), fun c => ggl (W c) (R c), fun c => gg (W c) (R c), fun c => gl (W c) (R c), ?_, ?_⟩
  · refine (θ_run _ _ _).mono (fun r h c => ?_) (run_blocks m g)
    obtain ⟨h0, h1, h2, h3, h4, hr⟩ := h c
    exact ⟨h0.trans (arr6 m c (H c)), h1.trans (arr7 m c (H c)), h2.trans (arr8 m c (H c)),
      h3.trans (arr9 m c (H c) ⟨3, by decide +kernel⟩ rfl (by decide +kernel)),
      h4.trans (arr10 m c (H c) ⟨3, by decide +kernel⟩ rfl (by decide +kernel)), hr⟩
  · refine (θ_run _ _ _).mono (fun r h c => ?_) (Cert.PleRefIdeal.Value.run m' g')
    obtain ⟨h0, h1, h2, h3, h4, hr⟩ := h c
    obtain ⟨e0, e1, e2, e3, e4, e5⟩ := hargs c
    refine ⟨h0.trans ?_, h1.trans ?_, h2.trans ?_, h3.trans ?_, h4.trans ?_, hr⟩
    · rw [Cert.PleRefIdeal.Read.val_main_v66_eq, e0, e1, e2, e3, e4, e5]
      exact funext fun i => Cert.PleRefIdeal.Hand.dh_is (H c) i
    · rw [Cert.PleRefIdeal.Read.val_main_v67_eq, e0, e1, e2, e3, e4, e5]
      exact funext fun i => Cert.PleRefIdeal.Hand.dpe_is (H c) i
    · rw [Cert.PleRefIdeal.Read.val_main_v68_eq, e0, e1, e2, e3, e4, e5]
      exact funext fun i => Cert.PleRefIdeal.Hand.dgl_is (H c) i
    · rw [Cert.PleRefIdeal.Read.val_main_v45_eq, e0, e1, e2, e3, e4, e5]
      exact funext fun i => Cert.PleRefIdeal.Hand.dg_is (H c) i
    · rw [Cert.PleRefIdeal.Read.val_main_v69_eq, e0, e1, e2, e3, e4, e5]
      exact funext fun i => Cert.PleRefIdeal.Hand.loss_is (H c) i

end Cert.PleIdeal.Hand
-- ==== Proof.MlpOut.lean ====
module

public import proofs.«01_k».proof.Proof.Gen.MlpIdeal.Frame
public import Idealize.ShloMosaic.Lib.Pointwise
public import Idealize.ShloMosaic.Lib.Pipeline.ValueKit

/-! # What one grid point of `_mlp_bwd` leaves in its results' buffers

The gradient at the rectifier's input is written in eight chunks of 512 columns; the scales' gradients are added to what the point before left. -/

@[expose] public section

set_option maxRecDepth 16384

noncomputable section

namespace Cert.MlpIdeal.Hand

open Idealize.ShloMosaic Idealize.ShloMosaic.TcCoe Idealize.ShloMosaic.Tactic Cert.MlpIdeal Cert.MlpIdeal.Gen

variable {F : FTy → Type} [FloatOps F]

theorem hz : (![0, 0] : Fin 2 → Nat) = fun _ => 0 := funext fun a => by match a with | ⟨0, _⟩ => rfl | ⟨1, _⟩ => rfl

/-- The columns of chunk `k`. -/
theorem in_cols {k : ℕ} (h : k < 8) : ∀ a, (![0, 512 * k] : Fin 2 → Nat) a + S512x512.size a ≤ S512x4096.size a
  | ⟨0, _⟩ => le_refl 512
  | ⟨1, _⟩ => by show 512 * k + 512 ≤ 4096; omega
theorem in_rows {k : ℕ} (h : k < 8) : ∀ a, (![512 * k, 0] : Fin 2 → Nat) a + S512x1024.size a ≤ S4096x1024.size a
  | ⟨0, _⟩ => by show 512 * k + 512 ≤ 4096; omega
  | ⟨1, _⟩ => le_refl 1024
theorem in_chunk {k : ℕ} (h : k < 8) : ∀ a, (![k, 0, 0] : Fin 3 → Nat) a + S1x1024x512.size a ≤ S8x1024x512.size a
  | ⟨0, _⟩ => by show k + 1 ≤ 8; omega
  | ⟨1, _⟩ => le_refl 1024
  | ⟨2, _⟩ => le_refl 512

section
variable (x0 x1 x2 : Vec F S512x1024 .f32) (x3 : Vec F S512x4096 .bf16) (x4 : Vec F S8x1024x512 .bf16) (x5 : Vec F S4096x1024 .bf16)
  (x6 x7 : Vec F S1x1024 .f32)

/-- Chunk `k` of the rectifier's input, and of the two weights. -/
def uK (k : ℕ) (h : k < 8) : Vec F S512x512 .bf16 := View.ld x3 (Rect.unit (s := S512x4096) ![0, 512 * k] S512x512.size (in_cols h))
@[inherit_doc uK] def w2K (k : ℕ) (h : k < 8) : Vec F S512x1024 .bf16 := View.ld x5 (Rect.unit (s := S4096x1024) ![512 * k, 0] S512x1024.size (in_rows h))
@[inherit_doc uK] def w1K (k : ℕ) (h : k < 8) : Vec F S1x1024x512 .bf16 :=
  View.ld x4 (Rect.unit (s := S8x1024x512) ![k, 0, 0] S1x1024x512.size (in_chunk h))

/-- The gradient at the second norm's input. -/
def dyV : Vec F S512x1024 .bf16 := k0_pay6 x0 x1 x6
/-- Chunk `k` of the gradient at the rectifier's input. -/
def duK (k : ℕ) (h : k < 8) : Vec F S512x512 .bf16 := k0_pay7 (dyV x0 x1 x6) (w2K x5 k h) (uK x3 k h)
/-- The write of that chunk. -/
def duP (k : ℕ) (h : k < 8) : View.Piece (Elt F) S512x4096 .bf16 :=
  ⟨Rect.unit (s := S512x4096) ![0, 512 * k] S512x512.size (in_cols h), duK x0 x1 x3 x5 x6 k h⟩
/-- The eight writes, the last first. -/
def duL : List (View.Piece (Elt F) S512x4096 .bf16) :=
  [duP x0 x1 x3 x5 x6 7 (by decide), duP x0 x1 x3 x5 x6 6 (by decide), duP x0 x1 x3 x5 x6 5 (by decide), duP x0 x1 x3 x5 x6 4 (by decide),
    duP x0 x1 x3 x5 x6 3 (by decide), duP x0 x1 x3 x5 x6 2 (by decide), duP x0 x1 x3 x5 x6 1 (by decide), duP x0 x1 x3 x5 x6 0 (by decide)]
/-- What they leave. -/
def duV : Vec F S512x4096 .bf16 := View.canon (duL x0 x1 x3 x5 x6)

/-- The gradient at the first norm's result, of the chunks before the last. -/
def dmA : Vec F S512x1024 .f32 :=
  k0_pay18 (dyV x0 x1 x6)
    (k0_pay15 (dyV x0 x1 x6)
      (k0_pay12 (dyV x0 x1 x6)
        (k0_pay8 (dyV x0 x1 x6) (Scalar.ofBits .f32 0x00000000#32) (w2K x5 0 (by decide)) (uK x3 0 (by decide)) (w1K x4 0 (by decide)))
        (duK x0 x1 x3 x5 x6 1 (by decide)) (k0_pay10 (w1K x4 1 (by decide))) (w2K x5 2 (by decide)) (uK x3 2 (by decide)) (w1K x4 2 (by decide)))
      (duK x0 x1 x3 x5 x6 3 (by decide)) (w1K x4 3 (by decide)) (w2K x5 4 (by decide)) (uK x3 4 (by decide)) (w1K x4 4 (by decide)))
    (duK x0 x1 x3 x5 x6 5 (by decide)) (w1K x4 5 (by decide)) (w2K x5 6 (by decide)) (uK x3 6 (by decide)) (w1K x4 6 (by decide))
/-- Its rows' part of the second scale's gradient. -/
def dg4V : Vec F S1x1024 .f32 := k0_pay4 x0 x1
/-- Its rows' part of the first scale's gradient. -/
def dg3V : Vec F S1x1024 .f32 := k0_pay23 (dmA x0 x1 x3 x4 x5 x6) (duK x0 x1 x3 x5 x6 7 (by decide)) (w1K x4 7 (by decide)) x2
/-- The gradient at the rows. -/
def dhV : Vec F S512x1024 .f32 := k0_pay25 x0 (dmA x0 x1 x3 x4 x5 x6) (duK x0 x1 x3 x5 x6 7 (by decide)) (w1K x4 7 (by decide)) x2 x7
end

variable (m : (ℓ : Loc nD τ sig) → Buf (Elt F) ℓ) (c : Dev nD)

/-- The five results' stored values of the point `t`, of its windows' blocks. -/
def stored (t : Fin cfg0.N) : Vec F S512x1024 .f32 × Vec F S512x1024 .bf16 × Vec F S512x4096 .bf16 × Vec F S1x1024 .f32 × Vec F S1x1024 .f32 :=
  (dhV (iblk m c 0 t) (iblk m c 1 t) (iblk m c 2 t) (iblk m c 3 t) (iblk m c 4 t) (iblk m c 5 t) (iblk m c 6 t) (iblk m c 7 t),
   dyV (iblk m c 0 t) (iblk m c 1 t) (iblk m c 6 t),
   duV (iblk m c 0 t) (iblk m c 1 t) (iblk m c 3 t) (iblk m c 5 t) (iblk m c 6 t),
   dg4V (iblk m c 0 t) (iblk m c 1 t),
   dg3V (iblk m c 0 t) (iblk m c 1 t) (iblk m c 2 t) (iblk m c 3 t) (iblk m c 4 t) (iblk m c 5 t) (iblk m c 6 t))

set_option maxHeartbeats 8000000 in
theorem outs_first (t : Fin cfg0.N) (h : t.val = 0) : outsAt0 m c t.val t.isLt = stored m c t := by
  rw [outsAt0_A m c t (by omega) (by omega) (by omega) (by omega)]
  unfold out0_A_8 out0_A_9 out0_A_10 out0_A_11 out0_A_12
  rw [View.read_writes_eq_canon _ _ _ fun y => cover0_A_8 .., View.read_writes_eq_canon _ _ _ fun y => cover0_A_9 ..,
    View.read_writes_eq_canon _ _ _ fun y => cover0_A_10 .., View.read_writes_eq_canon _ _ _ fun y => cover0_A_11 ..,
    View.read_writes_eq_canon _ _ _ fun y => cover0_A_12 ..]
  unfold kernelRun0_A
  dsimp only
  sl_unfold_words
  rw [View.canon_unit_zero hz, View.canon_unit_zero hz, View.canon_unit_zero hz, View.canon_unit_zero hz]
  simp only [View.readAt_eq_ld, (hs0_0 t).read_unread, (hs0_1 t).read_unread, (hs0_2 t).read_unread, (hs0_3 t).read_unread, (hs0_4 t).read_unread,
    (hs0_5 t).read_unread, (hs0_6 t).read_unread, (hs0_7 t).read_unread, View.ld_unit_zero (S := S512x1024) hz, View.ld_unit_zero (S := S1x1024) hz]
  rfl

set_option maxHeartbeats 8000000 in
theorem outs_later (t : Fin cfg0.N) (h : 1 ≤ t.val) :
    outsAt0 m c t.val t.isLt = ((stored m c t).1, (stored m c t).2.1, (stored m c t).2.2.1,
      addf (outsAt0 m c (t.val - 1) (Nat.lt_of_le_of_lt (Nat.sub_le _ _) t.isLt)).2.2.2.1 (stored m c t).2.2.2.1,
      addf (outsAt0 m c (t.val - 1) (Nat.lt_of_le_of_lt (Nat.sub_le _ _) t.isLt)).2.2.2.2 (stored m c t).2.2.2.2) := by
  have hN : t.val < 4 := lt_of_lt_of_eq t.isLt (show cfg0.N = 4 from N_0)
  rw [outsAt0_B m c t (by omega) (by omega) (by omega) (by omega)]
  generalize outsAt0 m c (t.val - 1) _ = o
  unfold out0_B_8 out0_B_9 out0_B_10 out0_B_11 out0_B_12
  rw [View.read_writes_eq_canon _ _ _ fun y => cover0_B_8 .., View.read_writes_eq_canon _ _ _ fun y => cover0_B_9 ..,
    View.read_writes_eq_canon _ _ _ fun y => cover0_B_10 .., View.read_writes_eq_canon _ _ _ fun y => cover0_B_11 ..,
    View.read_writes_eq_canon _ _ _ fun y => cover0_B_12 ..]
  unfold kernelRun0_B
  dsimp only
  sl_unfold_words
  rw [View.canon_unit_zero hz, View.canon_unit_zero hz, View.canon_unit_zero hz, View.canon_unit_zero hz]
  simp only [View.readAt_eq_ld, (hs0_0 t).read_unread, (hs0_1 t).read_unread, (hs0_2 t).read_unread, (hs0_3 t).read_unread, (hs0_4 t).read_unread,
    (hs0_5 t).read_unread, (hs0_6 t).read_unread, (hs0_7 t).read_unread, (hs0_11 t).read_unread, (hs0_12 t).read_unread,
    View.ld_unit_zero (S := S512x1024) hz, View.ld_unit_zero (S := S1x1024) hz, k0_pay5, k0_pay24, shapeCast_self]
  rfl

end Cert.MlpIdeal.Hand

end
-- ==== Proof.MlpMath.lean ====
module

public import proofs.«01_k».proof.Proof.Rms

/-! # The feed-forward block of one token, in real numbers

A norm, a product, the squared rectifier, a second product and a second norm: what the block computes of one token's row, and the gradients
at the second norm's input, at the rectifier's input, at the row and at the two norms' scales. -/

@[expose] public section

noncomputable section

namespace Cert.MlpMath

open Cert.Rms

/-- The two weights and the two norms' scales. -/
structure Wts where
  w1 : Fin 1024 → Fin 4096 → ℝ
  w2 : Fin 4096 → Fin 1024 → ℝ
  g3 : Fin 1024 → ℝ
  g4 : Fin 1024 → ℝ

/-- A token's row, and the gradient at the block's result. -/
structure Row where
  h : Fin 1024 → ℝ
  ct : Fin 1024 → ℝ

variable (W : Wts) (R : Row)

/-- The first product. -/
def u (j : Fin 4096) : ℝ := ∑ k, nrm R.h k * W.g3 k * W.w1 k j
/-- The second product, of the squared rectifier. -/
def y (b : Fin 1024) : ℝ := ∑ j, max (u W R j) 0 * max (u W R j) 0 * W.w2 j b
/-- The gradient at the second norm's input. -/
def dy (b : Fin 1024) : ℝ := bwd (y W R) (fun l => R.ct l * W.g4 l) b
/-- The token's part of the second scale's gradient. -/
def dg4 (b : Fin 1024) : ℝ := R.ct b * nrm (y W R) b
/-- The gradient at the rectifier's input. -/
def du (j : Fin 4096) : ℝ := (∑ b, dy W R b * W.w2 j b) * (2 * max (u W R j) 0)
/-- The gradient at the first norm's result. -/
def dm (k : Fin 1024) : ℝ := ∑ j, du W R j * W.w1 k j
/-- The token's part of the first scale's gradient. -/
def dg3 (b : Fin 1024) : ℝ := dm W R b * nrm R.h b
/-- The gradient at the row. -/
def dh (b : Fin 1024) : ℝ := R.ct b + bwd R.h (fun l => dm W R l * W.g3 l) b

/-- Column `l` of chunk `k` of the 4096 columns. -/
def col (k : ℕ) (l : Fin 512) : Fin 4096 := ⟨(512 * k + l.val) % 4096, Nat.mod_lt _ (by decide)⟩

theorem col_val {k : ℕ} (h : k < 8) (l : Fin 512) : (col k l).val = 512 * k + l.val := by
  have := l.isLt
  exact Nat.mod_eq_of_lt (by omega)

/-- The sum over the columns, chunk by chunk. -/
theorem sum_cols {M : Type} [AddCommMonoid M] (f : Fin 4096 → M) : ∑ j, f j = ∑ k : Fin 8, ∑ l, f (col k.val l) := by
  rw [← Fintype.sum_prod_type']
  refine (Fintype.sum_equiv (finProdFinEquiv : Fin 8 × Fin 512 ≃ Fin 4096) _ _ fun x => congrArg f (Fin.ext ?_)).symm
  rw [col_val x.1.isLt]
  show _ = x.2.val + 512 * x.1.val
  omega

theorem coe_max (a b : ℝ) : ((max a b : ℝ) : EReal) = max (a : EReal) (b : EReal) := EReal.coe_strictMono.monotone.map_max

end Cert.MlpMath

end
-- ==== Proof.MlpKernel.lean ====
module

public import proofs.«01_k».proof.Proof.MlpOut
public import proofs.«01_k».proof.Proof.MlpMath

/-! # What one block of `_mlp_bwd` computes of real numbers -/

@[expose] public section

set_option maxRecDepth 16384

noncomputable section

namespace Cert.MlpIdeal.Hand

open Idealize.ShloMosaic Cert.MlpIdeal Cert.MlpIdeal.Gen
open Cert.Rms Cert.MlpMath

/-- The blocks hold real numbers: row `a` of the row blocks belongs to `R a`, and the resident blocks are `W`'s. -/
structure Blocks (W : Wts) (R : Fin 512 → Row) (x0 x1 x2 : FVec Ideal S512x1024 .f32) (x3 : FVec Ideal S512x4096 .bf16)
    (x4 : FVec Ideal S8x1024x512 .bf16) (x5 : FVec Ideal S4096x1024 .bf16) (x6 x7 : FVec Ideal S1x1024 .f32) : Prop where
  ct : ∀ a b, x0 (ix2 a b) = (((R a).ct b : ℝ) : EReal)
  y : ∀ a b, x1 (ix2 a b) = ((y W (R a) b : ℝ) : EReal)
  h : ∀ a b, x2 (ix2 a b) = (((R a).h b : ℝ) : EReal)
  u : ∀ a j, x3 (ix2 a j) = ((u W (R a) j : ℝ) : EReal)
  w1 : ∀ (k : Fin 8) b l, x4 (ix3 k b l) = ((W.w1 b (col k.val l) : ℝ) : EReal)
  w2 : ∀ j b, x5 (ix2 j b) = ((W.w2 j b : ℝ) : EReal)
  g4 : ∀ b, x6 (ix2 0 b) = ((W.g4 b : ℝ) : EReal)
  g3 : ∀ b, x7 (ix2 0 b) = ((W.g3 b : ℝ) : EReal)

theorem n_ne : (1024 : ℝ) ≠ 0 := by norm_num

section Norm
variable {r : Fin 512 → Fin 1024 → ℝ} {x : FVec Ideal S512x1024 .f32} (hx : ∀ a b, x (ix2 a b) = ((r a b : ℝ) : EReal))
include hx

theorem inv4 (a : Fin 512) (b : Fin 1) : k0_pay2 (F := Ideal) x (ix2 a b) = ((inv (r a) : ℝ) : EReal) := by
  unfold k0_pay2 k0_pay1
  pointwise
  rw [eps_bits, n_bits]
  simp only [hx, ← EReal.coe_mul, ← coe_sum, div_real _ n_ne, ← EReal.coe_add]
  exact rsqrt_ms (r a)

theorem inv3 (a : Fin 512) (b : Fin 1) : k0_pay21 (F := Ideal) x (ix2 a b) = ((inv (r a) : ℝ) : EReal) := by
  unfold k0_pay21
  pointwise
  rw [eps_bits, n_bits]
  simp only [hx, ← EReal.coe_mul, ← coe_sum, div_real _ n_ne, ← EReal.coe_add]
  exact rsqrt_ms (r a)

theorem nrm4 (a : Fin 512) (b : Fin 1024) : k0_pay3 (F := Ideal) x (ix2 a b) = ((nrm (r a) b : ℝ) : EReal) := by
  have e := inv4 hx a
  unfold k0_pay3 k0_pay1 nrm
  generalize k0_pay2 (F := Ideal) x = z at e
  pointwise
  rw [e, hx, EReal.coe_mul]

theorem nrm3 (a : Fin 512) (b : Fin 1024) : k0_pay22 (F := Ideal) x (ix2 a b) = ((nrm (r a) b : ℝ) : EReal) := by
  have e := inv3 hx a
  unfold k0_pay22 nrm
  generalize k0_pay21 (F := Ideal) x = z at e
  pointwise
  rw [e, hx, EReal.coe_mul]
end Norm

variable {W : Wts} {R : Fin 512 → Row} {x0 x1 x2 : FVec Ideal S512x1024 .f32} {x3 : FVec Ideal S512x4096 .bf16}
  {x4 : FVec Ideal S8x1024x512 .bf16} {x5 : FVec Ideal S4096x1024 .bf16} {x6 x7 : FVec Ideal S1x1024 .f32}

theorem dg4_is (H : Blocks W R x0 x1 x2 x3 x4 x5 x6 x7) (a : Fin 1) (b : Fin 1024) :
    dg4V (F := Ideal) x0 x1 (ix2 a b) = ((∑ r, dg4 W (R r) b : ℝ) : EReal) := by
  have e := fun a => nrm4 H.y a b
  unfold dg4V k0_pay4 dg4
  generalize k0_pay3 (F := Ideal) x1 = z at e
  pointwise
  simp only [e, H.ct, ← EReal.coe_mul, ← coe_sum]

theorem dy_is (H : Blocks W R x0 x1 x2 x3 x4 x5 x6 x7) (a : Fin 512) (b : Fin 1024) :
    dyV (F := Ideal) x0 x1 x6 (ix2 a b) = ((dy W (R a) b : ℝ) : EReal) := by
  have e := nrm4 H.y a
  have e' := inv4 H.y a
  unfold dyV k0_pay6 dy bwd
  generalize k0_pay3 (F := Ideal) x1 = z at e
  generalize k0_pay2 (F := Ideal) x1 = z' at e'
  pointwise
  rw [n_bits]
  simp only [e, e', H.ct, H.g4, ← EReal.coe_mul, ← coe_sum, div_real _ n_ne, ← EReal.coe_sub]

theorem uK_is (H : Blocks W R x0 x1 x2 x3 x4 x5 x6 x7) (k : ℕ) (h : k < 8) (a l : Fin 512) :
    uK (F := Ideal) x3 k h (ix2 a l) = ((u W (R a) (col k l) : ℝ) : EReal) := by
  rw [← H.u]
  unfold uK View.ld
  refine congrArg x3 ?_
  funext d
  match d with
  | ⟨0, _⟩ => exact Fin.ext (by show 0 + 1 * a.val = a.val; omega)
  | ⟨1, _⟩ => exact Fin.ext (by show 512 * k + 1 * l.val = (col k l).val; rw [col_val h]; omega)

theorem w2K_is (H : Blocks W R x0 x1 x2 x3 x4 x5 x6 x7) (k : ℕ) (h : k < 8) (l : Fin 512) (b : Fin 1024) :
    w2K (F := Ideal) x5 k h (ix2 l b) = ((W.w2 (col k l) b : ℝ) : EReal) := by
  rw [← H.w2]
  unfold w2K View.ld
  refine congrArg x5 ?_
  funext d
  match d with
  | ⟨0, _⟩ => exact Fin.ext (by show 512 * k + 1 * l.val = (col k l).val; rw [col_val h]; omega)
  | ⟨1, _⟩ => exact Fin.ext (by show 0 + 1 * b.val = b.val; omega)

theorem w1K_is (H : Blocks W R x0 x1 x2 x3 x4 x5 x6 x7) (k : ℕ) (h : k < 8) (z : Fin 1) (b : Fin 1024) (l : Fin 512) :
    w1K (F := Ideal) x4 k h (ix3 z b l) = ((W.w1 b (col k l) : ℝ) : EReal) := by
  rw [← H.w1 ⟨k, h⟩]
  unfold w1K View.ld
  refine congrArg x4 ?_
  funext d
  match d with
  | ⟨0, _⟩ => exact Fin.ext (by show k + 1 * z.val = k; omega)
  | ⟨1, _⟩ => exact Fin.ext (by show 0 + 1 * b.val = b.val; omega)
  | ⟨2, _⟩ => exact Fin.ext (by show 0 + 1 * l.val = l.val; omega)

theorem duK_is (H : Blocks W R x0 x1 x2 x3 x4 x5 x6 x7) (k : ℕ) (h : k < 8) (a l : Fin 512) :
    duK (F := Ideal) x0 x1 x3 x5 x6 k h (ix2 a l) = ((du W (R a) (col k l) : ℝ) : EReal) := by
  have e := dy_is H a
  have e1 := w2K_is H k h l
  have e2 := uK_is H k h a l
  unfold duK k0_pay7 du
  generalize dyV (F := Ideal) x0 x1 x6 = z at e
  generalize w2K (F := Ideal) x5 k h = z' at e1
  generalize uK (F := Ideal) x3 k h = z'' at e2
  pointwise
  rw [two_bits, ← EReal.coe_zero]
  simp only [e, e1, e2, ← coe_max, ← EReal.coe_mul, ← coe_sum]

/-- The eight writes leave the gradient at every column. -/
theorem du_is (H : Blocks W R x0 x1 x2 x3 x4 x5 x6 x7) (a : Fin 512) (j : Fin 4096) :
    duV (F := Ideal) x0 x1 x3 x5 x6 (ix2 a j) = ((du W (R a) j : ℝ) : EReal) := by
  have hk : ∀ (k : ℕ) (h : k < 8) (q : View.Piece (Elt Ideal) S512x4096 .bf16), q = duP (F := Ideal) x0 x1 x3 x5 x6 k h →
      ∀ x : q.1.shape.Idx, q.1.emb x = ix2 a j → q.2 x = (((du W (R a) j : ℝ) : EReal) : Elt Ideal .bf16) := by
    rintro k h _ rfl x hx
    obtain ⟨a', l, rfl⟩ : ∃ (a' l : Fin 512), x = ix2 a' l := ⟨x 0, x 1, eq_ix2 x⟩
    have h0 : 0 + 1 * a'.val = a.val := congrArg (fun i : S512x4096.Idx => (i 0).val) hx
    have h1 : 512 * k + 1 * l.val = j.val := congrArg (fun i : S512x4096.Idx => (i 1).val) hx
    obtain rfl : a' = a := Fin.ext (by omega)
    obtain rfl : col k l = j := Fin.ext (by rw [col_val h]; omega)
    exact duK_is H k h a' l
  have hc : ∀ (k : ℕ) (h : k < 8), 512 * k ≤ j.val → j.val < 512 * k + 512 → (ix2 a j : S512x4096.Idx) ∈ (duP (F := Ideal) x0 x1 x3 x5 x6 k h).1.set := by
    intro k h h1 h2
    show _ ∈ (Rect.unit (s := S512x4096) ![0, 512 * k] S512x512.size (in_cols h)).set
    rw [Rect.mem_set_unit]
    intro d
    match d with
    | ⟨0, _⟩ => exact ⟨Nat.zero_le _, by show a.val < 0 + 512; omega⟩
    | ⟨1, _⟩ => exact ⟨h1, h2⟩
  have hin : ∀ (k : ℕ) (h : k < 8), duP (F := Ideal) x0 x1 x3 x5 x6 k h ∈ duL x0 x1 x3 x5 x6 := by
    intro k h
    interval_cases k <;> simp [duL]
  refine View.canon_eq_of_allAt _ _ _ ?_ fun p hp => ?_
  · have hj := j.isLt
    have := hc (j.val / 512) (by omega) (by omega) (by omega)
    exact ⟨_, hin _ _, this⟩
  · simp only [duL, List.mem_cons, List.not_mem_nil, or_false] at hp
    rcases hp with h | h | h | h | h | h | h | h <;> exact hk _ _ p h

/-- One chunk's part of the gradient at the first norm's result. -/
def part (x0 x1 : FVec Ideal S512x1024 .f32) (x3 : FVec Ideal S512x4096 .bf16) (x4 : FVec Ideal S8x1024x512 .bf16)
    (x5 : FVec Ideal S4096x1024 .bf16) (x6 : FVec Ideal S1x1024 .f32) (k : ℕ) (h : k < 8) : FVec Ideal S512x1024 .f32 :=
  matmul dot_S512x512_S1024x512_S512x1024_1_1_0_0_n_n none (φ₁ := .bf16) (φ₂ := .bf16) (duK (F := Ideal) x0 x1 x3 x5 x6 k h) (k0_pay10 (F := Ideal) (w1K x4 k h)) (constant S512x1024 .f32 0x00000000#32)

theorem part_is (H : Blocks W R x0 x1 x2 x3 x4 x5 x6 x7) (k : ℕ) (h : k < 8) (a : Fin 512) (b : Fin 1024) :
    part x0 x1 x3 x4 x5 x6 k h (ix2 a b) = ((∑ l, du W (R a) (col k l) * W.w1 b (col k l) : ℝ) : EReal) := by
  have e := duK_is H k h a
  have e1 := fun z => w1K_is H k h z b
  unfold part k0_pay10
  generalize duK (F := Ideal) x0 x1 x3 x5 x6 k h = z at e
  generalize w1K (F := Ideal) x4 k h = z' at e1
  pointwise
  simp only [e, e1, ← EReal.coe_mul, ← coe_sum]

/-- The whole of it, as a function of the blocks. -/
def dmV (x0 x1 : FVec Ideal S512x1024 .f32) (x3 : FVec Ideal S512x4096 .bf16) (x4 : FVec Ideal S8x1024x512 .bf16)
    (x5 : FVec Ideal S4096x1024 .bf16) (x6 : FVec Ideal S1x1024 .f32) : FVec Ideal S512x1024 .f32 :=
  k0_pay20 (dmA (F := Ideal) x0 x1 x3 x4 x5 x6) (duK (F := Ideal) x0 x1 x3 x5 x6 7 (by decide)) (w1K x4 7 (by decide))

/-- The whole of it is the sum of the eight parts, in order. -/
theorem dmV_sum : dmV x0 x1 x3 x4 x5 x6
    = addf (addf (addf (addf (addf (addf (addf (addf (broadcast S512x1024 (Scalar.ofBits (F := Ideal) .f32 0x00000000#32))
      (part x0 x1 x3 x4 x5 x6 0 (by decide))) (part x0 x1 x3 x4 x5 x6 1 (by decide))) (part x0 x1 x3 x4 x5 x6 2 (by decide)))
      (part x0 x1 x3 x4 x5 x6 3 (by decide))) (part x0 x1 x3 x4 x5 x6 4 (by decide))) (part x0 x1 x3 x4 x5 x6 5 (by decide)))
      (part x0 x1 x3 x4 x5 x6 6 (by decide))) (part x0 x1 x3 x4 x5 x6 7 (by decide)) := rfl

theorem dmV_eq (i : S512x1024.Idx) : dmV x0 x1 x3 x4 x5 x6 i
    = (((((((Ideal.ofBits .f32 0x00000000#32 + part x0 x1 x3 x4 x5 x6 0 (by decide) i) + part x0 x1 x3 x4 x5 x6 1 (by decide) i)
      + part x0 x1 x3 x4 x5 x6 2 (by decide) i) + part x0 x1 x3 x4 x5 x6 3 (by decide) i) + part x0 x1 x3 x4 x5 x6 4 (by decide) i)
      + part x0 x1 x3 x4 x5 x6 5 (by decide) i) + part x0 x1 x3 x4 x5 x6 6 (by decide) i + part x0 x1 x3 x4 x5 x6 7 (by decide) i : EReal) := by
  rw [dmV_sum]
  pointwise

theorem dm_is (H : Blocks W R x0 x1 x2 x3 x4 x5 x6 x7) (a : Fin 512) (b : Fin 1024) :
    dmV x0 x1 x3 x4 x5 x6 (ix2 a b) = ((dm W (R a) b : ℝ) : EReal) := by
  rw [dmV_eq]
  simp only [part_is H]
  rw [show Ideal.ofBits .f32 0x00000000#32 = ((0 : ℝ) : EReal) from Ideal.ofBits_zero_f32]
  simp only [← EReal.coe_add]
  refine congrArg _ ?_
  unfold dm
  rw [sum_cols, Fin.sum_univ_eight, zero_add]
  rfl

theorem dg3_is (H : Blocks W R x0 x1 x2 x3 x4 x5 x6 x7) (a : Fin 1) (b : Fin 1024) :
    dg3V (F := Ideal) x0 x1 x2 x3 x4 x5 x6 (ix2 a b) = ((∑ r, dg3 W (R r) b : ℝ) : EReal) := by
  have e := fun a => nrm3 H.h a b
  have e' := fun a => dm_is H a b
  unfold dmV at e'
  unfold dg3V k0_pay23 dg3
  generalize k0_pay22 (F := Ideal) x2 = z at e
  generalize k0_pay20 (F := Ideal) _ _ _ = z' at e'
  pointwise
  simp only [e, e', ← EReal.coe_mul, ← coe_sum]

theorem dh_is (H : Blocks W R x0 x1 x2 x3 x4 x5 x6 x7) (a : Fin 512) (b : Fin 1024) :
    dhV (F := Ideal) x0 x1 x2 x3 x4 x5 x6 x7 (ix2 a b) = ((dh W (R a) b : ℝ) : EReal) := by
  have e := nrm3 H.h a
  have e' := dm_is H a
  have e'' := inv3 H.h a
  unfold dmV at e'
  unfold dhV k0_pay25 dh bwd
  generalize k0_pay22 (F := Ideal) x2 = z at e
  generalize k0_pay21 (F := Ideal) x2 = z'' at e''
  generalize k0_pay20 (F := Ideal) _ _ _ = z' at e'
  pointwise
  rw [n_bits]
  simp only [e, e', e'', H.ct, H.g3, ← EReal.coe_mul, ← coe_sum, div_real _ n_ne, ← EReal.coe_sub, ← EReal.coe_add]

end Cert.MlpIdeal.Hand

end
-- ==== Proof.MlpRef.lean ====
module

public import proofs.«01_k».proof.Proof.MlpMath
public import proofs.«01_k».proof.Proof.PleRef
public import proofs.«01_k».proof.Proof.Gen.MlpRefIdeal.Read

/-! # What the reference of the feed-forward block computes

At real arguments every array of the reference's derivative is real: row `t` of each is a function of the token's row. -/

@[expose] public section

noncomputable section

namespace Cert.MlpRefIdeal.Hand

open Idealize.ShloMosaic Cert.MlpRefIdeal Cert.MlpRefIdeal.Gen Cert.MlpRefIdeal.Read
open Cert.Rms Cert.MlpMath
open Cert.PleRefIdeal.Hand (c0 c1 zeroF negHalfF twoF nF epsF n_ne)

/-- The arguments' types. -/
abbrev Mat : Type := (⟨S2048x1024, .f32⟩ : BufTy).Contents (Elt Ideal)
@[inherit_doc Mat] abbrev W1 : Type := (⟨S1024x4096, .f32⟩ : BufTy).Contents (Elt Ideal)
@[inherit_doc Mat] abbrev W2 : Type := (⟨S4096x1024, .f32⟩ : BufTy).Contents (Elt Ideal)
@[inherit_doc Mat] abbrev Sc : Type := (⟨S1x1024, .f32⟩ : BufTy).Contents (Elt Ideal)

/-- Arrays that hold real numbers: token `t`'s rows are `R t`. -/
structure Are (W : Wts) (R : Fin 2048 → Row) (x0 : Mat) (x1 : W1) (x2 : W2) (x3 x4 : Sc) (x5 : Mat) : Prop where
  h : ∀ i, x0 i = (((R (c0 i)).h (c1 i) : ℝ) : EReal)
  w1 : ∀ i, x1 i = ((W.w1 (c0 i) (c1 i) : ℝ) : EReal)
  w2 : ∀ i, x2 i = ((W.w2 (c0 i) (c1 i) : ℝ) : EReal)
  g3 : ∀ i, x3 i = ((W.g3 (c1 i) : ℝ) : EReal)
  g4 : ∀ i, x4 i = ((W.g4 (c1 i) : ℝ) : EReal)
  ct : ∀ i, x5 i = (((R (c0 i)).ct (c1 i) : ℝ) : EReal)

variable {W : Wts} {R : Fin 2048 → Row} {x0 : Mat} {x1 : W1} {x2 : W2} {x3 x4 : Sc} {x5 : Mat}

theorem ms3_is (H : Are W R x0 x1 x2 x3 x4 x5) (i : S2048x1.Idx) : val_main_v6 (F := Ideal) x0 i = ((ms (R (c0 i)).h : ℝ) : EReal) := by
  rw [val_main_v6_apply, val_main_v5_apply, val_main_cst_1_apply, epsF, val_main_v4_apply, val_main_v3_apply, val_main_cst_0_apply, nF,
    val_main_v2_apply, val_main_v1_apply, val_main_cst_apply, zeroF, zero_add]
  simp only [val_main_v0_apply, H.h, Ideal.mulf_def, Ideal.addf_def, Ideal.hostDivf_def]
  simp only [← EReal.coe_mul, ← coe_sum]
  rw [div_real _ n_ne, ← EReal.coe_add]
  rfl

theorem inv3_is (H : Are W R x0 x1 x2 x3 x4 x5) (i : S2048x1.Idx) : val_main_v7 (F := Ideal) x0 i = ((inv (R (c0 i)).h : ℝ) : EReal) := by
  rw [val_main_v7_apply, ms3_is H]
  exact rsqrt_ms _

theorem nrm3_is (H : Are W R x0 x1 x2 x3 x4 x5) (i : S2048x1024.Idx) : val_main_v12 (F := Ideal) x0 i = ((nrm (R (c0 i)).h (c1 i) : ℝ) : EReal) := by
  rw [val_main_v12_apply, H.h, val_main_v11_apply, inv3_is H]
  exact (EReal.coe_mul _ _).symm

/-- The first product. -/
theorem u_is (H : Are W R x0 x1 x2 x3 x4 x5) (i : S2048x4096.Idx) : val_main_v15 (F := Ideal) x0 x1 x3 i = ((u W (R (c0 i)) (c1 i) : ℝ) : EReal) := by
  rw [val_main_v15_apply]
  unfold u
  rw [coe_sum]
  refine Finset.sum_congr rfl fun k _ => ?_
  rw [val_main_v14_apply, nrm3_is H, val_main_v13_apply, H.g3, H.w1, EReal.coe_mul, EReal.coe_mul]; rfl

theorem relu_is (H : Are W R x0 x1 x2 x3 x4 x5) (i : S2048x4096.Idx) :
    val_main_v16 (F := Ideal) x0 x1 x3 i = ((max (u W (R (c0 i)) (c1 i)) 0 : ℝ) : EReal) := by
  rw [val_main_v16_apply, u_is H, val_main_call0_v0_apply, val_main_call0_cst_apply, zeroF, coe_max]; rfl

/-- The second product. -/
theorem y_is (H : Are W R x0 x1 x2 x3 x4 x5) (i : S2048x1024.Idx) :
    val_main_v23 (F := Ideal) x0 x1 x2 x3 i = ((y W (R (c0 i)) (c1 i) : ℝ) : EReal) := by
  rw [val_main_v23_apply]
  unfold y
  rw [coe_sum]
  refine Finset.sum_congr rfl fun j _ => ?_
  rw [val_main_v20_apply, relu_is H, H.w2, EReal.coe_mul, EReal.coe_mul]; rfl

theorem ms4_is (H : Are W R x0 x1 x2 x3 x4 x5) (i : S2048x1.Idx) :
    val_main_v30 (F := Ideal) x0 x1 x2 x3 i = ((ms (y W (R (c0 i))) : ℝ) : EReal) := by
  rw [val_main_v30_apply, val_main_v29_apply, val_main_cst_8_apply, epsF, val_main_v28_apply, val_main_v27_apply, val_main_cst_7_apply, nF,
    val_main_v26_apply, val_main_v25_apply, val_main_cst_6_apply, zeroF, zero_add]
  simp only [val_main_v24_apply, y_is H, Ideal.mulf_def, Ideal.addf_def, Ideal.hostDivf_def]
  simp only [← EReal.coe_mul, ← coe_sum]
  rw [div_real _ n_ne, ← EReal.coe_add]
  rfl

theorem inv4_is (H : Are W R x0 x1 x2 x3 x4 x5) (i : S2048x1.Idx) :
    val_main_v31 (F := Ideal) x0 x1 x2 x3 i = ((inv (y W (R (c0 i))) : ℝ) : EReal) := by
  rw [val_main_v31_apply, ms4_is H]
  exact rsqrt_ms _

theorem nrm4_is (H : Are W R x0 x1 x2 x3 x4 x5) (i : S2048x1024.Idx) :
    val_main_v36 (F := Ideal) x0 x1 x2 x3 i = ((nrm (y W (R (c0 i))) (c1 i) : ℝ) : EReal) := by
  rw [val_main_v36_apply, y_is H, val_main_v35_apply, inv4_is H]
  exact (EReal.coe_mul _ _).symm

/-- The gradient of the second norm's scale. -/
theorem dg4_is (H : Are W R x0 x1 x2 x3 x4 x5) (i : S1x1024.Idx) :
    val_main_v41 (F := Ideal) x0 x1 x2 x3 x5 i = ((∑ t, dg4 W (R t) (c1 i) : ℝ) : EReal) := by
  have h0 : (i 0).val < 1 := (i 0).isLt
  rw [val_main_v41_apply, val_main_v40_apply, val_main_cst_10_apply, zeroF, zero_add, coe_sum]
  refine Finset.sum_congr rfl fun t _ => ?_
  rw [val_main_v39_apply, nrm4_is H, H.ct]
  have e : c1 (idx_main_v40 (idx_main_v41 i) t) = c1 i := Fin.ext (by show (i 0).val * 1024 + (i 1).val = (i 1).val; omega)
  rw [e]
  exact (EReal.coe_mul _ _).symm.trans (congrArg _ (mul_comm _ _))

theorem ctg_is (H : Are W R x0 x1 x2 x3 x4 x5) (i : S2048x1024.Idx) :
    val_main_v43 (F := Ideal) x4 x5 i = (((R (c0 i)).ct (c1 i) * W.g4 (c1 i) : ℝ) : EReal) := by
  rw [val_main_v43_apply, H.ct, val_main_v42_apply, H.g4]
  exact (EReal.coe_mul _ _).symm

/-- The derivative through the second norm's mean square, one number for each row. -/
theorem mid4_is (H : Are W R x0 x1 x2 x3 x4 x5) (i : S2048x1024.Idx) :
    val_main_v53 (F := Ideal) x0 x1 x2 x3 x4 x5 i
      = (((∑ l, y W (R (c0 i)) l * ((R (c0 i)).ct l * W.g4 l)) * (-1 / 2 * (inv (y W (R (c0 i))) / ms (y W (R (c0 i))))) / 1024 : ℝ) : EReal) := by
  have e : ∀ j : S2048x1.Idx, val_main_v46 (F := Ideal) x0 x1 x2 x3 x4 x5 j
      = ((∑ l, y W (R (c0 j)) l * ((R (c0 j)).ct l * W.g4 l) : ℝ) : EReal) := fun j => by
    have h1 : (j 1).val < 1 := (j 1).isLt
    rw [val_main_v46_apply, val_main_v45_apply, val_main_cst_11_apply, zeroF, zero_add, coe_sum]
    refine Finset.sum_congr rfl fun l _ => ?_
    rw [val_main_v44_apply, y_is H, ctg_is H, Ideal.mulf_def, ← EReal.coe_mul]
    have e0 : c0 (idx_main_v45 (idx_main_v46 j) l) = c0 j := Fin.ext (by show (j 0).val * 1 + (j 1).val = (j 0).val; omega)
    rw [e0]
    rfl
  rw [val_main_v53_apply, val_main_v52_apply, val_main_cst_13_apply, zeroF, zero_add, Fin.sum_univ_one, val_main_v51_apply, val_main_v50_apply,
    val_main_cst_12_apply, nF, val_main_v49_apply, e, val_main_v34_apply, val_main_v33_apply, val_main_cst_9_apply, negHalfF, val_main_v32_apply,
    inv4_is H, ms4_is H]
  simp only [Ideal.mulf_def, Ideal.hostDivf_def]
  rw [div_real _ (ms_pos _).ne', ← EReal.coe_mul, ← EReal.coe_mul, div_real _ n_ne]
  rfl

theorem dy_mid (H : Are W R x0 x1 x2 x3 x4 x5) (i : S2048x1024.Idx) :
    val_main_v57 (F := Ideal) x0 x1 x2 x3 x4 x5 i = ((dy W (R (c0 i)) (c1 i) : ℝ) : EReal) := by
  rw [val_main_v57_apply, val_main_v56_apply, val_main_v55_apply, val_main_v54_apply, val_main_v48_apply, val_main_v47_apply, inv4_is H, mid4_is H,
    y_is H, ctg_is H]
  simp only [Ideal.mulf_def, Ideal.addf_def, ← EReal.coe_mul, ← EReal.coe_add]
  exact congrArg _ (chain (y W (R (c0 i))) (fun l => (R (c0 i)).ct l * W.g4 l) (c1 i))

/-- The gradient at the second norm's input. -/
theorem dy_is (H : Are W R x0 x1 x2 x3 x4 x5) (i : S2048x1024.Idx) :
    val_main_v83 (F := Ideal) x0 x1 x2 x3 x4 x5 i = ((dy W (R (c0 i)) (c1 i) : ℝ) : EReal) := by
  rw [val_main_v83_apply, dy_mid H]; rfl

theorem du_mid (H : Are W R x0 x1 x2 x3 x4 x5) (i : S2048x4096.Idx) :
    val_main_v61 (F := Ideal) x0 x1 x2 x3 x4 x5 i = ((du W (R (c0 i)) (c1 i) : ℝ) : EReal) := by
  have e : val_main_v58 (F := Ideal) x0 x1 x2 x3 x4 x5 i = ((∑ b, dy W (R (c0 i)) b * W.w2 (c1 i) b : ℝ) : EReal) := by
    rw [val_main_v58_apply, coe_sum]
    refine Finset.sum_congr rfl fun b _ => ?_
    rw [dy_mid H, H.w2, EReal.coe_mul]; rfl
  rw [val_main_v61_apply, val_main_v18_apply, u_is H, val_main_v17_apply, val_main_cst_3_apply, val_main_v60_apply, val_main_cst_14_apply, zeroF,
    val_main_v59_apply, e, val_main_v22_apply, val_main_v21_apply, val_main_cst_5_apply, twoF, relu_is H]
  simp only [Ideal.mulf_def, Ideal.cmpf_def, Ideal.cmp_ogt, ← EReal.coe_mul]
  unfold du
  by_cases hu : 0 < u W (R (c0 i)) (c1 i)
  · have h' : (0 : EReal) < ((u W (R (c0 i)) (c1 i) : ℝ) : EReal) := EReal.coe_pos.mpr hu
    simp [Scalar.select, h']
  · have h' : ¬ (0 : EReal) < ((u W (R (c0 i)) (c1 i) : ℝ) : EReal) := fun h => hu (EReal.coe_pos.mp h)
    rw [max_eq_right (not_lt.mp hu)]
    simp [Scalar.select, h']

/-- The gradient at the rectifier's input. -/
theorem du_is (H : Are W R x0 x1 x2 x3 x4 x5) (i : S2048x4096.Idx) :
    val_main_v84 (F := Ideal) x0 x1 x2 x3 x4 x5 i = ((du W (R (c0 i)) (c1 i) : ℝ) : EReal) := by
  rw [val_main_v84_apply, du_mid H]; rfl

theorem dm_is (H : Are W R x0 x1 x2 x3 x4 x5) (i : S2048x1024.Idx) :
    val_main_v62 (F := Ideal) x0 x1 x2 x3 x4 x5 i = ((dm W (R (c0 i)) (c1 i) : ℝ) : EReal) := by
  rw [val_main_v62_apply]
  unfold dm
  rw [coe_sum]
  refine Finset.sum_congr rfl fun j _ => ?_
  rw [du_mid H, H.w1, EReal.coe_mul]; rfl

/-- The gradient of the first norm's scale. -/
theorem dg3_is (H : Are W R x0 x1 x2 x3 x4 x5) (i : S1x1024.Idx) :
    val_main_v65 (F := Ideal) x0 x1 x2 x3 x4 x5 i = ((∑ t, dg3 W (R t) (c1 i) : ℝ) : EReal) := by
  have h0 : (i 0).val < 1 := (i 0).isLt
  rw [val_main_v65_apply, val_main_v64_apply, val_main_cst_15_apply, zeroF, zero_add, coe_sum]
  refine Finset.sum_congr rfl fun t _ => ?_
  rw [val_main_v63_apply, nrm3_is H, dm_is H]
  have e : c1 (idx_main_v64 (idx_main_v65 i) t) = c1 i := Fin.ext (by show (i 0).val * 1024 + (i 1).val = (i 1).val; omega)
  rw [e]
  exact (EReal.coe_mul _ _).symm.trans (congrArg _ (mul_comm _ _))

theorem dmg_is (H : Are W R x0 x1 x2 x3 x4 x5) (i : S2048x1024.Idx) :
    val_main_v67 (F := Ideal) x0 x1 x2 x3 x4 x5 i = ((dm W (R (c0 i)) (c1 i) * W.g3 (c1 i) : ℝ) : EReal) := by
  rw [val_main_v67_apply, dm_is H, val_main_v66_apply, H.g3]
  exact (EReal.coe_mul _ _).symm

/-- The derivative through the first norm's mean square. -/
theorem mid3_is (H : Are W R x0 x1 x2 x3 x4 x5) (i : S2048x1024.Idx) :
    val_main_v77 (F := Ideal) x0 x1 x2 x3 x4 x5 i
      = (((∑ l, (R (c0 i)).h l * (dm W (R (c0 i)) l * W.g3 l)) * (-1 / 2 * (inv (R (c0 i)).h / ms (R (c0 i)).h)) / 1024 : ℝ) : EReal) := by
  have e : ∀ j : S2048x1.Idx, val_main_v70 (F := Ideal) x0 x1 x2 x3 x4 x5 j
      = ((∑ l, (R (c0 j)).h l * (dm W (R (c0 j)) l * W.g3 l) : ℝ) : EReal) := fun j => by
    have h1 : (j 1).val < 1 := (j 1).isLt
    rw [val_main_v70_apply, val_main_v69_apply, val_main_cst_16_apply, zeroF, zero_add, coe_sum]
    refine Finset.sum_congr rfl fun l _ => ?_
    rw [val_main_v68_apply, H.h, dmg_is H, Ideal.mulf_def, ← EReal.coe_mul]
    have e0 : c0 (idx_main_v69 (idx_main_v70 j) l) = c0 j := Fin.ext (by show (j 0).val * 1 + (j 1).val = (j 0).val; omega)
    rw [e0]
    rfl
  rw [val_main_v77_apply, val_main_v76_apply, val_main_cst_18_apply, zeroF, zero_add, Fin.sum_univ_one, val_main_v75_apply, val_main_v74_apply,
    val_main_cst_17_apply, nF, val_main_v73_apply, e, val_main_v10_apply, val_main_v9_apply, val_main_cst_2_apply, negHalfF, val_main_v8_apply,
    inv3_is H, ms3_is H]
  simp only [Ideal.mulf_def, Ideal.hostDivf_def]
  rw [div_real _ (ms_pos _).ne', ← EReal.coe_mul, ← EReal.coe_mul, div_real _ n_ne]
  rfl

/-- The gradient at the rows. -/
theorem dh_is (H : Are W R x0 x1 x2 x3 x4 x5) (i : S2048x1024.Idx) :
    val_main_v82 (F := Ideal) x0 x1 x2 x3 x4 x5 i = ((dh W (R (c0 i)) (c1 i) : ℝ) : EReal) := by
  rw [val_main_v82_apply, val_main_v81_apply, val_main_v80_apply, val_main_v79_apply, val_main_v78_apply, val_main_v72_apply, val_main_v71_apply,
    inv3_is H, mid3_is H, H.h, dmg_is H, H.ct]
  simp only [Ideal.mulf_def, Ideal.addf_def, ← EReal.coe_mul, ← EReal.coe_add]
  exact congrArg (fun z : ℝ => (((R (c0 i)).ct (c1 i) + z : ℝ) : EReal)) (chain (R (c0 i)).h (fun l => dm W (R (c0 i)) l * W.g3 l) (c1 i))

end Cert.MlpRefIdeal.Hand

end
-- ==== Proof.MlpPre.lean ====
module

public import proofs.«01_k».proof.Proof.Rows
public import proofs.«01_k».proof.Proof.MlpKernel
public import proofs.«01_k».proof.Proof.MlpRef
public import proofs.«01_k».proof.Proof.FoxPre

/-! # The feed-forward block: finite arguments are real numbers -/

@[expose] public section

noncomputable section

namespace Cert.MlpIdeal.Hand

open Idealize.ShloMosaic Cert.MlpMath
open Idealize.ShloMosaic.TcCoe
open Cert.MlpRefIdeal.Hand (Mat W1 W2 Sc Are)

/-- The shapes that the precondition's lines relate. -/
instance preFacts : Cert.Pre_mlp_finite.Facts where
  bcast_S_S2048x1024 := by decide
  reducesTo_S2048x1024_S_d0_1 := by decide
  h_S_ := by decide
  bcast_S_S1024x4096 := by decide
  reducesTo_S1024x4096_S_d0_1 := by decide
  bcast_S_S4096x1024 := by decide
  reducesTo_S4096x1024_S_d0_1 := by decide
  bcast_S_S1x1024 := by decide
  reducesTo_S1x1024_S_d0_1 := by decide

/-- The weights that finite arguments hold. -/
def wtsOf (x1 : W1) (x2 : W2) (x3 x4 : Sc) : Wts where
  w1 a b := (x1 (ix2 a b) : EReal).toReal
  w2 a b := (x2 (ix2 a b) : EReal).toReal
  g3 b := (x3 (ix2 0 b) : EReal).toReal
  g4 b := (x4 (ix2 0 b) : EReal).toReal

/-- … and the tokens' rows. -/
def rowOf (x0 x5 : Mat) (t : Fin 2048) : Row where
  h b := (x0 (ix2 t b) : EReal).toReal
  ct b := (x5 (ix2 t b) : EReal).toReal

open Cert.Pre_mlp_finite in
open Cert.FoxIdeal.Hand (all_real) in
theorem are_of (x0 : Mat) (x1 : W1) (x2 : W2) (x3 x4 : Sc) (x5 : Mat) (h : Cert.Pre_mlp_finite.fn (F := Ideal) x0 x1 x2 x3 x4 x5 = fun _ => 1#1) :
    Are (wtsOf x1 x2 x3 x4) (rowOf x0 x5) x0 x1 x2 x3 x4 x5 := by
  have e := congrFun h ix0
  simp only [Cert.Pre_mlp_finite.fn, Cert.Pre_mlp_finite.fn_part1, andi, IntOp.andi_eq_one] at e
  obtain ⟨⟨⟨⟨⟨⟨-, e0⟩, e1⟩, e2⟩, e3⟩, e4⟩, e5⟩ := e
  have b0 := all_real x0 Facts.bcast_S_S2048x1024 Facts.reducesTo_S2048x1024_S_d0_1 Facts.h_S_ ix0 e0
  have b1 := all_real x1 Facts.bcast_S_S1024x4096 Facts.reducesTo_S1024x4096_S_d0_1 Facts.h_S_ ix0 e1
  have b2 := all_real x2 Facts.bcast_S_S4096x1024 Facts.reducesTo_S4096x1024_S_d0_1 Facts.h_S_ ix0 e2
  have b3 := all_real x3 Facts.bcast_S_S1x1024 Facts.reducesTo_S1x1024_S_d0_1 Facts.h_S_ ix0 e3
  have b4 := all_real x4 Facts.bcast_S_S1x1024 Facts.reducesTo_S1x1024_S_d0_1 Facts.h_S_ ix0 e4
  have b5 := all_real x5 Facts.bcast_S_S2048x1024 Facts.reducesTo_S2048x1024_S_d0_1 Facts.h_S_ ix0 e5
  have two : ∀ {n k : Nat} (i : (⟨2, ![n, k]⟩ : Shape).Idx), ∃ a b, i = ix2 a b := fun i => ⟨i 0, i 1, eq_ix2 i⟩
  refine ⟨fun i => ?_, fun i => ?_, fun i => ?_, fun i => ?_, fun i => ?_, fun i => ?_⟩ <;> obtain ⟨a, b, rfl⟩ := two i
  · exact b0 _
  · exact b1 _
  · exact b2 _
  · obtain rfl : a = 0 := Subsingleton.elim _ _
    exact b3 _
  · obtain rfl : a = 0 := Subsingleton.elim _ _
    exact b4 _
  · exact b5 _

end Cert.MlpIdeal.Hand
-- ==== Proof.MlpRun.lean ====
module

public import proofs.«01_k».proof.Proof.MlpPre
public import proofs.«01_k».proof.Proof.PleRef
public import proofs.«01_k».proof.Proof.Gen.MlpIdeal.Value
public import proofs.«01_k».proof.Proof.Gen.MlpRefIdeal.Run
public import Idealize.ShloMosaic.Lib.Claim
public import Idealize.ShloMosaic.Lib.Pipeline.ValueKit

/-! # The feed-forward block: kernel and reference compute the same gradients -/

@[expose] public section

noncomputable section

namespace Cert.MlpIdeal.Hand

open Idealize.ShloMosaic Cert.MlpIdeal Cert.MlpIdeal.Gen Cert.MlpIdeal.Value
open Idealize.ShloMosaic.TcCoe Cert.MlpMath Cert.Rows
open Cert.MlpRefIdeal.Hand (Mat W1 W2 Sc Are u_is y_is)
open Cert.PleRefIdeal.Hand (c0 c1)

section Arrays
variable {W : Wts} {R : Fin 2048 → Row} (m : (ℓ : Loc nD τ sig) → Buf (Elt Ideal) ℓ) (c : Dev nD)

/-- The program's arguments. -/
abbrev a0 : Mat := m ((c : Thread nD τ).loc main_arg0)
@[inherit_doc a0] abbrev a1 : W1 := m ((c : Thread nD τ).loc main_arg1)
@[inherit_doc a0] abbrev a2 : W2 := m ((c : Thread nD τ).loc main_arg2)
@[inherit_doc a0] abbrev a3 : Sc := m ((c : Thread nD τ).loc main_arg3)
@[inherit_doc a0] abbrev a4 : Sc := m ((c : Thread nD τ).loc main_arg4)
@[inherit_doc a0] abbrev a5 : Mat := m ((c : Thread nD τ).loc main_arg5)

/-- The second product, which the host computes by the reference's lines. -/
theorem V_y : (V m c main_v15 : Vec Ideal S2048x1024 .f32) = Cert.MlpRefIdeal.Read.val_main_v23 (F := Ideal) (a0 m c) (a1 m c) (a2 m c) (a3 m c) := by
  unfold V
  after_reads_simp
  simp -implicitDefEqProofs only [StableHlo.TRef.toBuf, StableHlo.TRef.ofBuf, cast_cast, cast_eq, id]
  rfl

/-- The first product's cast. -/
theorem V_u : (V m c main_v19 : Vec Ideal S2048x4096 .bf16) = Cert.MlpRefIdeal.Read.val_main_v15 (F := Ideal) (a0 m c) (a1 m c) (a3 m c) := by
  unfold V
  after_reads_simp
  rfl

/-- The second weight's cast. -/
theorem V_w2 : (V m c main_v20 : Vec Ideal S4096x1024 .bf16) = a2 m c := by
  unfold V
  after_reads_simp
  rfl

/-- The first weight, cut into chunks of 512 columns. -/
theorem V_w1 (k : Fin 8) (b : Fin 1024) (l : Fin 512) : (V m c main_v18 : Vec Ideal S8x1024x512 .bf16) (ix3 k b l) = a1 m c (ix2 b (col k.val l)) := by
  unfold V
  after_reads_simp
  pointwise
  refine congrArg (fun j => a1 m c (ix2 b j)) (Fin.ext ?_)
  rw [col_val k.isLt]
  exact congrArg (· + l.val) (Nat.mul_comm _ _)

theorem iblk_ct (t : Fin cfg0.N) (a : Fin 512) (b : Fin 1024) : (iblk m c 0 t : Vec Ideal S512x1024 .f32) (ix2 a b) = a5 m c (ix2 (row t.val a) b) := by
  have e : ∀ t : Fin cfg0.N, win0_0.index t = ![t.val, 0] := (by decide +kernel : ∀ t : Fin grid0.N, _)
  have hN : t.val < 4 := lt_of_lt_of_eq t.isLt (show cfg0.N = 4 from N_0)
  blk_simp [iblk]
  rw [V_main_arg5]
  refine congrArg _ ?_
  blk_ext [e]
  rw [row_val hN]; omega

theorem iblk_y (t : Fin cfg0.N) (a : Fin 512) (b : Fin 1024) : (iblk m c 1 t : Vec Ideal S512x1024 .f32) (ix2 a b) = Cert.MlpRefIdeal.Read.val_main_v23 (F := Ideal) (a0 m c) (a1 m c) (a2 m c) (a3 m c) (ix2 (row t.val a) b) := by
  have e : ∀ t : Fin cfg0.N, win0_1.index t = ![t.val, 0] := (by decide +kernel : ∀ t : Fin grid0.N, _)
  have hN : t.val < 4 := lt_of_lt_of_eq t.isLt (show cfg0.N = 4 from N_0)
  blk_simp [iblk]
  rw [← V_y]
  refine congrArg _ ?_
  blk_ext [e]
  rw [row_val hN]; omega

theorem iblk_h (t : Fin cfg0.N) (a : Fin 512) (b : Fin 1024) : (iblk m c 2 t : Vec Ideal S512x1024 .f32) (ix2 a b) = a0 m c (ix2 (row t.val a) b) := by
  have e : ∀ t : Fin cfg0.N, win0_2.index t = ![t.val, 0] := (by decide +kernel : ∀ t : Fin grid0.N, _)
  have hN : t.val < 4 := lt_of_lt_of_eq t.isLt (show cfg0.N = 4 from N_0)
  blk_simp [iblk]
  rw [V_main_arg0]
  refine congrArg _ ?_
  blk_ext [e]
  rw [row_val hN]; omega

theorem iblk_u (t : Fin cfg0.N) (a : Fin 512) (b : Fin 4096) : (iblk m c 3 t : Vec Ideal S512x4096 .bf16) (ix2 a b) = Cert.MlpRefIdeal.Read.val_main_v15 (F := Ideal) (a0 m c) (a1 m c) (a3 m c) (ix2 (row t.val a) b) := by
  have e : ∀ t : Fin cfg0.N, win0_3.index t = ![t.val, 0] := (by decide +kernel : ∀ t : Fin grid0.N, _)
  have hN : t.val < 4 := lt_of_lt_of_eq t.isLt (show cfg0.N = 4 from N_0)
  blk_simp [iblk]
  rw [← V_u]
  refine congrArg _ ?_
  blk_ext [e]
  rw [row_val hN]; omega

theorem iblk_w1 (t : Fin cfg0.N) : (iblk m c 4 t : Vec Ideal S8x1024x512 .bf16) = (V m c main_v18 : Vec Ideal S8x1024x512 .bf16) := by
  have e : ∀ t : Fin cfg0.N, win0_4.index t = ![0, 0, 0] := (by decide +kernel : ∀ t : Fin grid0.N, _)
  funext y; blk_simp [iblk]; refine congrArg _ ?_; blk_ext [e]

theorem iblk_w2 (t : Fin cfg0.N) : (iblk m c 5 t : Vec Ideal S4096x1024 .bf16) = a2 m c := by
  have e : ∀ t : Fin cfg0.N, win0_5.index t = ![0, 0] := (by decide +kernel : ∀ t : Fin grid0.N, _)
  rw [← V_w2]
  funext y; blk_simp [iblk]; refine congrArg _ ?_; blk_ext [e]

theorem iblk_g4 (t : Fin cfg0.N) : (iblk m c 6 t : Vec Ideal S1x1024 .f32) = a4 m c := by
  have e : ∀ t : Fin cfg0.N, win0_6.index t = ![0, 0] := (by decide +kernel : ∀ t : Fin grid0.N, _)
  have ea : a4 m c = (V m c main_arg4 : Vec Ideal S1x1024 .f32) := (V_main_arg4 m c).symm
  rw [ea]
  funext y; blk_simp [iblk]; refine congrArg _ ?_; blk_ext [e]

theorem iblk_g3 (t : Fin cfg0.N) : (iblk m c 7 t : Vec Ideal S1x1024 .f32) = a3 m c := by
  have e : ∀ t : Fin cfg0.N, win0_7.index t = ![0, 0] := (by decide +kernel : ∀ t : Fin grid0.N, _)
  have ea : a3 m c = (V m c main_arg3 : Vec Ideal S1x1024 .f32) := (V_main_arg3 m c).symm
  rw [ea]
  funext y; blk_simp [iblk]; refine congrArg _ ?_; blk_ext [e]

variable (H : Are W R (a0 m c) (a1 m c) (a2 m c) (a3 m c) (a4 m c) (a5 m c))
include H

/-- The blocks of a grid point hold its tokens' rows and the weights. -/
theorem blocks (t : Fin cfg0.N) : Blocks W (fun a => R (row t.val a)) (iblk m c 0 t) (iblk m c 1 t) (iblk m c 2 t) (iblk m c 3 t) (iblk m c 4 t)
    (iblk m c 5 t) (iblk m c 6 t) (iblk m c 7 t) :=
  ⟨fun a b => (iblk_ct m c t a b).trans (H.ct _), fun a b => (iblk_y m c t a b).trans (y_is H _), fun a b => (iblk_h m c t a b).trans (H.h _),
    fun a j => (iblk_u m c t a j).trans (u_is H _), fun k b l => ((congrFun (iblk_w1 m c t) _).trans (V_w1 m c k b l)).trans (H.w1 _),
    fun j b => (congrFun (iblk_w2 m c t) _).trans (H.w2 _), fun b => (congrFun (iblk_g4 m c t) _).trans (H.g4 _),
    fun b => (congrFun (iblk_g3 m c t) _).trans (H.g3 _)⟩

/-- The three results that the points write block by block. -/
theorem rows_at (t : Fin cfg0.N) :
    (outsAt0 m c t.val t.isLt).1 = dhV (iblk m c 0 t) (iblk m c 1 t) (iblk m c 2 t) (iblk m c 3 t) (iblk m c 4 t) (iblk m c 5 t) (iblk m c 6 t) (iblk m c 7 t)
    ∧ (outsAt0 m c t.val t.isLt).2.1 = dyV (iblk m c 0 t) (iblk m c 1 t) (iblk m c 6 t)
    ∧ (outsAt0 m c t.val t.isLt).2.2.1 = duV (iblk m c 0 t) (iblk m c 1 t) (iblk m c 3 t) (iblk m c 5 t) (iblk m c 6 t) := by
  rcases Nat.eq_zero_or_pos t.val with h | h
  · rw [outs_first m c t h]
    unfold stored
    refine ⟨?_, ?_, ?_⟩ <;> dsimp only
  · rw [outs_later m c t h]
    unfold stored
    refine ⟨?_, ?_, ?_⟩ <;> dsimp only

/-- The accumulated gradients of the two norms' scales. -/
theorem scales_at : ∀ n (hn : n < cfg0.N) (a : Fin 1) (b : Fin 1024),
    (outsAt0 m c n hn).2.2.2.1 (ix2 a b) = ((upto (fun t => dg4 W (R t) b) n : ℝ) : EReal)
    ∧ (outsAt0 m c n hn).2.2.2.2 (ix2 a b) = ((upto (fun t => dg3 W (R t) b) n : ℝ) : EReal)
  | 0, hn, a, b => by
    rw [outs_first m c ⟨0, hn⟩ rfl]
    exact ⟨dg4_is (blocks m c H ⟨0, hn⟩) a b, dg3_is (blocks m c H ⟨0, hn⟩) a b⟩
  | n + 1, hn, a, b => by
    obtain ⟨i4, i3⟩ := scales_at n (Nat.lt_of_succ_lt hn) a b
    have e4 := dg4_is (blocks m c H ⟨n + 1, hn⟩) a b
    have e3 := dg3_is (blocks m c H ⟨n + 1, hn⟩) a b
    rw [outs_later m c ⟨n + 1, hn⟩ (Nat.succ_pos n)]
    refine ⟨(congrArg₂ (fun x y : EReal => x + y) i4 e4).trans ?_, (congrArg₂ (fun x y : EReal => x + y) i3 e3).trans ?_⟩
    all_goals exact (EReal.coe_add _ _).symm

end Arrays

/-- The gradient at the rows. -/
def gh (W : Wts) (R : Fin 2048 → Row) : FVec Ideal S2048x1024 .f32 := fun i => ((dh W (R (c0 i)) (c1 i) : ℝ) : EReal)
/-- The gradient at the second norm's input. -/
def gy (W : Wts) (R : Fin 2048 → Row) : FVec Ideal S2048x1024 .bf16 := fun i => ((dy W (R (c0 i)) (c1 i) : ℝ) : EReal)
/-- The gradient at the rectifier's input. -/
def gu (W : Wts) (R : Fin 2048 → Row) : FVec Ideal S2048x4096 .bf16 := fun i => ((du W (R (c0 i)) (c1 i) : ℝ) : EReal)
/-- The gradients of the two norms' scales. -/
def g4 (W : Wts) (R : Fin 2048 → Row) : FVec Ideal S1x1024 .f32 := fun i => ((∑ t, dg4 W (R t) (c1 i) : ℝ) : EReal)
@[inherit_doc g4] def g3 (W : Wts) (R : Fin 2048 → Row) : FVec Ideal S1x1024 .f32 := fun i => ((∑ t, dg3 W (R t) (c1 i) : ℝ) : EReal)

section Final
variable {W : Wts} {R : Fin 2048 → Row} (m : (ℓ : Loc nD τ sig) → Buf (Elt Ideal) ℓ) (c : Dev nD)
  (H : Are W R (a0 m c) (a1 m c) (a2 m c) (a3 m c) (a4 m c) (a5 m c))
include H

theorem arr8 : (dats m 0 c).arrAt 8 cfg0.N = gh W R := by
  have e : ∀ t : Fin cfg0.N, win0_8.index t = ![t.val, 0] := (by decide +kernel : ∀ t : Fin grid0.N, _)
  refine (dats m 0 c).arrAt_eq_of_covers 8 _ (by decide +kernel) fun t hf y => ?_
  have hN : t.val < 4 := lt_of_lt_of_eq t.isLt (show cfg0.N = 4 from N_0)
  blk_simp
  rw [after0_8, (rows_at m c H t).1]
  obtain ⟨a, b, rfl⟩ : ∃ a b, y = ix2 a b := ⟨y 0, y 1, eq_ix2 y⟩
  refine (dh_is (blocks m c H t) a b).trans ?_
  refine (show gh W R (ix2 (row t.val a) b) = _ from congrArg (gh W R) ?_)
  blk_ext [e]
  rw [row_val hN]; omega

theorem arr9 : (dats m 0 c).arrAt 9 cfg0.N = gy W R := by
  have e : ∀ t : Fin cfg0.N, win0_9.index t = ![t.val, 0] := (by decide +kernel : ∀ t : Fin grid0.N, _)
  refine (dats m 0 c).arrAt_eq_of_covers 9 _ (by decide +kernel) fun t hf y => ?_
  have hN : t.val < 4 := lt_of_lt_of_eq t.isLt (show cfg0.N = 4 from N_0)
  blk_simp
  rw [after0_9, (rows_at m c H t).2.1]
  obtain ⟨a, b, rfl⟩ : ∃ a b, y = ix2 a b := ⟨y 0, y 1, eq_ix2 y⟩
  refine (dy_is (blocks m c H t) a b).trans ?_
  refine (show gy W R (ix2 (row t.val a) b) = _ from congrArg (gy W R) ?_)
  blk_ext [e]
  rw [row_val hN]; omega

theorem arr10 : (dats m 0 c).arrAt 10 cfg0.N = gu W R := by
  have e : ∀ t : Fin cfg0.N, win0_10.index t = ![t.val, 0] := (by decide +kernel : ∀ t : Fin grid0.N, _)
  refine (dats m 0 c).arrAt_eq_of_covers 10 _ (by decide +kernel) fun t hf y => ?_
  have hN : t.val < 4 := lt_of_lt_of_eq t.isLt (show cfg0.N = 4 from N_0)
  blk_simp
  rw [after0_10, (rows_at m c H t).2.2]
  obtain ⟨a, b, rfl⟩ : ∃ a b, y = ix2 a b := ⟨y 0, y 1, eq_ix2 y⟩
  refine (du_is (blocks m c H t) a b).trans ?_
  refine (show gu W R (ix2 (row t.val a) b) = _ from congrArg (gu W R) ?_)
  blk_ext [e]
  rw [row_val hN]; omega

theorem arr11 (t₀ : Fin cfg0.N) (ht : t₀.val = 3) (hw : (cfg0.win 11).WholeAt t₀) : (dats m 0 c).arrAt 11 cfg0.N = g4 W R := by
  have key : ∀ n (hn : n < cfg0.N), n = 3 → ∀ a b, (outsAt0 m c n hn).2.2.2.1 (ix2 a b) = ((∑ t, dg4 W (R t) b : ℝ) : EReal) := by
    rintro _ hn rfl a b
    rw [← upto_three]
    exact (scales_at m c H 3 hn a b).1
  refine (dats m 0 c).arrAt_eq_of_after_last 11 t₀ hw _ fun j => ?_
  blk_simp
  rw [after0_11]
  obtain ⟨a, b, rfl⟩ : ∃ a b, j = ix2 a b := ⟨j 0, j 1, eq_ix2 j⟩
  exact key _ _ ht a b

theorem arr12 (t₀ : Fin cfg0.N) (ht : t₀.val = 3) (hw : (cfg0.win 12).WholeAt t₀) : (dats m 0 c).arrAt 12 cfg0.N = g3 W R := by
  have key : ∀ n (hn : n < cfg0.N), n = 3 → ∀ a b, (outsAt0 m c n hn).2.2.2.2 (ix2 a b) = ((∑ t, dg3 W (R t) b : ℝ) : EReal) := by
    rintro _ hn rfl a b
    rw [← upto_three]
    exact (scales_at m c H 3 hn a b).2
  refine (dats m 0 c).arrAt_eq_of_after_last 12 t₀ hw _ fun j => ?_
  blk_simp
  rw [after0_12]
  obtain ⟨a, b, rfl⟩ : ∃ a b, j = ix2 a b := ⟨j 0, j 1, eq_ix2 j⟩
  exact key _ _ ht a b

end Final

/-- Kernel and reference compute the same gradients of finite arguments. -/
theorem algebraic : Cert.algebraic_MlpIdeal_MlpRefIdeal_pre_mlp_finite := by
  intro m g m' g' hpre hargs
  let W : Dev nD → Wts := fun c => wtsOf (a1 m c) (a2 m c) (a3 m c) (a4 m c)
  let R : Dev nD → Fin 2048 → Row := fun c => rowOf (a0 m c) (a5 m c)
  have H : ∀ c, Are (W c) (R c) (a0 m c) (a1 m c) (a2 m c) (a3 m c) (a4 m c) (a5 m c) := fun c => are_of _ _ _ _ _ _ (hpre c)
  refine ⟨fun c => gh (W c) (R c), fun c => gy (W c) (R c), fun c => gu (W c) (R c), fun c => g4 (W c) (R c), fun c => g3 (W c) (R c), ?_, ?_⟩
  · refine (θ_run _ _ _).mono (fun r h c => ?_) (run_blocks m g)
    obtain ⟨h0, h1, h2, h3, h4, hr⟩ := h c
    exact ⟨h0.trans (arr8 m c (H c)), h1.trans (arr9 m c (H c)), h2.trans (arr10 m c (H c)),
      h3.trans (arr11 m c (H c) ⟨3, by decide +kernel⟩ rfl (by decide +kernel)),
      h4.trans (arr12 m c (H c) ⟨3, by decide +kernel⟩ rfl (by decide +kernel)), hr⟩
  · refine (θ_run _ _ _).mono (fun r h c => ?_) (Cert.MlpRefIdeal.Value.run m' g')
    obtain ⟨h0, h1, h2, h3, h4, hr⟩ := h c
    obtain ⟨e0, e1, e2, e3, e4, e5⟩ := hargs c
    refine ⟨h0.trans ?_, h1.trans ?_, h2.trans ?_, h3.trans ?_, h4.trans ?_, hr⟩
    · rw [Cert.MlpRefIdeal.Read.val_main_v82_eq, e0, e1, e2, e3, e4, e5]
      exact funext fun i => Cert.MlpRefIdeal.Hand.dh_is (H c) i
    · rw [Cert.MlpRefIdeal.Read.val_main_v83_eq, e0, e1, e2, e3, e4, e5]
      exact funext fun i => Cert.MlpRefIdeal.Hand.dy_is (H c) i
    · rw [Cert.MlpRefIdeal.Read.val_main_v84_eq, e0, e1, e2, e3, e4, e5]
      exact funext fun i => Cert.MlpRefIdeal.Hand.du_is (H c) i
    · rw [Cert.MlpRefIdeal.Read.val_main_v41_eq, e0, e1, e2, e3, e5]
      exact funext fun i => Cert.MlpRefIdeal.Hand.dg4_is (H c) i
    · rw [Cert.MlpRefIdeal.Read.val_main_v65_eq, e0, e1, e2, e3, e4, e5]
      exact funext fun i => Cert.MlpRefIdeal.Hand.dg3_is (H c) i

end Cert.MlpIdeal.Hand
-- ==== Proof.AobOut.lean ====
module

public import proofs.«01_k».proof.Proof.Gen.AobIdeal.Frame
public import Idealize.ShloMosaic.Lib.Pointwise
public import Idealize.ShloMosaic.Lib.Pipeline.ValueKit

/-! # What one grid point of `_attn_out_bwd` leaves in its results' buffers

The gradient at the attentions' results is written in two halves; the scale's gradient is added to what the point before left. -/

@[expose] public section

set_option maxRecDepth 16384

noncomputable section

namespace Cert.AobIdeal.Hand

open Idealize.ShloMosaic Idealize.ShloMosaic.TcCoe Idealize.ShloMosaic.Tactic Cert.AobIdeal Cert.AobIdeal.Gen

variable {F : FTy → Type} [FloatOps F]

theorem hz : (![0, 0] : Fin 2 → Nat) = fun _ => 0 := funext fun a => by match a with | ⟨0, _⟩ => rfl | ⟨1, _⟩ => rfl

section
variable (x0 x1 : Vec F S512x1024 .f32) (x2 x3 : Vec F S512x512 .bf16) (x4 x5 : Vec F S512x1024 .bf16) (x6 : Vec F S1x1024 .f32)
  (x7 : Vec F S8x512 .f32)

/-- The gradient at the norm's input. -/
def dmV : Vec F S512x1024 .bf16 := k0_pay10 x1 x0 x6
/-- The two writes of the gradient at the attentions' results. -/
def loP : View.Piece (Elt F) S512x1024 .bf16 :=
  ⟨Rect.unit (s := S512x1024) ![0, 0] S512x512.size inb_S512x1024_S512x512_0_0, k0_pay1 (dmV x0 x1 x6) x4⟩
@[inherit_doc loP] def hiP : View.Piece (Elt F) S512x1024 .bf16 :=
  ⟨Rect.unit (s := S512x1024) ![0, 512] S512x512.size inb_S512x1024_S512x512_0_512, k0_pay2 (dmV x0 x1 x6) x5⟩
/-- What they leave. -/
def dcV : Vec F S512x1024 .bf16 := View.canon [hiP x0 x1 x5 x6, loP x0 x1 x4 x6]
/-- The heads' sums, of the first attention and of the second. -/
def rfV : Vec F S8x512 .f32 := k0_pay3 (dmV x0 x1 x6) x4 x2 x7
@[inherit_doc rfV] def rsV : Vec F S8x512 .f32 := k0_pay4 (dmV x0 x1 x6) x5 x3 x7
/-- Its rows' part of the scale's gradient. -/
def dgV : Vec F S1x1024 .f32 := k0_pay8 x1 x0
end

variable (m : (ℓ : Loc nD τ sig) → Buf (Elt F) ℓ) (c : Dev nD)

/-- The five results' stored values of the point `t`, of its windows' blocks. -/
def stored (t : Fin cfg0.N) : Vec F S512x1024 .bf16 × Vec F S512x1024 .bf16 × Vec F S8x512 .f32 × Vec F S8x512 .f32 × Vec F S1x1024 .f32 :=
  (dmV (iblk m c 0 t) (iblk m c 1 t) (iblk m c 6 t),
   dcV (iblk m c 0 t) (iblk m c 1 t) (iblk m c 4 t) (iblk m c 5 t) (iblk m c 6 t),
   rfV (iblk m c 0 t) (iblk m c 1 t) (iblk m c 2 t) (iblk m c 4 t) (iblk m c 6 t) (iblk m c 7 t),
   rsV (iblk m c 0 t) (iblk m c 1 t) (iblk m c 3 t) (iblk m c 5 t) (iblk m c 6 t) (iblk m c 7 t),
   dgV (iblk m c 0 t) (iblk m c 1 t))

set_option maxHeartbeats 8000000 in
theorem outs_first (t : Fin cfg0.N) (h : t.val = 0) : outsAt0 m c t.val t.isLt = stored m c t := by
  rw [outsAt0_A m c t (by omega) (by omega)]
  unfold out0_A_8 out0_A_9 out0_A_10 out0_A_11 out0_A_12
  rw [View.read_writes_eq_canon _ _ _ fun y => cover0_A_8 .., View.read_writes_eq_canon _ _ _ fun y => cover0_A_9 ..,
    View.read_writes_eq_canon _ _ _ fun y => cover0_A_10 .., View.read_writes_eq_canon _ _ _ fun y => cover0_A_11 ..,
    View.read_writes_eq_canon _ _ _ fun y => cover0_A_12 ..]
  unfold kernelRun0_A
  dsimp only
  sl_unfold_words
  rw [View.canon_unit_zero hz, View.canon_unit_zero hz, View.canon_unit_zero hz, View.canon_unit_zero hz]
  simp only [View.readAt_eq_ld, (hs0_0 t).read_unread, (hs0_1 t).read_unread, (hs0_2 t).read_unread, (hs0_3 t).read_unread, (hs0_4 t).read_unread,
    (hs0_5 t).read_unread, (hs0_6 t).read_unread, (hs0_7 t).read_unread, View.ld_unit_zero (S := S512x1024) hz, View.ld_unit_zero (S := S1x1024) hz,
    View.ld_unit_zero (S := S512x512) hz, View.ld_unit_zero (S := S8x512) hz]
  rfl

set_option maxHeartbeats 8000000 in
theorem outs_later (t : Fin cfg0.N) (h : 1 ≤ t.val) :
    outsAt0 m c t.val t.isLt = ((stored m c t).1, (stored m c t).2.1, (stored m c t).2.2.1, (stored m c t).2.2.2.1,
      addf (outsAt0 m c (t.val - 1) (Nat.lt_of_le_of_lt (Nat.sub_le _ _) t.isLt)).2.2.2.2 (stored m c t).2.2.2.2) := by
  have hN : t.val < 4 := lt_of_lt_of_eq t.isLt (show cfg0.N = 4 from N_0)
  rw [outsAt0_B m c t (by omega) (by omega)]
  generalize outsAt0 m c (t.val - 1) _ = o
  unfold out0_B_8 out0_B_9 out0_B_10 out0_B_11 out0_B_12
  rw [View.read_writes_eq_canon _ _ _ fun y => cover0_B_8 .., View.read_writes_eq_canon _ _ _ fun y => cover0_B_9 ..,
    View.read_writes_eq_canon _ _ _ fun y => cover0_B_10 .., View.read_writes_eq_canon _ _ _ fun y => cover0_B_11 ..,
    View.read_writes_eq_canon _ _ _ fun y => cover0_B_12 ..]
  unfold kernelRun0_B
  dsimp only
  sl_unfold_words
  rw [View.canon_unit_zero hz, View.canon_unit_zero hz, View.canon_unit_zero hz, View.canon_unit_zero hz]
  simp only [View.readAt_eq_ld, (hs0_0 t).read_unread, (hs0_1 t).read_unread, (hs0_2 t).read_unread, (hs0_3 t).read_unread, (hs0_4 t).read_unread,
    (hs0_5 t).read_unread, (hs0_6 t).read_unread, (hs0_7 t).read_unread, (hs0_12 t).read_unread, View.ld_unit_zero (S := S512x1024) hz,
    View.ld_unit_zero (S := S1x1024) hz, View.ld_unit_zero (S := S512x512) hz, View.ld_unit_zero (S := S8x512) hz, k0_pay9, shapeCast_self]
  rfl

end Cert.AobIdeal.Hand

end
-- ==== Proof.AobMath.lean ====
module

public import proofs.«01_k».proof.Proof.Rms

/-! # The product after the two attentions, of one token, in real numbers

The two attentions' results side by side, a product and a norm: the gradients at the norm's input, at the attentions' results and at the norm's
scale, and each head's sum of a result times its gradient. -/

@[expose] public section

noncomputable section

namespace Cert.AobMath

open Cert.Rms

/-- The weight and the norm's scale. -/
structure Wts where
  w : Fin 1024 → Fin 1024 → ℝ
  g : Fin 1024 → ℝ

/-- A token's results of the two attentions, and the gradient at the norm's result. -/
structure Row where
  f : Fin 512 → ℝ
  s : Fin 512 → ℝ
  ct : Fin 1024 → ℝ

/-- A column of the first attention among all columns, and one of the second. -/
def lo (j : Fin 512) : Fin 1024 := ⟨j.val, by omega⟩
@[inherit_doc lo] def hi (j : Fin 512) : Fin 1024 := ⟨512 + j.val, by omega⟩

/-- Number `d` of head `h`. -/
def hd (h : Fin 8) (d : Fin 64) : Fin 512 := ⟨64 * h.val + d.val, by omega⟩

/-- The column that stands at `j` where the heads of the two key heads take turns. -/
def slot (j : Fin 512) : Fin 512 := ⟨(j.val / 64 % 2 * 4 + j.val / 128) * 64 + j.val % 64, by omega⟩

variable (W : Wts) (R : Row)

/-- The attentions' results side by side. -/
def cat (j : Fin 1024) : ℝ := if h : j.val < 512 then R.f ⟨j.val, h⟩ else R.s ⟨j.val - 512, by omega⟩
/-- The product. -/
def mix (b : Fin 1024) : ℝ := ∑ j, cat R j * W.w j b
/-- The gradient at the norm's input. -/
def dm (b : Fin 1024) : ℝ := bwd (mix W R) (fun l => R.ct l * W.g l) b
/-- The token's part of the scale's gradient. -/
def dg (b : Fin 1024) : ℝ := R.ct b * nrm (mix W R) b
/-- The gradient at the attentions' results. -/
def dc (j : Fin 1024) : ℝ := ∑ b, dm W R b * W.w j b
/-- … with the second attention's columns in the order of `slot`. -/
def dcat (j : Fin 1024) : ℝ := if h : j.val < 512 then dc W R (lo ⟨j.val, h⟩) else dc W R (hi (slot ⟨j.val - 512, by omega⟩))
/-- Each head's sum of a result times its gradient. -/
def rowF (h : Fin 8) : ℝ := ∑ d, dc W R (lo (hd h d)) * R.f (hd h d)
@[inherit_doc rowF] def rowS (h : Fin 8) : ℝ := ∑ d, dc W R (hi (slot (hd h d))) * R.s (slot (hd h d))

/-- The sum over a row of zeros and ones that marks the columns of one head is the sum over that head. -/
theorem sum_head (p : Fin 512 → ℝ) (h : Fin 8) : ∑ j, (if j.val / 64 = h.val then (1 : ℝ) else 0) * p j = ∑ d, p (hd h d) := by
  have e : ∑ j, (if j.val / 64 = h.val then (1 : ℝ) else 0) * p j
      = ∑ k : Fin 8, ∑ d, (if k = h then (1 : ℝ) else 0) * p (hd k d) := by
    rw [← Fintype.sum_prod_type']
    refine (Fintype.sum_equiv (finProdFinEquiv : Fin 8 × Fin 64 ≃ Fin 512) _ _ fun x => ?_).symm
    have hx : (finProdFinEquiv x : Fin 512) = hd x.1 x.2 := Fin.ext (by show x.2.val + 64 * x.1.val = 64 * x.1.val + x.2.val; omega)
    have hh : ((hd x.1 x.2).val / 64 = h.val) ↔ x.1 = h := by
      have := x.2.isLt
      rw [Fin.ext_iff]
      show (64 * x.1.val + x.2.val) / 64 = h.val ↔ _
      omega
    rw [hx]
    simp only [hh]
  rw [e, Finset.sum_eq_single h]
  · simp
  · intro k _ hk
    simp [hk]
  · simp

end Cert.AobMath

end
-- ==== Proof.AobKernel.lean ====
module

public import proofs.«01_k».proof.Proof.AobOut
public import proofs.«01_k».proof.Proof.AobMath

/-! # What one block of `_attn_out_bwd` computes of real numbers -/

@[expose] public section

set_option maxRecDepth 16384

noncomputable section

namespace Cert.AobIdeal.Hand

open Idealize.ShloMosaic Cert.AobIdeal Cert.AobIdeal.Gen
open Cert.Rms Cert.AobMath

/-- The blocks hold real numbers: row `a` of the row blocks belongs to `R a`, and the resident blocks are `W`'s and the heads' rows of zeros and ones. -/
structure Blocks (W : Wts) (R : Fin 512 → Row) (x0 x1 : FVec Ideal S512x1024 .f32) (x2 x3 : FVec Ideal S512x512 .bf16)
    (x4 x5 : FVec Ideal S512x1024 .bf16) (x6 : FVec Ideal S1x1024 .f32) (x7 : FVec Ideal S8x512 .f32) : Prop where
  ct : ∀ a b, x0 (ix2 a b) = (((R a).ct b : ℝ) : EReal)
  mix : ∀ a b, x1 (ix2 a b) = ((mix W (R a) b : ℝ) : EReal)
  f : ∀ a j, x2 (ix2 a j) = (((R a).f j : ℝ) : EReal)
  s : ∀ a j, x3 (ix2 a j) = (((R a).s (slot j) : ℝ) : EReal)
  wf : ∀ j b, x4 (ix2 j b) = ((W.w (lo j) b : ℝ) : EReal)
  ws : ∀ j b, x5 (ix2 j b) = ((W.w (hi (slot j)) b : ℝ) : EReal)
  g : ∀ b, x6 (ix2 0 b) = ((W.g b : ℝ) : EReal)
  er : ∀ h j, x7 (ix2 h j) = (((if j.val / 64 = h.val then (1 : ℝ) else 0) : ℝ) : EReal)

theorem n_ne : (1024 : ℝ) ≠ 0 := by norm_num

section Norm
variable {r : Fin 512 → Fin 1024 → ℝ} {x : FVec Ideal S512x1024 .f32} (hx : ∀ a b, x (ix2 a b) = ((r a b : ℝ) : EReal))
include hx

theorem inv_at (a : Fin 512) (b : Fin 1) : k0_pay6 (F := Ideal) x (ix2 a b) = ((inv (r a) : ℝ) : EReal) := by
  unfold k0_pay6 k0_pay5
  pointwise
  rw [eps_bits, n_bits]
  simp only [hx, ← EReal.coe_mul, ← coe_sum, div_real _ n_ne, ← EReal.coe_add]
  exact rsqrt_ms (r a)

theorem nrm_at (a : Fin 512) (b : Fin 1024) : k0_pay7 (F := Ideal) x (ix2 a b) = ((nrm (r a) b : ℝ) : EReal) := by
  have e := inv_at hx a
  unfold k0_pay7 k0_pay5 nrm
  generalize k0_pay6 (F := Ideal) x = z at e
  pointwise
  rw [e, hx, EReal.coe_mul]
end Norm

variable {W : Wts} {R : Fin 512 → Row} {x0 x1 : FVec Ideal S512x1024 .f32} {x2 x3 : FVec Ideal S512x512 .bf16}
  {x4 x5 : FVec Ideal S512x1024 .bf16} {x6 : FVec Ideal S1x1024 .f32} {x7 : FVec Ideal S8x512 .f32}

theorem dg_is (H : Blocks W R x0 x1 x2 x3 x4 x5 x6 x7) (a : Fin 1) (b : Fin 1024) :
    dgV (F := Ideal) x0 x1 (ix2 a b) = ((∑ r, dg W (R r) b : ℝ) : EReal) := by
  have e := fun a => nrm_at H.mix a b
  unfold dgV k0_pay8 dg
  generalize k0_pay7 (F := Ideal) x1 = z at e
  pointwise
  simp only [e, H.ct, ← EReal.coe_mul, ← coe_sum]

theorem dm_is (H : Blocks W R x0 x1 x2 x3 x4 x5 x6 x7) (a : Fin 512) (b : Fin 1024) :
    dmV (F := Ideal) x0 x1 x6 (ix2 a b) = ((dm W (R a) b : ℝ) : EReal) := by
  have e := nrm_at H.mix a
  have e' := inv_at H.mix a
  unfold dmV k0_pay10 dm bwd
  generalize k0_pay7 (F := Ideal) x1 = z at e
  generalize k0_pay6 (F := Ideal) x1 = z' at e'
  pointwise
  rw [n_bits]
  simp only [e, e', H.ct, H.g, ← EReal.coe_mul, ← coe_sum, div_real _ n_ne, ← EReal.coe_sub]

/-- The gradient at the first attention's results. -/
theorem df_is (H : Blocks W R x0 x1 x2 x3 x4 x5 x6 x7) (a j : Fin 512) :
    k0_pay1 (F := Ideal) (dmV (F := Ideal) x0 x1 x6) x4 (ix2 a j) = ((dc W (R a) (lo j) : ℝ) : EReal) := by
  have e := dm_is H a
  unfold k0_pay1 dc
  generalize dmV (F := Ideal) x0 x1 x6 = z at e
  pointwise
  simp only [e, H.wf, ← EReal.coe_mul, ← coe_sum]

/-- The gradient at the second attention's results. -/
theorem ds_is (H : Blocks W R x0 x1 x2 x3 x4 x5 x6 x7) (a j : Fin 512) :
    k0_pay2 (F := Ideal) (dmV (F := Ideal) x0 x1 x6) x5 (ix2 a j) = ((dc W (R a) (hi (slot j)) : ℝ) : EReal) := by
  have e := dm_is H a
  unfold k0_pay2 dc
  generalize dmV (F := Ideal) x0 x1 x6 = z at e
  pointwise
  simp only [e, H.ws, ← EReal.coe_mul, ← coe_sum]

theorem rowF_is (H : Blocks W R x0 x1 x2 x3 x4 x5 x6 x7) (h : Fin 8) (a : Fin 512) :
    rfV (F := Ideal) x0 x1 x2 x4 x6 x7 (ix2 h a) = ((rowF W (R a) h : ℝ) : EReal) := by
  have e := df_is H a
  unfold rfV k0_pay3 rowF
  generalize k0_pay1 (F := Ideal) (dmV (F := Ideal) x0 x1 x6) x4 = z at e
  rw [← sum_head (fun j => dc W (R a) (lo j) * (R a).f j) h]
  pointwise
  simp only [e, H.f, H.er, ← EReal.coe_mul, ← coe_sum]

theorem rowS_is (H : Blocks W R x0 x1 x2 x3 x4 x5 x6 x7) (h : Fin 8) (a : Fin 512) :
    rsV (F := Ideal) x0 x1 x3 x5 x6 x7 (ix2 h a) = ((rowS W (R a) h : ℝ) : EReal) := by
  have e := ds_is H a
  unfold rsV k0_pay4 rowS
  generalize k0_pay2 (F := Ideal) (dmV (F := Ideal) x0 x1 x6) x5 = z at e
  rw [← sum_head (fun j => dc W (R a) (hi (slot j)) * (R a).s (slot j)) h]
  pointwise
  simp only [e, H.s, H.er, ← EReal.coe_mul, ← coe_sum]

/-- The two writes leave the gradient at every column. -/
theorem dcat_is (H : Blocks W R x0 x1 x2 x3 x4 x5 x6 x7) (a : Fin 512) (j : Fin 1024) :
    dcV (F := Ideal) x0 x1 x4 x5 x6 (ix2 a j) = ((dcat W (R a) j : ℝ) : EReal) := by
  have hj := j.isLt
  refine View.canon_eq_of_allAt _ _ _ ?_ fun p hp x hx => ?_
  · by_cases h : j.val < 512
    · refine ⟨loP x0 x1 x4 x6, by simp, ?_⟩
      show _ ∈ (Rect.unit (s := S512x1024) ![0, 0] S512x512.size inb_S512x1024_S512x512_0_0).set
      rw [Rect.mem_set_unit]
      intro d
      match d with
      | ⟨0, _⟩ => exact ⟨Nat.zero_le _, by show a.val < 0 + 512; omega⟩
      | ⟨1, _⟩ => exact ⟨Nat.zero_le _, by show j.val < 0 + 512; omega⟩
    · refine ⟨hiP x0 x1 x5 x6, by simp, ?_⟩
      show _ ∈ (Rect.unit (s := S512x1024) ![0, 512] S512x512.size inb_S512x1024_S512x512_0_512).set
      rw [Rect.mem_set_unit]
      intro d
      match d with
      | ⟨0, _⟩ => exact ⟨Nat.zero_le _, by show a.val < 0 + 512; omega⟩
      | ⟨1, _⟩ => exact ⟨by show 512 ≤ j.val; omega, by show j.val < 512 + 512; omega⟩
  · simp only [List.mem_cons, List.not_mem_nil, or_false] at hp
    unfold dcat
    rcases hp with rfl | rfl
    · obtain ⟨a', l, rfl⟩ : ∃ (a' l : Fin 512), x = ix2 a' l := ⟨x 0, x 1, eq_ix2 x⟩
      have h0 : 0 + 1 * a'.val = a.val := congrArg (fun i : S512x1024.Idx => (i 0).val) hx
      have h1 : 512 + 1 * l.val = j.val := congrArg (fun i : S512x1024.Idx => (i 1).val) hx
      obtain rfl : a' = a := Fin.ext (by omega)
      rw [dif_neg (by omega), show (⟨j.val - 512, by omega⟩ : Fin 512) = l from Fin.ext (by show j.val - 512 = l.val; omega)]
      exact ds_is H a' l
    · obtain ⟨a', l, rfl⟩ : ∃ (a' l : Fin 512), x = ix2 a' l := ⟨x 0, x 1, eq_ix2 x⟩
      have h0 : 0 + 1 * a'.val = a.val := congrArg (fun i : S512x1024.Idx => (i 0).val) hx
      have h1 : 0 + 1 * l.val = j.val := congrArg (fun i : S512x1024.Idx => (i 1).val) hx
      obtain rfl : a' = a := Fin.ext (by omega)
      have hl : j.val < 512 := by omega
      rw [dif_pos hl, show (⟨j.val, hl⟩ : Fin 512) = l from Fin.ext (by show j.val = l.val; omega)]
      exact df_is H a' l

end Cert.AobIdeal.Hand

end
-- ==== Proof.AobRef.lean ====
module

public import proofs.«01_k».proof.Proof.AobMath
public import proofs.«01_k».proof.Proof.PleRef
public import proofs.«01_k».proof.Proof.Gen.AobRefIdeal.Read

/-! # What the reference of the product after the attentions computes

At real arguments every array of the reference's derivative is real: row `t` of each is a function of the token's rows. -/

@[expose] public section

noncomputable section

namespace Cert.AobRefIdeal.Hand

open Idealize.ShloMosaic Cert.AobRefIdeal Cert.AobRefIdeal.Gen Cert.AobRefIdeal.Read
open Cert.Rms Cert.AobMath
open Cert.PleRefIdeal.Hand (c0 c1 zeroF negHalfF nF epsF n_ne)

/-- The arguments' types. -/
abbrev Att : Type := (⟨S2048x512, .f32⟩ : BufTy).Contents (Elt Ideal)
@[inherit_doc Att] abbrev Wt : Type := (⟨S1024x1024, .f32⟩ : BufTy).Contents (Elt Ideal)
@[inherit_doc Att] abbrev Sc : Type := (⟨S1x1024, .f32⟩ : BufTy).Contents (Elt Ideal)
@[inherit_doc Att] abbrev Mat : Type := (⟨S2048x1024, .f32⟩ : BufTy).Contents (Elt Ideal)

/-- Arrays that hold real numbers: token `t`'s rows are `R t`. -/
structure Are (W : Wts) (R : Fin 2048 → Row) (x0 x1 : Att) (x2 : Wt) (x3 : Sc) (x4 : Mat) : Prop where
  f : ∀ i, x0 i = (((R (c0 i)).f (c1 i) : ℝ) : EReal)
  s : ∀ i, x1 i = (((R (c0 i)).s (c1 i) : ℝ) : EReal)
  w : ∀ i, x2 i = ((W.w (c0 i) (c1 i) : ℝ) : EReal)
  g : ∀ i, x3 i = ((W.g (c1 i) : ℝ) : EReal)
  ct : ∀ i, x4 i = (((R (c0 i)).ct (c1 i) : ℝ) : EReal)

variable {W : Wts} {R : Fin 2048 → Row} {x0 x1 : Att} {x2 : Wt} {x3 : Sc} {x4 : Mat}

/-- Two arrays of 512 columns side by side. -/
theorem beside (x y : Att) (r : Fin 2048) (j : Fin 1024) :
    concatenate S2048x1024 1 [⟨S2048x512, x⟩, ⟨S2048x512, y⟩] concatenates_S2048x512_S2048x512_S2048x1024_d1 (ix2 r j)
      = if h : j.val < 512 then x (ix2 r ⟨j.val, h⟩) else y (ix2 r ⟨j.val - 512, by omega⟩) := by
  split
  · next h =>
    refine concatenate_pair_apply_left (t := S2048x1024) (s₁ := S2048x512) (s₂ := S2048x512) 1 x y _ _ rfl (ix2 r ⟨j.val, h⟩) fun b => ?_
    match b with
    | ⟨0, _⟩ => rfl
    | ⟨1, _⟩ => rfl
  · next h =>
    refine concatenate_pair_apply_right (t := S2048x1024) (s₁ := S2048x512) (s₂ := S2048x512) 1 x y _ _ rfl rfl (ix2 r ⟨j.val - 512, by omega⟩)
      (fun b hb => ?_) ?_
    · match b with
      | ⟨0, _⟩ => rfl
      | ⟨1, _⟩ => exact absurd rfl hb
    · show j.val - 512 + 512 = j.val
      omega

theorem cat_is (H : Are W R x0 x1 x2 x3 x4) (i : S2048x1024.Idx) : val_main_v0 (F := Ideal) x0 x1 i = ((cat (R (c0 i)) (c1 i) : ℝ) : EReal) := by
  obtain ⟨r, j, rfl⟩ : ∃ r j, i = ix2 r j := ⟨i 0, i 1, eq_ix2 i⟩
  unfold val_main_v0
  refine (beside x0 x1 r j).trans ?_
  show _ = ((cat (R r) j : ℝ) : EReal)
  unfold cat
  split
  · exact H.f _
  · exact H.s _

/-- The product. -/
theorem mix_is (H : Are W R x0 x1 x2 x3 x4) (i : S2048x1024.Idx) : val_main_v1 (F := Ideal) x0 x1 x2 i = ((mix W (R (c0 i)) (c1 i) : ℝ) : EReal) := by
  rw [val_main_v1_apply]
  unfold mix
  rw [coe_sum]
  refine Finset.sum_congr rfl fun k _ => ?_
  rw [cat_is H, H.w, EReal.coe_mul]; rfl

theorem ms_is (H : Are W R x0 x1 x2 x3 x4) (i : S2048x1.Idx) :
    val_main_v8 (F := Ideal) x0 x1 x2 i = ((ms (mix W (R (c0 i))) : ℝ) : EReal) := by
  rw [val_main_v8_apply, val_main_v7_apply, val_main_cst_1_apply, epsF, val_main_v6_apply, val_main_v5_apply, val_main_cst_0_apply, nF,
    val_main_v4_apply, val_main_v3_apply, val_main_cst_apply, zeroF, zero_add]
  simp only [val_main_v2_apply, mix_is H, Ideal.mulf_def, Ideal.addf_def, Ideal.hostDivf_def]
  simp only [← EReal.coe_mul, ← coe_sum]
  rw [div_real _ n_ne, ← EReal.coe_add]
  rfl

theorem inv_is (H : Are W R x0 x1 x2 x3 x4) (i : S2048x1.Idx) :
    val_main_v9 (F := Ideal) x0 x1 x2 i = ((inv (mix W (R (c0 i))) : ℝ) : EReal) := by
  rw [val_main_v9_apply, ms_is H]
  exact rsqrt_ms _

theorem nrm_is (H : Are W R x0 x1 x2 x3 x4) (i : S2048x1024.Idx) :
    val_main_v14 (F := Ideal) x0 x1 x2 i = ((nrm (mix W (R (c0 i))) (c1 i) : ℝ) : EReal) := by
  rw [val_main_v14_apply, mix_is H, val_main_v13_apply, inv_is H]
  exact (EReal.coe_mul _ _).symm

/-- The gradient of the norm's scale. -/
theorem dg_is (H : Are W R x0 x1 x2 x3 x4) (i : S1x1024.Idx) :
    val_main_v19 (F := Ideal) x0 x1 x2 x4 i = ((∑ t, dg W (R t) (c1 i) : ℝ) : EReal) := by
  have h0 : (i 0).val < 1 := (i 0).isLt
  rw [val_main_v19_apply, val_main_v18_apply, val_main_cst_3_apply, zeroF, zero_add, coe_sum]
  refine Finset.sum_congr rfl fun t _ => ?_
  rw [val_main_v17_apply, nrm_is H, H.ct]
  have e : c1 (idx_main_v18 (idx_main_v19 i) t) = c1 i := Fin.ext (by show (i 0).val * 1024 + (i 1).val = (i 1).val; omega)
  rw [e]
  exact (EReal.coe_mul _ _).symm.trans (congrArg _ (mul_comm _ _))

theorem ctg_is (H : Are W R x0 x1 x2 x3 x4) (i : S2048x1024.Idx) :
    val_main_v21 (F := Ideal) x3 x4 i = (((R (c0 i)).ct (c1 i) * W.g (c1 i) : ℝ) : EReal) := by
  rw [val_main_v21_apply, H.ct, val_main_v20_apply, H.g]
  exact (EReal.coe_mul _ _).symm

/-- The derivative through the norm's mean square, one number for each row. -/
theorem mid_is (H : Are W R x0 x1 x2 x3 x4) (i : S2048x1024.Idx) :
    val_main_v31 (F := Ideal) x0 x1 x2 x3 x4 i
      = (((∑ l, mix W (R (c0 i)) l * ((R (c0 i)).ct l * W.g l)) * (-1 / 2 * (inv (mix W (R (c0 i))) / ms (mix W (R (c0 i))))) / 1024 : ℝ) : EReal) := by
  have e : ∀ j : S2048x1.Idx, val_main_v24 (F := Ideal) x0 x1 x2 x3 x4 j
      = ((∑ l, mix W (R (c0 j)) l * ((R (c0 j)).ct l * W.g l) : ℝ) : EReal) := fun j => by
    have h1 : (j 1).val < 1 := (j 1).isLt
    rw [val_main_v24_apply, val_main_v23_apply, val_main_cst_4_apply, zeroF, zero_add, coe_sum]
    refine Finset.sum_congr rfl fun l _ => ?_
    rw [val_main_v22_apply, mix_is H, ctg_is H, Ideal.mulf_def, ← EReal.coe_mul]
    have e0 : c0 (idx_main_v23 (idx_main_v24 j) l) = c0 j := Fin.ext (by show (j 0).val * 1 + (j 1).val = (j 0).val; omega)
    rw [e0]
    rfl
  rw [val_main_v31_apply, val_main_v30_apply, val_main_cst_6_apply, zeroF, zero_add, Fin.sum_univ_one, val_main_v29_apply, val_main_v28_apply,
    val_main_cst_5_apply, nF, val_main_v27_apply, e, val_main_v12_apply, val_main_v11_apply, val_main_cst_2_apply, negHalfF, val_main_v10_apply,
    inv_is H, ms_is H]
  simp only [Ideal.mulf_def, Ideal.hostDivf_def]
  rw [div_real _ (ms_pos _).ne', ← EReal.coe_mul, ← EReal.coe_mul, div_real _ n_ne]
  rfl

theorem dm_mid (H : Are W R x0 x1 x2 x3 x4) (i : S2048x1024.Idx) :
    val_main_v35 (F := Ideal) x0 x1 x2 x3 x4 i = ((dm W (R (c0 i)) (c1 i) : ℝ) : EReal) := by
  rw [val_main_v35_apply, val_main_v34_apply, val_main_v33_apply, val_main_v32_apply, val_main_v26_apply, val_main_v25_apply, inv_is H, mid_is H,
    mix_is H, ctg_is H]
  simp only [Ideal.mulf_def, Ideal.addf_def, ← EReal.coe_mul, ← EReal.coe_add]
  exact congrArg _ (chain (mix W (R (c0 i))) (fun l => (R (c0 i)).ct l * W.g l) (c1 i))

/-- The gradient at the norm's input. -/
theorem dm_is (H : Are W R x0 x1 x2 x3 x4) (i : S2048x1024.Idx) :
    val_main_v54 (F := Ideal) x0 x1 x2 x3 x4 i = ((dm W (R (c0 i)) (c1 i) : ℝ) : EReal) := by
  rw [val_main_v54_apply, dm_mid H]; rfl

/-- The gradient at the attentions' results. -/
theorem dc_is (H : Are W R x0 x1 x2 x3 x4) (i : S2048x1024.Idx) :
    val_main_v36 (F := Ideal) x0 x1 x2 x3 x4 i = ((dc W (R (c0 i)) (c1 i) : ℝ) : EReal) := by
  rw [val_main_v36_apply]
  unfold dc
  rw [coe_sum]
  refine Finset.sum_congr rfl fun b _ => ?_
  rw [dm_mid H, H.w, EReal.coe_mul]; rfl

/-- Two places of the gradient that are the same token and column. -/
theorem dc_at {i : S2048x1024.Idx} (H : Are W R x0 x1 x2 x3 x4) (r : Fin 2048) (j : Fin 1024) (h0 : (i 0).val = r.val) (h1 : (i 1).val = j.val) :
    val_main_v36 (F := Ideal) x0 x1 x2 x3 x4 i = ((dc W (R r) j : ℝ) : EReal) := by
  rw [dc_is H, show c0 i = r from Fin.ext h0, show c1 i = j from Fin.ext h1]

theorem f_at {i : S2048x512.Idx} (H : Are W R x0 x1 x2 x3 x4) (r : Fin 2048) (j : Fin 512) (h0 : (i 0).val = r.val) (h1 : (i 1).val = j.val) :
    x0 i = (((R r).f j : ℝ) : EReal) := by
  rw [H.f, show c0 i = r from Fin.ext h0, show c1 i = j from Fin.ext h1]

theorem s_at {i : S2048x512.Idx} (H : Are W R x0 x1 x2 x3 x4) (r : Fin 2048) (j : Fin 512) (h0 : (i 0).val = r.val) (h1 : (i 1).val = j.val) :
    x1 i = (((R r).s j : ℝ) : EReal) := by
  rw [H.s, show c0 i = r from Fin.ext h0, show c1 i = j from Fin.ext h1]

/-- The heads' sums of the first attention. -/
theorem rowF_is (H : Are W R x0 x1 x2 x3 x4) (i : S8x2048.Idx) :
    val_main_v44 (F := Ideal) x0 x1 x2 x3 x4 i = ((rowF W (R (c1 i)) (c0 i) : ℝ) : EReal) := by
  obtain ⟨h, r, rfl⟩ : ∃ h r, i = ix2 h r := ⟨i 0, i 1, eq_ix2 i⟩
  have hh := h.isLt
  rw [val_main_v44_apply, val_main_v43_apply, val_main_cst_7_apply, zeroF, zero_add]
  unfold rowF
  rw [coe_sum]
  refine Finset.sum_congr rfl fun d _ => ?_
  have hd' := d.isLt
  rw [val_main_v42_apply, val_main_v38_apply, val_main_v37_apply, val_main_v41_apply, dc_at H r (lo (hd h d)) ?_ ?_, f_at H r (hd h d) ?_ ?_,
    EReal.coe_mul]
  · rfl
  · show ((r.val * 8 + h.val) * 64 + d.val) / 512 = r.val
    omega
  · show ((r.val * 8 + h.val) * 64 + d.val) % 512 = 64 * h.val + d.val
    omega
  · show ((r.val * 8 + h.val) * 64 + d.val) / 512 = r.val
    omega
  · show ((r.val * 8 + h.val) * 64 + d.val) % 512 = 64 * h.val + d.val
    omega

/-- The heads' sums of the second attention. -/
theorem rowS_is (H : Are W R x0 x1 x2 x3 x4) (i : S8x2048.Idx) :
    val_main_v49 (F := Ideal) x0 x1 x2 x3 x4 i = ((rowS W (R (c1 i)) (c0 i) : ℝ) : EReal) := by
  obtain ⟨h, r, rfl⟩ : ∃ h r, i = ix2 h r := ⟨i 0, i 1, eq_ix2 i⟩
  have hh := h.isLt
  have hr := r.isLt
  have e0 : (h.val * 2048 + r.val) % 2048 = r.val := by omega
  have e1 : (h.val * 2048 + r.val) / 2048 % 2 = h.val % 2 := by omega
  have e2 : (h.val * 2048 + r.val) / 4096 = h.val / 2 := by omega
  rw [val_main_v49_apply, val_main_v48_apply, val_main_v47_apply, val_main_cst_8_apply, zeroF, zero_add]
  unfold rowS
  rw [coe_sum]
  refine Finset.sum_congr rfl fun d _ => ?_
  have hd' := d.isLt
  have q0 : (((h.val * 2048 + r.val) % 2048 * 2 + (h.val * 2048 + r.val) / 2048 % 2) * 4 + (h.val * 2048 + r.val) / 4096) * 64 + d.val
      = r.val * 512 + ((h.val % 2 * 4 + h.val / 2) * 64 + d.val) := by rw [e0, e1, e2]; omega
  have q1 : (slot (hd h d)).val = (h.val % 2 * 4 + h.val / 2) * 64 + d.val := by
    show ((64 * h.val + d.val) / 64 % 2 * 4 + (64 * h.val + d.val) / 128) * 64 + (64 * h.val + d.val) % 64 = _
    have a1 : (64 * h.val + d.val) / 64 = h.val := by omega
    have a2 : (64 * h.val + d.val) / 128 = h.val / 2 := by omega
    have a3 : (64 * h.val + d.val) % 64 = d.val := by omega
    rw [a1, a2, a3]
  have q2 : (h.val % 2 * 4 + h.val / 2) * 64 + d.val < 512 := by omega
  generalize hq : (h.val % 2 * 4 + h.val / 2) * 64 + d.val = q at q0 q1 q2
  rw [val_main_v46_apply, val_main_v40_apply, val_main_v39_apply, val_main_v45_apply, dc_at H r (hi (slot (hd h d))) ?_ ?_,
    s_at H r (slot (hd h d)) ?_ ?_, EReal.coe_mul]
  · rfl
  · show ((((h.val * 2048 + r.val) % 2048 * 2 + (h.val * 2048 + r.val) / 2048 % 2) * 4 + (h.val * 2048 + r.val) / 4096) * 64 + d.val) / 512 = r.val
    rw [q0]; omega
  · show ((((h.val * 2048 + r.val) % 2048 * 2 + (h.val * 2048 + r.val) / 2048 % 2) * 4 + (h.val * 2048 + r.val) / 4096) * 64 + d.val) % 512 = _
    rw [q0, q1]; omega
  · show ((((h.val * 2048 + r.val) % 2048 * 2 + (h.val * 2048 + r.val) / 2048 % 2) * 4 + (h.val * 2048 + r.val) / 4096) * 64 + d.val) / 512 = r.val
    rw [q0]; omega
  · show 512 + ((((h.val * 2048 + r.val) % 2048 * 2 + (h.val * 2048 + r.val) / 2048 % 2) * 4 + (h.val * 2048 + r.val) / 4096) * 64 + d.val) % 512
      = 512 + (slot (hd h d)).val
    rw [q0, q1]; omega

/-- The gradient at the attentions' results, the second attention's columns in the order of `slot`. -/
theorem dcat_is (H : Are W R x0 x1 x2 x3 x4) (i : S2048x1024.Idx) :
    val_main_v55 (F := Ideal) x0 x1 x2 x3 x4 i = ((dcat W (R (c0 i)) (c1 i) : ℝ) : EReal) := by
  obtain ⟨r, j, rfl⟩ : ∃ r j, i = ix2 r j := ⟨i 0, i 1, eq_ix2 i⟩
  have hr := r.isLt
  have hj := j.isLt
  rw [val_main_v55_apply]
  unfold val_main_v53
  refine (beside _ _ r j).trans ?_
  show _ = ((dcat W (R r) j : ℝ) : EReal)
  unfold dcat
  split
  · next h =>
    rw [val_main_v50_apply]
    exact dc_at H r _ rfl rfl
  · next h =>
    rw [val_main_v52_apply, val_main_v51_apply, val_main_v40_apply, val_main_v39_apply]
    have e0 : (r.val * 512 + (j.val - 512)) / 512 = r.val := by omega
    have e1 : (r.val * 512 + (j.val - 512)) / 64 % 2 = (j.val - 512) / 64 % 2 := by omega
    have e2 : (r.val * 512 + (j.val - 512)) / 128 % 4 = (j.val - 512) / 128 := by omega
    have e3 : (r.val * 512 + (j.val - 512)) % 64 = (j.val - 512) % 64 := by omega
    refine dc_at H r _ ?_ ?_
    · show ((((r.val * 512 + (j.val - 512)) / 512 * 2 + (r.val * 512 + (j.val - 512)) / 64 % 2) * 4 + (r.val * 512 + (j.val - 512)) / 128 % 4) * 64
        + (r.val * 512 + (j.val - 512)) % 64) / 512 = r.val
      rw [e0, e1, e2, e3]; omega
    · show 512 + ((((r.val * 512 + (j.val - 512)) / 512 * 2 + (r.val * 512 + (j.val - 512)) / 64 % 2) * 4 + (r.val * 512 + (j.val - 512)) / 128 % 4) * 64
        + (r.val * 512 + (j.val - 512)) % 64) % 512 = 512 + (((j.val - 512) / 64 % 2 * 4 + (j.val - 512) / 128) * 64 + (j.val - 512) % 64)
      rw [e0, e1, e2, e3]; omega

end Cert.AobRefIdeal.Hand

end
-- ==== Proof.AobPre.lean ====
module

public import proofs.«01_k».proof.Proof.Rows
public import proofs.«01_k».proof.Proof.AobKernel
public import proofs.«01_k».proof.Proof.AobRef
public import proofs.«01_k».proof.Proof.FoxPre

/-! # The product after the attentions: finite arguments are real numbers -/

@[expose] public section

noncomputable section

namespace Cert.AobIdeal.Hand

open Idealize.ShloMosaic Cert.AobMath
open Idealize.ShloMosaic.TcCoe
open Cert.AobRefIdeal.Hand (Att Wt Mat Sc Are)

/-- The shapes that the precondition's lines relate. -/
instance preFacts : Cert.Pre_aob_finite.Facts where
  bcast_S_S2048x512 := by decide
  reducesTo_S2048x512_S_d0_1 := by decide
  h_S_ := by decide
  bcast_S_S1024x1024 := by decide
  reducesTo_S1024x1024_S_d0_1 := by decide
  bcast_S_S1x1024 := by decide
  reducesTo_S1x1024_S_d0_1 := by decide
  bcast_S_S2048x1024 := by decide
  reducesTo_S2048x1024_S_d0_1 := by decide

/-- The weights that finite arguments hold. -/
def wtsOf (x2 : Wt) (x3 : Sc) : Wts where
  w a b := (x2 (ix2 a b) : EReal).toReal
  g b := (x3 (ix2 0 b) : EReal).toReal

/-- … and the tokens' rows. -/
def rowOf (x0 x1 : Att) (x4 : Mat) (t : Fin 2048) : Row where
  f b := (x0 (ix2 t b) : EReal).toReal
  s b := (x1 (ix2 t b) : EReal).toReal
  ct b := (x4 (ix2 t b) : EReal).toReal

open Cert.Pre_aob_finite in
open Cert.FoxIdeal.Hand (all_real) in
theorem are_of (x0 x1 : Att) (x2 : Wt) (x3 : Sc) (x4 : Mat) (h : Cert.Pre_aob_finite.fn (F := Ideal) x0 x1 x2 x3 x4 = fun _ => 1#1) :
    Are (wtsOf x2 x3) (rowOf x0 x1 x4) x0 x1 x2 x3 x4 := by
  have e := congrFun h ix0
  simp only [Cert.Pre_aob_finite.fn, Cert.Pre_aob_finite.fn_part1, andi, IntOp.andi_eq_one] at e
  obtain ⟨⟨⟨⟨⟨-, e0⟩, e1⟩, e2⟩, e3⟩, e4⟩ := e
  have b0 := all_real x0 Facts.bcast_S_S2048x512 Facts.reducesTo_S2048x512_S_d0_1 Facts.h_S_ ix0 e0
  have b1 := all_real x1 Facts.bcast_S_S2048x512 Facts.reducesTo_S2048x512_S_d0_1 Facts.h_S_ ix0 e1
  have b2 := all_real x2 Facts.bcast_S_S1024x1024 Facts.reducesTo_S1024x1024_S_d0_1 Facts.h_S_ ix0 e2
  have b3 := all_real x3 Facts.bcast_S_S1x1024 Facts.reducesTo_S1x1024_S_d0_1 Facts.h_S_ ix0 e3
  have b4 := all_real x4 Facts.bcast_S_S2048x1024 Facts.reducesTo_S2048x1024_S_d0_1 Facts.h_S_ ix0 e4
  have two : ∀ {n k : Nat} (i : (⟨2, ![n, k]⟩ : Shape).Idx), ∃ a b, i = ix2 a b := fun i => ⟨i 0, i 1, eq_ix2 i⟩
  refine ⟨fun i => ?_, fun i => ?_, fun i => ?_, fun i => ?_, fun i => ?_⟩ <;> obtain ⟨a, b, rfl⟩ := two i
  · exact b0 _
  · exact b1 _
  · exact b2 _
  · obtain rfl : a = 0 := Subsingleton.elim _ _
    exact b3 _
  · exact b4 _

end Cert.AobIdeal.Hand
-- ==== Proof.AobRun.lean ====
module

public import proofs.«01_k».proof.Proof.AobPre
public import proofs.«01_k».proof.Proof.PleRef
public import proofs.«01_k».proof.Proof.Gen.AobIdeal.Value
public import proofs.«01_k».proof.Proof.Gen.AobRefIdeal.Run
public import Idealize.ShloMosaic.Lib.Claim
public import Idealize.ShloMosaic.Lib.Pipeline.ValueKit

/-! # The product after the attentions: kernel and reference compute the same gradients -/

@[expose] public section

noncomputable section

namespace Cert.AobIdeal.Hand

open Idealize.ShloMosaic Cert.AobIdeal Cert.AobIdeal.Gen Cert.AobIdeal.Value
open Idealize.ShloMosaic.TcCoe Cert.AobMath Cert.Rows
open Cert.AobRefIdeal.Hand (Att Wt Mat Sc Are mix_is)
open Cert.PleRefIdeal.Hand (c0 c1)

section Arrays
variable {W : Wts} {R : Fin 2048 → Row} (m : (ℓ : Loc nD τ sig) → Buf (Elt Ideal) ℓ) (c : Dev nD)

/-- The program's arguments. -/
abbrev a0 : Att := m ((c : Thread nD τ).loc main_arg0)
@[inherit_doc a0] abbrev a1 : Att := m ((c : Thread nD τ).loc main_arg1)
@[inherit_doc a0] abbrev a2 : Wt := m ((c : Thread nD τ).loc main_arg2)
@[inherit_doc a0] abbrev a3 : Sc := m ((c : Thread nD τ).loc main_arg3)
@[inherit_doc a0] abbrev a4 : Mat := m ((c : Thread nD τ).loc main_arg4)

/-- The product, which the host computes by the reference's lines. -/
theorem V_mix : (V m c main_v1 : Vec Ideal S2048x1024 .f32) = Cert.AobRefIdeal.Read.val_main_v1 (F := Ideal) (a0 m c) (a1 m c) (a2 m c) := by
  unfold V
  after_reads_simp
  rfl

/-- The first attention's results, cast. -/
theorem V_f : (V m c main_v8 : Vec Ideal S2048x512 .bf16) = a0 m c := by
  unfold V
  after_reads_simp
  rfl

/-- The second attention's results, cast, their columns in the order of `slot`. -/
theorem V_s (r : Fin 2048) (j : Fin 512) : (V m c main_v12 : Vec Ideal S2048x512 .bf16) (ix2 r j) = a1 m c (ix2 r (slot j)) := by
  unfold V
  after_reads_simp
  pointwise
  refine congrArg (fun k => a1 m c (ix2 r k)) (Fin.ext ?_)
  show j.val / 64 % 2 * 256 + j.val / 128 * 64 + j.val % 64 = (j.val / 64 % 2 * 4 + j.val / 128) * 64 + j.val % 64
  omega

/-- The weight's rows that the first attention's columns meet. -/
theorem V_wf (j : Fin 512) (b : Fin 1024) : (V m c main_v3 : Vec Ideal S512x1024 .bf16) (ix2 j b) = a2 m c (ix2 (lo j) b) := by
  unfold V
  after_reads_simp
  pointwise
  rfl

/-- The weight's rows that the second attention's columns meet, in the order of `slot`. -/
theorem V_ws (j : Fin 512) (b : Fin 1024) : (V m c main_v7 : Vec Ideal S512x1024 .bf16) (ix2 j b) = a2 m c (ix2 (hi (slot j)) b) := by
  unfold V
  after_reads_simp
  pointwise
  refine congrArg (fun k => a2 m c (ix2 k b)) (Fin.ext ?_)
  show 512 + (j.val / 64 % 2 * 256 + j.val / 128 * 64 + j.val % 64) = 512 + ((j.val / 64 % 2 * 4 + j.val / 128) * 64 + j.val % 64)
  omega

/-- The table of zeros and ones: row `h` marks head `h`'s columns. -/
theorem table : ∀ n : Fin 4096, lit0 n = if n.val % 512 / 64 = n.val / 512 then 0x3F800000#32 else 0#32 := by decide +kernel

theorem V_er (h : Fin 8) (j : Fin 512) :
    (V m c main_cst : Vec Ideal S8x512 .f32) (ix2 h j) = (((if j.val / 64 = h.val then (1 : ℝ) else 0) : ℝ) : EReal) := by
  unfold V
  after_reads_simp
  pointwise
  have key : ∀ n : Fin 4096, n.val = h.val * 512 + j.val →
      Ideal.ofBits .f32 (lit0 n) = (((if j.val / 64 = h.val then (1 : ℝ) else 0) : ℝ) : EReal) := fun n e => by
    have hj := j.isLt
    rw [table, e, show (h.val * 512 + j.val) % 512 = j.val by omega, show (h.val * 512 + j.val) / 512 = h.val by omega]
    split
    · exact Cert.Rms.one_bits
    · exact Ideal.ofBits_zero_f32
  exact key _ (Shape.rowMajor_val_two _)

theorem iblk_ct (t : Fin cfg0.N) (a : Fin 512) (b : Fin 1024) : (iblk m c 0 t : Vec Ideal S512x1024 .f32) (ix2 a b) = a4 m c (ix2 (row t.val a) b) := by
  have e : ∀ t : Fin cfg0.N, win0_0.index t = ![t.val, 0] := (by decide +kernel : ∀ t : Fin grid0.N, _)
  have hN : t.val < 4 := lt_of_lt_of_eq t.isLt (show cfg0.N = 4 from N_0)
  blk_simp [iblk]
  rw [V_main_arg4]
  refine congrArg _ ?_
  blk_ext [e]
  rw [row_val hN]; omega

theorem iblk_mix (t : Fin cfg0.N) (a : Fin 512) (b : Fin 1024) : (iblk m c 1 t : Vec Ideal S512x1024 .f32) (ix2 a b) = Cert.AobRefIdeal.Read.val_main_v1 (F := Ideal) (a0 m c) (a1 m c) (a2 m c) (ix2 (row t.val a) b) := by
  have e : ∀ t : Fin cfg0.N, win0_1.index t = ![t.val, 0] := (by decide +kernel : ∀ t : Fin grid0.N, _)
  have hN : t.val < 4 := lt_of_lt_of_eq t.isLt (show cfg0.N = 4 from N_0)
  blk_simp [iblk]
  rw [← V_mix]
  refine congrArg _ ?_
  blk_ext [e]
  rw [row_val hN]; omega

theorem iblk_f (t : Fin cfg0.N) (a : Fin 512) (b : Fin 512) : (iblk m c 2 t : Vec Ideal S512x512 .bf16) (ix2 a b) = a0 m c (ix2 (row t.val a) b) := by
  have e : ∀ t : Fin cfg0.N, win0_2.index t = ![t.val, 0] := (by decide +kernel : ∀ t : Fin grid0.N, _)
  have hN : t.val < 4 := lt_of_lt_of_eq t.isLt (show cfg0.N = 4 from N_0)
  blk_simp [iblk]
  rw [← V_f]
  refine congrArg _ ?_
  blk_ext [e]
  rw [row_val hN]; omega

theorem iblk_s (t : Fin cfg0.N) (a : Fin 512) (b : Fin 512) : (iblk m c 3 t : Vec Ideal S512x512 .bf16) (ix2 a b) = (V m c main_v12 : Vec Ideal S2048x512 .bf16) (ix2 (row t.val a) b) := by
  have e : ∀ t : Fin cfg0.N, win0_3.index t = ![t.val, 0] := (by decide +kernel : ∀ t : Fin grid0.N, _)
  have hN : t.val < 4 := lt_of_lt_of_eq t.isLt (show cfg0.N = 4 from N_0)
  blk_simp [iblk]
  refine congrArg _ ?_
  blk_ext [e]
  rw [row_val hN]; omega

theorem iblk_wf (t : Fin cfg0.N) : (iblk m c 4 t : Vec Ideal S512x1024 .bf16) = (V m c main_v3 : Vec Ideal S512x1024 .bf16) := by
  have e : ∀ t : Fin cfg0.N, win0_4.index t = ![0, 0] := (by decide +kernel : ∀ t : Fin grid0.N, _)
  funext y; blk_simp [iblk]; refine congrArg _ ?_; blk_ext [e]

theorem iblk_ws (t : Fin cfg0.N) : (iblk m c 5 t : Vec Ideal S512x1024 .bf16) = (V m c main_v7 : Vec Ideal S512x1024 .bf16) := by
  have e : ∀ t : Fin cfg0.N, win0_5.index t = ![0, 0] := (by decide +kernel : ∀ t : Fin grid0.N, _)
  funext y; blk_simp [iblk]; refine congrArg _ ?_; blk_ext [e]

theorem iblk_g (t : Fin cfg0.N) : (iblk m c 6 t : Vec Ideal S1x1024 .f32) = a3 m c := by
  have e : ∀ t : Fin cfg0.N, win0_6.index t = ![0, 0] := (by decide +kernel : ∀ t : Fin grid0.N, _)
  have ea : a3 m c = (V m c main_arg3 : Vec Ideal S1x1024 .f32) := (V_main_arg3 m c).symm
  rw [ea]
  funext y; blk_simp [iblk]; refine congrArg _ ?_; blk_ext [e]

theorem iblk_er (t : Fin cfg0.N) : (iblk m c 7 t : Vec Ideal S8x512 .f32) = (V m c main_cst : Vec Ideal S8x512 .f32) := by
  have e : ∀ t : Fin cfg0.N, win0_7.index t = ![0, 0] := (by decide +kernel : ∀ t : Fin grid0.N, _)
  funext y; blk_simp [iblk]; refine congrArg _ ?_; blk_ext [e]

variable (H : Are W R (a0 m c) (a1 m c) (a2 m c) (a3 m c) (a4 m c))
include H

/-- The blocks of a grid point hold its tokens' rows, the weights and the table. -/
theorem blocks (t : Fin cfg0.N) : Blocks W (fun a => R (row t.val a)) (iblk m c 0 t) (iblk m c 1 t) (iblk m c 2 t) (iblk m c 3 t) (iblk m c 4 t)
    (iblk m c 5 t) (iblk m c 6 t) (iblk m c 7 t) :=
  ⟨fun a b => (iblk_ct m c t a b).trans (H.ct _), fun a b => (iblk_mix m c t a b).trans (mix_is H _), fun a b => (iblk_f m c t a b).trans (H.f _),
    fun a j => ((iblk_s m c t a j).trans (V_s m c _ j)).trans (H.s _), fun j b => ((congrFun (iblk_wf m c t) _).trans (V_wf m c j b)).trans (H.w _),
    fun j b => ((congrFun (iblk_ws m c t) _).trans (V_ws m c j b)).trans (H.w _), fun b => (congrFun (iblk_g m c t) _).trans (H.g _),
    fun h j => (congrFun (iblk_er m c t) _).trans (V_er m c h j)⟩

/-- The four results that the points write block by block. -/
theorem rows_at (t : Fin cfg0.N) :
    (outsAt0 m c t.val t.isLt).1 = dmV (iblk m c 0 t) (iblk m c 1 t) (iblk m c 6 t)
    ∧ (outsAt0 m c t.val t.isLt).2.1 = dcV (iblk m c 0 t) (iblk m c 1 t) (iblk m c 4 t) (iblk m c 5 t) (iblk m c 6 t)
    ∧ (outsAt0 m c t.val t.isLt).2.2.1 = rfV (iblk m c 0 t) (iblk m c 1 t) (iblk m c 2 t) (iblk m c 4 t) (iblk m c 6 t) (iblk m c 7 t)
    ∧ (outsAt0 m c t.val t.isLt).2.2.2.1 = rsV (iblk m c 0 t) (iblk m c 1 t) (iblk m c 3 t) (iblk m c 5 t) (iblk m c 6 t) (iblk m c 7 t) := by
  rcases Nat.eq_zero_or_pos t.val with h | h
  · rw [outs_first m c t h]
    unfold stored
    refine ⟨?_, ?_, ?_, ?_⟩ <;> dsimp only
  · rw [outs_later m c t h]
    unfold stored
    refine ⟨?_, ?_, ?_, ?_⟩ <;> dsimp only

/-- The accumulated gradient of the norm's scale. -/
theorem scale_at : ∀ n (hn : n < cfg0.N) (a : Fin 1) (b : Fin 1024),
    (outsAt0 m c n hn).2.2.2.2 (ix2 a b) = ((upto (fun t => dg W (R t) b) n : ℝ) : EReal)
  | 0, hn, a, b => by
    rw [outs_first m c ⟨0, hn⟩ rfl]
    exact dg_is (blocks m c H ⟨0, hn⟩) a b
  | n + 1, hn, a, b => by
    have i := scale_at n (Nat.lt_of_succ_lt hn) a b
    have e := dg_is (blocks m c H ⟨n + 1, hn⟩) a b
    rw [outs_later m c ⟨n + 1, hn⟩ (Nat.succ_pos n)]
    refine (congrArg₂ (fun x y : EReal => x + y) i e).trans ?_
    exact (EReal.coe_add _ _).symm

end Arrays

/-- The gradient at the norm's input. -/
def gm (W : Wts) (R : Fin 2048 → Row) : FVec Ideal S2048x1024 .bf16 := fun i => ((dm W (R (c0 i)) (c1 i) : ℝ) : EReal)
/-- The gradient at the attentions' results. -/
def gc (W : Wts) (R : Fin 2048 → Row) : FVec Ideal S2048x1024 .bf16 := fun i => ((dcat W (R (c0 i)) (c1 i) : ℝ) : EReal)
/-- The heads' sums, of the first attention and of the second. -/
def sf (W : Wts) (R : Fin 2048 → Row) : FVec Ideal S8x2048 .f32 := fun i => ((rowF W (R (c1 i)) (c0 i) : ℝ) : EReal)
@[inherit_doc sf] def ss (W : Wts) (R : Fin 2048 → Row) : FVec Ideal S8x2048 .f32 := fun i => ((rowS W (R (c1 i)) (c0 i) : ℝ) : EReal)
/-- The gradient of the norm's scale. -/
def gg (W : Wts) (R : Fin 2048 → Row) : FVec Ideal S1x1024 .f32 := fun i => ((∑ t, dg W (R t) (c1 i) : ℝ) : EReal)

section Final
variable {W : Wts} {R : Fin 2048 → Row} (m : (ℓ : Loc nD τ sig) → Buf (Elt Ideal) ℓ) (c : Dev nD)
  (H : Are W R (a0 m c) (a1 m c) (a2 m c) (a3 m c) (a4 m c))
include H

theorem arr8 : (dats m 0 c).arrAt 8 cfg0.N = gm W R := by
  have e : ∀ t : Fin cfg0.N, win0_8.index t = ![t.val, 0] := (by decide +kernel : ∀ t : Fin grid0.N, _)
  refine (dats m 0 c).arrAt_eq_of_covers 8 _ (by decide +kernel) fun t hf y => ?_
  have hN : t.val < 4 := lt_of_lt_of_eq t.isLt (show cfg0.N = 4 from N_0)
  blk_simp
  rw [after0_8, (rows_at m c H t).1]
  obtain ⟨a, b, rfl⟩ : ∃ a b, y = ix2 a b := ⟨y 0, y 1, eq_ix2 y⟩
  refine (dm_is (blocks m c H t) a b).trans ?_
  refine (show gm W R (ix2 (row t.val a) b) = _ from congrArg (gm W R) ?_)
  blk_ext [e]
  rw [row_val hN]; omega

theorem arr9 : (dats m 0 c).arrAt 9 cfg0.N = gc W R := by
  have e : ∀ t : Fin cfg0.N, win0_9.index t = ![t.val, 0] := (by decide +kernel : ∀ t : Fin grid0.N, _)
  refine (dats m 0 c).arrAt_eq_of_covers 9 _ (by decide +kernel) fun t hf y => ?_
  have hN : t.val < 4 := lt_of_lt_of_eq t.isLt (show cfg0.N = 4 from N_0)
  blk_simp
  rw [after0_9, (rows_at m c H t).2.1]
  obtain ⟨a, b, rfl⟩ : ∃ a b, y = ix2 a b := ⟨y 0, y 1, eq_ix2 y⟩
  refine (dcat_is (blocks m c H t) a b).trans ?_
  refine (show gc W R (ix2 (row t.val a) b) = _ from congrArg (gc W R) ?_)
  blk_ext [e]
  rw [row_val hN]; omega

theorem arr10 : (dats m 0 c).arrAt 10 cfg0.N = sf W R := by
  have e : ∀ t : Fin cfg0.N, win0_10.index t = ![0, t.val] := (by decide +kernel : ∀ t : Fin grid0.N, _)
  refine (dats m 0 c).arrAt_eq_of_covers 10 _ (by decide +kernel) fun t hf y => ?_
  have hN : t.val < 4 := lt_of_lt_of_eq t.isLt (show cfg0.N = 4 from N_0)
  blk_simp
  rw [after0_10, (rows_at m c H t).2.2.1]
  obtain ⟨a, b, rfl⟩ : ∃ a b, y = ix2 a b := ⟨y 0, y 1, eq_ix2 y⟩
  refine (rowF_is (blocks m c H t) a b).trans ?_
  refine (show sf W R (ix2 a (row t.val b)) = _ from congrArg (sf W R) ?_)
  blk_ext [e]
  rw [row_val hN]; omega

theorem arr11 : (dats m 0 c).arrAt 11 cfg0.N = ss W R := by
  have e : ∀ t : Fin cfg0.N, win0_11.index t = ![0, t.val] := (by decide +kernel : ∀ t : Fin grid0.N, _)
  refine (dats m 0 c).arrAt_eq_of_covers 11 _ (by decide +kernel) fun t hf y => ?_
  have hN : t.val < 4 := lt_of_lt_of_eq t.isLt (show cfg0.N = 4 from N_0)
  blk_simp
  rw [after0_11, (rows_at m c H t).2.2.2]
  obtain ⟨a, b, rfl⟩ : ∃ a b, y = ix2 a b := ⟨y 0, y 1, eq_ix2 y⟩
  refine (rowS_is (blocks m c H t) a b).trans ?_
  refine (show ss W R (ix2 a (row t.val b)) = _ from congrArg (ss W R) ?_)
  blk_ext [e]
  rw [row_val hN]; omega

theorem arr12 (t₀ : Fin cfg0.N) (ht : t₀.val = 3) (hw : (cfg0.win 12).WholeAt t₀) : (dats m 0 c).arrAt 12 cfg0.N = gg W R := by
  have key : ∀ n (hn : n < cfg0.N), n = 3 → ∀ a b, (outsAt0 m c n hn).2.2.2.2 (ix2 a b) = ((∑ t, dg W (R t) b : ℝ) : EReal) := by
    rintro _ hn rfl a b
    rw [← upto_three]
    exact scale_at m c H 3 hn a b
  refine (dats m 0 c).arrAt_eq_of_after_last 12 t₀ hw _ fun j => ?_
  blk_simp
  rw [after0_12]
  obtain ⟨a, b, rfl⟩ : ∃ a b, j = ix2 a b := ⟨j 0, j 1, eq_ix2 j⟩
  exact key _ _ ht a b

end Final

/-- Kernel and reference compute the same gradients of finite arguments. -/
theorem algebraic : Cert.algebraic_AobIdeal_AobRefIdeal_pre_aob_finite := by
  intro m g m' g' hpre hargs
  let W : Dev nD → Wts := fun c => wtsOf (a2 m c) (a3 m c)
  let R : Dev nD → Fin 2048 → Row := fun c => rowOf (a0 m c) (a1 m c) (a4 m c)
  have H : ∀ c, Are (W c) (R c) (a0 m c) (a1 m c) (a2 m c) (a3 m c) (a4 m c) := fun c => are_of _ _ _ _ _ (hpre c)
  refine ⟨fun c => gm (W c) (R c), fun c => gc (W c) (R c), fun c => sf (W c) (R c), fun c => ss (W c) (R c), fun c => gg (W c) (R c), ?_, ?_⟩
  · refine (θ_run _ _ _).mono (fun r h c => ?_) (run_blocks m g)
    obtain ⟨h0, h1, h2, h3, h4, hr⟩ := h c
    exact ⟨h0.trans (arr8 m c (H c)), h1.trans (arr9 m c (H c)), h2.trans (arr10 m c (H c)), h3.trans (arr11 m c (H c)),
      h4.trans (arr12 m c (H c) ⟨3, by decide +kernel⟩ rfl (by decide +kernel)), hr⟩
  · refine (θ_run _ _ _).mono (fun r h c => ?_) (Cert.AobRefIdeal.Value.run m' g')
    obtain ⟨h0, h1, h2, h3, h4, hr⟩ := h c
    obtain ⟨e0, e1, e2, e3, e4⟩ := hargs c
    refine ⟨h0.trans ?_, h1.trans ?_, h2.trans ?_, h3.trans ?_, h4.trans ?_, hr⟩
    · rw [Cert.AobRefIdeal.Read.val_main_v54_eq, e0, e1, e2, e3, e4]
      exact funext fun i => Cert.AobRefIdeal.Hand.dm_is (H c) i
    · rw [Cert.AobRefIdeal.Read.val_main_v55_eq, e0, e1, e2, e3, e4]
      exact funext fun i => Cert.AobRefIdeal.Hand.dcat_is (H c) i
    · rw [Cert.AobRefIdeal.Read.val_main_v44_eq, e0, e1, e2, e3, e4]
      exact funext fun i => Cert.AobRefIdeal.Hand.rowF_is (H c) i
    · rw [Cert.AobRefIdeal.Read.val_main_v49_eq, e0, e1, e2, e3, e4]
      exact funext fun i => Cert.AobRefIdeal.Hand.rowS_is (H c) i
    · rw [Cert.AobRefIdeal.Read.val_main_v19_eq, e0, e1, e2, e4]
      exact funext fun i => Cert.AobRefIdeal.Hand.dg_is (H c) i

end Cert.AobIdeal.Hand
-- ==== Proof.SwaQuiet.lean ====
module

public import proofs.«01_k».proof.Proof.Gen.SwaIdeal.Frame
public import proofs.«01_k».proof.Proof.Gen.SwaIdeal.Skeleton

/-! # Programs that only load and store

`Quiet F O p` says that the program `p`, started with the buffers of the assertion `O`, ends with the same buffers,
whatever they then hold. Loads and stores of those buffers are quiet, and what is put together of quiet pieces is. -/

@[expose] public section

noncomputable section

namespace Cert.SwaIdeal.Hand

open Cert.SwaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Programs of a TensorCore of the call. -/
abbrev FP (F : FTy → Type) (α : Type) := Prog (TpuEff nD τ sig (Elt F) Λ₀ .tc) α

/-- Core `c` owns the memref, whatever it holds. -/
def any (c : Dev nD) {sp : Space} {s : Shape} {e : EltTy} (a : Memref sig .tc sp s e) : sProp 𝕄 :=
  iprop(∃ X, owns (c : Thread nD τ) a fullShare X)

variable (F) in
/-- The program runs from the buffers of `O` to the buffers of `O`. -/
def Quiet (O : Dev nD → sProp 𝕄) {α : Type} (p : FP F α) : Prop :=
  ∀ (c : Dev nD) (K : α → sProp 𝕄),
    iprop(O c ∗ (∀ r, O c -∗ K r)) ⊢ wp frame (wpE (defs₀ (F := F)) Variants.none c none) Set.univ p K

/-- The memref is one of the buffers of `O`. -/
def Has (O : Dev nD → sProp 𝕄) {sp : Space} {s : Shape} {e : EltTy} (a : Memref sig .tc sp s e) : Prop :=
  ∀ c : Dev nD, O c ⊢ iprop(any c a ∗ (any c a -∗ O c))

variable {O : Dev nD → sProp (MT nD τ sig Unit (Elt F) ℕ (UR sig nD τ) ℕ)}

/-- A program that does nothing. -/
theorem Quiet.pure {α : Type} (r : α) : Quiet F O (Pure.pure r : FP F α) := by
  intro c K
  show _ ⊢ wp _ _ _ (Prog.ret r) K
  rw [wp_ret]
  iintro ⟨H, Hk⟩
  imodintro
  iapply Hk; iexact H

/-- Two programs, one after the other. -/
theorem Quiet.bind {α β : Type} {p : FP F α} {k : α → FP F β} (h : Quiet F O p) (h' : ∀ r, Quiet F O (k r)) :
    Quiet F O (p >>= k) := by
  intro c K
  rw [wp_bind]
  iintro ⟨H, Hk⟩
  iapply (h c _)
  isplitl [H]
  · iexact H
  iintro %r H
  iapply (h' r c _)
  isplitl [H]
  · iexact H
  iexact Hk

/-- A load from one of the buffers. -/
theorem Quiet.load {cs : CoreSpace} {s : Shape} {e : EltTy} {a : Memref sig .tc cs s e} (ha : Has O a) (r : LoadRect s)
    (hl : a.view.LoadsAt r) : Quiet F O (Prog.lift (.load a r hl) : FP F _) := by
  intro c K
  have e : (Prog.lift (.load a r hl) : FP F _) = Prog.op (.load a r hl) Prog.ret := rfl
  rw [e]
  refine (sep_mono_left (ha c)).trans ?_
  unfold any owns
  iintro ⟨⟨⟨%X, %f, %hf, H⟩, Hback⟩, Hk⟩
  iapply (wp_load Variants.none (c : Thread nD τ) none Set.univ (S := a.view.set) (View.setOn_subset_set _ _)) $$ H
  iintro H
  rw [wp_ret]
  imodintro
  iapply Hk
  iapply Hback
  iexists X
  iexists f
  isplitr
  · ipureintro; exact hf
  iexact H

/-- A store into one of the buffers. -/
theorem Quiet.store {cs : CoreSpace} {s : Shape} {e : EltTy} {a : Memref sig .tc cs s e} (ha : Has O a) (r : Rect s)
    (w : r.shape.Idx → Elt F e) (M : Finset r.shape.Idx) (hx : (a.access r).Stores M) (hm) :
    Quiet F O (Prog.lift (.store a r w M hx hm) : FP F _) := by
  intro c K
  have e : (Prog.lift (.store a r w M hx hm) : FP F _) = Prog.op (.store a r w M hx hm) Prog.ret := rfl
  rw [e]
  refine (sep_mono_left (ha c)).trans ?_
  unfold any owns
  iintro ⟨⟨⟨%X, %f, %hf, H⟩, Hback⟩, Hk⟩
  iapply (wp_store Variants.none (c : Thread nD τ) none Set.univ (m := a) (r := r) (w := w) (Mk := M) (hx := hx) (hm := hm)
    (k := Prog.ret) (f := f) (S := a.view.set)
    ((View.setOn_subset_set _ _).trans (by rw [View.set_slice]; exact View.setOn_subset_set _ _))) $$ H
  iintro H
  rw [wp_ret]
  imodintro
  iapply Hk
  iapply Hback
  iexists (a.view.read (Elt F) ((a.access r).write (Elt F) f w M))
  iexists ((a.access r).write (Elt F) f w M)
  isplitr
  · ipureintro; rfl
  iexact H

/-- A load of one word from one of the buffers. -/
theorem Quiet.word {s : Shape} {e : EltTy} {a : Memref sig .tc .smem s e} (ha : Has O a) (r : Rect s)
    (h1 : r.shape.numel = 1) (hp : e.packing = 1) : Quiet F O (smemLoad a r h1 hp : FP F (Elt F e)) :=
  Quiet.bind (Quiet.load ha r.toLoadRect (View.loadsAt_rect (View.loads_smem_one hp h1))) fun _ => Quiet.pure _

/-- Either branch. -/
theorem Quiet.dite {α : Type} {q : Prop} [Decidable q] {p : q → FP F α} {p' : ¬q → FP F α} (h : ∀ hq, Quiet F O (p hq))
    (h' : ∀ hq, Quiet F O (p' hq)) : Quiet F O (if hq : q then p hq else p' hq) := by
  split
  · exact h _
  · exact h' _

end Cert.SwaIdeal.Hand

end
-- ==== Proof.SwaBody.lean ====
module

public import proofs.«01_k».proof.Proof.SwaQuiet

/-! # The body of the window attention's backward call is quiet

Whatever its seventeen buffers hold, the body runs to its end and leaves them, holding something, where they were. -/

@[expose] public section

noncomputable section

namespace Cert.SwaIdeal.Hand

open Cert.SwaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
variable {O : Dev nD → sProp (MT nD τ sig Unit (Elt F) ℕ (UR sig nD τ) ℕ)}

set_option maxRecDepth 65536 in
set_option maxHeartbeats 0 in
/-- The body at any point of the grid. -/
theorem quiet_body (i : grid0.Coords) (arg1 : Memref sig .tc .vmem S128x512 .bf16) (harg1 : arg1.IsWhole) (arg2 : Memref sig .tc .vmem S128x128 .bf16) (harg2 : arg2.IsWhole) (arg3 : Memref sig .tc .vmem S128x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S128x512 .bf16) (harg6 : arg6.IsWhole) (arg7 : Memref sig .tc .vmem S8x128x256 .f32) (harg7 : arg7.IsWhole) (arg8 : Memref sig .tc .smem S8 .f32) (harg8 : arg8.IsWhole) (arg9 : Memref sig .tc .vmem S128x256 .i32) (harg9 : arg9.IsWhole) (arg10 : Memref sig .tc .vmem S128x8 .f32) (harg10 : arg10.IsWhole) (arg11 : Memref sig .tc .vmem S128x8 .f32) (harg11 : arg11.IsWhole) (arg12 : Memref sig .tc .vmem S128x512 .bf16) (harg12 : arg12.IsWhole) (arg13 : Memref sig .tc .vmem S2048x128 .f32) (harg13 : arg13.IsWhole) (arg14 : Memref sig .tc .vmem S2048x128 .f32) (harg14 : arg14.IsWhole) (arg15 : Memref sig .tc .vmem S32x8 .f32) (harg15 : arg15.IsWhole) (arg16 : Memref sig .tc .vmem S1x8 .f32) (harg16 : arg16.IsWhole) (arg17 : Memref sig .tc .vmem S8x128x256 .f32) (harg17 : arg17.IsWhole)
    (o1 : Has O arg1) (o2 : Has O arg2) (o3 : Has O arg3) (o4 : Has O arg4) (o5 : Has O arg5) (o6 : Has O arg6) (o7 : Has O arg7) (o8 : Has O arg8) (o9 : Has O arg9) (o10 : Has O arg10) (o11 : Has O arg11) (o12 : Has O arg12) (o13 : Has O arg13) (o14 : Has O arg14) (o15 : Has O arg15) (o16 : Has O arg16) (o17 : Has O arg17) :
    Quiet F O (cc0_swa_bwd (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) := by
  rw [cc0_swa_bwd_eq_skeleton]
  repeat' first
    | refine Quiet.bind ?_ fun _ => ?_
    | (refine Quiet.load ?_ _ _; assumption)
    | (refine Quiet.store ?_ _ _ _ _ _; assumption)
    | (refine Quiet.word ?_ _ _ _; assumption)
    | refine Quiet.dite (fun _ => ?_) (fun _ => ?_)
    | exact Quiet.pure _

end Cert.SwaIdeal.Hand

end
-- ==== Proof.SwaFrame.lean ====
module

public import proofs.«01_k».proof.Proof.SwaBody
public import Idealize.ShloMosaic.Lib.Claim

/-! # The frame of the window attention's backward call

The program runs to its end, leaves its arguments as they were and every semaphore at zero. Nothing is said of what
the body leaves in its windows. -/

@[expose] public section

noncomputable section

namespace Cert.SwaIdeal.Hand

open Cert.SwaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every window is forgotten. -/
def forgets0 : Fin 16 → Bool := fun _ => true

/-- The proof data: each array as the region finds it, nothing named of what the body leaves, nothing owed. -/
def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

/-- The sixteen windows' buffers at point `t`, whatever they hold. -/
def wins (c : Dev nD) (t : Fin cfg0.N) : sProp 𝕄 :=
  iprop(any c (win0_0.stage (cfg0.slots t 0)) ∗ any c (win0_1.stage (cfg0.slots t 1)) ∗ any c (win0_2.stage (cfg0.slots t 2)) ∗ any c (win0_3.stage (cfg0.slots t 3)) ∗ any c (win0_4.stage (cfg0.slots t 4)) ∗ any c (win0_5.stage (cfg0.slots t 5)) ∗ any c (win0_6.stage (cfg0.slots t 6)) ∗ any c (win0_7.stage (cfg0.slots t 7)) ∗ any c (win0_8.stage (cfg0.slots t 8)) ∗ any c (win0_9.stage (cfg0.slots t 9)) ∗ any c (win0_10.stage (cfg0.slots t 10)) ∗ any c (win0_11.stage (cfg0.slots t 11)) ∗ any c (win0_12.stage (cfg0.slots t 12)) ∗ any c (win0_13.stage (cfg0.slots t 13)) ∗ any c (win0_14.stage (cfg0.slots t 14)) ∗ any c (win0_15.stage (cfg0.slots t 15)))

/-- With the accumulator. -/
def bufs (t : Fin cfg0.N) (c : Dev nD) : sProp 𝕄 :=
  iprop(wins c t ∗ any c (Memref.whole cc0_scratch0))

/-- Of a chain of buffers each is one. -/
theorem has_head {A B : Dev nD → sProp (MT nD τ sig Unit (Elt F) ℕ (UR sig nD τ) ℕ)} {sp : Space} {s : Shape} {e : EltTy}
    {a : Memref sig .tc sp s e} (h : Has A a) : Has (fun c => iprop(A c ∗ B c)) a := by
  intro c
  refine (sep_mono_left (h c)).trans ?_
  iintro ⟨⟨Ha, Hb⟩, HB⟩
  isplitl [Ha]; · iexact Ha
  iintro Ha
  isplitl [Ha Hb]
  · iapply Hb; iexact Ha
  iexact HB

theorem has_tail {A B : Dev nD → sProp (MT nD τ sig Unit (Elt F) ℕ (UR sig nD τ) ℕ)} {sp : Space} {s : Shape} {e : EltTy}
    {a : Memref sig .tc sp s e} (h : Has B a) : Has (fun c => iprop(A c ∗ B c)) a := by
  intro c
  refine (sep_mono_right (h c)).trans ?_
  iintro ⟨HA, Ha, Hb⟩
  isplitl [Ha]; · iexact Ha
  iintro Ha
  isplitl [HA]; · iexact HA
  iapply Hb; iexact Ha

theorem has_self {sp : Space} {s : Shape} {e : EltTy} (a : Memref sig .tc sp s e) :
    Has (F := F) (fun c => any c a) a := by
  intro c
  iintro H
  isplitl [H]; · iexact H
  iintro H
  iexact H

/-- The body at point `t` runs from its buffers to its buffers. -/
theorem quiet_at (t : Fin cfg0.N) : Quiet F (bufs t) (bodyAt0 t) := by
  unfold bodyAt0
  apply quiet_body
  all_goals first
    | exact has_tail (has_self _)
    | (refine has_head ?_; unfold wins; repeat' first | exact has_self _ | exact has_head (has_self _) | refine has_tail ?_)

/-- What the body is called with at point `t`, and what it returns. -/
def bodyPre (c : Dev nD) (t : Fin cfg0.N) : sProp 𝕄 :=
  iprop((dats m 0 c).Φ t.castSucc ∗ (dats m 0 c).owesAt () t.castSucc ∗ wins c t)
def bodyPost (c : Dev nD) (t : Fin cfg0.N) : sProp 𝕄 :=
  iprop((dats m 0 c).Φ t.succ ∗ (dats m 0 c).owesAt () t.succ ∗ wins c t)

/-- The accumulator's buffer, whatever it holds, as the memref of the whole buffer. -/
theorem acc_any (c : Dev nD) :
    iprop(∃ f : Buf (Elt F) ((c : Thread nD τ).loc cc0_scratch0), ((c : Thread nD τ).loc cc0_scratch0) ↦{fullShare} f)
      ⊢ (any c (Memref.whole cc0_scratch0) : sProp 𝕄) := by
  unfold any owns
  iintro ⟨%f, H⟩
  iexists f
  iexists f
  isplitr
  · ipureintro; rfl
  rw [show (Memref.whole cc0_scratch0).view.set = Finset.univ from View.set_whole _]
  iexact H

theorem any_acc (c : Dev nD) :
    (any c (Memref.whole cc0_scratch0) : sProp 𝕄)
      ⊢ iprop(∃ f : Buf (Elt F) ((c : Thread nD τ).loc cc0_scratch0), ((c : Thread nD τ).loc cc0_scratch0) ↦{fullShare} f) := by
  unfold any owns
  iintro ⟨%X, %f, %hf, H⟩
  iexists f
  rw [show (Memref.whole cc0_scratch0).view.set = Finset.univ from View.set_whole _]
  iexact H

/-- The body's triple. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl]
  unfold Pipeline.ΦA
  rw [scopedRest0_eq]
  generalize (dats m 0 c).owesAt () t.castSucc = O
  iintro ⟨⟨Hs, Hr⟩, HO, HW⟩
  ihave Hs := (acc_any c) $$ Hs
  iapply (quiet_at t c _)
  unfold bufs
  isplitl [HW Hs]
  · isplitl [HW]; · iexact HW
    iexact Hs
  iintro %r ⟨HW, Hs⟩
  ihave Hs := (any_acc c) $$ Hs
  isplitl [Hs Hr]
  · isplitl [Hs]; · iexact Hs
    iexact Hr
  isplitl [HO]; · iexact HO
  iexact HW

theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- The run: every buffer that is no window's array ends at what the host lines before the call left in it. -/
theorem run_main : θ_run defs (onTc (τ := τ) (main (F := F))) (s₀ m ρ)
    (fun r => Pipeline.RDat.FramePost (cfgs 0) (fun c => (dats m 0 c).toRForget forgets0) (V m) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl) (howed := fun _ _ => rfl) (V := V m)
    (hmain := hmain m Variants.none) (hA := A_eq m) (hΦ := fun _ _ => rfl)

variable {m} in
/-- A buffer that no window stages and no host line writes ends as it was. -/
theorem kept {r : PUnit × MemSt nD τ sig (Elt F)}
    (h : Pipeline.RDat.FramePost (cfgs 0) (fun c => (dats (F := F) m 0 c).toRForget forgets0) (V m) r) (c : Dev nD)
    (b : Ref sig .tc) (hb : b ∈ Pipeline.restRefs sig spec0) (hV : V m c b = m ((c : Thread nD τ).loc b)) :
    r.2.mem ((c : Thread nD τ).loc b) = m ((c : Thread nD τ).loc b) :=
  ((h c).2 b hb).trans hV

/-- The frame: the arguments end as they were, every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨kept h.1 c main_arg0 (Pipeline.mem_restRefs_of main_arg0 (by decide) (by decide)) (V_main_arg0 m c),
    kept h.1 c main_arg1 (Pipeline.mem_restRefs_of main_arg1 (by decide) (by decide)) (V_main_arg1 m c),
    kept h.1 c main_arg2 (Pipeline.mem_restRefs_of main_arg2 (by decide) (by decide)) (V_main_arg2 m c),
    kept h.1 c main_arg3 (Pipeline.mem_restRefs_of main_arg3 (by decide) (by decide)) (V_main_arg3 m c),
    kept h.1 c main_arg4 (Pipeline.mem_restRefs_of main_arg4 (by decide) (by decide)) (V_main_arg4 m c),
    kept h.1 c main_arg5 (Pipeline.mem_restRefs_of main_arg5 (by decide) (by decide)) (V_main_arg5 m c)⟩, h.2⟩)
    (run_main m ρ)

end Cert.SwaIdeal.Hand

end
-- ==== Proof.SwaBits.lean ====
module

public import proofs.«01_k».proof.Defs
public import proofs.«01_k».proof.Proof.SwaFrame
public import proofs.«01_k».proof.Proof.Gen.Swa
public import Idealize.ShloMosaic.Lib.Claim

/-! # The frame of the window attention's backward call over words

Both programs have the same text, so the run over any float values gives both frames. -/

@[expose] public section

noncomputable section

namespace Cert.SwaIdeal.Hand

open Idealize.ShloMosaic Idealize.ShloMosaic.TcCoe Idealize.SL.Sem Idealize.ShloMosaic.Tactic

set_option maxRecDepth 65536 in
/-- The program over words is the ideal program's text. -/
theorem main_bits : (Cert.Swa.main (F := Bits)) = (Cert.SwaIdeal.main (F := Bits)) := by sl_kernel_rfl
set_option maxRecDepth 65536 in
theorem defs_bits : (Cert.Swa.defs (F := Bits)) = (Cert.SwaIdeal.defs (F := Bits)) := by sl_kernel_rfl

/-- The frame of the program over words. -/
theorem frame_bits : Cert.quiescent_Swa := fun m g _ => by
  have h := frame (F := Bits) m g
  rw [← defs_bits, ← main_bits] at h
  exact h

end Cert.SwaIdeal.Hand
-- ==== Proof.PabOut.lean ====
module

public import proofs.«01_k».proof.Proof.Gen.PabIdeal.Frame
public import Idealize.ShloMosaic.Lib.Pointwise
public import Idealize.ShloMosaic.Lib.Pipeline.ValueKit

/-! # What one grid point of `_pre_attn_bwd` leaves in its results' buffers

The gradient at the rows is written whole; the scale's gradient is added to what the point before left. -/

@[expose] public section

set_option maxRecDepth 16384

noncomputable section

namespace Cert.PabIdeal.Hand

open Idealize.ShloMosaic Idealize.ShloMosaic.TcCoe Idealize.ShloMosaic.Tactic Cert.PabIdeal Cert.PabIdeal.Gen

variable {F : FTy → Type} [FloatOps F]

theorem hz : (![0, 0] : Fin 2 → Nat) = fun _ => 0 := funext fun a => by match a with | ⟨0, _⟩ => rfl | ⟨1, _⟩ => rfl

section
variable (x0 x1 : Vec F S512x1024 .f32) (x2 : Vec F S512x512 .f32) (x3 x4 x5 : Vec F S512x512 .bf16) (x6 x7 : Vec F S512x128 .f32)
  (x8 : Vec F S16x512 .f32) (x9 : Vec F S1536x1024 .bf16) (x10 : Vec F S784x1024 .bf16) (x11 : Vec F S1x1024 .f32)

/-- The packed weight's rows for the second attention, and those for the gates. -/
def wrV : Vec F S768x1024 .bf16 := View.ld x10 (Rect.unit (s := S784x1024) ![16, 0] S768x1024.size inb_S784x1024_S768x1024_16_0)
@[inherit_doc wrV] def wgV : Vec F S16x1024 .bf16 := View.ld x10 (Rect.unit (s := S784x1024) ![0, 0] S16x1024.size inb_S784x1024_S16x1024_0_0)
/-- The gradient at the product's input. -/
def daV : Vec F S512x1024 .f32 := k0_pay6 x2 x3 x4 x5 x6 x7 x9 (wrV x10) x8 (wgV x10)
/-- The gradient at the rows. -/
def dxV : Vec F S512x1024 .f32 := k0_pay5 (daV x2 x3 x4 x5 x6 x7 x8 x9 x10) x0 (k0_pay7 x0) x11 x1
/-- Its rows' part of the scale's gradient. -/
def dgV : Vec F S1x1024 .f32 := k0_pay3 (daV x2 x3 x4 x5 x6 x7 x8 x9 x10) x0 (k0_pay7 x0)
end

variable (m : (ℓ : Loc nD τ sig) → Buf (Elt F) ℓ) (c : Dev nD)

/-- The two results' stored values of the point `t`, of its windows' blocks. -/
def stored (t : Fin cfg0.N) : Vec F S512x1024 .f32 × Vec F S1x1024 .f32 :=
  (dxV (iblk m c 0 t) (iblk m c 1 t) (iblk m c 2 t) (iblk m c 3 t) (iblk m c 4 t) (iblk m c 5 t) (iblk m c 6 t) (iblk m c 7 t) (iblk m c 8 t)
    (X0_9 m c t) (iblk m c 10 t) (iblk m c 11 t),
   dgV (iblk m c 0 t) (iblk m c 2 t) (iblk m c 3 t) (iblk m c 4 t) (iblk m c 5 t) (iblk m c 6 t) (iblk m c 7 t) (iblk m c 8 t) (X0_9 m c t)
    (iblk m c 10 t))

set_option maxHeartbeats 8000000 in
theorem outs_first (t : Fin cfg0.N) (h : t.val = 0) : outsAt0 m c t.val t.isLt = stored m c t := by
  rw [outsAt0_A m c t (by omega) (by omega)]
  unfold out0_A_12 out0_A_13
  rw [View.read_writes_eq_canon _ _ _ fun y => cover0_A_12 .., View.read_writes_eq_canon _ _ _ fun y => cover0_A_13 ..]
  unfold kernelRun0_A
  dsimp only
  sl_unfold_words
  rw [View.canon_unit_zero hz, View.canon_unit_zero hz]
  simp only [View.readAt_eq_ld, (hs0_0 t).read_unread, (hs0_1 t).read_unread, (hs0_2 t).read_unread, (hs0_3 t).read_unread, (hs0_4 t).read_unread,
    (hs0_5 t).read_unread, (hs0_6 t).read_unread, (hs0_7 t).read_unread, (hs0_8 t).read_unread, (hs0_9 t).read_unread, (hs0_10 t).read_unread,
    (hs0_11 t).read_unread, View.ld_unit_zero (S := S512x1024) hz, View.ld_unit_zero (S := S1x1024) hz,
    View.ld_unit_zero (S := S512x512) hz, View.ld_unit_zero (S := S512x128) hz, View.ld_unit_zero (S := S16x512) hz,
    View.ld_unit_zero (S := S1536x1024) hz]
  rfl

set_option maxHeartbeats 8000000 in
theorem outs_later (t : Fin cfg0.N) (h : 1 ≤ t.val) :
    outsAt0 m c t.val t.isLt = ((stored m c t).1,
      addf (outsAt0 m c (t.val - 1) (Nat.lt_of_le_of_lt (Nat.sub_le _ _) t.isLt)).2 (stored m c t).2) := by
  have hN : t.val < 4 := lt_of_lt_of_eq t.isLt (show cfg0.N = 4 from N_0)
  rw [outsAt0_B m c t (by omega) (by omega)]
  generalize outsAt0 m c (t.val - 1) _ = o
  unfold out0_B_12 out0_B_13
  rw [View.read_writes_eq_canon _ _ _ fun y => cover0_B_12 .., View.read_writes_eq_canon _ _ _ fun y => cover0_B_13 ..]
  unfold kernelRun0_B
  dsimp only
  sl_unfold_words
  rw [View.canon_unit_zero hz, View.canon_unit_zero hz]
  simp only [View.readAt_eq_ld, (hs0_0 t).read_unread, (hs0_1 t).read_unread, (hs0_2 t).read_unread, (hs0_3 t).read_unread, (hs0_4 t).read_unread,
    (hs0_5 t).read_unread, (hs0_6 t).read_unread, (hs0_7 t).read_unread, (hs0_8 t).read_unread, (hs0_9 t).read_unread, (hs0_10 t).read_unread,
    (hs0_11 t).read_unread, (hs0_13 t).read_unread, View.ld_unit_zero (S := S512x1024) hz, View.ld_unit_zero (S := S1x1024) hz,
    View.ld_unit_zero (S := S512x512) hz, View.ld_unit_zero (S := S512x128) hz, View.ld_unit_zero (S := S16x512) hz,
    View.ld_unit_zero (S := S1536x1024) hz, k0_pay4, shapeCast_self]
  rfl

end Cert.PabIdeal.Hand

end
-- ==== Proof.PabMath.lean ====
module

public import proofs.«01_k».proof.Proof.AobMath

/-! # The norm before the attentions, of one token, in real numbers

A norm and the product that all the attentions' arguments come from: the gradients at the norm's input and at its scale, from the gradient at
the product. -/

@[expose] public section

noncomputable section

namespace Cert.PabMath

open Cert.Rms
open Cert.AobMath (slot)

/-- The weight and the norm's scale. -/
structure Wts where
  w : Fin 1024 → Fin 2312 → ℝ
  g : Fin 1024 → ℝ

/-- A token's row, the gradient that its sum gets from elsewhere, and the gradient at the product's columns. -/
structure Row where
  x : Fin 1024 → ℝ
  dh : Fin 1024 → ℝ
  dz : Fin 2312 → ℝ

variable (W : Wts) (R : Row)

/-- The gradient at the product's input. -/
def da (b : Fin 1024) : ℝ := ∑ j, R.dz j * W.w b j
/-- The gradient at the row. -/
def dx (b : Fin 1024) : ℝ := R.dh b + bwd R.x (fun l => da W R l * W.g l) b
/-- The token's part of the scale's gradient. -/
def dg (b : Fin 1024) : ℝ := da W R b * nrm R.x b

/-- The columns of the forgetting attention. -/
def fox (j : Fin 1536) : Fin 2312 := ⟨j.val, by omega⟩
/-- The gates' columns. -/
def gate (h : Fin 8) : Fin 2312 := ⟨1536 + h.val, by omega⟩
/-- The order in which the other attention's columns stand: its queries' heads take turns. -/
def turn (j : Fin 768) : Fin 768 := if h : j.val < 512 then ⟨(slot ⟨j.val, h⟩).val, by omega⟩ else j
/-- Its columns in that order. -/
def rest (j : Fin 768) : Fin 2312 := ⟨1544 + (turn j).val, by omega⟩

theorem slot_injective : Function.Injective slot := by
  have e : ∀ j : Fin 512, (⟨((slot j).val / 64 % 4 * 2 + (slot j).val / 256) * 64 + (slot j).val % 64, by omega⟩ : Fin 512) = j := by
    decide +kernel
  intro i j h
  rw [← e i, ← e j]
  simp only [h]

theorem turn_bijective : Function.Bijective turn := by
  refine Finite.injective_iff_bijective.1 fun i j h => ?_
  have hv := congrArg Fin.val h
  unfold turn at hv
  split at hv <;> split at hv
  · exact Fin.ext (congrArg (fun k : Fin 512 => k.val) (slot_injective (Fin.ext hv)))
  · have := (slot ⟨i.val, by assumption⟩).isLt
    dsimp only at hv
    omega
  · have := (slot ⟨j.val, by assumption⟩).isLt
    dsimp only at hv
    omega
  · exact Fin.ext hv

/-- A sum over all columns: the forgetting attention's, the other attention's in their order, and the gates' among sixteen. -/
theorem parts (f : Fin 2312 → ℝ) :
    ∑ j, f j = ∑ j, f (fox j) + ∑ j, f (rest j) + ∑ h : Fin 16, if k : h.val < 8 then f (gate ⟨h.val, k⟩) else 0 := by
  have e1 : ∑ j, f j = ∑ j : Fin 1536, f (fox j) + ∑ j : Fin 776, f ⟨1536 + j.val, by omega⟩ := Fin.sum_univ_add (a := 1536) (b := 776) f
  have e2 : ∑ j : Fin 776, f ⟨1536 + j.val, by omega⟩
      = ∑ j : Fin 8, f (gate j) + ∑ j : Fin 768, f ⟨1536 + (8 + j.val), by omega⟩ :=
    Fin.sum_univ_add (a := 8) (b := 768) (fun j : Fin (8 + 768) => f ⟨1536 + j.val, by omega⟩)
  have e3 : ∑ j, f (rest j) = ∑ j : Fin 768, f ⟨1536 + (8 + j.val), by omega⟩ :=
    Fintype.sum_bijective turn turn_bijective _ _ fun j => congrArg f (Fin.ext (by show 1544 + (turn j).val = 1536 + (8 + (turn j).val); omega))
  have e4 : (∑ h : Fin 16, if k : h.val < 8 then f (gate ⟨h.val, k⟩) else 0) = ∑ h : Fin 8, f (gate h) := by
    refine (Fin.sum_univ_add (a := 8) (b := 8) (fun h : Fin (8 + 8) => if k : h.val < 8 then f (gate ⟨h.val, k⟩) else 0)).trans ?_
    simp
  rw [e1, e2, e3, e4]
  ring

end Cert.PabMath

end
-- ==== Proof.PabKernel.lean ====
module

public import proofs.«01_k».proof.Proof.PabOut
public import proofs.«01_k».proof.Proof.PabMath

/-! # What one block of `_pre_attn_bwd` computes of real numbers -/

@[expose] public section

set_option maxRecDepth 16384

noncomputable section

namespace Cert.PabIdeal.Hand

open Idealize.ShloMosaic Cert.PabIdeal Cert.PabIdeal.Gen
open Cert.Rms Cert.PabMath
open Cert.AobMath (slot)

/-- The blocks hold real numbers: row `a` of the row blocks belongs to `R a`, and the resident blocks are `W`'s. -/
structure Blocks (W : Wts) (R : Fin 512 → Row) (x0 x1 : FVec Ideal S512x1024 .f32) (x2 : FVec Ideal S512x512 .f32)
    (x3 x4 x5 : FVec Ideal S512x512 .bf16) (x6 x7 : FVec Ideal S512x128 .f32) (x8 : FVec Ideal S16x512 .f32) (x9 : FVec Ideal S1536x1024 .bf16)
    (x10 : FVec Ideal S784x1024 .bf16) (x11 : FVec Ideal S1x1024 .f32) : Prop where
  x : ∀ a b, x0 (ix2 a b) = (((R a).x b : ℝ) : EReal)
  dh : ∀ a b, x1 (ix2 a b) = (((R a).dh b : ℝ) : EReal)
  q : ∀ a (j : Fin 512), x2 (ix2 a j) = (((R a).dz ⟨j.val, by omega⟩ : ℝ) : EReal)
  k : ∀ a (j : Fin 512), x3 (ix2 a j) = (((R a).dz ⟨512 + j.val, by omega⟩ : ℝ) : EReal)
  v : ∀ a (j : Fin 512), x4 (ix2 a j) = (((R a).dz ⟨1024 + j.val, by omega⟩ : ℝ) : EReal)
  sq : ∀ a (j : Fin 512), x5 (ix2 a j) = (((R a).dz ⟨1544 + (slot j).val, by omega⟩ : ℝ) : EReal)
  sk : ∀ a (j : Fin 128), x6 (ix2 a j) = (((R a).dz ⟨2056 + j.val, by omega⟩ : ℝ) : EReal)
  sv : ∀ a (j : Fin 128), x7 (ix2 a j) = (((R a).dz ⟨2184 + j.val, by omega⟩ : ℝ) : EReal)
  ff : ∀ (h : Fin 16) a, x8 (ix2 h a) = (((if k : h.val < 8 then (R a).dz (gate ⟨h.val, k⟩) else 0) : ℝ) : EReal)
  wf : ∀ j b, x9 (ix2 j b) = ((W.w b (fox j) : ℝ) : EReal)
  wg : ∀ (h : Fin 16) b, x10 (ix2 ⟨h.val, by omega⟩ b) = (((if k : h.val < 8 then W.w b (gate ⟨h.val, k⟩) else 0) : ℝ) : EReal)
  wr : ∀ (j : Fin 768) b, x10 (ix2 ⟨16 + j.val, by omega⟩ b) = ((W.w b (rest j) : ℝ) : EReal)
  g : ∀ b, x11 (ix2 0 b) = ((W.g b : ℝ) : EReal)

theorem n_ne : (1024 : ℝ) ≠ 0 := by norm_num

variable {W : Wts} {R : Fin 512 → Row} {x0 x1 : FVec Ideal S512x1024 .f32} {x2 : FVec Ideal S512x512 .f32}
    {x3 x4 x5 : FVec Ideal S512x512 .bf16} {x6 x7 : FVec Ideal S512x128 .f32} {x8 : FVec Ideal S16x512 .f32} {x9 : FVec Ideal S1536x1024 .bf16}
    {x10 : FVec Ideal S784x1024 .bf16} {x11 : FVec Ideal S1x1024 .f32}

section Norm
variable {r : Fin 512 → Fin 1024 → ℝ} {x : FVec Ideal S512x1024 .f32} (hx : ∀ a b, x (ix2 a b) = ((r a b : ℝ) : EReal))
include hx

theorem inv_at (a : Fin 512) (b : Fin 1) : k0_pay1 (F := Ideal) (k0_pay7 (F := Ideal) x) (ix2 a b) = ((inv (r a) : ℝ) : EReal) := by
  unfold k0_pay1 k0_pay7
  pointwise
  rw [eps_bits, n_bits]
  simp only [hx, ← EReal.coe_mul, ← coe_sum, div_real _ n_ne, ← EReal.coe_add]
  exact rsqrt_ms (r a)

theorem nrm_at (a : Fin 512) (b : Fin 1024) : k0_pay2 (F := Ideal) x (k0_pay7 (F := Ideal) x) (ix2 a b) = ((nrm (r a) b : ℝ) : EReal) := by
  have e := inv_at hx a
  unfold k0_pay2 nrm
  generalize k0_pay1 (F := Ideal) (k0_pay7 (F := Ideal) x) = z at e
  pointwise
  rw [e, hx, EReal.coe_mul]
end Norm

theorem wr_is (H : Blocks W R x0 x1 x2 x3 x4 x5 x6 x7 x8 x9 x10 x11) (j : Fin 768) (b : Fin 1024) :
    wrV (F := Ideal) x10 (ix2 j b) = ((W.w b (rest j) : ℝ) : EReal) := by
  refine Eq.trans (b := x10 (ix2 (⟨16 + j.val, by omega⟩ : Fin 784) b)) (View.ld_unit_apply_of (Val := Elt Ideal) (e := .bf16) (S := S784x1024) x10 ![16, 0] S768x1024.size inb_S784x1024_S768x1024_16_0 (ix2 j b) (ix2 (⟨16 + j.val, by omega⟩ : Fin 784) b) fun a => ?_) (H.wr j b)
  match a with
  | ⟨0, _⟩ => rfl
  | ⟨1, _⟩ => exact (Nat.zero_add _).symm

theorem wg_is (H : Blocks W R x0 x1 x2 x3 x4 x5 x6 x7 x8 x9 x10 x11) (h : Fin 16) (b : Fin 1024) :
    wgV (F := Ideal) x10 (ix2 h b) = (((if k : h.val < 8 then W.w b (gate ⟨h.val, k⟩) else 0) : ℝ) : EReal) := by
  refine Eq.trans (b := x10 (ix2 (⟨h.val, by omega⟩ : Fin 784) b)) (View.ld_unit_apply_of (Val := Elt Ideal) (e := .bf16) (S := S784x1024) x10 ![0, 0] S16x1024.size inb_S784x1024_S16x1024_0_0 (ix2 h b) (ix2 (⟨h.val, by omega⟩ : Fin 784) b) fun a => ?_) (H.wg h b)
  match a with
  | ⟨0, _⟩ => exact (Nat.zero_add _).symm
  | ⟨1, _⟩ => exact (Nat.zero_add _).symm

/-- The gradient at the product's input: three products, of the columns' three parts. -/
theorem da_is (H : Blocks W R x0 x1 x2 x3 x4 x5 x6 x7 x8 x9 x10 x11) (a : Fin 512) (b : Fin 1024) :
    daV (F := Ideal) x2 x3 x4 x5 x6 x7 x8 x9 x10 (ix2 a b) = ((da W (R a) b : ℝ) : EReal) := by
  have er := wr_is H
  have eg := wg_is H
  have e1 : ∀ j : Fin 1536, (if h : j.val < 512 then x2 (ix2 a ⟨j.val, h⟩)
      else if h' : j.val - 512 < 512 then x3 (ix2 a ⟨j.val - 512, h'⟩) else x4 (ix2 a ⟨j.val - 512 - 512, by omega⟩) : EReal)
      = (((R a).dz (fox j) : ℝ) : EReal) := fun j => by
    have hj := j.isLt
    split
    · exact H.q a _
    split
    · refine (H.k a _).trans (congrArg (fun i => (((R a).dz i : ℝ) : EReal)) (Fin.ext ?_))
      show 512 + (j.val - 512) = j.val
      omega
    · refine (H.v a _).trans (congrArg (fun i => (((R a).dz i : ℝ) : EReal)) (Fin.ext ?_))
      show 1024 + (j.val - 512 - 512) = j.val
      omega
  have e2 : ∀ j : Fin 768, (if h : j.val < 512 then x5 (ix2 a ⟨j.val, h⟩)
      else if h' : j.val - 512 < 128 then x6 (ix2 a ⟨j.val - 512, h'⟩) else x7 (ix2 a ⟨j.val - 512 - 128, by omega⟩) : EReal)
      = (((R a).dz (rest j) : ℝ) : EReal) := fun j => by
    have hj := j.isLt
    unfold rest turn
    split
    · exact H.sq a _
    split
    · refine (H.sk a _).trans (congrArg (fun i => (((R a).dz i : ℝ) : EReal)) (Fin.ext ?_))
      show 2056 + (j.val - 512) = 1544 + j.val
      omega
    · refine (H.sv a _).trans (congrArg (fun i => (((R a).dz i : ℝ) : EReal)) (Fin.ext ?_))
      show 2184 + (j.val - 512 - 128) = 1544 + j.val
      omega
  unfold daV k0_pay6
  simp only [shapeCast_self]
  generalize wrV (F := Ideal) x10 = y1 at er
  generalize wgV (F := Ideal) x10 = y2 at eg
  pointwise
  simp only [e1, e2, er, eg, H.wf, H.ff, ← EReal.coe_mul, ← coe_sum, ← EReal.coe_add]
  have e3 : ∀ h : Fin 16, (if k : h.val < 8 then (R a).dz (gate ⟨h.val, k⟩) else 0) * (if k : h.val < 8 then W.w b (gate ⟨h.val, k⟩) else 0)
      = if k : h.val < 8 then (R a).dz (gate ⟨h.val, k⟩) * W.w b (gate ⟨h.val, k⟩) else 0 := fun h => by
    split
    · rfl
    · exact mul_zero 0
  simp only [e3]
  unfold da
  rw [parts]

theorem dg_is (H : Blocks W R x0 x1 x2 x3 x4 x5 x6 x7 x8 x9 x10 x11) (a : Fin 1) (b : Fin 1024) :
    dgV (F := Ideal) x0 x2 x3 x4 x5 x6 x7 x8 x9 x10 (ix2 a b) = ((∑ r, dg W (R r) b : ℝ) : EReal) := by
  have e := fun a => nrm_at H.x a b
  have e' := fun a => da_is H a b
  unfold dgV k0_pay3 dg
  generalize k0_pay2 (F := Ideal) x0 (k0_pay7 (F := Ideal) x0) = z at e
  generalize daV (F := Ideal) x2 x3 x4 x5 x6 x7 x8 x9 x10 = z' at e'
  pointwise
  simp only [e, e', ← EReal.coe_mul, ← coe_sum]

theorem dx_is (H : Blocks W R x0 x1 x2 x3 x4 x5 x6 x7 x8 x9 x10 x11) (a : Fin 512) (b : Fin 1024) :
    dxV (F := Ideal) x0 x1 x2 x3 x4 x5 x6 x7 x8 x9 x10 x11 (ix2 a b) = ((dx W (R a) b : ℝ) : EReal) := by
  have e := nrm_at H.x a
  have e' := inv_at H.x a
  have e'' := da_is H a
  unfold dxV k0_pay5 dx bwd
  generalize k0_pay2 (F := Ideal) x0 (k0_pay7 (F := Ideal) x0) = z at e
  generalize k0_pay1 (F := Ideal) (k0_pay7 (F := Ideal) x0) = z' at e'
  generalize daV (F := Ideal) x2 x3 x4 x5 x6 x7 x8 x9 x10 = z'' at e''
  pointwise
  rw [n_bits]
  simp only [e, e', e'', H.dh, H.g, ← EReal.coe_mul, ← coe_sum, div_real _ n_ne, ← EReal.coe_sub, ← EReal.coe_add]

end Cert.PabIdeal.Hand

end
-- ==== Proof.PabRef.lean ====
module

public import proofs.«01_k».proof.Proof.PabMath
public import proofs.«01_k».proof.Proof.PleRef
public import proofs.«01_k».proof.Proof.Gen.PabRefIdeal.Read

/-! # What the reference of the norm before the attentions computes

At real arguments every array of the reference's derivative is real: row `t` of each is a function of the token's row. -/

@[expose] public section

noncomputable section

namespace Cert.PabRefIdeal.Hand

open Idealize.ShloMosaic Cert.PabRefIdeal Cert.PabRefIdeal.Gen Cert.PabRefIdeal.Read
open Cert.Rms Cert.PabMath
open Cert.PleRefIdeal.Hand (c0 c1 zeroF negHalfF nF epsF n_ne)

/-- The arguments' types. -/
abbrev Mat : Type := (⟨S2048x1024, .f32⟩ : BufTy).Contents (Elt Ideal)
@[inherit_doc Mat] abbrev Cot : Type := (⟨S2048x2312, .f32⟩ : BufTy).Contents (Elt Ideal)
@[inherit_doc Mat] abbrev Wt : Type := (⟨S1024x2312, .f32⟩ : BufTy).Contents (Elt Ideal)
@[inherit_doc Mat] abbrev Sc : Type := (⟨S1x1024, .f32⟩ : BufTy).Contents (Elt Ideal)

/-- Arrays that hold real numbers: token `t`'s rows are `R t`. -/
structure Are (W : Wts) (R : Fin 2048 → Row) (x0 x1 : Mat) (x2 : Cot) (x3 : Wt) (x4 : Sc) : Prop where
  x : ∀ i, x0 i = (((R (c0 i)).x (c1 i) : ℝ) : EReal)
  dh : ∀ i, x1 i = (((R (c0 i)).dh (c1 i) : ℝ) : EReal)
  dz : ∀ i, x2 i = (((R (c0 i)).dz (c1 i) : ℝ) : EReal)
  w : ∀ i, x3 i = ((W.w (c0 i) (c1 i) : ℝ) : EReal)
  g : ∀ i, x4 i = ((W.g (c1 i) : ℝ) : EReal)

variable {W : Wts} {R : Fin 2048 → Row} {x0 x1 : Mat} {x2 : Cot} {x3 : Wt} {x4 : Sc}

theorem ms_is (H : Are W R x0 x1 x2 x3 x4) (i : S2048x1.Idx) : val_main_v6 (F := Ideal) x0 i = ((ms (R (c0 i)).x : ℝ) : EReal) := by
  rw [val_main_v6_apply, val_main_v5_apply, val_main_cst_1_apply, epsF, val_main_v4_apply, val_main_v3_apply, val_main_cst_0_apply, nF,
    val_main_v2_apply, val_main_v1_apply, val_main_cst_apply, zeroF, zero_add]
  simp only [val_main_v0_apply, H.x, Ideal.mulf_def, Ideal.addf_def, Ideal.hostDivf_def]
  simp only [← EReal.coe_mul, ← coe_sum]
  rw [div_real _ n_ne, ← EReal.coe_add]
  rfl

theorem inv_is (H : Are W R x0 x1 x2 x3 x4) (i : S2048x1.Idx) : val_main_v7 (F := Ideal) x0 i = ((inv (R (c0 i)).x : ℝ) : EReal) := by
  rw [val_main_v7_apply, ms_is H]
  exact rsqrt_ms _

theorem nrm_is (H : Are W R x0 x1 x2 x3 x4) (i : S2048x1024.Idx) :
    val_main_v12 (F := Ideal) x0 i = ((nrm (R (c0 i)).x (c1 i) : ℝ) : EReal) := by
  rw [val_main_v12_apply, H.x, val_main_v11_apply, inv_is H]
  exact (EReal.coe_mul _ _).symm

/-- The gradient at the product's input. -/
theorem da_is (H : Are W R x0 x1 x2 x3 x4) (i : S2048x1024.Idx) :
    val_main_v16 (F := Ideal) x2 x3 i = ((da W (R (c0 i)) (c1 i) : ℝ) : EReal) := by
  rw [val_main_v16_apply]
  unfold da
  rw [coe_sum]
  refine Finset.sum_congr rfl fun k _ => ?_
  rw [H.dz, H.w, EReal.coe_mul]; rfl

/-- The gradient of the norm's scale. -/
theorem dg_is (H : Are W R x0 x1 x2 x3 x4) (i : S1x1024.Idx) :
    val_main_v19 (F := Ideal) x0 x2 x3 i = ((∑ t, dg W (R t) (c1 i) : ℝ) : EReal) := by
  have h0 : (i 0).val < 1 := (i 0).isLt
  rw [val_main_v19_apply, val_main_v18_apply, val_main_cst_3_apply, zeroF, zero_add, coe_sum]
  refine Finset.sum_congr rfl fun t _ => ?_
  rw [val_main_v17_apply, nrm_is H, da_is H]
  have e : c1 (idx_main_v18 (idx_main_v19 i) t) = c1 i := Fin.ext (by show (i 0).val * 1024 + (i 1).val = (i 1).val; omega)
  rw [e]
  exact (EReal.coe_mul _ _).symm.trans (congrArg _ (mul_comm _ _))

theorem dag_is (H : Are W R x0 x1 x2 x3 x4) (i : S2048x1024.Idx) :
    val_main_v21 (F := Ideal) x2 x3 x4 i = ((da W (R (c0 i)) (c1 i) * W.g (c1 i) : ℝ) : EReal) := by
  rw [val_main_v21_apply, da_is H, val_main_v20_apply, H.g]
  exact (EReal.coe_mul _ _).symm

/-- The derivative through the norm's mean square, one number for each row. -/
theorem mid_is (H : Are W R x0 x1 x2 x3 x4) (i : S2048x1024.Idx) :
    val_main_v31 (F := Ideal) x0 x2 x3 x4 i
      = (((∑ l, (R (c0 i)).x l * (da W (R (c0 i)) l * W.g l)) * (-1 / 2 * (inv (R (c0 i)).x / ms (R (c0 i)).x)) / 1024 : ℝ) : EReal) := by
  have e : ∀ j : S2048x1.Idx, val_main_v24 (F := Ideal) x0 x2 x3 x4 j
      = ((∑ l, (R (c0 j)).x l * (da W (R (c0 j)) l * W.g l) : ℝ) : EReal) := fun j => by
    have h1 : (j 1).val < 1 := (j 1).isLt
    rw [val_main_v24_apply, val_main_v23_apply, val_main_cst_4_apply, zeroF, zero_add, coe_sum]
    refine Finset.sum_congr rfl fun l _ => ?_
    rw [val_main_v22_apply, H.x, dag_is H, Ideal.mulf_def, ← EReal.coe_mul]
    have e0 : c0 (idx_main_v23 (idx_main_v24 j) l) = c0 j := Fin.ext (by show (j 0).val * 1 + (j 1).val = (j 0).val; omega)
    rw [e0]
    rfl
  rw [val_main_v31_apply, val_main_v30_apply, val_main_cst_6_apply, zeroF, zero_add, Fin.sum_univ_one, val_main_v29_apply, val_main_v28_apply,
    val_main_cst_5_apply, nF, val_main_v27_apply, e, val_main_v10_apply, val_main_v9_apply, val_main_cst_2_apply, negHalfF, val_main_v8_apply,
    inv_is H, ms_is H]
  simp only [Ideal.mulf_def, Ideal.hostDivf_def]
  rw [div_real _ (ms_pos _).ne', ← EReal.coe_mul, ← EReal.coe_mul, div_real _ n_ne]
  rfl

/-- The gradient at the rows. -/
theorem dx_is (H : Are W R x0 x1 x2 x3 x4) (i : S2048x1024.Idx) :
    val_main_v36 (F := Ideal) x0 x1 x2 x3 x4 i = ((dx W (R (c0 i)) (c1 i) : ℝ) : EReal) := by
  rw [val_main_v36_apply, val_main_v35_apply, val_main_v34_apply, val_main_v33_apply, val_main_v32_apply, val_main_v26_apply, val_main_v25_apply,
    inv_is H, mid_is H, H.x, dag_is H, H.dh]
  simp only [Ideal.mulf_def, Ideal.addf_def, ← EReal.coe_mul, ← EReal.coe_add]
  exact congrArg (fun z : ℝ => (((R (c0 i)).dh (c1 i) + z : ℝ) : EReal)) (chain (R (c0 i)).x (fun l => da W (R (c0 i)) l * W.g l) (c1 i))

end Cert.PabRefIdeal.Hand

end
-- ==== Proof.PabPre.lean ====
module

public import proofs.«01_k».proof.Proof.Rows
public import proofs.«01_k».proof.Proof.PabKernel
public import proofs.«01_k».proof.Proof.PabRef
public import proofs.«01_k».proof.Proof.FoxPre

/-! # The norm before the attentions: finite arguments are real numbers -/

@[expose] public section

noncomputable section

namespace Cert.PabIdeal.Hand

open Idealize.ShloMosaic Cert.PabMath
open Idealize.ShloMosaic.TcCoe
open Cert.PabRefIdeal.Hand (Mat Cot Wt Sc Are)

/-- The shapes that the precondition's lines relate. -/
instance preFacts : Cert.Pre_pab_finite.Facts where
  bcast_S_S2048x1024 := by decide
  reducesTo_S2048x1024_S_d0_1 := by decide
  h_S_ := by decide
  bcast_S_S2048x2312 := by decide
  reducesTo_S2048x2312_S_d0_1 := by decide
  bcast_S_S1024x2312 := by decide
  reducesTo_S1024x2312_S_d0_1 := by decide
  bcast_S_S1x1024 := by decide
  reducesTo_S1x1024_S_d0_1 := by decide

/-- The weights that finite arguments hold. -/
def wtsOf (x3 : Wt) (x4 : Sc) : Wts where
  w a b := (x3 (ix2 a b) : EReal).toReal
  g b := (x4 (ix2 0 b) : EReal).toReal

/-- … and the tokens' rows. -/
def rowOf (x0 x1 : Mat) (x2 : Cot) (t : Fin 2048) : Row where
  x b := (x0 (ix2 t b) : EReal).toReal
  dh b := (x1 (ix2 t b) : EReal).toReal
  dz b := (x2 (ix2 t b) : EReal).toReal

open Cert.Pre_pab_finite in
open Cert.FoxIdeal.Hand (all_real) in
theorem are_of (x0 x1 : Mat) (x2 : Cot) (x3 : Wt) (x4 : Sc) (h : Cert.Pre_pab_finite.fn (F := Ideal) x0 x1 x2 x3 x4 = fun _ => 1#1) :
    Are (wtsOf x3 x4) (rowOf x0 x1 x2) x0 x1 x2 x3 x4 := by
  have e := congrFun h ix0
  simp only [Cert.Pre_pab_finite.fn, Cert.Pre_pab_finite.fn_part1, andi, IntOp.andi_eq_one] at e
  obtain ⟨⟨⟨⟨⟨-, e0⟩, e1⟩, e2⟩, e3⟩, e4⟩ := e
  have b0 := all_real x0 Facts.bcast_S_S2048x1024 Facts.reducesTo_S2048x1024_S_d0_1 Facts.h_S_ ix0 e0
  have b1 := all_real x1 Facts.bcast_S_S2048x1024 Facts.reducesTo_S2048x1024_S_d0_1 Facts.h_S_ ix0 e1
  have b2 := all_real x2 Facts.bcast_S_S2048x2312 Facts.reducesTo_S2048x2312_S_d0_1 Facts.h_S_ ix0 e2
  have b3 := all_real x3 Facts.bcast_S_S1024x2312 Facts.reducesTo_S1024x2312_S_d0_1 Facts.h_S_ ix0 e3
  have b4 := all_real x4 Facts.bcast_S_S1x1024 Facts.reducesTo_S1x1024_S_d0_1 Facts.h_S_ ix0 e4
  have two : ∀ {n k : Nat} (i : (⟨2, ![n, k]⟩ : Shape).Idx), ∃ a b, i = ix2 a b := fun i => ⟨i 0, i 1, eq_ix2 i⟩
  refine ⟨fun i => ?_, fun i => ?_, fun i => ?_, fun i => ?_, fun i => ?_⟩ <;> obtain ⟨a, b, rfl⟩ := two i
  · exact b0 _
  · exact b1 _
  · exact b2 _
  · exact b3 _
  · obtain rfl : a = 0 := Subsingleton.elim _ _
    exact b4 _

end Cert.PabIdeal.Hand
-- ==== Proof.PabRun.lean ====
module

public import proofs.«01_k».proof.Proof.PabPre
public import proofs.«01_k».proof.Proof.Gen.PabIdeal.Value
public import proofs.«01_k».proof.Proof.Gen.PabRefIdeal.Run
public import Idealize.ShloMosaic.Lib.Claim
public import Idealize.ShloMosaic.Lib.Pipeline.ValueKit

/-! # The norm before the attentions: kernel and reference compute the same gradients -/

@[expose] public section

noncomputable section

namespace Cert.PabIdeal.Hand

open Idealize.ShloMosaic Cert.PabIdeal Cert.PabIdeal.Gen Cert.PabIdeal.Value
open Idealize.ShloMosaic.TcCoe Cert.PabMath Cert.Rows
open Cert.AobMath (slot)
open Cert.PabRefIdeal.Hand (Mat Cot Wt Sc Are)
open Cert.PleRefIdeal.Hand (c0 c1)

section Arrays
variable {W : Wts} {R : Fin 2048 → Row} (m : (ℓ : Loc nD τ sig) → Buf (Elt Ideal) ℓ) (c : Dev nD)

/-- The program's arguments. -/
abbrev a0 : Mat := m ((c : Thread nD τ).loc main_arg0)
@[inherit_doc a0] abbrev a1 : Mat := m ((c : Thread nD τ).loc main_arg1)
@[inherit_doc a0] abbrev a2 : Cot := m ((c : Thread nD τ).loc main_arg2)
@[inherit_doc a0] abbrev a3 : Wt := m ((c : Thread nD τ).loc main_arg3)
@[inherit_doc a0] abbrev a4 : Sc := m ((c : Thread nD τ).loc main_arg4)

/-- The gradient at the forgetting attention's queries: columns of the cotangent. -/
theorem V_q (r : Fin 2048) (j : Fin 512) : (V m c main_v10 : Vec Ideal S2048x512 .f32) (ix2 r j) = a2 m c (ix2 r ⟨j.val, by omega⟩) := by
  unfold V
  after_reads_simp
  pointwise

/-- … at its keys: columns of the cotangent. -/
theorem V_k (r : Fin 2048) (j : Fin 512) : (V m c main_v12 : Vec Ideal S2048x512 .bf16) (ix2 r j) = a2 m c (ix2 r ⟨512 + j.val, by omega⟩) := by
  unfold V
  after_reads_simp
  pointwise

/-- … at its values: columns of the cotangent. -/
theorem V_v (r : Fin 2048) (j : Fin 512) : (V m c main_v14 : Vec Ideal S2048x512 .bf16) (ix2 r j) = a2 m c (ix2 r ⟨1024 + j.val, by omega⟩) := by
  unfold V
  after_reads_simp
  pointwise

/-- The gradient at the other attention's keys: columns of the cotangent. -/
theorem V_sk (r : Fin 2048) (j : Fin 128) : (V m c main_v20 : Vec Ideal S2048x128 .f32) (ix2 r j) = a2 m c (ix2 r ⟨2056 + j.val, by omega⟩) := by
  unfold V
  after_reads_simp
  pointwise

/-- … at its values: columns of the cotangent. -/
theorem V_sv (r : Fin 2048) (j : Fin 128) : (V m c main_v21 : Vec Ideal S2048x128 .f32) (ix2 r j) = a2 m c (ix2 r ⟨2184 + j.val, by omega⟩) := by
  unfold V
  after_reads_simp
  pointwise

/-- The gradient at the other attention's queries, their columns in the order of `slot`. -/
theorem V_sq (r : Fin 2048) (j : Fin 512) :
    (V m c main_v19 : Vec Ideal S2048x512 .bf16) (ix2 r j) = a2 m c (ix2 r ⟨1544 + (slot j).val, by omega⟩) := by
  unfold V
  after_reads_simp
  pointwise
  refine congrArg (fun k => a2 m c (ix2 r k)) (Fin.ext ?_)
  show 1544 + (j.val / 64 % 2 * 256 + j.val / 128 * 64 + j.val % 64) = 1544 + ((j.val / 64 % 2 * 4 + j.val / 128) * 64 + j.val % 64)
  omega

/-- The gates' gradients, eight rows of sixteen. -/
theorem V_ff (h : Fin 16) (r : Fin 2048) :
    (V m c main_v24 : Vec Ideal S16x2048 .f32) (ix2 h r) = if k : h.val < 8 then a2 m c (ix2 r (gate ⟨h.val, k⟩)) else (0 : EReal) := by
  unfold V
  after_reads_simp
  simp -implicitDefEqProofs only [StableHlo.TRef.toBuf, StableHlo.TRef.ofBuf, cast_cast, cast_eq, id]
  pointwise
  split
  · rfl
  · show (((0#32 : BitVec 32).toInt : ℝ) : EReal) = 0
    norm_num

/-- The weight, transposed. -/
theorem V_wf (j : Fin 2312) (b : Fin 1024) : (V m c main_v1 : Vec Ideal S2312x1024 .bf16) (ix2 j b) = a3 m c (ix2 b j) := by
  unfold V
  after_reads_simp
  pointwise

/-- The packed weight: the gates' rows among sixteen. -/
theorem V_wg (h : Fin 16) (b : Fin 1024) : (V m c main_v9 : Vec Ideal S784x1024 .bf16) (ix2 ⟨h.val, by omega⟩ b)
    = if k : h.val < 8 then a3 m c (ix2 b (gate ⟨h.val, k⟩)) else (0 : EReal) := by
  have hh := h.isLt
  unfold V
  after_reads_simp
  pointwise
  split
  · after_reads_simp
    pointwise
    rfl
  rw [dif_pos (show h.val - 8 < 8 by omega)]
  after_reads_simp
  pointwise

omit m c in
/-- The column of the cotangent of one of the other attention's first 512 columns. -/
theorem rest_lo (j : Fin 768) (h : j.val < 512) (n : ℕ) (hn : n = j.val) :
    1544 + (n / 64 % 2 * 256 + n / 128 * 64 + n % 64) = (rest j).val := by
  subst hn
  have e : (rest j).val = 1544 + ((j.val / 64 % 2 * 4 + j.val / 128) * 64 + j.val % 64) := by
    show 1544 + (turn j).val = _
    rw [turn, dif_pos h]
    rfl
  omega

omit m c in
/-- … and of the others. -/
theorem rest_hi (j : Fin 768) (h : ¬ j.val < 512) (n : ℕ) (hn : n + 512 = j.val) : 2056 + n = (rest j).val := by
  have e : (rest j).val = 1544 + j.val := by
    show 1544 + (turn j).val = _
    rw [turn, dif_neg h]
  omega

/-- … and the other attention's rows. -/
theorem V_wr (j : Fin 768) (b : Fin 1024) : (V m c main_v9 : Vec Ideal S784x1024 .bf16) (ix2 ⟨16 + j.val, by omega⟩ b) = a3 m c (ix2 b (rest j)) := by
  have hj := j.isLt
  unfold V
  after_reads_simp
  pointwise
  rw [dif_neg (show ¬ 16 + j.val < 8 by omega), dif_neg (show ¬ 16 + j.val - 8 < 8 by omega)]
  split
  · rename_i hk
    after_reads_simp
    pointwise
    exact congrArg (fun k => a3 m c (ix2 b k)) (Fin.ext (rest_lo j (by omega) _ (by omega)))
  · rename_i hk
    after_reads_simp
    pointwise
    exact congrArg (fun k => a3 m c (ix2 b k)) (Fin.ext (rest_hi j (by omega) _ (by omega)))

theorem iblk_x (t : Fin cfg0.N) (a : Fin 512) (b : Fin 1024) : (iblk m c 0 t : Vec Ideal S512x1024 .f32) (ix2 a b) = a0 m c (ix2 (row t.val a) b) := by
  have e : ∀ t : Fin cfg0.N, win0_0.index t = ![t.val, 0] := (by decide +kernel : ∀ t : Fin grid0.N, _)
  have hN : t.val < 4 := lt_of_lt_of_eq t.isLt (show cfg0.N = 4 from N_0)
  blk_simp [iblk]
  rw [V_main_arg0]
  refine congrArg _ ?_
  blk_ext [e]
  rw [row_val hN]; omega

theorem iblk_dh (t : Fin cfg0.N) (a : Fin 512) (b : Fin 1024) : (iblk m c 1 t : Vec Ideal S512x1024 .f32) (ix2 a b) = a1 m c (ix2 (row t.val a) b) := by
  have e : ∀ t : Fin cfg0.N, win0_1.index t = ![t.val, 0] := (by decide +kernel : ∀ t : Fin grid0.N, _)
  have hN : t.val < 4 := lt_of_lt_of_eq t.isLt (show cfg0.N = 4 from N_0)
  blk_simp [iblk]
  rw [V_main_arg1]
  refine congrArg _ ?_
  blk_ext [e]
  rw [row_val hN]; omega

theorem iblk_q (t : Fin cfg0.N) (a : Fin 512) (b : Fin 512) : (iblk m c 2 t : Vec Ideal S512x512 .f32) (ix2 a b) = (V m c main_v10 : Vec Ideal S2048x512 .f32) (ix2 (row t.val a) b) := by
  have e : ∀ t : Fin cfg0.N, win0_2.index t = ![t.val, 0] := (by decide +kernel : ∀ t : Fin grid0.N, _)
  have hN : t.val < 4 := lt_of_lt_of_eq t.isLt (show cfg0.N = 4 from N_0)
  blk_simp [iblk]
  refine congrArg _ ?_
  blk_ext [e]
  rw [row_val hN]; omega

theorem iblk_k (t : Fin cfg0.N) (a : Fin 512) (b : Fin 512) : (iblk m c 3 t : Vec Ideal S512x512 .bf16) (ix2 a b) = (V m c main_v12 : Vec Ideal S2048x512 .bf16) (ix2 (row t.val a) b) := by
  have e : ∀ t : Fin cfg0.N, win0_3.index t = ![t.val, 0] := (by decide +kernel : ∀ t : Fin grid0.N, _)
  have hN : t.val < 4 := lt_of_lt_of_eq t.isLt (show cfg0.N = 4 from N_0)
  blk_simp [iblk]
  refine congrArg _ ?_
  blk_ext [e]
  rw [row_val hN]; omega

theorem iblk_v (t : Fin cfg0.N) (a : Fin 512) (b : Fin 512) : (iblk m c 4 t : Vec Ideal S512x512 .bf16) (ix2 a b) = (V m c main_v14 : Vec Ideal S2048x512 .bf16) (ix2 (row t.val a) b) := by
  have e : ∀ t : Fin cfg0.N, win0_4.index t = ![t.val, 0] := (by decide +kernel : ∀ t : Fin grid0.N, _)
  have hN : t.val < 4 := lt_of_lt_of_eq t.isLt (show cfg0.N = 4 from N_0)
  blk_simp [iblk]
  refine congrArg _ ?_
  blk_ext [e]
  rw [row_val hN]; omega

theorem iblk_sq (t : Fin cfg0.N) (a : Fin 512) (b : Fin 512) : (iblk m c 5 t : Vec Ideal S512x512 .bf16) (ix2 a b) = (V m c main_v19 : Vec Ideal S2048x512 .bf16) (ix2 (row t.val a) b) := by
  have e : ∀ t : Fin cfg0.N, win0_5.index t = ![t.val, 0] := (by decide +kernel : ∀ t : Fin grid0.N, _)
  have hN : t.val < 4 := lt_of_lt_of_eq t.isLt (show cfg0.N = 4 from N_0)
  blk_simp [iblk]
  refine congrArg _ ?_
  blk_ext [e]
  rw [row_val hN]; omega

theorem iblk_sk (t : Fin cfg0.N) (a : Fin 512) (b : Fin 128) : (iblk m c 6 t : Vec Ideal S512x128 .f32) (ix2 a b) = (V m c main_v20 : Vec Ideal S2048x128 .f32) (ix2 (row t.val a) b) := by
  have e : ∀ t : Fin cfg0.N, win0_6.index t = ![t.val, 0] := (by decide +kernel : ∀ t : Fin grid0.N, _)
  have hN : t.val < 4 := lt_of_lt_of_eq t.isLt (show cfg0.N = 4 from N_0)
  blk_simp [iblk]
  refine congrArg _ ?_
  blk_ext [e]
  rw [row_val hN]; omega

theorem iblk_sv (t : Fin cfg0.N) (a : Fin 512) (b : Fin 128) : (iblk m c 7 t : Vec Ideal S512x128 .f32) (ix2 a b) = (V m c main_v21 : Vec Ideal S2048x128 .f32) (ix2 (row t.val a) b) := by
  have e : ∀ t : Fin cfg0.N, win0_7.index t = ![t.val, 0] := (by decide +kernel : ∀ t : Fin grid0.N, _)
  have hN : t.val < 4 := lt_of_lt_of_eq t.isLt (show cfg0.N = 4 from N_0)
  blk_simp [iblk]
  refine congrArg _ ?_
  blk_ext [e]
  rw [row_val hN]; omega

theorem iblk_ff (t : Fin cfg0.N) (h : Fin 16) (a : Fin 512) :
    (iblk m c 8 t : Vec Ideal S16x512 .f32) (ix2 h a) = (V m c main_v24 : Vec Ideal S16x2048 .f32) (ix2 h (row t.val a)) := by
  have e : ∀ t : Fin cfg0.N, win0_8.index t = ![0, t.val] := (by decide +kernel : ∀ t : Fin grid0.N, _)
  have hN : t.val < 4 := lt_of_lt_of_eq t.isLt (show cfg0.N = 4 from N_0)
  blk_simp [iblk]
  refine congrArg _ ?_
  blk_ext [e]
  rw [row_val hN]; omega

/-- The weight's first rows, of the forgetting attention. -/
theorem iblk_wf (t : Fin cfg0.N) (j : Fin 1536) (b : Fin 1024) :
    (X0_9 m c t : Vec Ideal S1536x1024 .bf16) (ix2 j b) = (V m c main_v1 : Vec Ideal S2312x1024 .bf16) (ix2 (fox j) b) := by
  have e : ∀ t : Fin cfg0.N, win0_9.index t = ![0, 0] := (by decide +kernel : ∀ t : Fin grid0.N, _)
  unfold X0_9 Pipeline.Window.fill
  rw [dif_pos (moved0_9 t _)]
  blk_simp [iblk]
  refine congrArg _ ?_
  blk_ext [e]
  rfl

theorem iblk_wr (t : Fin cfg0.N) : (iblk m c 10 t : Vec Ideal S784x1024 .bf16) = (V m c main_v9 : Vec Ideal S784x1024 .bf16) := by
  have e : ∀ t : Fin cfg0.N, win0_10.index t = ![0, 0] := (by decide +kernel : ∀ t : Fin grid0.N, _)
  funext y; blk_simp [iblk]; refine congrArg _ ?_; blk_ext [e]

theorem iblk_g (t : Fin cfg0.N) : (iblk m c 11 t : Vec Ideal S1x1024 .f32) = a4 m c := by
  have e : ∀ t : Fin cfg0.N, win0_11.index t = ![0, 0] := (by decide +kernel : ∀ t : Fin grid0.N, _)
  have ea : a4 m c = (V m c main_arg4 : Vec Ideal S1x1024 .f32) := (V_main_arg4 m c).symm
  rw [ea]
  funext y; blk_simp [iblk]; refine congrArg _ ?_; blk_ext [e]

variable (H : Are W R (a0 m c) (a1 m c) (a2 m c) (a3 m c) (a4 m c))
include H

/-- The blocks of a grid point hold its tokens' rows and the weights. -/
theorem blocks (t : Fin cfg0.N) : Blocks W (fun a => R (row t.val a)) (iblk m c 0 t) (iblk m c 1 t) (iblk m c 2 t) (iblk m c 3 t) (iblk m c 4 t)
    (iblk m c 5 t) (iblk m c 6 t) (iblk m c 7 t) (iblk m c 8 t) (X0_9 m c t) (iblk m c 10 t) (iblk m c 11 t) where
  x a b := (iblk_x m c t a b).trans (H.x _)
  dh a b := (iblk_dh m c t a b).trans (H.dh _)
  q a j := ((iblk_q m c t a j).trans (V_q m c _ j)).trans (H.dz _)
  k a j := ((iblk_k m c t a j).trans (V_k m c _ j)).trans (H.dz _)
  v a j := ((iblk_v m c t a j).trans (V_v m c _ j)).trans (H.dz _)
  sq a j := ((iblk_sq m c t a j).trans (V_sq m c _ j)).trans (H.dz _)
  sk a j := ((iblk_sk m c t a j).trans (V_sk m c _ j)).trans (H.dz _)
  sv a j := ((iblk_sv m c t a j).trans (V_sv m c _ j)).trans (H.dz _)
  ff h a := by
    refine ((iblk_ff m c t h a).trans (V_ff m c h _)).trans ?_
    split
    · exact H.dz _
    · exact EReal.coe_zero.symm
  wf j b := ((iblk_wf m c t j b).trans (V_wf m c _ b)).trans (H.w _)
  wg h b := by
    refine ((congrFun (iblk_wr m c t) _).trans (V_wg m c h b)).trans ?_
    split
    · exact H.w _
    · exact EReal.coe_zero.symm
  wr j b := ((congrFun (iblk_wr m c t) _).trans (V_wr m c j b)).trans (H.w _)
  g b := (congrFun (iblk_g m c t) _).trans (H.g _)

omit H in
/-- The result that the points write block by block. -/
theorem rows_at (t : Fin cfg0.N) : (outsAt0 m c t.val t.isLt).1 = (stored m c t).1 := by
  rcases Nat.eq_zero_or_pos t.val with h | h
  · rw [outs_first m c t h]
  · rw [outs_later m c t h]

/-- The accumulated gradient of the norm's scale. -/
theorem scale_at : ∀ n (hn : n < cfg0.N) (a : Fin 1) (b : Fin 1024),
    (outsAt0 m c n hn).2 (ix2 a b) = ((upto (fun t => dg W (R t) b) n : ℝ) : EReal)
  | 0, hn, a, b => by
    rw [outs_first m c ⟨0, hn⟩ rfl]
    exact dg_is (blocks m c H ⟨0, hn⟩) a b
  | n + 1, hn, a, b => by
    have i := scale_at n (Nat.lt_of_succ_lt hn) a b
    have e := dg_is (blocks m c H ⟨n + 1, hn⟩) a b
    rw [outs_later m c ⟨n + 1, hn⟩ (Nat.succ_pos n)]
    refine (congrArg₂ (fun x y : EReal => x + y) i e).trans ?_
    exact (EReal.coe_add _ _).symm

end Arrays

/-- The gradient at the rows. -/
def gx (W : Wts) (R : Fin 2048 → Row) : FVec Ideal S2048x1024 .f32 := fun i => ((dx W (R (c0 i)) (c1 i) : ℝ) : EReal)
/-- The gradient of the norm's scale. -/
def gg (W : Wts) (R : Fin 2048 → Row) : FVec Ideal S1x1024 .f32 := fun i => ((∑ t, dg W (R t) (c1 i) : ℝ) : EReal)

section Final
variable {W : Wts} {R : Fin 2048 → Row} (m : (ℓ : Loc nD τ sig) → Buf (Elt Ideal) ℓ) (c : Dev nD)
  (H : Are W R (a0 m c) (a1 m c) (a2 m c) (a3 m c) (a4 m c))
include H

theorem arr12 : (dats m 0 c).arrAt 12 cfg0.N = gx W R := by
  have e : ∀ t : Fin cfg0.N, win0_12.index t = ![t.val, 0] := (by decide +kernel : ∀ t : Fin grid0.N, _)
  refine (dats m 0 c).arrAt_eq_of_covers 12 _ (by decide +kernel) fun t hf y => ?_
  have hN : t.val < 4 := lt_of_lt_of_eq t.isLt (show cfg0.N = 4 from N_0)
  blk_simp
  rw [after0_12, rows_at m c t]
  obtain ⟨a, b, rfl⟩ : ∃ a b, y = ix2 a b := ⟨y 0, y 1, eq_ix2 y⟩
  refine (dx_is (blocks m c H t) a b).trans ?_
  refine (show gx W R (ix2 (row t.val a) b) = _ from congrArg (gx W R) ?_)
  blk_ext [e]
  rw [row_val hN]; omega

theorem arr13 (t₀ : Fin cfg0.N) (ht : t₀.val = 3) (hw : (cfg0.win 13).WholeAt t₀) : (dats m 0 c).arrAt 13 cfg0.N = gg W R := by
  have key : ∀ n (hn : n < cfg0.N), n = 3 → ∀ a b, (outsAt0 m c n hn).2 (ix2 a b) = ((∑ t, dg W (R t) b : ℝ) : EReal) := by
    rintro _ hn rfl a b
    rw [← upto_three]
    exact scale_at m c H 3 hn a b
  refine (dats m 0 c).arrAt_eq_of_after_last 13 t₀ hw _ fun j => ?_
  blk_simp
  rw [after0_13]
  obtain ⟨a, b, rfl⟩ : ∃ a b, j = ix2 a b := ⟨j 0, j 1, eq_ix2 j⟩
  exact key _ _ ht a b

end Final

/-- Kernel and reference compute the same gradients of finite arguments. -/
theorem algebraic : Cert.algebraic_PabIdeal_PabRefIdeal_pre_pab_finite := by
  intro m g m' g' hpre hargs
  let W : Dev nD → Wts := fun c => wtsOf (a3 m c) (a4 m c)
  let R : Dev nD → Fin 2048 → Row := fun c => rowOf (a0 m c) (a1 m c) (a2 m c)
  have H : ∀ c, Are (W c) (R c) (a0 m c) (a1 m c) (a2 m c) (a3 m c) (a4 m c) := fun c => are_of _ _ _ _ _ (hpre c)
  refine ⟨fun c => gx (W c) (R c), fun c => gg (W c) (R c), ?_, ?_⟩
  · refine (θ_run _ _ _).mono (fun r h c => ?_) (run_blocks m g)
    obtain ⟨h0, h1, hr⟩ := h c
    exact ⟨h0.trans (arr12 m c (H c)), h1.trans (arr13 m c (H c) ⟨3, by decide +kernel⟩ rfl (by decide +kernel)), hr⟩
  · refine (θ_run _ _ _).mono (fun r h c => ?_) (Cert.PabRefIdeal.Value.run m' g')
    obtain ⟨h0, h1, hr⟩ := h c
    obtain ⟨e0, e1, e2, e3, e4⟩ := hargs c
    refine ⟨h0.trans ?_, h1.trans ?_, hr⟩
    · rw [Cert.PabRefIdeal.Read.val_main_v36_eq, e0, e1, e2, e3, e4]
      exact funext fun i => Cert.PabRefIdeal.Hand.dx_is (H c) i
    · rw [Cert.PabRefIdeal.Read.val_main_v19_eq, e0, e2, e3]
      exact funext fun i => Cert.PabRefIdeal.Hand.dg_is (H c) i

end Cert.PabIdeal.Hand
-- ==== Proof.ScanUp.lean ====
/- Running sums along the lanes from the left, over the extended reals: the doubling scan that rotates and adds, and the
   host's `reduce_window` of a whole column, are both the sum of the entries up to a position. -/
module

public import proofs.«01_k».proof.Proof.Scan

@[expose] public section

set_option maxRecDepth 16384

noncomputable section

namespace Cert.Scan

open Idealize.ShloMosaic

/-- A row of 2048 numbers at the positions from 2048 on, and zero before and behind them. -/
def lead (f : Fin 2048 → EReal) (n : ℕ) : EReal := if h : 2048 ≤ n ∧ n < 4096 then f ⟨n - 2048, by omega⟩ else 0

theorem lead_of_lt (f : Fin 2048 → EReal) (t : Fin 2048) : lead f (t.val + 2048) = f t := by
  unfold lead
  rw [dif_pos (by omega)]
  exact congrArg f (Fin.ext (Nat.add_sub_cancel _ _))

/-- The sum of the `s` entries that end at position `n`. -/
def back (f : Fin 2048 → EReal) (s n : ℕ) : EReal := ∑ j ∈ Finset.range s, lead f (n - j)

theorem back_one (f : Fin 2048 → EReal) (n : ℕ) : back f 1 n = lead f n := by
  simp only [back, Finset.sum_range_one, Nat.sub_zero]

theorem back_add (f : Fin 2048 → EReal) (s r n : ℕ) : back f (s + r) n = back f s n + back f r (n - s) := by
  simp only [back, Finset.sum_range_add, Nat.sub_sub]

theorem back_of_lt (f : Fin 2048 → EReal) (s : ℕ) {n : ℕ} (h : n < 2048) : back f s n = 0 :=
  Finset.sum_eq_zero fun j _ => dif_neg (by omega)

/-- The sum of the entries up to position `t`. -/
def head (f : Fin 2048 → EReal) (t : Fin 2048) : EReal := back f 2048 (t.val + 2048)

/-- One step of the scan from the left: add the entry `k` places before, where there is one. -/
abbrev stepUp (k : BitVec 32) (h : S.Rotates 1 none) (hi : S.Iotas .tc 32 [1]) (v : FVec Ideal S .f32) : FVec Ideal S .f32 :=
  addf v (select (cmpi .sge (iota .tc S 32 [1] hi) (broadcast S k)) (dynamicRotate 1 k none v h)
    (broadcast S (Scalar.ofBits (F := Ideal) .f32 0x00000000#32)))

/-- A scan whose entries are sums of `s` entries, after one more step: sums of twice as many. -/
theorem stepUp_apply (s : ℕ) (hs : 0 < s) (hs' : s < 2048) (h : S.Rotates 1 none) (hi : S.Iotas .tc 32 [1])
    (v : FVec Ideal S .f32) (f : Fin 16 → Fin 2048 → EReal) (hv : ∀ a t, v (ix2 a t) = back (f a) s (t.val + 2048)) (a : Fin 16) (t : Fin 2048) :
    stepUp (BitVec.ofNat 32 s) h hi v (ix2 a t) = back (f a) (s + s) (t.val + 2048) := by
  have e : stepUp (BitVec.ofNat 32 s) h hi v (ix2 a t)
      = v (ix2 a t) + if t.val < s then 0 else dynamicRotate 1 (BitVec.ofNat 32 s) none v h (ix2 a t) := by
    have h0 : Scalar.ofBits (F := Ideal) .f32 0x00000000#32 = (0 : EReal) := by
      simp [Scalar.ofBits, Ideal.ofBits, Ideal.ieee]
    have hc : cmpi .sge (iota .tc S 32 [1] hi) (broadcast S (BitVec.ofNat 32 s)) (ix2 a t) = if t.val < s then 0#1 else 1#1 := by
      show BitVec.ofBool ((BitVec.ofNat 32 s).sle (BitVec.ofNat 32 (0 * 2048 + t.val))) = _
      rw [Nat.zero_mul, Nat.zero_add, BitVec.sle_eq_not_slt, slt_lane _ _ t.isLt hs']
      by_cases hlt : t.val < s
      · rw [decide_eq_true hlt, if_pos hlt]; rfl
      · rw [decide_eq_false hlt, if_neg hlt]; rfl
    show v (ix2 a t) + Scalar.select (cmpi .sge (iota .tc S 32 [1] hi) (broadcast S (BitVec.ofNat 32 s)) (ix2 a t))
      (dynamicRotate 1 (BitVec.ofNat 32 s) none v h (ix2 a t)) (Scalar.ofBits (F := Ideal) .f32 0x00000000#32) = _
    rw [hc, h0]
    by_cases hlt : t.val < s
    · rw [if_pos hlt, if_pos hlt]; rfl
    · rw [if_neg hlt, if_neg hlt]; rfl
  rw [e, hv, back_add]
  congr 1
  by_cases hlt : t.val < s
  · rw [if_pos hlt, back_of_lt _ _ (by omega)]
  · rw [if_neg hlt, rotate_apply _ hs hs', hv]
    congr 1
    show (t.val + (2048 - s)) % 2048 + 2048 = _
    omega

/-- jnp's running sum of a column (a `reduce_window` of the whole height, padded in front by one less), read at an entry. -/
theorem reduceWindowUp_apply {n : ℕ} (x : (⟨2, ![2048, n]⟩ : Shape).Idx → EReal)
    (h : (⟨2, ![2048, n]⟩ : Shape).ReduceWindows ![2048, 1] ![1, 1] ![2047, 0] ![0, 0] ⟨2, ![2048, n]⟩) (t : Fin 2048) (a : Fin n) :
    Ideal.hostReduceWindowAdd ![2048, 1] ![1, 1] ![2047, 0] ![0, 0] h x 0 (ix2 t a) = head (fun t => x (ix2 t a)) t := by
  unfold Ideal.hostReduceWindowAdd Host.reduceWindow
  dsimp only
  rw [foldl_add, zero_add]
  unfold head back
  rw [← Finset.sum_range_reflect, Finset.sum_range]
  have hnum : (⟨2, ![2048, 1]⟩ : Shape).numel = 2048 := Routing.numel_col 2048
  refine Fintype.sum_equiv (finCongr hnum) _ _ fun j => ?_
  have hj : j.val < 2048 := lt_of_lt_of_eq j.isLt hnum
  have hw (b : Fin 2) := congrArg Fin.val (congrFun (Routing.symm_col (R := 2048) j) b)
  have p0 : (ix2 t a (0 : Fin 2)).val * 1 + ((⟨2, ![2048, 1]⟩ : Shape).rowMajor.symm j 0).val = t.val + j.val := by
    rw [show ((⟨2, ![2048, 1]⟩ : Shape).rowMajor.symm j 0).val = j.val from hw 0, Nat.mul_one]; rfl
  have p1 : (ix2 t a (1 : Fin 2)).val * 1 + ((⟨2, ![2048, 1]⟩ : Shape).rowMajor.symm j 1).val = a.val := by
    rw [show ((⟨2, ![2048, 1]⟩ : Shape).rowMajor.symm j 1).val = 0 from hw 1, Nat.mul_one]; rfl
  show _ = lead (fun t => x (ix2 t a)) (t.val + 2048 - (2048 - 1 - j.val))
  unfold lead
  by_cases hlt : 2047 ≤ t.val + j.val
  · rw [dif_pos]
    swap
    · intro b
      match b with
      | ⟨0, _⟩ => exact ⟨by show 2047 ≤ _; erw [p0]; exact hlt, by show _ - 2047 < 2048; erw [p0]; omega⟩
      | ⟨1, _⟩ => exact ⟨Nat.zero_le _, by show _ - 0 < n; erw [p1]; exact a.isLt⟩
    rw [dif_pos (by omega)]
    refine congrArg x (funext fun b => Fin.ext ?_)
    match b with
    | ⟨0, _⟩ => show _ - 2047 = t.val + 2048 - (2048 - 1 - j.val) - 2048; erw [p0]; omega
    | ⟨1, _⟩ => exact p1
  · rw [dif_neg]
    swap
    · intro hin
      have h0 : 2047 ≤ _ := (hin 0).1
      erw [p0] at h0
      omega
    rw [dif_neg (by omega)]

end Cert.Scan

end
-- ==== Proof.FgcRun.lean ====
/- The forget gate's forward kernel against the gate's lines: the running sum, along the sequence, of the logarithm of the
   logistic function of each head's logit. -/
module

public import proofs.«01_k».proof.Defs
public import proofs.«01_k».proof.Proof.ScanUp
public import proofs.«01_k».proof.Proof.ForgetRun
public import proofs.«01_k».proof.Proof.Gen.FgcIdeal.Value
public import proofs.«01_k».proof.Proof.Gen.FgcRefIdeal.Read
public import Idealize.ShloMosaic.Lib.Pipeline.ValueKit

@[expose] public section

set_option maxRecDepth 16384

noncomputable section

namespace Cert.FgcRun

open Idealize.ShloMosaic Idealize.ShloMosaic.TcCoe Idealize.SL.Sem
open Idealize.ShloMosaic.Pipeline (Dat)
open Cert.ForgetRun (A0 A1 A2 padded zero_int zero_bits pad_apply')

/-- The logit of row `a` at position `t`: of a head's row the product and the bias, and zero of the eight rows below. -/
def logit (x0 : A0) (x1 : A1) (x2 : A2) (a : Fin 16) (t : Fin 2048) : EReal :=
  padded (fun a => ∑ k : Fin 1024, x0 (ix2 t k) * x1 (ix2 k a)) a + padded (fun a => x2 (ix1 a)) a

/-- The result: the running sum of the gates' logarithms. -/
def res (x0 : A0) (x1 : A1) (x2 : A2) : Vec Ideal ⟨2, ![16, 2048]⟩ .f32 :=
  fun i => Scan.head (fun t => Gate.logSig (logit x0 x1 x2 (i 0) t)) (i 1)

section Reference
open Cert.FgcRefIdeal Cert.FgcRefIdeal.Gen Cert.FgcRefIdeal.Read

/-- Eight columns of zeros at the right. -/
theorem pad_cols (x : Vec Ideal ⟨2, ![2048, 8]⟩ .f32) (v : Vec Ideal ⟨0, ![]⟩ .f32) (hv : ∀ i, v i = (0 : EReal))
    (h : (⟨2, ![2048, 8]⟩ : Shape).Pads ![0, 0] ![0, 8] ![0, 0] ⟨2, ![2048, 16]⟩) (h0 : 0 < (⟨0, ![]⟩ : Shape).numel) (t : Fin 2048) (a : Fin 16) :
    pad ⟨2, ![2048, 16]⟩ ![0, 0] ![0, 8] ![0, 0] x v h h0 (ix2 t a) = padded (fun a => x (ix2 t a)) a := by
  rw [pad_apply, hv]
  unfold padded
  by_cases ha : a.val < 8
  · rw [dif_pos ha, dif_pos]
    · refine congrArg x (funext fun c => Fin.ext ?_)
      match c with
      | ⟨0, _⟩ => show (t.val - 0) / (0 + 1) = t.val; omega
      | ⟨1, _⟩ => show (a.val - 0) / (0 + 1) = a.val; omega
    · intro c
      match c with
      | ⟨0, _⟩ => exact ⟨Nat.zero_le _, Nat.mod_one _, by have := t.isLt; show (t.val - 0) / (0 + 1) < 2048; omega⟩
      | ⟨1, _⟩ => exact ⟨Nat.zero_le _, Nat.mod_one _, by show (a.val - 0) / (0 + 1) < 8; omega⟩
  · rw [dif_neg ha, dif_neg]
    intro hin
    have h : (a.val - 0) / (0 + 1) < 8 := (hin 1).2.2
    omega

/-- Eight zeros behind. -/
theorem pad_bias (x : Vec Ideal ⟨1, ![8]⟩ .f32) (v : Vec Ideal ⟨0, ![]⟩ .f32) (hv : ∀ i, v i = (0 : EReal))
    (h : (⟨1, ![8]⟩ : Shape).Pads ![0] ![8] ![0] ⟨1, ![16]⟩) (h0 : 0 < (⟨0, ![]⟩ : Shape).numel) (a : Fin 16) :
    pad ⟨1, ![16]⟩ ![0] ![8] ![0] x v h h0 (ix1 a) = padded (fun a => x (ix1 a)) a := by
  rw [pad_apply, hv]
  unfold padded
  by_cases ha : a.val < 8
  · rw [dif_pos ha, dif_pos]
    · refine congrArg x (funext fun c => Fin.ext ?_)
      match c with
      | ⟨0, _⟩ => show (a.val - 0) / (0 + 1) = a.val; omega
    · intro c
      match c with
      | ⟨0, _⟩ => exact ⟨Nat.zero_le _, Nat.mod_one _, by show (a.val - 0) / (0 + 1) < 8; omega⟩
  · rw [dif_neg ha, dif_neg]
    intro hin
    have h : (a.val - 0) / (0 + 1) < 8 := (hin 0).2.2
    omega

/-- The reference's gate, of row `a` at position `t`. -/
theorem gate_ref (x0 : A0) (x1 : A1) (x2 : A2) (t : Fin 2048) (a : Fin 16) :
    val_main_v6 (F := Ideal) x0 x1 x2 (ix2 t a) = Gate.logSig (logit x0 x1 x2 a t) := by
  have h1 : val_main_v1 (F := Ideal) x0 x1 (ix2 t a) = padded (fun a => ∑ k : Fin 1024, x0 (ix2 t k) * x1 (ix2 k a)) a := by
    unfold val_main_v1
    refine (pad_cols _ _ (fun i => ?_) _ _ t a).trans (congrArg (padded · a) (funext fun b => ?_))
    · rw [val_main_call0_v0_apply, val_main_c_apply]; exact zero_int
    · rw [val_main_v0_apply]
      refine Finset.sum_congr rfl fun k _ => congrArg₂ (· * ·) (congrArg x0 ?_) (congrArg x1 ?_)
      all_goals exact funext fun c => by fin_cases c <;> rfl
  have h4 : val_main_v4 (F := Ideal) x2 (ix2 t a) = padded (fun a => x2 (ix1 a)) a := by
    rw [val_main_v4_apply, val_main_v3_apply]
    have e : idx_main_v3 (idx_main_v4 (ix2 t a)) = ix1 a := funext fun c => by fin_cases c; rfl
    rw [e]
    unfold val_main_v2
    refine pad_bias _ _ (fun i => ?_) _ _ a
    rw [val_main_call1_v0_apply, val_main_c_0_apply]; exact zero_int
  have hz : val_main_v5 (F := Ideal) x0 x1 x2 (ix2 t a) = logit x0 x1 x2 a t := by
    rw [val_main_v5_apply, h1, h4]; rfl
  generalize logit x0 x1 x2 a t = z at hz
  have hs : val_main_call2_v1 (F := Ideal) x0 x1 x2 (ix2 t a) = Gate.softplus (-z) := by
    simp only [val_main_call2_v1_apply, val_main_call2_call0_v4_apply, val_main_call2_call0_v11_apply, val_main_call2_call0_v10_apply,
      val_main_call2_call0_v9_apply, val_main_call2_call0_v8_apply, val_main_call2_call0_v7_apply, val_main_call2_call0_v6_apply,
      val_main_call2_call0_v5_apply, val_main_call2_call0_v3_apply, val_main_call2_call0_v2_apply, val_main_call2_call0_v1_apply,
      val_main_call2_call0_v0_apply, val_main_call2_call0_cst_apply, val_main_call2_v0_apply, hz, zero_bits]
    simp [Gate.softplus, Scalar.select, Ideal.cmpf_def, Ideal.cmp, Ideal.absf_def]
  rw [val_main_v6_apply, hs, ← Gate.neg_softplus]
  rfl

theorem out_ref (x0 : A0) (x1 : A1) (x2 : A2) : val_main_v8 (F := Ideal) x0 x1 x2 = res x0 x1 x2 := by
  funext i
  obtain ⟨a, t, rfl⟩ : ∃ a t, i = ix2 a t := ⟨i 0, i 1, eq_ix2 i⟩
  have h0 : val_main_call3_call0_v0 (F := Ideal) (Shape.Idx.first h_S_) = (0 : EReal) := by
    rw [val_main_call3_call0_v0_apply, val_main_call3_call0_cst_apply, zero_bits]
  have h7 : val_main_v7 (F := Ideal) x0 x1 x2 (ix2 t a) = Scan.head (fun t => Gate.logSig (logit x0 x1 x2 a t)) t := by
    unfold val_main_v7
    simp only [Host.reduceWindowAdd, h0, Ideal.hostReduceWindowAdd_def]
    refine (Scan.reduceWindowUp_apply _ reduceWindows_S2048x16_S2048x16_w2048s1p2047_0_w1s1p0_0 t a).trans ?_
    exact congrArg (Scan.head · t) (funext fun t => gate_ref x0 x1 x2 t a)
  rw [val_main_v8_apply, ← show _ = res x0 x1 x2 (ix2 a t) from h7]
  exact congrArg _ (funext fun c => by fin_cases c <;> rfl)

end Reference

section Kernel
open Cert.FgcIdeal Cert.FgcIdeal.Gen

/-- The logarithm of the gate, as the body writes it. -/
abbrev gateK (v0 : Vec Ideal S16x2048 .f32) (v2 : Vec Ideal S16x1 .f32) : FVec Ideal S16x2048 .f32 :=
  let z : FVec Ideal S16x2048 .f32 := addf (shapeCast S16x2048 v0 shapeCasts_S16x2048_S16x2048)
    (broadcastTo S16x2048 (shapeCast S16x1 v2 shapeCasts_S16x1_S16x1) broadcasts_S16x1_S16x2048)
  let o : FVec Ideal S16x2048 .f32 := broadcast S16x2048 (Scalar.ofBits .f32 0x00000000#32)
  subf (minimumf z o) (log1p (exp (subf o (absf z))))

theorem gateK_apply (v0 : Vec Ideal S16x2048 .f32) (v2 : Vec Ideal S16x1 .f32) (a : Fin 16) (t : Fin 2048) :
    gateK v0 v2 (ix2 a t) = Gate.logSig (v0 (ix2 a t) + v2 (ix2 a 0)) := by
  unfold gateK Gate.logSig
  pointwise! [Ideal.exp_def, Ideal.addf_def, Cert.ForgetKernel.zero_bits]

/-- The body's eleven steps, from distance 1 to distance 1024. -/
theorem scan_eq (v0 : Vec Ideal S16x2048 .f32) (v2 : Vec Ideal S16x1 .f32) (a : Fin 16) (t : Fin 2048) :
    k0_pay3 (F := Ideal) (iota .tc S16x2048 32 [1] iota_S16x2048_d1_w32) (k0_pay1 v0 v2) k0_pay2 (ix2 a t)
      = Scan.head (fun t => gateK v0 v2 (ix2 a t)) t := by
  have st (s : ℕ) (hs : 0 < s) (hs' : s < 2048) (v' : FVec Ideal S16x2048 .f32)
      (hv : ∀ a t, v' (ix2 a t) = Scan.back (fun t => gateK v0 v2 (ix2 a t)) s (t.val + 2048)) (a : Fin 16) (t : Fin 2048) :=
    Scan.stepUp_apply s hs hs' rotates_S16x2048_d1 iota_S16x2048_d1_w32 v' (fun a t => gateK v0 v2 (ix2 a t)) hv a t
  have h0 : ∀ (a : Fin 16) (t : Fin 2048), gateK v0 v2 (ix2 a t) = Scan.back (fun t => gateK v0 v2 (ix2 a t)) 1 (t.val + 2048) :=
    fun a t => by rw [Scan.back_one, Scan.lead_of_lt]
  exact st 1024 (by omega) (by omega) _ (st 512 (by omega) (by omega) _ (st 256 (by omega) (by omega) _ (st 128 (by omega) (by omega) _
    (st 64 (by omega) (by omega) _ (st 32 (by omega) (by omega) _ (st 16 (by omega) (by omega) _ (st 8 (by omega) (by omega) _
    (st 4 (by omega) (by omega) _ (st 2 (by omega) (by omega) _ (st 1 (by omega) (by omega) _ h0)))))))))) a t

theorem out2_apply (x0 : Vec Ideal S16x2048 .f32) (x1 : Vec Ideal S16x1 .f32) (a : Fin 16) (t : Fin 2048) :
    out0_2 x0 x1 (ix2 a t) = Scan.head (fun t => Gate.logSig (x0 (ix2 a t) + x1 (ix2 a 0))) t := by
  unfold out0_2
  rw [View.canon_unit_zero Cert.ForgetKernel.hz]
  rw [show (View.ld x0 r0_0 : Vec Ideal S16x2048 .f32) = x0 from View.ld_unit_zero Cert.ForgetKernel.hz _ _,
    show (View.ld x1 r0_1 : Vec Ideal S16x1 .f32) = x1 from View.ld_unit_zero Cert.ForgetKernel.hz _ _]
  refine (scan_eq x0 x1 a t).trans ?_
  simp only [gateK_apply]

variable (m : (ℓ : Loc nD τ sig) → Buf (Elt Ideal) ℓ) (c : Dev nD)

/-- The activations, the gate's weight and its bias. -/
abbrev arg0 : A0 := m ((c : Thread nD τ).loc main_arg0)
abbrev arg1 : A1 := m ((c : Thread nD τ).loc main_arg1)
abbrev arg2 : A2 := m ((c : Thread nD τ).loc main_arg2)

theorem V_ff (a : Fin 16) (t : Fin 2048) : (V m c main_v2 : Vec Ideal S16x2048 .f32) (ix2 a t)
    = padded (fun a => ∑ k : Fin 1024, arg0 m c (ix2 t k) * arg1 m c (ix2 k a)) a := by
  have e : (V m c main_v2 : Vec Ideal S16x2048 .f32) = pad S16x2048 ![0, 0] ![8, 0] ![0, 0]
      (transpose S8x2048 [1, 0] (Host.dotGeneral (F := Ideal) (φ₁ := .f32) (φ₂ := .f32) dot_S2048x1024_S1024x8_S2048x8_1_0_0_1_n_n none (arg0 m c) (arg1 m c)) transposes_S2048x8_S8x2048_1_0)
      (sitofp (F := Ideal) .f32 (constantI S_ 32 0#32)) pads_S8x2048_S16x2048_080_000 h_S_ := by
    simp only [V, hostOps0, hostOps0_1, hostOps0_2, hostOps0_3, List.flatten_cons, List.flatten_nil, List.append_nil,
      List.cons_append, List.nil_append, StableHlo.TRef.unary, StableHlo.TRef.binary, StableHlo.TRef.toBuf, StableHlo.TRef.ofBuf, cast_eq]
    after_results_simp <;> rfl
  rw [e]
  exact (pad_apply' 2048 _ _ (fun i => zero_int) _ _ a t).trans (congrArg (padded · a) (funext fun b => by pointwise))

theorem V_b (a : Fin 16) (b : Fin 1) : (V m c main_v4 : Vec Ideal S16x1 .f32) (ix2 a b) = padded (fun a => arg2 m c (ix1 a)) a := by
  have e : (V m c main_v4 : Vec Ideal S16x1 .f32) = pad S16x1 ![0, 0] ![8, 0] ![0, 0]
      (shapeCast S8x1 (arg2 m c) shapeCasts_S8_S8x1) (sitofp (F := Ideal) .f32 (constantI S_ 32 0#32)) pads_S8x1_S16x1_080_000 h_S_ := by
    simp only [V, hostOps0, hostOps0_1, hostOps0_2, hostOps0_3, List.flatten_cons, List.flatten_nil, List.append_nil,
      List.cons_append, List.nil_append, StableHlo.TRef.unary, StableHlo.TRef.binary, StableHlo.TRef.toBuf, StableHlo.TRef.ofBuf, cast_eq]
    after_results_simp <;> rfl
  rw [e]
  exact (pad_apply' 1 _ _ (fun i => zero_int) _ _ a b).trans (congrArg (padded · a) (funext fun b => by pointwise))

/-- Each input block is its whole array. -/
theorem iblk_ff (t : Fin cfg0.N) : (iblk m c 0 t : Vec Ideal S16x2048 .f32) = V m c main_v2 := by
  have e : ∀ t : Fin cfg0.N, win0_0.index t = ![0, 0] := (by decide +kernel : ∀ t : Fin grid0.N, _)
  funext y; blk_simp [iblk]; refine congrArg _ ?_; blk_ext [e]

theorem iblk_b (t : Fin cfg0.N) : (iblk m c 1 t : Vec Ideal S16x1 .f32) = V m c main_v4 := by
  have e : ∀ t : Fin cfg0.N, win0_1.index t = ![0, 0] := (by decide +kernel : ∀ t : Fin grid0.N, _)
  funext y; blk_simp [iblk]; refine congrArg _ ?_; blk_ext [e]

theorem final (t₀ : Fin cfg0.N) (hw : (cfg0.win 2).WholeAt t₀) : (dats m 0 c).arrAt 2 cfg0.N = res (arg0 m c) (arg1 m c) (arg2 m c) := by
  refine (dats m 0 c).arrAt_eq_of_after_last 2 t₀ hw _ fun j => ?_
  blk_simp
  rw [after0_2]
  obtain ⟨a, b, rfl⟩ : ∃ a b, j = ix2 a b := ⟨j 0, j 1, eq_ix2 j⟩
  refine (out2_apply _ _ a b).trans ?_
  rw [iblk_ff, iblk_b, V_b]
  refine (congrArg (Scan.head · b) (funext fun s => ?_)).trans (show Scan.head (fun s => Gate.logSig (logit (arg0 m c) (arg1 m c) (arg2 m c) a s)) b = _ from rfl)
  rw [V_ff]
  rfl

end Kernel

open Cert in
/-- Kernel and reference compute the same running sums of the gates' logarithms. -/
theorem algebraic : Cert.algebraic_FgcIdeal_FgcRefIdeal := by
  intro m g m' g' _ hargs
  refine ⟨fun c => res (arg0 m c) (arg1 m c) (arg2 m c), ?_, ?_⟩
  · refine (θ_run _ _ _).mono (fun r h c => ?_) (Cert.FgcIdeal.Value.run_blocks m g)
    obtain ⟨h0, hr⟩ := h c
    exact ⟨h0.trans (final m c ⟨0, by decide +kernel⟩ (by decide +kernel)), hr⟩
  · refine (θ_run _ _ _).mono (fun r h c => ?_) (Cert.FgcRefIdeal.Value.run m' g')
    obtain ⟨h0, hr⟩ := h c
    obtain ⟨e0, e1, e2⟩ := hargs c
    refine ⟨h0.trans ?_, hr⟩
    rw [Cert.FgcRefIdeal.Read.val_main_v8_eq, e0, e1, e2]
    exact out_ref _ _ _

end Cert.FgcRun

end
-- ==== Proof.NormE.lean ====
module

public import proofs.«01_k».proof.Proof.Rms

/-! # The root-mean-square norm of a row of 1024 extended reals, and sums over its columns -/

@[expose] public section

noncomputable section

namespace Cert.NormE

open Idealize.ShloMosaic

/-- The row divided by its root mean square. -/
def nrm (x : Fin 1024 → EReal) (j : Fin 1024) : EReal :=
  x j * Ideal.rsqrt (Ideal.div (∑ l, x l * x l) ((1024 : ℝ) : EReal) + ((Cert.Rms.eps : ℝ) : EReal))

/-- A sum over the columns is the sum over the first half and the sum over the second half, in any order `σ`. -/
theorem sum_halves (f : Fin 1024 → EReal) (σ : Fin 512 ≃ Fin 512) :
    ∑ j, f j = ∑ j : Fin 512, f ⟨j.val, by omega⟩ + ∑ j : Fin 512, f ⟨512 + (σ j).val, by omega⟩ := by
  rw [Equiv.sum_comp σ fun j : Fin 512 => f ⟨512 + j.val, by omega⟩]
  exact Fin.sum_univ_add (a := 512) (b := 512) f

end Cert.NormE

end
-- ==== Proof.PatRun.lean ====
module

public import proofs.«01_k».proof.Defs
public import proofs.«01_k».proof.Proof.NormE
public import proofs.«01_k».proof.Proof.AobRef
public import proofs.«01_k».proof.Proof.Rows
public import proofs.«01_k».proof.Proof.Gen.PatIdeal.Value
public import proofs.«01_k».proof.Proof.Gen.PatRefIdeal.Read
public import Idealize.ShloMosaic.Lib.Pointwise
public import Idealize.ShloMosaic.Lib.Pipeline.ValueKit

/-! # The product after the attentions, forward: the product, its norm added to the residual stream, and the next norm

Of all extended reals, finite or not. The kernel multiplies the two attentions' columns one after the other, the second's in another order. -/

@[expose] public section

set_option maxRecDepth 16384

noncomputable section

namespace Cert.PatIdeal.Hand

open Idealize.ShloMosaic Idealize.ShloMosaic.TcCoe Cert.PatIdeal Cert.PatIdeal.Gen
open Cert.AobMath (lo hi slot)
open Cert.AobRefIdeal.Hand (Att Wt Sc Mat beside)
open Cert.PleRefIdeal.Hand (c0 c1 zeroF nF epsF)
open Cert.Rows

/-- `slot` exchanges the columns. -/
def slots : Fin 512 ≃ Fin 512 where
  toFun := slot
  invFun j := ⟨(j.val / 64 % 4 * 2 + j.val / 256) * 64 + j.val % 64, by omega⟩
  left_inv j := Fin.ext (by
    have := j.isLt
    have e0 : (j.val / 64 % 2 * 4 + j.val / 128) / 4 = j.val / 64 % 2 := by omega
    have e1 : (j.val / 64 % 2 * 4 + j.val / 128) % 4 = j.val / 128 := by omega
    generalize hA : j.val / 64 % 2 * 4 + j.val / 128 = A at e0 e1
    show (((j.val / 64 % 2 * 4 + j.val / 128) * 64 + j.val % 64) / 64 % 4 * 2 + ((j.val / 64 % 2 * 4 + j.val / 128) * 64 + j.val % 64) / 256) * 64 + ((j.val / 64 % 2 * 4 + j.val / 128) * 64 + j.val % 64) % 64 = j.val
    rw [show (j.val / 64 % 2 * 4 + j.val / 128) = A from hA, show (A * 64 + j.val % 64) / 64 = A by omega, show (A * 64 + j.val % 64) / 256 = A / 4 by omega,
      show (A * 64 + j.val % 64) % 64 = j.val % 64 by omega, e0, e1]
    omega)
  right_inv j := Fin.ext (by
    have := j.isLt
    have e0 : (j.val / 64 % 4 * 2 + j.val / 256) / 2 = j.val / 64 % 4 := by omega
    have e1 : (j.val / 64 % 4 * 2 + j.val / 256) % 2 = j.val / 256 := by omega
    generalize hA : j.val / 64 % 4 * 2 + j.val / 256 = A at e0 e1
    show (((j.val / 64 % 4 * 2 + j.val / 256) * 64 + j.val % 64) / 64 % 2 * 4 + ((j.val / 64 % 4 * 2 + j.val / 256) * 64 + j.val % 64) / 128) * 64 + ((j.val / 64 % 4 * 2 + j.val / 256) * 64 + j.val % 64) % 64 = j.val
    rw [show (j.val / 64 % 4 * 2 + j.val / 256) = A from hA, show (A * 64 + j.val % 64) / 64 = A by omega, show (A * 64 + j.val % 64) / 128 = A / 2 by omega,
      show (A * 64 + j.val % 64) % 64 = j.val % 64 by omega, e0, e1]
    omega)

/-- The two attentions' results side by side. -/
def cat (f s : Att) (r : Fin 2048) (j : Fin 1024) : EReal := if h : j.val < 512 then f (ix2 r ⟨j.val, h⟩) else s (ix2 r ⟨j.val - 512, by omega⟩)
/-- The product. -/
def mix (f s : Att) (w : Wt) (r : Fin 2048) (b : Fin 1024) : EReal := ∑ j, cat f s r j * w (ix2 j b)
/-- The residual stream after it. -/
def h1 (x : Mat) (f s : Att) (w : Wt) (g : Sc) (r : Fin 2048) (b : Fin 1024) : EReal := x (ix2 r b) + Cert.NormE.nrm (mix f s w r) b * g (ix2 0 b)
/-- The next norm. -/
def mm (x : Mat) (f s : Att) (w : Wt) (g g' : Sc) (r : Fin 2048) (b : Fin 1024) : EReal := Cert.NormE.nrm (h1 x f s w g r) b * g' (ix2 0 b)

section Reference
open Cert.PatRefIdeal.Read
variable (x : Mat) (f s : Att) (w : Wt) (g g' : Sc)

theorem mix_ref (r : Fin 2048) (b : Fin 1024) : val_main_v1 (F := Ideal) f s w (ix2 r b) = mix f s w r b := by
  have e : ∀ k, val_main_v0 (F := Ideal) f s (ix2 r k) = cat f s r k := fun k => by
    unfold val_main_v0
    exact beside f s r k
  rw [val_main_v1_apply]
  refine Finset.sum_congr rfl fun k _ => congrArg₂ (· * ·) ((congrArg _ (funext fun c => ?_)).trans (e k)) (congrArg w (funext fun c => ?_)) <;>
    fin_cases c <;> rfl

theorem h1_ref (r : Fin 2048) (b : Fin 1024) : val_main_v14 (F := Ideal) x f s w g (ix2 r b) = h1 x f s w g r b := by
  have e := mix_ref f s w r
  have e' : ∀ k, val_main_v2 (F := Ideal) f s w (ix2 r k) = mix f s w r k * mix f s w r k := fun k => by rw [val_main_v2_apply, e]; rfl
  rw [val_main_v14_apply, val_main_v13_apply, val_main_v11_apply, e, val_main_v10_apply, val_main_v9_apply, val_main_v8_apply, val_main_v7_apply,
    val_main_cst_1_apply, epsF, val_main_v6_apply, val_main_v5_apply, val_main_cst_0_apply, nF, val_main_v4_apply, val_main_v3_apply,
    val_main_cst_apply, zeroF, zero_add, val_main_v12_apply]
  have h : ∀ k, val_main_v2 (F := Ideal) f s w (Cert.PatRefIdeal.Read.idx_main_v3 (Cert.PatRefIdeal.Read.idx_main_v4 (Cert.PatRefIdeal.Read.idx_main_v10 (ix2 r b))) k)
      = mix f s w r k * mix f s w r k := fun k => (congrArg _ (funext fun c => by fin_cases c <;> rfl)).trans (e' k)
  simp only [h]
  have hg : Cert.PatRefIdeal.Read.idx_main_v12 (ix2 r b) = ix2 0 b := funext fun c => by fin_cases c <;> rfl
  rw [hg]
  rfl

theorem mm_ref (r : Fin 2048) (b : Fin 1024) : val_main_v27 (F := Ideal) x f s w g g' (ix2 r b) = mm x f s w g g' r b := by
  have e := h1_ref x f s w g r
  have e' : ∀ k, val_main_v15 (F := Ideal) x f s w g (ix2 r k) = h1 x f s w g r k * h1 x f s w g r k := fun k => by rw [val_main_v15_apply, e]; rfl
  rw [val_main_v27_apply, val_main_v26_apply, val_main_v24_apply, e, val_main_v23_apply, val_main_v22_apply, val_main_v21_apply, val_main_v20_apply,
    val_main_cst_4_apply, epsF, val_main_v19_apply, val_main_v18_apply, val_main_cst_3_apply, nF, val_main_v17_apply, val_main_v16_apply,
    val_main_cst_2_apply, zeroF, zero_add, val_main_v25_apply]
  have h : ∀ k, val_main_v15 (F := Ideal) x f s w g (Cert.PatRefIdeal.Read.idx_main_v16 (Cert.PatRefIdeal.Read.idx_main_v17 (Cert.PatRefIdeal.Read.idx_main_v23 (ix2 r b))) k)
      = h1 x f s w g r k * h1 x f s w g r k := fun k => (congrArg _ (funext fun c => by fin_cases c <;> rfl)).trans (e' k)
  simp only [h]
  have hg : Cert.PatRefIdeal.Read.idx_main_v25 (ix2 r b) = ix2 0 b := funext fun c => by fin_cases c <;> rfl
  rw [hg]
  rfl

end Reference

section Block
/-! What a block computes: `u a` is row `a` of the product. -/
variable {x0 : FVec Ideal S512x1024 .f32} {x1 x2 : FVec Ideal S512x512 .bf16} {x3 x4 : FVec Ideal S512x1024 .bf16} {x5 x6 : FVec Ideal S1x1024 .f32}

theorem pay2_at {c : Fin 512 → Fin 1024 → EReal} {w : Fin 1024 → Fin 1024 → EReal} (h1 : ∀ a k, x1 (ix2 a k) = c a (lo k))
    (h2 : ∀ a k, x2 (ix2 a k) = c a (hi (slot k))) (h3 : ∀ k b, x3 (ix2 k b) = w (lo k) b) (h4 : ∀ k b, x4 (ix2 k b) = w (hi (slot k)) b)
    (a : Fin 512) (b : Fin 1024) : k0_pay2 (F := Ideal) x1 x3 x2 x4 (ix2 a b) = ∑ j, c a j * w j b := by
  have e : ∑ j, c a j * w j b = ∑ k, c a (lo k) * w (lo k) b + ∑ k, c a (hi (slot k)) * w (hi (slot k)) b :=
    Cert.NormE.sum_halves (fun j => c a j * w j b) slots
  rw [e]
  unfold k0_pay2
  pointwise
  simp only [h1, h2, h3, h4]

variable {u : Fin 512 → Fin 1024 → EReal} (hu : ∀ a b, k0_pay2 (F := Ideal) x1 x3 x2 x4 (ix2 a b) = u a b)
include hu

theorem pay3_at (a : Fin 512) (b : Fin 1024) :
    k0_pay3 (F := Ideal) x1 x3 x2 x4 x0 x5 (ix2 a b) = x0 (ix2 a b) + Cert.NormE.nrm (u a) b * x5 (ix2 0 b) := by
  unfold k0_pay3
  generalize k0_pay2 (F := Ideal) x1 x3 x2 x4 = z at hu
  pointwise
  simp only [hu, Cert.Rms.eps_bits, Cert.Rms.n_bits]
  rfl

theorem pay1_at (a : Fin 512) (b : Fin 1024) :
    k0_pay1 (F := Ideal) (k0_pay3 (F := Ideal) x1 x3 x2 x4 x0 x5) (k0_pay4 (F := Ideal) x1 x3 x2 x4 x0 x5) (Scalar.ofBits .f32 0x358637BD#32) x6 (ix2 a b)
      = Cert.NormE.nrm (fun b => x0 (ix2 a b) + Cert.NormE.nrm (u a) b * x5 (ix2 0 b)) b * x6 (ix2 0 b) := by
  have e := fun b => pay3_at (x0 := x0) (x5 := x5) hu a b
  unfold k0_pay1 k0_pay4
  generalize k0_pay3 (F := Ideal) x1 x3 x2 x4 x0 x5 = z at e
  pointwise
  simp only [e]
  have q : (Scalar.ofBits (F := Ideal) .f32 0x358637BD#32) = ((Cert.Rms.eps : ℝ) : EReal) := Cert.Rms.eps_bits
  simp only [q, Cert.Rms.eps_bits, Cert.Rms.n_bits]
  rfl

end Block

theorem hz : (![0, 0] : Fin 2 → Nat) = fun _ => 0 := funext fun a => by match a with | ⟨0, _⟩ => rfl | ⟨1, _⟩ => rfl

section Arrays
variable (m : (ℓ : Loc nD τ sig) → Buf (Elt Ideal) ℓ) (c : Dev nD)

/-- The program's arguments. -/
abbrev a0 : Mat := m ((c : Thread nD τ).loc main_arg0)
@[inherit_doc a0] abbrev a1 : Att := m ((c : Thread nD τ).loc main_arg1)
@[inherit_doc a0] abbrev a2 : Att := m ((c : Thread nD τ).loc main_arg2)
@[inherit_doc a0] abbrev a3 : Wt := m ((c : Thread nD τ).loc main_arg3)
@[inherit_doc a0] abbrev a4 : Sc := m ((c : Thread nD τ).loc main_arg4)
@[inherit_doc a0] abbrev a5 : Sc := m ((c : Thread nD τ).loc main_arg5)

/-- The first attention's results, cast. -/
theorem V_f : (V m c main_v6 : Vec Ideal S2048x512 .bf16) = a1 m c := by
  unfold V
  after_reads_simp
  rfl

/-- The second attention's results, cast, their columns in the order of `slot`. -/
theorem V_s (r : Fin 2048) (j : Fin 512) : (V m c main_v10 : Vec Ideal S2048x512 .bf16) (ix2 r j) = a2 m c (ix2 r (slot j)) := by
  unfold V
  after_reads_simp
  pointwise
  refine congrArg (fun k => a2 m c (ix2 r k)) (Fin.ext ?_)
  show j.val / 64 % 2 * 256 + j.val / 128 * 64 + j.val % 64 = (j.val / 64 % 2 * 4 + j.val / 128) * 64 + j.val % 64
  omega

/-- The weight's rows that the first attention's columns meet, and the second's. -/
theorem V_wf (j : Fin 512) (b : Fin 1024) : (V m c main_v1 : Vec Ideal S512x1024 .bf16) (ix2 j b) = a3 m c (ix2 (lo j) b) := by
  unfold V
  after_reads_simp
  pointwise
  rfl

@[inherit_doc V_wf]
theorem V_ws (j : Fin 512) (b : Fin 1024) : (V m c main_v5 : Vec Ideal S512x1024 .bf16) (ix2 j b) = a3 m c (ix2 (hi (slot j)) b) := by
  unfold V
  after_reads_simp
  pointwise
  refine congrArg (fun k => a3 m c (ix2 k b)) (Fin.ext ?_)
  show 512 + (j.val / 64 % 2 * 256 + j.val / 128 * 64 + j.val % 64) = 512 + ((j.val / 64 % 2 * 4 + j.val / 128) * 64 + j.val % 64)
  omega

theorem iblk_x (t : Fin cfg0.N) (a : Fin 512) (b : Fin 1024) : (iblk m c 0 t : Vec Ideal S512x1024 .f32) (ix2 a b) = a0 m c (ix2 (row t.val a) b) := by
  have e : ∀ t : Fin cfg0.N, win0_0.index t = ![t.val, 0] := (by decide +kernel : ∀ t : Fin grid0.N, _)
  have hN : t.val < 4 := lt_of_lt_of_eq t.isLt (show cfg0.N = 4 from N_0)
  blk_simp [iblk]
  rw [V_main_arg0]
  refine congrArg _ ?_
  blk_ext [e]
  rw [row_val hN]; omega

theorem iblk_f (t : Fin cfg0.N) (a : Fin 512) (b : Fin 512) : (iblk m c 1 t : Vec Ideal S512x512 .bf16) (ix2 a b) = a1 m c (ix2 (row t.val a) b) := by
  have e : ∀ t : Fin cfg0.N, win0_1.index t = ![t.val, 0] := (by decide +kernel : ∀ t : Fin grid0.N, _)
  have hN : t.val < 4 := lt_of_lt_of_eq t.isLt (show cfg0.N = 4 from N_0)
  blk_simp [iblk]
  rw [← V_f]
  refine congrArg _ ?_
  blk_ext [e]
  rw [row_val hN]; omega

theorem iblk_s (t : Fin cfg0.N) (a : Fin 512) (b : Fin 512) : (iblk m c 2 t : Vec Ideal S512x512 .bf16) (ix2 a b) = (V m c main_v10 : Vec Ideal S2048x512 .bf16) (ix2 (row t.val a) b) := by
  have e : ∀ t : Fin cfg0.N, win0_2.index t = ![t.val, 0] := (by decide +kernel : ∀ t : Fin grid0.N, _)
  have hN : t.val < 4 := lt_of_lt_of_eq t.isLt (show cfg0.N = 4 from N_0)
  blk_simp [iblk]
  refine congrArg _ ?_
  blk_ext [e]
  rw [row_val hN]; omega

theorem iblk_wf (t : Fin cfg0.N) : (iblk m c 3 t : Vec Ideal S512x1024 .bf16) = (V m c main_v1 : Vec Ideal S512x1024 .bf16) := by
  have e : ∀ t : Fin cfg0.N, win0_3.index t = ![0, 0] := (by decide +kernel : ∀ t : Fin grid0.N, _)
  funext y; blk_simp [iblk]; refine congrArg _ ?_; blk_ext [e]

theorem iblk_ws (t : Fin cfg0.N) : (iblk m c 4 t : Vec Ideal S512x1024 .bf16) = (V m c main_v5 : Vec Ideal S512x1024 .bf16) := by
  have e : ∀ t : Fin cfg0.N, win0_4.index t = ![0, 0] := (by decide +kernel : ∀ t : Fin grid0.N, _)
  funext y; blk_simp [iblk]; refine congrArg _ ?_; blk_ext [e]

theorem iblk_g (t : Fin cfg0.N) : (iblk m c 5 t : Vec Ideal S1x1024 .f32) = a4 m c := by
  have e : ∀ t : Fin cfg0.N, win0_5.index t = ![0, 0] := (by decide +kernel : ∀ t : Fin grid0.N, _)
  have ea : a4 m c = (V m c main_arg4 : Vec Ideal S1x1024 .f32) := (V_main_arg4 m c).symm
  rw [ea]
  funext y; blk_simp [iblk]; refine congrArg _ ?_; blk_ext [e]

theorem iblk_g' (t : Fin cfg0.N) : (iblk m c 6 t : Vec Ideal S1x1024 .f32) = a5 m c := by
  have e : ∀ t : Fin cfg0.N, win0_6.index t = ![0, 0] := (by decide +kernel : ∀ t : Fin grid0.N, _)
  have ea : a5 m c = (V m c main_arg5 : Vec Ideal S1x1024 .f32) := (V_main_arg5 m c).symm
  rw [ea]
  funext y; blk_simp [iblk]; refine congrArg _ ?_; blk_ext [e]

/-- The product of a grid point's rows. -/
theorem mix_blk (t : Fin cfg0.N) (a : Fin 512) (b : Fin 1024) :
    k0_pay2 (F := Ideal) (iblk m c 1 t) (iblk m c 3 t) (iblk m c 2 t) (iblk m c 4 t) (ix2 a b) = mix (a1 m c) (a2 m c) (a3 m c) (row t.val a) b := by
  refine pay2_at (c := fun a => cat (a1 m c) (a2 m c) (row t.val a)) (w := fun j b => a3 m c (ix2 j b)) (fun a k => ?_) (fun a k => ?_)
    (fun k b => (congrFun (iblk_wf m c t) _).trans (V_wf m c k b)) (fun k b => (congrFun (iblk_ws m c t) _).trans (V_ws m c k b)) a b
  · rw [iblk_f]
    unfold cat
    rw [dif_pos (show (lo k).val < 512 from k.isLt)]
    rfl
  · rw [iblk_s, V_s]
    unfold cat
    rw [dif_neg (by show ¬ 512 + (slot k).val < 512; omega)]
    exact congrArg (fun j : Fin 512 => a2 m c (ix2 (row t.val a) j)) (show slot k = ⟨512 + (slot k).val - 512, by omega⟩ from Fin.ext (by
      show (slot k).val = 512 + (slot k).val - 512
      omega))

theorem h1_blk (t : Fin cfg0.N) (a : Fin 512) (b : Fin 1024) :
    k0_pay3 (F := Ideal) (iblk m c 1 t) (iblk m c 3 t) (iblk m c 2 t) (iblk m c 4 t) (iblk m c 0 t) (iblk m c 5 t) (ix2 a b)
      = h1 (a0 m c) (a1 m c) (a2 m c) (a3 m c) (a4 m c) (row t.val a) b := by
  rw [pay3_at (mix_blk m c t), iblk_x, iblk_g]
  rfl

theorem mm_blk (t : Fin cfg0.N) (a : Fin 512) (b : Fin 1024) :
    k0_pay1 (F := Ideal) (k0_pay3 (F := Ideal) (iblk m c 1 t) (iblk m c 3 t) (iblk m c 2 t) (iblk m c 4 t) (iblk m c 0 t) (iblk m c 5 t))
      (k0_pay4 (F := Ideal) (iblk m c 1 t) (iblk m c 3 t) (iblk m c 2 t) (iblk m c 4 t) (iblk m c 0 t) (iblk m c 5 t)) (Scalar.ofBits .f32 0x358637BD#32)
      (iblk m c 6 t) (ix2 a b)
      = mm (a0 m c) (a1 m c) (a2 m c) (a3 m c) (a4 m c) (a5 m c) (row t.val a) b := by
  rw [pay1_at (mix_blk m c t), iblk_g, iblk_g']
  simp only [iblk_x]
  rfl

/-- The three result arrays. -/
def res0 (f s : Att) (w : Wt) : FVec Ideal S2048x1024 .f32 := fun i => mix f s w (c0 i) (c1 i)
@[inherit_doc res0] def res1 (x : Mat) (f s : Att) (w : Wt) (g : Sc) : FVec Ideal S2048x1024 .f32 := fun i => h1 x f s w g (c0 i) (c1 i)
@[inherit_doc res0] def res2 (x : Mat) (f s : Att) (w : Wt) (g g' : Sc) : FVec Ideal S2048x1024 .bf16 := fun i => mm x f s w g g' (c0 i) (c1 i)

theorem arr7 : (dats m 0 c).arrAt 7 cfg0.N = res0 (a1 m c) (a2 m c) (a3 m c) := by
  have e : ∀ t : Fin cfg0.N, win0_7.index t = ![t.val, 0] := (by decide +kernel : ∀ t : Fin grid0.N, _)
  refine (dats m 0 c).arrAt_eq_of_covers 7 _ (by decide +kernel) fun t hf y => ?_
  have hN : t.val < 4 := lt_of_lt_of_eq t.isLt (show cfg0.N = 4 from N_0)
  blk_simp
  rw [after0_7]
  obtain ⟨a, b, rfl⟩ : ∃ a b, y = ix2 a b := ⟨y 0, y 1, eq_ix2 y⟩
  unfold out0_7
  rw [View.canon_unit_zero hz]
  simp only [View.ld_unit_zero (S := S512x1024) hz, View.ld_unit_zero (S := S512x512) hz]
  refine (mix_blk m c t a b).trans ?_
  refine (show res0 (a1 m c) (a2 m c) (a3 m c) (ix2 (row t.val a) b) = _ from congrArg _ ?_)
  blk_ext [e]
  rw [row_val hN]; omega

theorem arr8 : (dats m 0 c).arrAt 8 cfg0.N = res1 (a0 m c) (a1 m c) (a2 m c) (a3 m c) (a4 m c) := by
  have e : ∀ t : Fin cfg0.N, win0_8.index t = ![t.val, 0] := (by decide +kernel : ∀ t : Fin grid0.N, _)
  refine (dats m 0 c).arrAt_eq_of_covers 8 _ (by decide +kernel) fun t hf y => ?_
  have hN : t.val < 4 := lt_of_lt_of_eq t.isLt (show cfg0.N = 4 from N_0)
  blk_simp
  rw [after0_8]
  obtain ⟨a, b, rfl⟩ : ∃ a b, y = ix2 a b := ⟨y 0, y 1, eq_ix2 y⟩
  unfold out0_8
  rw [View.canon_unit_zero hz]
  simp only [View.ld_unit_zero (S := S512x1024) hz, View.ld_unit_zero (S := S512x512) hz, View.ld_unit_zero (S := S1x1024) hz]
  refine (h1_blk m c t a b).trans ?_
  refine (show res1 (a0 m c) (a1 m c) (a2 m c) (a3 m c) (a4 m c) (ix2 (row t.val a) b) = _ from congrArg _ ?_)
  blk_ext [e]
  rw [row_val hN]; omega

theorem arr9 : (dats m 0 c).arrAt 9 cfg0.N = res2 (a0 m c) (a1 m c) (a2 m c) (a3 m c) (a4 m c) (a5 m c) := by
  have e : ∀ t : Fin cfg0.N, win0_9.index t = ![t.val, 0] := (by decide +kernel : ∀ t : Fin grid0.N, _)
  refine (dats m 0 c).arrAt_eq_of_covers 9 _ (by decide +kernel) fun t hf y => ?_
  have hN : t.val < 4 := lt_of_lt_of_eq t.isLt (show cfg0.N = 4 from N_0)
  blk_simp
  rw [after0_9]
  obtain ⟨a, b, rfl⟩ : ∃ a b, y = ix2 a b := ⟨y 0, y 1, eq_ix2 y⟩
  unfold out0_9
  rw [View.canon_unit_zero hz]
  simp only [View.ld_unit_zero (S := S512x1024) hz, View.ld_unit_zero (S := S512x512) hz, View.ld_unit_zero (S := S1x1024) hz]
  refine (mm_blk m c t a b).trans ?_
  refine (show res2 (a0 m c) (a1 m c) (a2 m c) (a3 m c) (a4 m c) (a5 m c) (ix2 (row t.val a) b) = _ from congrArg _ ?_)
  blk_ext [e]
  rw [row_val hN]; omega

end Arrays

/-- Kernel and reference compute the same three arrays. -/
theorem algebraic : Cert.algebraic_PatIdeal_PatRefIdeal := by
  intro m g m' g' _ hargs
  refine ⟨fun c => res0 (a1 m c) (a2 m c) (a3 m c), fun c => res1 (a0 m c) (a1 m c) (a2 m c) (a3 m c) (a4 m c),
    fun c => res2 (a0 m c) (a1 m c) (a2 m c) (a3 m c) (a4 m c) (a5 m c), ?_, ?_⟩
  · refine (θ_run _ _ _).mono (fun r h c => ?_) (Cert.PatIdeal.Value.run_blocks m g)
    obtain ⟨h0, h1, h2, hr⟩ := h c
    exact ⟨h0.trans (arr7 m c), h1.trans (arr8 m c), h2.trans (arr9 m c), hr⟩
  · refine (θ_run _ _ _).mono (fun r h c => ?_) (Cert.PatRefIdeal.Value.run m' g')
    obtain ⟨h0, h1, h2, hr⟩ := h c
    obtain ⟨e0, e1, e2, e3, e4, e5⟩ := hargs c
    refine ⟨h0.trans ?_, h1.trans ?_, h2.trans ?_, hr⟩
    · rw [Cert.PatRefIdeal.Read.val_main_v1_eq, e1, e2, e3]
      funext j
      rw [eq_ix2 j]
      exact mix_ref _ _ _ _ _
    · rw [Cert.PatRefIdeal.Read.val_main_v14_eq, e0, e1, e2, e3, e4]
      funext j
      rw [eq_ix2 j]
      exact h1_ref _ _ _ _ _ _ _
    · rw [Cert.PatRefIdeal.Read.val_main_v27_eq, e0, e1, e2, e3, e4, e5]
      funext j
      rw [eq_ix2 j]
      exact mm_ref _ _ _ _ _ _ _ _

end Cert.PatIdeal.Hand

end
-- ==== Proof.MlfRun.lean ====
module

public import proofs.«01_k».proof.Defs
public import proofs.«01_k».proof.Proof.NormE
public import proofs.«01_k».proof.Proof.PleRef
public import proofs.«01_k».proof.Proof.MlpOut
public import proofs.«01_k».proof.Proof.MlpRef
public import proofs.«01_k».proof.Proof.Rows
public import proofs.«01_k».proof.Proof.Gen.MlfIdeal.Value
public import proofs.«01_k».proof.Proof.Gen.MlfRefIdeal.Run
public import proofs.«01_k».proof.Proof.Gen.MlfRefIdeal.Read
public import Idealize.ShloMosaic.Lib.Pointwise
public import Idealize.ShloMosaic.Lib.Pipeline.ValueKit

/-! # The feed-forward block, forward: two products with the squared rectifier between them, and the norm added to the residual stream

Of all extended reals, finite or not. The kernel cuts the 4096 columns between the products into eight chunks. -/

@[expose] public section

set_option maxRecDepth 16384

noncomputable section

namespace Cert.MlfIdeal.Hand

open Idealize.ShloMosaic Idealize.ShloMosaic.TcCoe Cert.MlfIdeal Cert.MlfIdeal.Gen
open Cert.MlpMath (col col_val sum_cols)
open Cert.MlpIdeal.Hand (in_cols in_rows in_chunk)
open Cert.MlpRefIdeal.Hand (Mat W1 W2 Sc)
open Cert.PleRefIdeal.Hand (c0 c1 zeroF nF epsF)
open Cert.Rows

/-- The norm of the residual stream. -/
def nm (h : Mat) (g : Sc) (r : Fin 2048) (k : Fin 1024) : EReal := Cert.NormE.nrm (fun k => h (ix2 r k)) k * g (ix2 0 k)
/-- The first product. -/
def uu (h : Mat) (w : W1) (g : Sc) (r : Fin 2048) (j : Fin 4096) : EReal := ∑ k, nm h g r k * w (ix2 k j)
/-- The second product, of the squared rectifier. -/
def yy (h : Mat) (w : W1) (w' : W2) (g : Sc) (r : Fin 2048) (b : Fin 1024) : EReal := ∑ j, max (uu h w g r j) 0 * max (uu h w g r j) 0 * w' (ix2 j b)
/-- The residual stream after it. -/
def hh (h : Mat) (w : W1) (w' : W2) (g g' : Sc) (r : Fin 2048) (b : Fin 1024) : EReal :=
  h (ix2 r b) + Cert.NormE.nrm (yy h w w' g r) b * g' (ix2 0 b)

section Reference
open Cert.MlfRefIdeal.Read
variable (h : Mat) (w : W1) (w' : W2) (g g' : Sc)

theorem nm_ref (r : Fin 2048) (b : Fin 1024) : val_main_v11 (F := Ideal) h g (ix2 r b) = nm h g r b := by
  have e' : ∀ k, val_main_v0 (F := Ideal) h (ix2 r k) = h (ix2 r k) * h (ix2 r k) := fun k => by rw [val_main_v0_apply]; rfl
  rw [val_main_v11_apply, val_main_v9_apply, val_main_v8_apply, val_main_v7_apply, val_main_v6_apply, val_main_v5_apply, val_main_cst_1_apply, epsF,
    val_main_v4_apply, val_main_v3_apply, val_main_cst_0_apply, nF, val_main_v2_apply, val_main_v1_apply, val_main_cst_apply, zeroF, zero_add,
    val_main_v10_apply]
  have e : ∀ k, val_main_v0 (F := Ideal) h (Cert.MlfRefIdeal.Read.idx_main_v1 (Cert.MlfRefIdeal.Read.idx_main_v2 (Cert.MlfRefIdeal.Read.idx_main_v8 (ix2 r b))) k)
      = h (ix2 r k) * h (ix2 r k) := fun k => (congrArg _ (funext fun c => by fin_cases c <;> rfl)).trans (e' k)
  simp only [e]
  have hg : Cert.MlfRefIdeal.Read.idx_main_v10 (ix2 r b) = ix2 0 b := funext fun c => by fin_cases c <;> rfl
  rw [hg]
  rfl

theorem uu_ref (r : Fin 2048) (j : Fin 4096) : val_main_v12 (F := Ideal) h w g (ix2 r j) = uu h w g r j := by
  rw [val_main_v12_apply]
  refine Finset.sum_congr rfl fun k _ => congrArg₂ (· * ·) ((congrArg _ (funext fun c => ?_)).trans (nm_ref h g r k)) (congrArg w (funext fun c => ?_)) <;>
    fin_cases c <;> rfl

theorem yy_ref (r : Fin 2048) (b : Fin 1024) : val_main_v15 (F := Ideal) h w w' g (ix2 r b) = yy h w w' g r b := by
  have e : ∀ j, val_main_v14 (F := Ideal) h w g (ix2 r j) = max (uu h w g r j) 0 * max (uu h w g r j) 0 := fun j => by
    rw [val_main_v14_apply, val_main_v13_apply, uu_ref, val_main_call0_v0_apply, val_main_call0_cst_apply, zeroF]
    rfl
  rw [val_main_v15_apply]
  refine Finset.sum_congr rfl fun k _ => congrArg₂ (· * ·) ((congrArg _ (funext fun c => ?_)).trans (e k)) (congrArg w' (funext fun c => ?_)) <;>
    fin_cases c <;> rfl

theorem hh_ref (r : Fin 2048) (b : Fin 1024) : val_main_v29 (F := Ideal) h w w' g g' (ix2 r b) = hh h w w' g g' r b := by
  have e := yy_ref h w w' g r
  have e' : ∀ k, val_main_v17 (F := Ideal) h w w' g (ix2 r k) = yy h w w' g r k * yy h w w' g r k := fun k => by rw [val_main_v17_apply, e]; rfl
  rw [val_main_v29_apply, val_main_v28_apply, val_main_v26_apply, e, val_main_v25_apply, val_main_v24_apply, val_main_v23_apply, val_main_v22_apply,
    val_main_cst_4_apply, epsF, val_main_v21_apply, val_main_v20_apply, val_main_cst_3_apply, nF, val_main_v19_apply, val_main_v18_apply,
    val_main_cst_2_apply, zeroF, zero_add, val_main_v27_apply]
  have h : ∀ k, val_main_v17 (F := Ideal) h w w' g (Cert.MlfRefIdeal.Read.idx_main_v18 (Cert.MlfRefIdeal.Read.idx_main_v19 (Cert.MlfRefIdeal.Read.idx_main_v25 (ix2 r b))) k)
      = yy h w w' g r k * yy h w w' g r k := fun k => (congrArg _ (funext fun c => by fin_cases c <;> rfl)).trans (e' k)
  simp only [h]
  have hg : Cert.MlfRefIdeal.Read.idx_main_v27 (ix2 r b) = ix2 0 b := funext fun c => by fin_cases c <;> rfl
  rw [hg]
  rfl

end Reference

section Block
/-! What a block computes: `p a` is row `a` of the norm, `w` and `w'` are the two weights. -/

/-- Chunk `k` of the two weights. -/
def w1C (x2 : FVec Ideal S8x1024x512 .bf16) (k : ℕ) (h : k < 8) : Vec Ideal S1x1024x512 .bf16 :=
  View.ld x2 (Rect.unit (s := S8x1024x512) ![k, 0, 0] S1x1024x512.size (in_chunk h))
@[inherit_doc w1C] def w2C (x3 : FVec Ideal S4096x1024 .bf16) (k : ℕ) (h : k < 8) : Vec Ideal S512x1024 .bf16 :=
  View.ld x3 (Rect.unit (s := S4096x1024) ![512 * k, 0] S512x1024.size (in_rows h))
/-- Chunk `k` of the first product. -/
def uC (x0 : FVec Ideal S512x1024 .bf16) (x2 : FVec Ideal S8x1024x512 .bf16) (k : ℕ) (h : k < 8) : FVec Ideal S512x512 .f32 :=
  matmul dot_S512x1024_S1024x512_S512x512_1_0_0_1_n_n none (φ₁ := .bf16) (φ₂ := .bf16) x0
    (shapeCast S1024x512 (w1C x2 k h)
      shapeCasts_S1x1024x512_S1024x512) (constant S512x512 .f32 0x00000000#32)
/-- Its part of the second product. -/
def yC (x0 : FVec Ideal S512x1024 .bf16) (x2 : FVec Ideal S8x1024x512 .bf16) (x3 : FVec Ideal S4096x1024 .bf16) (k : ℕ) (h : k < 8) :
    FVec Ideal S512x1024 .f32 :=
  matmul dot_S512x512_S512x1024_S512x1024_1_0_0_1_n_n none (φ₁ := .bf16) (φ₂ := .bf16)
    (truncf .bf16 (mulf (maximumf (uC x0 x2 k h) (broadcast S512x512 (Scalar.ofBits (F := Ideal) .f32 0x00000000#32)))
      (maximumf (uC x0 x2 k h) (broadcast S512x512 (Scalar.ofBits (F := Ideal) .f32 0x00000000#32)))) bitsLt_bf16_f32)
    (shapeCast S512x1024 (w2C x3 k h)
      shapeCasts_S512x1024_S512x1024) (constant S512x1024 .f32 0x00000000#32)
/-- The write of a chunk of the first product. -/
def uP (x0 : FVec Ideal S512x1024 .bf16) (x2 : FVec Ideal S8x1024x512 .bf16) (k : ℕ) (h : k < 8) : View.Piece (Elt Ideal) S512x4096 .bf16 :=
  ⟨Rect.unit (s := S512x4096) ![0, 512 * k] S512x512.size (in_cols h), (truncf .bf16 (uC x0 x2 k h) bitsLt_bf16_f32 : FVec Ideal S512x512 .bf16)⟩
/-- The eight writes, the last first. -/
def uL (x0 : FVec Ideal S512x1024 .bf16) (x2 : FVec Ideal S8x1024x512 .bf16) : List (View.Piece (Elt Ideal) S512x4096 .bf16) :=
  [uP x0 x2 7 (by decide), uP x0 x2 6 (by decide), uP x0 x2 5 (by decide), uP x0 x2 4 (by decide), uP x0 x2 3 (by decide), uP x0 x2 2 (by decide),
    uP x0 x2 1 (by decide), uP x0 x2 0 (by decide)]
/-- The whole second product: the eight parts in order. -/
def yA (x0 : FVec Ideal S512x1024 .bf16) (x2 : FVec Ideal S8x1024x512 .bf16) (x3 : FVec Ideal S4096x1024 .bf16) : FVec Ideal S512x1024 .f32 :=
  addf (addf (addf (addf (addf (addf (addf (addf (broadcast S512x1024 (Scalar.ofBits (F := Ideal) .f32 0x00000000#32))
    (yC x0 x2 x3 0 (by decide))) (yC x0 x2 x3 1 (by decide))) (yC x0 x2 x3 2 (by decide))) (yC x0 x2 x3 3 (by decide))) (yC x0 x2 x3 4 (by decide)))
    (yC x0 x2 x3 5 (by decide))) (yC x0 x2 x3 6 (by decide))) (yC x0 x2 x3 7 (by decide))

variable {x0 : FVec Ideal S512x1024 .bf16} {x1 : FVec Ideal S512x1024 .f32} {x2 : FVec Ideal S8x1024x512 .bf16} {x3 : FVec Ideal S4096x1024 .bf16}
  {x4 : FVec Ideal S1x1024 .f32}

theorem out5_eq : out0_5 (F := Ideal) x0 x1 x2 x3 x4 = View.canon (uL (k0_pay5 (F := Ideal) (View.ld x0 r0_0)) x2) := rfl
theorem pay3_eq : k0_pay3 (F := Ideal) (k0_pay26 x0 x1 x2 x3 x4) (k0_pay28 x0 x1 x2 x3 x4) (k0_pay29 x0 x1 x2 x3 x4) (View.ld x3 r0_24)
    = yA (k0_pay5 (F := Ideal) (View.ld x0 r0_0)) x2 x3 := rfl
theorem pay5_eq : k0_pay5 (F := Ideal) (View.ld x0 r0_0) = x0 := by
  rw [View.ld_unit_zero (S := S512x1024) (funext fun a => by match a with | ⟨0, _⟩ => rfl | ⟨1, _⟩ => rfl)]
  unfold k0_pay5
  exact shapeCast_self _ _

variable {p : Fin 512 → Fin 1024 → EReal} {w : Fin 1024 → Fin 4096 → EReal} {w' : Fin 4096 → Fin 1024 → EReal}
  (h0 : ∀ a k, x0 (ix2 a k) = p a k) (h2 : ∀ (k : Fin 8) b l, x2 (ix3 k b l) = w b (col k.val l)) (h3 : ∀ j b, x3 (ix2 j b) = w' j b)

include h2 in
theorem w1C_at (k : ℕ) (h : k < 8) (z : Fin 1) (b : Fin 1024) (l : Fin 512) : w1C x2 k h (ix3 z b l) = w b (col k l) := by
  rw [← h2 ⟨k, h⟩]
  unfold w1C View.ld
  refine congrArg x2 ?_
  funext d
  match d with
  | ⟨0, _⟩ => exact Fin.ext (by show k + 1 * z.val = k; omega)
  | ⟨1, _⟩ => exact Fin.ext (by show 0 + 1 * b.val = b.val; omega)
  | ⟨2, _⟩ => exact Fin.ext (by show 0 + 1 * l.val = l.val; omega)

section
include h0 h2

theorem uC_at (k : ℕ) (h : k < 8) (a l : Fin 512) : uC x0 x2 k h (ix2 a l) = ∑ i, p a i * w i (col k l) := by
  have e := fun z b => w1C_at h2 k h z b l
  unfold uC
  generalize (w1C x2 k h) = z at e
  pointwise
  simp only [h0, e]

/-- The eight writes leave the first product at every column. -/
theorem u_at (a : Fin 512) (j : Fin 4096) : View.canon (uL x0 x2) (ix2 a j) = (∑ i, p a i * w i j : EReal) := by
  have hk : ∀ (k : ℕ) (h : k < 8) (q : View.Piece (Elt Ideal) S512x4096 .bf16), q = uP x0 x2 k h →
      ∀ x : q.1.shape.Idx, q.1.emb x = ix2 a j → q.2 x = ((∑ i, p a i * w i j : EReal) : Elt Ideal .bf16) := by
    rintro k h _ rfl x hx
    obtain ⟨a', l, rfl⟩ : ∃ (a' l : Fin 512), x = ix2 a' l := ⟨x 0, x 1, eq_ix2 x⟩
    have h0' : 0 + 1 * a'.val = a.val := congrArg (fun i : S512x4096.Idx => (i 0).val) hx
    have h1' : 512 * k + 1 * l.val = j.val := congrArg (fun i : S512x4096.Idx => (i 1).val) hx
    obtain rfl : a' = a := Fin.ext (by omega)
    obtain rfl : col k l = j := Fin.ext (by rw [col_val h]; omega)
    exact uC_at h0 h2 k h a' l
  have hc : ∀ (k : ℕ) (h : k < 8), 512 * k ≤ j.val → j.val < 512 * k + 512 → (ix2 a j : S512x4096.Idx) ∈ (uP x0 x2 k h).1.set := by
    intro k h h1 h2
    show _ ∈ (Rect.unit (s := S512x4096) ![0, 512 * k] S512x512.size (in_cols h)).set
    rw [Rect.mem_set_unit]
    intro d
    match d with
    | ⟨0, _⟩ => exact ⟨Nat.zero_le _, by show a.val < 0 + 512; omega⟩
    | ⟨1, _⟩ => exact ⟨h1, h2⟩
  have hin : ∀ (k : ℕ) (h : k < 8), uP x0 x2 k h ∈ uL x0 x2 := by
    intro k h
    interval_cases k <;> simp [uL]
  refine View.canon_eq_of_allAt _ _ _ ?_ fun p hp => ?_
  · have hj := j.isLt
    exact ⟨_, hin (j.val / 512) (by omega), hc _ (by omega) (by omega) (by omega)⟩
  · simp only [uL, List.mem_cons, List.not_mem_nil, or_false] at hp
    rcases hp with h | h | h | h | h | h | h | h <;> exact hk _ _ p h

include h3

theorem yC_at (k : ℕ) (h : k < 8) (a : Fin 512) (b : Fin 1024) :
    yC x0 x2 x3 k h (ix2 a b) = ∑ l, max (∑ i, p a i * w i (col k l)) 0 * max (∑ i, p a i * w i (col k l)) 0 * w' (col k l) b := by
  have e := uC_at h0 h2 k h a
  have e' : ∀ l, (w2C x3 k h) (ix2 l b) = w' (col k l) b :=
    fun l => by
      rw [← h3]
      unfold w2C View.ld
      refine congrArg x3 ?_
      funext d
      match d with
      | ⟨0, _⟩ => exact Fin.ext (by show 512 * k + 1 * l.val = (col k l).val; rw [col_val h]; omega)
      | ⟨1, _⟩ => exact Fin.ext (by show 0 + 1 * b.val = b.val; omega)
  unfold yC
  generalize uC x0 x2 k h = z at e
  generalize (w2C x3 k h) = z' at e'
  pointwise
  simp only [e, e']

theorem y_at (a : Fin 512) (b : Fin 1024) :
    yA x0 x2 x3 (ix2 a b) = ∑ j, max (∑ i, p a i * w i j) 0 * max (∑ i, p a i * w i j) 0 * w' j b := by
  have e : ∀ i, yA x0 x2 x3 i = (((((((Ideal.ofBits .f32 0x00000000#32 + yC x0 x2 x3 0 (by decide) i) + yC x0 x2 x3 1 (by decide) i)
      + yC x0 x2 x3 2 (by decide) i) + yC x0 x2 x3 3 (by decide) i) + yC x0 x2 x3 4 (by decide) i)
      + yC x0 x2 x3 5 (by decide) i) + yC x0 x2 x3 6 (by decide) i + yC x0 x2 x3 7 (by decide) i : EReal) := fun i => by
    unfold yA
    pointwise
  rw [e]
  simp only [yC_at h0 h2 h3]
  rw [show Ideal.ofBits .f32 0x00000000#32 = ((0 : ℝ) : EReal) from Ideal.ofBits_zero_f32, EReal.coe_zero, sum_cols, Fin.sum_univ_eight, zero_add]
  rfl
end

theorem pay4_at {u : Fin 512 → Fin 1024 → EReal} {z0 : FVec Ideal S512x1024 .bf16} {z1 : FVec Ideal S512x1024 .f32} {z2 : FVec Ideal S1024x512 .bf16}
    {z3 : FVec Ideal S512x1024 .bf16} (hu : ∀ a b, k0_pay3 (F := Ideal) z0 z1 z2 z3 (ix2 a b) = u a b) (a : Fin 512) (b : Fin 1024) :
    k0_pay4 (F := Ideal) z0 z1 z2 z3 x1 x4 (ix2 a b) = x1 (ix2 a b) + Cert.NormE.nrm (u a) b * x4 (ix2 0 b) := by
  unfold k0_pay4
  generalize k0_pay3 (F := Ideal) z0 z1 z2 z3 = z at hu
  pointwise
  simp only [hu, Cert.Rms.eps_bits, Cert.Rms.n_bits]
  rfl

end Block

theorem hz : (![0, 0] : Fin 2 → Nat) = fun _ => 0 := funext fun a => by match a with | ⟨0, _⟩ => rfl | ⟨1, _⟩ => rfl
theorem ld_rows (x : Vec Ideal S512x1024 .f32) : (View.ld x r0_0 : Vec Ideal S512x1024 .f32) = x := by rw [View.ld_unit_zero (S := S512x1024) hz]
theorem ld_scale (x : Vec Ideal S1x1024 .f32) : (View.ld x r0_25 : Vec Ideal S1x1024 .f32) = x := by rw [View.ld_unit_zero (S := S1x1024) hz]

section Arrays
variable (m : (ℓ : Loc nD τ sig) → Buf (Elt Ideal) ℓ) (c : Dev nD)

/-- The program's arguments. -/
abbrev a0 : Mat := m ((c : Thread nD τ).loc main_arg0)
@[inherit_doc a0] abbrev a1 : W1 := m ((c : Thread nD τ).loc main_arg1)
@[inherit_doc a0] abbrev a2 : W2 := m ((c : Thread nD τ).loc main_arg2)
@[inherit_doc a0] abbrev a3 : Sc := m ((c : Thread nD τ).loc main_arg3)
@[inherit_doc a0] abbrev a4 : Sc := m ((c : Thread nD τ).loc main_arg4)

/-- The norm, which the host computes by the reference's lines. -/
theorem V_m : (V m c main_v15 : Vec Ideal S2048x1024 .bf16) = Cert.MlfRefIdeal.Read.val_main_v11 (F := Ideal) (a0 m c) (a3 m c) := by
  unfold V
  after_reads_simp
  rfl

/-- The second weight's cast. -/
theorem V_w2 : (V m c main_v16 : Vec Ideal S4096x1024 .bf16) = a2 m c := by
  unfold V
  after_reads_simp
  rfl

/-- The first weight, cut into chunks of 512 columns. -/
theorem V_w1 (k : Fin 8) (b : Fin 1024) (l : Fin 512) : (V m c main_v12 : Vec Ideal S8x1024x512 .bf16) (ix3 k b l) = a1 m c (ix2 b (col k.val l)) := by
  unfold V
  after_reads_simp
  pointwise
  refine congrArg (fun j => a1 m c (ix2 b j)) (Fin.ext ?_)
  rw [col_val k.isLt]
  exact congrArg (· + l.val) (Nat.mul_comm _ _)

theorem iblk_m (t : Fin cfg0.N) (a : Fin 512) (b : Fin 1024) : (iblk m c 0 t : Vec Ideal S512x1024 .bf16) (ix2 a b) = nm (a0 m c) (a3 m c) (row t.val a) b := by
  have e : ∀ t : Fin cfg0.N, win0_0.index t = ![t.val, 0] := (by decide +kernel : ∀ t : Fin grid0.N, _)
  have hN : t.val < 4 := lt_of_lt_of_eq t.isLt (show cfg0.N = 4 from N_0)
  blk_simp [iblk]
  rw [← nm_ref, ← V_m]
  refine congrArg _ ?_
  blk_ext [e]
  rw [row_val hN]; omega

theorem iblk_h (t : Fin cfg0.N) (a : Fin 512) (b : Fin 1024) : (iblk m c 1 t : Vec Ideal S512x1024 .f32) (ix2 a b) = a0 m c (ix2 (row t.val a) b) := by
  have e : ∀ t : Fin cfg0.N, win0_1.index t = ![t.val, 0] := (by decide +kernel : ∀ t : Fin grid0.N, _)
  have hN : t.val < 4 := lt_of_lt_of_eq t.isLt (show cfg0.N = 4 from N_0)
  blk_simp [iblk]
  rw [V_main_arg0]
  refine congrArg _ ?_
  blk_ext [e]
  rw [row_val hN]; omega

theorem iblk_w1 (t : Fin cfg0.N) : (iblk m c 2 t : Vec Ideal S8x1024x512 .bf16) = (V m c main_v12 : Vec Ideal S8x1024x512 .bf16) := by
  have e : ∀ t : Fin cfg0.N, win0_2.index t = ![0, 0, 0] := (by decide +kernel : ∀ t : Fin grid0.N, _)
  funext y; blk_simp [iblk]; refine congrArg _ ?_; blk_ext [e]

theorem iblk_w2 (t : Fin cfg0.N) : (iblk m c 3 t : Vec Ideal S4096x1024 .bf16) = a2 m c := by
  have e : ∀ t : Fin cfg0.N, win0_3.index t = ![0, 0] := (by decide +kernel : ∀ t : Fin grid0.N, _)
  rw [← V_w2]
  funext y; blk_simp [iblk]; refine congrArg _ ?_; blk_ext [e]

theorem iblk_g (t : Fin cfg0.N) : (iblk m c 4 t : Vec Ideal S1x1024 .f32) = a4 m c := by
  have e : ∀ t : Fin cfg0.N, win0_4.index t = ![0, 0] := (by decide +kernel : ∀ t : Fin grid0.N, _)
  have ea : a4 m c = (V m c main_arg4 : Vec Ideal S1x1024 .f32) := (V_main_arg4 m c).symm
  rw [ea]
  funext y; blk_simp [iblk]; refine congrArg _ ?_; blk_ext [e]

theorem u_blk (t : Fin cfg0.N) (a : Fin 512) (j : Fin 4096) :
    out0_5 (F := Ideal) (iblk m c 0 t) (iblk m c 1 t) (iblk m c 2 t) (iblk m c 3 t) (iblk m c 4 t) (ix2 a j)
      = (uu (a0 m c) (a1 m c) (a3 m c) (row t.val a) j : EReal) := by
  rw [out5_eq, pay5_eq]
  exact u_at (p := fun a => nm (a0 m c) (a3 m c) (row t.val a)) (w := fun k j => a1 m c (ix2 k j)) (iblk_m m c t)
    (fun k b l => (congrFun (iblk_w1 m c t) _).trans (V_w1 m c k b l)) a j

theorem y_blk (t : Fin cfg0.N) (a : Fin 512) (b : Fin 1024) :
    k0_pay3 (F := Ideal) (k0_pay26 (iblk m c 0 t) (iblk m c 1 t) (iblk m c 2 t) (iblk m c 3 t) (iblk m c 4 t))
        (k0_pay28 (iblk m c 0 t) (iblk m c 1 t) (iblk m c 2 t) (iblk m c 3 t) (iblk m c 4 t))
        (k0_pay29 (iblk m c 0 t) (iblk m c 1 t) (iblk m c 2 t) (iblk m c 3 t) (iblk m c 4 t)) (View.ld (iblk m c 3 t : Vec Ideal S4096x1024 .bf16) r0_24) (ix2 a b)
      = yy (a0 m c) (a1 m c) (a2 m c) (a3 m c) (row t.val a) b := by
  refine (congrFun (pay3_eq (x0 := iblk m c 0 t) (x1 := iblk m c 1 t) (x2 := iblk m c 2 t) (x3 := iblk m c 3 t) (x4 := iblk m c 4 t)) (ix2 a b)).trans ?_
  rw [pay5_eq]
  exact y_at (p := fun a => nm (a0 m c) (a3 m c) (row t.val a)) (w := fun k j => a1 m c (ix2 k j)) (w' := fun j b => a2 m c (ix2 j b)) (iblk_m m c t)
    (fun k b l => (congrFun (iblk_w1 m c t) _).trans (V_w1 m c k b l)) (fun j b => congrFun (iblk_w2 m c t) _) a b

/-- The three result arrays. -/
def res0 (h : Mat) (w : W1) (g : Sc) : FVec Ideal S2048x4096 .bf16 := fun i => uu h w g (c0 i) (c1 i)
@[inherit_doc res0] def res1 (h : Mat) (w : W1) (w' : W2) (g : Sc) : FVec Ideal S2048x1024 .f32 := fun i => yy h w w' g (c0 i) (c1 i)
@[inherit_doc res0] def res2 (h : Mat) (w : W1) (w' : W2) (g g' : Sc) : FVec Ideal S2048x1024 .f32 := fun i => hh h w w' g g' (c0 i) (c1 i)

theorem arr5 : (dats m 0 c).arrAt 5 cfg0.N = res0 (a0 m c) (a1 m c) (a3 m c) := by
  have e : ∀ t : Fin cfg0.N, win0_5.index t = ![t.val, 0] := (by decide +kernel : ∀ t : Fin grid0.N, _)
  refine (dats m 0 c).arrAt_eq_of_covers 5 _ (by decide +kernel) fun t hf y => ?_
  have hN : t.val < 4 := lt_of_lt_of_eq t.isLt (show cfg0.N = 4 from N_0)
  blk_simp
  rw [after0_5]
  obtain ⟨a, b, rfl⟩ : ∃ a b, y = ix2 a b := ⟨y 0, y 1, eq_ix2 y⟩
  refine (u_blk m c t a b).trans ?_
  refine (show res0 (a0 m c) (a1 m c) (a3 m c) (ix2 (row t.val a) b) = _ from congrArg _ ?_)
  blk_ext [e]
  rw [row_val hN]; omega

theorem arr6 : (dats m 0 c).arrAt 6 cfg0.N = res1 (a0 m c) (a1 m c) (a2 m c) (a3 m c) := by
  have e : ∀ t : Fin cfg0.N, win0_6.index t = ![t.val, 0] := (by decide +kernel : ∀ t : Fin grid0.N, _)
  refine (dats m 0 c).arrAt_eq_of_covers 6 _ (by decide +kernel) fun t hf y => ?_
  have hN : t.val < 4 := lt_of_lt_of_eq t.isLt (show cfg0.N = 4 from N_0)
  blk_simp
  rw [after0_6]
  obtain ⟨a, b, rfl⟩ : ∃ a b, y = ix2 a b := ⟨y 0, y 1, eq_ix2 y⟩
  unfold out0_6
  rw [View.canon_unit_zero hz]
  refine (y_blk m c t a b).trans ?_
  refine (show res1 (a0 m c) (a1 m c) (a2 m c) (a3 m c) (ix2 (row t.val a) b) = _ from congrArg _ ?_)
  blk_ext [e]
  rw [row_val hN]; omega

theorem arr7 : (dats m 0 c).arrAt 7 cfg0.N = res2 (a0 m c) (a1 m c) (a2 m c) (a3 m c) (a4 m c) := by
  have e : ∀ t : Fin cfg0.N, win0_7.index t = ![t.val, 0] := (by decide +kernel : ∀ t : Fin grid0.N, _)
  refine (dats m 0 c).arrAt_eq_of_covers 7 _ (by decide +kernel) fun t hf y => ?_
  have hN : t.val < 4 := lt_of_lt_of_eq t.isLt (show cfg0.N = 4 from N_0)
  blk_simp
  rw [after0_7]
  obtain ⟨a, b, rfl⟩ : ∃ a b, y = ix2 a b := ⟨y 0, y 1, eq_ix2 y⟩
  unfold out0_7
  rw [View.canon_unit_zero hz]
  refine (pay4_at (y_blk m c t) a b).trans ?_
  refine (congrArg₂ (fun a b : EReal => a + b) ((congrFun (ld_rows _) _).trans (iblk_h m c t a b))
    (congrArg (Cert.NormE.nrm (yy (a0 m c) (a1 m c) (a2 m c) (a3 m c) (row t.val a)) b * · : EReal → EReal) ((congrFun (ld_scale _) _).trans (congrFun (iblk_g m c t) _)))).trans ?_
  refine (show res2 (a0 m c) (a1 m c) (a2 m c) (a3 m c) (a4 m c) (ix2 (row t.val a) b) = _ from congrArg _ ?_)
  blk_ext [e]
  rw [row_val hN]; omega

end Arrays

/-- Kernel and reference compute the same three arrays. -/
theorem algebraic : Cert.algebraic_MlfIdeal_MlfRefIdeal := by
  intro m g m' g' _ hargs
  refine ⟨fun c => res0 (a0 m c) (a1 m c) (a3 m c), fun c => res1 (a0 m c) (a1 m c) (a2 m c) (a3 m c),
    fun c => res2 (a0 m c) (a1 m c) (a2 m c) (a3 m c) (a4 m c), ?_, ?_⟩
  · refine (θ_run _ _ _).mono (fun r h c => ?_) (Cert.MlfIdeal.Value.run_blocks m g)
    obtain ⟨h0, h1, h2, hr⟩ := h c
    exact ⟨h0.trans (arr5 m c), h1.trans (arr6 m c), h2.trans (arr7 m c), hr⟩
  · refine (θ_run _ _ _).mono (fun r h c => ?_) (Cert.MlfRefIdeal.Value.run m' g')
    obtain ⟨h0, h1, h2, hr⟩ := h c
    obtain ⟨e0, e1, e2, e3, e4⟩ := hargs c
    refine ⟨h0.trans ?_, h1.trans ?_, h2.trans ?_, hr⟩
    · rw [Cert.MlfRefIdeal.Read.val_main_v16_eq, e0, e1, e3]
      funext j
      rw [eq_ix2 j]
      exact uu_ref _ _ _ _ _
    · rw [Cert.MlfRefIdeal.Read.val_main_v15_eq, e0, e1, e2, e3]
      funext j
      rw [eq_ix2 j]
      exact yy_ref _ _ _ _ _ _
    · rw [Cert.MlfRefIdeal.Read.val_main_v29_eq, e0, e1, e2, e3, e4]
      funext j
      rw [eq_ix2 j]
      exact hh_ref _ _ _ _ _ _ _

end Cert.MlfIdeal.Hand

end
-- ==== Proof.PraRun.lean ====
module

public import proofs.«01_k».proof.Defs
public import proofs.«01_k».proof.Proof.NormE
public import proofs.«01_k».proof.Proof.ForgetRun
public import proofs.«01_k».proof.Proof.PabRun
public import proofs.«01_k».proof.Proof.Rows
public import proofs.«01_k».proof.Proof.Gen.PraIdeal.Value
public import proofs.«01_k».proof.Proof.Gen.PraRefIdeal.Run
public import proofs.«01_k».proof.Proof.Gen.PraRefIdeal.Read
public import Idealize.ShloMosaic.Lib.Pointwise
public import Idealize.ShloMosaic.Lib.Pipeline.ValueKit

/-! # The norm and the product before the attentions, forward

Of all extended reals, finite or not. The kernel multiplies pieces of the weight, one of them packed with its rows in another order. -/

@[expose] public section

set_option maxRecDepth 16384

noncomputable section

namespace Cert.PraIdeal.Hand

open Idealize.ShloMosaic Idealize.ShloMosaic.TcCoe Idealize.ShloMosaic.Tactic Cert.PraIdeal Cert.PraIdeal.Gen
open Cert.AobMath (slot)
open Cert.PabMath (fox gate turn rest)
open Cert.PabIdeal.Hand (rest_lo rest_hi)
open Cert.PabRefIdeal.Hand (Mat Wt Sc)
open Cert.PleRefIdeal.Hand (c0 c1 zeroF nF epsF)
open Cert.ForgetRun (padded pad_apply' zero_int)
open Cert.Rows

/-- The scale of the queries. -/
def sc : EReal := FloatOps.ofBits (F := Ideal) .f32 0x3E000000#32
/-- The norm of the residual stream. -/
def an (x : Mat) (g : Sc) (r : Fin 2048) (k : Fin 1024) : EReal := Cert.NormE.nrm (fun k => x (ix2 r k)) k * g (ix2 0 k)
/-- The product. -/
def zz (x : Mat) (w : Wt) (g : Sc) (r : Fin 2048) (n : Fin 2312) : EReal := ∑ k, an x g r k * w (ix2 k n)
/-- The first attention's queries, scaled, keys and values. -/
def fq (x : Mat) (w : Wt) (g : Sc) (r : Fin 2048) (j : Fin 1536) : EReal := if j.val < 512 then zz x w g r (fox j) * sc else zz x w g r (fox j)
/-- The second attention's, the queries in the order of `slot`. -/
def sq (x : Mat) (w : Wt) (g : Sc) (r : Fin 2048) (j : Fin 768) : EReal := if j.val < 512 then zz x w g r (rest j) * sc else zz x w g r (rest j)
/-- The gates, eight rows of sixteen. -/
def ff (x : Mat) (w : Wt) (g : Sc) (h : Fin 16) (r : Fin 2048) : EReal := padded (fun h => zz x w g r (gate h)) h

theorem rest_fst (j : Fin 768) (h : j.val < 512) : rest j = ⟨1544 + (slot ⟨j.val, h⟩).val, by omega⟩ := Fin.ext (by
  show 1544 + (turn j).val = _
  rw [turn, dif_pos h])

theorem rest_snd (j : Fin 768) (h : ¬ j.val < 512) : rest j = ⟨2056 + (j.val - 512), by omega⟩ := Fin.ext (by
  show 1544 + (turn j).val = 2056 + (j.val - 512)
  rw [turn, dif_neg h]
  omega)

section Reference
open Cert.PraRefIdeal.Read
variable (x : Mat) (w : Wt) (g : Sc)

theorem an_ref (r : Fin 2048) (b : Fin 1024) : val_main_v11 (F := Ideal) x g (ix2 r b) = an x g r b := by
  have e' : ∀ k, val_main_v0 (F := Ideal) x (ix2 r k) = x (ix2 r k) * x (ix2 r k) := fun k => by rw [val_main_v0_apply]; rfl
  rw [val_main_v11_apply, val_main_v9_apply, val_main_v8_apply, val_main_v7_apply, val_main_v6_apply, val_main_v5_apply, val_main_cst_1_apply, epsF,
    val_main_v4_apply, val_main_v3_apply, val_main_cst_0_apply, nF, val_main_v2_apply, val_main_v1_apply, val_main_cst_apply, zeroF, zero_add,
    val_main_v10_apply]
  have e : ∀ k, val_main_v0 (F := Ideal) x (Cert.PraRefIdeal.Read.idx_main_v1 (Cert.PraRefIdeal.Read.idx_main_v2 (Cert.PraRefIdeal.Read.idx_main_v8 (ix2 r b))) k)
      = x (ix2 r k) * x (ix2 r k) := fun k => (congrArg _ (funext fun c => by fin_cases c <;> rfl)).trans (e' k)
  simp only [e]
  have hg : Cert.PraRefIdeal.Read.idx_main_v10 (ix2 r b) = ix2 0 b := funext fun c => by fin_cases c <;> rfl
  rw [hg]
  rfl

theorem zz_ref (r : Fin 2048) (n : Fin 2312) : val_main_v12 (F := Ideal) x w g (ix2 r n) = zz x w g r n := by
  rw [val_main_v12_apply]
  refine Finset.sum_congr rfl fun k _ => congrArg₂ (· * ·) ((congrArg _ (funext fun c => ?_)).trans (an_ref x g r k)) (congrArg w (funext fun c => ?_)) <;>
    fin_cases c <;> rfl

/-- The columns of the product that an index names. -/
theorem zz_idx (i : Cert.PraRefIdeal.S2048x2312.Idx) (r : Fin 2048) (n : Fin 2312) (h0 : (i 0).val = r.val) (h1 : (i 1).val = n.val) :
    val_main_v12 (F := Ideal) x w g i = zz x w g r n := by
  rw [← zz_ref]
  refine congrArg _ (funext fun c => ?_)
  match c with
  | ⟨0, _⟩ => exact Fin.ext h0
  | ⟨1, _⟩ => exact Fin.ext h1

theorem fq_ref (r : Fin 2048) (j : Fin 1536) : val_main_v30 (F := Ideal) x w g (ix2 r j) = fq x w g r j := by
  have hj := j.isLt
  show val_main_v17 (F := Ideal) x w g (ix2 r j) = _
  unfold fq val_main_v17
  split
  · next h =>
    refine (concatenate_pair_apply_left (t := Cert.PraRefIdeal.S2048x1536) (s₁ := Cert.PraRefIdeal.S2048x512) (s₂ := Cert.PraRefIdeal.S2048x1024) 1 _ _ _ _ rfl (ix2 r ⟨j.val, h⟩) fun b => ?_).trans ?_
    · match b with
      | ⟨0, _⟩ => rfl
      | ⟨1, _⟩ => rfl
    · rw [val_main_v15_apply, val_main_v14_apply, val_main_cst_2_apply, val_main_v13_apply, zz_idx x w g _ r (fox j) rfl rfl]
      rfl
  · next h =>
    refine (concatenate_pair_apply_right (t := Cert.PraRefIdeal.S2048x1536) (s₁ := Cert.PraRefIdeal.S2048x512) (s₂ := Cert.PraRefIdeal.S2048x1024) 1 _ _ _ _ rfl rfl (ix2 r ⟨j.val - 512, by omega⟩)
      (fun b hb => ?_) ?_).trans ?_
    · match b with
      | ⟨0, _⟩ => rfl
      | ⟨1, _⟩ => exact absurd rfl hb
    · show j.val - 512 + 512 = j.val
      omega
    · rw [val_main_v16_apply]
      exact zz_idx x w g _ r (fox j) rfl (by show 512 + (j.val - 512) = j.val; omega)

/-- The second attention's scaled queries. -/
theorem sq_fst (r : Fin 2048) (j : Fin 512) : val_main_v23 (F := Ideal) x w g (ix2 r j) = zz x w g r ⟨1544 + (slot j).val, by omega⟩ * sc := by
  have hr := r.isLt
  have hj := j.isLt
  rw [val_main_v23_apply, val_main_v22_apply, val_main_v21_apply, val_main_v20_apply, val_main_v19_apply, val_main_cst_3_apply, val_main_v18_apply]
  have e : (r.val * 512 + j.val) / 512 = r.val ∧ (r.val * 512 + j.val) / 128 % 4 = j.val / 128 ∧ (r.val * 512 + j.val) / 64 % 2 = j.val / 64 % 2
      ∧ (r.val * 512 + j.val) % 64 = j.val % 64 := by omega
  obtain ⟨ea, eb, ec, ed⟩ := e
  have q : (((r.val * 2 + j.val / 64 % 2) * 4 + j.val / 128) * 64 + j.val % 64) / 512 = r.val
      ∧ (((r.val * 2 + j.val / 64 % 2) * 4 + j.val / 128) * 64 + j.val % 64) % 512 = (j.val / 64 % 2 * 4 + j.val / 128) * 64 + j.val % 64 := by omega
  rw [zz_idx x w g _ r ⟨1544 + (slot j).val, by omega⟩ ?_ ?_]
  · rfl
  · show ((((r.val * 512 + j.val) / 512 * 2 + (r.val * 512 + j.val) / 64 % 2) * 4 + (r.val * 512 + j.val) / 128 % 4) * 64 + (r.val * 512 + j.val) % 64) / 512 = r.val
    rw [ea, eb, ec, ed, q.1]
  · show 1544 + ((((r.val * 512 + j.val) / 512 * 2 + (r.val * 512 + j.val) / 64 % 2) * 4 + (r.val * 512 + j.val) / 128 % 4) * 64 + (r.val * 512 + j.val) % 64) % 512
      = 1544 + ((j.val / 64 % 2 * 4 + j.val / 128) * 64 + j.val % 64)
    rw [ea, eb, ec, ed, q.2]

theorem sq_ref (r : Fin 2048) (j : Fin 768) : val_main_v31 (F := Ideal) x w g (ix2 r j) = sq x w g r j := by
  have hj := j.isLt
  show val_main_v25 (F := Ideal) x w g (ix2 r j) = _
  unfold sq val_main_v25
  split
  · next h =>
    refine (concatenate_pair_apply_left (t := Cert.PraRefIdeal.S2048x768) (s₁ := Cert.PraRefIdeal.S2048x512) (s₂ := Cert.PraRefIdeal.S2048x256) 1 _ _ _ _ rfl (ix2 r ⟨j.val, h⟩) fun b => ?_).trans ?_
    · match b with
      | ⟨0, _⟩ => rfl
      | ⟨1, _⟩ => rfl
    · rw [sq_fst, rest_fst j h]
  · next h =>
    refine (concatenate_pair_apply_right (t := Cert.PraRefIdeal.S2048x768) (s₁ := Cert.PraRefIdeal.S2048x512) (s₂ := Cert.PraRefIdeal.S2048x256) 1 _ _ _ _ rfl rfl (ix2 r ⟨j.val - 512, by omega⟩)
      (fun b hb => ?_) ?_).trans ?_
    · match b with
      | ⟨0, _⟩ => rfl
      | ⟨1, _⟩ => exact absurd rfl hb
    · show j.val - 512 + 512 = j.val
      omega
    · rw [val_main_v24_apply, rest_snd j h]
      exact zz_idx x w g _ r _ rfl rfl

theorem ff_ref (h : Fin 16) (r : Fin 2048) : val_main_v28 (F := Ideal) x w g (ix2 h r) = ff x w g h r := by
  unfold val_main_v28 ff
  refine (pad_apply' 2048 _ _ (fun i => ?_) _ _ h r).trans (congrArg (padded · h) (funext fun b => ?_))
  · rw [val_main_call0_v0_apply, val_main_c_apply]; exact zero_int
  · rw [val_main_v27_apply, val_main_v26_apply]
    exact zz_idx x w g _ r (gate b) rfl rfl

end Reference

section Block
/-! What a block computes: `p a` is row `a` of the norm. -/
variable {x0 : FVec Ideal S512x1024 .f32} {x1 : FVec Ideal S1x1024 .f32}

theorem pay4_at (a : Fin 512) (k : Fin 1024) : k0_pay4 (F := Ideal) x0 x1 (ix2 a k) = Cert.NormE.nrm (fun k => x0 (ix2 a k)) k * x1 (ix2 0 k) := by
  unfold k0_pay4
  pointwise
  simp only [Cert.Rms.eps_bits, Cert.Rms.n_bits]
  rfl

variable {p : Fin 512 → Fin 1024 → EReal} (hp : ∀ a k, k0_pay4 (F := Ideal) x0 x1 (ix2 a k) = p a k)
include hp

theorem pay5_at (v : Vec Ideal S512x1024 .bf16) (a : Fin 512) (j : Fin 512) :
    k0_pay5 (F := Ideal) x0 x1 v (ix2 a j) = (∑ k, p a k * v (ix2 j k)) * sc := by
  unfold k0_pay5
  generalize k0_pay4 (F := Ideal) x0 x1 = z at hp
  pointwise
  simp only [hp]
  rfl

theorem pay6_at (v : Vec Ideal S1024x1024 .bf16) (a : Fin 512) (j : Fin 1024) :
    k0_pay6 (F := Ideal) x0 x1 v (ix2 a j) = ∑ k, p a k * v (ix2 j k) := by
  unfold k0_pay6
  generalize k0_pay4 (F := Ideal) x0 x1 = z at hp
  pointwise
  simp only [hp]

theorem pay1_at (v : Vec Ideal S512x1024 .bf16) (a : Fin 512) (j : Fin 512) :
    k0_pay1 (F := Ideal) (k0_pay7 (F := Ideal) x0 x1 v) (k0_pay8 (F := Ideal)) (ix2 a j) = (∑ k, p a k * v (ix2 j k)) * sc := by
  unfold k0_pay1 k0_pay7 k0_pay8
  generalize k0_pay4 (F := Ideal) x0 x1 = z at hp
  pointwise
  simp only [hp]
  rfl

theorem pay2_at (v : Vec Ideal S256x1024 .bf16) (a : Fin 512) (j : Fin 256) :
    k0_pay2 (F := Ideal) (k0_pay4 (F := Ideal) x0 x1) v (ix2 a j) = ∑ k, p a k * v (ix2 j k) := by
  unfold k0_pay2
  generalize k0_pay4 (F := Ideal) x0 x1 = z at hp
  pointwise
  simp only [hp]

theorem pay3_at (v : Vec Ideal S16x1024 .bf16) (h : Fin 16) (a : Fin 512) :
    k0_pay3 (F := Ideal) (k0_pay4 (F := Ideal) x0 x1) v (ix2 h a) = ∑ k, p a k * v (ix2 h k) := by
  unfold k0_pay3
  generalize k0_pay4 (F := Ideal) x0 x1 = z at hp
  pointwise
  simp only [hp]
  exact Finset.sum_congr rfl fun k _ => mul_comm _ _

end Block

theorem hz : (![0, 0] : Fin 2 → Nat) = fun _ => 0 := funext fun a => by match a with | ⟨0, _⟩ => rfl | ⟨1, _⟩ => rfl

section Points
/-! What a grid point leaves in the results' buffers. -/
variable {F : FTy → Type} [FloatOps F] (m : (ℓ : Loc nD τ sig) → Buf (Elt F) ℓ) (c : Dev nD)

/-- The rows of the weight that a product reads. -/
def wA (y : Vec F S1536x1024 .bf16) : Vec F S512x1024 .bf16 := View.ld y (Rect.unit (s := S1536x1024) ![0, 0] S512x1024.size inb_S1536x1024_S512x1024_0_0)
@[inherit_doc wA] def wB (y : Vec F S1536x1024 .bf16) : Vec F S1024x1024 .bf16 := View.ld y (Rect.unit (s := S1536x1024) ![512, 0] S1024x1024.size inb_S1536x1024_S1024x1024_512_0)
@[inherit_doc wA] def wC (y : Vec F S784x1024 .bf16) : Vec F S512x1024 .bf16 := View.ld y (Rect.unit (s := S784x1024) ![16, 0] S512x1024.size inb_S784x1024_S512x1024_16_0)
@[inherit_doc wA] def wD (y : Vec F S784x1024 .bf16) : Vec F S256x1024 .bf16 := View.ld y (Rect.unit (s := S784x1024) ![528, 0] S256x1024.size inb_S784x1024_S256x1024_528_0)
@[inherit_doc wA] def wE (y : Vec F S784x1024 .bf16) : Vec F S16x1024 .bf16 := View.ld y (Rect.unit (s := S784x1024) ![0, 0] S16x1024.size inb_S784x1024_S16x1024_0_0)

/-- The writes of the first attention's block, and of the second's, the last first. -/
def fL (x0 : Vec F S512x1024 .f32) (x1 : Vec F S1x1024 .f32) (x2 : Vec F S1536x1024 .bf16) : List (View.Piece (Elt F) S512x1536 .bf16) :=
  [⟨Rect.unit (s := S512x1536) ![0, 512] S512x1024.size inb_S512x1536_S512x1024_0_512, k0_pay6 x0 x1 (wB x2)⟩,
    ⟨Rect.unit (s := S512x1536) ![0, 0] S512x512.size inb_S512x1536_S512x512_0_0, k0_pay5 x0 x1 (wA x2)⟩]
@[inherit_doc fL] def sL (x0 : Vec F S512x1024 .f32) (x1 : Vec F S1x1024 .f32) (x3 : Vec F S784x1024 .bf16) : List (View.Piece (Elt F) S512x768 .bf16) :=
  [⟨Rect.unit (s := S512x768) ![0, 512] S512x256.size inb_S512x768_S512x256_0_512, k0_pay2 (k0_pay4 x0 x1) (wD x3)⟩,
    ⟨Rect.unit (s := S512x768) ![0, 0] S512x512.size inb_S512x768_S512x512_0_0, k0_pay1 (k0_pay7 x0 x1 (wC x3)) k0_pay8⟩]

set_option maxHeartbeats 8000000 in
theorem outs_eq (t : Fin cfg0.N) : outsAt0 m c t = (k0_pay4 (iblk m c 0 t) (iblk m c 1 t), View.canon (fL (iblk m c 0 t) (iblk m c 1 t) (X0_2 m c t)),
    View.canon (sL (iblk m c 0 t) (iblk m c 1 t) (iblk m c 3 t)), k0_pay3 (k0_pay4 (iblk m c 0 t) (iblk m c 1 t)) (wE (iblk m c 3 t))) := by
  unfold outsAt0 out0_A_4 out0_A_5 out0_A_6 out0_A_7
  rw [View.read_writes_eq_canon _ _ _ fun y => cover0_A_4 .., View.read_writes_eq_canon _ _ _ fun y => cover0_A_5 ..,
    View.read_writes_eq_canon _ _ _ fun y => cover0_A_6 .., View.read_writes_eq_canon _ _ _ fun y => cover0_A_7 ..]
  unfold kernelRun0_A
  dsimp only
  sl_unfold_words
  rw [View.canon_unit_zero (S := S512x1024) hz, View.canon_unit_zero (S := S16x512) hz]
  simp only [View.readAt_eq_ld, (hs0_0 t).read_unread, (hs0_1 t).read_unread, (hs0_2 t).read_unread, (hs0_3 t).read_unread,
    View.ld_unit_zero (S := S512x1024) hz, View.ld_unit_zero (S := S1x1024) hz]
  rfl

end Points

section Arrays
variable (m : (ℓ : Loc nD τ sig) → Buf (Elt Ideal) ℓ) (c : Dev nD)

/-- The program's arguments. -/
abbrev a0 : Mat := m ((c : Thread nD τ).loc main_arg0)
@[inherit_doc a0] abbrev a1 : Wt := m ((c : Thread nD τ).loc main_arg1)
@[inherit_doc a0] abbrev a2 : Sc := m ((c : Thread nD τ).loc main_arg2)

/-- The weight, transposed. -/
theorem V_w (j : Fin 2312) (b : Fin 1024) : (V m c main_v1 : Vec Ideal S2312x1024 .bf16) (ix2 j b) = a1 m c (ix2 b j) := by
  unfold V
  after_reads_simp
  pointwise

/-- The packed weight: the gates' rows among sixteen. -/
theorem V_wg (h : Fin 16) (b : Fin 1024) : (V m c main_v9 : Vec Ideal S784x1024 .bf16) (ix2 ⟨h.val, by omega⟩ b)
    = padded (fun h => a1 m c (ix2 b (gate h))) h := by
  have hh := h.isLt
  unfold V padded
  after_reads_simp
  pointwise
  split
  · after_reads_simp
    pointwise
    rfl
  rw [dif_pos (show h.val - 8 < 8 by omega)]
  after_reads_simp
  pointwise

/-- … and the second attention's rows. -/
theorem V_wr (j : Fin 768) (b : Fin 1024) : (V m c main_v9 : Vec Ideal S784x1024 .bf16) (ix2 ⟨16 + j.val, by omega⟩ b) = a1 m c (ix2 b (rest j)) := by
  have hj := j.isLt
  unfold V
  after_reads_simp
  pointwise
  rw [dif_neg (show ¬ 16 + j.val < 8 by omega), dif_neg (show ¬ 16 + j.val - 8 < 8 by omega)]
  split
  · rename_i hk
    after_reads_simp
    pointwise
    exact congrArg (fun k => a1 m c (ix2 b k)) (Fin.ext (rest_lo j (by omega) _ (by omega)))
  · rename_i hk
    after_reads_simp
    pointwise
    exact congrArg (fun k => a1 m c (ix2 b k)) (Fin.ext (rest_hi j (by omega) _ (by omega)))

theorem iblk_x (t : Fin cfg0.N) (a : Fin 512) (b : Fin 1024) : (iblk m c 0 t : Vec Ideal S512x1024 .f32) (ix2 a b) = a0 m c (ix2 (row t.val a) b) := by
  have e : ∀ t : Fin cfg0.N, win0_0.index t = ![t.val, 0] := (by decide +kernel : ∀ t : Fin grid0.N, _)
  have hN : t.val < 4 := lt_of_lt_of_eq t.isLt (show cfg0.N = 4 from N_0)
  blk_simp [iblk]
  rw [V_main_arg0]
  refine congrArg _ ?_
  blk_ext [e]
  rw [row_val hN]; omega

theorem iblk_g (t : Fin cfg0.N) : (iblk m c 1 t : Vec Ideal S1x1024 .f32) = a2 m c := by
  have e : ∀ t : Fin cfg0.N, win0_1.index t = ![0, 0] := (by decide +kernel : ∀ t : Fin grid0.N, _)
  have ea : a2 m c = (V m c main_arg2 : Vec Ideal S1x1024 .f32) := (V_main_arg2 m c).symm
  rw [ea]
  funext y; blk_simp [iblk]; refine congrArg _ ?_; blk_ext [e]

theorem iblk_w (t : Fin cfg0.N) (j : Fin 1536) (b : Fin 1024) : (X0_2 m c t : Vec Ideal S1536x1024 .bf16) (ix2 j b) = a1 m c (ix2 b (fox j)) := by
  have e : ∀ t : Fin cfg0.N, win0_2.index t = ![0, 0] := (by decide +kernel : ∀ t : Fin grid0.N, _)
  rw [← V_w]
  unfold X0_2 Pipeline.Window.fill
  rw [dif_pos (moved0_2 t _)]
  blk_simp [iblk]
  refine congrArg _ ?_
  blk_ext [e]
  rfl

theorem iblk_r (t : Fin cfg0.N) : (iblk m c 3 t : Vec Ideal S784x1024 .bf16) = (V m c main_v9 : Vec Ideal S784x1024 .bf16) := by
  have e : ∀ t : Fin cfg0.N, win0_3.index t = ![0, 0] := (by decide +kernel : ∀ t : Fin grid0.N, _)
  funext y; blk_simp [iblk]; refine congrArg _ ?_; blk_ext [e]

/-- The rows of the weight that the products of a grid point read. -/
theorem wA_at (t : Fin cfg0.N) (j : Fin 512) (b : Fin 1024) : wA (X0_2 m c t) (ix2 j b) = a1 m c (ix2 b ⟨j.val, by omega⟩) := by
  refine Eq.trans ?_ (iblk_w m c t ⟨j.val, by omega⟩ b)
  unfold wA View.ld
  refine congrArg (X0_2 m c t : Vec Ideal S1536x1024 .bf16) (funext fun d => ?_)
  match d with
  | ⟨0, _⟩ => exact Fin.ext (by show 0 + 1 * j.val = j.val; omega)
  | ⟨1, _⟩ => exact Fin.ext (by show 0 + 1 * b.val = b.val; omega)

@[inherit_doc wA_at]
theorem wB_at (t : Fin cfg0.N) (j : Fin 1024) (b : Fin 1024) : wB (X0_2 m c t) (ix2 j b) = a1 m c (ix2 b ⟨512 + j.val, by omega⟩) := by
  refine Eq.trans ?_ (iblk_w m c t ⟨512 + j.val, by omega⟩ b)
  unfold wB View.ld
  refine congrArg (X0_2 m c t : Vec Ideal S1536x1024 .bf16) (funext fun d => ?_)
  match d with
  | ⟨0, _⟩ => exact Fin.ext (by show 512 + 1 * j.val = 512 + j.val; omega)
  | ⟨1, _⟩ => exact Fin.ext (by show 0 + 1 * b.val = b.val; omega)

@[inherit_doc wA_at]
theorem wC_at (t : Fin cfg0.N) (j : Fin 512) (b : Fin 1024) : wC (iblk m c 3 t) (ix2 j b) = a1 m c (ix2 b (rest ⟨j.val, by omega⟩)) := by
  rw [← V_wr, iblk_r]
  unfold wC View.ld
  refine congrArg (V m c main_v9 : Vec Ideal S784x1024 .bf16) (funext fun d => ?_)
  match d with
  | ⟨0, _⟩ => exact Fin.ext (by show 16 + 1 * j.val = 16 + j.val; omega)
  | ⟨1, _⟩ => exact Fin.ext (by show 0 + 1 * b.val = b.val; omega)

@[inherit_doc wA_at]
theorem wD_at (t : Fin cfg0.N) (j : Fin 256) (b : Fin 1024) : wD (iblk m c 3 t) (ix2 j b) = a1 m c (ix2 b (rest ⟨512 + j.val, by omega⟩)) := by
  rw [← V_wr, iblk_r]
  unfold wD View.ld
  refine congrArg (V m c main_v9 : Vec Ideal S784x1024 .bf16) (funext fun d => ?_)
  match d with
  | ⟨0, _⟩ => exact Fin.ext (by show 528 + 1 * j.val = 16 + (512 + j.val); omega)
  | ⟨1, _⟩ => exact Fin.ext (by show 0 + 1 * b.val = b.val; omega)

@[inherit_doc wA_at]
theorem wE_at (t : Fin cfg0.N) (h : Fin 16) (b : Fin 1024) : wE (iblk m c 3 t) (ix2 h b) = padded (fun h => a1 m c (ix2 b (gate h))) h := by
  rw [← V_wg, iblk_r]
  unfold wE View.ld
  refine congrArg (V m c main_v9 : Vec Ideal S784x1024 .bf16) (funext fun d => ?_)
  match d with
  | ⟨0, _⟩ => exact Fin.ext (by show 0 + 1 * h.val = h.val; omega)
  | ⟨1, _⟩ => exact Fin.ext (by show 0 + 1 * b.val = b.val; omega)

/-- The norm of a grid point's rows. -/
theorem an_blk (t : Fin cfg0.N) (a : Fin 512) (k : Fin 1024) :
    k0_pay4 (F := Ideal) (iblk m c 0 t) (iblk m c 1 t) (ix2 a k) = an (a0 m c) (a2 m c) (row t.val a) k := by
  rw [pay4_at, iblk_g]
  simp only [iblk_x]
  rfl

theorem fq_blk (t : Fin cfg0.N) (a : Fin 512) (j : Fin 1536) :
    View.canon (fL (F := Ideal) (iblk m c 0 t) (iblk m c 1 t) (X0_2 m c t)) (ix2 a j) = (fq (a0 m c) (a1 m c) (a2 m c) (row t.val a) j : EReal) := by
  have hj := j.isLt
  refine View.canon_eq_of_allAt _ _ _ (View.cover_of_tiledBy _ ![512, 512] (by sl_kernel_rfl) _) fun p hp => ?_
  simp only [fL, List.mem_cons, List.not_mem_nil, or_false] at hp
  rcases hp with rfl | rfl <;> intro y hy
  · obtain ⟨a', l, rfl⟩ : ∃ (a' : Fin 512) (l : Fin 1024), y = ix2 a' l := ⟨y 0, y 1, eq_ix2 y⟩
    have h0 : 0 + 1 * a'.val = a.val := congrArg (fun i : S512x1536.Idx => (i 0).val) hy
    have h1 : 512 + 1 * l.val = j.val := congrArg (fun i : S512x1536.Idx => (i 1).val) hy
    obtain rfl : a' = a := Fin.ext (by omega)
    obtain rfl : ⟨512 + l.val, Nat.add_lt_add_left l.isLt 512⟩ = j := Fin.ext (by show 512 + l.val = j.val; omega)
    refine (pay6_at (an_blk m c t) _ a' l).trans ?_
    unfold fq
    rw [if_neg (by show ¬ 512 + l.val < 512; omega)]
    exact Finset.sum_congr rfl fun k _ => congrArg _ (wB_at m c t l k)
  · obtain ⟨a', l, rfl⟩ : ∃ (a' l : Fin 512), y = ix2 a' l := ⟨y 0, y 1, eq_ix2 y⟩
    have h0 : 0 + 1 * a'.val = a.val := congrArg (fun i : S512x1536.Idx => (i 0).val) hy
    have h1 : 0 + 1 * l.val = j.val := congrArg (fun i : S512x1536.Idx => (i 1).val) hy
    obtain rfl : a' = a := Fin.ext (by omega)
    obtain rfl : ⟨l.val, l.isLt.trans (by decide)⟩ = j := Fin.ext (by show l.val = j.val; omega)
    refine (pay5_at (an_blk m c t) _ a' l).trans ?_
    unfold fq
    rw [if_pos l.isLt]
    exact congrArg (· * sc) (Finset.sum_congr rfl fun k _ => congrArg _ (wA_at m c t l k))

theorem sq_blk (t : Fin cfg0.N) (a : Fin 512) (j : Fin 768) :
    View.canon (sL (F := Ideal) (iblk m c 0 t) (iblk m c 1 t) (iblk m c 3 t)) (ix2 a j) = (sq (a0 m c) (a1 m c) (a2 m c) (row t.val a) j : EReal) := by
  have hj := j.isLt
  refine View.canon_eq_of_allAt _ _ _ (View.cover_of_tiledBy _ ![512, 256] (by sl_kernel_rfl) _) fun p hp => ?_
  simp only [sL, List.mem_cons, List.not_mem_nil, or_false] at hp
  rcases hp with rfl | rfl <;> intro y hy
  · obtain ⟨a', l, rfl⟩ : ∃ (a' : Fin 512) (l : Fin 256), y = ix2 a' l := ⟨y 0, y 1, eq_ix2 y⟩
    have h0 : 0 + 1 * a'.val = a.val := congrArg (fun i : S512x768.Idx => (i 0).val) hy
    have h1 : 512 + 1 * l.val = j.val := congrArg (fun i : S512x768.Idx => (i 1).val) hy
    obtain rfl : a' = a := Fin.ext (by omega)
    obtain rfl : ⟨512 + l.val, Nat.add_lt_add_left l.isLt 512⟩ = j := Fin.ext (by show 512 + l.val = j.val; omega)
    refine (pay2_at (an_blk m c t) _ a' l).trans ?_
    unfold sq
    rw [if_neg (by show ¬ 512 + l.val < 512; omega)]
    exact Finset.sum_congr rfl fun k _ => congrArg _ (wD_at m c t l k)
  · obtain ⟨a', l, rfl⟩ : ∃ (a' l : Fin 512), y = ix2 a' l := ⟨y 0, y 1, eq_ix2 y⟩
    have h0 : 0 + 1 * a'.val = a.val := congrArg (fun i : S512x768.Idx => (i 0).val) hy
    have h1 : 0 + 1 * l.val = j.val := congrArg (fun i : S512x768.Idx => (i 1).val) hy
    obtain rfl : a' = a := Fin.ext (by omega)
    obtain rfl : ⟨l.val, l.isLt.trans (by decide)⟩ = j := Fin.ext (by show l.val = j.val; omega)
    refine (pay1_at (an_blk m c t) _ a' l).trans ?_
    unfold sq
    rw [if_pos l.isLt]
    exact congrArg (· * sc) (Finset.sum_congr rfl fun k _ => congrArg _ (wC_at m c t l k))

theorem ff_blk (t : Fin cfg0.N) (h : Fin 16) (a : Fin 512) :
    k0_pay3 (F := Ideal) (k0_pay4 (F := Ideal) (iblk m c 0 t) (iblk m c 1 t)) (wE (iblk m c 3 t)) (ix2 h a)
      = ff (a0 m c) (a1 m c) (a2 m c) h (row t.val a) := by
  rw [pay3_at (an_blk m c t)]
  simp only [wE_at]
  unfold ff padded
  split
  · rfl
  · exact Finset.sum_eq_zero fun k _ => mul_zero _

/-- The four result arrays. -/
def res0 (x : Mat) (g : Sc) : FVec Ideal S2048x1024 .bf16 := fun i => an x g (c0 i) (c1 i)
@[inherit_doc res0] def res1 (x : Mat) (w : Wt) (g : Sc) : FVec Ideal S2048x1536 .bf16 := fun i => fq x w g (c0 i) (c1 i)
@[inherit_doc res0] def res2 (x : Mat) (w : Wt) (g : Sc) : FVec Ideal S2048x768 .bf16 := fun i => sq x w g (c0 i) (c1 i)
@[inherit_doc res0] def res3 (x : Mat) (w : Wt) (g : Sc) : FVec Ideal S16x2048 .f32 := fun i => ff x w g (c0 i) (c1 i)

theorem arr4 : (dats m 0 c).arrAt 4 cfg0.N = res0 (a0 m c) (a2 m c) := by
  have e : ∀ t : Fin cfg0.N, win0_4.index t = ![t.val, 0] := (by decide +kernel : ∀ t : Fin grid0.N, _)
  refine (dats m 0 c).arrAt_eq_of_covers 4 _ (by decide +kernel) fun t hf y => ?_
  have hN : t.val < 4 := lt_of_lt_of_eq t.isLt (show cfg0.N = 4 from N_0)
  blk_simp
  rw [after0_4, outs_eq]
  obtain ⟨a, b, rfl⟩ : ∃ a b, y = ix2 a b := ⟨y 0, y 1, eq_ix2 y⟩
  refine (an_blk m c t a b).trans ?_
  refine (show res0 (a0 m c) (a2 m c) (ix2 (row t.val a) b) = _ from congrArg _ ?_)
  blk_ext [e]
  rw [row_val hN]; omega

set_option maxHeartbeats 2000000 in
theorem arr5 : (dats m 0 c).arrAt 5 cfg0.N = res1 (a0 m c) (a1 m c) (a2 m c) := by
  have e : ∀ t : Fin cfg0.N, win0_5.index t = ![t.val, 0] := (by decide +kernel : ∀ t : Fin grid0.N, _)
  refine (dats m 0 c).arrAt_eq_of_covers 5 _ (by decide +kernel) fun t hf y => ?_
  have hN : t.val < 4 := lt_of_lt_of_eq t.isLt (show cfg0.N = 4 from N_0)
  blk_simp
  rw [after0_5, outs_eq]
  obtain ⟨a, b, rfl⟩ : ∃ a b, y = ix2 a b := ⟨y 0, y 1, eq_ix2 y⟩
  refine (fq_blk m c t a b).trans ?_
  refine (show res1 (a0 m c) (a1 m c) (a2 m c) (ix2 (row t.val a) b) = _ from congrArg _ ?_)
  blk_ext [e]
  rw [row_val hN]; omega

theorem arr6 : (dats m 0 c).arrAt 6 cfg0.N = res2 (a0 m c) (a1 m c) (a2 m c) := by
  have e : ∀ t : Fin cfg0.N, win0_6.index t = ![t.val, 0] := (by decide +kernel : ∀ t : Fin grid0.N, _)
  refine (dats m 0 c).arrAt_eq_of_covers 6 _ (by decide +kernel) fun t hf y => ?_
  have hN : t.val < 4 := lt_of_lt_of_eq t.isLt (show cfg0.N = 4 from N_0)
  blk_simp
  rw [after0_6, outs_eq]
  obtain ⟨a, b, rfl⟩ : ∃ a b, y = ix2 a b := ⟨y 0, y 1, eq_ix2 y⟩
  refine (sq_blk m c t a b).trans ?_
  refine (show res2 (a0 m c) (a1 m c) (a2 m c) (ix2 (row t.val a) b) = _ from congrArg _ ?_)
  blk_ext [e]
  rw [row_val hN]; omega

theorem arr7 : (dats m 0 c).arrAt 7 cfg0.N = res3 (a0 m c) (a1 m c) (a2 m c) := by
  have e : ∀ t : Fin cfg0.N, win0_7.index t = ![0, t.val] := (by decide +kernel : ∀ t : Fin grid0.N, _)
  refine (dats m 0 c).arrAt_eq_of_covers 7 _ (by decide +kernel) fun t hf y => ?_
  have hN : t.val < 4 := lt_of_lt_of_eq t.isLt (show cfg0.N = 4 from N_0)
  blk_simp
  rw [after0_7, outs_eq]
  obtain ⟨h, a, rfl⟩ : ∃ h a, y = ix2 h a := ⟨y 0, y 1, eq_ix2 y⟩
  refine (ff_blk m c t h a).trans ?_
  refine (show res3 (a0 m c) (a1 m c) (a2 m c) (ix2 h (row t.val a)) = _ from congrArg _ ?_)
  blk_ext [e]
  rw [row_val hN]; omega

end Arrays

/-- Kernel and reference compute the same four arrays. -/
theorem algebraic : Cert.algebraic_PraIdeal_PraRefIdeal := by
  intro m g m' g' _ hargs
  refine ⟨fun c => res0 (a0 m c) (a2 m c), fun c => res1 (a0 m c) (a1 m c) (a2 m c), fun c => res2 (a0 m c) (a1 m c) (a2 m c),
    fun c => res3 (a0 m c) (a1 m c) (a2 m c), ?_, ?_⟩
  · refine (θ_run _ _ _).mono (fun r h c => ?_) (Cert.PraIdeal.Value.run_blocks m g)
    obtain ⟨h0, h1, h2, h3, hr⟩ := h c
    exact ⟨h0.trans (arr4 m c), h1.trans (arr5 m c), h2.trans (arr6 m c), h3.trans (arr7 m c), hr⟩
  · refine (θ_run _ _ _).mono (fun r h c => ?_) (Cert.PraRefIdeal.Value.run m' g')
    obtain ⟨h0, h1, h2, h3, hr⟩ := h c
    obtain ⟨e0, e1, e2⟩ := hargs c
    refine ⟨h0.trans ?_, h1.trans ?_, h2.trans ?_, h3.trans ?_, hr⟩
    · rw [Cert.PraRefIdeal.Read.val_main_v29_eq, e0, e2]
      funext j
      rw [eq_ix2 j]
      exact an_ref _ _ _ _
    · rw [Cert.PraRefIdeal.Read.val_main_v30_eq, e0, e1, e2]
      funext j
      rw [eq_ix2 j]
      exact fq_ref _ _ _ _ _
    · rw [Cert.PraRefIdeal.Read.val_main_v31_eq, e0, e1, e2]
      funext j
      rw [eq_ix2 j]
      exact sq_ref _ _ _ _ _
    · rw [Cert.PraRefIdeal.Read.val_main_v28_eq, e0, e1, e2]
      funext j
      rw [eq_ix2 j]
      exact ff_ref _ _ _ _ _

end Cert.PraIdeal.Hand

end
-- ==== Proof.lean ====
module

public import proofs.«01_k».proof.Defs
public import proofs.«01_k».proof.Proof.Gen.Forget
public import proofs.«01_k».proof.Proof.Gen.Forget.Skeleton
public import proofs.«01_k».proof.Proof.Gen.Forget.Launch
public import proofs.«01_k».proof.Proof.Gen.Forget.Points
public import proofs.«01_k».proof.Proof.Gen.Forget.Frame
public import proofs.«01_k».proof.Proof.Gen.ForgetIdeal
public import proofs.«01_k».proof.Proof.Gen.ForgetIdeal.Skeleton
public import proofs.«01_k».proof.Proof.Gen.ForgetIdeal.Launch
public import proofs.«01_k».proof.Proof.Gen.ForgetIdeal.Points
public import proofs.«01_k».proof.Proof.Gen.ForgetIdeal.Frame
public import proofs.«01_k».proof.Proof.Gen.ForgetRefIdeal
public import proofs.«01_k».proof.Proof.Gen.ForgetRefIdeal.Run
public import proofs.«01_k».proof.Proof.Gen.ForgetRefIdeal.Read
public import proofs.«01_k».proof.Proof.Gen.ForgetIdeal.Value
public import proofs.«01_k».proof.Proof.Gen.Fox
public import proofs.«01_k».proof.Proof.Gen.Fox.Skeleton
public import proofs.«01_k».proof.Proof.Gen.Fox.Launch
public import proofs.«01_k».proof.Proof.Gen.Fox.Points
public import proofs.«01_k».proof.Proof.Gen.Fox.Frame
public import proofs.«01_k».proof.Proof.Gen.Fox.Loops
public import proofs.«01_k».proof.Proof.Gen.FoxIdeal
public import proofs.«01_k».proof.Proof.Gen.FoxIdeal.Skeleton
public import proofs.«01_k».proof.Proof.Gen.FoxIdeal.Launch
public import proofs.«01_k».proof.Proof.Gen.FoxIdeal.Points
public import proofs.«01_k».proof.Proof.Gen.FoxIdeal.Frame
public import proofs.«01_k».proof.Proof.Gen.FoxIdeal.Loops
public import proofs.«01_k».proof.Proof.Gen.FoxRefIdeal
public import proofs.«01_k».proof.Proof.Gen.FoxRefIdeal.Run
public import proofs.«01_k».proof.Proof.Gen.FoxRefIdeal.Read
public import proofs.«01_k».proof.Proof.Gen.PleIdeal.Value
public import proofs.«01_k».proof.Proof.Gen.Ple
public import proofs.«01_k».proof.Proof.Gen.Ple.Skeleton
public import proofs.«01_k».proof.Proof.Gen.Ple.Launch
public import proofs.«01_k».proof.Proof.Gen.Ple.Points
public import proofs.«01_k».proof.Proof.Gen.Ple.Frame
public import proofs.«01_k».proof.Proof.Gen.PleIdeal
public import proofs.«01_k».proof.Proof.Gen.PleIdeal.Skeleton
public import proofs.«01_k».proof.Proof.Gen.PleIdeal.Launch
public import proofs.«01_k».proof.Proof.Gen.PleIdeal.Points
public import proofs.«01_k».proof.Proof.Gen.PleIdeal.Frame
public import proofs.«01_k».proof.Proof.Gen.PleRefIdeal
public import proofs.«01_k».proof.Proof.Gen.PleRefIdeal.Run
public import proofs.«01_k».proof.Proof.Gen.PleRefIdeal.Read
public import proofs.«01_k».proof.Proof.Gen.MlpIdeal.Value
public import proofs.«01_k».proof.Proof.Gen.Mlp
public import proofs.«01_k».proof.Proof.Gen.Mlp.Skeleton
public import proofs.«01_k».proof.Proof.Gen.Mlp.Launch
public import proofs.«01_k».proof.Proof.Gen.Mlp.Points
public import proofs.«01_k».proof.Proof.Gen.Mlp.Frame
public import proofs.«01_k».proof.Proof.Gen.MlpIdeal
public import proofs.«01_k».proof.Proof.Gen.MlpIdeal.Skeleton
public import proofs.«01_k».proof.Proof.Gen.MlpIdeal.Launch
public import proofs.«01_k».proof.Proof.Gen.MlpIdeal.Points
public import proofs.«01_k».proof.Proof.Gen.MlpIdeal.Frame
public import proofs.«01_k».proof.Proof.Gen.MlpRefIdeal
public import proofs.«01_k».proof.Proof.Gen.MlpRefIdeal.Run
public import proofs.«01_k».proof.Proof.Gen.MlpRefIdeal.Read
public import proofs.«01_k».proof.Proof.Gen.AobIdeal.Value
public import proofs.«01_k».proof.Proof.Gen.Aob
public import proofs.«01_k».proof.Proof.Gen.Aob.Skeleton
public import proofs.«01_k».proof.Proof.Gen.Aob.Launch
public import proofs.«01_k».proof.Proof.Gen.Aob.Points
public import proofs.«01_k».proof.Proof.Gen.Aob.Frame
public import proofs.«01_k».proof.Proof.Gen.AobIdeal
public import proofs.«01_k».proof.Proof.Gen.AobIdeal.Skeleton
public import proofs.«01_k».proof.Proof.Gen.AobIdeal.Launch
public import proofs.«01_k».proof.Proof.Gen.AobIdeal.Points
public import proofs.«01_k».proof.Proof.Gen.AobIdeal.Frame
public import proofs.«01_k».proof.Proof.Gen.AobRefIdeal
public import proofs.«01_k».proof.Proof.Gen.AobRefIdeal.Run
public import proofs.«01_k».proof.Proof.Gen.AobRefIdeal.Read
public import proofs.«01_k».proof.Proof.Gen.PabIdeal.Value
public import proofs.«01_k».proof.Proof.Gen.Pab
public import proofs.«01_k».proof.Proof.Gen.Pab.Skeleton
public import proofs.«01_k».proof.Proof.Gen.Pab.Launch
public import proofs.«01_k».proof.Proof.Gen.Pab.Points
public import proofs.«01_k».proof.Proof.Gen.Pab.Frame
public import proofs.«01_k».proof.Proof.Gen.PabIdeal
public import proofs.«01_k».proof.Proof.Gen.PabIdeal.Skeleton
public import proofs.«01_k».proof.Proof.Gen.PabIdeal.Launch
public import proofs.«01_k».proof.Proof.Gen.PabIdeal.Points
public import proofs.«01_k».proof.Proof.Gen.PabIdeal.Frame
public import proofs.«01_k».proof.Proof.Gen.PabRefIdeal
public import proofs.«01_k».proof.Proof.Gen.PabRefIdeal.Run
public import proofs.«01_k».proof.Proof.Gen.PabRefIdeal.Read
public import proofs.«01_k».proof.Proof.ForgetRun
public import proofs.«01_k».proof.Proof.FoxBits
public import proofs.«01_k».proof.Proof.FoxRun
public import proofs.«01_k».proof.Proof.PleRun
public import proofs.«01_k».proof.Proof.MlpRun
public import proofs.«01_k».proof.Proof.AobRun
public import proofs.«01_k».proof.Proof.Gen.Swa
public import proofs.«01_k».proof.Proof.Gen.SwaIdeal
public import proofs.«01_k».proof.Proof.SwaBits
public import proofs.«01_k».proof.Proof.Gen.Fgc
public import proofs.«01_k».proof.Proof.Gen.Fgc.Frame
public import proofs.«01_k».proof.Proof.Gen.FgcIdeal
public import proofs.«01_k».proof.Proof.Gen.FgcIdeal.Frame
public import proofs.«01_k».proof.Proof.Gen.FgcRefIdeal
public import proofs.«01_k».proof.Proof.Gen.FgcRefIdeal.Run
public import proofs.«01_k».proof.Proof.Gen.FgcRefIdeal.Read
public import proofs.«01_k».proof.Proof.Gen.FgcIdeal.Value
public import proofs.«01_k».proof.Proof.Gen.Pat
public import proofs.«01_k».proof.Proof.Gen.Pat.Frame
public import proofs.«01_k».proof.Proof.Gen.PatIdeal
public import proofs.«01_k».proof.Proof.Gen.PatIdeal.Frame
public import proofs.«01_k».proof.Proof.Gen.PatRefIdeal
public import proofs.«01_k».proof.Proof.Gen.PatRefIdeal.Run
public import proofs.«01_k».proof.Proof.Gen.PatRefIdeal.Read
public import proofs.«01_k».proof.Proof.Gen.PatIdeal.Value
public import proofs.«01_k».proof.Proof.Gen.Mlf
public import proofs.«01_k».proof.Proof.Gen.Mlf.Frame
public import proofs.«01_k».proof.Proof.Gen.MlfIdeal
public import proofs.«01_k».proof.Proof.Gen.MlfIdeal.Frame
public import proofs.«01_k».proof.Proof.Gen.MlfRefIdeal
public import proofs.«01_k».proof.Proof.Gen.MlfRefIdeal.Run
public import proofs.«01_k».proof.Proof.Gen.MlfRefIdeal.Read
public import proofs.«01_k».proof.Proof.Gen.MlfIdeal.Value
public import proofs.«01_k».proof.Proof.Gen.Pra
public import proofs.«01_k».proof.Proof.Gen.Pra.Frame
public import proofs.«01_k».proof.Proof.Gen.PraIdeal
public import proofs.«01_k».proof.Proof.Gen.PraIdeal.Frame
public import proofs.«01_k».proof.Proof.Gen.PraRefIdeal
public import proofs.«01_k».proof.Proof.Gen.PraRefIdeal.Run
public import proofs.«01_k».proof.Proof.Gen.PraRefIdeal.Read
public import proofs.«01_k».proof.Proof.Gen.PraIdeal.Value
public import proofs.«01_k».proof.Proof.PabRun
public import proofs.«01_k».proof.Proof.FgcRun
public import proofs.«01_k».proof.Proof.PatRun
public import proofs.«01_k».proof.Proof.MlfRun
public import proofs.«01_k».proof.Proof.PraRun
public import Idealize.ShloMosaic.Adequacy
public import Idealize.ShloMosaic.Init

@[expose] public section

noncomputable section

namespace Cert.Proof

open Idealize.ShloMosaic Idealize.SL.Sem Cert.Forget

/-- The reference of the forget gate's gradients ends, its arguments as they were. -/
theorem forget_ref : Cert.quiescent_ForgetRefIdeal := fun m ρ _ =>
  (θ_run Cert.ForgetRefIdeal.defs _ _).mono (fun r h => ⟨fun c => (h c).2.2.2, sem_eq_zero_of_no_sems (by decide) r.2⟩) (Cert.ForgetRefIdeal.Value.run m ρ)

/-- The reference of the attention's gradients ends, its arguments as they were. -/
theorem fox_ref : Cert.quiescent_FoxRefIdeal := fun m ρ _ =>
  (θ_run Cert.FoxRefIdeal.defs _ _).mono (fun r h => ⟨fun c => (h c).2.2.2.2, sem_eq_zero_of_no_sems (by decide) r.2⟩) (Cert.FoxRefIdeal.Value.run m ρ)

/-- The reference of the loss's gradients ends, its arguments as they were. -/
theorem ple_ref : Cert.quiescent_PleRefIdeal := fun m ρ _ =>
  (θ_run Cert.PleRefIdeal.defs _ _).mono (fun r h => ⟨fun c => (h c).2.2.2.2.2, sem_eq_zero_of_no_sems (by decide) r.2⟩) (Cert.PleRefIdeal.Value.run m ρ)

/-- The reference of the feed-forward block's gradients ends, its arguments as they were. -/
theorem mlp_ref : Cert.quiescent_MlpRefIdeal := fun m ρ _ =>
  (θ_run Cert.MlpRefIdeal.defs _ _).mono (fun r h => ⟨fun c => (h c).2.2.2.2.2, sem_eq_zero_of_no_sems (by decide) r.2⟩) (Cert.MlpRefIdeal.Value.run m ρ)

/-- The reference of the attentions' output's gradients ends, its arguments as they were. -/
theorem aob_ref : Cert.quiescent_AobRefIdeal := fun m ρ _ =>
  (θ_run Cert.AobRefIdeal.defs _ _).mono (fun r h => ⟨fun c => (h c).2.2.2.2.2, sem_eq_zero_of_no_sems (by decide) r.2⟩) (Cert.AobRefIdeal.Value.run m ρ)

/-- The reference of the gradients of the norm before the attentions ends, its arguments as they were. -/
theorem pab_ref : Cert.quiescent_PabRefIdeal := fun m ρ _ =>
  (θ_run Cert.PabRefIdeal.defs _ _).mono (fun r h => ⟨fun c => (h c).2.2, sem_eq_zero_of_no_sems (by decide) r.2⟩) (Cert.PabRefIdeal.Value.run m ρ)

/-- The reference of the gates' running sums ends, its arguments as they were. -/
theorem fgc_ref : Cert.quiescent_FgcRefIdeal := fun m ρ _ =>
  (θ_run Cert.FgcRefIdeal.defs _ _).mono (fun r h => ⟨fun c => (h c).2, sem_eq_zero_of_no_sems (by decide) r.2⟩) (Cert.FgcRefIdeal.Value.run m ρ)

/-- The reference of the block after the attentions ends, its arguments as they were. -/
theorem pat_ref : Cert.quiescent_PatRefIdeal := fun m ρ _ =>
  (θ_run Cert.PatRefIdeal.defs _ _).mono (fun r h => ⟨fun c => (h c).2.2.2, sem_eq_zero_of_no_sems (by decide) r.2⟩) (Cert.PatRefIdeal.Value.run m ρ)

/-- The reference of the feed-forward block ends, its arguments as they were. -/
theorem mlf_ref : Cert.quiescent_MlfRefIdeal := fun m ρ _ =>
  (θ_run Cert.MlfRefIdeal.defs _ _).mono (fun r h => ⟨fun c => (h c).2.2.2, sem_eq_zero_of_no_sems (by decide) r.2⟩) (Cert.MlfRefIdeal.Value.run m ρ)

/-- The reference of the norm and the product before the attentions ends, its arguments as they were. -/
theorem pra_ref : Cert.quiescent_PraRefIdeal := fun m ρ _ =>
  (θ_run Cert.PraRefIdeal.defs _ _).mono (fun r h => ⟨fun c => (h c).2.2.2.2, sem_eq_zero_of_no_sems (by decide) r.2⟩) (Cert.PraRefIdeal.Value.run m ρ)

/-- All the claims: the backward calls of the forget gate, of the attention, of the loss, of the feed-forward block, of the attentions' output and
of the norm before the attentions; of the window attention's the frames; the forward calls of the gate, after the attentions, of the feed-forward
block and before the attentions. -/
theorem claim : Cert.Claim := ⟨Cert.Forget.Gen.facts, Cert.ForgetIdeal.Gen.facts, Cert.ForgetRefIdeal.Gen.facts,
  Cert.Fox.Gen.facts, Cert.FoxIdeal.Gen.facts, Cert.FoxRefIdeal.Gen.facts,
  Cert.Ple.Gen.facts, Cert.PleIdeal.Gen.facts, Cert.PleRefIdeal.Gen.facts,
  Cert.Mlp.Gen.facts, Cert.MlpIdeal.Gen.facts, Cert.MlpRefIdeal.Gen.facts,
  Cert.Aob.Gen.facts, Cert.AobIdeal.Gen.facts, Cert.AobRefIdeal.Gen.facts,
  Cert.Pab.Gen.facts, Cert.PabIdeal.Gen.facts, Cert.PabRefIdeal.Gen.facts,
  Cert.Swa.Gen.facts, Cert.SwaIdeal.Gen.facts,
  Cert.Fgc.Gen.facts, Cert.FgcIdeal.Gen.facts, Cert.FgcRefIdeal.Gen.facts,
  Cert.Pat.Gen.facts, Cert.PatIdeal.Gen.facts, Cert.PatRefIdeal.Gen.facts,
  Cert.Mlf.Gen.facts, Cert.MlfIdeal.Gen.facts, Cert.MlfRefIdeal.Gen.facts,
  Cert.Pra.Gen.facts, Cert.PraIdeal.Gen.facts, Cert.PraRefIdeal.Gen.facts,
  Cert.FoxIdeal.Hand.preFacts, Cert.PleIdeal.Hand.preFacts, Cert.MlpIdeal.Hand.preFacts, Cert.AobIdeal.Hand.preFacts, Cert.PabIdeal.Hand.preFacts,
  fun m ρ _ => Cert.Forget.Gen.frame m ρ, fun m ρ _ => Cert.ForgetIdeal.Gen.frame m ρ, forget_ref,
  Cert.FoxIdeal.Hand.frame_bits, fun m ρ _ => Cert.FoxIdeal.Hand.frame m ρ, fun m ρ _ => Cert.FoxIdeal.Hand.frame m ρ,
  fox_ref, fun m ρ _ => fox_ref m ρ trivial,
  fun m ρ _ => Cert.Ple.Gen.frame m ρ, fun m ρ _ => Cert.PleIdeal.Gen.frame m ρ, fun m ρ _ => Cert.PleIdeal.Gen.frame m ρ,
  ple_ref, fun m ρ _ => ple_ref m ρ trivial,
  fun m ρ _ => Cert.Mlp.Gen.frame m ρ, fun m ρ _ => Cert.MlpIdeal.Gen.frame m ρ, fun m ρ _ => Cert.MlpIdeal.Gen.frame m ρ,
  mlp_ref, fun m ρ _ => mlp_ref m ρ trivial,
  fun m ρ _ => Cert.Aob.Gen.frame m ρ, fun m ρ _ => Cert.AobIdeal.Gen.frame m ρ, fun m ρ _ => Cert.AobIdeal.Gen.frame m ρ,
  aob_ref, fun m ρ _ => aob_ref m ρ trivial,
  fun m ρ _ => Cert.Pab.Gen.frame m ρ, fun m ρ _ => Cert.PabIdeal.Gen.frame m ρ, fun m ρ _ => Cert.PabIdeal.Gen.frame m ρ,
  pab_ref, fun m ρ _ => pab_ref m ρ trivial,
  Cert.SwaIdeal.Hand.frame_bits, fun m ρ _ => Cert.SwaIdeal.Hand.frame m ρ,
  fun m ρ _ => Cert.Fgc.Gen.frame m ρ, fun m ρ _ => Cert.FgcIdeal.Gen.frame m ρ, fgc_ref,
  fun m ρ _ => Cert.Pat.Gen.frame m ρ, fun m ρ _ => Cert.PatIdeal.Gen.frame m ρ, pat_ref,
  fun m ρ _ => Cert.Mlf.Gen.frame m ρ, fun m ρ _ => Cert.MlfIdeal.Gen.frame m ρ, mlf_ref,
  fun m ρ _ => Cert.Pra.Gen.frame m ρ, fun m ρ _ => Cert.PraIdeal.Gen.frame m ρ, pra_ref,
  trivial, Cert.ForgetRun.algebraic, trivial, Cert.FoxIdeal.Hand.algebraic, trivial, Cert.PleIdeal.Hand.algebraic,
  trivial, Cert.MlpIdeal.Hand.algebraic, trivial, Cert.AobIdeal.Hand.algebraic,
  trivial, Cert.PabIdeal.Hand.algebraic, trivial,
  trivial, Cert.FgcRun.algebraic, trivial, Cert.PatIdeal.Hand.algebraic, trivial, Cert.MlfIdeal.Hand.algebraic,
  trivial, Cert.PraIdeal.Hand.algebraic⟩

end Cert.Proof

end
